-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_forward_finite [hPre_forward_finite : Cert.Pre_forward_finite.Facts] (m : (ℓ : Loc Cert.FwdIdeal.nD Cert.FwdIdeal.τ Cert.FwdIdeal.sig) → Buf (Elt Ideal) ℓ) : Prop :=
  ∀ c : Dev Cert.FwdIdeal.nD,
    (Cert.Pre_forward_finite.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4)) (m ((c.tc : Thread Cert.FwdIdeal.nD Cert.FwdIdeal.τ).loc Cert.FwdIdeal.main_arg5)) (m ((c.tc : Thread Cert.FwdIdeal.nD Cert.FwdIdeal.τ).loc Cert.FwdIdeal.main_arg6))) = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_forward_finite [hPre_forward_finite : Cert.Pre_forward_finite.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_forward_finite.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3)) (m ((c.tc : Thread Cert.FwdRefIdeal.nD Cert.FwdRefIdeal.τ).loc Cert.FwdRefIdeal.main_arg4)) (m ((c.tc : Thread Cert.FwdRefIdeal.nD Cert.FwdRefIdeal.τ).loc Cert.FwdRefIdeal.main_arg5)) (m ((c.tc : Thread Cert.FwdRefIdeal.nD Cert.FwdRefIdeal.τ).loc Cert.FwdRefIdeal.main_arg6))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Tab (m : (ℓ : Loc Cert.Tab.nD Cert.Tab.τ Cert.Tab.sig) → Buf (Elt Bits) ℓ) : Prop :=
  True

def Pre_TabIdeal (m : (ℓ : Loc Cert.TabIdeal.nD Cert.TabIdeal.τ Cert.TabIdeal.sig) → Buf (Elt Ideal) ℓ) : Prop :=
  True

def Pre_TabRefIdeal (m : (ℓ : Loc Cert.TabRefIdeal.nD Cert.TabRefIdeal.τ Cert.TabRefIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_Back (m : (ℓ : Loc Cert.Back.nD Cert.Back.τ Cert.Back.sig) → Buf (Elt Bits) ℓ) : Prop :=
  True

def Pre_BackIdeal (m : (ℓ : Loc Cert.BackIdeal.nD Cert.BackIdeal.τ Cert.BackIdeal.sig) → Buf (Elt Ideal) ℓ) : Prop :=
  True

def Pre_BackRefIdeal (m : (ℓ : Loc Cert.BackRefIdeal.nD Cert.BackRefIdeal.τ Cert.BackRefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_Att (m : (ℓ : Loc Cert.Att.nD Cert.Att.τ Cert.Att.sig) → Buf (Elt Bits) ℓ) : Prop :=
  True

def Pre_AttIdeal (m : (ℓ : Loc Cert.AttIdeal.nD Cert.AttIdeal.τ Cert.AttIdeal.sig) → Buf (Elt Ideal) ℓ) : Prop :=
  True

def Pre_AttRefIdeal (m : (ℓ : Loc Cert.AttRefIdeal.nD Cert.AttRefIdeal.τ Cert.AttRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4)
      ∧ r.2.mem ((c.tc : Thread Cert.Fwd.nD Cert.Fwd.τ).loc Cert.Fwd.main_arg5) = m ((c.tc : Thread Cert.Fwd.nD Cert.Fwd.τ).loc Cert.Fwd.main_arg5)
      ∧ r.2.mem ((c.tc : Thread Cert.Fwd.nD Cert.Fwd.τ).loc Cert.Fwd.main_arg6) = m ((c.tc : Thread Cert.Fwd.nD Cert.Fwd.τ).loc Cert.Fwd.main_arg6))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
      ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
      ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6))
      ∧ r.2.sem = fun _ => 0)

def quiescent_FwdIdeal_pre_forward_finite [hFwdIdeal : Cert.FwdIdeal.Facts] [hPre_forward_finite : Cert.Pre_forward_finite.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_forward_finite m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
      ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
      ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4)
      ∧ r.2.mem ((c.tc : Thread Cert.FwdRefIdeal.nD Cert.FwdRefIdeal.τ).loc Cert.FwdRefIdeal.main_arg5) = m ((c.tc : Thread Cert.FwdRefIdeal.nD Cert.FwdRefIdeal.τ).loc Cert.FwdRefIdeal.main_arg5)
      ∧ r.2.mem ((c.tc : Thread Cert.FwdRefIdeal.nD Cert.FwdRefIdeal.τ).loc Cert.FwdRefIdeal.main_arg6) = m ((c.tc : Thread Cert.FwdRefIdeal.nD Cert.FwdRefIdeal.τ).loc Cert.FwdRefIdeal.main_arg6))
      ∧ r.2.sem = fun _ => 0)

def quiescent_FwdRefIdeal_pre_forward_finite [hFwdRefIdeal : Cert.FwdRefIdeal.Facts] [hPre_forward_finite : Cert.Pre_forward_finite.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_forward_finite m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4)
      ∧ r.2.mem ((c.tc : Thread Cert.FwdRefIdeal.nD Cert.FwdRefIdeal.τ).loc Cert.FwdRefIdeal.main_arg5) = m ((c.tc : Thread Cert.FwdRefIdeal.nD Cert.FwdRefIdeal.τ).loc Cert.FwdRefIdeal.main_arg5)
      ∧ r.2.mem ((c.tc : Thread Cert.FwdRefIdeal.nD Cert.FwdRefIdeal.τ).loc Cert.FwdRefIdeal.main_arg6) = m ((c.tc : Thread Cert.FwdRefIdeal.nD Cert.FwdRefIdeal.τ).loc Cert.FwdRefIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Tab [hTab : Cert.Tab.Facts] : Prop :=
  ∀ (m : (ℓ : Loc Cert.Tab.nD Cert.Tab.τ Cert.Tab.sig) → Buf (Elt Bits) ℓ) (g : Dev Cert.Tab.nD → PrngReg), Pre_Tab m →
    θ_run (Cert.Tab.defs (F := Bits)) (onTc (τ := Cert.Tab.τ) (Cert.Tab.main (F := Bits))) ⟨m, fun _ => 0, g⟩ (fun r => (∀ c : Dev Cert.Tab.nD,
      r.2.mem ((c.tc : Thread Cert.Tab.nD Cert.Tab.τ).loc Cert.Tab.main_arg0) = m ((c.tc : Thread Cert.Tab.nD Cert.Tab.τ).loc Cert.Tab.main_arg0))
      ∧ r.2.sem = fun _ => 0)

def quiescent_TabIdeal [hTabIdeal : Cert.TabIdeal.Facts] : Prop :=
  ∀ (m : (ℓ : Loc Cert.TabIdeal.nD Cert.TabIdeal.τ Cert.TabIdeal.sig) → Buf (Elt Ideal) ℓ) (g : Dev Cert.TabIdeal.nD → PrngReg), Pre_TabIdeal m →
    θ_run (Cert.TabIdeal.defs (F := Ideal)) (onTc (τ := Cert.TabIdeal.τ) (Cert.TabIdeal.main (F := Ideal))) ⟨m, fun _ => 0, g⟩ (fun r => (∀ c : Dev Cert.TabIdeal.nD,
      r.2.mem ((c.tc : Thread Cert.TabIdeal.nD Cert.TabIdeal.τ).loc Cert.TabIdeal.main_arg0) = m ((c.tc : Thread Cert.TabIdeal.nD Cert.TabIdeal.τ).loc Cert.TabIdeal.main_arg0))
      ∧ r.2.sem = fun _ => 0)

def quiescent_TabRefIdeal [hTabRefIdeal : Cert.TabRefIdeal.Facts] : Prop :=
  ∀ (m : (ℓ : Loc Cert.TabRefIdeal.nD Cert.TabRefIdeal.τ Cert.TabRefIdeal.sig) → Buf (Elt Ideal) ℓ) (g : Dev Cert.TabRefIdeal.nD → PrngReg), Pre_TabRefIdeal m →
    θ_run (Cert.TabRefIdeal.defs (F := Ideal)) (onTc (τ := Cert.TabRefIdeal.τ) (Cert.TabRefIdeal.main (F := Ideal))) ⟨m, fun _ => 0, g⟩ (fun r => (∀ c : Dev Cert.TabRefIdeal.nD,
      r.2.mem ((c.tc : Thread Cert.TabRefIdeal.nD Cert.TabRefIdeal.τ).loc Cert.TabRefIdeal.main_arg0) = m ((c.tc : Thread Cert.TabRefIdeal.nD Cert.TabRefIdeal.τ).loc Cert.TabRefIdeal.main_arg0))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1))
      ∧ r.2.sem = fun _ => 0)

def quiescent_Back [hBack : Cert.Back.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1)
      ∧ r.2.mem ((c.tc : Thread Cert.Back.nD Cert.Back.τ).loc Cert.Back.main_arg2) = m ((c.tc : Thread Cert.Back.nD Cert.Back.τ).loc Cert.Back.main_arg2))
      ∧ r.2.sem = fun _ => 0)

def quiescent_BackIdeal [hBackIdeal : Cert.BackIdeal.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
      ∧ r.2.mem ((c.tc : Thread Cert.BackIdeal.nD Cert.BackIdeal.τ).loc Cert.BackIdeal.main_arg2) = m ((c.tc : Thread Cert.BackIdeal.nD Cert.BackIdeal.τ).loc Cert.BackIdeal.main_arg2))
      ∧ r.2.sem = fun _ => 0)

def quiescent_BackRefIdeal [hBackRefIdeal : Cert.BackRefIdeal.Facts] : Prop :=
  ∀ (m : (ℓ : Loc Cert.BackRefIdeal.nD Cert.BackRefIdeal.τ Cert.BackRefIdeal.sig) → Buf (Elt Ideal) ℓ) (g : Dev Cert.BackRefIdeal.nD → PrngReg), Pre_BackRefIdeal m →
    θ_run (Cert.BackRefIdeal.defs (F := Ideal)) (onTc (τ := Cert.BackRefIdeal.τ) (Cert.BackRefIdeal.main (F := Ideal))) ⟨m, fun _ => 0, g⟩ (fun r => (∀ c : Dev Cert.BackRefIdeal.nD,
      r.2.mem ((c.tc : Thread Cert.BackRefIdeal.nD Cert.BackRefIdeal.τ).loc Cert.BackRefIdeal.main_arg0) = m ((c.tc : Thread Cert.BackRefIdeal.nD Cert.BackRefIdeal.τ).loc Cert.BackRefIdeal.main_arg0)
      ∧ r.2.mem ((c.tc : Thread Cert.BackRefIdeal.nD Cert.BackRefIdeal.τ).loc Cert.BackRefIdeal.main_arg1) = m ((c.tc : Thread Cert.BackRefIdeal.nD Cert.BackRefIdeal.τ).loc Cert.BackRefIdeal.main_arg1)
      ∧ r.2.mem ((c.tc : Thread Cert.BackRefIdeal.nD Cert.BackRefIdeal.τ).loc Cert.BackRefIdeal.main_arg2) = m ((c.tc : Thread Cert.BackRefIdeal.nD Cert.BackRefIdeal.τ).loc Cert.BackRefIdeal.main_arg2))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4)
      ∧ r.2.mem ((c.tc : Thread Cert.Dx.nD Cert.Dx.τ).loc Cert.Dx.main_arg5) = m ((c.tc : Thread Cert.Dx.nD Cert.Dx.τ).loc Cert.Dx.main_arg5))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4)
      ∧ r.2.mem ((c.tc : Thread Cert.DxRefIdeal.nD Cert.DxRefIdeal.τ).loc Cert.DxRefIdeal.main_arg5) = m ((c.tc : Thread Cert.DxRefIdeal.nD Cert.DxRefIdeal.τ).loc Cert.DxRefIdeal.main_arg5))
      ∧ r.2.sem = fun _ => 0)

def quiescent_Att [hAtt : Cert.Att.Facts] : Prop :=
  ∀ (m : (ℓ : Loc Cert.Att.nD Cert.Att.τ Cert.Att.sig) → Buf (Elt Bits) ℓ) (g : Dev Cert.Att.nD → PrngReg), Pre_Att m →
    θ_run (Cert.Att.defs (F := Bits)) (onTc (τ := Cert.Att.τ) (Cert.Att.main (F := Bits))) ⟨m, fun _ => 0, g⟩ (fun r => (∀ c : Dev Cert.Att.nD,
      r.2.mem ((c.tc : Thread Cert.Att.nD Cert.Att.τ).loc Cert.Att.main_arg0) = m ((c.tc : Thread Cert.Att.nD Cert.Att.τ).loc Cert.Att.main_arg0)
      ∧ r.2.mem ((c.tc : Thread Cert.Att.nD Cert.Att.τ).loc Cert.Att.main_arg1) = m ((c.tc : Thread Cert.Att.nD Cert.Att.τ).loc Cert.Att.main_arg1)
      ∧ r.2.mem ((c.tc : Thread Cert.Att.nD Cert.Att.τ).loc Cert.Att.main_arg2) = m ((c.tc : Thread Cert.Att.nD Cert.Att.τ).loc Cert.Att.main_arg2)
      ∧ r.2.mem ((c.tc : Thread Cert.Att.nD Cert.Att.τ).loc Cert.Att.main_arg3) = m ((c.tc : Thread Cert.Att.nD Cert.Att.τ).loc Cert.Att.main_arg3)
      ∧ r.2.mem ((c.tc : Thread Cert.Att.nD Cert.Att.τ).loc Cert.Att.main_arg4) = m ((c.tc : Thread Cert.Att.nD Cert.Att.τ).loc Cert.Att.main_arg4)
      ∧ r.2.mem ((c.tc : Thread Cert.Att.nD Cert.Att.τ).loc Cert.Att.main_arg5) = m ((c.tc : Thread Cert.Att.nD Cert.Att.τ).loc Cert.Att.main_arg5)
      ∧ r.2.mem ((c.tc : Thread Cert.Att.nD Cert.Att.τ).loc Cert.Att.main_arg6) = m ((c.tc : Thread Cert.Att.nD Cert.Att.τ).loc Cert.Att.main_arg6)
      ∧ r.2.mem ((c.tc : Thread Cert.Att.nD Cert.Att.τ).loc Cert.Att.main_arg7) = m ((c.tc : Thread Cert.Att.nD Cert.Att.τ).loc Cert.Att.main_arg7))
      ∧ r.2.sem = fun _ => 0)

def quiescent_AttIdeal [hAttIdeal : Cert.AttIdeal.Facts] : Prop :=
  ∀ (m : (ℓ : Loc Cert.AttIdeal.nD Cert.AttIdeal.τ Cert.AttIdeal.sig) → Buf (Elt Ideal) ℓ) (g : Dev Cert.AttIdeal.nD → PrngReg), Pre_AttIdeal m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2)
      ∧ r.2.mem ((c.tc : Thread Cert.AttIdeal.nD Cert.AttIdeal.τ).loc Cert.AttIdeal.main_arg3) = m ((c.tc : Thread Cert.AttIdeal.nD Cert.AttIdeal.τ).loc Cert.AttIdeal.main_arg3)
      ∧ r.2.mem ((c.tc : Thread Cert.AttIdeal.nD Cert.AttIdeal.τ).loc Cert.AttIdeal.main_arg4) = m ((c.tc : Thread Cert.AttIdeal.nD Cert.AttIdeal.τ).loc Cert.AttIdeal.main_arg4)
      ∧ r.2.mem ((c.tc : Thread Cert.AttIdeal.nD Cert.AttIdeal.τ).loc Cert.AttIdeal.main_arg5) = m ((c.tc : Thread Cert.AttIdeal.nD Cert.AttIdeal.τ).loc Cert.AttIdeal.main_arg5)
      ∧ r.2.mem ((c.tc : Thread Cert.AttIdeal.nD Cert.AttIdeal.τ).loc Cert.AttIdeal.main_arg6) = m ((c.tc : Thread Cert.AttIdeal.nD Cert.AttIdeal.τ).loc Cert.AttIdeal.main_arg6)
      ∧ r.2.mem ((c.tc : Thread Cert.AttIdeal.nD Cert.AttIdeal.τ).loc Cert.AttIdeal.main_arg7) = m ((c.tc : Thread Cert.AttIdeal.nD Cert.AttIdeal.τ).loc Cert.AttIdeal.main_arg7))
      ∧ r.2.sem = fun _ => 0)

def quiescent_AttRefIdeal [hAttRefIdeal : Cert.AttRefIdeal.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2)
      ∧ r.2.mem ((c.tc : Thread Cert.AttRefIdeal.nD Cert.AttRefIdeal.τ).loc Cert.AttRefIdeal.main_arg3) = m ((c.tc : Thread Cert.AttRefIdeal.nD Cert.AttRefIdeal.τ).loc Cert.AttRefIdeal.main_arg3)
      ∧ r.2.mem ((c.tc : Thread Cert.AttRefIdeal.nD Cert.AttRefIdeal.τ).loc Cert.AttRefIdeal.main_arg4) = m ((c.tc : Thread Cert.AttRefIdeal.nD Cert.AttRefIdeal.τ).loc Cert.AttRefIdeal.main_arg4)
      ∧ r.2.mem ((c.tc : Thread Cert.AttRefIdeal.nD Cert.AttRefIdeal.τ).loc Cert.AttRefIdeal.main_arg5) = m ((c.tc : Thread Cert.AttRefIdeal.nD Cert.AttRefIdeal.τ).loc Cert.AttRefIdeal.main_arg5)
      ∧ r.2.mem ((c.tc : Thread Cert.AttRefIdeal.nD Cert.AttRefIdeal.τ).loc Cert.AttRefIdeal.main_arg6) = m ((c.tc : Thread Cert.AttRefIdeal.nD Cert.AttRefIdeal.τ).loc Cert.AttRefIdeal.main_arg6)
      ∧ r.2.mem ((c.tc : Thread Cert.AttRefIdeal.nD Cert.AttRefIdeal.τ).loc Cert.AttRefIdeal.main_arg7) = m ((c.tc : Thread Cert.AttRefIdeal.nD Cert.AttRefIdeal.τ).loc Cert.AttRefIdeal.main_arg7))
      ∧ r.2.sem = fun _ => 0)

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v36_0)) (v1 : (c : Dev Cert.FfnIdeal.nD) → Buf (Elt Ideal) ((c.tc : Thread Cert.FfnIdeal.nD Cert.FfnIdeal.τ).loc Cert.FfnIdeal.main_v36_1)) (v2 : (c : Dev Cert.FfnIdeal.nD) → Buf (Elt Ideal) ((c.tc : Thread Cert.FfnIdeal.nD Cert.FfnIdeal.τ).loc Cert.FfnIdeal.main_v36_2)) (v3 : (c : Dev Cert.FfnIdeal.nD) → Buf (Elt Ideal) ((c.tc : Thread Cert.FfnIdeal.nD Cert.FfnIdeal.τ).loc Cert.FfnIdeal.main_v36_3)) (v4 : (c : Dev Cert.FfnIdeal.nD) → Buf (Elt Ideal) ((c.tc : Thread Cert.FfnIdeal.nD Cert.FfnIdeal.τ).loc Cert.FfnIdeal.main_v36_4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v36_0) = v0 c
          ∧ r.2.mem ((c.tc : Thread Cert.FfnIdeal.nD Cert.FfnIdeal.τ).loc Cert.FfnIdeal.main_v36_1) = v1 c
          ∧ r.2.mem ((c.tc : Thread Cert.FfnIdeal.nD Cert.FfnIdeal.τ).loc Cert.FfnIdeal.main_v36_2) = v2 c
          ∧ r.2.mem ((c.tc : Thread Cert.FfnIdeal.nD Cert.FfnIdeal.τ).loc Cert.FfnIdeal.main_v36_3) = v3 c
          ∧ r.2.mem ((c.tc : Thread Cert.FfnIdeal.nD Cert.FfnIdeal.τ).loc Cert.FfnIdeal.main_v36_4) = v4 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v177) = v0 c
          ∧ r.2.mem ((c.tc : Thread Cert.FfnRefIdeal.nD Cert.FfnRefIdeal.τ).loc Cert.FfnRefIdeal.main_v179) = v1 c
          ∧ r.2.mem ((c.tc : Thread Cert.FfnRefIdeal.nD Cert.FfnRefIdeal.τ).loc Cert.FfnRefIdeal.main_v181) = v2 c
          ∧ r.2.mem ((c.tc : Thread Cert.FfnRefIdeal.nD Cert.FfnRefIdeal.τ).loc Cert.FfnRefIdeal.main_v182) = v3 c
          ∧ r.2.mem ((c.tc : Thread Cert.FfnRefIdeal.nD Cert.FfnRefIdeal.τ).loc Cert.FfnRefIdeal.main_v175) = v4 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)) →
    ∃ (v0 : (c : Dev Cert.MixIdeal.nD) → Buf (Elt Ideal) ((c.tc : Thread Cert.MixIdeal.nD Cert.MixIdeal.τ).loc Cert.MixIdeal.main_v187_3)) (v1 : (c : Dev Cert.MixIdeal.nD) → Buf (Elt Ideal) ((c.tc : Thread Cert.MixIdeal.nD Cert.MixIdeal.τ).loc Cert.MixIdeal.main_v187_4)) (v2 : (c : Dev Cert.MixIdeal.nD) → Buf (Elt Ideal) ((c.tc : Thread Cert.MixIdeal.nD Cert.MixIdeal.τ).loc Cert.MixIdeal.main_v187_5)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v187_3) = v0 c
          ∧ r.2.mem ((c.tc : Thread Cert.MixIdeal.nD Cert.MixIdeal.τ).loc Cert.MixIdeal.main_v187_4) = v1 c
          ∧ r.2.mem ((c.tc : Thread Cert.MixIdeal.nD Cert.MixIdeal.τ).loc Cert.MixIdeal.main_v187_5) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v97) = v0 c
          ∧ r.2.mem ((c.tc : Thread Cert.MixRefIdeal.nD Cert.MixRefIdeal.τ).loc Cert.MixRefIdeal.main_v98) = v1 c
          ∧ r.2.mem ((c.tc : Thread Cert.MixRefIdeal.nD Cert.MixRefIdeal.τ).loc Cert.MixRefIdeal.main_v100) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7))

def preserves_Fwd_FwdIdeal : Prop :=
  True

def algebraic_FwdIdeal_FwdRefIdeal_pre_forward_finite [hFwdIdeal : Cert.FwdIdeal.Facts] [hFwdRefIdeal : Cert.FwdRefIdeal.Facts] [hPre_forward_finite : Cert.Pre_forward_finite.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_forward_finite m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)
      ∧ m' ((c.tc : Thread Cert.FwdRefIdeal.nD Cert.FwdRefIdeal.τ).loc Cert.FwdRefIdeal.main_arg4) = m ((c.tc : Thread Cert.FwdIdeal.nD Cert.FwdIdeal.τ).loc Cert.FwdIdeal.main_arg4)
      ∧ m' ((c.tc : Thread Cert.FwdRefIdeal.nD Cert.FwdRefIdeal.τ).loc Cert.FwdRefIdeal.main_arg5) = m ((c.tc : Thread Cert.FwdIdeal.nD Cert.FwdIdeal.τ).loc Cert.FwdIdeal.main_arg5)
      ∧ m' ((c.tc : Thread Cert.FwdRefIdeal.nD Cert.FwdRefIdeal.τ).loc Cert.FwdRefIdeal.main_arg6) = m ((c.tc : Thread Cert.FwdIdeal.nD Cert.FwdIdeal.τ).loc Cert.FwdIdeal.main_arg6)) →
    ∃ (v0 : (c : Dev Cert.FwdIdeal.nD) → Buf (Elt Ideal) ((c.tc : Thread Cert.FwdIdeal.nD Cert.FwdIdeal.τ).loc Cert.FwdIdeal.main_v52_0)) (v1 : (c : Dev Cert.FwdIdeal.nD) → Buf (Elt Ideal) ((c.tc : Thread Cert.FwdIdeal.nD Cert.FwdIdeal.τ).loc Cert.FwdIdeal.main_v52_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v52_0) = v0 c
          ∧ r.2.mem ((c.tc : Thread Cert.FwdIdeal.nD Cert.FwdIdeal.τ).loc Cert.FwdIdeal.main_v52_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
          ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
          ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v227) = v0 c
          ∧ r.2.mem ((c.tc : Thread Cert.FwdRefIdeal.nD Cert.FwdRefIdeal.τ).loc Cert.FwdRefIdeal.main_v223) = v1 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3)
          ∧ r.2.mem ((c.tc : Thread Cert.FwdRefIdeal.nD Cert.FwdRefIdeal.τ).loc Cert.FwdRefIdeal.main_arg4) = m' ((c.tc : Thread Cert.FwdRefIdeal.nD Cert.FwdRefIdeal.τ).loc Cert.FwdRefIdeal.main_arg4)
          ∧ r.2.mem ((c.tc : Thread Cert.FwdRefIdeal.nD Cert.FwdRefIdeal.τ).loc Cert.FwdRefIdeal.main_arg5) = m' ((c.tc : Thread Cert.FwdRefIdeal.nD Cert.FwdRefIdeal.τ).loc Cert.FwdRefIdeal.main_arg5)
          ∧ r.2.mem ((c.tc : Thread Cert.FwdRefIdeal.nD Cert.FwdRefIdeal.τ).loc Cert.FwdRefIdeal.main_arg6) = m' ((c.tc : Thread Cert.FwdRefIdeal.nD Cert.FwdRefIdeal.τ).loc Cert.FwdRefIdeal.main_arg6))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v6_0)) (v1 : (c : Dev Cert.OutIdeal.nD) → Buf (Elt Ideal) ((c.tc : Thread Cert.OutIdeal.nD Cert.OutIdeal.τ).loc Cert.OutIdeal.main_v6_1)) (v2 : (c : Dev Cert.OutIdeal.nD) → Buf (Elt Ideal) ((c.tc : Thread Cert.OutIdeal.nD Cert.OutIdeal.τ).loc Cert.OutIdeal.main_v6_2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v6_0) = v0 c
          ∧ r.2.mem ((c.tc : Thread Cert.OutIdeal.nD Cert.OutIdeal.τ).loc Cert.OutIdeal.main_v6_1) = v1 c
          ∧ r.2.mem ((c.tc : Thread Cert.OutIdeal.nD Cert.OutIdeal.τ).loc Cert.OutIdeal.main_v6_2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v23) = v0 c
          ∧ r.2.mem ((c.tc : Thread Cert.OutRefIdeal.nD Cert.OutRefIdeal.τ).loc Cert.OutRefIdeal.main_v24) = v1 c
          ∧ r.2.mem ((c.tc : Thread Cert.OutRefIdeal.nD Cert.OutRefIdeal.τ).loc Cert.OutRefIdeal.main_v52) = v2 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Tab_TabIdeal : Prop :=
  True

def algebraic_TabIdeal_TabRefIdeal [hTabIdeal : Cert.TabIdeal.Facts] [hTabRefIdeal : Cert.TabRefIdeal.Facts] : Prop :=
  ∀ (m : (ℓ : Loc Cert.TabIdeal.nD Cert.TabIdeal.τ Cert.TabIdeal.sig) → Buf (Elt Ideal) ℓ) (g : Dev Cert.TabIdeal.nD → PrngReg)
    (m' : (ℓ : Loc Cert.TabRefIdeal.nD Cert.TabRefIdeal.τ Cert.TabRefIdeal.sig) → Buf (Elt Ideal) ℓ) (g' : Dev Cert.TabRefIdeal.nD → PrngReg), Pre_TabIdeal m →
    (∀ c : Dev Cert.TabIdeal.nD,
      m' ((c.tc : Thread Cert.TabRefIdeal.nD Cert.TabRefIdeal.τ).loc Cert.TabRefIdeal.main_arg0) = m ((c.tc : Thread Cert.TabIdeal.nD Cert.TabIdeal.τ).loc Cert.TabIdeal.main_arg0)) →
    ∃ (v0 : (c : Dev Cert.TabIdeal.nD) → Buf (Elt Ideal) ((c.tc : Thread Cert.TabIdeal.nD Cert.TabIdeal.τ).loc Cert.TabIdeal.main_v14_0)) (v1 : (c : Dev Cert.TabIdeal.nD) → Buf (Elt Ideal) ((c.tc : Thread Cert.TabIdeal.nD Cert.TabIdeal.τ).loc Cert.TabIdeal.main_v14_1)),
      θ_run (Cert.TabIdeal.defs (F := Ideal)) (onTc (τ := Cert.TabIdeal.τ) (Cert.TabIdeal.main (F := Ideal))) ⟨m, fun _ => 0, g⟩ (fun r => ∀ c : Dev Cert.TabIdeal.nD,
          r.2.mem ((c.tc : Thread Cert.TabIdeal.nD Cert.TabIdeal.τ).loc Cert.TabIdeal.main_v14_0) = v0 c
          ∧ r.2.mem ((c.tc : Thread Cert.TabIdeal.nD Cert.TabIdeal.τ).loc Cert.TabIdeal.main_v14_1) = v1 c
          ∧ r.2.mem ((c.tc : Thread Cert.TabIdeal.nD Cert.TabIdeal.τ).loc Cert.TabIdeal.main_arg0) = m ((c.tc : Thread Cert.TabIdeal.nD Cert.TabIdeal.τ).loc Cert.TabIdeal.main_arg0))
      ∧ θ_run (Cert.TabRefIdeal.defs (F := Ideal)) (onTc (τ := Cert.TabRefIdeal.τ) (Cert.TabRefIdeal.main (F := Ideal))) ⟨m', fun _ => 0, g'⟩ (fun r => ∀ c : Dev Cert.TabRefIdeal.nD,
          r.2.mem ((c.tc : Thread Cert.TabRefIdeal.nD Cert.TabRefIdeal.τ).loc Cert.TabRefIdeal.main_v20) = v0 c
          ∧ r.2.mem ((c.tc : Thread Cert.TabRefIdeal.nD Cert.TabRefIdeal.τ).loc Cert.TabRefIdeal.main_v24) = v1 c
          ∧ r.2.mem ((c.tc : Thread Cert.TabRefIdeal.nD Cert.TabRefIdeal.τ).loc Cert.TabRefIdeal.main_arg0) = m' ((c.tc : Thread Cert.TabRefIdeal.nD Cert.TabRefIdeal.τ).loc Cert.TabRefIdeal.main_arg0))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)) →
    ∃ (v0 : (c : Dev Cert.InpIdeal.nD) → Buf (Elt Ideal) ((c.tc : Thread Cert.InpIdeal.nD Cert.InpIdeal.τ).loc Cert.InpIdeal.main_v4_0)) (v1 : (c : Dev Cert.InpIdeal.nD) → Buf (Elt Ideal) ((c.tc : Thread Cert.InpIdeal.nD Cert.InpIdeal.τ).loc Cert.InpIdeal.main_v4_1)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v4_0) = v0 c
          ∧ r.2.mem ((c.tc : Thread Cert.InpIdeal.nD Cert.InpIdeal.τ).loc Cert.InpIdeal.main_v4_1) = v1 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v3) = v0 c
          ∧ r.2.mem ((c.tc : Thread Cert.InpRefIdeal.nD Cert.InpRefIdeal.τ).loc Cert.InpRefIdeal.main_v5) = v1 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1))

def preserves_Back_BackIdeal : Prop :=
  True

def algebraic_BackIdeal_BackRefIdeal [hBackIdeal : Cert.BackIdeal.Facts] [hBackRefIdeal : Cert.BackRefIdeal.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.BackRefIdeal.nD Cert.BackRefIdeal.τ Cert.BackRefIdeal.sig) → Buf (Elt Ideal) ℓ) (g' : Dev Cert.BackRefIdeal.nD → PrngReg), Pre_BackIdeal m →
    (∀ c : Dev Cert.BackIdeal.nD,
      m' ((c.tc : Thread Cert.BackRefIdeal.nD Cert.BackRefIdeal.τ).loc Cert.BackRefIdeal.main_arg0) = m ((c.tc : Thread Cert.BackIdeal.nD Cert.BackIdeal.τ).loc Cert.BackIdeal.main_arg0)
      ∧ m' ((c.tc : Thread Cert.BackRefIdeal.nD Cert.BackRefIdeal.τ).loc Cert.BackRefIdeal.main_arg1) = m ((c.tc : Thread Cert.BackIdeal.nD Cert.BackIdeal.τ).loc Cert.BackIdeal.main_arg1)
      ∧ m' ((c.tc : Thread Cert.BackRefIdeal.nD Cert.BackRefIdeal.τ).loc Cert.BackRefIdeal.main_arg2) = m ((c.tc : Thread Cert.BackIdeal.nD Cert.BackIdeal.τ).loc Cert.BackIdeal.main_arg2)) →
    ∃ (v0 : (c : Dev Cert.BackIdeal.nD) → Buf (Elt Ideal) ((c.tc : Thread Cert.BackIdeal.nD Cert.BackIdeal.τ).loc Cert.BackIdeal.main_v6_0)) (v1 : (c : Dev Cert.BackIdeal.nD) → Buf (Elt Ideal) ((c.tc : Thread Cert.BackIdeal.nD Cert.BackIdeal.τ).loc Cert.BackIdeal.main_v6_1)),
      θ_run (Cert.BackIdeal.defs (F := Ideal)) (onTc (τ := Cert.BackIdeal.τ) (Cert.BackIdeal.main (F := Ideal))) ⟨m, fun _ => 0, g⟩ (fun r => ∀ c : Dev Cert.BackIdeal.nD,
          r.2.mem ((c.tc : Thread Cert.BackIdeal.nD Cert.BackIdeal.τ).loc Cert.BackIdeal.main_v6_0) = v0 c
          ∧ r.2.mem ((c.tc : Thread Cert.BackIdeal.nD Cert.BackIdeal.τ).loc Cert.BackIdeal.main_v6_1) = v1 c
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0)
          ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
          ∧ r.2.mem ((c.tc : Thread Cert.BackIdeal.nD Cert.BackIdeal.τ).loc Cert.BackIdeal.main_arg2) = m ((c.tc : Thread Cert.BackIdeal.nD Cert.BackIdeal.τ).loc Cert.BackIdeal.main_arg2))
      ∧ θ_run (Cert.BackRefIdeal.defs (F := Ideal)) (onTc (τ := Cert.BackRefIdeal.τ) (Cert.BackRefIdeal.main (F := Ideal))) ⟨m', fun _ => 0, g'⟩ (fun r => ∀ c : Dev Cert.BackRefIdeal.nD,
          r.2.mem ((c.tc : Thread Cert.BackRefIdeal.nD Cert.BackRefIdeal.τ).loc Cert.BackRefIdeal.main_v7) = v0 c
          ∧ r.2.mem ((c.tc : Thread Cert.BackRefIdeal.nD Cert.BackRefIdeal.τ).loc Cert.BackRefIdeal.main_v8) = v1 c
          ∧ r.2.mem ((c.tc : Thread Cert.BackRefIdeal.nD Cert.BackRefIdeal.τ).loc Cert.BackRefIdeal.main_arg0) = m' ((c.tc : Thread Cert.BackRefIdeal.nD Cert.BackRefIdeal.τ).loc Cert.BackRefIdeal.main_arg0)
          ∧ r.2.mem ((c.tc : Thread Cert.BackRefIdeal.nD Cert.BackRefIdeal.τ).loc Cert.BackRefIdeal.main_arg1) = m' ((c.tc : Thread Cert.BackRefIdeal.nD Cert.BackRefIdeal.τ).loc Cert.BackRefIdeal.main_arg1)
          ∧ r.2.mem ((c.tc : Thread Cert.BackRefIdeal.nD Cert.BackRefIdeal.τ).loc Cert.BackRefIdeal.main_arg2) = m' ((c.tc : Thread Cert.BackRefIdeal.nD Cert.BackRefIdeal.τ).loc Cert.BackRefIdeal.main_arg2))

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)
      ∧ m' ((c.tc : Thread Cert.DxRefIdeal.nD Cert.DxRefIdeal.τ).loc Cert.DxRefIdeal.main_arg4) = m ((c.tc : Thread Cert.DxIdeal.nD Cert.DxIdeal.τ).loc Cert.DxIdeal.main_arg4)
      ∧ m' ((c.tc : Thread Cert.DxRefIdeal.nD Cert.DxRefIdeal.τ).loc Cert.DxRefIdeal.main_arg5) = m ((c.tc : Thread Cert.DxIdeal.nD Cert.DxIdeal.τ).loc Cert.DxIdeal.main_arg5)) →
    ∃ (v0 : (c : Dev Cert.DxIdeal.nD) → Buf (Elt Ideal) ((c.tc : Thread Cert.DxIdeal.nD Cert.DxIdeal.τ).loc Cert.DxIdeal.main_v12)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v12) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
          ∧ r.2.mem ((c.tc : Thread Cert.DxIdeal.nD Cert.DxIdeal.τ).loc Cert.DxIdeal.main_arg5) = m ((c.tc : Thread Cert.DxIdeal.nD Cert.DxIdeal.τ).loc Cert.DxIdeal.main_arg5))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v19) = v0 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
          ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4)
          ∧ r.2.mem ((c.tc : Thread Cert.DxRefIdeal.nD Cert.DxRefIdeal.τ).loc Cert.DxRefIdeal.main_arg5) = m' ((c.tc : Thread Cert.DxRefIdeal.nD Cert.DxRefIdeal.τ).loc Cert.DxRefIdeal.main_arg5))

def preserves_Att_AttIdeal : Prop :=
  True

def Claim : Prop :=
  ∃ (hFfn : Cert.Ffn.Facts) (hFfnIdeal : Cert.FfnIdeal.Facts) (hFfnRefIdeal : Cert.FfnRefIdeal.Facts) (hMix : Cert.Mix.Facts) (hMixIdeal : Cert.MixIdeal.Facts) (hMixRefIdeal : Cert.MixRefIdeal.Facts) (hFwd : Cert.Fwd.Facts) (hFwdIdeal : Cert.FwdIdeal.Facts) (hFwdRefIdeal : Cert.FwdRefIdeal.Facts) (hOut : Cert.Out.Facts) (hOutIdeal : Cert.OutIdeal.Facts) (hOutRefIdeal : Cert.OutRefIdeal.Facts) (hTab : Cert.Tab.Facts) (hTabIdeal : Cert.TabIdeal.Facts) (hTabRefIdeal : Cert.TabRefIdeal.Facts) (hInp : Cert.Inp.Facts) (hInpIdeal : Cert.InpIdeal.Facts) (hInpRefIdeal : Cert.InpRefIdeal.Facts) (hBack : Cert.Back.Facts) (hBackIdeal : Cert.BackIdeal.Facts) (hBackRefIdeal : Cert.BackRefIdeal.Facts) (hDx : Cert.Dx.Facts) (hDxIdeal : Cert.DxIdeal.Facts) (hDxRefIdeal : Cert.DxRefIdeal.Facts) (hAtt : Cert.Att.Facts) (hAttIdeal : Cert.AttIdeal.Facts) (hAttRefIdeal : Cert.AttRefIdeal.Facts) (hPre_ffn_finite : Cert.Pre_ffn_finite.Facts) (hPre_forward_finite : Cert.Pre_forward_finite.Facts),
    quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Mix (hMix := hMix)
    ∧ quiescent_MixIdeal (hMixIdeal := hMixIdeal)
    ∧ quiescent_MixRefIdeal (hMixRefIdeal := hMixRefIdeal)
    ∧ quiescent_Fwd (hFwd := hFwd)
    ∧ quiescent_FwdIdeal (hFwdIdeal := hFwdIdeal)
    ∧ quiescent_FwdIdeal_pre_forward_finite (hFwdIdeal := hFwdIdeal) (hPre_forward_finite := hPre_forward_finite)
    ∧ quiescent_FwdRefIdeal (hFwdRefIdeal := hFwdRefIdeal)
    ∧ quiescent_FwdRefIdeal_pre_forward_finite (hFwdRefIdeal := hFwdRefIdeal) (hPre_forward_finite := hPre_forward_finite)
    ∧ quiescent_Out (hOut := hOut)
    ∧ quiescent_OutIdeal (hOutIdeal := hOutIdeal)
    ∧ quiescent_OutRefIdeal (hOutRefIdeal := hOutRefIdeal)
    ∧ quiescent_Tab (hTab := hTab)
    ∧ quiescent_TabIdeal (hTabIdeal := hTabIdeal)
    ∧ quiescent_TabRefIdeal (hTabRefIdeal := hTabRefIdeal)
    ∧ quiescent_Inp (hInp := hInp)
    ∧ quiescent_InpIdeal (hInpIdeal := hInpIdeal)
    ∧ quiescent_InpRefIdeal (hInpRefIdeal := hInpRefIdeal)
    ∧ quiescent_Back (hBack := hBack)
    ∧ quiescent_BackIdeal (hBackIdeal := hBackIdeal)
    ∧ quiescent_BackRefIdeal (hBackRefIdeal := hBackRefIdeal)
    ∧ quiescent_Dx (hDx := hDx)
    ∧ quiescent_DxIdeal (hDxIdeal := hDxIdeal)
    ∧ quiescent_DxRefIdeal (hDxRefIdeal := hDxRefIdeal)
    ∧ quiescent_Att (hAtt := hAtt)
    ∧ quiescent_AttIdeal (hAttIdeal := hAttIdeal)
    ∧ quiescent_AttRefIdeal (hAttRefIdeal := hAttRefIdeal)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Mix_MixIdeal
    ∧ algebraic_MixIdeal_MixRefIdeal (hMixIdeal := hMixIdeal) (hMixRefIdeal := hMixRefIdeal)
    ∧ preserves_Fwd_FwdIdeal
    ∧ algebraic_FwdIdeal_FwdRefIdeal_pre_forward_finite (hFwdIdeal := hFwdIdeal) (hFwdRefIdeal := hFwdRefIdeal) (hPre_forward_finite := hPre_forward_finite)
    ∧ preserves_Out_OutIdeal
    ∧ algebraic_OutIdeal_OutRefIdeal (hOutIdeal := hOutIdeal) (hOutRefIdeal := hOutRefIdeal)
    ∧ preserves_Tab_TabIdeal
    ∧ algebraic_TabIdeal_TabRefIdeal (hTabIdeal := hTabIdeal) (hTabRefIdeal := hTabRefIdeal)
    ∧ preserves_Inp_InpIdeal
    ∧ algebraic_InpIdeal_InpRefIdeal (hInpIdeal := hInpIdeal) (hInpRefIdeal := hInpRefIdeal)
    ∧ preserves_Back_BackIdeal
    ∧ algebraic_BackIdeal_BackRefIdeal (hBackIdeal := hBackIdeal) (hBackRefIdeal := hBackRefIdeal)
    ∧ preserves_Dx_DxIdeal
    ∧ algebraic_DxIdeal_DxRefIdeal (hDxIdeal := hDxIdeal) (hDxRefIdeal := hDxRefIdeal)
    ∧ preserves_Att_AttIdeal
-- ==== Pre_ffn_finite.lean ====
abbrev S1x4096x1024 : Shape := ⟨3, ![1, 4096, 1024]⟩
abbrev S1x1024 : Shape := ⟨2, ![1, 1024]⟩
abbrev S1x1024x4096 : Shape := ⟨3, ![1, 1024, 4096]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x4096 : S_.BroadcastsInDim S1x1024x4096 (![] : Fin 0 → Fin S1x1024x4096.rank)
  reducesTo_S1x1024x4096_S_d0_1_2 : S1x1024x4096.ReducesTo [0, 1, 2] S_

variable [Facts]

def fn_part2 {F : FTy → Type} [FloatOps F] (main_arg7 : FVec F S1x4096x1024 .f32) (main_v33 : IVec S_ 1) : IVec S_ 1 :=
  let main_v34 : FVec F S1x4096x1024 .f32 := Host.absf main_arg7
  let main_cst_12 : FVec F S_ .f32 := constant S_ .f32 0x7F800000#32
  let main_v35 : FVec F S1x4096x1024 .f32 := broadcastInDim S1x4096x1024 ![] bcast_S_S1x4096x1024 main_cst_12
  let main_v36 : IVec S1x4096x1024 1 := cmpf .olt main_v34 main_v35
  let main_c_13 : IVec S_ 1 := constantI S_ 1 1#1
  let main_v37 : IVec S_ 1 := (fun x v => Host.reduce IntOp.andi x v reducesTo_S1x4096x1024_S_d0_1_2 h_S_) main_v36 main_c_13
  let main_v38 : IVec S_ 1 := andi main_v33 main_v37
  main_v38

def fn_part1 {F : FTy → Type} [FloatOps F] (main_arg4 : FVec F S1x4096x1024 .f32) (main_arg5 : FVec F S1x1024 .f32) (main_arg6 : FVec F S1x1024 .f32) (main_arg7 : FVec F S1x4096x1024 .f32) (main_v13 : IVec S_ 1) (main_v16 : IVec S1x1024x4096 1) : IVec S_ 1 :=
  let main_c_5 : IVec S_ 1 := constantI S_ 1 1#1
  let main_v17 : IVec S_ 1 := (fun x v => Host.reduce IntOp.andi x v reducesTo_S1x1024x4096_S_d0_1_2 h_S_) main_v16 main_c_5
  let main_v18 : IVec S_ 1 := andi main_v13 main_v17
  let main_v19 : FVec F S1x4096x1024 .f32 := Host.absf main_arg4
  let main_cst_6 : FVec F S_ .f32 := constant S_ .f32 0x7F800000#32
  let main_v20 : FVec F S1x4096x1024 .f32 := broadcastInDim S1x4096x1024 ![] bcast_S_S1x4096x1024 main_cst_6
  let main_v21 : IVec S1x4096x1024 1 := cmpf .olt main_v19 main_v20
  let main_c_7 : IVec S_ 1 := constantI S_ 1 1#1
  let main_v22 : IVec S_ 1 := (fun x v => Host.reduce IntOp.andi x v reducesTo_S1x4096x1024_S_d0_1_2 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg7 main_v33

def fn {F : FTy → Type} [FloatOps F] (main_arg0 : FVec F S1x4096x1024 .f32) (main_arg1 : FVec F S1x1024 .f32) (main_arg2 : FVec F S1x1024 .f32) (main_arg3 : FVec F S1x1024x4096 .f32) (main_arg4 : FVec F S1x4096x1024 .f32) (main_arg5 : FVec F S1x1024 .f32) (main_arg6 : FVec F S1x1024 .f32) (main_arg7 : FVec F S1x4096x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024x4096 .f32 := Host.absf main_arg3
  let main_cst_4 : FVec F S_ .f32 := constant S_ .f32 0x7F800000#32
  let main_v15 : FVec F S1x1024x4096 .f32 := broadcastInDim S1x1024x4096 ![] bcast_S_S1x1024x4096 main_cst_4
  let main_v16 : IVec S1x1024x4096 1 := cmpf .olt main_v14 main_v15
  fn_part1 (F := F) main_arg4 main_arg5 main_arg6 main_arg7 main_v13 main_v16
-- ==== Pre_forward_finite.lean ====
abbrev S1x4096x1792 : Shape := ⟨3, ![1, 4096, 1792]⟩
abbrev S1x4096 : Shape := ⟨2, ![1, 4096]⟩
abbrev S1x512 : Shape := ⟨2, ![1, 512]⟩
abbrev S1x8x128x128 : Shape := ⟨4, ![1, 8, 128, 128]⟩
abbrev S1x8x128 : Shape := ⟨3, ![1, 8, 128]⟩
abbrev S1x8 : Shape := ⟨2, ![1, 8]⟩
abbrev S1x4096x640 : Shape := ⟨3, ![1, 4096, 640]⟩
abbrev S_ : Shape := ⟨0, ![]⟩

class Facts : Prop where
  slices_S1x4096x1792_S1x4096x640_0_0_1024 : S1x4096x1792.Slices ![0, 0, 1024] S1x4096x640
  bcast_S_S1x4096x640 : S_.BroadcastsInDim S1x4096x640 (![] : Fin 0 → Fin S1x4096x640.rank)
  reducesTo_S1x4096x640_S_d0_1_2 : S1x4096x640.ReducesTo [0, 1, 2] S_
  h_S_ : 0 < S_.numel
  bcast_S_S1x8 : S_.BroadcastsInDim S1x8 (![] : Fin 0 → Fin S1x8.rank)
  reducesTo_S1x8_S_d0_1 : S1x8.ReducesTo [0, 1] S_

variable [Facts]

def fn {F : FTy → Type} [FloatOps F] (main_arg0 : FVec F S1x4096x1792 .f32) (main_arg1 : IVec S1x4096 32) (main_arg2 : FVec F S1x512 .f32) (main_arg3 : FVec F S1x512 .f32) (main_arg4 : FVec F S1x8x128x128 .f32) (main_arg5 : FVec F S1x8x128 .f32) (main_arg6 : FVec F S1x8 .f32) : IVec S_ 1 :=
  let main_v0 : FVec F S1x4096x640 .f32 := (extractStridedSlice S1x4096x640 ![0, 0, 1024] · slices_S1x4096x1792_S1x4096x640_0_0_1024) main_arg0
  let main_v1 : FVec F S1x4096x640 .f32 := Host.absf main_v0
  let main_cst : FVec F S_ .f32 := constant S_ .f32 0x7F800000#32
  let main_v2 : FVec F S1x4096x640 .f32 := broadcastInDim S1x4096x640 ![] bcast_S_S1x4096x640 main_cst
  let main_v3 : IVec S1x4096x640 1 := cmpf .olt main_v1 main_v2
  let main_c : IVec S_ 1 := constantI S_ 1 1#1
  let main_v4 : IVec S_ 1 := (fun x v => Host.reduce IntOp.andi x v reducesTo_S1x4096x640_S_d0_1_2 h_S_) main_v3 main_c
  let main_v5 : FVec F S1x8 .f32 := Host.absf main_arg6
  let main_cst_0 : FVec F S_ .f32 := constant S_ .f32 0x7F800000#32
  let main_v6 : FVec F S1x8 .f32 := broadcastInDim S1x8 ![] bcast_S_S1x8 main_cst_0
  let main_v7 : IVec S1x8 1 := cmpf .olt main_v5 main_v6
  let main_c_1 : IVec S_ 1 := constantI S_ 1 1#1
  let main_v8 : IVec S_ 1 := (fun x v => Host.reduce IntOp.andi x v reducesTo_S1x8_S_d0_1 h_S_) main_v7 main_c_1
  let main_v9 : IVec S_ 1 := andi main_v4 main_v8
  main_v9
-- ==== Ffn.lean ====
abbrev S1x4096x1024 : Shape := ⟨3, ![1, 4096, 1024]⟩
abbrev S1x1024 : Shape := ⟨2, ![1, 1024]⟩
abbrev S1x1024x4096 : Shape := ⟨3, ![1, 1024, 4096]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩
abbrev S1024x8x512 : Shape := ⟨3, ![1024, 8, 512]⟩
abbrev S8x1024x512 : Shape := ⟨3, ![8, 1024, 512]⟩
abbrev S8x512x1024 : Shape := ⟨3, ![8, 512, 1024]⟩
abbrev S8x1024x256 : Shape := ⟨3, ![8, 1024, 256]⟩
abbrev S8x256x1024 : Shape := ⟨3, ![8, 256, 1024]⟩
abbrev S4096x4096 : Shape := ⟨2, ![4096, 4096]⟩
abbrev S8x1024 : Shape := ⟨2, ![8, 1024]⟩
abbrev S256x1024 : Shape := ⟨2, ![256, 1024]⟩
abbrev S256x1 : Shape := ⟨2, ![256, 1]⟩
abbrev S256x4096 : Shape := ⟨2, ![256, 4096]⟩
abbrev S2x2x8 : Shape := ⟨3, ![2, 2, 8]⟩
abbrev S1x1x1 : Shape := ⟨3, ![1, 1, 1]⟩
abbrev S1024x256 : Shape := ⟨2, ![1024, 256]⟩
abbrev S1x1024x256 : Shape := ⟨3, ![1, 1024, 256]⟩
abbrev S1x256x1024 : Shape := ⟨3, ![1, 256, 1024]⟩
abbrev S256 : Shape := ⟨1, ![256]⟩
abbrev S1 : Shape := ⟨1, ![1]⟩
abbrev S1x1 : Shape := ⟨2, ![1, 1]⟩
abbrev S1024 : Shape := ⟨1, ![1024]⟩

abbrev nBuf : Space → Nat
  | .hbm => 54
  | .vmem => 24
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024, .f32⟩
  | .hbm, ⟨3, _⟩ => ⟨S1x1024x4096, .f32⟩
  | .hbm, ⟨4, _⟩ => ⟨S1x4096x1024, .f32⟩
  | .hbm, ⟨5, _⟩ => ⟨S1x1024, .f32⟩
  | .hbm, ⟨6, _⟩ => ⟨S1x1024, .f32⟩
  | .hbm, ⟨7, _⟩ => ⟨S1x4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .bf16⟩
  | .hbm, ⟨37, _⟩ => ⟨S1024x4096, .f32⟩
  | .hbm, ⟨38, _⟩ => ⟨S1024x8x512, .f32⟩
  | .hbm, ⟨39, _⟩ => ⟨S8x1024x512, .f32⟩
  | .hbm, ⟨40, _⟩ => ⟨S8x1024x512, .bf16⟩
  | .hbm, ⟨41, _⟩ => ⟨S4096x1024, .f32⟩
  | .hbm, ⟨42, _⟩ => ⟨S8x512x1024, .f32⟩
  | .hbm, ⟨43, _⟩ => ⟨S8x512x1024, .bf16⟩
  | .hbm, ⟨44, _⟩ => ⟨S4096x1024, .f32⟩
  | .hbm, ⟨45, _⟩ => ⟨S8x1024x256, .bf16⟩
  | .hbm, ⟨46, _⟩ => ⟨S8x1024x256, .bf16⟩
  | .hbm, ⟨47, _⟩ => ⟨S8x256x1024, .bf16⟩
  | .hbm, ⟨48, _⟩ => ⟨S8x256x1024, .bf16⟩
  | .hbm, ⟨49, _⟩ => ⟨S4096x4096, .bf16⟩
  | .hbm, ⟨50, _⟩ => ⟨S4096x4096, .bf16⟩
  | .hbm, ⟨51, _⟩ => ⟨S4096x1024, .bf16⟩
  | .hbm, ⟨52, _⟩ => ⟨S4096x1024, .f32⟩
  | .hbm, ⟨53, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1, .f32⟩
  | .local _ .vmem, ⟨3, _⟩ => ⟨S256x1, .f32⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S256x4096, .bf16⟩
  | .local _ .vmem, ⟨13, _⟩ => ⟨S256x4096, .bf16⟩
  | .local _ .vmem, ⟨14, _⟩ => ⟨S256x4096, .bf16⟩
  | .local _ .vmem, ⟨15, _⟩ => ⟨S256x4096, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .f32⟩
  | .local _ .vmem, ⟨19, _⟩ => ⟨S256x1024, .f32⟩
  | .local _ .vmem, ⟨20, _⟩ => ⟨S8x1024, .f32⟩
  | .local _ .vmem, ⟨21, _⟩ => ⟨S256x4096, .f32⟩
  | .local _ .vmem, ⟨22, _⟩ => ⟨S1024x4096, .bf16⟩
  | .local _ .vmem, ⟨23, _⟩ => ⟨S4096x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36_0 : Ref sig .tc := ⟨.hbm, 49, rfl⟩
abbrev main_v36_1 : Ref sig .tc := ⟨.hbm, 50, rfl⟩
abbrev main_v36_2 : Ref sig .tc := ⟨.hbm, 51, rfl⟩
abbrev main_v36_3 : Ref sig .tc := ⟨.hbm, 52, rfl⟩
abbrev main_v36_4 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== FfnRefIdeal.lean ====
abbrev S1x4096x1024 : Shape := ⟨3, ![1, 4096, 1024]⟩
abbrev S1x1024 : Shape := ⟨2, ![1, 1024]⟩
abbrev S1x1024x4096 : Shape := ⟨3, ![1, 1024, 4096]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x4096 : Shape := ⟨2, ![1024, 4096]⟩
abbrev S1x4096x4096 : Shape := ⟨3, ![1, 4096, 4096]⟩
abbrev S4096x1024 : Shape := ⟨2, ![4096, 1024]⟩
abbrev S4096 : Shape := ⟨1, ![4096]⟩
abbrev S3x1024 : Shape := ⟨2, ![3, 1024]⟩
abbrev S8x1024 : Shape := ⟨2, ![8, 1024]⟩
abbrev S4096x4096 : Shape := ⟨2, ![4096, 4096]⟩

abbrev nBuf : Space → Nat
  | .hbm => 244
  | .vmem => 0
  | .smem => 0
  | _ => 0

abbrev hbmTy0_0 (i : Nat) : BufTy := match i % 128 with
  | 0 => ⟨S1x4096x1024, .f32⟩
  | 1 => ⟨S1x1024, .f32⟩
  | 2 => ⟨S1x1024, .f32⟩
  | 3 => ⟨S1x1024x4096, .f32⟩
  | 4 => ⟨S1x4096x1024, .f32⟩
  | 5 => ⟨S1x1024, .f32⟩
  | 6 => ⟨S1x1024, .f32⟩
  | 7 => ⟨S1x4096x1024, .f32⟩
  | 8 => ⟨S1024, .f32⟩
  | 9 => ⟨S1024, .f32⟩
  | 10 => ⟨S_, .f32⟩
  | 11 => ⟨S1x4096, .f32⟩
  | 12 => ⟨S1x4096x1, .f32⟩
  | 13 => ⟨S_, .f32⟩
  | 14 => ⟨S1x4096x1, .f32⟩
  | 15 => ⟨S1x4096x1, .f32⟩
  | 16 => ⟨S1x4096x1024, .f32⟩
  | 17 => ⟨S1x4096x1024, .f32⟩
  | 18 => ⟨S1x4096x1024, .f32⟩
  | 19 => ⟨S_, .f32⟩
  | 20 => ⟨S1x4096x1024, .f32⟩
  | 21 => ⟨S1x4096x1024, .f32⟩
  | 22 => ⟨S_, .f32⟩
  | 23 => ⟨S1x4096, .f32⟩
  | 24 => ⟨S1x4096x1, .f32⟩
  | 25 => ⟨S_, .f32⟩
  | 26 => ⟨S1x4096x1, .f32⟩
  | 27 => ⟨S1x4096x1, .f32⟩
  | 28 => ⟨S1x4096x1024, .f32⟩
  | 29 => ⟨S1x4096x1024, .f32⟩
  | 30 => ⟨S_, .f32⟩
  | 31 => ⟨S1x4096x1, .f32⟩
  | 32 => ⟨S1x4096x1, .f32⟩
  | 33 => ⟨S1x4096x1, .f32⟩
  | 34 => ⟨S1x4096x1, .f32⟩
  | 35 => ⟨S_, .f32⟩
  | 36 => ⟨S1x4096x1, .f32⟩
  | 37 => ⟨S1x4096x1, .f32⟩
  | 38 => ⟨S1x4096x1024, .f32⟩
  | 39 => ⟨S1x4096x1024, .f32⟩
  | 40 => ⟨S1x1x1024, .f32⟩
  | 41 => ⟨S1x4096x1024, .f32⟩
  | 42 => ⟨S1x4096x1024, .f32⟩
  | 43 => ⟨S1x1x1024, .f32⟩
  | 44 => ⟨S1x4096x1024, .f32⟩
  | 45 => ⟨S1x4096x1024, .f32⟩
  | 46 => ⟨S1024x4096, .f32⟩
  | 47 => ⟨S1x4096x4096, .f32⟩
  | 48 => ⟨S_, .f32⟩
  | 49 => ⟨S1x4096x4096, .f32⟩
  | 50 => ⟨S1x4096x4096, .f32⟩
  | 51 => ⟨S_, .f32⟩
  | 52 => ⟨S1x4096x4096, .f32⟩
  | 53 => ⟨S1x4096x4096, .i1⟩
  | 54 => ⟨S_, .f32⟩
  | 55 => ⟨S1x4096x4096, .f32⟩
  | 56 => ⟨S1x4096x4096, .f32⟩
  | 57 => ⟨S_, .f32⟩
  | 58 => ⟨S1x4096x4096, .f32⟩
  | 59 => ⟨S1x4096x4096, .f32⟩
  | 60 => ⟨S_, .f32⟩
  | 61 => ⟨S1x4096x1024, .f32⟩
  | 62 => ⟨S1x4096x1024, .f32⟩
  | 63 => ⟨S4096x1024, .f32⟩
  | 64 => ⟨S1x4096x1024, .f32⟩
  | 65 => ⟨S1x4096x1024, .f32⟩
  | 66 => ⟨S1024, .f32⟩
  | 67 => ⟨S1024, .f32⟩
  | 68 => ⟨S_, .f32⟩
  | 69 => ⟨S1x4096, .f32⟩
  | 70 => ⟨S1x4096x1, .f32⟩
  | 71 => ⟨S_, .f32⟩
  | 72 => ⟨S1x4096x1, .f32⟩
  | 73 => ⟨S1x4096x1, .f32⟩
  | 74 => ⟨S1x4096x1024, .f32⟩
  | 75 => ⟨S1x4096x1024, .f32⟩
  | 76 => ⟨S1x4096x1024, .f32⟩
  | 77 => ⟨S_, .f32⟩
  | 78 => ⟨S1x4096x1024, .f32⟩
  | 79 => ⟨S1x4096x1024, .f32⟩
  | 80 => ⟨S_, .f32⟩
  | 81 => ⟨S1x4096, .f32⟩
  | 82 => ⟨S1x4096x1, .f32⟩
  | 83 => ⟨S_, .f32⟩
  | 84 => ⟨S1x4096x1, .f32⟩
  | 85 => ⟨S1x4096x1, .f32⟩
  | 86 => ⟨S1x4096x1024, .f32⟩
  | 87 => ⟨S1x4096x1024, .f32⟩
  | 88 => ⟨S_, .f32⟩
  | 89 => ⟨S1x4096x1, .f32⟩
  | 90 => ⟨S1x4096x1, .f32⟩
  | 91 => ⟨S1x4096x1, .f32⟩
  | 92 => ⟨S1x4096x1, .f32⟩
  | 93 => ⟨S_, .f32⟩
  | 94 => ⟨S1x4096x1, .f32⟩
  | 95 => ⟨S1x4096x1, .f32⟩
  | 96 => ⟨S1x4096x1024, .f32⟩
  | 97 => ⟨S1x4096x1024, .f32⟩
  | 98 => ⟨S1x1x1024, .f32⟩
  | 99 => ⟨S1x4096x1024, .f32⟩
  | 100 => ⟨S1x4096x1024, .f32⟩
  | 101 => ⟨S1x1x1024, .f32⟩
  | 102 => ⟨S1x4096x1024, .f32⟩
  | 103 => ⟨S1x4096x1024, .f32⟩
  | 104 => ⟨S1x4096x1024, .f32⟩
  | 105 => ⟨S1x4096x1024, .f32⟩
  | 106 => ⟨S_, .f32⟩
  | 107 => ⟨S1x4096x1024, .f32⟩
  | 108 => ⟨S1x4096x1024, .f32⟩
  | 109 => ⟨S_, .f32⟩
  | 110 => ⟨S1x4096, .f32⟩
  | 111 => ⟨S_, .f32⟩
  | 112 => ⟨S1x4096, .f32⟩
  | 113 => ⟨S1x4096, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S1x4096, .f32⟩
  | 122 => ⟨S_, .f32⟩
  | 123 => ⟨S1x4096, .f32⟩
  | 124 => ⟨S1x4096, .f32⟩
  | 125 => ⟨S1x4096x1024, .f32⟩
  | 126 => ⟨S1x4096x1024, .f32⟩
  | 127 => ⟨S_, .f32⟩
  | _ => ⟨S1x4096x1024, .f32⟩

abbrev hbmTy0_1 (i : Nat) : BufTy := match i % 128 with
  | 0 => ⟨S1x1024, .f32⟩
  | 1 => ⟨S1x1x1024, .f32⟩
  | 2 => ⟨S_, .f32⟩
  | 3 => ⟨S1024, .f32⟩
  | 4 => ⟨S1x4096x1024, .f32⟩
  | 5 => ⟨S_, .f32⟩
  | 6 => ⟨S1x1024, .f32⟩
  | 7 => ⟨S1x1x1024, .f32⟩
  | 8 => ⟨S1x4096x1024, .f32⟩
  | 9 => ⟨S1x4096x1024, .f32⟩
  | 10 => ⟨S_, .f32⟩
  | 11 => ⟨S1024, .f32⟩
  | 12 => ⟨S1x4096x1024, .f32⟩
  | 13 => ⟨S_, .f32⟩
  | 14 => ⟨S1x4096, .f32⟩
  | 15 => ⟨S1x4096x1, .f32⟩
  | 16 => ⟨S1x4096x1024, .f32⟩
  | 17 => ⟨S1x4096x1024, .f32⟩
  | 18 => ⟨S1x4096x1, .f32⟩
  | 19 => ⟨S1x4096x1024, .f32⟩
  | 20 => ⟨S_, .f32⟩
  | 21 => ⟨S1x4096, .f32⟩
  | 22 => ⟨S1x4096x1, .f32⟩
  | 23 => ⟨S_, .f32⟩
  | 24 => ⟨S1x4096x1, .f32⟩
  | 25 => ⟨S1x4096x1, .f32⟩
  | 26 => ⟨S_, .f32⟩
  | 27 => ⟨S4096, .f32⟩
  | 28 => ⟨S1x4096, .f32⟩
  | 29 => ⟨S1x4096x1024, .f32⟩
  | 30 => ⟨S1x4096x1024, .f32⟩
  | 31 => ⟨S1x4096x1024, .f32⟩
  | 32 => ⟨S_, .f32⟩
  | 33 => ⟨S1x4096, .f32⟩
  | 34 => ⟨S1x4096x1, .f32⟩
  | 35 => ⟨S1x4096x1024, .f32⟩
  | 36 => ⟨S1x4096x1, .f32⟩
  | 37 => ⟨S_, .f32⟩
  | 38 => ⟨S1x4096x1, .f32⟩
  | 39 => ⟨S1x4096x1, .f32⟩
  | 40 => ⟨S_, .f32⟩
  | 41 => ⟨S4096, .f32⟩
  | 42 => ⟨S1x4096, .f32⟩
  | 43 => ⟨S1x4096x1024, .f32⟩
  | 44 => ⟨S1x4096x1024, .f32⟩
  | 45 => ⟨S1x1024, .f32⟩
  | 46 => ⟨S1x1024, .f32⟩
  | 47 => ⟨S1x4096x4096, .f32⟩
  | 48 => ⟨S_, .f32⟩
  | 49 => ⟨S1x4096x1024, .f32⟩
  | 50 => ⟨S1x4096x1024, .f32⟩
  | 51 => ⟨S1x4096x4096, .f32⟩
  | 52 => ⟨S_, .f32⟩
  | 53 => ⟨S1x4096x4096, .f32⟩
  | 54 => ⟨S1x4096x4096, .f32⟩
  | 55 => ⟨S1x4096x1024, .f32⟩
  | 56 => ⟨S1x4096x1024, .f32⟩
  | 57 => ⟨S_, .f32⟩
  | 58 => ⟨S1x1024, .f32⟩
  | 59 => ⟨S1x1x1024, .f32⟩
  | 60 => ⟨S_, .f32⟩
  | 61 => ⟨S1024, .f32⟩
  | 62 => ⟨S1x4096x1024, .f32⟩
  | 63 => ⟨S_, .f32⟩
  | 64 => ⟨S1x1024, .f32⟩
  | 65 => ⟨S1x1x1024, .f32⟩
  | 66 => ⟨S1x4096x1024, .f32⟩
  | 67 => ⟨S1x4096x1024, .f32⟩
  | 68 => ⟨S_, .f32⟩
  | 69 => ⟨S1024, .f32⟩
  | 70 => ⟨S1x4096x1024, .f32⟩
  | 71 => ⟨S_, .f32⟩
  | 72 => ⟨S1x4096, .f32⟩
  | 73 => ⟨S1x4096x1, .f32⟩
  | 74 => ⟨S1x4096x1024, .f32⟩
  | 75 => ⟨S1x4096x1024, .f32⟩
  | 76 => ⟨S1x4096x1, .f32⟩
  | 77 => ⟨S1x4096x1024, .f32⟩
  | 78 => ⟨S_, .f32⟩
  | 79 => ⟨S1x4096, .f32⟩
  | 80 => ⟨S1x4096x1, .f32⟩
  | 81 => ⟨S_, .f32⟩
  | 82 => ⟨S1x4096x1, .f32⟩
  | 83 => ⟨S1x4096x1, .f32⟩
  | 84 => ⟨S_, .f32⟩
  | 85 => ⟨S4096, .f32⟩
  | 86 => ⟨S1x4096, .f32⟩
  | 87 => ⟨S1x4096x1024, .f32⟩
  | 88 => ⟨S1x4096x1024, .f32⟩
  | 89 => ⟨S1x4096x1024, .f32⟩
  | 90 => ⟨S_, .f32⟩
  | 91 => ⟨S1x4096, .f32⟩
  | 92 => ⟨S1x4096x1, .f32⟩
  | 93 => ⟨S1x4096x1024, .f32⟩
  | 94 => ⟨S1x4096x1, .f32⟩
  | 95 => ⟨S_, .f32⟩
  | 96 => ⟨S1x4096x1, .f32⟩
  | 97 => ⟨S1x4096x1, .f32⟩
  | 98 => ⟨S_, .f32⟩
  | 99 => ⟨S4096, .f32⟩
  | 100 => ⟨S1x4096, .f32⟩
  | 101 => ⟨S1x4096x1024, .f32⟩
  | 102 => ⟨S1x4096x1024, .f32⟩
  | 103 => ⟨S1x1024, .f32⟩
  | 104 => ⟨S1x1024, .f32⟩
  | 105 => ⟨S1x1024, .f32⟩
  | 106 => ⟨S_, .f32⟩
  | 107 => ⟨S3x1024, .f32⟩
  | 108 => ⟨S8x1024, .f32⟩
  | 109 => ⟨S4096x4096, .f32⟩
  | 110 => ⟨S4096x4096, .bf16⟩
  | 111 => ⟨S4096x4096, .f32⟩
  | 112 => ⟨S4096x4096, .bf16⟩
  | 113 => ⟨S4096x1024, .f32⟩
  | 114 => ⟨S4096x1024, .bf16⟩
  | 115 => ⟨S4096x1024, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_cst_11 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_12 : Ref sig .tc := ⟨.hbm, 77, rfl⟩
abbrev main_v54 : Ref sig .tc := ⟨.hbm, 78, rfl⟩
abbrev main_v55 : Ref sig .tc := ⟨.hbm, 79, rfl⟩
abbrev main_cst_13 : Ref sig .tc := ⟨.hbm, 80, rfl⟩
abbrev main_v56 : Ref sig .tc := ⟨.hbm, 81, rfl⟩
abbrev main_v57 : Ref sig .tc := ⟨.hbm, 82, rfl⟩
abbrev main_cst_14 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_15 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_16 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_17 : Ref sig .tc := ⟨.hbm, 106, rfl⟩
abbrev main_v78 : Ref sig .tc := ⟨.hbm, 107, rfl⟩
abbrev main_v79 : Ref sig .tc := ⟨.hbm, 108, rfl⟩
abbrev main_cst_18 : Ref sig .tc := ⟨.hbm, 109, rfl⟩
abbrev main_v80 : Ref sig .tc := ⟨.hbm, 110, rfl⟩
abbrev main_cst_19 : Ref sig .tc := ⟨.hbm, 111, rfl⟩
abbrev main_v81 : Ref sig .tc := ⟨.hbm, 112, rfl⟩
abbrev main_v82 : Ref sig .tc := ⟨.hbm, 113, rfl⟩
abbrev main_cst_20 : Ref sig .tc := ⟨.hbm, 114, rfl⟩
abbrev main_v83 : Ref sig .tc := ⟨.hbm, 115, rfl⟩
abbrev main_cst_21 : Ref sig .tc := ⟨.hbm, 116, rfl⟩
abbrev main_v84 : Ref sig .tc := ⟨.hbm, 117, rfl⟩
abbrev main_cst_22 : Ref sig .tc := ⟨.hbm, 118, rfl⟩
abbrev main_cst_23 : Ref sig .tc := ⟨.hbm, 119, rfl⟩
abbrev main_v85 : Ref sig .tc := ⟨.hbm, 120, rfl⟩
abbrev main_v86 : Ref sig .tc := ⟨.hbm, 121, rfl⟩
abbrev main_cst_24 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_25 : Ref sig .tc := ⟨.hbm, 127, rfl⟩
abbrev main_v91 : Ref sig .tc := ⟨.hbm, 128, rfl⟩
abbrev main_v92 : Ref sig .tc := ⟨.hbm, 129, rfl⟩
abbrev main_cst_26 : Ref sig .tc := ⟨.hbm, 130, rfl⟩
abbrev main_v93 : Ref sig .tc := ⟨.hbm, 131, rfl⟩
abbrev main_v94 : Ref sig .tc := ⟨.hbm, 132, rfl⟩
abbrev main_cst_27 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_28 : Ref sig .tc := ⟨.hbm, 138, rfl⟩
abbrev main_v99 : Ref sig .tc := ⟨.hbm, 139, rfl⟩
abbrev main_v100 : Ref sig .tc := ⟨.hbm, 140, rfl⟩
abbrev main_cst_29 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_30 : Ref sig .tc := ⟨.hbm, 148, rfl⟩
abbrev main_v107 : Ref sig .tc := ⟨.hbm, 149, rfl⟩
abbrev main_v108 : Ref sig .tc := ⟨.hbm, 150, rfl⟩
abbrev main_cst_31 : Ref sig .tc := ⟨.hbm, 151, rfl⟩
abbrev main_v109 : Ref sig .tc := ⟨.hbm, 152, rfl⟩
abbrev main_v110 : Ref sig .tc := ⟨.hbm, 153, rfl⟩
abbrev main_cst_32 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_cst_33 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_cst_34 : Ref sig .tc := ⟨.hbm, 165, rfl⟩
abbrev main_v120 : Ref sig .tc := ⟨.hbm, 166, rfl⟩
abbrev main_v121 : Ref sig .tc := ⟨.hbm, 167, rfl⟩
abbrev main_cst_35 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_cst_36 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_cst_37 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_cst_38 : Ref sig .tc := ⟨.hbm, 185, rfl⟩
abbrev main_v136 : Ref sig .tc := ⟨.hbm, 186, rfl⟩
abbrev main_v137 : Ref sig .tc := ⟨.hbm, 187, rfl⟩
abbrev main_cst_39 : Ref sig .tc := ⟨.hbm, 188, rfl⟩
abbrev main_v138 : Ref sig .tc := ⟨.hbm, 189, rfl⟩
abbrev main_v139 : Ref sig .tc := ⟨.hbm, 190, rfl⟩
abbrev main_cst_40 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_cst_41 : Ref sig .tc := ⟨.hbm, 196, rfl⟩
abbrev main_v144 : Ref sig .tc := ⟨.hbm, 197, rfl⟩
abbrev main_v145 : Ref sig .tc := ⟨.hbm, 198, rfl⟩
abbrev main_cst_42 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_cst_43 : Ref sig .tc := ⟨.hbm, 206, rfl⟩
abbrev main_v152 : Ref sig .tc := ⟨.hbm, 207, rfl⟩
abbrev main_v153 : Ref sig .tc := ⟨.hbm, 208, rfl⟩
abbrev main_cst_44 : Ref sig .tc := ⟨.hbm, 209, rfl⟩
abbrev main_v154 : Ref sig .tc := ⟨.hbm, 210, rfl⟩
abbrev main_v155 : Ref sig .tc := ⟨.hbm, 211, rfl⟩
abbrev main_cst_45 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_cst_46 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_cst_47 : Ref sig .tc := ⟨.hbm, 223, rfl⟩
abbrev main_v165 : Ref sig .tc := ⟨.hbm, 224, rfl⟩
abbrev main_v166 : Ref sig .tc := ⟨.hbm, 225, rfl⟩
abbrev main_cst_48 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_cst_49 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩

abbrev nD : Nat := 1
abbrev τ : Topo := Topo.v7x

variable {F : FTy → Type} [FloatOps F]
-- ==== Mix.lean ====
abbrev S1x4096x1792 : Shape := ⟨3, ![1, 4096, 1792]⟩
abbrev S1x4096 : Shape := ⟨2, ![1, 4096]⟩
abbrev S1x512 : Shape := ⟨2, ![1, 512]⟩
abbrev S1x8x128x128 : Shape := ⟨4, ![1, 8, 128, 128]⟩
abbrev S1x8x128 : Shape := ⟨3, ![1, 8, 128]⟩
abbrev S1x8 : Shape := ⟨2, ![1, 8]⟩
abbrev S1x4096x1024 : Shape := ⟨3, ![1, 4096, 1024]⟩
abbrev S32 : Shape := ⟨1, ![32]⟩
abbrev S_ : Shape := ⟨0, ![]⟩
abbrev S1x32 : Shape := ⟨2, ![1, 32]⟩
abbrev S2x32 : Shape := ⟨2, ![2, 32]⟩
abbrev S64 : Shape := ⟨1, ![64]⟩
abbrev S64x1 : Shape := ⟨2, ![64, 1]⟩
abbrev S64x4096 : Shape := ⟨2, ![64, 4096]⟩
abbrev S4096x1024 : Shape := ⟨2, ![4096, 1024]⟩
abbrev S1024x4096 : Shape := ⟨2, ![1024, 4096]⟩
abbrev S4096x1792 : Shape := ⟨2, ![4096, 1792]⟩
abbrev S1792x4096 : Shape := ⟨2, ![1792, 4096]⟩
abbrev S8x128x128 : Shape := ⟨3, ![8, 128, 128]⟩
abbrev S8x128 : Shape := ⟨2, ![8, 128]⟩
abbrev S512x1 : Shape := ⟨2, ![512, 1]⟩
abbrev S8 : Shape := ⟨1, ![8]⟩
abbrev S2x256x128 : Shape := ⟨3, ![2, 256, 128]⟩
abbrev S1x4096x512 : Shape := ⟨3, ![1, 4096, 512]⟩
abbrev S1x4096x128 : Shape := ⟨3, ![1, 4096, 128]⟩
abbrev S1x4096x8x64 : Shape := ⟨4, ![1, 4096, 8, 64]⟩
abbrev S1x4096x1 : Shape := ⟨3, ![1, 4096, 1]⟩
abbrev S1x1x32 : Shape := ⟨3, ![1, 1, 32]⟩
abbrev S1x4096x32 : Shape := ⟨3, ![1, 4096, 32]⟩
abbrev S1x4096x1x32 : Shape := ⟨4, ![1, 4096, 1, 32]⟩
abbrev S1x4096x8x32 : Shape := ⟨4, ![1, 4096, 8, 32]⟩
abbrev S1x4096x2x64 : Shape := ⟨4, ![1, 4096, 2, 64]⟩
abbrev S1x4096x2x32 : Shape := ⟨4, ![1, 4096, 2, 32]⟩
abbrev S1x32x128x2x4x64 : Shape := ⟨6, ![1, 32, 128, 2, 4, 64]⟩
abbrev S1x32x128x2x64 : Shape := ⟨5, ![1, 32, 128, 2, 64]⟩
abbrev S1x1x128x2x64 : Shape := ⟨5, ![1, 1, 128, 2, 64]⟩
abbrev S1x31x128x2x64 : Shape := ⟨5, ![1, 31, 128, 2, 64]⟩
abbrev S1x32x256x2x64 : Shape := ⟨5, ![1, 32, 256, 2, 64]⟩
abbrev S1x32x2x256x128x4 : Shape := ⟨6, ![1, 32, 2, 256, 128, 4]⟩
abbrev S1x32x2x4x128x256 : Shape := ⟨6, ![1, 32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S2x4 : Shape := ⟨2, ![2, 4]⟩
abbrev S1x1x2x4x1 : Shape := ⟨5, ![1, 1, 2, 4, 1]⟩
abbrev S1x32x2x4x128 : Shape := ⟨5, ![1, 32, 2, 4, 128]⟩
abbrev S1x32x2x4x128x1 : Shape := ⟨6, ![1, 32, 2, 4, 128, 1]⟩
abbrev S16x4x512 : Shape := ⟨3, ![16, 4, 512]⟩
abbrev S16x8x512 : Shape := ⟨3, ![16, 8, 512]⟩
abbrev S128x512 : Shape := ⟨2, ![128, 512]⟩
abbrev S1536x4096 : Shape := ⟨2, ![1536, 4096]⟩
abbrev S256x4096 : Shape := ⟨2, ![256, 4096]⟩
abbrev S256x2048 : Shape := ⟨2, ![256, 2048]⟩
abbrev S8x512 : Shape := ⟨2, ![8, 512]⟩
abbrev S1024x256 : Shape := ⟨2, ![1024, 256]⟩
abbrev S512x256 : Shape := ⟨2, ![512, 256]⟩
abbrev S256x256 : Shape := ⟨2, ![256, 256]⟩
abbrev S256x128 : Shape := ⟨2, ![256, 128]⟩
abbrev S64x256 : Shape := ⟨2, ![64, 256]⟩
abbrev S64x128 : Shape := ⟨2, ![64, 128]⟩
abbrev S1536x256 : Shape := ⟨2, ![1536, 256]⟩
abbrev S512x128 : Shape := ⟨2, ![512, 128]⟩
abbrev S128x128 : Shape := ⟨2, ![128, 128]⟩
abbrev S1x128x128 : Shape := ⟨3, ![1, 128, 128]⟩
abbrev S1x128 : Shape := ⟨2, ![1, 128]⟩
abbrev S32x256 : Shape := ⟨2, ![32, 256]⟩
abbrev S1 : Shape := ⟨1, ![1]⟩
abbrev S1x256x128 : Shape := ⟨3, ![1, 256, 128]⟩
abbrev S32x128 : Shape := ⟨2, ![32, 128]⟩
abbrev S256x512 : Shape := ⟨2, ![256, 512]⟩
abbrev S64x512 : Shape := ⟨2, ![64, 512]⟩
abbrev S512 : Shape := ⟨1, ![512]⟩

abbrev nBuf : Space → Nat
  | .hbm => 244
  | .vmem => 41
  | .smem => 1
  | _ => 0

abbrev hbmTy0_0 (i : Nat) : BufTy := match i % 128 with
  | 0 => ⟨S1x4096x1792, .f32⟩
  | 1 => ⟨S1x4096, .i32⟩
  | 2 => ⟨S1x512, .f32⟩
  | 3 => ⟨S1x512, .f32⟩
  | 4 => ⟨S1x8x128x128, .f32⟩
  | 5 => ⟨S1x8x128, .f32⟩
  | 6 => ⟨S1x8, .f32⟩
  | 7 => ⟨S1x4096x1024, .f32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S1x4096, .f32⟩
  | 23 => ⟨S1x32, .f32⟩
  | 24 => ⟨S2x32, .f32⟩
  | 25 => ⟨S64, .f32⟩
  | 26 => ⟨S64x1, .f32⟩
  | 27 => ⟨S64x4096, .f32⟩
  | 28 => ⟨S64x4096, .f32⟩
  | 29 => ⟨S64x4096, .f32⟩
  | 30 => ⟨S64x4096, .i32⟩
  | 31 => ⟨S64x4096, .f32⟩
  | 32 => ⟨S64x4096, .f32⟩
  | 33 => ⟨S_, .i32⟩
  | 34 => ⟨S64x4096, .i32⟩
  | 35 => ⟨S64x4096, .i1⟩
  | 36 => ⟨S_, .f32⟩
  | 37 => ⟨S_, .f32⟩
  | 38 => ⟨S64x4096, .f32⟩
  | 39 => ⟨S64x4096, .f32⟩
  | 40 => ⟨S64x4096, .f32⟩
  | 41 => ⟨S64x4096, .f32⟩
  | 42 => ⟨S64x4096, .f32⟩
  | 43 => ⟨S4096x1024, .f32⟩
  | 44 => ⟨S1024x4096, .f32⟩
  | 45 => ⟨S4096x1792, .f32⟩
  | 46 => ⟨S1792x4096, .f32⟩
  | 47 => ⟨S8x128x128, .f32⟩
  | 48 => ⟨S8x128, .f32⟩
  | 49 => ⟨S512x1, .f32⟩
  | 50 => ⟨S512x1, .f32⟩
  | 51 => ⟨S8, .f32⟩
  | 52 => ⟨S2x256x128, .i32⟩
  | 53 => ⟨S2x256x128, .i32⟩
  | 54 => ⟨S2x256x128, .i32⟩
  | 55 => ⟨S_, .i32⟩
  | 56 => ⟨S2x256x128, .i32⟩
  | 57 => ⟨S2x256x128, .i1⟩
  | 58 => ⟨S_, .i32⟩
  | 59 => ⟨S2x256x128, .i32⟩
  | 60 => ⟨S2x256x128, .i32⟩
  | 61 => ⟨S2x256x128, .i32⟩
  | 62 => ⟨S_, .i32⟩
  | 63 => ⟨S2x256x128, .i32⟩
  | 64 => ⟨S2x256x128, .i1⟩
  | 65 => ⟨S_, .i32⟩
  | 66 => ⟨S2x256x128, .i32⟩
  | 67 => ⟨S2x256x128, .i1⟩
  | 68 => ⟨S2x256x128, .i1⟩
  | 69 => ⟨S_, .i32⟩
  | 70 => ⟨S2x256x128, .i32⟩
  | 71 => ⟨S2x256x128, .i1⟩
  | 72 => ⟨S2x256x128, .i1⟩
  | 73 => ⟨S2x256x128, .i1⟩
  | 74 => ⟨S_, .f32⟩
  | 75 => ⟨S_, .f32⟩
  | 76 => ⟨S2x256x128, .f32⟩
  | 77 => ⟨S2x256x128, .f32⟩
  | 78 => ⟨S2x256x128, .f32⟩
  | 79 => ⟨S2x256x128, .f32⟩
  | 80 => ⟨S8, .f32⟩
  | 81 => ⟨S1x4096x512, .f32⟩
  | 82 => ⟨S1x4096x128, .f32⟩
  | 83 => ⟨S1x4096x8x64, .f32⟩
  | 84 => ⟨S32, .f32⟩
  | 85 => ⟨S_, .f32⟩
  | 86 => ⟨S32, .f32⟩
  | 87 => ⟨S32, .f32⟩
  | 88 => ⟨S_, .f32⟩
  | 89 => ⟨S32, .f32⟩
  | 90 => ⟨S32, .f32⟩
  | 91 => ⟨S32, .f32⟩
  | 92 => ⟨S_, .f32⟩
  | 93 => ⟨S32, .f32⟩
  | 94 => ⟨S32, .f32⟩
  | 95 => ⟨S_, .f32⟩
  | 96 => ⟨S32, .f32⟩
  | 97 => ⟨S32, .f32⟩
  | 98 => ⟨S1x4096, .f32⟩
  | 99 => ⟨S1x4096x1, .f32⟩
  | 100 => ⟨S1x1x32, .f32⟩
  | 101 => ⟨S1x4096x32, .f32⟩
  | 102 => ⟨S1x4096x32, .f32⟩
  | 103 => ⟨S1x4096x32, .f32⟩
  | 104 => ⟨S1x4096x32, .f32⟩
  | 105 => ⟨S1x4096x1x32, .f32⟩
  | 106 => ⟨S1x4096x32, .f32⟩
  | 107 => ⟨S1x4096x1x32, .f32⟩
  | 108 => ⟨S1x4096x8x32, .f32⟩
  | 109 => ⟨S1x4096x8x32, .f32⟩
  | 110 => ⟨S1x4096x8x32, .f32⟩
  | 111 => ⟨S1x4096x8x32, .f32⟩
  | 112 => ⟨S1x4096x8x32, .f32⟩
  | 113 => ⟨S1x4096x8x32, .f32⟩
  | 114 => ⟨S1x4096x8x32, .f32⟩
  | 115 => ⟨S1x4096x8x32, .f32⟩
  | 116 => ⟨S1x4096x8x32, .f32⟩
  | 117 => ⟨S1x4096x8x32, .f32⟩
  | 118 => ⟨S1x4096x8x32, .f32⟩
  | 119 => ⟨S1x4096x8x32, .f32⟩
  | 120 => ⟨S1x4096x8x64, .f32⟩
  | 121 => ⟨S1x4096x2x64, .f32⟩
  | 122 => ⟨S32, .f32⟩
  | 123 => ⟨S_, .f32⟩
  | 124 => ⟨S32, .f32⟩
  | 125 => ⟨S32, .f32⟩
  | 126 => ⟨S_, .f32⟩
  | 127 => ⟨S32, .f32⟩
  | _ => ⟨S1x4096x1792, .f32⟩

abbrev hbmTy0_1 (i : Nat) : BufTy := match i % 128 with
  | 0 => ⟨S32, .f32⟩
  | 1 => ⟨S32, .f32⟩
  | 2 => ⟨S_, .f32⟩
  | 3 => ⟨S32, .f32⟩
  | 4 => ⟨S32, .f32⟩
  | 5 => ⟨S_, .f32⟩
  | 6 => ⟨S32, .f32⟩
  | 7 => ⟨S32, .f32⟩
  | 8 => ⟨S1x4096, .f32⟩
  | 9 => ⟨S1x4096x1, .f32⟩
  | 10 => ⟨S1x1x32, .f32⟩
  | 11 => ⟨S1x4096x32, .f32⟩
  | 12 => ⟨S1x4096x32, .f32⟩
  | 13 => ⟨S1x4096x32, .f32⟩
  | 14 => ⟨S1x4096x32, .f32⟩
  | 15 => ⟨S1x4096x1x32, .f32⟩
  | 16 => ⟨S1x4096x32, .f32⟩
  | 17 => ⟨S1x4096x1x32, .f32⟩
  | 18 => ⟨S1x4096x2x32, .f32⟩
  | 19 => ⟨S1x4096x2x32, .f32⟩
  | 20 => ⟨S1x4096x2x32, .f32⟩
  | 21 => ⟨S1x4096x2x32, .f32⟩
  | 22 => ⟨S1x4096x2x32, .f32⟩
  | 23 => ⟨S1x4096x2x32, .f32⟩
  | 24 => ⟨S1x4096x2x32, .f32⟩
  | 25 => ⟨S1x4096x2x32, .f32⟩
  | 26 => ⟨S1x4096x2x32, .f32⟩
  | 27 => ⟨S1x4096x2x32, .f32⟩
  | 28 => ⟨S1x4096x2x32, .f32⟩
  | 29 => ⟨S1x4096x2x32, .f32⟩
  | 30 => ⟨S1x4096x2x64, .f32⟩
  | 31 => ⟨S1x32x128x2x4x64, .f32⟩
  | 32 => ⟨S1x32x128x2x64, .f32⟩
  | 33 => ⟨S1x1x128x2x64, .f32⟩
  | 34 => ⟨S_, .f32⟩
  | 35 => ⟨S1x1x128x2x64, .f32⟩
  | 36 => ⟨S1x31x128x2x64, .f32⟩
  | 37 => ⟨S1x32x128x2x64, .f32⟩
  | 38 => ⟨S1x32x256x2x64, .f32⟩
  | 39 => ⟨S1x32x2x256x128x4, .f32⟩
  | 40 => ⟨S1x32x2x4x128x256, .f32⟩
  | 41 => ⟨S_, .f32⟩
  | 42 => ⟨S1x32x2x4x128x256, .f32⟩
  | 43 => ⟨S1x32x2x4x128x256, .f32⟩
  | 44 => ⟨S128, .i32⟩
  | 45 => ⟨S128x1, .i32⟩
  | 46 => ⟨S256, .i32⟩
  | 47 => ⟨S1x256, .i32⟩
  | 48 => ⟨S_, .i32⟩
  | 49 => ⟨S128x1, .i32⟩
  | 50 => ⟨S128x1, .i32⟩
  | 51 => ⟨S128x256, .i32⟩
  | 52 => ⟨S128x256, .i32⟩
  | 53 => ⟨S128x256, .i32⟩
  | 54 => ⟨S_, .i32⟩
  | 55 => ⟨S128x256, .i32⟩
  | 56 => ⟨S128x256, .i1⟩
  | 57 => ⟨S_, .i32⟩
  | 58 => ⟨S128x256, .i32⟩
  | 59 => ⟨S128x256, .i1⟩
  | 60 => ⟨S128x256, .i1⟩
  | 61 => ⟨S32, .i32⟩
  | 62 => ⟨S32x1x1, .i32⟩
  | 63 => ⟨S_, .i32⟩
  | 64 => ⟨S32x1x1, .i32⟩
  | 65 => ⟨S32x1x1, .i32⟩
  | 66 => ⟨S1x1x256, .i32⟩
  | 67 => ⟨S32x1x256, .i32⟩
  | 68 => ⟨S32x1x256, .i32⟩
  | 69 => ⟨S32x1x256, .i32⟩
  | 70 => ⟨S_, .i32⟩
  | 71 => ⟨S32x1x256, .i32⟩
  | 72 => ⟨S32x1x256, .i32⟩
  | 73 => ⟨S1x128x256, .i1⟩
  | 74 => ⟨S_, .i32⟩
  | 75 => ⟨S32x1x256, .i32⟩
  | 76 => ⟨S32x1x256, .i1⟩
  | 77 => ⟨S32x128x256, .i1⟩
  | 78 => ⟨S32x128x256, .i1⟩
  | 79 => ⟨S32x128x256, .i1⟩
  | 80 => ⟨S1x32x1x1x128x256, .i1⟩
  | 81 => ⟨S_, .f32⟩
  | 82 => ⟨S_, .f32⟩
  | 83 => ⟨S1x32x2x4x128x256, .i1⟩
  | 84 => ⟨S1x32x2x4x128x256, .f32⟩
  | 85 => ⟨S1x32x2x4x128x256, .f32⟩
  | 86 => ⟨S2x4, .f32⟩
  | 87 => ⟨S1x1x2x4x1, .f32⟩
  | 88 => ⟨S_, .f32⟩
  | 89 => ⟨S1x32x2x4x128, .f32⟩
  | 90 => ⟨S1x32x2x4x128, .f32⟩
  | 91 => ⟨S1x32x2x4x128, .f32⟩
  | 92 => ⟨S1x32x2x4x128x1, .f32⟩
  | 93 => ⟨S1x32x2x4x128x256, .f32⟩
  | 94 => ⟨S1x32x2x4x128x256, .f32⟩
  | 95 => ⟨S1x32x2x4x128x256, .f32⟩
  | 96 => ⟨S_, .f32⟩
  | 97 => ⟨S1x32x2x4x128, .f32⟩
  | 98 => ⟨S1x32x2x4x128, .f32⟩
  | 99 => ⟨S1x32x2x4x128, .f32⟩
  | 100 => ⟨S1x32x2x4x128, .f32⟩
  | 101 => ⟨S1x32x2x4x128, .f32⟩
  | 102 => ⟨S1x32x2x4x128, .f32⟩
  | 103 => ⟨S1x32x2x4x128, .f32⟩
  | 104 => ⟨S16x4x512, .f32⟩
  | 105 => ⟨S_, .i32⟩
  | 106 => ⟨S_, .f32⟩
  | 107 => ⟨S16x8x512, .f32⟩
  | 108 => ⟨S128x512, .f32⟩
  | 109 => ⟨S1536x4096, .bf16⟩
  | 110 => ⟨S256x4096, .f32⟩
  | 111 => ⟨S256x2048, .f32⟩
  | 112 => ⟨S8x128x128, .bf16⟩
  | 113 => ⟨S8x128, .f32⟩
  | 114 => ⟨S8x512, .f32⟩
  | 115 => ⟨S8x128, .f32⟩
  | _ => ⟨S1x4096x1792, .f32⟩

abbrev hbmTy (i : Nat) : BufTy := match i / 128 with
  | 0 => hbmTy0_0 i
  | 1 => hbmTy0_1 i
  | _ => ⟨S1x4096x1792, .f32⟩

abbrev bufTy : (tb : Table) → Fin (tcTables nBuf tb) → BufTy
  | .hbm, ⟨i, _⟩ => hbmTy i
  | .local _ .vmem, ⟨0, _⟩ => ⟨S1024x256, .f32⟩
  | .local _ .vmem, ⟨1, _⟩ => ⟨S1024x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S256x256, .f32⟩
  | .local _ .vmem, ⟨9, _⟩ => ⟨S256x256, .f32⟩
  | .local _ .vmem, ⟨10, _⟩ => ⟨S256x128, .f32⟩
  | .local _ .vmem, ⟨11, _⟩ => ⟨S256x128, .f32⟩
  | .local _ .vmem, ⟨12, _⟩ => ⟨S64x256, .f32⟩
  | .local _ .vmem, ⟨13, _⟩ => ⟨S64x256, .f32⟩
  | .local _ .vmem, ⟨14, _⟩ => ⟨S64x256, .f32⟩
  | .local _ .vmem, ⟨15, _⟩ => ⟨S64x256, .f32⟩
  | .local _ .vmem, ⟨16, _⟩ => ⟨S64x128, .f32⟩
  | .local _ .vmem, ⟨17, _⟩ => ⟨S64x128, .f32⟩
  | .local _ .vmem, ⟨18, _⟩ => ⟨S64x128, .f32⟩
  | .local _ .vmem, ⟨19, _⟩ => ⟨S64x128, .f32⟩
  | .local _ .vmem, ⟨20, _⟩ => ⟨S8x128x128, .f32⟩
  | .local _ .vmem, ⟨21, _⟩ => ⟨S8x128, .f32⟩
  | .local _ .vmem, ⟨22, _⟩ => ⟨S512x1, .f32⟩
  | .local _ .vmem, ⟨23, _⟩ => ⟨S512x1, .f32⟩
  | .local _ .vmem, ⟨24, _⟩ => ⟨S2x256x128, .f32⟩
  | .local _ .vmem, ⟨25, _⟩ => ⟨S8x512, .f32⟩
  | .local _ .vmem, ⟨26, _⟩ => ⟨S8x512, .f32⟩
  | .local _ .vmem, ⟨27, _⟩ => ⟨S1536x256, .bf16⟩
  | .local _ .vmem, ⟨28, _⟩ => ⟨S1536x256, .bf16⟩
  | .local _ .vmem, ⟨29, _⟩ => ⟨S256x256, .f32⟩
  | .local _ .vmem, ⟨30, _⟩ => ⟨S256x256, .f32⟩
  | .local _ .vmem, ⟨31, _⟩ => ⟨S256x128, .f32⟩
  | .local _ .vmem, ⟨32, _⟩ => ⟨S256x128, .f32⟩
  | .local _ .vmem, ⟨33, _⟩ => ⟨S8x128x128, .bf16⟩
  | .local _ .vmem, ⟨34, _⟩ => ⟨S8x128, .f32⟩
  | .local _ .vmem, ⟨35, _⟩ => ⟨S8x512, .f32⟩
  | .local _ .vmem, ⟨36, _⟩ => ⟨S8x128, .f32⟩
  | .local _ .vmem, ⟨37, _⟩ => ⟨S512x128, .f32⟩
  | .local _ .vmem, ⟨38, _⟩ => ⟨S512x128, .f32⟩
  | .local _ .vmem, ⟨39, _⟩ => ⟨S8x128x128, .bf16⟩
  | .local _ .vmem, ⟨40, _⟩ => ⟨S8x128x128, .f32⟩
  | .local _ .smem, ⟨0, _⟩ => ⟨S8, .f32⟩
  | _, _ => ⟨S1x4096x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .smem, ⟨0, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_v38 : Ref sig .tc := ⟨.hbm, 56, rfl⟩
abbrev main_v39 : Ref sig .tc := ⟨.hbm, 57, rfl⟩
abbrev main_c_6 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_7 : Ref sig .tc := ⟨.hbm, 62, rfl⟩
abbrev main_v43 : Ref sig .tc := ⟨.hbm, 63, rfl⟩
abbrev main_v44 : Ref sig .tc := ⟨.hbm, 64, rfl⟩
abbrev main_c_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_cst_11 : Ref sig .tc := ⟨.hbm, 75, rfl⟩
abbrev main_call1_v0 : Ref sig .tc := ⟨.hbm, 76, rfl⟩
abbrev main_call1_v1 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_v59 : Ref sig .tc := ⟨.hbm, 86, rfl⟩
abbrev main_v60 : Ref sig .tc := ⟨.hbm, 87, rfl⟩
abbrev main_cst_13 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_14 : Ref sig .tc := ⟨.hbm, 92, rfl⟩
abbrev main_v64 : Ref sig .tc := ⟨.hbm, 93, rfl⟩
abbrev main_v65 : Ref sig .tc := ⟨.hbm, 94, rfl⟩
abbrev main_cst_15 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_16 : Ref sig .tc := ⟨.hbm, 123, rfl⟩
abbrev main_v93 : Ref sig .tc := ⟨.hbm, 124, rfl⟩
abbrev main_v94 : Ref sig .tc := ⟨.hbm, 125, rfl⟩
abbrev main_cst_17 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_18 : Ref sig .tc := ⟨.hbm, 130, rfl⟩
abbrev main_v98 : Ref sig .tc := ⟨.hbm, 131, rfl⟩
abbrev main_v99 : Ref sig .tc := ⟨.hbm, 132, rfl⟩
abbrev main_cst_19 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_cst_20 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_cst_21 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_c_22 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_c_23 : Ref sig .tc := ⟨.hbm, 182, rfl⟩
abbrev main_v145 : Ref sig .tc := ⟨.hbm, 183, rfl⟩
abbrev main_v146 : Ref sig .tc := ⟨.hbm, 184, rfl⟩
abbrev main_c_24 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_c_25 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_c_26 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_c_27 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_cst_28 : Ref sig .tc := ⟨.hbm, 209, rfl⟩
abbrev main_call2_v0 : Ref sig .tc := ⟨.hbm, 210, rfl⟩
abbrev main_call2_v1 : Ref sig .tc := ⟨.hbm, 211, rfl⟩
abbrev main_call2_v2 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_cst_29 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_cst_30 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_c_31 : Ref sig .tc := ⟨.hbm, 233, rfl⟩
abbrev main_call3_v0 : Ref sig .tc := ⟨.hbm, 234, rfl⟩
abbrev main_v185 : Ref sig .tc := ⟨.hbm, 235, rfl⟩
abbrev main_v186 : Ref sig .tc := ⟨.hbm, 236, rfl⟩
abbrev main_v187_0 : Ref sig .tc := ⟨.hbm, 237, rfl⟩
abbrev main_v187_1 : Ref sig .tc := ⟨.hbm, 238, rfl⟩
abbrev main_v187_2 : Ref sig .tc := ⟨.hbm, 239, rfl⟩
abbrev main_v187_3 : Ref sig .tc := ⟨.hbm, 240, rfl⟩
abbrev main_v187_4 : Ref sig .tc := ⟨.hbm, 241, rfl⟩
abbrev main_v187_5 : Ref sig .tc := ⟨.hbm, 242, rfl⟩
abbrev main_v187_6 : Ref sig .tc := ⟨.hbm, 243, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg21_0 : Ref sig .tc := ⟨.vmem, 34, rfl⟩
abbrev cc0_stg22_0 : Ref sig .tc := ⟨.vmem, 35, rfl⟩
abbrev cc0_stg23_0 : Ref sig .tc := ⟨.vmem, 36, rfl⟩
abbrev cc0_scratch0 : Ref sig .tc := ⟨.vmem, 37, rfl⟩
abbrev cc0_scratch1 : Ref sig .tc := ⟨.vmem, 38, rfl⟩
abbrev cc0_scratch2 : Ref sig .tc := ⟨.vmem, 39, rfl⟩
abbrev cc0_scratch3 : Ref sig .tc := ⟨.vmem, 40, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem21_0 : DmaSem sig := 35
abbrev cc0_sem22_0 : DmaSem sig := 36
abbrev cc0_sem23_0 : DmaSem sig := 37

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let arg0 : BitVec 32 := BitVec.ofNat 32 (i 0).val
  let c1_i32 : BitVec 32 := 1#32
  let v745 : BitVec 32 := Scalar.minsi arg0 c1_i32
  let v746 : Index := Scalar.indexCast v745
  let c0_448 : Index := 0#32
  let c0_449 : Index := 0#32
  ![v746.toNat, 0, 0]
def k0_cond3 (i : grid0.Coords) : BitVec 1 :=
  let arg0 : BitVec 32 := BitVec.ofNat 32 (i 0).val
  let c15_i32 : BitVec 32 := 15#32
  let v1264 : BitVec 1 := Scalar.cmpi .eq arg0 c15_i32
  let v1265 : BitVec 32 := Scalar.extui v1264
  let c0_i32_593 : BitVec 32 := 0#32
  let v1266 : BitVec 1 := Scalar.cmpi .ne v1265 c0_i32_593
  v1266

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c1_i32 : BitVec 32 := 1#32
  let c0_i32 : BitVec 32 := 0#32
  ![c1_i32.toNat, arg0.toNat]

def cc0_transform_4 (i : grid0.Coords) : Fin 2 → Nat :=
  let arg0 : BitVec 32 := BitVec.ofNat 32 (i 0).val
  let c2_i32 : BitVec 32 := 2#32
  let c0_i32 : BitVec 32 := 0#32
  ![c2_i32.toNat, arg0.toNat]

def cc0_transform_5 (i : grid0.Coords) : Fin 2 → Nat :=
  let arg0 : BitVec 32 := BitVec.ofNat 32 (i 0).val
  let c6_i32 : BitVec 32 := 6#32
  let c0_i32 : BitVec 32 := 0#32
  ![c6_i32.toNat, arg0.toNat]

def cc0_transform_6 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![c6_i32.toNat, v2.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat]

def cc0_transform_10 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c16_i32 : BitVec 32 := 16#32
  let v0 : BitVec 32 := Scalar.addi arg0 c16_i32
  let c1_i32 : BitVec 32 := 1#32
  let v1 : BitVec 32 := Scalar.subi v0 c1_i32
  let c16_i32_0 : BitVec 32 := 16#32
  let c0_i32 : BitVec 32 := 0#32
  let v2 : BitVec 1 := Scalar.cmpi .eq c16_i32_0 c0_i32
  let c1_i32_1 : BitVec 32 := 1#32
  let v3 : BitVec 32 := Scalar.select v2 c1_i32_1 c16_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![c0_i32_5.toNat, v11.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x256x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S8x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1536x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S8x128x128 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S8x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S8x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S8x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== MixRefIdeal.lean ====
abbrev S1x4096x1792 : Shape := ⟨3, ![1, 4096, 1792]⟩
abbrev S1x4096 : Shape := ⟨2, ![1, 4096]⟩
abbrev S1x512 : Shape := ⟨2, ![1, 512]⟩
abbrev S1x8x128x128 : Shape := ⟨4, ![1, 8, 128, 128]⟩
abbrev S1x8x128 : Shape := ⟨3, ![1, 8, 128]⟩
abbrev S1x8 : Shape := ⟨2, ![1, 8]⟩
abbrev S1x4096x1024 : Shape := ⟨3, ![1, 4096, 1024]⟩
abbrev S1x4096x512 : Shape := ⟨3, ![1, 4096, 512]⟩
abbrev S512 : Shape := ⟨1, ![512]⟩
abbrev S8x128x128 : Shape := ⟨3, ![8, 128, 128]⟩
abbrev S8x128 : Shape := ⟨2, ![8, 128]⟩
abbrev S_ : Shape := ⟨0, ![]⟩
abbrev S1x4096x1 : Shape := ⟨3, ![1, 4096, 1]⟩
abbrev S1x1x512 : Shape := ⟨3, ![1, 1, 512]⟩
abbrev S1x32x128x8x64 : Shape := ⟨5, ![1, 32, 128, 8, 64]⟩
abbrev S128x128 : Shape := ⟨2, ![128, 128]⟩
abbrev S1x128x128 : Shape := ⟨3, ![1, 128, 128]⟩
abbrev S8x1x32x64x128 : Shape := ⟨5, ![8, 1, 32, 64, 128]⟩
abbrev S128x8 : Shape := ⟨2, ![128, 8]⟩
abbrev S1x1x128x8x1 : Shape := ⟨5, ![1, 1, 128, 8, 1]⟩
abbrev S1x128x8 : Shape := ⟨3, ![1, 128, 8]⟩
abbrev S6x512 : Shape := ⟨2, ![6, 512]⟩
abbrev S8x512 : Shape := ⟨2, ![8, 512]⟩

abbrev nBuf : Space → Nat
  | .hbm => 138
  | .vmem => 0
  | .smem => 0
  | _ => 0

abbrev hbmTy0_0 (i : Nat) : BufTy := match i % 128 with
  | 0 => ⟨S1x4096x1792, .f32⟩
  | 1 => ⟨S1x4096, .i32⟩
  | 2 => ⟨S1x512, .f32⟩
  | 3 => ⟨S1x512, .f32⟩
  | 4 => ⟨S1x8x128x128, .f32⟩
  | 5 => ⟨S1x8x128, .f32⟩
  | 6 => ⟨S1x8, .f32⟩
  | 7 => ⟨S1x4096x1024, .f32⟩
  | 8 => ⟨S1x4096x512, .f32⟩
  | 9 => ⟨S1x4096x512, .f32⟩
  | 10 => ⟨S512, .f32⟩
  | 11 => ⟨S512, .f32⟩
  | 12 => ⟨S8x128x128, .f32⟩
  | 13 => ⟨S8x128, .f32⟩
  | 14 => ⟨S1x4096x512, .f32⟩
  | 15 => ⟨S1x4096x512, .f32⟩
  | 16 => ⟨S_, .f32⟩
  | 17 => ⟨S1x4096x512, .f32⟩
  | 18 => ⟨S1x4096x512, .f32⟩
  | 19 => ⟨S1x4096x512, .f32⟩
  | 20 => ⟨S_, .f32⟩
  | 21 => ⟨S1x4096x512, .f32⟩
  | 22 => ⟨S1x4096x512, .f32⟩
  | 23 => ⟨S1x4096x512, .f32⟩
  | 24 => ⟨S_, .f32⟩
  | 25 => ⟨S1x4096x512, .f32⟩
  | 26 => ⟨S1x4096x512, .f32⟩
  | 27 => ⟨S_, .f32⟩
  | 28 => ⟨S1x4096x512, .f32⟩
  | 29 => ⟨S1x4096x512, .f32⟩
  | 30 => ⟨S1x4096x512, .f32⟩
  | 31 => ⟨S1x4096x512, .f32⟩
  | 32 => ⟨S1x4096x512, .f32⟩
  | 33 => ⟨S_, .f32⟩
  | 34 => ⟨S1x4096x512, .f32⟩
  | 35 => ⟨S1x4096x512, .f32⟩
  | 36 => ⟨S1x4096x512, .f32⟩
  | 37 => ⟨S_, .f32⟩
  | 38 => ⟨S1x4096x512, .f32⟩
  | 39 => ⟨S1x4096x512, .f32⟩
  | 40 => ⟨S1x4096x512, .f32⟩
  | 41 => ⟨S_, .f32⟩
  | 42 => ⟨S1x4096x512, .f32⟩
  | 43 => ⟨S1x4096x512, .f32⟩
  | 44 => ⟨S_, .f32⟩
  | 45 => ⟨S1x4096x512, .f32⟩
  | 46 => ⟨S1x4096x512, .f32⟩
  | 47 => ⟨S1x4096x512, .f32⟩
  | 48 => ⟨S_, .f32⟩
  | 49 => ⟨S1x4096, .f32⟩
  | 50 => ⟨S1x4096x1, .f32⟩
  | 51 => ⟨S_, .f32⟩
  | 52 => ⟨S1x4096x1, .f32⟩
  | 53 => ⟨S1x4096x1, .f32⟩
  | 54 => ⟨S1x4096x512, .f32⟩
  | 55 => ⟨S1x4096x512, .f32⟩
  | 56 => ⟨S1x4096x512, .f32⟩
  | 57 => ⟨S_, .f32⟩
  | 58 => ⟨S1x4096, .f32⟩
  | 59 => ⟨S1x4096x1, .f32⟩
  | 60 => ⟨S_, .f32⟩
  | 61 => ⟨S1x4096x1, .f32⟩
  | 62 => ⟨S1x4096x1, .f32⟩
  | 63 => ⟨S1x4096x512, .f32⟩
  | 64 => ⟨S1x4096x512, .f32⟩
  | 65 => ⟨S_, .f32⟩
  | 66 => ⟨S1x4096x1, .f32⟩
  | 67 => ⟨S1x4096x1, .f32⟩
  | 68 => ⟨S1x4096x1, .f32⟩
  | 69 => ⟨S1x4096x512, .f32⟩
  | 70 => ⟨S1x4096x512, .f32⟩
  | 71 => ⟨S1x1x512, .f32⟩
  | 72 => ⟨S1x4096x512, .f32⟩
  | 73 => ⟨S1x4096x512, .f32⟩
  | 74 => ⟨S1x1x512, .f32⟩
  | 75 => ⟨S1x4096x512, .f32⟩
  | 76 => ⟨S1x4096x512, .f32⟩
  | 77 => ⟨S1x32x128x8x64, .f32⟩
  | 78 => ⟨S_, .f32⟩
  | 79 => ⟨S128x128, .f32⟩
  | 80 => ⟨S128x128, .i32⟩
  | 81 => ⟨S_, .i32⟩
  | 82 => ⟨S128x128, .i32⟩
  | 83 => ⟨S128x128, .i32⟩
  | 84 => ⟨S128x128, .i32⟩
  | 85 => ⟨S128x128, .i1⟩
  | 86 => ⟨S_, .f32⟩
  | 87 => ⟨S128x128, .f32⟩
  | 88 => ⟨S128x128, .f32⟩
  | 89 => ⟨S1x128x128, .f32⟩
  | 90 => ⟨S8x128x128, .f32⟩
  | 91 => ⟨S8x128x128, .f32⟩
  | 92 => ⟨S8x1x32x64x128, .f32⟩
  | 93 => ⟨S1x32x128x8x64, .f32⟩
  | 94 => ⟨S128x8, .f32⟩
  | 95 => ⟨S1x1x128x8x1, .f32⟩
  | 96 => ⟨S1x32x128x8x64, .f32⟩
  | 97 => ⟨S1x32x128x8x64, .f32⟩
  | 98 => ⟨S1x32x128x8x64, .f32⟩
  | 99 => ⟨S1x32x128x8x64, .f32⟩
  | 100 => ⟨S1x4096x512, .f32⟩
  | 101 => ⟨S1x4096x512, .f32⟩
  | 102 => ⟨S1x32x128x8x64, .f32⟩
  | 103 => ⟨S1x32x128x8x64, .f32⟩
  | 104 => ⟨S_, .f32⟩
  | 105 => ⟨S1x128x8, .f32⟩
  | 106 => ⟨S1x1x128x8x1, .f32⟩
  | 107 => ⟨S_, .f32⟩
  | 108 => ⟨S128x8, .f32⟩
  | 109 => ⟨S8x128, .f32⟩
  | 110 => ⟨S8x1x32x64x128, .f32⟩
  | 111 => ⟨S8x128x128, .f32⟩
  | 112 => ⟨S8x1x32x64x128, .f32⟩
  | 113 => ⟨S1x32x128x8x64, .f32⟩
  | 114 => ⟨S8x128x128, .f32⟩
  | 115 => ⟨S8x128x128, .f32⟩
  | 116 => ⟨S1x4096x512, .f32⟩
  | 117 => ⟨S_, .f32⟩
  | 118 => ⟨S1x512, .f32⟩
  | 119 => ⟨S1x1x512, .f32⟩
  | 120 => ⟨S_, .f32⟩
  | 121 => ⟨S512, .f32⟩
  | 122 => ⟨S1x4096x512, .f32⟩
  | 123 => ⟨S_, .f32⟩
  | 124 => ⟨S1x512, .f32⟩
  | 125 => ⟨S1x1x512, .f32⟩
  | 126 => ⟨S_, .f32⟩
  | 127 => ⟨S512, .f32⟩
  | _ => ⟨S1x4096x1792, .f32⟩

abbrev hbmTy0_1 (i : Nat) : BufTy := match i % 128 with
  | 0 => ⟨S1x8x128, .f32⟩
  | 1 => ⟨S1x8x128x128, .f32⟩
  | 2 => ⟨S1x512, .f32⟩
  | 3 => ⟨S1x512, .f32⟩
  | 4 => ⟨S8x128x128, .f32⟩
  | 5 => ⟨S8x128x128, .bf16⟩
  | 6 => ⟨S8x128, .f32⟩
  | 7 => ⟨S_, .f32⟩
  | 8 => ⟨S6x512, .f32⟩
  | 9 => ⟨S8x512, .f32⟩
  | _ => ⟨S1x4096x1792, .f32⟩

abbrev hbmTy (i : Nat) : BufTy := match i / 128 with
  | 0 => hbmTy0_0 i
  | 1 => hbmTy0_1 i
  | _ => ⟨S1x4096x1792, .f32⟩

abbrev bufTy : (tb : Table) → Fin (tcTables nBuf tb) → BufTy
  | .hbm, ⟨i, _⟩ => hbmTy i
  | _, _ => ⟨S1x4096x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_cst_10 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_11 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_12 : Ref sig .tc := ⟨.hbm, 78, rfl⟩
abbrev main_v57 : Ref sig .tc := ⟨.hbm, 79, rfl⟩
abbrev main_call0_v0 : Ref sig .tc := ⟨.hbm, 80, rfl⟩
abbrev main_call0_c : Ref sig .tc := ⟨.hbm, 81, rfl⟩
abbrev main_call0_v1 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_cst : Ref sig .tc := ⟨.hbm, 86, rfl⟩
abbrev main_call0_v5 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_13 : Ref sig .tc := ⟨.hbm, 104, rfl⟩
abbrev main_v74 : Ref sig .tc := ⟨.hbm, 105, rfl⟩
abbrev main_v75 : Ref sig .tc := ⟨.hbm, 106, rfl⟩
abbrev main_cst_14 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_15 : Ref sig .tc := ⟨.hbm, 117, rfl⟩
abbrev main_v85 : Ref sig .tc := ⟨.hbm, 118, rfl⟩
abbrev main_v86 : Ref sig .tc := ⟨.hbm, 119, rfl⟩
abbrev main_cst_16 : Ref sig .tc := ⟨.hbm, 120, rfl⟩
abbrev main_v87 : Ref sig .tc := ⟨.hbm, 121, rfl⟩
abbrev main_v88 : Ref sig .tc := ⟨.hbm, 122, rfl⟩
abbrev main_cst_17 : Ref sig .tc := ⟨.hbm, 123, rfl⟩
abbrev main_v89 : Ref sig .tc := ⟨.hbm, 124, rfl⟩
abbrev main_v90 : Ref sig .tc := ⟨.hbm, 125, rfl⟩
abbrev main_cst_18 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_19 : Ref sig .tc := ⟨.hbm, 135, rfl⟩
abbrev main_v99 : Ref sig .tc := ⟨.hbm, 136, rfl⟩
abbrev main_v100 : Ref sig .tc := ⟨.hbm, 137, rfl⟩

abbrev nD : Nat := 1
abbrev τ : Topo := Topo.v7x

variable {F : FTy → Type} [FloatOps F]
-- ==== Fwd.lean ====
abbrev S1x4096x1792 : Shape := ⟨3, ![1, 4096, 1792]⟩
abbrev S1x4096 : Shape := ⟨2, ![1, 4096]⟩
abbrev S1x512 : Shape := ⟨2, ![1, 512]⟩
abbrev S1x8x128x128 : Shape := ⟨4, ![1, 8, 128, 128]⟩
abbrev S1x8x128 : Shape := ⟨3, ![1, 8, 128]⟩
abbrev S1x8 : Shape := ⟨2, ![1, 8]⟩
abbrev S32 : Shape := ⟨1, ![32]⟩
abbrev S_ : Shape := ⟨0, ![]⟩
abbrev S1x32 : Shape := ⟨2, ![1, 32]⟩
abbrev S2x32 : Shape := ⟨2, ![2, 32]⟩
abbrev S64 : Shape := ⟨1, ![64]⟩
abbrev S64x1 : Shape := ⟨2, ![64, 1]⟩
abbrev S64x4096 : Shape := ⟨2, ![64, 4096]⟩
abbrev S4096x1792 : Shape := ⟨2, ![4096, 1792]⟩
abbrev S1792x4096 : Shape := ⟨2, ![1792, 4096]⟩
abbrev S8x128x128 : Shape := ⟨3, ![8, 128, 128]⟩
abbrev S8x128 : Shape := ⟨2, ![8, 128]⟩
abbrev S512x1 : Shape := ⟨2, ![512, 1]⟩
abbrev S8 : Shape := ⟨1, ![8]⟩
abbrev S2x256x128 : Shape := ⟨3, ![2, 256, 128]⟩
abbrev S1024x4096 : Shape := ⟨2, ![1024, 4096]⟩
abbrev S128x512 : Shape := ⟨2, ![128, 512]⟩
abbrev S512x256 : Shape := ⟨2, ![512, 256]⟩
abbrev S256x256 : Shape := ⟨2, ![256, 256]⟩
abbrev S256x128 : Shape := ⟨2, ![256, 128]⟩
abbrev S64x256 : Shape := ⟨2, ![64, 256]⟩
abbrev S64x128 : Shape := ⟨2, ![64, 128]⟩
abbrev S1024x256 : Shape := ⟨2, ![1024, 256]⟩
abbrev S8x512 : Shape := ⟨2, ![8, 512]⟩
abbrev S128x128 : Shape := ⟨2, ![128, 128]⟩
abbrev S1x128x128 : Shape := ⟨3, ![1, 128, 128]⟩
abbrev S256 : Shape := ⟨1, ![256]⟩
abbrev S1x256 : Shape := ⟨2, ![1, 256]⟩
abbrev S1x128 : Shape := ⟨2, ![1, 128]⟩
abbrev S32x256 : Shape := ⟨2, ![32, 256]⟩
abbrev S1 : Shape := ⟨1, ![1]⟩
abbrev S1x256x128 : Shape := ⟨3, ![1, 256, 128]⟩
abbrev S32x128 : Shape := ⟨2, ![32, 128]⟩
abbrev S128x256 : Shape := ⟨2, ![128, 256]⟩
abbrev S256x512 : Shape := ⟨2, ![256, 512]⟩
abbrev S64x512 : Shape := ⟨2, ![64, 512]⟩
abbrev S512 : Shape := ⟨1, ![512]⟩

abbrev nBuf : Space → Nat
  | .hbm => 79
  | .vmem => 28
  | .smem => 1
  | _ => 0

abbrev bufTy : (tb : Table) → Fin (tcTables nBuf tb) → BufTy
  | .hbm, ⟨0, _⟩ => ⟨S1x4096x1792, .f32⟩
  | .hbm, ⟨1, _⟩ => ⟨S1x4096, .i32⟩
  | .hbm, ⟨2, _⟩ => ⟨S1x512, .f32⟩
  | .hbm, ⟨3, _⟩ => ⟨S1x512, .f32⟩
  | .hbm, ⟨4, _⟩ => ⟨S1x8x128x128, .f32⟩
  | .hbm, ⟨5, _⟩ => ⟨S1x8x128, .f32⟩
  | .hbm, ⟨6, _⟩ => ⟨S1x8, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S1x4096, .f32⟩
  | .hbm, ⟨22, _⟩ => ⟨S1x32, .f32⟩
  | .hbm, ⟨23, _⟩ => ⟨S2x32, .f32⟩
  | .hbm, ⟨24, _⟩ => ⟨S64, .f32⟩
  | .hbm, ⟨25, _⟩ => ⟨S64x1, .f32⟩
  | .hbm, ⟨26, _⟩ => ⟨S64x4096, .f32⟩
  | .hbm, ⟨27, _⟩ => ⟨S64x4096, .f32⟩
  | .hbm, ⟨28, _⟩ => ⟨S64x4096, .f32⟩
  | .hbm, ⟨29, _⟩ => ⟨S64x4096, .i32⟩
  | .hbm, ⟨30, _⟩ => ⟨S64x4096, .f32⟩
  | .hbm, ⟨31, _⟩ => ⟨S64x4096, .f32⟩
  | .hbm, ⟨32, _⟩ => ⟨S_, .i32⟩
  | .hbm, ⟨33, _⟩ => ⟨S64x4096, .i32⟩
  | .hbm, ⟨34, _⟩ => ⟨S64x4096, .i1⟩
  | .hbm, ⟨35, _⟩ => ⟨S_, .f32⟩
  | .hbm, ⟨36, _⟩ => ⟨S_, .f32⟩
  | .hbm, ⟨37, _⟩ => ⟨S64x4096, .f32⟩
  | .hbm, ⟨38, _⟩ => ⟨S64x4096, .f32⟩
  | .hbm, ⟨39, _⟩ => ⟨S64x4096, .f32⟩
  | .hbm, ⟨40, _⟩ => ⟨S64x4096, .f32⟩
  | .hbm, ⟨41, _⟩ => ⟨S64x4096, .f32⟩
  | .hbm, ⟨42, _⟩ => ⟨S4096x1792, .f32⟩
  | .hbm, ⟨43, _⟩ => ⟨S1792x4096, .f32⟩
  | .hbm, ⟨44, _⟩ => ⟨S8x128x128, .f32⟩
  | .hbm, ⟨45, _⟩ => ⟨S8x128, .f32⟩
  | .hbm, ⟨46, _⟩ => ⟨S512x1, .f32⟩
  | .hbm, ⟨47, _⟩ => ⟨S512x1, .f32⟩
  | .hbm, ⟨48, _⟩ => ⟨S8, .f32⟩
  | .hbm, ⟨49, _⟩ => ⟨S2x256x128, .i32⟩
  | .hbm, ⟨50, _⟩ => ⟨S2x256x128, .i32⟩
  | .hbm, ⟨51, _⟩ => ⟨S2x256x128, .i32⟩
  | .hbm, ⟨52, _⟩ => ⟨S_, .i32⟩
  | .hbm, ⟨53, _⟩ => ⟨S2x256x128, .i32⟩
  | .hbm, ⟨54, _⟩ => ⟨S2x256x128, .i1⟩
  | .hbm, ⟨55, _⟩ => ⟨S_, .i32⟩
  | .hbm, ⟨56, _⟩ => ⟨S2x256x128, .i32⟩
  | .hbm, ⟨57, _⟩ => ⟨S2x256x128, .i32⟩
  | .hbm, ⟨58, _⟩ => ⟨S2x256x128, .i32⟩
  | .hbm, ⟨59, _⟩ => ⟨S_, .i32⟩
  | .hbm, ⟨60, _⟩ => ⟨S2x256x128, .i32⟩
  | .hbm, ⟨61, _⟩ => ⟨S2x256x128, .i1⟩
  | .hbm, ⟨62, _⟩ => ⟨S_, .i32⟩
  | .hbm, ⟨63, _⟩ => ⟨S2x256x128, .i32⟩
  | .hbm, ⟨64, _⟩ => ⟨S2x256x128, .i1⟩
  | .hbm, ⟨65, _⟩ => ⟨S2x256x128, .i1⟩
  | .hbm, ⟨66, _⟩ => ⟨S_, .i32⟩
  | .hbm, ⟨67, _⟩ => ⟨S2x256x128, .i32⟩
  | .hbm, ⟨68, _⟩ => ⟨S2x256x128, .i1⟩
  | .hbm, ⟨69, _⟩ => ⟨S2x256x128, .i1⟩
  | .hbm, ⟨70, _⟩ => ⟨S2x256x128, .i1⟩
  | .hbm, ⟨71, _⟩ => ⟨S_, .f32⟩
  | .hbm, ⟨72, _⟩ => ⟨S_, .f32⟩
  | .hbm, ⟨73, _⟩ => ⟨S2x256x128, .f32⟩
  | .hbm, ⟨74, _⟩ => ⟨S2x256x128, .f32⟩
  | .hbm, ⟨75, _⟩ => ⟨S2x256x128, .f32⟩
  | .hbm, ⟨76, _⟩ => ⟨S2x256x128, .f32⟩
  | .hbm, ⟨77, _⟩ => ⟨S1024x4096, .bf16⟩
  | .hbm, ⟨78, _⟩ => ⟨S128x512, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S256x256, .f32⟩
  | .local _ .vmem, ⟨7, _⟩ => ⟨S256x256, .f32⟩
  | .local _ .vmem, ⟨8, _⟩ => ⟨S256x128, .f32⟩
  | .local _ .vmem, ⟨9, _⟩ => ⟨S256x128, .f32⟩
  | .local _ .vmem, ⟨10, _⟩ => ⟨S64x256, .f32⟩
  | .local _ .vmem, ⟨11, _⟩ => ⟨S64x256, .f32⟩
  | .local _ .vmem, ⟨12, _⟩ => ⟨S64x256, .f32⟩
  | .local _ .vmem, ⟨13, _⟩ => ⟨S64x256, .f32⟩
  | .local _ .vmem, ⟨14, _⟩ => ⟨S64x128, .f32⟩
  | .local _ .vmem, ⟨15, _⟩ => ⟨S64x128, .f32⟩
  | .local _ .vmem, ⟨16, _⟩ => ⟨S64x128, .f32⟩
  | .local _ .vmem, ⟨17, _⟩ => ⟨S64x128, .f32⟩
  | .local _ .vmem, ⟨18, _⟩ => ⟨S8x128x128, .f32⟩
  | .local _ .vmem, ⟨19, _⟩ => ⟨S8x128, .f32⟩
  | .local _ .vmem, ⟨20, _⟩ => ⟨S512x1, .f32⟩
  | .local _ .vmem, ⟨21, _⟩ => ⟨S512x1, .f32⟩
  | .local _ .vmem, ⟨22, _⟩ => ⟨S2x256x128, .f32⟩
  | .local _ .vmem, ⟨23, _⟩ => ⟨S1024x256, .bf16⟩
  | .local _ .vmem, ⟨24, _⟩ => ⟨S1024x256, .bf16⟩
  | .local _ .vmem, ⟨25, _⟩ => ⟨S8x512, .f32⟩
  | .local _ .vmem, ⟨26, _⟩ => ⟨S8x512, .f32⟩
  | .local _ .vmem, ⟨27, _⟩ => ⟨S8x128x128, .bf16⟩
  | .local _ .smem, ⟨0, _⟩ => ⟨S8, .f32⟩
  | _, _ => ⟨S1x4096x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_5 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_7 : Ref sig .tc := ⟨.hbm, 59, rfl⟩
abbrev main_v41 : Ref sig .tc := ⟨.hbm, 60, rfl⟩
abbrev main_v42 : Ref sig .tc := ⟨.hbm, 61, rfl⟩
abbrev main_c_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_cst_11 : Ref sig .tc := ⟨.hbm, 72, rfl⟩
abbrev main_call1_v0 : Ref sig .tc := ⟨.hbm, 73, rfl⟩
abbrev main_call1_v1 : Ref sig .tc := ⟨.hbm, 74, rfl⟩
abbrev main_v50 : Ref sig .tc := ⟨.hbm, 75, rfl⟩
abbrev main_v51 : Ref sig .tc := ⟨.hbm, 76, rfl⟩
abbrev main_v52_0 : Ref sig .tc := ⟨.hbm, 77, rfl⟩
abbrev main_v52_1 : Ref sig .tc := ⟨.hbm, 78, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_scratch0 : Ref sig .tc := ⟨.vmem, 27, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let arg0 : BitVec 32 := BitVec.ofNat 32 (i 0).val
  let c1_i32 : BitVec 32 := 1#32
  let v344 : BitVec 32 := Scalar.minsi arg0 c1_i32
  let v345 : Index := Scalar.indexCast v344
  let c0_160 : Index := 0#32
  let c0_161 : Index := 0#32
  ![v345.toNat, 0, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c1_i32 : BitVec 32 := 1#32
  let c0_i32 : BitVec 32 := 0#32
  ![c1_i32.toNat, arg0.toNat]

def cc0_transform_3 (i : grid0.Coords) : Fin 2 → Nat :=
  let arg0 : BitVec 32 := BitVec.ofNat 32 (i 0).val
  let c2_i32 : BitVec 32 := 2#32
  let c0_i32 : BitVec 32 := 0#32
  ![c2_i32.toNat, arg0.toNat]

def cc0_transform_4 (i : grid0.Coords) : Fin 2 → Nat :=
  let arg0 : BitVec 32 := BitVec.ofNat 32 (i 0).val
  let c6_i32 : BitVec 32 := 6#32
  let c0_i32 : BitVec 32 := 0#32
  ![c6_i32.toNat, arg0.toNat]

def cc0_transform_5 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![c6_i32.toNat, v2.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat]

def cc0_transform_9 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x256x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1024x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== FwdRefIdeal.lean ====
abbrev S1x4096x1792 : Shape := ⟨3, ![1, 4096, 1792]⟩
abbrev S1x4096 : Shape := ⟨2, ![1, 4096]⟩
abbrev S1x512 : Shape := ⟨2, ![1, 512]⟩
abbrev S1x8x128x128 : Shape := ⟨4, ![1, 8, 128, 128]⟩
abbrev S1x8x128 : Shape := ⟨3, ![1, 8, 128]⟩
abbrev S1x8 : Shape := ⟨2, ![1, 8]⟩
abbrev S1x4096x512 : Shape := ⟨3, ![1, 4096, 512]⟩
abbrev S1x4096x128 : Shape := ⟨3, ![1, 4096, 128]⟩
abbrev S512 : Shape := ⟨1, ![512]⟩
abbrev S8x128x128 : Shape := ⟨3, ![8, 128, 128]⟩
abbrev S8x128 : Shape := ⟨2, ![8, 128]⟩
abbrev S_ : Shape := ⟨0, ![]⟩
abbrev S1x4096x1 : Shape := ⟨3, ![1, 4096, 1]⟩
abbrev S1x1x512 : Shape := ⟨3, ![1, 1, 512]⟩
abbrev S1x32x128x8x64 : Shape := ⟨5, ![1, 32, 128, 8, 64]⟩
abbrev S128x128 : Shape := ⟨2, ![128, 128]⟩
abbrev S1x128x128 : Shape := ⟨3, ![1, 128, 128]⟩
abbrev S8x1x32x64x128 : Shape := ⟨5, ![8, 1, 32, 64, 128]⟩
abbrev S128x8 : Shape := ⟨2, ![128, 8]⟩
abbrev S1x1x128x8x1 : Shape := ⟨5, ![1, 1, 128, 8, 1]⟩
abbrev S8 : Shape := ⟨1, ![8]⟩
abbrev S1x4096x8x64 : Shape := ⟨4, ![1, 4096, 8, 64]⟩
abbrev S32 : Shape := ⟨1, ![32]⟩
abbrev S1x1x32 : Shape := ⟨3, ![1, 1, 32]⟩
abbrev S1x4096x32 : Shape := ⟨3, ![1, 4096, 32]⟩
abbrev S1x4096x1x32 : Shape := ⟨4, ![1, 4096, 1, 32]⟩
abbrev S1x4096x8x32 : Shape := ⟨4, ![1, 4096, 8, 32]⟩
abbrev S1x4096x2x64 : Shape := ⟨4, ![1, 4096, 2, 64]⟩
abbrev S1x4096x2x32 : Shape := ⟨4, ![1, 4096, 2, 32]⟩
abbrev S1x32x128x2x4x64 : Shape := ⟨6, ![1, 32, 128, 2, 4, 64]⟩
abbrev S1x32x128x2x64 : Shape := ⟨5, ![1, 32, 128, 2, 64]⟩
abbrev S1x1x128x2x64 : Shape := ⟨5, ![1, 1, 128, 2, 64]⟩
abbrev S1x31x128x2x64 : Shape := ⟨5, ![1, 31, 128, 2, 64]⟩
abbrev S1x32x256x2x64 : Shape := ⟨5, ![1, 32, 256, 2, 64]⟩
abbrev S1x32x2x256x128x4 : Shape := ⟨6, ![1, 32, 2, 256, 128, 4]⟩
abbrev S1x32x2x4x128x256 : Shape := ⟨6, ![1, 32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S2x4 : Shape := ⟨2, ![2, 4]⟩
abbrev S1x1x2x4x1x1 : Shape := ⟨6, ![1, 1, 2, 4, 1, 1]⟩
abbrev S1x32x2x4x128x1 : Shape := ⟨6, ![1, 32, 2, 4, 128, 1]⟩
abbrev S1x32x2x4x128x257 : Shape := ⟨6, ![1, 32, 2, 4, 128, 257]⟩
abbrev S1x32x2x4x128 : Shape := ⟨5, ![1, 32, 2, 4, 128]⟩
abbrev S1x32x2x64x4x128 : Shape := ⟨6, ![1, 32, 2, 64, 4, 128]⟩
abbrev S16x4x512 : Shape := ⟨3, ![16, 4, 512]⟩
abbrev S16x8x512 : Shape := ⟨3, ![16, 8, 512]⟩
abbrev S128x512 : Shape := ⟨2, ![128, 512]⟩
abbrev S1x4096x1024 : Shape := ⟨3, ![1, 4096, 1024]⟩
abbrev S4096x1024 : Shape := ⟨2, ![4096, 1024]⟩
abbrev S1024x4096 : Shape := ⟨2, ![1024, 4096]⟩

abbrev nBuf : Space → Nat
  | .hbm => 284
  | .vmem => 0
  | .smem => 0
  | _ => 0

abbrev hbmTy0_0 (i : Nat) : BufTy := match i % 128 with
  | 0 => ⟨S1x4096x1792, .f32⟩
  | 1 => ⟨S1x4096, .i32⟩
  | 2 => ⟨S1x512, .f32⟩
  | 3 => ⟨S1x512, .f32⟩
  | 4 => ⟨S1x8x128x128, .f32⟩
  | 5 => ⟨S1x8x128, .f32⟩
  | 6 => ⟨S1x8, .f32⟩
  | 7 => ⟨S1x4096x512, .f32⟩
  | 8 => ⟨S1x4096x512, .f32⟩
  | 9 => ⟨S1x4096x512, .f32⟩
  | 10 => ⟨S1x4096x128, .f32⟩
  | 11 => ⟨S1x4096x128, .f32⟩
  | 12 => ⟨S512, .f32⟩
  | 13 => ⟨S512, .f32⟩
  | 14 => ⟨S8x128x128, .f32⟩
  | 15 => ⟨S8x128, .f32⟩
  | 16 => ⟨S1x4096x512, .f32⟩
  | 17 => ⟨S1x4096x512, .f32⟩
  | 18 => ⟨S_, .f32⟩
  | 19 => ⟨S1x4096x512, .f32⟩
  | 20 => ⟨S1x4096x512, .f32⟩
  | 21 => ⟨S1x4096x512, .f32⟩
  | 22 => ⟨S_, .f32⟩
  | 23 => ⟨S1x4096x512, .f32⟩
  | 24 => ⟨S1x4096x512, .f32⟩
  | 25 => ⟨S1x4096x512, .f32⟩
  | 26 => ⟨S_, .f32⟩
  | 27 => ⟨S1x4096x512, .f32⟩
  | 28 => ⟨S1x4096x512, .f32⟩
  | 29 => ⟨S_, .f32⟩
  | 30 => ⟨S1x4096x512, .f32⟩
  | 31 => ⟨S1x4096x512, .f32⟩
  | 32 => ⟨S1x4096x512, .f32⟩
  | 33 => ⟨S1x4096x512, .f32⟩
  | 34 => ⟨S1x4096x512, .f32⟩
  | 35 => ⟨S_, .f32⟩
  | 36 => ⟨S1x4096x512, .f32⟩
  | 37 => ⟨S1x4096x512, .f32⟩
  | 38 => ⟨S1x4096x512, .f32⟩
  | 39 => ⟨S_, .f32⟩
  | 40 => ⟨S1x4096x512, .f32⟩
  | 41 => ⟨S1x4096x512, .f32⟩
  | 42 => ⟨S1x4096x512, .f32⟩
  | 43 => ⟨S_, .f32⟩
  | 44 => ⟨S1x4096x512, .f32⟩
  | 45 => ⟨S1x4096x512, .f32⟩
  | 46 => ⟨S_, .f32⟩
  | 47 => ⟨S1x4096x512, .f32⟩
  | 48 => ⟨S1x4096x512, .f32⟩
  | 49 => ⟨S1x4096x512, .f32⟩
  | 50 => ⟨S_, .f32⟩
  | 51 => ⟨S1x4096, .f32⟩
  | 52 => ⟨S1x4096x1, .f32⟩
  | 53 => ⟨S_, .f32⟩
  | 54 => ⟨S1x4096x1, .f32⟩
  | 55 => ⟨S1x4096x1, .f32⟩
  | 56 => ⟨S1x4096x512, .f32⟩
  | 57 => ⟨S1x4096x512, .f32⟩
  | 58 => ⟨S1x4096x512, .f32⟩
  | 59 => ⟨S_, .f32⟩
  | 60 => ⟨S1x4096, .f32⟩
  | 61 => ⟨S1x4096x1, .f32⟩
  | 62 => ⟨S_, .f32⟩
  | 63 => ⟨S1x4096x1, .f32⟩
  | 64 => ⟨S1x4096x1, .f32⟩
  | 65 => ⟨S1x4096x512, .f32⟩
  | 66 => ⟨S1x4096x512, .f32⟩
  | 67 => ⟨S_, .f32⟩
  | 68 => ⟨S1x4096x1, .f32⟩
  | 69 => ⟨S1x4096x1, .f32⟩
  | 70 => ⟨S1x4096x1, .f32⟩
  | 71 => ⟨S1x4096x512, .f32⟩
  | 72 => ⟨S1x4096x512, .f32⟩
  | 73 => ⟨S1x1x512, .f32⟩
  | 74 => ⟨S1x4096x512, .f32⟩
  | 75 => ⟨S1x4096x512, .f32⟩
  | 76 => ⟨S1x1x512, .f32⟩
  | 77 => ⟨S1x4096x512, .f32⟩
  | 78 => ⟨S1x4096x512, .f32⟩
  | 79 => ⟨S1x32x128x8x64, .f32⟩
  | 80 => ⟨S_, .f32⟩
  | 81 => ⟨S128x128, .f32⟩
  | 82 => ⟨S128x128, .i32⟩
  | 83 => ⟨S_, .i32⟩
  | 84 => ⟨S128x128, .i32⟩
  | 85 => ⟨S128x128, .i32⟩
  | 86 => ⟨S128x128, .i32⟩
  | 87 => ⟨S128x128, .i1⟩
  | 88 => ⟨S_, .f32⟩
  | 89 => ⟨S128x128, .f32⟩
  | 90 => ⟨S128x128, .f32⟩
  | 91 => ⟨S1x128x128, .f32⟩
  | 92 => ⟨S8x128x128, .f32⟩
  | 93 => ⟨S8x128x128, .f32⟩
  | 94 => ⟨S8x1x32x64x128, .f32⟩
  | 95 => ⟨S1x32x128x8x64, .f32⟩
  | 96 => ⟨S128x8, .f32⟩
  | 97 => ⟨S1x1x128x8x1, .f32⟩
  | 98 => ⟨S1x32x128x8x64, .f32⟩
  | 99 => ⟨S1x32x128x8x64, .f32⟩
  | 100 => ⟨S1x32x128x8x64, .f32⟩
  | 101 => ⟨S1x32x128x8x64, .f32⟩
  | 102 => ⟨S1x4096x512, .f32⟩
  | 103 => ⟨S8, .f32⟩
  | 104 => ⟨S1x4096x8x64, .f32⟩
  | 105 => ⟨S32, .f32⟩
  | 106 => ⟨S_, .f32⟩
  | 107 => ⟨S32, .f32⟩
  | 108 => ⟨S32, .f32⟩
  | 109 => ⟨S_, .f32⟩
  | 110 => ⟨S32, .f32⟩
  | 111 => ⟨S32, .f32⟩
  | 112 => ⟨S32, .f32⟩
  | 113 => ⟨S_, .f32⟩
  | 114 => ⟨S32, .f32⟩
  | 115 => ⟨S32, .f32⟩
  | 116 => ⟨S_, .f32⟩
  | 117 => ⟨S32, .f32⟩
  | 118 => ⟨S32, .f32⟩
  | 119 => ⟨S1x4096, .f32⟩
  | 120 => ⟨S1x4096x1, .f32⟩
  | 121 => ⟨S1x1x32, .f32⟩
  | 122 => ⟨S1x4096x32, .f32⟩
  | 123 => ⟨S1x4096x32, .f32⟩
  | 124 => ⟨S1x4096x32, .f32⟩
  | 125 => ⟨S1x4096x32, .f32⟩
  | 126 => ⟨S1x4096x1x32, .f32⟩
  | 127 => ⟨S1x4096x32, .f32⟩
  | _ => ⟨S1x4096x1792, .f32⟩

abbrev hbmTy0_1 (i : Nat) : BufTy := match i % 128 with
  | 0 => ⟨S1x4096x1x32, .f32⟩
  | 1 => ⟨S1x4096x8x32, .f32⟩
  | 2 => ⟨S1x4096x8x32, .f32⟩
  | 3 => ⟨S1x4096x8x32, .f32⟩
  | 4 => ⟨S1x4096x8x32, .f32⟩
  | 5 => ⟨S1x4096x8x32, .f32⟩
  | 6 => ⟨S1x4096x8x32, .f32⟩
  | 7 => ⟨S1x4096x8x32, .f32⟩
  | 8 => ⟨S1x4096x8x32, .f32⟩
  | 9 => ⟨S1x4096x8x32, .f32⟩
  | 10 => ⟨S1x4096x8x32, .f32⟩
  | 11 => ⟨S1x4096x8x32, .f32⟩
  | 12 => ⟨S1x4096x8x32, .f32⟩
  | 13 => ⟨S1x4096x8x64, .f32⟩
  | 14 => ⟨S1x4096x2x64, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S32, .f32⟩
  | 23 => ⟨S_, .f32⟩
  | 24 => ⟨S32, .f32⟩
  | 25 => ⟨S32, .f32⟩
  | 26 => ⟨S_, .f32⟩
  | 27 => ⟨S32, .f32⟩
  | 28 => ⟨S32, .f32⟩
  | 29 => ⟨S1x4096, .f32⟩
  | 30 => ⟨S1x4096x1, .f32⟩
  | 31 => ⟨S1x1x32, .f32⟩
  | 32 => ⟨S1x4096x32, .f32⟩
  | 33 => ⟨S1x4096x32, .f32⟩
  | 34 => ⟨S1x4096x32, .f32⟩
  | 35 => ⟨S1x4096x32, .f32⟩
  | 36 => ⟨S1x4096x1x32, .f32⟩
  | 37 => ⟨S1x4096x32, .f32⟩
  | 38 => ⟨S1x4096x1x32, .f32⟩
  | 39 => ⟨S1x4096x2x32, .f32⟩
  | 40 => ⟨S1x4096x2x32, .f32⟩
  | 41 => ⟨S1x4096x2x32, .f32⟩
  | 42 => ⟨S1x4096x2x32, .f32⟩
  | 43 => ⟨S1x4096x2x32, .f32⟩
  | 44 => ⟨S1x4096x2x32, .f32⟩
  | 45 => ⟨S1x4096x2x32, .f32⟩
  | 46 => ⟨S1x4096x2x32, .f32⟩
  | 47 => ⟨S1x4096x2x32, .f32⟩
  | 48 => ⟨S1x4096x2x32, .f32⟩
  | 49 => ⟨S1x4096x2x32, .f32⟩
  | 50 => ⟨S1x4096x2x32, .f32⟩
  | 51 => ⟨S1x4096x2x64, .f32⟩
  | 52 => ⟨S1x4096x2x64, .f32⟩
  | 53 => ⟨S1x32x128x2x4x64, .f32⟩
  | 54 => ⟨S1x32x128x2x64, .f32⟩
  | 55 => ⟨S1x1x128x2x64, .f32⟩
  | 56 => ⟨S_, .f32⟩
  | 57 => ⟨S1x1x128x2x64, .f32⟩
  | 58 => ⟨S1x31x128x2x64, .f32⟩
  | 59 => ⟨S1x32x128x2x64, .f32⟩
  | 60 => ⟨S1x32x256x2x64, .f32⟩
  | 61 => ⟨S1x32x128x2x64, .f32⟩
  | 62 => ⟨S1x1x128x2x64, .f32⟩
  | 63 => ⟨S_, .f32⟩
  | 64 => ⟨S1x1x128x2x64, .f32⟩
  | 65 => ⟨S1x31x128x2x64, .f32⟩
  | 66 => ⟨S1x32x128x2x64, .f32⟩
  | 67 => ⟨S1x32x256x2x64, .f32⟩
  | 68 => ⟨S1x32x2x256x128x4, .f32⟩
  | 69 => ⟨S1x32x2x4x128x256, .f32⟩
  | 70 => ⟨S_, .f32⟩
  | 71 => ⟨S1x32x2x4x128x256, .f32⟩
  | 72 => ⟨S1x32x2x4x128x256, .f32⟩
  | 73 => ⟨S128, .i32⟩
  | 74 => ⟨S128x1, .i32⟩
  | 75 => ⟨S256, .i32⟩
  | 76 => ⟨S1x256, .i32⟩
  | 77 => ⟨S_, .i32⟩
  | 78 => ⟨S128x1, .i32⟩
  | 79 => ⟨S128x1, .i32⟩
  | 80 => ⟨S128x256, .i32⟩
  | 81 => ⟨S128x256, .i32⟩
  | 82 => ⟨S128x256, .i32⟩
  | 83 => ⟨S_, .i32⟩
  | 84 => ⟨S128x256, .i32⟩
  | 85 => ⟨S128x256, .i1⟩
  | 86 => ⟨S_, .i32⟩
  | 87 => ⟨S128x256, .i32⟩
  | 88 => ⟨S128x256, .i1⟩
  | 89 => ⟨S128x256, .i1⟩
  | 90 => ⟨S32, .i32⟩
  | 91 => ⟨S32x1x1, .i32⟩
  | 92 => ⟨S_, .i32⟩
  | 93 => ⟨S32x1x1, .i32⟩
  | 94 => ⟨S32x1x1, .i32⟩
  | 95 => ⟨S1x1x256, .i32⟩
  | 96 => ⟨S32x1x256, .i32⟩
  | 97 => ⟨S32x1x256, .i32⟩
  | 98 => ⟨S32x1x256, .i32⟩
  | 99 => ⟨S_, .i32⟩
  | 100 => ⟨S32x1x256, .i32⟩
  | 101 => ⟨S32x1x256, .i32⟩
  | 102 => ⟨S1x128x256, .i1⟩
  | 103 => ⟨S_, .i32⟩
  | 104 => ⟨S32x1x256, .i32⟩
  | 105 => ⟨S32x1x256, .i1⟩
  | 106 => ⟨S32x128x256, .i1⟩
  | 107 => ⟨S32x128x256, .i1⟩
  | 108 => ⟨S32x128x256, .i1⟩
  | 109 => ⟨S1x32x1x1x128x256, .i1⟩
  | 110 => ⟨S_, .f32⟩
  | 111 => ⟨S_, .f32⟩
  | 112 => ⟨S1x32x2x4x128x256, .i1⟩
  | 113 => ⟨S1x32x2x4x128x256, .f32⟩
  | 114 => ⟨S1x32x2x4x128x256, .f32⟩
  | 115 => ⟨S2x4, .f32⟩
  | 116 => ⟨S1x1x2x4x1x1, .f32⟩
  | 117 => ⟨S1x32x2x4x128x1, .f32⟩
  | 118 => ⟨S1x32x2x4x128x257, .f32⟩
  | 119 => ⟨S_, .f32⟩
  | 120 => ⟨S1x32x2x4x128, .f32⟩
  | 121 => ⟨S_, .f32⟩
  | 122 => ⟨S1x32x2x4x128, .f32⟩
  | 123 => ⟨S1x32x2x4x128, .f32⟩
  | 124 => ⟨S1x32x2x4x128x1, .f32⟩
  | 125 => ⟨S1x32x2x4x128x257, .f32⟩
  | 126 => ⟨S1x32x2x4x128x257, .f32⟩
  | 127 => ⟨S1x32x2x4x128x257, .f32⟩
  | _ => ⟨S1x4096x1792, .f32⟩

abbrev hbmTy0_2 (i : Nat) : BufTy := match i % 128 with
  | 0 => ⟨S_, .f32⟩
  | 1 => ⟨S1x32x2x4x128, .f32⟩
  | 2 => ⟨S1x32x2x4x128x1, .f32⟩
  | 3 => ⟨S1x32x2x4x128x257, .f32⟩
  | 4 => ⟨S1x32x2x4x128x257, .f32⟩
  | 5 => ⟨S1x32x2x4x128x256, .f32⟩
  | 6 => ⟨S1x32x2x64x4x128, .f32⟩
  | 7 => ⟨S1x32x128x2x4x64, .f32⟩
  | 8 => ⟨S_, .f32⟩
  | 9 => ⟨S1x32x2x4x128, .f32⟩
  | 10 => ⟨S1x32x2x4x128x1, .f32⟩
  | 11 => ⟨S1x32x2x4x128x257, .f32⟩
  | 12 => ⟨S1x32x2x4x128x257, .f32⟩
  | 13 => ⟨S1x32x2x4x128x257, .f32⟩
  | 14 => ⟨S_, .f32⟩
  | 15 => ⟨S1x32x2x4x128, .f32⟩
  | 16 => ⟨S1x32x2x4x128, .f32⟩
  | 17 => ⟨S1x32x2x4x128, .f32⟩
  | 18 => ⟨S1x4096x512, .f32⟩
  | 19 => ⟨S16x4x512, .f32⟩
  | 20 => ⟨S_, .f32⟩
  | 21 => ⟨S16x4x512, .f32⟩
  | 22 => ⟨S16x8x512, .f32⟩
  | 23 => ⟨S128x512, .f32⟩
  | 24 => ⟨S1x4096x1024, .f32⟩
  | 25 => ⟨S4096x1024, .f32⟩
  | 26 => ⟨S1024x4096, .f32⟩
  | 27 => ⟨S1024x4096, .bf16⟩
  | _ => ⟨S1x4096x1792, .f32⟩

abbrev hbmTy (i : Nat) : BufTy := match i / 128 with
  | 0 => hbmTy0_0 i
  | 1 => hbmTy0_1 i
  | 2 => hbmTy0_2 i
  | _ => ⟨S1x4096x1792, .f32⟩

abbrev bufTy : (tb : Table) → Fin (tcTables nBuf tb) → BufTy
  | .hbm, ⟨i, _⟩ => hbmTy i
  | _, _ => ⟨S1x4096x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_call0_v0 : Ref sig .tc := ⟨.hbm, 82, rfl⟩
abbrev main_call0_c : Ref sig .tc := ⟨.hbm, 83, rfl⟩
abbrev main_call0_v1 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_cst : Ref sig .tc := ⟨.hbm, 88, rfl⟩
abbrev main_call0_v5 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_13 : Ref sig .tc := ⟨.hbm, 106, rfl⟩
abbrev main_v77 : Ref sig .tc := ⟨.hbm, 107, rfl⟩
abbrev main_v78 : Ref sig .tc := ⟨.hbm, 108, rfl⟩
abbrev main_cst_14 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_15 : Ref sig .tc := ⟨.hbm, 113, rfl⟩
abbrev main_v82 : Ref sig .tc := ⟨.hbm, 114, rfl⟩
abbrev main_v83 : Ref sig .tc := ⟨.hbm, 115, rfl⟩
abbrev main_cst_16 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_cst_17 : Ref sig .tc := ⟨.hbm, 144, rfl⟩
abbrev main_v111 : Ref sig .tc := ⟨.hbm, 145, rfl⟩
abbrev main_v112 : Ref sig .tc := ⟨.hbm, 146, rfl⟩
abbrev main_cst_18 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_cst_19 : Ref sig .tc := ⟨.hbm, 151, rfl⟩
abbrev main_v116 : Ref sig .tc := ⟨.hbm, 152, rfl⟩
abbrev main_v117 : Ref sig .tc := ⟨.hbm, 153, rfl⟩
abbrev main_cst_20 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_cst_21 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_cst_22 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_cst_23 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_c : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_c_24 : Ref sig .tc := ⟨.hbm, 211, rfl⟩
abbrev main_v170 : Ref sig .tc := ⟨.hbm, 212, rfl⟩
abbrev main_v171 : Ref sig .tc := ⟨.hbm, 213, rfl⟩
abbrev main_c_25 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_c_26 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_c_27 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_c_28 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_cst_29 : Ref sig .tc := ⟨.hbm, 238, rfl⟩
abbrev main_call1_v0 : Ref sig .tc := ⟨.hbm, 239, rfl⟩
abbrev main_call1_v1 : Ref sig .tc := ⟨.hbm, 240, rfl⟩
abbrev main_call1_v2 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_cst_30 : Ref sig .tc := ⟨.hbm, 247, rfl⟩
abbrev main_v197 : Ref sig .tc := ⟨.hbm, 248, rfl⟩
abbrev main_cst_31 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_cst_32 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_cst_33 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_cst_34 : Ref sig .tc := ⟨.hbm, 270, rfl⟩
abbrev main_v216 : Ref sig .tc := ⟨.hbm, 271, rfl⟩
abbrev main_v217 : Ref sig .tc := ⟨.hbm, 272, rfl⟩
abbrev main_v218 : Ref sig .tc := ⟨.hbm, 273, rfl⟩
abbrev main_v219 : Ref sig .tc := ⟨.hbm, 274, rfl⟩
abbrev main_v220 : Ref sig .tc := ⟨.hbm, 275, rfl⟩
abbrev main_cst_35 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩

abbrev nD : Nat := 1
abbrev τ : Topo := Topo.v7x

variable {F : FTy → Type} [FloatOps F]
-- ==== Out.lean ====
abbrev S1x4096x1024 : Shape := ⟨3, ![1, 4096, 1024]⟩
abbrev S1x1024x1024 : Shape := ⟨3, ![1, 1024, 1024]⟩
abbrev S1x1024 : Shape := ⟨2, ![1, 1024]⟩
abbrev S4096x1024 : Shape := ⟨2, ![4096, 1024]⟩
abbrev S1024x4096 : Shape := ⟨2, ![1024, 4096]⟩
abbrev S1024x1024 : Shape := ⟨2, ![1024, 1024]⟩
abbrev S4096x1 : Shape := ⟨2, ![4096, 1]⟩
abbrev S1024x512 : Shape := ⟨2, ![1024, 512]⟩
abbrev S512x1024 : Shape := ⟨2, ![512, 1024]⟩
abbrev S512x1 : Shape := ⟨2, ![512, 1]⟩
abbrev S512 : Shape := ⟨1, ![512]⟩

abbrev nBuf : Space → Nat
  | .hbm => 14
  | .vmem => 13
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x1024x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S1024x4096, .f32⟩
  | .hbm, ⟨7, _⟩ => ⟨S1024x4096, .bf16⟩
  | .hbm, ⟨8, _⟩ => ⟨S4096x1024, .f32⟩
  | .hbm, ⟨9, _⟩ => ⟨S1024x1024, .f32⟩
  | .hbm, ⟨10, _⟩ => ⟨S1024x1024, .bf16⟩
  | .hbm, ⟨11, _⟩ => ⟨S4096x1024, .f32⟩
  | .hbm, ⟨12, _⟩ => ⟨S4096x1, .f32⟩
  | .hbm, ⟨13, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1, .f32⟩
  | .local _ .vmem, ⟨10, _⟩ => ⟨S512x1, .f32⟩
  | .local _ .vmem, ⟨11, _⟩ => ⟨S512x1024, .bf16⟩
  | .local _ .vmem, ⟨12, _⟩ => ⟨S512x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutRefIdeal.lean ====
abbrev S1x4096x1024 : Shape := ⟨3, ![1, 4096, 1024]⟩
abbrev S1x1024x1024 : Shape := ⟨3, ![1, 1024, 1024]⟩
abbrev S1x1024 : Shape := ⟨2, ![1, 1024]⟩
abbrev S_ : Shape := ⟨0, ![]⟩
abbrev S1024x1024 : Shape := ⟨2, ![1024, 1024]⟩
abbrev S1x4096 : Shape := ⟨2, ![1, 4096]⟩
abbrev S1x4096x1 : Shape := ⟨3, ![1, 4096, 1]⟩
abbrev S4096x1024 : Shape := ⟨2, ![4096, 1024]⟩
abbrev S4096x1 : Shape := ⟨2, ![4096, 1]⟩
abbrev S1024 : Shape := ⟨1, ![1024]⟩
abbrev S1x1x1024 : Shape := ⟨3, ![1, 1, 1024]⟩

abbrev nBuf : Space → Nat
  | .hbm => 69
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x1024x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S1x4096x1024, .f32⟩
  | .hbm, ⟨7, _⟩ => ⟨S1x4096x1024, .f32⟩
  | .hbm, ⟨8, _⟩ => ⟨S1024x1024, .f32⟩
  | .hbm, ⟨9, _⟩ => ⟨S1x4096x1024, .f32⟩
  | .hbm, ⟨10, _⟩ => ⟨S1x4096x1024, .f32⟩
  | .hbm, ⟨11, _⟩ => ⟨S_, .f32⟩
  | .hbm, ⟨12, _⟩ => ⟨S1x4096, .f32⟩
  | .hbm, ⟨13, _⟩ => ⟨S1x4096x1, .f32⟩
  | .hbm, ⟨14, _⟩ => ⟨S_, .f32⟩
  | .hbm, ⟨15, _⟩ => ⟨S1x4096x1, .f32⟩
  | .hbm, ⟨16, _⟩ => ⟨S1x4096x1, .f32⟩
  | .hbm, ⟨17, _⟩ => ⟨S1x4096x1024, .f32⟩
  | .hbm, ⟨18, _⟩ => ⟨S1x4096x1024, .f32⟩
  | .hbm, ⟨19, _⟩ => ⟨S1x4096x1024, .f32⟩
  | .hbm, ⟨20, _⟩ => ⟨S_, .f32⟩
  | .hbm, ⟨21, _⟩ => ⟨S1x4096, .f32⟩
  | .hbm, ⟨22, _⟩ => ⟨S1x4096x1, .f32⟩
  | .hbm, ⟨23, _⟩ => ⟨S_, .f32⟩
  | .hbm, ⟨24, _⟩ => ⟨S1x4096x1, .f32⟩
  | .hbm, ⟨25, _⟩ => ⟨S1x4096x1, .f32⟩
  | .hbm, ⟨26, _⟩ => ⟨S_, .f32⟩
  | .hbm, ⟨27, _⟩ => ⟨S1x4096x1, .f32⟩
  | .hbm, ⟨28, _⟩ => ⟨S1x4096x1, .f32⟩
  | .hbm, ⟨29, _⟩ => ⟨S1x4096x1, .f32⟩
  | .hbm, ⟨30, _⟩ => ⟨S1x4096x1024, .f32⟩
  | .hbm, ⟨31, _⟩ => ⟨S1x4096x1024, .f32⟩
  | .hbm, ⟨32, _⟩ => ⟨S1x4096x1024, .f32⟩
  | .hbm, ⟨33, _⟩ => ⟨S1x4096x1024, .f32⟩
  | .hbm, ⟨34, _⟩ => ⟨S4096x1024, .f32⟩
  | .hbm, ⟨35, _⟩ => ⟨S4096x1, .f32⟩
  | .hbm, ⟨36, _⟩ => ⟨S1024, .f32⟩
  | .hbm, ⟨37, _⟩ => ⟨S1024, .f32⟩
  | .hbm, ⟨38, _⟩ => ⟨S_, .f32⟩
  | .hbm, ⟨39, _⟩ => ⟨S1x4096, .f32⟩
  | .hbm, ⟨40, _⟩ => ⟨S1x4096x1, .f32⟩
  | .hbm, ⟨41, _⟩ => ⟨S_, .f32⟩
  | .hbm, ⟨42, _⟩ => ⟨S1x4096x1, .f32⟩
  | .hbm, ⟨43, _⟩ => ⟨S1x4096x1, .f32⟩
  | .hbm, ⟨44, _⟩ => ⟨S1x4096x1024, .f32⟩
  | .hbm, ⟨45, _⟩ => ⟨S1x4096x1024, .f32⟩
  | .hbm, ⟨46, _⟩ => ⟨S1x4096x1024, .f32⟩
  | .hbm, ⟨47, _⟩ => ⟨S_, .f32⟩
  | .hbm, ⟨48, _⟩ => ⟨S1x4096, .f32⟩
  | .hbm, ⟨49, _⟩ => ⟨S1x4096x1, .f32⟩
  | .hbm, ⟨50, _⟩ => ⟨S_, .f32⟩
  | .hbm, ⟨51, _⟩ => ⟨S1x4096x1, .f32⟩
  | .hbm, ⟨52, _⟩ => ⟨S1x4096x1, .f32⟩
  | .hbm, ⟨53, _⟩ => ⟨S1x4096x1024, .f32⟩
  | .hbm, ⟨54, _⟩ => ⟨S1x4096x1024, .f32⟩
  | .hbm, ⟨55, _⟩ => ⟨S_, .f32⟩
  | .hbm, ⟨56, _⟩ => ⟨S1x4096x1, .f32⟩
  | .hbm, ⟨57, _⟩ => ⟨S1x4096x1, .f32⟩
  | .hbm, ⟨58, _⟩ => ⟨S1x4096x1, .f32⟩
  | .hbm, ⟨59, _⟩ => ⟨S1x4096x1024, .f32⟩
  | .hbm, ⟨60, _⟩ => ⟨S1x4096x1024, .f32⟩
  | .hbm, ⟨61, _⟩ => ⟨S1x1x1024, .f32⟩
  | .hbm, ⟨62, _⟩ => ⟨S1x4096x1024, .f32⟩
  | .hbm, ⟨63, _⟩ => ⟨S1x4096x1024, .f32⟩
  | .hbm, ⟨64, _⟩ => ⟨S1x1x1024, .f32⟩
  | .hbm, ⟨65, _⟩ => ⟨S1x4096x1024, .f32⟩
  | .hbm, ⟨66, _⟩ => ⟨S1x4096x1024, .f32⟩
  | .hbm, ⟨67, _⟩ => ⟨S4096x1024, .f32⟩
  | .hbm, ⟨68, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]
-- ==== Tab.lean ====
abbrev S1x4096 : Shape := ⟨2, ![1, 4096]⟩
abbrev S32 : Shape := ⟨1, ![32]⟩
abbrev S_ : Shape := ⟨0, ![]⟩
abbrev S1x32 : Shape := ⟨2, ![1, 32]⟩
abbrev S2x32 : Shape := ⟨2, ![2, 32]⟩
abbrev S64 : Shape := ⟨1, ![64]⟩
abbrev S64x1 : Shape := ⟨2, ![64, 1]⟩
abbrev S64x4096 : Shape := ⟨2, ![64, 4096]⟩
abbrev S1x512 : Shape := ⟨2, ![1, 512]⟩
abbrev S64x512 : Shape := ⟨2, ![64, 512]⟩

abbrev nBuf : Space → Nat
  | .hbm => 21
  | .vmem => 7
  | .smem => 0
  | _ => 0

abbrev bufTy : (tb : Table) → Fin (tcTables nBuf tb) → BufTy
  | .hbm, ⟨0, _⟩ => ⟨S1x4096, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S1x32, .f32⟩
  | .hbm, ⟨16, _⟩ => ⟨S2x32, .f32⟩
  | .hbm, ⟨17, _⟩ => ⟨S64, .f32⟩
  | .hbm, ⟨18, _⟩ => ⟨S64x1, .f32⟩
  | .hbm, ⟨19, _⟩ => ⟨S64x4096, .f32⟩
  | .hbm, ⟨20, _⟩ => ⟨S64x4096, .f32⟩
  | .local _ .vmem, ⟨0, _⟩ => ⟨S1x512, .i32⟩
  | .local _ .vmem, ⟨1, _⟩ => ⟨S1x512, .i32⟩
  | .local _ .vmem, ⟨2, _⟩ => ⟨S64x1, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | _, _ => ⟨S1x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== TabRefIdeal.lean ====
abbrev S1x4096 : Shape := ⟨2, ![1, 4096]⟩
abbrev S32 : Shape := ⟨1, ![32]⟩
abbrev S_ : Shape := ⟨0, ![]⟩
abbrev S1x4096x1 : Shape := ⟨3, ![1, 4096, 1]⟩
abbrev S1x1x32 : Shape := ⟨3, ![1, 1, 32]⟩
abbrev S1x4096x32 : Shape := ⟨3, ![1, 4096, 32]⟩
abbrev S1x4096x64 : Shape := ⟨3, ![1, 4096, 64]⟩
abbrev S4096x64 : Shape := ⟨2, ![4096, 64]⟩
abbrev S64x4096 : Shape := ⟨2, ![64, 4096]⟩

abbrev nBuf : Space → Nat
  | .hbm => 30
  | .vmem => 0
  | .smem => 0
  | _ => 0

abbrev bufTy : (tb : Table) → Fin (tcTables nBuf tb) → BufTy
  | .hbm, ⟨0, _⟩ => ⟨S1x4096, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S1x4096, .f32⟩
  | .hbm, ⟨16, _⟩ => ⟨S1x4096x1, .f32⟩
  | .hbm, ⟨17, _⟩ => ⟨S1x1x32, .f32⟩
  | .hbm, ⟨18, _⟩ => ⟨S1x4096x32, .f32⟩
  | .hbm, ⟨19, _⟩ => ⟨S1x4096x32, .f32⟩
  | .hbm, ⟨20, _⟩ => ⟨S1x4096x32, .f32⟩
  | .hbm, ⟨21, _⟩ => ⟨S1x4096x32, .f32⟩
  | .hbm, ⟨22, _⟩ => ⟨S1x4096x32, .f32⟩
  | .hbm, ⟨23, _⟩ => ⟨S1x4096x64, .f32⟩
  | .hbm, ⟨24, _⟩ => ⟨S4096x64, .f32⟩
  | .hbm, ⟨25, _⟩ => ⟨S64x4096, .f32⟩
  | .hbm, ⟨26, _⟩ => ⟨S1x4096x32, .f32⟩
  | .hbm, ⟨27, _⟩ => ⟨S1x4096x64, .f32⟩
  | .hbm, ⟨28, _⟩ => ⟨S4096x64, .f32⟩
  | .hbm, ⟨29, _⟩ => ⟨S64x4096, .f32⟩
  | _, _ => ⟨S1x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== Inp.lean ====
abbrev S1x4096x1024 : Shape := ⟨3, ![1, 4096, 1024]⟩
abbrev S1x1024x1792 : Shape := ⟨3, ![1, 1024, 1792]⟩
abbrev S4096x1024 : Shape := ⟨2, ![4096, 1024]⟩
abbrev S1024x1792 : Shape := ⟨2, ![1024, 1792]⟩
abbrev S1792x1024 : Shape := ⟨2, ![1792, 1024]⟩
abbrev S1792x4096 : Shape := ⟨2, ![1792, 4096]⟩
abbrev S512x1024 : Shape := ⟨2, ![512, 1024]⟩
abbrev S1792x512 : Shape := ⟨2, ![1792, 512]⟩

abbrev nBuf : Space → Nat
  | .hbm => 8
  | .vmem => 7
  | .smem => 0
  | _ => 0

abbrev bufTy : (tb : Table) → Fin (tcTables nBuf tb) → BufTy
  | .hbm, ⟨0, _⟩ => ⟨S1x4096x1024, .f32⟩
  | .hbm, ⟨1, _⟩ => ⟨S1x1024x1792, .f32⟩
  | .hbm, ⟨2, _⟩ => ⟨S4096x1024, .f32⟩
  | .hbm, ⟨3, _⟩ => ⟨S1024x1792, .f32⟩
  | .hbm, ⟨4, _⟩ => ⟨S1792x1024, .f32⟩
  | .hbm, ⟨5, _⟩ => ⟨S1792x1024, .bf16⟩
  | .hbm, ⟨6, _⟩ => ⟨S1792x4096, .f32⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1792x1024, .bf16⟩
  | .local _ .vmem, ⟨3, _⟩ => ⟨S1792x512, .f32⟩
  | .local _ .vmem, ⟨4, _⟩ => ⟨S1792x512, .f32⟩
  | .local _ .vmem, ⟨5, _⟩ => ⟨S512x1024, .bf16⟩
  | .local _ .vmem, ⟨6, _⟩ => ⟨S512x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1792x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1792x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InpRefIdeal.lean ====
abbrev S1x4096x1024 : Shape := ⟨3, ![1, 4096, 1024]⟩
abbrev S1x1024x1792 : Shape := ⟨3, ![1, 1024, 1792]⟩
abbrev S1024x1792 : Shape := ⟨2, ![1024, 1792]⟩
abbrev S1x4096x1792 : Shape := ⟨3, ![1, 4096, 1792]⟩
abbrev S4096x1792 : Shape := ⟨2, ![4096, 1792]⟩
abbrev S1792x4096 : Shape := ⟨2, ![1792, 4096]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024x1792, .f32⟩
  | .hbm, ⟨2, _⟩ => ⟨S1024x1792, .f32⟩
  | .hbm, ⟨3, _⟩ => ⟨S1x4096x1792, .f32⟩
  | .hbm, ⟨4, _⟩ => ⟨S4096x1792, .f32⟩
  | .hbm, ⟨5, _⟩ => ⟨S1792x4096, .f32⟩
  | .hbm, ⟨6, _⟩ => ⟨S4096x1024, .f32⟩
  | .hbm, ⟨7, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Back.lean ====
abbrev S1x4096x1024 : Shape := ⟨3, ![1, 4096, 1024]⟩
abbrev S1x1024x1024 : Shape := ⟨3, ![1, 1024, 1024]⟩
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 11
  | .vmem => 8
  | .smem => 0
  | _ => 0

abbrev bufTy : (tb : Table) → Fin (tcTables nBuf tb) → BufTy
  | .hbm, ⟨0, _⟩ => ⟨S1x4096x1024, .f32⟩
  | .hbm, ⟨1, _⟩ => ⟨S1x1024x1024, .f32⟩
  | .hbm, ⟨2, _⟩ => ⟨S1x4096x1024, .f32⟩
  | .hbm, ⟨3, _⟩ => ⟨S4096x1024, .f32⟩
  | .hbm, ⟨4, _⟩ => ⟨S4096x1024, .f32⟩
  | .hbm, ⟨5, _⟩ => ⟨S1024x4096, .f32⟩
  | .hbm, ⟨6, _⟩ => ⟨S1024x4096, .bf16⟩
  | .hbm, ⟨7, _⟩ => ⟨S1024x1024, .f32⟩
  | .hbm, ⟨8, _⟩ => ⟨S1024x1024, .bf16⟩
  | .hbm, ⟨9, _⟩ => ⟨S1024x4096, .f32⟩
  | .hbm, ⟨10, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== BackRefIdeal.lean ====
abbrev S1x4096x1024 : Shape := ⟨3, ![1, 4096, 1024]⟩
abbrev S1x1024x1024 : Shape := ⟨3, ![1, 1024, 1024]⟩
abbrev S1024x1024 : Shape := ⟨2, ![1024, 1024]⟩
abbrev S4096x1024 : Shape := ⟨2, ![4096, 1024]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024x1024, .f32⟩
  | .hbm, ⟨2, _⟩ => ⟨S1x4096x1024, .f32⟩
  | .hbm, ⟨3, _⟩ => ⟨S1024x1024, .f32⟩
  | .hbm, ⟨4, _⟩ => ⟨S1x4096x1024, .f32⟩
  | .hbm, ⟨5, _⟩ => ⟨S1024x1024, .f32⟩
  | .hbm, ⟨6, _⟩ => ⟨S1024x1024, .f32⟩
  | .hbm, ⟨7, _⟩ => ⟨S1x4096x1024, .f32⟩
  | .hbm, ⟨8, _⟩ => ⟨S1x1024x1024, .f32⟩
  | .hbm, ⟨9, _⟩ => ⟨S4096x1024, .f32⟩
  | .hbm, ⟨10, _⟩ => ⟨S1024x4096, .f32⟩
  | .hbm, ⟨11, _⟩ => ⟨S1024x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Dx.lean ====
abbrev S1x4096x1024 : Shape := ⟨3, ![1, 4096, 1024]⟩
abbrev S1x1024x1792 : Shape := ⟨3, ![1, 1024, 1792]⟩
abbrev S1x4096x1536 : Shape := ⟨3, ![1, 4096, 1536]⟩
abbrev S1x4096x256 : Shape := ⟨3, ![1, 4096, 256]⟩
abbrev S1x16x128x256 : Shape := ⟨4, ![1, 16, 128, 256]⟩
abbrev S4096x1536 : Shape := ⟨2, ![4096, 1536]⟩
abbrev S1536x4096 : Shape := ⟨2, ![1536, 4096]⟩
abbrev S4096x256 : Shape := ⟨2, ![4096, 256]⟩
abbrev S256x4096 : Shape := ⟨2, ![256, 4096]⟩
abbrev S16x128x256 : Shape := ⟨3, ![16, 128, 256]⟩
abbrev S2048x256 : Shape := ⟨2, ![2048, 256]⟩
abbrev S256x2048 : Shape := ⟨2, ![256, 2048]⟩
abbrev S4096x1024 : Shape := ⟨2, ![4096, 1024]⟩
abbrev S1024x1792 : Shape := ⟨2, ![1024, 1792]⟩
abbrev S1792x1024 : Shape := ⟨2, ![1792, 1024]⟩
abbrev S1536x512 : Shape := ⟨2, ![1536, 512]⟩
abbrev S256x512 : Shape := ⟨2, ![256, 512]⟩
abbrev S256x256 : Shape := ⟨2, ![256, 256]⟩
abbrev S512x1024 : Shape := ⟨2, ![512, 1024]⟩
abbrev S256x128 : Shape := ⟨2, ![256, 128]⟩
abbrev S1536x1024 : Shape := ⟨2, ![1536, 1024]⟩
abbrev S256x1024 : Shape := ⟨2, ![256, 1024]⟩

abbrev nBuf : Space → Nat
  | .hbm => 19
  | .vmem => 12
  | .smem => 0
  | _ => 0

abbrev bufTy : (tb : Table) → Fin (tcTables nBuf tb) → BufTy
  | .hbm, ⟨0, _⟩ => ⟨S1x4096x1024, .f32⟩
  | .hbm, ⟨1, _⟩ => ⟨S1x1024x1792, .f32⟩
  | .hbm, ⟨2, _⟩ => ⟨S1x4096x1536, .f32⟩
  | .hbm, ⟨3, _⟩ => ⟨S1x4096x256, .f32⟩
  | .hbm, ⟨4, _⟩ => ⟨S1x16x128x256, .f32⟩
  | .hbm, ⟨5, _⟩ => ⟨S1x4096x1024, .f32⟩
  | .hbm, ⟨6, _⟩ => ⟨S4096x1536, .f32⟩
  | .hbm, ⟨7, _⟩ => ⟨S1536x4096, .f32⟩
  | .hbm, ⟨8, _⟩ => ⟨S1536x4096, .bf16⟩
  | .hbm, ⟨9, _⟩ => ⟨S4096x256, .f32⟩
  | .hbm, ⟨10, _⟩ => ⟨S256x4096, .f32⟩
  | .hbm, ⟨11, _⟩ => ⟨S16x128x256, .f32⟩
  | .hbm, ⟨12, _⟩ => ⟨S2048x256, .f32⟩
  | .hbm, ⟨13, _⟩ => ⟨S256x2048, .f32⟩
  | .hbm, ⟨14, _⟩ => ⟨S4096x1024, .f32⟩
  | .hbm, ⟨15, _⟩ => ⟨S1024x1792, .f32⟩
  | .hbm, ⟨16, _⟩ => ⟨S1792x1024, .f32⟩
  | .hbm, ⟨17, _⟩ => ⟨S1792x1024, .bf16⟩
  | .hbm, ⟨18, _⟩ => ⟨S4096x1024, .f32⟩
  | .local _ .vmem, ⟨0, _⟩ => ⟨S1536x512, .bf16⟩
  | .local _ .vmem, ⟨1, _⟩ => ⟨S1536x512, .bf16⟩
  | .local _ .vmem, ⟨2, _⟩ => ⟨S256x512, .f32⟩
  | .local _ .vmem, ⟨3, _⟩ => ⟨S256x512, .f32⟩
  | .local _ .vmem, ⟨4, _⟩ => ⟨S256x256, .f32⟩
  | .local _ .vmem, ⟨5, _⟩ => ⟨S256x256, .f32⟩
  | .local _ .vmem, ⟨6, _⟩ => ⟨S512x1024, .f32⟩
  | .local _ .vmem, ⟨7, _⟩ => ⟨S512x1024, .f32⟩
  | .local _ .vmem, ⟨8, _⟩ => ⟨S1792x1024, .bf16⟩
  | .local _ .vmem, ⟨9, _⟩ => ⟨S512x1024, .f32⟩
  | .local _ .vmem, ⟨10, _⟩ => ⟨S512x1024, .f32⟩
  | .local _ .vmem, ⟨11, _⟩ => ⟨S256x512, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1536x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1792x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DxRefIdeal.lean ====
abbrev S1x4096x1024 : Shape := ⟨3, ![1, 4096, 1024]⟩
abbrev S1x1024x1792 : Shape := ⟨3, ![1, 1024, 1792]⟩
abbrev S1x4096x1536 : Shape := ⟨3, ![1, 4096, 1536]⟩
abbrev S1x4096x256 : Shape := ⟨3, ![1, 4096, 256]⟩
abbrev S1x16x128x256 : Shape := ⟨4, ![1, 16, 128, 256]⟩
abbrev S1x16x2x128x256 : Shape := ⟨5, ![1, 16, 2, 128, 256]⟩
abbrev S1x16x1x128x256 : Shape := ⟨5, ![1, 16, 1, 128, 256]⟩
abbrev S_ : Shape := ⟨0, ![]⟩
abbrev S1024x1792 : Shape := ⟨2, ![1024, 1792]⟩
abbrev S1x4096x1792 : Shape := ⟨3, ![1, 4096, 1792]⟩
abbrev S4096x1024 : Shape := ⟨2, ![4096, 1024]⟩

abbrev nBuf : Space → Nat
  | .hbm => 28
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024x1792, .f32⟩
  | .hbm, ⟨2, _⟩ => ⟨S1x4096x1536, .f32⟩
  | .hbm, ⟨3, _⟩ => ⟨S1x4096x256, .f32⟩
  | .hbm, ⟨4, _⟩ => ⟨S1x16x128x256, .f32⟩
  | .hbm, ⟨5, _⟩ => ⟨S1x4096x1024, .f32⟩
  | .hbm, ⟨6, _⟩ => ⟨S1x16x2x128x256, .f32⟩
  | .hbm, ⟨7, _⟩ => ⟨S1x16x1x128x256, .f32⟩
  | .hbm, ⟨8, _⟩ => ⟨S1x16x128x256, .f32⟩
  | .hbm, ⟨9, _⟩ => ⟨S1x16x1x128x256, .f32⟩
  | .hbm, ⟨10, _⟩ => ⟨S1x16x128x256, .f32⟩
  | .hbm, ⟨11, _⟩ => ⟨S1x16x128x256, .f32⟩
  | .hbm, ⟨12, _⟩ => ⟨S1x16x1x128x256, .f32⟩
  | .hbm, ⟨13, _⟩ => ⟨S1x16x1x128x256, .f32⟩
  | .hbm, ⟨14, _⟩ => ⟨S1x16x2x128x256, .f32⟩
  | .hbm, ⟨15, _⟩ => ⟨S1x4096x256, .f32⟩
  | .hbm, ⟨16, _⟩ => ⟨S_, .f32⟩
  | .hbm, ⟨17, _⟩ => ⟨S1x4096x1024, .f32⟩
  | .hbm, ⟨18, _⟩ => ⟨S1x4096x1024, .f32⟩
  | .hbm, ⟨19, _⟩ => ⟨S1024x1792, .f32⟩
  | .hbm, ⟨20, _⟩ => ⟨S1x4096x1792, .f32⟩
  | .hbm, ⟨21, _⟩ => ⟨S1x4096x1792, .f32⟩
  | .hbm, ⟨22, _⟩ => ⟨S1x4096x1024, .f32⟩
  | .hbm, ⟨23, _⟩ => ⟨S_, .f32⟩
  | .hbm, ⟨24, _⟩ => ⟨S1x4096x1024, .f32⟩
  | .hbm, ⟨25, _⟩ => ⟨S1x4096x1024, .f32⟩
  | .hbm, ⟨26, _⟩ => ⟨S1x4096x1024, .f32⟩
  | .hbm, ⟨27, _⟩ => ⟨S4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Att.lean ====
abbrev S1x4096x1792 : Shape := ⟨3, ![1, 4096, 1792]⟩
abbrev S1x4096 : Shape := ⟨2, ![1, 4096]⟩
abbrev S1x512 : Shape := ⟨2, ![1, 512]⟩
abbrev S1x8x128x128 : Shape := ⟨4, ![1, 8, 128, 128]⟩
abbrev S1x8x128 : Shape := ⟨3, ![1, 8, 128]⟩
abbrev S1x8 : Shape := ⟨2, ![1, 8]⟩
abbrev S1x4096x1024 : Shape := ⟨3, ![1, 4096, 1024]⟩
abbrev S32 : Shape := ⟨1, ![32]⟩
abbrev S_ : Shape := ⟨0, ![]⟩
abbrev S32x1 : Shape := ⟨2, ![32, 1]⟩
abbrev S32x4096 : Shape := ⟨2, ![32, 4096]⟩
abbrev S4096x1792 : Shape := ⟨2, ![4096, 1792]⟩
abbrev S1792x4096 : Shape := ⟨2, ![1792, 4096]⟩
abbrev S2x256x128 : Shape := ⟨3, ![2, 256, 128]⟩
abbrev S4096x1024 : Shape := ⟨2, ![4096, 1024]⟩
abbrev S1024x4096 : Shape := ⟨2, ![1024, 4096]⟩
abbrev S64x4096 : Shape := ⟨2, ![64, 4096]⟩
abbrev S8x128x128 : Shape := ⟨3, ![8, 128, 128]⟩
abbrev S8x128 : Shape := ⟨2, ![8, 128]⟩
abbrev S512x1 : Shape := ⟨2, ![512, 1]⟩
abbrev S8 : Shape := ⟨1, ![8]⟩
abbrev S640x4096 : Shape := ⟨2, ![640, 4096]⟩
abbrev S10x64x4096 : Shape := ⟨3, ![10, 64, 4096]⟩
abbrev S10x32x4096 : Shape := ⟨3, ![10, 32, 4096]⟩
abbrev S1x32x4096 : Shape := ⟨3, ![1, 32, 4096]⟩
abbrev S10x64x32x128 : Shape := ⟨4, ![10, 64, 32, 128]⟩
abbrev S8x64x32x128 : Shape := ⟨4, ![8, 64, 32, 128]⟩
abbrev S2x4x64x32x128 : Shape := ⟨5, ![2, 4, 64, 32, 128]⟩
abbrev S2x64x32x128 : Shape := ⟨4, ![2, 64, 32, 128]⟩
abbrev S2x64x1x128 : Shape := ⟨4, ![2, 64, 1, 128]⟩
abbrev S2x64x31x128 : Shape := ⟨4, ![2, 64, 31, 128]⟩
abbrev S2x64x32x256 : Shape := ⟨4, ![2, 64, 32, 256]⟩
abbrev S32x2x4x128x256 : Shape := ⟨5, ![32, 2, 4, 128, 256]⟩
abbrev S1x256x128 : Shape := ⟨3, ![1, 256, 128]⟩
abbrev S31x256x128 : Shape := ⟨3, ![31, 256, 128]⟩
abbrev S32x256x128 : Shape := ⟨3, ![32, 256, 128]⟩
abbrev S32x128x256 : Shape := ⟨3, ![32, 128, 256]⟩
abbrev S32x1x1x128x256 : Shape := ⟨5, ![32, 1, 1, 128, 256]⟩
abbrev S2x4x1 : Shape := ⟨3, ![2, 4, 1]⟩
abbrev S32x2x4x128 : Shape := ⟨4, ![32, 2, 4, 128]⟩
abbrev S1x2x4x1 : Shape := ⟨4, ![1, 2, 4, 1]⟩
abbrev S32x2x4x128x1 : Shape := ⟨5, ![32, 2, 4, 128, 1]⟩
abbrev S16x4x512 : Shape := ⟨3, ![16, 4, 512]⟩
abbrev S16x8x512 : Shape := ⟨3, ![16, 8, 512]⟩
abbrev S128x512 : Shape := ⟨2, ![128, 512]⟩
abbrev S1536x4096 : Shape := ⟨2, ![1536, 4096]⟩
abbrev S256x4096 : Shape := ⟨2, ![256, 4096]⟩
abbrev S256x2048 : Shape := ⟨2, ![256, 2048]⟩
abbrev S8x512 : Shape := ⟨2, ![8, 512]⟩
abbrev S1024x256 : Shape := ⟨2, ![1024, 256]⟩
abbrev S512x256 : Shape := ⟨2, ![512, 256]⟩
abbrev S256x256 : Shape := ⟨2, ![256, 256]⟩
abbrev S256x128 : Shape := ⟨2, ![256, 128]⟩
abbrev S64x256 : Shape := ⟨2, ![64, 256]⟩
abbrev S64x128 : Shape := ⟨2, ![64, 128]⟩
abbrev S1536x256 : Shape := ⟨2, ![1536, 256]⟩
abbrev S512x128 : Shape := ⟨2, ![512, 128]⟩
abbrev S128x128 : Shape := ⟨2, ![128, 128]⟩
abbrev S1x128x128 : Shape := ⟨3, ![1, 128, 128]⟩
abbrev S256 : Shape := ⟨1, ![256]⟩
abbrev S1x256 : Shape := ⟨2, ![1, 256]⟩
abbrev S1x128 : Shape := ⟨2, ![1, 128]⟩
abbrev S128 : Shape := ⟨1, ![128]⟩
abbrev S32x256 : Shape := ⟨2, ![32, 256]⟩
abbrev S1 : Shape := ⟨1, ![1]⟩
abbrev S32x128 : Shape := ⟨2, ![32, 128]⟩
abbrev S128x256 : Shape := ⟨2, ![128, 256]⟩
abbrev S256x512 : Shape := ⟨2, ![256, 512]⟩
abbrev S64x512 : Shape := ⟨2, ![64, 512]⟩
abbrev S512 : Shape := ⟨1, ![512]⟩

abbrev nBuf : Space → Nat
  | .hbm => 142
  | .vmem => 41
  | .smem => 1
  | _ => 0

abbrev hbmTy0_0 (i : Nat) : BufTy := match i % 128 with
  | 0 => ⟨S1x4096x1792, .f32⟩
  | 1 => ⟨S1x4096, .i32⟩
  | 2 => ⟨S1x512, .f32⟩
  | 3 => ⟨S1x512, .f32⟩
  | 4 => ⟨S1x8x128x128, .f32⟩
  | 5 => ⟨S1x8x128, .f32⟩
  | 6 => ⟨S1x8, .f32⟩
  | 7 => ⟨S1x4096x1024, .f32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S32x1, .f32⟩
  | 23 => ⟨S1x4096, .f32⟩
  | 24 => ⟨S32x4096, .f32⟩
  | 25 => ⟨S32x4096, .f32⟩
  | 26 => ⟨S32x4096, .f32⟩
  | 27 => ⟨S32x4096, .f32⟩
  | 28 => ⟨S32x4096, .f32⟩
  | 29 => ⟨S4096x1792, .f32⟩
  | 30 => ⟨S1792x4096, .f32⟩
  | 31 => ⟨S2x256x128, .i32⟩
  | 32 => ⟨S2x256x128, .i32⟩
  | 33 => ⟨S2x256x128, .i32⟩
  | 34 => ⟨S_, .i32⟩
  | 35 => ⟨S2x256x128, .i32⟩
  | 36 => ⟨S2x256x128, .i1⟩
  | 37 => ⟨S_, .i32⟩
  | 38 => ⟨S2x256x128, .i32⟩
  | 39 => ⟨S2x256x128, .i32⟩
  | 40 => ⟨S2x256x128, .i32⟩
  | 41 => ⟨S_, .i32⟩
  | 42 => ⟨S2x256x128, .i32⟩
  | 43 => ⟨S2x256x128, .i1⟩
  | 44 => ⟨S_, .i32⟩
  | 45 => ⟨S2x256x128, .i32⟩
  | 46 => ⟨S2x256x128, .i1⟩
  | 47 => ⟨S2x256x128, .i1⟩
  | 48 => ⟨S_, .i32⟩
  | 49 => ⟨S2x256x128, .i32⟩
  | 50 => ⟨S2x256x128, .i1⟩
  | 51 => ⟨S2x256x128, .i1⟩
  | 52 => ⟨S2x256x128, .i1⟩
  | 53 => ⟨S_, .f32⟩
  | 54 => ⟨S_, .f32⟩
  | 55 => ⟨S2x256x128, .f32⟩
  | 56 => ⟨S2x256x128, .f32⟩
  | 57 => ⟨S2x256x128, .f32⟩
  | 58 => ⟨S2x256x128, .f32⟩
  | 59 => ⟨S4096x1024, .f32⟩
  | 60 => ⟨S1024x4096, .f32⟩
  | 61 => ⟨S64x4096, .f32⟩
  | 62 => ⟨S32x4096, .f32⟩
  | 63 => ⟨S64x4096, .f32⟩
  | 64 => ⟨S8x128x128, .f32⟩
  | 65 => ⟨S8x128, .f32⟩
  | 66 => ⟨S512x1, .f32⟩
  | 67 => ⟨S512x1, .f32⟩
  | 68 => ⟨S8, .f32⟩
  | 69 => ⟨S8, .f32⟩
  | 70 => ⟨S640x4096, .f32⟩
  | 71 => ⟨S10x64x4096, .f32⟩
  | 72 => ⟨S10x32x4096, .f32⟩
  | 73 => ⟨S10x32x4096, .f32⟩
  | 74 => ⟨S1x32x4096, .f32⟩
  | 75 => ⟨S10x32x4096, .f32⟩
  | 76 => ⟨S10x32x4096, .f32⟩
  | 77 => ⟨S1x32x4096, .f32⟩
  | 78 => ⟨S10x32x4096, .f32⟩
  | 79 => ⟨S10x32x4096, .f32⟩
  | 80 => ⟨S10x32x4096, .f32⟩
  | 81 => ⟨S1x32x4096, .f32⟩
  | 82 => ⟨S10x32x4096, .f32⟩
  | 83 => ⟨S10x32x4096, .f32⟩
  | 84 => ⟨S1x32x4096, .f32⟩
  | 85 => ⟨S10x32x4096, .f32⟩
  | 86 => ⟨S10x32x4096, .f32⟩
  | 87 => ⟨S10x32x4096, .f32⟩
  | 88 => ⟨S10x64x4096, .f32⟩
  | 89 => ⟨S10x64x32x128, .f32⟩
  | 90 => ⟨S8x64x32x128, .f32⟩
  | 91 => ⟨S_, .f32⟩
  | 92 => ⟨S8x64x32x128, .f32⟩
  | 93 => ⟨S8x64x32x128, .f32⟩
  | 94 => ⟨S2x4x64x32x128, .f32⟩
  | 95 => ⟨S2x64x32x128, .f32⟩
  | 96 => ⟨S2x64x1x128, .f32⟩
  | 97 => ⟨S_, .f32⟩
  | 98 => ⟨S2x64x1x128, .f32⟩
  | 99 => ⟨S2x64x31x128, .f32⟩
  | 100 => ⟨S2x64x32x128, .f32⟩
  | 101 => ⟨S2x64x32x256, .f32⟩
  | 102 => ⟨S32x2x4x128x256, .f32⟩
  | 103 => ⟨S1x256x128, .f32⟩
  | 104 => ⟨S1x256x128, .f32⟩
  | 105 => ⟨S31x256x128, .f32⟩
  | 106 => ⟨S32x256x128, .f32⟩
  | 107 => ⟨S32x128x256, .f32⟩
  | 108 => ⟨S32x1x1x128x256, .f32⟩
  | 109 => ⟨S32x2x4x128x256, .f32⟩
  | 110 => ⟨S32x2x4x128x256, .f32⟩
  | 111 => ⟨S2x4x1, .f32⟩
  | 112 => ⟨S_, .f32⟩
  | 113 => ⟨S32x2x4x128, .f32⟩
  | 114 => ⟨S1x2x4x1, .f32⟩
  | 115 => ⟨S32x2x4x128, .f32⟩
  | 116 => ⟨S32x2x4x128, .f32⟩
  | 117 => ⟨S32x2x4x128x1, .f32⟩
  | 118 => ⟨S32x2x4x128x256, .f32⟩
  | 119 => ⟨S32x2x4x128x256, .f32⟩
  | 120 => ⟨S32x2x4x128x256, .f32⟩
  | 121 => ⟨S_, .f32⟩
  | 122 => ⟨S32x2x4x128, .f32⟩
  | 123 => ⟨S1x2x4x1, .f32⟩
  | 124 => ⟨S32x2x4x128, .f32⟩
  | 125 => ⟨S32x2x4x128, .f32⟩
  | 126 => ⟨S32x2x4x128, .f32⟩
  | 127 => ⟨S32x2x4x128, .f32⟩
  | _ => ⟨S1x4096x1792, .f32⟩

abbrev hbmTy0_1 (i : Nat) : BufTy := match i % 128 with
  | 0 => ⟨S32x2x4x128, .f32⟩
  | 1 => ⟨S32x2x4x128, .f32⟩
  | 2 => ⟨S16x4x512, .f32⟩
  | 3 => ⟨S_, .f32⟩
  | 4 => ⟨S16x4x512, .f32⟩
  | 5 => ⟨S16x8x512, .f32⟩
  | 6 => ⟨S128x512, .f32⟩
  | 7 => ⟨S1536x4096, .bf16⟩
  | 8 => ⟨S256x4096, .f32⟩
  | 9 => ⟨S256x2048, .f32⟩
  | 10 => ⟨S8x128x128, .bf16⟩
  | 11 => ⟨S8x128, .f32⟩
  | 12 => ⟨S8x512, .f32⟩
  | 13 => ⟨S8x128, .f32⟩
  | _ => ⟨S1x4096x1792, .f32⟩

abbrev hbmTy (i : Nat) : BufTy := match i / 128 with
  | 0 => hbmTy0_0 i
  | 1 => hbmTy0_1 i
  | _ => ⟨S1x4096x1792, .f32⟩

abbrev bufTy : (tb : Table) → Fin (tcTables nBuf tb) → BufTy
  | .hbm, ⟨i, _⟩ => hbmTy i
  | .local _ .vmem, ⟨0, _⟩ => ⟨S1024x256, .f32⟩
  | .local _ .vmem, ⟨1, _⟩ => ⟨S1024x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S256x256, .f32⟩
  | .local _ .vmem, ⟨9, _⟩ => ⟨S256x256, .f32⟩
  | .local _ .vmem, ⟨10, _⟩ => ⟨S256x128, .f32⟩
  | .local _ .vmem, ⟨11, _⟩ => ⟨S256x128, .f32⟩
  | .local _ .vmem, ⟨12, _⟩ => ⟨S64x256, .f32⟩
  | .local _ .vmem, ⟨13, _⟩ => ⟨S64x256, .f32⟩
  | .local _ .vmem, ⟨14, _⟩ => ⟨S64x256, .f32⟩
  | .local _ .vmem, ⟨15, _⟩ => ⟨S64x256, .f32⟩
  | .local _ .vmem, ⟨16, _⟩ => ⟨S64x128, .f32⟩
  | .local _ .vmem, ⟨17, _⟩ => ⟨S64x128, .f32⟩
  | .local _ .vmem, ⟨18, _⟩ => ⟨S64x128, .f32⟩
  | .local _ .vmem, ⟨19, _⟩ => ⟨S64x128, .f32⟩
  | .local _ .vmem, ⟨20, _⟩ => ⟨S8x128x128, .f32⟩
  | .local _ .vmem, ⟨21, _⟩ => ⟨S8x128, .f32⟩
  | .local _ .vmem, ⟨22, _⟩ => ⟨S512x1, .f32⟩
  | .local _ .vmem, ⟨23, _⟩ => ⟨S512x1, .f32⟩
  | .local _ .vmem, ⟨24, _⟩ => ⟨S2x256x128, .f32⟩
  | .local _ .vmem, ⟨25, _⟩ => ⟨S8x512, .f32⟩
  | .local _ .vmem, ⟨26, _⟩ => ⟨S8x512, .f32⟩
  | .local _ .vmem, ⟨27, _⟩ => ⟨S1536x256, .bf16⟩
  | .local _ .vmem, ⟨28, _⟩ => ⟨S1536x256, .bf16⟩
  | .local _ .vmem, ⟨29, _⟩ => ⟨S256x256, .f32⟩
  | .local _ .vmem, ⟨30, _⟩ => ⟨S256x256, .f32⟩
  | .local _ .vmem, ⟨31, _⟩ => ⟨S256x128, .f32⟩
  | .local _ .vmem, ⟨32, _⟩ => ⟨S256x128, .f32⟩
  | .local _ .vmem, ⟨33, _⟩ => ⟨S8x128x128, .bf16⟩
  | .local _ .vmem, ⟨34, _⟩ => ⟨S8x128, .f32⟩
  | .local _ .vmem, ⟨35, _⟩ => ⟨S8x512, .f32⟩
  | .local _ .vmem, ⟨36, _⟩ => ⟨S8x128, .f32⟩
  | .local _ .vmem, ⟨37, _⟩ => ⟨S512x128, .f32⟩
  | .local _ .vmem, ⟨38, _⟩ => ⟨S512x128, .f32⟩
  | .local _ .vmem, ⟨39, _⟩ => ⟨S8x128x128, .bf16⟩
  | .local _ .vmem, ⟨40, _⟩ => ⟨S8x128x128, .f32⟩
  | .local _ .smem, ⟨0, _⟩ => ⟨S8, .f32⟩
  | _, _ => ⟨S1x4096x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .smem, ⟨0, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_cst_8 : Ref sig .tc := ⟨.hbm, 54, rfl⟩
abbrev main_call0_v0 : Ref sig .tc := ⟨.hbm, 55, rfl⟩
abbrev main_call0_v1 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_9 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_10 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_cst_11 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_cst_12 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_cst_13 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109_0 : Ref sig .tc := ⟨.hbm, 135, rfl⟩
abbrev main_v109_1 : Ref sig .tc := ⟨.hbm, 136, rfl⟩
abbrev main_v109_2 : Ref sig .tc := ⟨.hbm, 137, rfl⟩
abbrev main_v109_3 : Ref sig .tc := ⟨.hbm, 138, rfl⟩
abbrev main_v109_4 : Ref sig .tc := ⟨.hbm, 139, rfl⟩
abbrev main_v109_5 : Ref sig .tc := ⟨.hbm, 140, rfl⟩
abbrev main_v109_6 : Ref sig .tc := ⟨.hbm, 141, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg21_0 : Ref sig .tc := ⟨.vmem, 34, rfl⟩
abbrev cc0_stg22_0 : Ref sig .tc := ⟨.vmem, 35, rfl⟩
abbrev cc0_stg23_0 : Ref sig .tc := ⟨.vmem, 36, rfl⟩
abbrev cc0_scratch0 : Ref sig .tc := ⟨.vmem, 37, rfl⟩
abbrev cc0_scratch1 : Ref sig .tc := ⟨.vmem, 38, rfl⟩
abbrev cc0_scratch2 : Ref sig .tc := ⟨.vmem, 39, rfl⟩
abbrev cc0_scratch3 : Ref sig .tc := ⟨.vmem, 40, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem21_0 : DmaSem sig := 35
abbrev cc0_sem22_0 : DmaSem sig := 36
abbrev cc0_sem23_0 : DmaSem sig := 37

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let arg0 : BitVec 32 := BitVec.ofNat 32 (i 0).val
  let c1_i32 : BitVec 32 := 1#32
  let v745 : BitVec 32 := Scalar.minsi arg0 c1_i32
  let v746 : Index := Scalar.indexCast v745
  let c0_448 : Index := 0#32
  let c0_449 : Index := 0#32
  ![v746.toNat, 0, 0]
def k0_cond3 (i : grid0.Coords) : BitVec 1 :=
  let arg0 : BitVec 32 := BitVec.ofNat 32 (i 0).val
  let c15_i32 : BitVec 32 := 15#32
  let v1264 : BitVec 1 := Scalar.cmpi .eq arg0 c15_i32
  let v1265 : BitVec 32 := Scalar.extui v1264
  let c0_i32_593 : BitVec 32 := 0#32
  let v1266 : BitVec 1 := Scalar.cmpi .ne v1265 c0_i32_593
  v1266

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c1_i32 : BitVec 32 := 1#32
  let c0_i32 : BitVec 32 := 0#32
  ![c1_i32.toNat, arg0.toNat]

def cc0_transform_4 (i : grid0.Coords) : Fin 2 → Nat :=
  let arg0 : BitVec 32 := BitVec.ofNat 32 (i 0).val
  let c2_i32 : BitVec 32 := 2#32
  let c0_i32 : BitVec 32 := 0#32
  ![c2_i32.toNat, arg0.toNat]

def cc0_transform_5 (i : grid0.Coords) : Fin 2 → Nat :=
  let arg0 : BitVec 32 := BitVec.ofNat 32 (i 0).val
  let c6_i32 : BitVec 32 := 6#32
  let c0_i32 : BitVec 32 := 0#32
  ![c6_i32.toNat, arg0.toNat]

def cc0_transform_6 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![c6_i32.toNat, v2.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat]

def cc0_transform_10 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c16_i32 : BitVec 32 := 16#32
  let v0 : BitVec 32 := Scalar.addi arg0 c16_i32
  let c1_i32 : BitVec 32 := 1#32
  let v1 : BitVec 32 := Scalar.subi v0 c1_i32
  let c16_i32_0 : BitVec 32 := 16#32
  let c0_i32 : BitVec 32 := 0#32
  let v2 : BitVec 1 := Scalar.cmpi .eq c16_i32_0 c0_i32
  let c1_i32_1 : BitVec 32 := 1#32
  let v3 : BitVec 32 := Scalar.select v2 c1_i32_1 c16_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![c0_i32_5.toNat, v11.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x256x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S8x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1536x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S8x128x128 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S8x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S8x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S8x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== AttRefIdeal.lean ====
abbrev S1x4096x1792 : Shape := ⟨3, ![1, 4096, 1792]⟩
abbrev S1x4096 : Shape := ⟨2, ![1, 4096]⟩
abbrev S1x512 : Shape := ⟨2, ![1, 512]⟩
abbrev S1x8x128x128 : Shape := ⟨4, ![1, 8, 128, 128]⟩
abbrev S1x8x128 : Shape := ⟨3, ![1, 8, 128]⟩
abbrev S1x8 : Shape := ⟨2, ![1, 8]⟩
abbrev S1x4096x1024 : Shape := ⟨3, ![1, 4096, 1024]⟩
abbrev S1x4096x768 : Shape := ⟨3, ![1, 4096, 768]⟩
abbrev S1x4096x512 : Shape := ⟨3, ![1, 4096, 512]⟩
abbrev S1x4096x128 : Shape := ⟨3, ![1, 4096, 128]⟩
abbrev S8 : Shape := ⟨1, ![8]⟩
abbrev S8x1 : Shape := ⟨2, ![8, 1]⟩
abbrev S8x128 : Shape := ⟨2, ![8, 128]⟩
abbrev S1x4096x8x64 : Shape := ⟨4, ![1, 4096, 8, 64]⟩
abbrev S32 : Shape := ⟨1, ![32]⟩
abbrev S_ : Shape := ⟨0, ![]⟩
abbrev S1x4096x1 : Shape := ⟨3, ![1, 4096, 1]⟩
abbrev S1x1x32 : Shape := ⟨3, ![1, 1, 32]⟩
abbrev S1x4096x32 : Shape := ⟨3, ![1, 4096, 32]⟩
abbrev S1x4096x1x32 : Shape := ⟨4, ![1, 4096, 1, 32]⟩
abbrev S1x4096x8x32 : Shape := ⟨4, ![1, 4096, 8, 32]⟩
abbrev S1x4096x2x64 : Shape := ⟨4, ![1, 4096, 2, 64]⟩
abbrev S1x4096x2x32 : Shape := ⟨4, ![1, 4096, 2, 32]⟩
abbrev S1x32x128x2x4x64 : Shape := ⟨6, ![1, 32, 128, 2, 4, 64]⟩
abbrev S1x32x128x2x64 : Shape := ⟨5, ![1, 32, 128, 2, 64]⟩
abbrev S1x1x128x2x64 : Shape := ⟨5, ![1, 1, 128, 2, 64]⟩
abbrev S1x31x128x2x64 : Shape := ⟨5, ![1, 31, 128, 2, 64]⟩
abbrev S1x32x256x2x64 : Shape := ⟨5, ![1, 32, 256, 2, 64]⟩
abbrev S1x32x2x256x128x4 : Shape := ⟨6, ![1, 32, 2, 256, 128, 4]⟩
abbrev S1x32x2x4x128x256 : Shape := ⟨6, ![1, 32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S2x4x128 : Shape := ⟨3, ![2, 4, 128]⟩
abbrev S1x1x2x4x128x1 : Shape := ⟨6, ![1, 1, 2, 4, 128, 1]⟩
abbrev S1x32x2x4x128x1 : Shape := ⟨6, ![1, 32, 2, 4, 128, 1]⟩
abbrev S1x32x2x4x128x257 : Shape := ⟨6, ![1, 32, 2, 4, 128, 257]⟩
abbrev S1x32x2x4x128 : Shape := ⟨5, ![1, 32, 2, 4, 128]⟩
abbrev S1x32x2x64x4x128 : Shape := ⟨6, ![1, 32, 2, 64, 4, 128]⟩
abbrev S32x2x4x128 : Shape := ⟨4, ![32, 2, 4, 128]⟩

abbrev nBuf : Space → Nat
  | .hbm => 247
  | .vmem => 0
  | .smem => 0
  | _ => 0

abbrev hbmTy0_0 (i : Nat) : BufTy := match i % 128 with
  | 0 => ⟨S1x4096x1792, .f32⟩
  | 1 => ⟨S1x4096, .i32⟩
  | 2 => ⟨S1x512, .f32⟩
  | 3 => ⟨S1x512, .f32⟩
  | 4 => ⟨S1x8x128x128, .f32⟩
  | 5 => ⟨S1x8x128, .f32⟩
  | 6 => ⟨S1x8, .f32⟩
  | 7 => ⟨S1x4096x1024, .f32⟩
  | 8 => ⟨S1x4096x768, .f32⟩
  | 9 => ⟨S1x4096x512, .f32⟩
  | 10 => ⟨S1x4096x128, .f32⟩
  | 11 => ⟨S1x4096x128, .f32⟩
  | 12 => ⟨S8, .f32⟩
  | 13 => ⟨S8x1, .f32⟩
  | 14 => ⟨S8x128, .f32⟩
  | 15 => ⟨S1x4096x8x64, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S32, .f32⟩
  | 24 => ⟨S_, .f32⟩
  | 25 => ⟨S32, .f32⟩
  | 26 => ⟨S32, .f32⟩
  | 27 => ⟨S_, .f32⟩
  | 28 => ⟨S32, .f32⟩
  | 29 => ⟨S32, .f32⟩
  | 30 => ⟨S1x4096, .f32⟩
  | 31 => ⟨S1x4096x1, .f32⟩
  | 32 => ⟨S1x1x32, .f32⟩
  | 33 => ⟨S1x4096x32, .f32⟩
  | 34 => ⟨S1x4096x32, .f32⟩
  | 35 => ⟨S1x4096x32, .f32⟩
  | 36 => ⟨S1x4096x32, .f32⟩
  | 37 => ⟨S1x4096x1x32, .f32⟩
  | 38 => ⟨S1x4096x32, .f32⟩
  | 39 => ⟨S1x4096x1x32, .f32⟩
  | 40 => ⟨S1x4096x8x32, .f32⟩
  | 41 => ⟨S1x4096x8x32, .f32⟩
  | 42 => ⟨S1x4096x8x32, .f32⟩
  | 43 => ⟨S1x4096x8x32, .f32⟩
  | 44 => ⟨S1x4096x8x32, .f32⟩
  | 45 => ⟨S1x4096x8x32, .f32⟩
  | 46 => ⟨S1x4096x8x32, .f32⟩
  | 47 => ⟨S1x4096x8x32, .f32⟩
  | 48 => ⟨S1x4096x8x32, .f32⟩
  | 49 => ⟨S1x4096x8x32, .f32⟩
  | 50 => ⟨S1x4096x8x32, .f32⟩
  | 51 => ⟨S1x4096x8x32, .f32⟩
  | 52 => ⟨S1x4096x8x64, .f32⟩
  | 53 => ⟨S1x4096x2x64, .f32⟩
  | 54 => ⟨S32, .f32⟩
  | 55 => ⟨S_, .f32⟩
  | 56 => ⟨S32, .f32⟩
  | 57 => ⟨S32, .f32⟩
  | 58 => ⟨S_, .f32⟩
  | 59 => ⟨S32, .f32⟩
  | 60 => ⟨S32, .f32⟩
  | 61 => ⟨S32, .f32⟩
  | 62 => ⟨S_, .f32⟩
  | 63 => ⟨S32, .f32⟩
  | 64 => ⟨S32, .f32⟩
  | 65 => ⟨S_, .f32⟩
  | 66 => ⟨S32, .f32⟩
  | 67 => ⟨S32, .f32⟩
  | 68 => ⟨S1x4096, .f32⟩
  | 69 => ⟨S1x4096x1, .f32⟩
  | 70 => ⟨S1x1x32, .f32⟩
  | 71 => ⟨S1x4096x32, .f32⟩
  | 72 => ⟨S1x4096x32, .f32⟩
  | 73 => ⟨S1x4096x32, .f32⟩
  | 74 => ⟨S1x4096x32, .f32⟩
  | 75 => ⟨S1x4096x1x32, .f32⟩
  | 76 => ⟨S1x4096x32, .f32⟩
  | 77 => ⟨S1x4096x1x32, .f32⟩
  | 78 => ⟨S1x4096x2x32, .f32⟩
  | 79 => ⟨S1x4096x2x32, .f32⟩
  | 80 => ⟨S1x4096x2x32, .f32⟩
  | 81 => ⟨S1x4096x2x32, .f32⟩
  | 82 => ⟨S1x4096x2x32, .f32⟩
  | 83 => ⟨S1x4096x2x32, .f32⟩
  | 84 => ⟨S1x4096x2x32, .f32⟩
  | 85 => ⟨S1x4096x2x32, .f32⟩
  | 86 => ⟨S1x4096x2x32, .f32⟩
  | 87 => ⟨S1x4096x2x32, .f32⟩
  | 88 => ⟨S1x4096x2x32, .f32⟩
  | 89 => ⟨S1x4096x2x32, .f32⟩
  | 90 => ⟨S1x4096x2x64, .f32⟩
  | 91 => ⟨S1x4096x2x64, .f32⟩
  | 92 => ⟨S1x32x128x2x4x64, .f32⟩
  | 93 => ⟨S1x32x128x2x64, .f32⟩
  | 94 => ⟨S1x1x128x2x64, .f32⟩
  | 95 => ⟨S_, .f32⟩
  | 96 => ⟨S1x1x128x2x64, .f32⟩
  | 97 => ⟨S1x31x128x2x64, .f32⟩
  | 98 => ⟨S1x32x128x2x64, .f32⟩
  | 99 => ⟨S1x32x256x2x64, .f32⟩
  | 100 => ⟨S1x32x128x2x64, .f32⟩
  | 101 => ⟨S1x1x128x2x64, .f32⟩
  | 102 => ⟨S_, .f32⟩
  | 103 => ⟨S1x1x128x2x64, .f32⟩
  | 104 => ⟨S1x31x128x2x64, .f32⟩
  | 105 => ⟨S1x32x128x2x64, .f32⟩
  | 106 => ⟨S1x32x256x2x64, .f32⟩
  | 107 => ⟨S1x32x2x256x128x4, .f32⟩
  | 108 => ⟨S1x32x2x4x128x256, .f32⟩
  | 109 => ⟨S_, .f32⟩
  | 110 => ⟨S1x32x2x4x128x256, .f32⟩
  | 111 => ⟨S1x32x2x4x128x256, .f32⟩
  | 112 => ⟨S128, .i32⟩
  | 113 => ⟨S128x1, .i32⟩
  | 114 => ⟨S256, .i32⟩
  | 115 => ⟨S1x256, .i32⟩
  | 116 => ⟨S_, .i32⟩
  | 117 => ⟨S128x1, .i32⟩
  | 118 => ⟨S128x1, .i32⟩
  | 119 => ⟨S128x256, .i32⟩
  | 120 => ⟨S128x256, .i32⟩
  | 121 => ⟨S128x256, .i32⟩
  | 122 => ⟨S_, .i32⟩
  | 123 => ⟨S128x256, .i32⟩
  | 124 => ⟨S128x256, .i1⟩
  | 125 => ⟨S_, .i32⟩
  | 126 => ⟨S128x256, .i32⟩
  | 127 => ⟨S128x256, .i1⟩
  | _ => ⟨S1x4096x1792, .f32⟩

abbrev hbmTy0_1 (i : Nat) : BufTy := match i % 128 with
  | 0 => ⟨S128x256, .i1⟩
  | 1 => ⟨S32, .i32⟩
  | 2 => ⟨S32x1x1, .i32⟩
  | 3 => ⟨S_, .i32⟩
  | 4 => ⟨S32x1x1, .i32⟩
  | 5 => ⟨S32x1x1, .i32⟩
  | 6 => ⟨S1x1x256, .i32⟩
  | 7 => ⟨S32x1x256, .i32⟩
  | 8 => ⟨S32x1x256, .i32⟩
  | 9 => ⟨S32x1x256, .i32⟩
  | 10 => ⟨S_, .i32⟩
  | 11 => ⟨S32x1x256, .i32⟩
  | 12 => ⟨S32x1x256, .i32⟩
  | 13 => ⟨S1x128x256, .i1⟩
  | 14 => ⟨S_, .i32⟩
  | 15 => ⟨S32x1x256, .i32⟩
  | 16 => ⟨S32x1x256, .i1⟩
  | 17 => ⟨S32x128x256, .i1⟩
  | 18 => ⟨S32x128x256, .i1⟩
  | 19 => ⟨S32x128x256, .i1⟩
  | 20 => ⟨S1x32x1x1x128x256, .i1⟩
  | 21 => ⟨S_, .f32⟩
  | 22 => ⟨S_, .f32⟩
  | 23 => ⟨S1x32x2x4x128x256, .i1⟩
  | 24 => ⟨S1x32x2x4x128x256, .f32⟩
  | 25 => ⟨S1x32x2x4x128x256, .f32⟩
  | 26 => ⟨S2x4x128, .f32⟩
  | 27 => ⟨S1x1x2x4x128x1, .f32⟩
  | 28 => ⟨S1x32x2x4x128x1, .f32⟩
  | 29 => ⟨S1x32x2x4x128x257, .f32⟩
  | 30 => ⟨S_, .f32⟩
  | 31 => ⟨S1x32x2x4x128x256, .f32⟩
  | 32 => ⟨S_, .f32⟩
  | 33 => ⟨S1x32x2x4x128, .f32⟩
  | 34 => ⟨S1x32x2x4x128x1, .f32⟩
  | 35 => ⟨S1x32x2x4x128x257, .f32⟩
  | 36 => ⟨S1x32x2x4x128x257, .i1⟩
  | 37 => ⟨S1x32x2x4x128x257, .f32⟩
  | 38 => ⟨S_, .f32⟩
  | 39 => ⟨S1x32x2x4x128, .f32⟩
  | 40 => ⟨S_, .f32⟩
  | 41 => ⟨S1x32x2x4x128, .f32⟩
  | 42 => ⟨S1x32x2x4x128, .f32⟩
  | 43 => ⟨S_, .f32⟩
  | 44 => ⟨S1x32x2x4x128, .f32⟩
  | 45 => ⟨S1x32x2x4x128, .i1⟩
  | 46 => ⟨S_, .f32⟩
  | 47 => ⟨S1x32x2x4x128, .f32⟩
  | 48 => ⟨S1x32x2x4x128, .i1⟩
  | 49 => ⟨S_, .f32⟩
  | 50 => ⟨S1x32x2x4x128, .f32⟩
  | 51 => ⟨S_, .f32⟩
  | 52 => ⟨S1x32x2x4x128, .f32⟩
  | 53 => ⟨S_, .f32⟩
  | 54 => ⟨S1x32x2x4x128, .f32⟩
  | 55 => ⟨S1x32x2x4x128, .f32⟩
  | 56 => ⟨S1x32x2x4x128, .f32⟩
  | 57 => ⟨S1x32x2x4x128x1, .f32⟩
  | 58 => ⟨S1x32x2x4x128x257, .f32⟩
  | 59 => ⟨S1x32x2x4x128x257, .f32⟩
  | 60 => ⟨S1x32x2x4x128x257, .f32⟩
  | 61 => ⟨S_, .f32⟩
  | 62 => ⟨S1x32x2x4x128, .f32⟩
  | 63 => ⟨S1x32x2x4x128x1, .f32⟩
  | 64 => ⟨S1x32x2x4x128x257, .f32⟩
  | 65 => ⟨S1x32x2x4x128x257, .f32⟩
  | 66 => ⟨S1x32x2x4x128x1, .f32⟩
  | 67 => ⟨S_, .f32⟩
  | 68 => ⟨S1x32x2x4x128x1, .f32⟩
  | 69 => ⟨S1x32x2x4x128x1, .f32⟩
  | 70 => ⟨S1x32x2x4x128x256, .f32⟩
  | 71 => ⟨S1x32x2x64x4x128, .f32⟩
  | 72 => ⟨S1x32x128x2x4x64, .f32⟩
  | 73 => ⟨S_, .f32⟩
  | 74 => ⟨S1x32x2x4x128, .f32⟩
  | 75 => ⟨S1x32x2x4x128x1, .f32⟩
  | 76 => ⟨S1x32x2x4x128x257, .f32⟩
  | 77 => ⟨S1x32x2x4x128x257, .i1⟩
  | 78 => ⟨S1x32x2x4x128x257, .f32⟩
  | 79 => ⟨S_, .f32⟩
  | 80 => ⟨S1x32x2x4x128, .f32⟩
  | 81 => ⟨S1x32x2x4x128x1, .f32⟩
  | 82 => ⟨S1x32x2x4x128x257, .f32⟩
  | 83 => ⟨S1x32x2x4x128x257, .f32⟩
  | 84 => ⟨S1x32x2x4x128x257, .f32⟩
  | 85 => ⟨S_, .f32⟩
  | 86 => ⟨S1x32x2x4x128, .f32⟩
  | 87 => ⟨S1x32x2x4x128, .f32⟩
  | 88 => ⟨S1x32x2x4x128, .f32⟩
  | 89 => ⟨S1x4096x512, .f32⟩
  | 90 => ⟨S1x4096x512, .f32⟩
  | 91 => ⟨S1x32x128x2x4x64, .f32⟩
  | 92 => ⟨S1x32x2x64x4x128, .f32⟩
  | 93 => ⟨S1x32x2x4x128x256, .f32⟩
  | 94 => ⟨S_, .f32⟩
  | 95 => ⟨S1x32x2x4x128x257, .f32⟩
  | 96 => ⟨S1x32x2x4x128x257, .f32⟩
  | 97 => ⟨S1x32x2x4x128x257, .f32⟩
  | 98 => ⟨S1x32x2x4x128x257, .f32⟩
  | 99 => ⟨S_, .f32⟩
  | 100 => ⟨S1x32x2x4x128, .f32⟩
  | 101 => ⟨S1x32x2x4x128x1, .f32⟩
  | 102 => ⟨S1x32x2x4x128x1, .f32⟩
  | 103 => ⟨S1x32x2x4x128x257, .f32⟩
  | 104 => ⟨S1x32x2x4x128x257, .f32⟩
  | 105 => ⟨S_, .f32⟩
  | 106 => ⟨S32x2x4x128, .f32⟩
  | 107 => ⟨S1x32x2x4x128, .f32⟩
  | 108 => ⟨S1x32x2x4x128x257, .f32⟩
  | 109 => ⟨S1x32x2x4x128x257, .f32⟩
  | 110 => ⟨S1x32x2x4x128x257, .f32⟩
  | 111 => ⟨S1x32x2x4x128x256, .f32⟩
  | 112 => ⟨S1x32x2x4x128x1, .f32⟩
  | 113 => ⟨S_, .f32⟩
  | 114 => ⟨S2x4x128, .f32⟩
  | 115 => ⟨S1x1x2x4x128x1, .f32⟩
  | 116 => ⟨S_, .f32⟩
  | 117 => ⟨S2x4x128, .f32⟩
  | 118 => ⟨S8x128, .f32⟩
  | _ => ⟨S1x4096x1792, .f32⟩

abbrev hbmTy (i : Nat) : BufTy := match i / 128 with
  | 0 => hbmTy0_0 i
  | 1 => hbmTy0_1 i
  | _ => ⟨S1x4096x1792, .f32⟩

abbrev bufTy : (tb : Table) → Fin (tcTables nBuf tb) → BufTy
  | .hbm, ⟨i, _⟩ => hbmTy i
  | _, _ => ⟨S1x4096x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_3 : Ref sig .tc := ⟨.hbm, 55, rfl⟩
abbrev main_v43 : Ref sig .tc := ⟨.hbm, 56, rfl⟩
abbrev main_v44 : Ref sig .tc := ⟨.hbm, 57, rfl⟩
abbrev main_cst_4 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_5 : Ref sig .tc := ⟨.hbm, 62, rfl⟩
abbrev main_v48 : Ref sig .tc := ⟨.hbm, 63, rfl⟩
abbrev main_v49 : Ref sig .tc := ⟨.hbm, 64, rfl⟩
abbrev main_cst_6 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_cst_7 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_cst_8 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_cst_9 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_c : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_c_10 : Ref sig .tc := ⟨.hbm, 122, rfl⟩
abbrev main_v102 : Ref sig .tc := ⟨.hbm, 123, rfl⟩
abbrev main_v103 : Ref sig .tc := ⟨.hbm, 124, rfl⟩
abbrev main_c_11 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_c_12 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_c_13 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_c_14 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_cst_15 : Ref sig .tc := ⟨.hbm, 149, rfl⟩
abbrev main_call0_v0 : Ref sig .tc := ⟨.hbm, 150, rfl⟩
abbrev main_call0_v1 : Ref sig .tc := ⟨.hbm, 151, rfl⟩
abbrev main_call0_v2 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_cst_16 : Ref sig .tc := ⟨.hbm, 158, rfl⟩
abbrev main_v129 : Ref sig .tc := ⟨.hbm, 159, rfl⟩
abbrev main_cst_17 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_cst_18 : Ref sig .tc := ⟨.hbm, 166, rfl⟩
abbrev main_v135 : Ref sig .tc := ⟨.hbm, 167, rfl⟩
abbrev main_cst_19 : Ref sig .tc := ⟨.hbm, 168, rfl⟩
abbrev main_v136 : Ref sig .tc := ⟨.hbm, 169, rfl⟩
abbrev main_v137 : Ref sig .tc := ⟨.hbm, 170, rfl⟩
abbrev main_cst_20 : Ref sig .tc := ⟨.hbm, 171, rfl⟩
abbrev main_v138 : Ref sig .tc := ⟨.hbm, 172, rfl⟩
abbrev main_v139 : Ref sig .tc := ⟨.hbm, 173, rfl⟩
abbrev main_cst_21 : Ref sig .tc := ⟨.hbm, 174, rfl⟩
abbrev main_v140 : Ref sig .tc := ⟨.hbm, 175, rfl⟩
abbrev main_v141 : Ref sig .tc := ⟨.hbm, 176, rfl⟩
abbrev main_cst_22 : Ref sig .tc := ⟨.hbm, 177, rfl⟩
abbrev main_v142 : Ref sig .tc := ⟨.hbm, 178, rfl⟩
abbrev main_cst_23 : Ref sig .tc := ⟨.hbm, 179, rfl⟩
abbrev main_v143 : Ref sig .tc := ⟨.hbm, 180, rfl⟩
abbrev main_cst_24 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_cst_25 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_cst_26 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_cst_27 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_cst_28 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_cst_29 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_cst_30 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_cst_31 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_cst_32 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_cst_33 : Ref sig .tc := ⟨.hbm, 241, rfl⟩
abbrev main_v195 : Ref sig .tc := ⟨.hbm, 242, rfl⟩
abbrev main_v196 : Ref sig .tc := ⟨.hbm, 243, rfl⟩
abbrev main_cst_34 : Ref sig .tc := ⟨.hbm, 244, rfl⟩
abbrev main_v197 : Ref sig .tc := ⟨.hbm, 245, rfl⟩
abbrev main_v198 : Ref sig .tc := ⟨.hbm, 246, rfl⟩

abbrev nD : Nat := 1
abbrev τ : Topo := Topo.v7x

variable {F : FTy → Type} [FloatOps F]
-- ==== Proof.FfnBlock.lean ====
module

public import proofs.«01_k».proof.Proof.Gen.FfnIdeal.Frame.Runs
public import Idealize.ShloMosaic.Lib.ValueIdx
public import Idealize.ShloMosaic.Lib.VecWindow
public import Idealize.ShloMosaic.Lib.WritesUnit
public import Idealize.ShloMosaic.Lib.WholeRead

@[expose] public section

set_option maxRecDepth 16384

noncomputable section

namespace Cert.FfnIdeal.Hand

open Cert.FfnIdeal Cert.FfnIdeal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-- What one grid point of the kernel reads: its four row blocks, the four rows of layer-norm
    parameters, and the two weights once they are in VMEM. -/
structure Ins (F : FTy → Type) [FloatOps F] where
  xhat1 : Vec F S256x1024 .f32
  rstd1 : Vec F S256x1 .f32
  x1b : Vec F S256x1024 .bf16
  target : Vec F S256x1024 .f32
  g1 : Vec F S1x1024 .f32
  b1 : Vec F S1x1024 .f32
  g2 : Vec F S1x1024 .f32
  b2 : Vec F S1x1024 .f32
  w1 : Vec F S1024x4096 .bf16
  w2 : Vec F S4096x1024 .bf16

/-- A load of a whole rank-2 buffer reads what the buffer holds. -/
theorem readAt_lit {sp : Space} {e : EltTy} {a b : ℕ} (v : View sig .tc sp (⟨2, ![a, b]⟩ : Shape) e) (f : v.ty.Contents (Elt F)) (inb) :
    v.readAt (Elt F) (Rect.unit (s := ⟨2, ![a, b]⟩) ![0, 0] ![a, b] inb).toLoadRect f = v.read (Elt F) f := View.readAt_full v f inb

/-- … and after a store of the whole buffer, the value stored. -/
theorem readCov_lit {sp : Space} {e : EltTy} {a b : ℕ} (v : View sig .tc sp (⟨2, ![a, b]⟩ : Shape) e) (inb) (inb')
    (w : (⟨2, ![a, b]⟩ : Shape).Idx → Elt F e) (L : List (View.Piece (Elt F) (⟨2, ![a, b]⟩ : Shape) e)) :
    v.readCov (⟨Rect.unit (s := ⟨2, ![a, b]⟩) ![0, 0] ![a, b] inb', w⟩ :: L) (Rect.unit (s := ⟨2, ![a, b]⟩) ![0, 0] ![a, b] inb).toLoadRect = w :=
  View.readCov_full v inb inb' w L

/-- Row `r` of the running sums. -/
def row (s : Vec F S8x1024 .f32) (r : Fin 8) : Vec F S1x1024 .f32 := fun j => s (ix2 r (j 1))

/-- The eight running sums with the first five rows replaced. -/
def putRows (p0 p1 p2 p3 p4 : Vec F S1x1024 .f32) (s : Vec F S8x1024 .f32) : Vec F S8x1024 .f32 := fun j =>
  match j 0 with
  | ⟨0, _⟩ => p0 (ix2 0 (j 1))
  | ⟨1, _⟩ => p1 (ix2 0 (j 1))
  | ⟨2, _⟩ => p2 (ix2 0 (j 1))
  | ⟨3, _⟩ => p3 (ix2 0 (j 1))
  | ⟨4, _⟩ => p4 (ix2 0 (j 1))
  | _ => s j

/-- Five stores of one row each, the newest to row 4, read back. -/
theorem read_putRows {sp : Space} (v : View sig .tc sp S8x1024 .f32) (f : v.ty.Contents (Elt F)) (L : List (View.Piece (Elt F) S8x1024 .f32))
    (p0 p1 p2 p3 p4 : Vec F S1x1024 .f32) :
    v.read (Elt F) (v.writes (Elt F) f
      (⟨Rect.unit (s := S8x1024) ![4, 0] S1x1024.size inb_S8x1024_S1x1024_4_0, p4⟩
        :: ⟨Rect.unit (s := S8x1024) ![3, 0] S1x1024.size inb_S8x1024_S1x1024_3_0, p3⟩
        :: ⟨Rect.unit (s := S8x1024) ![2, 0] S1x1024.size inb_S8x1024_S1x1024_2_0, p2⟩
        :: ⟨Rect.unit (s := S8x1024) ![1, 0] S1x1024.size inb_S8x1024_S1x1024_1_0, p1⟩
        :: ⟨Rect.unit (s := S8x1024) ![0, 0] S1x1024.size inb_S8x1024_S1x1024_0_0, p0⟩ :: L))
      = putRows p0 p1 p2 p3 p4 (v.read (Elt F) (v.writes (Elt F) f L)) := by
  have hit : ∀ (r : ℕ) (inb) (w : Vec F S1x1024 .f32) (L' : List (View.Piece (Elt F) S8x1024 .f32)) (y : S8x1024.Idx),
      (y 0).val = r → v.read (Elt F) (v.writes (Elt F) f (⟨Rect.unit (s := S8x1024) ![r, 0] S1x1024.size inb, w⟩ :: L')) y
        = w (ix2 0 (y 1)) := fun r inb w L' y h =>
    View.read_writes_cons_rows_of_mem (o := r) v f inb w L' y (ix2 0 (y 1)) rfl (by simpa using h) rfl
  have miss : ∀ (r : ℕ) (inb) (w : Vec F S1x1024 .f32) (L' : List (View.Piece (Elt F) S8x1024 .f32)) (y : S8x1024.Idx),
      (y 0).val ≠ r → v.read (Elt F) (v.writes (Elt F) f (⟨Rect.unit (s := S8x1024) ![r, 0] S1x1024.size inb, w⟩ :: L')) y
        = v.read (Elt F) (v.writes (Elt F) f L') y := fun r inb w L' y h =>
    View.read_writes_cons_rows_of_not_mem (o := r) (W := 1) v f inb w L' y rfl rfl (by omega)
  funext y
  have hy : y = ix2 (y 0) (y 1) := eq_ix2 y
  have hlt : (y 0).val < 8 := (y 0).isLt
  generalize y 0 = r at hy hlt
  generalize y 1 = k at hy
  subst hy
  match r, hlt with
  | ⟨4, _⟩, _ => exact hit 4 _ _ _ _ rfl
  | ⟨3, _⟩, _ => exact (miss 4 _ _ _ _ (by simp)).trans (hit 3 _ _ _ _ rfl)
  | ⟨2, _⟩, _ => exact (miss 4 _ _ _ _ (by simp)).trans ((miss 3 _ _ _ _ (by simp)).trans (hit 2 _ _ _ _ rfl))
  | ⟨1, _⟩, _ => exact (miss 4 _ _ _ _ (by simp)).trans ((miss 3 _ _ _ _ (by simp)).trans ((miss 2 _ _ _ _ (by simp)).trans (hit 1 _ _ _ _ rfl)))
  | ⟨0, _⟩, _ => exact (miss 4 _ _ _ _ (by simp)).trans ((miss 3 _ _ _ _ (by simp)).trans ((miss 2 _ _ _ _ (by simp)).trans ((miss 1 _ _ _ _ (by simp)).trans (hit 0 _ _ _ _ rfl))))
  | ⟨n + 5, _⟩, _ => exact (miss 4 _ _ _ _ (by simp)).trans ((miss 3 _ _ _ _ (by simp)).trans ((miss 2 _ _ _ _ (by simp)).trans ((miss 1 _ _ _ _ (by simp)).trans (miss 0 _ _ _ _ (by simp)))))

theorem row_lt {r : ℕ} (inb : ∀ a, (![r, 0] : Fin 2 → ℕ) a + (![1, 1024] : Fin 2 → ℕ) a ≤ S8x1024.size a) : r < 8 := by
  have := inb 0
  simp at this
  omega

/-- A load of row `r` reads that row. -/
theorem readAt_row {sp : Space} (v : View sig .tc sp S8x1024 .f32) (f : v.ty.Contents (Elt F)) (r : ℕ) (inb) :
    v.readAt (Elt F) (Rect.unit (s := S8x1024) ![r, 0] ![1, 1024] inb).toLoadRect f
      = row (v.read (Elt F) f) ⟨r, row_lt inb⟩ := by
  funext j
  refine congrArg (v.read (Elt F) f) (funext fun a => Fin.ext ?_)
  match a with
  | ⟨0, _⟩ =>
    have : (j 0).val = 0 := by have := (j 0).isLt; simp at this; omega
    show r + 1 * (j 0).val = r
    omega
  | ⟨1, _⟩ =>
    show 0 + 1 * (j 1).val = (j 1).val
    omega

/-- … and after stores that cover it, what they left. -/
theorem readCov_row {sp : Space} (v : View sig .tc sp S8x1024 .f32) (L : List (View.Piece (Elt F) S8x1024 .f32)) (r : ℕ) (inb) :
    v.readCov L (Rect.unit (s := S8x1024) ![r, 0] ![1, 1024] inb).toLoadRect
      = row (v.read (Elt F) (v.writes (Elt F) v.junk L)) ⟨r, row_lt inb⟩ := readAt_row v _ r inb

/-- A store to another row leaves row `r`. -/
theorem row_miss {sp : Space} (v : View sig .tc sp S8x1024 .f32) (f : v.ty.Contents (Elt F)) (L : List (View.Piece (Elt F) S8x1024 .f32))
    (r r' : ℕ) (inb) (p : Vec F S1x1024 .f32) (hr : r < 8) (h : r ≠ r') :
    row (v.read (Elt F) (v.writes (Elt F) f (⟨Rect.unit (s := S8x1024) ![r', 0] ![1, 1024] inb, p⟩ :: L))) ⟨r, hr⟩
      = row (v.read (Elt F) (v.writes (Elt F) f L)) ⟨r, hr⟩ := by
  funext j
  exact View.read_writes_cons_rows_of_not_mem (o := r') (W := 1) v f inb p L _ rfl rfl (by show r < r' ∨ r' + 1 ≤ r; omega)

/-- A store of a whole rank-2 buffer, read back. -/
theorem read_full_lit {sp : Space} {e : EltTy} {a b : ℕ} (v : View sig .tc sp (⟨2, ![a, b]⟩ : Shape) e) (f : v.ty.Contents (Elt F)) (inb)
    (w : (⟨2, ![a, b]⟩ : Shape).Idx → Elt F e) (L : List (View.Piece (Elt F) (⟨2, ![a, b]⟩ : Shape) e)) :
    v.read (Elt F) (v.writes (Elt F) f (⟨Rect.unit (s := ⟨2, ![a, b]⟩) ![0, 0] ![a, b] inb, w⟩ :: L)) = w :=
  View.read_writes_full v f inb w L

namespace Ins
variable (X : Ins F)

/-- The rectified product with the first weight. -/
def relu : FVec F S256x4096 .f32 := k0_pay4 X.x1b X.w1
/-- Its square: the activations. -/
def act : FVec F S256x4096 .bf16 := k0_pay5 X.relu
/-- The layer's output before its norm. -/
def z2 : FVec F S256x1024 .f32 := k0_pay6 X.g1 X.xhat1 X.relu X.w2 X.b1
def rstd2 : FVec F S256x1 .f32 := k0_pay8 X.z2
def xhat2 : FVec F S256x1024 .f32 := k0_pay9 X.z2
/-- The loss of the block's rows. -/
def loss : FVec F S1x1 .f32 := k0_pay11 X.g2 X.z2 X.b2 X.target
/-- The gradient of the loss by the norm's output. -/
def dy : FVec F S256x1024 .f32 := k0_pay12 X.g2 X.z2 X.b2 X.target
def dxc : FVec F S256x1024 .f32 := k0_pay14 X.g2 X.z2 X.b2 X.target
def dxx : FVec F S256x1024 .f32 := k0_pay15 X.g2 X.z2 X.b2 X.target
/-- The gradient by the layer's output, rounded to bf16. -/
def dz2b : FVec F S256x1024 .bf16 := k0_pay17 X.rstd2 X.xhat2 X.dxc X.dxx
/-- The gradient by the product with the first weight. -/
def dpre : FVec F S256x4096 .bf16 := k0_pay18 X.rstd2 X.xhat2 X.dxc X.dxx X.w2 X.relu
/-- The gradient by the layer's input. -/
def dx1 : FVec F S256x1024 .f32 := k0_pay19 X.rstd2 X.xhat2 X.dxc X.dxx X.w2 X.relu X.w1
/-- The gradient by the input of the first norm. -/
def dz1 : FVec F S256x1024 .f32 :=
  k0_pay24 (k0_pay3 X.xhat1) (k0_pay20 X.rstd1)
    (k0_pay22 X.g1 X.rstd2 X.xhat2 X.dxc X.dxx X.w2 X.relu X.w1)
    (k0_pay23 X.g1 (k0_pay3 X.xhat1) X.rstd2 X.xhat2 X.dxc X.dxx X.w2 X.relu X.w1)

/-- The running sums after the point: its five rows added, the other three kept. -/
def stats (s : Vec F S8x1024 .f32) : Vec F S8x1024 .f32 :=
  putRows (k0_pay25 (k0_pay3 X.xhat1) X.dx1 (row s 0)) (k0_pay26 X.dx1 (row s 1)) (k0_pay27 X.xhat2 X.dy (row s 2))
    (k0_pay28 X.dy (row s 3)) (k0_pay1 X.loss (row s 4)) s
/-- The same point with other weights. -/
def withWeights (w1 : Vec F S1024x4096 .bf16) (w2 : Vec F S4096x1024 .bf16) : Ins F := { X with w1 := w1, w2 := w2 }
end Ins

/-- The cell of the weight pieces that holds column (or row) `q` of the whole weight: the piece. -/
def pieceOf (q : ℕ) (h : q < 4096) : Fin 8 := ⟨q / 512, by omega⟩
/-- … and the place within its half. -/
def placeOf (q : ℕ) : Fin 256 := ⟨q % 256, Nat.mod_lt _ (by decide)⟩

/-- The first weight put together from the two halves of its eight pieces. -/
def w1Of (a b : Vec F S8x1024x256 .bf16) : Vec F S1024x4096 .bf16 := fun j =>
  if ((j 1).val / 256) % 2 = 0
    then a (ix3 (pieceOf (j 1).val (j 1).isLt) (j 0) (placeOf (j 1).val))
    else b (ix3 (pieceOf (j 1).val (j 1).isLt) (j 0) (placeOf (j 1).val))

/-- The second weight put together from the two halves of its eight pieces. -/
def w2Of (a b : Vec F S8x256x1024 .bf16) : Vec F S4096x1024 .bf16 := fun j =>
  if ((j 0).val / 256) % 2 = 0
    then a (ix3 (pieceOf (j 0).val (j 0).isLt) (placeOf (j 0).val) (j 1))
    else b (ix3 (pieceOf (j 0).val (j 0).isLt) (placeOf (j 0).val) (j 1))

/-- The staging memrefs that the body is called with, each a whole buffer. -/
structure Slots where
  m1 : Memref sig .tc .vmem S256x1024 .f32
  h1 : m1.IsWhole
  m2 : Memref sig .tc .vmem S256x1 .f32
  h2 : m2.IsWhole
  m3 : Memref sig .tc .vmem S256x1024 .bf16
  h3 : m3.IsWhole
  m4 : Memref sig .tc .vmem S256x1024 .f32
  h4 : m4.IsWhole
  m9 : Memref sig .tc .vmem S1x1024 .f32
  h9 : m9.IsWhole
  m10 : Memref sig .tc .vmem S1x1024 .f32
  h10 : m10.IsWhole
  m11 : Memref sig .tc .vmem S1x1024 .f32
  h11 : m11.IsWhole
  m12 : Memref sig .tc .vmem S1x1024 .f32
  h12 : m12.IsWhole
  m13 : Memref sig .tc .vmem S256x4096 .bf16
  h13 : m13.IsWhole
  m14 : Memref sig .tc .vmem S256x4096 .bf16
  h14 : m14.IsWhole
  m15 : Memref sig .tc .vmem S256x1024 .bf16
  h15 : m15.IsWhole
  m16 : Memref sig .tc .vmem S256x1024 .f32
  h16 : m16.IsWhole
  m17 : Memref sig .tc .vmem S8x1024 .f32
  h17 : m17.IsWhole
  m18 : Memref sig .tc .vmem S256x4096 .f32
  h18 : m18.IsWhole
  m19 : Memref sig .tc .vmem S1024x4096 .bf16
  h19 : m19.IsWhole
  m20 : Memref sig .tc .vmem S4096x1024 .bf16
  h20 : m20.IsWhole

/-- The body at one grid point over given staging memrefs. -/
abbrev bodyOn (S : Slots) (i : grid0.Coords) : Prog (TpuEff nD τ sig (Elt F) Λ₀ .tc) PUnit :=
  cc0_ffn_fwd_bwd i S.m1 S.h1 S.m2 S.h2 S.m3 S.h3 S.m4 S.h4 (Memref.whole main_v32) (Memref.isWhole_whole _) (Memref.whole main_v33) (Memref.isWhole_whole _) (Memref.whole main_v34) (Memref.isWhole_whole _) (Memref.whole main_v35) (Memref.isWhole_whole _) S.m9 S.h9 S.m10 S.h10 S.m11 S.h11 S.m12 S.h12 S.m13 S.h13 S.m14 S.h14 S.m15 S.h15 S.m16 S.h16 S.m17 S.h17 S.m18 S.h18 S.m19 S.h19 S.m20 S.h20 cc0_scratch3

/-- The inputs' staging buffers at the point's blocks. -/
abbrev insAt (S : Slots) (c : Dev nD) (X : Ins F) : sProp 𝕄 :=
  iprop(owns (c : Thread nD τ) S.m1 fullShare X.xhat1 ∗ owns (c : Thread nD τ) S.m2 fullShare X.rstd1 ∗ owns (c : Thread nD τ) S.m3 fullShare X.x1b ∗ owns (c : Thread nD τ) S.m4 fullShare X.target ∗ owns (c : Thread nD τ) S.m9 fullShare X.g1 ∗ owns (c : Thread nD τ) S.m10 fullShare X.b1 ∗ owns (c : Thread nD τ) S.m11 fullShare X.g2 ∗ owns (c : Thread nD τ) S.m12 fullShare X.b2)

/-- The kernel's own semaphore cells at zero. -/
abbrev cellsAt (c : Dev nD) : sProp 𝕄 :=
  iprop(semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0)

/-- The four arrays of weight pieces in HBM, at given contents. -/
abbrev piecesAt (c : Dev nD) (f0 : HbBuf0 (F := F) c hbM0_0) (f1 : HbBuf0 (F := F) c hbM0_1) (f2 : HbBuf0 (F := F) c hbM0_2)
    (f3 : HbBuf0 (F := F) c hbM0_3) : sProp 𝕄 :=
  iprop(hbPt0 c hbM0_0 f0 ∗ hbPt0 c hbM0_1 f1 ∗ hbPt0 c hbM0_2 f2 ∗ hbPt0 c hbM0_3 f3)

/-- What the body leaves: each result's block, and the two weights in VMEM. -/
abbrev outsAt (S : Slots) (c : Dev nD) (X : Ins F) (s : Vec F S8x1024 .f32) : sProp 𝕄 :=
  iprop(owns (c : Thread nD τ) S.m13 fullShare X.act ∗ owns (c : Thread nD τ) S.m14 fullShare X.dpre ∗ owns (c : Thread nD τ) S.m15 fullShare X.dz2b ∗ owns (c : Thread nD τ) S.m16 fullShare X.dz1 ∗ owns (c : Thread nD τ) S.m17 fullShare (X.stats s) ∗ (∃ d, owns (c : Thread nD τ) S.m18 fullShare d) ∗ owns (c : Thread nD τ) S.m19 fullShare X.w1 ∗ owns (c : Thread nD τ) S.m20 fullShare X.w2)

end Cert.FfnIdeal.Hand

end
-- ==== Proof.FfnWeights.lean ====
module

public import proofs.«01_k».proof.Proof.FfnBlock
public import Idealize.ShloMosaic.Lib.Pipeline.Value

@[expose] public section

set_option maxRecDepth 16384

noncomputable section

namespace Cert.FfnIdeal.Hand

open Cert.FfnIdeal Cert.FfnIdeal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- Sixteen blocks of 256 columns put side by side. -/
def joinCols (p : Fin 16 → Vec F S1024x256 .bf16) : Vec F S1024x4096 .bf16 := fun j =>
  p ⟨(j 1).val / 256, by have : (j 1).val < 4096 := (j 1).isLt; omega⟩ (ix2 (j 0) ⟨(j 1).val % 256, Nat.mod_lt _ (by decide)⟩)

theorem joinCols_at (p : Fin 16 → Vec F S1024x256 .bf16) (k : Fin 16) (x : S1024x256.Idx) (j : S1024x4096.Idx)
    (h : (j 0).val = (x 0).val) (h' : (j 1).val = 256 * k.val + (x 1).val) : joinCols p j = p k x := by
  have hx : (x 1).val < 256 := (x 1).isLt
  unfold joinCols
  have e : (⟨(j 1).val / 256, by have : (j 1).val < 4096 := (j 1).isLt; omega⟩ : Fin 16) = k := Fin.ext (by show (j 1).val / 256 = k.val; omega)
  rw [e]
  refine congrArg (p k) (funext fun a => Fin.ext ?_)
  match a with
  | ⟨0, _⟩ => exact h
  | ⟨1, _⟩ => show (j 1).val % 256 = (x 1).val; omega

theorem read_cols {sp : Space} (v : View sig .tc sp S1024x4096 .bf16) (f : v.ty.Contents (Elt F)) (p0 p1 p2 p3 p4 p5 p6 p7 p8 p9 p10 p11 p12 p13 p14 p15 : Vec F S1024x256 .bf16)
    (i0 i1 i2 i3 i4 i5 i6 i7 i8 i9 i10 i11 i12 i13 i14 i15) :
    v.read (Elt F) (v.writes (Elt F) f
      [⟨Rect.unit (s := S1024x4096) ![0, 3840] ![1024, 256] i15, p15⟩,
        ⟨Rect.unit (s := S1024x4096) ![0, 3584] ![1024, 256] i14, p14⟩,
        ⟨Rect.unit (s := S1024x4096) ![0, 3328] ![1024, 256] i13, p13⟩,
        ⟨Rect.unit (s := S1024x4096) ![0, 3072] ![1024, 256] i12, p12⟩,
        ⟨Rect.unit (s := S1024x4096) ![0, 2816] ![1024, 256] i11, p11⟩,
        ⟨Rect.unit (s := S1024x4096) ![0, 2560] ![1024, 256] i10, p10⟩,
        ⟨Rect.unit (s := S1024x4096) ![0, 2304] ![1024, 256] i9, p9⟩,
        ⟨Rect.unit (s := S1024x4096) ![0, 2048] ![1024, 256] i8, p8⟩,
        ⟨Rect.unit (s := S1024x4096) ![0, 1792] ![1024, 256] i7, p7⟩,
        ⟨Rect.unit (s := S1024x4096) ![0, 1536] ![1024, 256] i6, p6⟩,
        ⟨Rect.unit (s := S1024x4096) ![0, 1280] ![1024, 256] i5, p5⟩,
        ⟨Rect.unit (s := S1024x4096) ![0, 1024] ![1024, 256] i4, p4⟩,
        ⟨Rect.unit (s := S1024x4096) ![0, 768] ![1024, 256] i3, p3⟩,
        ⟨Rect.unit (s := S1024x4096) ![0, 512] ![1024, 256] i2, p2⟩,
        ⟨Rect.unit (s := S1024x4096) ![0, 256] ![1024, 256] i1, p1⟩,
        ⟨Rect.unit (s := S1024x4096) ![0, 0] ![1024, 256] i0, p0⟩])
      = joinCols ![p0, p1, p2, p3, p4, p5, p6, p7, p8, p9, p10, p11, p12, p13, p14, p15] := by
  funext y
  refine View.read_writes_apply_of_pieces v f (joinCols ![p0, p1, p2, p3, p4, p5, p6, p7, p8, p9, p10, p11, p12, p13, p14, p15]) _ ?_ y ?_
  · simp only [List.forall_mem_cons, List.not_mem_nil, false_imp_iff, implies_true, and_true]
    refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_⟩
    · refine (joinCols_at ![p0, p1, p2, p3, p4, p5, p6, p7, p8, p9, p10, p11, p12, p13, p14, p15] 15 x _ ?_ ?_).symm
      · show 0 + 1 * (x 0).val = (x 0).val; omega
      · show 3840 + 1 * (x 1).val = 256 * 15 + (x 1).val; omega
    · refine (joinCols_at ![p0, p1, p2, p3, p4, p5, p6, p7, p8, p9, p10, p11, p12, p13, p14, p15] 14 x _ ?_ ?_).symm
      · show 0 + 1 * (x 0).val = (x 0).val; omega
      · show 3584 + 1 * (x 1).val = 256 * 14 + (x 1).val; omega
    · refine (joinCols_at ![p0, p1, p2, p3, p4, p5, p6, p7, p8, p9, p10, p11, p12, p13, p14, p15] 13 x _ ?_ ?_).symm
      · show 0 + 1 * (x 0).val = (x 0).val; omega
      · show 3328 + 1 * (x 1).val = 256 * 13 + (x 1).val; omega
    · refine (joinCols_at ![p0, p1, p2, p3, p4, p5, p6, p7, p8, p9, p10, p11, p12, p13, p14, p15] 12 x _ ?_ ?_).symm
      · show 0 + 1 * (x 0).val = (x 0).val; omega
      · show 3072 + 1 * (x 1).val = 256 * 12 + (x 1).val; omega
    · refine (joinCols_at ![p0, p1, p2, p3, p4, p5, p6, p7, p8, p9, p10, p11, p12, p13, p14, p15] 11 x _ ?_ ?_).symm
      · show 0 + 1 * (x 0).val = (x 0).val; omega
      · show 2816 + 1 * (x 1).val = 256 * 11 + (x 1).val; omega
    · refine (joinCols_at ![p0, p1, p2, p3, p4, p5, p6, p7, p8, p9, p10, p11, p12, p13, p14, p15] 10 x _ ?_ ?_).symm
      · show 0 + 1 * (x 0).val = (x 0).val; omega
      · show 2560 + 1 * (x 1).val = 256 * 10 + (x 1).val; omega
    · refine (joinCols_at ![p0, p1, p2, p3, p4, p5, p6, p7, p8, p9, p10, p11, p12, p13, p14, p15] 9 x _ ?_ ?_).symm
      · show 0 + 1 * (x 0).val = (x 0).val; omega
      · show 2304 + 1 * (x 1).val = 256 * 9 + (x 1).val; omega
    · refine (joinCols_at ![p0, p1, p2, p3, p4, p5, p6, p7, p8, p9, p10, p11, p12, p13, p14, p15] 8 x _ ?_ ?_).symm
      · show 0 + 1 * (x 0).val = (x 0).val; omega
      · show 2048 + 1 * (x 1).val = 256 * 8 + (x 1).val; omega
    · refine (joinCols_at ![p0, p1, p2, p3, p4, p5, p6, p7, p8, p9, p10, p11, p12, p13, p14, p15] 7 x _ ?_ ?_).symm
      · show 0 + 1 * (x 0).val = (x 0).val; omega
      · show 1792 + 1 * (x 1).val = 256 * 7 + (x 1).val; omega
    · refine (joinCols_at ![p0, p1, p2, p3, p4, p5, p6, p7, p8, p9, p10, p11, p12, p13, p14, p15] 6 x _ ?_ ?_).symm
      · show 0 + 1 * (x 0).val = (x 0).val; omega
      · show 1536 + 1 * (x 1).val = 256 * 6 + (x 1).val; omega
    · refine (joinCols_at ![p0, p1, p2, p3, p4, p5, p6, p7, p8, p9, p10, p11, p12, p13, p14, p15] 5 x _ ?_ ?_).symm
      · show 0 + 1 * (x 0).val = (x 0).val; omega
      · show 1280 + 1 * (x 1).val = 256 * 5 + (x 1).val; omega
    · refine (joinCols_at ![p0, p1, p2, p3, p4, p5, p6, p7, p8, p9, p10, p11, p12, p13, p14, p15] 4 x _ ?_ ?_).symm
      · show 0 + 1 * (x 0).val = (x 0).val; omega
      · show 1024 + 1 * (x 1).val = 256 * 4 + (x 1).val; omega
    · refine (joinCols_at ![p0, p1, p2, p3, p4, p5, p6, p7, p8, p9, p10, p11, p12, p13, p14, p15] 3 x _ ?_ ?_).symm
      · show 0 + 1 * (x 0).val = (x 0).val; omega
      · show 768 + 1 * (x 1).val = 256 * 3 + (x 1).val; omega
    · refine (joinCols_at ![p0, p1, p2, p3, p4, p5, p6, p7, p8, p9, p10, p11, p12, p13, p14, p15] 2 x _ ?_ ?_).symm
      · show 0 + 1 * (x 0).val = (x 0).val; omega
      · show 512 + 1 * (x 1).val = 256 * 2 + (x 1).val; omega
    · refine (joinCols_at ![p0, p1, p2, p3, p4, p5, p6, p7, p8, p9, p10, p11, p12, p13, p14, p15] 1 x _ ?_ ?_).symm
      · show 0 + 1 * (x 0).val = (x 0).val; omega
      · show 256 + 1 * (x 1).val = 256 * 1 + (x 1).val; omega
    · refine (joinCols_at ![p0, p1, p2, p3, p4, p5, p6, p7, p8, p9, p10, p11, p12, p13, p14, p15] 0 x _ ?_ ?_).symm
      · show 0 + 1 * (x 0).val = (x 0).val; omega
      · show 0 + 1 * (x 1).val = 256 * 0 + (x 1).val; omega
  · have hy : (y 1).val < 4096 := (y 1).isLt
    have ho : (y 0).val < 1024 := (y 0).isLt
    obtain ⟨q, hq, hq'⟩ : ∃ q, q < 16 ∧ (y 1).val / 256 = q := ⟨_, by omega, rfl⟩
    have hin : ∀ (o : Fin 2 → ℕ) (inb), o 0 = 0 → o 1 = 256 * q → y ∈ (Rect.unit (s := S1024x4096) o S1024x256.size inb).set := by
      intro o inb h0 h1
      rw [Rect.mem_set_unit]
      intro a
      match a with
      | ⟨0, _⟩ => exact ⟨by show o 0 ≤ (y 0).val; omega, by show (y 0).val < o 0 + 1024; omega⟩
      | ⟨1, _⟩ => exact ⟨by show o 1 ≤ (y 1).val; omega, by show (y 1).val < o 1 + 256; omega⟩
    interval_cases q
    · exact ⟨_, .tail _ (.tail _ (.tail _ (.tail _ (.tail _ (.tail _ (.tail _ (.tail _ (.tail _ (.tail _ (.tail _ (.tail _ (.tail _ (.tail _ (.tail _ (.head _))))))))))))))), hin _ i0 rfl rfl⟩
    · exact ⟨_, .tail _ (.tail _ (.tail _ (.tail _ (.tail _ (.tail _ (.tail _ (.tail _ (.tail _ (.tail _ (.tail _ (.tail _ (.tail _ (.tail _ (.head _)))))))))))))), hin _ i1 rfl rfl⟩
    · exact ⟨_, .tail _ (.tail _ (.tail _ (.tail _ (.tail _ (.tail _ (.tail _ (.tail _ (.tail _ (.tail _ (.tail _ (.tail _ (.tail _ (.head _))))))))))))), hin _ i2 rfl rfl⟩
    · exact ⟨_, .tail _ (.tail _ (.tail _ (.tail _ (.tail _ (.tail _ (.tail _ (.tail _ (.tail _ (.tail _ (.tail _ (.tail _ (.head _)))))))))))), hin _ i3 rfl rfl⟩
    · exact ⟨_, .tail _ (.tail _ (.tail _ (.tail _ (.tail _ (.tail _ (.tail _ (.tail _ (.tail _ (.tail _ (.tail _ (.head _))))))))))), hin _ i4 rfl rfl⟩
    · exact ⟨_, .tail _ (.tail _ (.tail _ (.tail _ (.tail _ (.tail _ (.tail _ (.tail _ (.tail _ (.tail _ (.head _)))))))))), hin _ i5 rfl rfl⟩
    · exact ⟨_, .tail _ (.tail _ (.tail _ (.tail _ (.tail _ (.tail _ (.tail _ (.tail _ (.tail _ (.head _))))))))), hin _ i6 rfl rfl⟩
    · exact ⟨_, .tail _ (.tail _ (.tail _ (.tail _ (.tail _ (.tail _ (.tail _ (.tail _ (.head _)))))))), hin _ i7 rfl rfl⟩
    · exact ⟨_, .tail _ (.tail _ (.tail _ (.tail _ (.tail _ (.tail _ (.tail _ (.head _))))))), hin _ i8 rfl rfl⟩
    · exact ⟨_, .tail _ (.tail _ (.tail _ (.tail _ (.tail _ (.tail _ (.head _)))))), hin _ i9 rfl rfl⟩
    · exact ⟨_, .tail _ (.tail _ (.tail _ (.tail _ (.tail _ (.head _))))), hin _ i10 rfl rfl⟩
    · exact ⟨_, .tail _ (.tail _ (.tail _ (.tail _ (.head _)))), hin _ i11 rfl rfl⟩
    · exact ⟨_, .tail _ (.tail _ (.tail _ (.head _))), hin _ i12 rfl rfl⟩
    · exact ⟨_, .tail _ (.tail _ (.head _)), hin _ i13 rfl rfl⟩
    · exact ⟨_, .tail _ (.head _), hin _ i14 rfl rfl⟩
    · exact ⟨_, .head _, hin _ i15 rfl rfl⟩

theorem readCov_cols {sp : Space} (v : View sig .tc sp S1024x4096 .bf16) (p0 p1 p2 p3 p4 p5 p6 p7 p8 p9 p10 p11 p12 p13 p14 p15 : Vec F S1024x256 .bf16)
    (i0 i1 i2 i3 i4 i5 i6 i7 i8 i9 i10 i11 i12 i13 i14 i15) (inb) :
    v.readCov (Val := Elt F)
      [⟨Rect.unit (s := S1024x4096) ![0, 3840] ![1024, 256] i15, p15⟩,
        ⟨Rect.unit (s := S1024x4096) ![0, 3584] ![1024, 256] i14, p14⟩,
        ⟨Rect.unit (s := S1024x4096) ![0, 3328] ![1024, 256] i13, p13⟩,
        ⟨Rect.unit (s := S1024x4096) ![0, 3072] ![1024, 256] i12, p12⟩,
        ⟨Rect.unit (s := S1024x4096) ![0, 2816] ![1024, 256] i11, p11⟩,
        ⟨Rect.unit (s := S1024x4096) ![0, 2560] ![1024, 256] i10, p10⟩,
        ⟨Rect.unit (s := S1024x4096) ![0, 2304] ![1024, 256] i9, p9⟩,
        ⟨Rect.unit (s := S1024x4096) ![0, 2048] ![1024, 256] i8, p8⟩,
        ⟨Rect.unit (s := S1024x4096) ![0, 1792] ![1024, 256] i7, p7⟩,
        ⟨Rect.unit (s := S1024x4096) ![0, 1536] ![1024, 256] i6, p6⟩,
        ⟨Rect.unit (s := S1024x4096) ![0, 1280] ![1024, 256] i5, p5⟩,
        ⟨Rect.unit (s := S1024x4096) ![0, 1024] ![1024, 256] i4, p4⟩,
        ⟨Rect.unit (s := S1024x4096) ![0, 768] ![1024, 256] i3, p3⟩,
        ⟨Rect.unit (s := S1024x4096) ![0, 512] ![1024, 256] i2, p2⟩,
        ⟨Rect.unit (s := S1024x4096) ![0, 256] ![1024, 256] i1, p1⟩,
        ⟨Rect.unit (s := S1024x4096) ![0, 0] ![1024, 256] i0, p0⟩] (Rect.unit (s := S1024x4096) ![0, 0] ![1024, 4096] inb).toLoadRect
      = joinCols ![p0, p1, p2, p3, p4, p5, p6, p7, p8, p9, p10, p11, p12, p13, p14, p15] :=
  (readAt_lit v _ inb).trans (read_cols v v.junk _ _ _ _ _ _ _ _ _ _ _ _ _ _ _ _ _ _ _ _ _ _ _ _ _ _ _ _ _ _ _ _)

/-- Piece `k` of an array of eight. -/
def slabCols (a : Vec F S8x1024x256 .bf16) (k : Fin 8) : Vec F S1024x256 .bf16 := fun x => a (ix3 k (x 0) (x 1))

/-- A transfer of piece `k` moves that piece. -/
theorem slabCols_read {sp : Space} (M : Memref sig .tc sp S8x1024x256 .bf16) (k : ℕ) (hk : k < 8) (i0) (i1)
    (i2 : (Rect.unit (s := S8x1024x256) ![k, 0, 0] S1x1024x256.size i0).shape.Squeezes S1024x256) (f : M.view.ty.Contents (Elt F)) :
    (ReadAs.same (Val := Elt F) (s := S1024x256) (e := .bf16)).apply (((M.slice (Rect.unit (s := S8x1024x256) ![k, 0, 0] S1x1024x256.size i0) i1).squeeze S1024x256 i2).view.read (Elt F) f)
      = slabCols (M.view.read (Elt F) f) ⟨k, hk⟩ := by
  have hc : (Rect.unit (s := S8x1024x256) ![k, 0, 0] S1x1024x256.size i0).shape.ShapeCasts S1024x256 := by first | exact i2.numel_eq | exact i2.numel_eq.symm
  refine (Memref.read_squeeze_slice M _ i1 i2 hc f).trans ?_
  funext x
  refine (shapeCast_dropUnit_apply ![1024, 256] _ hc x).trans ?_
  refine congrArg (M.view.read (Elt F) f) (funext fun a => Fin.ext ?_)
  match a with
  | ⟨0, _⟩ => show k + 1 * 0 = k; omega
  | ⟨1, _⟩ => show 0 + 1 * (x 0).val = (x 0).val; omega
  | ⟨2, _⟩ => show 0 + 1 * (x 1).val = (x 1).val; omega

theorem joinCols_slabs (a b : Vec F S8x1024x256 .bf16) :
    joinCols ![slabCols a 0, slabCols b 0, slabCols a 1, slabCols b 1, slabCols a 2, slabCols b 2, slabCols a 3, slabCols b 3, slabCols a 4, slabCols b 4, slabCols a 5, slabCols b 5, slabCols a 6, slabCols b 6, slabCols a 7, slabCols b 7] = w1Of a b := by
  funext j
  obtain ⟨q, hq, hq'⟩ : ∃ q, q < 16 ∧ (j 1).val / 256 = q := ⟨_, by have : (j 1).val < 4096 := (j 1).isLt; omega, rfl⟩
  have hj := (j 1).isLt
  interval_cases q
  · refine (joinCols_at _ 0 (ix2 (j 0) (placeOf (j 1).val)) j rfl (by show (j 1).val = 256 * 0 + (j 1).val % 256; omega)).trans ?_
    have e : pieceOf (j 1).val hj = 0 := Fin.ext (by show (j 1).val / 512 = 0; omega)
    unfold w1Of
    rw [if_pos (by omega), e]; rfl
  · refine (joinCols_at _ 1 (ix2 (j 0) (placeOf (j 1).val)) j rfl (by show (j 1).val = 256 * 1 + (j 1).val % 256; omega)).trans ?_
    have e : pieceOf (j 1).val hj = 0 := Fin.ext (by show (j 1).val / 512 = 0; omega)
    unfold w1Of
    rw [if_neg (by omega), e]; rfl
  · refine (joinCols_at _ 2 (ix2 (j 0) (placeOf (j 1).val)) j rfl (by show (j 1).val = 256 * 2 + (j 1).val % 256; omega)).trans ?_
    have e : pieceOf (j 1).val hj = 1 := Fin.ext (by show (j 1).val / 512 = 1; omega)
    unfold w1Of
    rw [if_pos (by omega), e]; rfl
  · refine (joinCols_at _ 3 (ix2 (j 0) (placeOf (j 1).val)) j rfl (by show (j 1).val = 256 * 3 + (j 1).val % 256; omega)).trans ?_
    have e : pieceOf (j 1).val hj = 1 := Fin.ext (by show (j 1).val / 512 = 1; omega)
    unfold w1Of
    rw [if_neg (by omega), e]; rfl
  · refine (joinCols_at _ 4 (ix2 (j 0) (placeOf (j 1).val)) j rfl (by show (j 1).val = 256 * 4 + (j 1).val % 256; omega)).trans ?_
    have e : pieceOf (j 1).val hj = 2 := Fin.ext (by show (j 1).val / 512 = 2; omega)
    unfold w1Of
    rw [if_pos (by omega), e]; rfl
  · refine (joinCols_at _ 5 (ix2 (j 0) (placeOf (j 1).val)) j rfl (by show (j 1).val = 256 * 5 + (j 1).val % 256; omega)).trans ?_
    have e : pieceOf (j 1).val hj = 2 := Fin.ext (by show (j 1).val / 512 = 2; omega)
    unfold w1Of
    rw [if_neg (by omega), e]; rfl
  · refine (joinCols_at _ 6 (ix2 (j 0) (placeOf (j 1).val)) j rfl (by show (j 1).val = 256 * 6 + (j 1).val % 256; omega)).trans ?_
    have e : pieceOf (j 1).val hj = 3 := Fin.ext (by show (j 1).val / 512 = 3; omega)
    unfold w1Of
    rw [if_pos (by omega), e]; rfl
  · refine (joinCols_at _ 7 (ix2 (j 0) (placeOf (j 1).val)) j rfl (by show (j 1).val = 256 * 7 + (j 1).val % 256; omega)).trans ?_
    have e : pieceOf (j 1).val hj = 3 := Fin.ext (by show (j 1).val / 512 = 3; omega)
    unfold w1Of
    rw [if_neg (by omega), e]; rfl
  · refine (joinCols_at _ 8 (ix2 (j 0) (placeOf (j 1).val)) j rfl (by show (j 1).val = 256 * 8 + (j 1).val % 256; omega)).trans ?_
    have e : pieceOf (j 1).val hj = 4 := Fin.ext (by show (j 1).val / 512 = 4; omega)
    unfold w1Of
    rw [if_pos (by omega), e]; rfl
  · refine (joinCols_at _ 9 (ix2 (j 0) (placeOf (j 1).val)) j rfl (by show (j 1).val = 256 * 9 + (j 1).val % 256; omega)).trans ?_
    have e : pieceOf (j 1).val hj = 4 := Fin.ext (by show (j 1).val / 512 = 4; omega)
    unfold w1Of
    rw [if_neg (by omega), e]; rfl
  · refine (joinCols_at _ 10 (ix2 (j 0) (placeOf (j 1).val)) j rfl (by show (j 1).val = 256 * 10 + (j 1).val % 256; omega)).trans ?_
    have e : pieceOf (j 1).val hj = 5 := Fin.ext (by show (j 1).val / 512 = 5; omega)
    unfold w1Of
    rw [if_pos (by omega), e]; rfl
  · refine (joinCols_at _ 11 (ix2 (j 0) (placeOf (j 1).val)) j rfl (by show (j 1).val = 256 * 11 + (j 1).val % 256; omega)).trans ?_
    have e : pieceOf (j 1).val hj = 5 := Fin.ext (by show (j 1).val / 512 = 5; omega)
    unfold w1Of
    rw [if_neg (by omega), e]; rfl
  · refine (joinCols_at _ 12 (ix2 (j 0) (placeOf (j 1).val)) j rfl (by show (j 1).val = 256 * 12 + (j 1).val % 256; omega)).trans ?_
    have e : pieceOf (j 1).val hj = 6 := Fin.ext (by show (j 1).val / 512 = 6; omega)
    unfold w1Of
    rw [if_pos (by omega), e]; rfl
  · refine (joinCols_at _ 13 (ix2 (j 0) (placeOf (j 1).val)) j rfl (by show (j 1).val = 256 * 13 + (j 1).val % 256; omega)).trans ?_
    have e : pieceOf (j 1).val hj = 6 := Fin.ext (by show (j 1).val / 512 = 6; omega)
    unfold w1Of
    rw [if_neg (by omega), e]; rfl
  · refine (joinCols_at _ 14 (ix2 (j 0) (placeOf (j 1).val)) j rfl (by show (j 1).val = 256 * 14 + (j 1).val % 256; omega)).trans ?_
    have e : pieceOf (j 1).val hj = 7 := Fin.ext (by show (j 1).val / 512 = 7; omega)
    unfold w1Of
    rw [if_pos (by omega), e]; rfl
  · refine (joinCols_at _ 15 (ix2 (j 0) (placeOf (j 1).val)) j rfl (by show (j 1).val = 256 * 15 + (j 1).val % 256; omega)).trans ?_
    have e : pieceOf (j 1).val hj = 7 := Fin.ext (by show (j 1).val / 512 = 7; omega)
    unfold w1Of
    rw [if_neg (by omega), e]; rfl

/-- Sixteen blocks of 256 rows put side by side. -/
def joinRows (p : Fin 16 → Vec F S256x1024 .bf16) : Vec F S4096x1024 .bf16 := fun j =>
  p ⟨(j 0).val / 256, by have : (j 0).val < 4096 := (j 0).isLt; omega⟩ (ix2 ⟨(j 0).val % 256, Nat.mod_lt _ (by decide)⟩ (j 1))

theorem joinRows_at (p : Fin 16 → Vec F S256x1024 .bf16) (k : Fin 16) (x : S256x1024.Idx) (j : S4096x1024.Idx)
    (h : (j 1).val = (x 1).val) (h' : (j 0).val = 256 * k.val + (x 0).val) : joinRows p j = p k x := by
  have hx : (x 0).val < 256 := (x 0).isLt
  unfold joinRows
  have e : (⟨(j 0).val / 256, by have : (j 0).val < 4096 := (j 0).isLt; omega⟩ : Fin 16) = k := Fin.ext (by show (j 0).val / 256 = k.val; omega)
  rw [e]
  refine congrArg (p k) (funext fun a => Fin.ext ?_)
  match a with
  | ⟨1, _⟩ => exact h
  | ⟨0, _⟩ => show (j 0).val % 256 = (x 0).val; omega

theorem read_rows {sp : Space} (v : View sig .tc sp S4096x1024 .bf16) (f : v.ty.Contents (Elt F)) (p0 p1 p2 p3 p4 p5 p6 p7 p8 p9 p10 p11 p12 p13 p14 p15 : Vec F S256x1024 .bf16)
    (i0 i1 i2 i3 i4 i5 i6 i7 i8 i9 i10 i11 i12 i13 i14 i15) :
    v.read (Elt F) (v.writes (Elt F) f
      [⟨Rect.unit (s := S4096x1024) ![3840, 0] ![256, 1024] i15, p15⟩,
        ⟨Rect.unit (s := S4096x1024) ![3584, 0] ![256, 1024] i14, p14⟩,
        ⟨Rect.unit (s := S4096x1024) ![3328, 0] ![256, 1024] i13, p13⟩,
        ⟨Rect.unit (s := S4096x1024) ![3072, 0] ![256, 1024] i12, p12⟩,
        ⟨Rect.unit (s := S4096x1024) ![2816, 0] ![256, 1024] i11, p11⟩,
        ⟨Rect.unit (s := S4096x1024) ![2560, 0] ![256, 1024] i10, p10⟩,
        ⟨Rect.unit (s := S4096x1024) ![2304, 0] ![256, 1024] i9, p9⟩,
        ⟨Rect.unit (s := S4096x1024) ![2048, 0] ![256, 1024] i8, p8⟩,
        ⟨Rect.unit (s := S4096x1024) ![1792, 0] ![256, 1024] i7, p7⟩,
        ⟨Rect.unit (s := S4096x1024) ![1536, 0] ![256, 1024] i6, p6⟩,
        ⟨Rect.unit (s := S4096x1024) ![1280, 0] ![256, 1024] i5, p5⟩,
        ⟨Rect.unit (s := S4096x1024) ![1024, 0] ![256, 1024] i4, p4⟩,
        ⟨Rect.unit (s := S4096x1024) ![768, 0] ![256, 1024] i3, p3⟩,
        ⟨Rect.unit (s := S4096x1024) ![512, 0] ![256, 1024] i2, p2⟩,
        ⟨Rect.unit (s := S4096x1024) ![256, 0] ![256, 1024] i1, p1⟩,
        ⟨Rect.unit (s := S4096x1024) ![0, 0] ![256, 1024] i0, p0⟩])
      = joinRows ![p0, p1, p2, p3, p4, p5, p6, p7, p8, p9, p10, p11, p12, p13, p14, p15] := by
  funext y
  refine View.read_writes_apply_of_pieces v f (joinRows ![p0, p1, p2, p3, p4, p5, p6, p7, p8, p9, p10, p11, p12, p13, p14, p15]) _ ?_ y ?_
  · simp only [List.forall_mem_cons, List.not_mem_nil, false_imp_iff, implies_true, and_true]
    refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_⟩
    · refine (joinRows_at ![p0, p1, p2, p3, p4, p5, p6, p7, p8, p9, p10, p11, p12, p13, p14, p15] 15 x _ ?_ ?_).symm
      · show 0 + 1 * (x 1).val = (x 1).val; omega
      · show 3840 + 1 * (x 0).val = 256 * 15 + (x 0).val; omega
    · refine (joinRows_at ![p0, p1, p2, p3, p4, p5, p6, p7, p8, p9, p10, p11, p12, p13, p14, p15] 14 x _ ?_ ?_).symm
      · show 0 + 1 * (x 1).val = (x 1).val; omega
      · show 3584 + 1 * (x 0).val = 256 * 14 + (x 0).val; omega
    · refine (joinRows_at ![p0, p1, p2, p3, p4, p5, p6, p7, p8, p9, p10, p11, p12, p13, p14, p15] 13 x _ ?_ ?_).symm
      · show 0 + 1 * (x 1).val = (x 1).val; omega
      · show 3328 + 1 * (x 0).val = 256 * 13 + (x 0).val; omega
    · refine (joinRows_at ![p0, p1, p2, p3, p4, p5, p6, p7, p8, p9, p10, p11, p12, p13, p14, p15] 12 x _ ?_ ?_).symm
      · show 0 + 1 * (x 1).val = (x 1).val; omega
      · show 3072 + 1 * (x 0).val = 256 * 12 + (x 0).val; omega
    · refine (joinRows_at ![p0, p1, p2, p3, p4, p5, p6, p7, p8, p9, p10, p11, p12, p13, p14, p15] 11 x _ ?_ ?_).symm
      · show 0 + 1 * (x 1).val = (x 1).val; omega
      · show 2816 + 1 * (x 0).val = 256 * 11 + (x 0).val; omega
    · refine (joinRows_at ![p0, p1, p2, p3, p4, p5, p6, p7, p8, p9, p10, p11, p12, p13, p14, p15] 10 x _ ?_ ?_).symm
      · show 0 + 1 * (x 1).val = (x 1).val; omega
      · show 2560 + 1 * (x 0).val = 256 * 10 + (x 0).val; omega
    · refine (joinRows_at ![p0, p1, p2, p3, p4, p5, p6, p7, p8, p9, p10, p11, p12, p13, p14, p15] 9 x _ ?_ ?_).symm
      · show 0 + 1 * (x 1).val = (x 1).val; omega
      · show 2304 + 1 * (x 0).val = 256 * 9 + (x 0).val; omega
    · refine (joinRows_at ![p0, p1, p2, p3, p4, p5, p6, p7, p8, p9, p10, p11, p12, p13, p14, p15] 8 x _ ?_ ?_).symm
      · show 0 + 1 * (x 1).val = (x 1).val; omega
      · show 2048 + 1 * (x 0).val = 256 * 8 + (x 0).val; omega
    · refine (joinRows_at ![p0, p1, p2, p3, p4, p5, p6, p7, p8, p9, p10, p11, p12, p13, p14, p15] 7 x _ ?_ ?_).symm
      · show 0 + 1 * (x 1).val = (x 1).val; omega
      · show 1792 + 1 * (x 0).val = 256 * 7 + (x 0).val; omega
    · refine (joinRows_at ![p0, p1, p2, p3, p4, p5, p6, p7, p8, p9, p10, p11, p12, p13, p14, p15] 6 x _ ?_ ?_).symm
      · show 0 + 1 * (x 1).val = (x 1).val; omega
      · show 1536 + 1 * (x 0).val = 256 * 6 + (x 0).val; omega
    · refine (joinRows_at ![p0, p1, p2, p3, p4, p5, p6, p7, p8, p9, p10, p11, p12, p13, p14, p15] 5 x _ ?_ ?_).symm
      · show 0 + 1 * (x 1).val = (x 1).val; omega
      · show 1280 + 1 * (x 0).val = 256 * 5 + (x 0).val; omega
    · refine (joinRows_at ![p0, p1, p2, p3, p4, p5, p6, p7, p8, p9, p10, p11, p12, p13, p14, p15] 4 x _ ?_ ?_).symm
      · show 0 + 1 * (x 1).val = (x 1).val; omega
      · show 1024 + 1 * (x 0).val = 256 * 4 + (x 0).val; omega
    · refine (joinRows_at ![p0, p1, p2, p3, p4, p5, p6, p7, p8, p9, p10, p11, p12, p13, p14, p15] 3 x _ ?_ ?_).symm
      · show 0 + 1 * (x 1).val = (x 1).val; omega
      · show 768 + 1 * (x 0).val = 256 * 3 + (x 0).val; omega
    · refine (joinRows_at ![p0, p1, p2, p3, p4, p5, p6, p7, p8, p9, p10, p11, p12, p13, p14, p15] 2 x _ ?_ ?_).symm
      · show 0 + 1 * (x 1).val = (x 1).val; omega
      · show 512 + 1 * (x 0).val = 256 * 2 + (x 0).val; omega
    · refine (joinRows_at ![p0, p1, p2, p3, p4, p5, p6, p7, p8, p9, p10, p11, p12, p13, p14, p15] 1 x _ ?_ ?_).symm
      · show 0 + 1 * (x 1).val = (x 1).val; omega
      · show 256 + 1 * (x 0).val = 256 * 1 + (x 0).val; omega
    · refine (joinRows_at ![p0, p1, p2, p3, p4, p5, p6, p7, p8, p9, p10, p11, p12, p13, p14, p15] 0 x _ ?_ ?_).symm
      · show 0 + 1 * (x 1).val = (x 1).val; omega
      · show 0 + 1 * (x 0).val = 256 * 0 + (x 0).val; omega
  · have hy : (y 0).val < 4096 := (y 0).isLt
    have ho : (y 1).val < 1024 := (y 1).isLt
    obtain ⟨q, hq, hq'⟩ : ∃ q, q < 16 ∧ (y 0).val / 256 = q := ⟨_, by omega, rfl⟩
    have hin : ∀ (o : Fin 2 → ℕ) (inb), o 1 = 0 → o 0 = 256 * q → y ∈ (Rect.unit (s := S4096x1024) o S256x1024.size inb).set := by
      intro o inb h0 h1
      rw [Rect.mem_set_unit]
      intro a
      match a with
      | ⟨1, _⟩ => exact ⟨by show o 1 ≤ (y 1).val; omega, by show (y 1).val < o 1 + 1024; omega⟩
      | ⟨0, _⟩ => exact ⟨by show o 0 ≤ (y 0).val; omega, by show (y 0).val < o 0 + 256; omega⟩
    interval_cases q
    · exact ⟨_, .tail _ (.tail _ (.tail _ (.tail _ (.tail _ (.tail _ (.tail _ (.tail _ (.tail _ (.tail _ (.tail _ (.tail _ (.tail _ (.tail _ (.tail _ (.head _))))))))))))))), hin _ i0 rfl rfl⟩
    · exact ⟨_, .tail _ (.tail _ (.tail _ (.tail _ (.tail _ (.tail _ (.tail _ (.tail _ (.tail _ (.tail _ (.tail _ (.tail _ (.tail _ (.tail _ (.head _)))))))))))))), hin _ i1 rfl rfl⟩
    · exact ⟨_, .tail _ (.tail _ (.tail _ (.tail _ (.tail _ (.tail _ (.tail _ (.tail _ (.tail _ (.tail _ (.tail _ (.tail _ (.tail _ (.head _))))))))))))), hin _ i2 rfl rfl⟩
    · exact ⟨_, .tail _ (.tail _ (.tail _ (.tail _ (.tail _ (.tail _ (.tail _ (.tail _ (.tail _ (.tail _ (.tail _ (.tail _ (.head _)))))))))))), hin _ i3 rfl rfl⟩
    · exact ⟨_, .tail _ (.tail _ (.tail _ (.tail _ (.tail _ (.tail _ (.tail _ (.tail _ (.tail _ (.tail _ (.tail _ (.head _))))))))))), hin _ i4 rfl rfl⟩
    · exact ⟨_, .tail _ (.tail _ (.tail _ (.tail _ (.tail _ (.tail _ (.tail _ (.tail _ (.tail _ (.tail _ (.head _)))))))))), hin _ i5 rfl rfl⟩
    · exact ⟨_, .tail _ (.tail _ (.tail _ (.tail _ (.tail _ (.tail _ (.tail _ (.tail _ (.tail _ (.head _))))))))), hin _ i6 rfl rfl⟩
    · exact ⟨_, .tail _ (.tail _ (.tail _ (.tail _ (.tail _ (.tail _ (.tail _ (.tail _ (.head _)))))))), hin _ i7 rfl rfl⟩
    · exact ⟨_, .tail _ (.tail _ (.tail _ (.tail _ (.tail _ (.tail _ (.tail _ (.head _))))))), hin _ i8 rfl rfl⟩
    · exact ⟨_, .tail _ (.tail _ (.tail _ (.tail _ (.tail _ (.tail _ (.head _)))))), hin _ i9 rfl rfl⟩
    · exact ⟨_, .tail _ (.tail _ (.tail _ (.tail _ (.tail _ (.head _))))), hin _ i10 rfl rfl⟩
    · exact ⟨_, .tail _ (.tail _ (.tail _ (.tail _ (.head _)))), hin _ i11 rfl rfl⟩
    · exact ⟨_, .tail _ (.tail _ (.tail _ (.head _))), hin _ i12 rfl rfl⟩
    · exact ⟨_, .tail _ (.tail _ (.head _)), hin _ i13 rfl rfl⟩
    · exact ⟨_, .tail _ (.head _), hin _ i14 rfl rfl⟩
    · exact ⟨_, .head _, hin _ i15 rfl rfl⟩

theorem readCov_rows {sp : Space} (v : View sig .tc sp S4096x1024 .bf16) (p0 p1 p2 p3 p4 p5 p6 p7 p8 p9 p10 p11 p12 p13 p14 p15 : Vec F S256x1024 .bf16)
    (i0 i1 i2 i3 i4 i5 i6 i7 i8 i9 i10 i11 i12 i13 i14 i15) (inb) :
    v.readCov (Val := Elt F)
      [⟨Rect.unit (s := S4096x1024) ![3840, 0] ![256, 1024] i15, p15⟩,
        ⟨Rect.unit (s := S4096x1024) ![3584, 0] ![256, 1024] i14, p14⟩,
        ⟨Rect.unit (s := S4096x1024) ![3328, 0] ![256, 1024] i13, p13⟩,
        ⟨Rect.unit (s := S4096x1024) ![3072, 0] ![256, 1024] i12, p12⟩,
        ⟨Rect.unit (s := S4096x1024) ![2816, 0] ![256, 1024] i11, p11⟩,
        ⟨Rect.unit (s := S4096x1024) ![2560, 0] ![256, 1024] i10, p10⟩,
        ⟨Rect.unit (s := S4096x1024) ![2304, 0] ![256, 1024] i9, p9⟩,
        ⟨Rect.unit (s := S4096x1024) ![2048, 0] ![256, 1024] i8, p8⟩,
        ⟨Rect.unit (s := S4096x1024) ![1792, 0] ![256, 1024] i7, p7⟩,
        ⟨Rect.unit (s := S4096x1024) ![1536, 0] ![256, 1024] i6, p6⟩,
        ⟨Rect.unit (s := S4096x1024) ![1280, 0] ![256, 1024] i5, p5⟩,
        ⟨Rect.unit (s := S4096x1024) ![1024, 0] ![256, 1024] i4, p4⟩,
        ⟨Rect.unit (s := S4096x1024) ![768, 0] ![256, 1024] i3, p3⟩,
        ⟨Rect.unit (s := S4096x1024) ![512, 0] ![256, 1024] i2, p2⟩,
        ⟨Rect.unit (s := S4096x1024) ![256, 0] ![256, 1024] i1, p1⟩,
        ⟨Rect.unit (s := S4096x1024) ![0, 0] ![256, 1024] i0, p0⟩] (Rect.unit (s := S4096x1024) ![0, 0] ![4096, 1024] inb).toLoadRect
      = joinRows ![p0, p1, p2, p3, p4, p5, p6, p7, p8, p9, p10, p11, p12, p13, p14, p15] :=
  (readAt_lit v _ inb).trans (read_rows v v.junk _ _ _ _ _ _ _ _ _ _ _ _ _ _ _ _ _ _ _ _ _ _ _ _ _ _ _ _ _ _ _ _)

/-- Piece `k` of an array of eight. -/
def slabRows (a : Vec F S8x256x1024 .bf16) (k : Fin 8) : Vec F S256x1024 .bf16 := fun x => a (ix3 k (x 0) (x 1))

/-- A transfer of piece `k` moves that piece. -/
theorem slabRows_read {sp : Space} (M : Memref sig .tc sp S8x256x1024 .bf16) (k : ℕ) (hk : k < 8) (i0) (i1)
    (i2 : (Rect.unit (s := S8x256x1024) ![k, 0, 0] S1x256x1024.size i0).shape.Squeezes S256x1024) (f : M.view.ty.Contents (Elt F)) :
    (ReadAs.same (Val := Elt F) (s := S256x1024) (e := .bf16)).apply (((M.slice (Rect.unit (s := S8x256x1024) ![k, 0, 0] S1x256x1024.size i0) i1).squeeze S256x1024 i2).view.read (Elt F) f)
      = slabRows (M.view.read (Elt F) f) ⟨k, hk⟩ := by
  have hc : (Rect.unit (s := S8x256x1024) ![k, 0, 0] S1x256x1024.size i0).shape.ShapeCasts S256x1024 := by first | exact i2.numel_eq | exact i2.numel_eq.symm
  refine (Memref.read_squeeze_slice M _ i1 i2 hc f).trans ?_
  funext x
  refine (shapeCast_dropUnit_apply ![256, 1024] _ hc x).trans ?_
  refine congrArg (M.view.read (Elt F) f) (funext fun a => Fin.ext ?_)
  match a with
  | ⟨0, _⟩ => show k + 1 * 0 = k; omega
  | ⟨1, _⟩ => show 0 + 1 * (x 0).val = (x 0).val; omega
  | ⟨2, _⟩ => show 0 + 1 * (x 1).val = (x 1).val; omega

theorem joinRows_slabs (a b : Vec F S8x256x1024 .bf16) :
    joinRows ![slabRows a 0, slabRows b 0, slabRows a 1, slabRows b 1, slabRows a 2, slabRows b 2, slabRows a 3, slabRows b 3, slabRows a 4, slabRows b 4, slabRows a 5, slabRows b 5, slabRows a 6, slabRows b 6, slabRows a 7, slabRows b 7] = w2Of a b := by
  funext j
  obtain ⟨q, hq, hq'⟩ : ∃ q, q < 16 ∧ (j 0).val / 256 = q := ⟨_, by have : (j 0).val < 4096 := (j 0).isLt; omega, rfl⟩
  have hj := (j 0).isLt
  interval_cases q
  · refine (joinRows_at _ 0 (ix2 (placeOf (j 0).val) (j 1)) j rfl (by show (j 0).val = 256 * 0 + (j 0).val % 256; omega)).trans ?_
    have e : pieceOf (j 0).val hj = 0 := Fin.ext (by show (j 0).val / 512 = 0; omega)
    unfold w2Of
    rw [if_pos (by omega), e]; rfl
  · refine (joinRows_at _ 1 (ix2 (placeOf (j 0).val) (j 1)) j rfl (by show (j 0).val = 256 * 1 + (j 0).val % 256; omega)).trans ?_
    have e : pieceOf (j 0).val hj = 0 := Fin.ext (by show (j 0).val / 512 = 0; omega)
    unfold w2Of
    rw [if_neg (by omega), e]; rfl
  · refine (joinRows_at _ 2 (ix2 (placeOf (j 0).val) (j 1)) j rfl (by show (j 0).val = 256 * 2 + (j 0).val % 256; omega)).trans ?_
    have e : pieceOf (j 0).val hj = 1 := Fin.ext (by show (j 0).val / 512 = 1; omega)
    unfold w2Of
    rw [if_pos (by omega), e]; rfl
  · refine (joinRows_at _ 3 (ix2 (placeOf (j 0).val) (j 1)) j rfl (by show (j 0).val = 256 * 3 + (j 0).val % 256; omega)).trans ?_
    have e : pieceOf (j 0).val hj = 1 := Fin.ext (by show (j 0).val / 512 = 1; omega)
    unfold w2Of
    rw [if_neg (by omega), e]; rfl
  · refine (joinRows_at _ 4 (ix2 (placeOf (j 0).val) (j 1)) j rfl (by show (j 0).val = 256 * 4 + (j 0).val % 256; omega)).trans ?_
    have e : pieceOf (j 0).val hj = 2 := Fin.ext (by show (j 0).val / 512 = 2; omega)
    unfold w2Of
    rw [if_pos (by omega), e]; rfl
  · refine (joinRows_at _ 5 (ix2 (placeOf (j 0).val) (j 1)) j rfl (by show (j 0).val = 256 * 5 + (j 0).val % 256; omega)).trans ?_
    have e : pieceOf (j 0).val hj = 2 := Fin.ext (by show (j 0).val / 512 = 2; omega)
    unfold w2Of
    rw [if_neg (by omega), e]; rfl
  · refine (joinRows_at _ 6 (ix2 (placeOf (j 0).val) (j 1)) j rfl (by show (j 0).val = 256 * 6 + (j 0).val % 256; omega)).trans ?_
    have e : pieceOf (j 0).val hj = 3 := Fin.ext (by show (j 0).val / 512 = 3; omega)
    unfold w2Of
    rw [if_pos (by omega), e]; rfl
  · refine (joinRows_at _ 7 (ix2 (placeOf (j 0).val) (j 1)) j rfl (by show (j 0).val = 256 * 7 + (j 0).val % 256; omega)).trans ?_
    have e : pieceOf (j 0).val hj = 3 := Fin.ext (by show (j 0).val / 512 = 3; omega)
    unfold w2Of
    rw [if_neg (by omega), e]; rfl
  · refine (joinRows_at _ 8 (ix2 (placeOf (j 0).val) (j 1)) j rfl (by show (j 0).val = 256 * 8 + (j 0).val % 256; omega)).trans ?_
    have e : pieceOf (j 0).val hj = 4 := Fin.ext (by show (j 0).val / 512 = 4; omega)
    unfold w2Of
    rw [if_pos (by omega), e]; rfl
  · refine (joinRows_at _ 9 (ix2 (placeOf (j 0).val) (j 1)) j rfl (by show (j 0).val = 256 * 9 + (j 0).val % 256; omega)).trans ?_
    have e : pieceOf (j 0).val hj = 4 := Fin.ext (by show (j 0).val / 512 = 4; omega)
    unfold w2Of
    rw [if_neg (by omega), e]; rfl
  · refine (joinRows_at _ 10 (ix2 (placeOf (j 0).val) (j 1)) j rfl (by show (j 0).val = 256 * 10 + (j 0).val % 256; omega)).trans ?_
    have e : pieceOf (j 0).val hj = 5 := Fin.ext (by show (j 0).val / 512 = 5; omega)
    unfold w2Of
    rw [if_pos (by omega), e]; rfl
  · refine (joinRows_at _ 11 (ix2 (placeOf (j 0).val) (j 1)) j rfl (by show (j 0).val = 256 * 11 + (j 0).val % 256; omega)).trans ?_
    have e : pieceOf (j 0).val hj = 5 := Fin.ext (by show (j 0).val / 512 = 5; omega)
    unfold w2Of
    rw [if_neg (by omega), e]; rfl
  · refine (joinRows_at _ 12 (ix2 (placeOf (j 0).val) (j 1)) j rfl (by show (j 0).val = 256 * 12 + (j 0).val % 256; omega)).trans ?_
    have e : pieceOf (j 0).val hj = 6 := Fin.ext (by show (j 0).val / 512 = 6; omega)
    unfold w2Of
    rw [if_pos (by omega), e]; rfl
  · refine (joinRows_at _ 13 (ix2 (placeOf (j 0).val) (j 1)) j rfl (by show (j 0).val = 256 * 13 + (j 0).val % 256; omega)).trans ?_
    have e : pieceOf (j 0).val hj = 6 := Fin.ext (by show (j 0).val / 512 = 6; omega)
    unfold w2Of
    rw [if_neg (by omega), e]; rfl
  · refine (joinRows_at _ 14 (ix2 (placeOf (j 0).val) (j 1)) j rfl (by show (j 0).val = 256 * 14 + (j 0).val % 256; omega)).trans ?_
    have e : pieceOf (j 0).val hj = 7 := Fin.ext (by show (j 0).val / 512 = 7; omega)
    unfold w2Of
    rw [if_pos (by omega), e]; rfl
  · refine (joinRows_at _ 15 (ix2 (placeOf (j 0).val) (j 1)) j rfl (by show (j 0).val = 256 * 15 + (j 0).val % 256; omega)).trans ?_
    have e : pieceOf (j 0).val hj = 7 := Fin.ext (by show (j 0).val / 512 = 7; omega)
    unfold w2Of
    rw [if_neg (by omega), e]; rfl

end Cert.FfnIdeal.Hand

end
-- ==== Proof.FfnRunFirst.lean ====
module

public import proofs.«01_k».proof.Proof.FfnWeights

@[expose] public section

set_option maxRecDepth 16384

noncomputable section

namespace Cert.FfnIdeal.Hand

open Cert.FfnIdeal Cert.FfnIdeal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
set_option sl_exec.rejoinHeartbeats 1000000 in
set_option sl_exec.dmaWindow true in
set_option sl_exec.dmaWindowSet true in
/-- The body at the first grid point: it clears the running sums and copies the weights into VMEM first. -/
theorem body_first (c : Dev nD) (i : grid0.Coords) (S : Slots) (hc0 : cond0_0 i) (X : Ins F)
    (f0 : HbBuf0 (F := F) c hbM0_0) (f1 : HbBuf0 (F := F) c hbM0_1) (f2 : HbBuf0 (F := F) c hbM0_2) (f3 : HbBuf0 (F := F) c hbM0_3)
    (W : Waits sig Unit) (K : PUnit → sProp 𝕄) :
    iprop(insAt S c X ∗ (∃ d, owns (c : Thread nD τ) S.m13 fullShare d) ∗ (∃ d, owns (c : Thread nD τ) S.m14 fullShare d) ∗ (∃ d, owns (c : Thread nD τ) S.m15 fullShare d) ∗ (∃ d, owns (c : Thread nD τ) S.m16 fullShare d) ∗ (∃ d, owns (c : Thread nD τ) S.m17 fullShare d) ∗ (∃ d, owns (c : Thread nD τ) S.m18 fullShare d) ∗ (∃ d, owns (c : Thread nD τ) S.m19 fullShare d) ∗ (∃ d, owns (c : Thread nD τ) S.m20 fullShare d) ∗ cellsAt c ∗ piecesAt c f0 f1 f2 f3 ∗ owes (c : Thread nD τ) 0 W
      ∗ (iprop(insAt S c X ∗ outsAt S c (X.withWeights (w1Of ((Memref.whole main_v32).view.read (Elt F) f0) ((Memref.whole main_v33).view.read (Elt F) f1)) (w2Of ((Memref.whole main_v34).view.read (Elt F) f2) ((Memref.whole main_v35).view.read (Elt F) f3))) k0_pay2 ∗ cellsAt c ∗ piecesAt c f0 f1 f2 f3 ∗ (∃ W', owes (c : Thread nD τ) 0 W')) -∗ K ⟨⟩))
      ⊢ wp frame (wpE (defs₀ (F := F)) Variants.none c none) Set.univ (bodyOn S i) K := by
  obtain ⟨arg1, harg1, arg2, harg2, arg3, harg3, arg4, harg4, arg9, harg9, arg10, harg10, arg11, harg11, arg12, harg12, arg13, harg13, arg14, harg14, arg15, harg15, arg16, harg16, arg17, harg17, arg18, harg18, arg19, harg19, arg20, harg20⟩ := S
  obtain ⟨x0, x1, x2, x3, x4, x5, x6, x7, w1, w2⟩ := X
  dsimp only [bodyOn, insAt, outsAt, cellsAt, piecesAt]
  simp only [cc0_ffn_fwd_bwd_eq_skeleton]; unfold cc0_ffn_fwd_bwd_skel
  simp only [k0_part16_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part17_eq_skeleton, k0_part18_eq_skeleton, k0_part19_eq_skeleton]
  unfold owns
  iintro ⟨⟨⟨%g0, %hf0, H0⟩, ⟨%g1, %hf1, H1⟩, ⟨%g2, %hf2, H2⟩, ⟨%g3, %hf3, H3⟩, ⟨%g4, %hf4, H4⟩, ⟨%g5, %hf5, H5⟩, ⟨%g6, %hf6, H6⟩, ⟨%g7, %hf7, H7⟩⟩, ⟨%d8, %f8, -, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31⟩, ⟨Hh0, Hh1, Hh2, Hh3⟩, HW, Hk⟩
  obtain rfl := harg1.eq_unread hf0; obtain rfl := harg2.eq_unread hf1; obtain rfl := harg3.eq_unread hf2; obtain rfl := harg4.eq_unread hf3; obtain rfl := harg9.eq_unread hf4; obtain rfl := harg10.eq_unread hf5; obtain rfl := harg11.eq_unread hf6; obtain rfl := harg12.eq_unread hf7
  sl_exec (disch := first | sl_exact hc0)
  sl_step
  have d0 : body_first.sl.dma2 c f0 = slabCols ((Memref.whole main_v32).view.read (Elt F) f0) 0 := by
    delta body_first.sl.dma2; exact slabCols_read (Memref.whole main_v32) 0 (by decide) _ _ _ f0
  have d2 : body_first.sl.dma2_2 c f1 = slabCols ((Memref.whole main_v33).view.read (Elt F) f1) 0 := by
    delta body_first.sl.dma2_2; exact slabCols_read (Memref.whole main_v33) 0 (by decide) _ _ _ f1
  have d4 : body_first.sl.dma2_4 c f0 = slabCols ((Memref.whole main_v32).view.read (Elt F) f0) 1 := by
    delta body_first.sl.dma2_4; exact slabCols_read (Memref.whole main_v32) 1 (by decide) _ _ _ f0
  have d6 : body_first.sl.dma2_6 c f1 = slabCols ((Memref.whole main_v33).view.read (Elt F) f1) 1 := by
    delta body_first.sl.dma2_6; exact slabCols_read (Memref.whole main_v33) 1 (by decide) _ _ _ f1
  have d8 : body_first.sl.dma2_8 c f0 = slabCols ((Memref.whole main_v32).view.read (Elt F) f0) 2 := by
    delta body_first.sl.dma2_8; exact slabCols_read (Memref.whole main_v32) 2 (by decide) _ _ _ f0
  have d10 : body_first.sl.dma2_10 c f1 = slabCols ((Memref.whole main_v33).view.read (Elt F) f1) 2 := by
    delta body_first.sl.dma2_10; exact slabCols_read (Memref.whole main_v33) 2 (by decide) _ _ _ f1
  have d12 : body_first.sl.dma2_12 c f0 = slabCols ((Memref.whole main_v32).view.read (Elt F) f0) 3 := by
    delta body_first.sl.dma2_12; exact slabCols_read (Memref.whole main_v32) 3 (by decide) _ _ _ f0
  have d14 : body_first.sl.dma2_14 c f1 = slabCols ((Memref.whole main_v33).view.read (Elt F) f1) 3 := by
    delta body_first.sl.dma2_14; exact slabCols_read (Memref.whole main_v33) 3 (by decide) _ _ _ f1
  have d16 : body_first.sl.dma2_16 c f0 = slabCols ((Memref.whole main_v32).view.read (Elt F) f0) 4 := by
    delta body_first.sl.dma2_16; exact slabCols_read (Memref.whole main_v32) 4 (by decide) _ _ _ f0
  have d18 : body_first.sl.dma2_18 c f1 = slabCols ((Memref.whole main_v33).view.read (Elt F) f1) 4 := by
    delta body_first.sl.dma2_18; exact slabCols_read (Memref.whole main_v33) 4 (by decide) _ _ _ f1
  have d20 : body_first.sl.dma2_20 c f0 = slabCols ((Memref.whole main_v32).view.read (Elt F) f0) 5 := by
    delta body_first.sl.dma2_20; exact slabCols_read (Memref.whole main_v32) 5 (by decide) _ _ _ f0
  have d22 : body_first.sl.dma2_22 c f1 = slabCols ((Memref.whole main_v33).view.read (Elt F) f1) 5 := by
    delta body_first.sl.dma2_22; exact slabCols_read (Memref.whole main_v33) 5 (by decide) _ _ _ f1
  have d24 : body_first.sl.dma2_24 c f0 = slabCols ((Memref.whole main_v32).view.read (Elt F) f0) 6 := by
    delta body_first.sl.dma2_24; exact slabCols_read (Memref.whole main_v32) 6 (by decide) _ _ _ f0
  have d26 : body_first.sl.dma2_26 c f1 = slabCols ((Memref.whole main_v33).view.read (Elt F) f1) 6 := by
    delta body_first.sl.dma2_26; exact slabCols_read (Memref.whole main_v33) 6 (by decide) _ _ _ f1
  have d28 : body_first.sl.dma2_28 c f0 = slabCols ((Memref.whole main_v32).view.read (Elt F) f0) 7 := by
    delta body_first.sl.dma2_28; exact slabCols_read (Memref.whole main_v32) 7 (by decide) _ _ _ f0
  have d30 : body_first.sl.dma2_30 c f1 = slabCols ((Memref.whole main_v33).view.read (Elt F) f1) 7 := by
    delta body_first.sl.dma2_30; exact slabCols_read (Memref.whole main_v33) 7 (by decide) _ _ _ f1
  have ew1 : joinCols ![body_first.sl.dma2 c f0, body_first.sl.dma2_2 c f1, body_first.sl.dma2_4 c f0, body_first.sl.dma2_6 c f1, body_first.sl.dma2_8 c f0, body_first.sl.dma2_10 c f1, body_first.sl.dma2_12 c f0, body_first.sl.dma2_14 c f1, body_first.sl.dma2_16 c f0, body_first.sl.dma2_18 c f1, body_first.sl.dma2_20 c f0, body_first.sl.dma2_22 c f1, body_first.sl.dma2_24 c f0, body_first.sl.dma2_26 c f1, body_first.sl.dma2_28 c f0, body_first.sl.dma2_30 c f1] = w1Of ((Memref.whole main_v32).view.read (Elt F) f0) ((Memref.whole main_v33).view.read (Elt F) f1) := by
    rw [d0, d2, d4, d6, d8, d10, d12, d14, d16, d18, d20, d22, d24, d26, d28, d30]; exact joinCols_slabs _ _
  have d1 : body_first.sl.dma2_1 c f2 = slabRows ((Memref.whole main_v34).view.read (Elt F) f2) 0 := by
    delta body_first.sl.dma2_1; exact slabRows_read (Memref.whole main_v34) 0 (by decide) _ _ _ f2
  have d3 : body_first.sl.dma2_3 c f3 = slabRows ((Memref.whole main_v35).view.read (Elt F) f3) 0 := by
    delta body_first.sl.dma2_3; exact slabRows_read (Memref.whole main_v35) 0 (by decide) _ _ _ f3
  have d5 : body_first.sl.dma2_5 c f2 = slabRows ((Memref.whole main_v34).view.read (Elt F) f2) 1 := by
    delta body_first.sl.dma2_5; exact slabRows_read (Memref.whole main_v34) 1 (by decide) _ _ _ f2
  have d7 : body_first.sl.dma2_7 c f3 = slabRows ((Memref.whole main_v35).view.read (Elt F) f3) 1 := by
    delta body_first.sl.dma2_7; exact slabRows_read (Memref.whole main_v35) 1 (by decide) _ _ _ f3
  have d9 : body_first.sl.dma2_9 c f2 = slabRows ((Memref.whole main_v34).view.read (Elt F) f2) 2 := by
    delta body_first.sl.dma2_9; exact slabRows_read (Memref.whole main_v34) 2 (by decide) _ _ _ f2
  have d11 : body_first.sl.dma2_11 c f3 = slabRows ((Memref.whole main_v35).view.read (Elt F) f3) 2 := by
    delta body_first.sl.dma2_11; exact slabRows_read (Memref.whole main_v35) 2 (by decide) _ _ _ f3
  have d13 : body_first.sl.dma2_13 c f2 = slabRows ((Memref.whole main_v34).view.read (Elt F) f2) 3 := by
    delta body_first.sl.dma2_13; exact slabRows_read (Memref.whole main_v34) 3 (by decide) _ _ _ f2
  have d15 : body_first.sl.dma2_15 c f3 = slabRows ((Memref.whole main_v35).view.read (Elt F) f3) 3 := by
    delta body_first.sl.dma2_15; exact slabRows_read (Memref.whole main_v35) 3 (by decide) _ _ _ f3
  have d17 : body_first.sl.dma2_17 c f2 = slabRows ((Memref.whole main_v34).view.read (Elt F) f2) 4 := by
    delta body_first.sl.dma2_17; exact slabRows_read (Memref.whole main_v34) 4 (by decide) _ _ _ f2
  have d19 : body_first.sl.dma2_19 c f3 = slabRows ((Memref.whole main_v35).view.read (Elt F) f3) 4 := by
    delta body_first.sl.dma2_19; exact slabRows_read (Memref.whole main_v35) 4 (by decide) _ _ _ f3
  have d21 : body_first.sl.dma2_21 c f2 = slabRows ((Memref.whole main_v34).view.read (Elt F) f2) 5 := by
    delta body_first.sl.dma2_21; exact slabRows_read (Memref.whole main_v34) 5 (by decide) _ _ _ f2
  have d23 : body_first.sl.dma2_23 c f3 = slabRows ((Memref.whole main_v35).view.read (Elt F) f3) 5 := by
    delta body_first.sl.dma2_23; exact slabRows_read (Memref.whole main_v35) 5 (by decide) _ _ _ f3
  have d25 : body_first.sl.dma2_25 c f2 = slabRows ((Memref.whole main_v34).view.read (Elt F) f2) 6 := by
    delta body_first.sl.dma2_25; exact slabRows_read (Memref.whole main_v34) 6 (by decide) _ _ _ f2
  have d27 : body_first.sl.dma2_27 c f3 = slabRows ((Memref.whole main_v35).view.read (Elt F) f3) 6 := by
    delta body_first.sl.dma2_27; exact slabRows_read (Memref.whole main_v35) 6 (by decide) _ _ _ f3
  have d29 : body_first.sl.dma2_29 c f2 = slabRows ((Memref.whole main_v34).view.read (Elt F) f2) 7 := by
    delta body_first.sl.dma2_29; exact slabRows_read (Memref.whole main_v34) 7 (by decide) _ _ _ f2
  have d31 : body_first.sl.dma2_31 c f3 = slabRows ((Memref.whole main_v35).view.read (Elt F) f3) 7 := by
    delta body_first.sl.dma2_31; exact slabRows_read (Memref.whole main_v35) 7 (by decide) _ _ _ f3
  have ew2 : joinRows ![body_first.sl.dma2_1 c f2, body_first.sl.dma2_3 c f3, body_first.sl.dma2_5 c f2, body_first.sl.dma2_7 c f3, body_first.sl.dma2_9 c f2, body_first.sl.dma2_11 c f3, body_first.sl.dma2_13 c f2, body_first.sl.dma2_15 c f3, body_first.sl.dma2_17 c f2, body_first.sl.dma2_19 c f3, body_first.sl.dma2_21 c f2, body_first.sl.dma2_23 c f3, body_first.sl.dma2_25 c f2, body_first.sl.dma2_27 c f3, body_first.sl.dma2_29 c f2, body_first.sl.dma2_31 c f3] = w2Of ((Memref.whole main_v34).view.read (Elt F) f2) ((Memref.whole main_v35).view.read (Elt F) f3) := by
    rw [d1, d3, d5, d7, d9, d11, d13, d15, d17, d19, d21, d23, d25, d27, d29, d31]; exact joinRows_slabs _ _
  iapply Hk
  isplitl [H0 H1 H2 H3 H4 H5 H6 H7]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    iexists _; isplitr; · ipureintro; exact harg12.read_unread _
    iexact H7
  isplitl [H8 H9 H10 H11 H12 HS0 HS1 HS2]
  · isplitl [H8]
    · iexists _; isplitr; swap; · iexact H8
      ipureintro; refine (View.read_writes_full _ _ _ _ _).trans ?_
      repeat' (first | delta body_first.sl.r | delta body_first.sl.r_1 | delta body_first.sl.r_2 | delta body_first.sl.r_3 | delta body_first.sl.r_4 | delta body_first.sl.r_5 | delta body_first.sl.r_6 | delta body_first.sl.r_7 | delta body_first.sl.r_8 | delta body_first.sl.r_9 | delta body_first.sl.r_10 | delta body_first.sl.r_11 | delta body_first.sl.r_12 | delta body_first.sl.r_13 | delta body_first.sl.r_14 | delta body_first.sl.v0 | delta body_first.sl.v1 | delta body_first.sl.v2 | delta body_first.sl.v16 | delta body_first.sl.v126 | delta body_first.sl.v132 | delta body_first.sl.v139 | delta body_first.sl.v145 | delta body_first.sl.HS0_1 | delta body_first.sl.v9 | delta body_first.sl.v20 | delta body_first.sl.v119 | delta body_first.sl.H12_1 | delta body_first.sl.H12_2 | delta body_first.sl.H12_3 | delta body_first.sl.H12_4 | delta body_first.sl.H12_5)
      simp only [readAt_lit, readCov_lit, Memref.IsWhole.read_unread, readCov_cols, readCov_rows, ew1, ew2]; rfl
    isplitl [H9]
    · iexists _; isplitr; swap; · iexact H9
      ipureintro; refine (View.read_writes_full _ _ _ _ _).trans ?_
      repeat' (first | delta body_first.sl.r | delta body_first.sl.r_1 | delta body_first.sl.r_2 | delta body_first.sl.r_3 | delta body_first.sl.r_4 | delta body_first.sl.r_5 | delta body_first.sl.r_6 | delta body_first.sl.r_7 | delta body_first.sl.r_8 | delta body_first.sl.r_9 | delta body_first.sl.r_10 | delta body_first.sl.r_11 | delta body_first.sl.r_12 | delta body_first.sl.r_13 | delta body_first.sl.r_14 | delta body_first.sl.v0 | delta body_first.sl.v1 | delta body_first.sl.v2 | delta body_first.sl.v16 | delta body_first.sl.v126 | delta body_first.sl.v132 | delta body_first.sl.v139 | delta body_first.sl.v145 | delta body_first.sl.HS0_1 | delta body_first.sl.v9 | delta body_first.sl.v20 | delta body_first.sl.v119 | delta body_first.sl.H12_1 | delta body_first.sl.H12_2 | delta body_first.sl.H12_3 | delta body_first.sl.H12_4 | delta body_first.sl.H12_5)
      simp only [readAt_lit, readCov_lit, Memref.IsWhole.read_unread, readCov_cols, readCov_rows, ew1, ew2]; rfl
    isplitl [H10]
    · iexists _; isplitr; swap; · iexact H10
      ipureintro; refine (View.read_writes_full _ _ _ _ _).trans ?_
      repeat' (first | delta body_first.sl.r | delta body_first.sl.r_1 | delta body_first.sl.r_2 | delta body_first.sl.r_3 | delta body_first.sl.r_4 | delta body_first.sl.r_5 | delta body_first.sl.r_6 | delta body_first.sl.r_7 | delta body_first.sl.r_8 | delta body_first.sl.r_9 | delta body_first.sl.r_10 | delta body_first.sl.r_11 | delta body_first.sl.r_12 | delta body_first.sl.r_13 | delta body_first.sl.r_14 | delta body_first.sl.v0 | delta body_first.sl.v1 | delta body_first.sl.v2 | delta body_first.sl.v16 | delta body_first.sl.v126 | delta body_first.sl.v132 | delta body_first.sl.v139 | delta body_first.sl.v145 | delta body_first.sl.HS0_1 | delta body_first.sl.v9 | delta body_first.sl.v20 | delta body_first.sl.v119 | delta body_first.sl.H12_1 | delta body_first.sl.H12_2 | delta body_first.sl.H12_3 | delta body_first.sl.H12_4 | delta body_first.sl.H12_5)
      simp only [readAt_lit, readCov_lit, Memref.IsWhole.read_unread, readCov_cols, readCov_rows, ew1, ew2]; rfl
    isplitl [H11]
    · iexists _; isplitr; swap; · iexact H11
      ipureintro; refine (View.read_writes_full _ _ _ _ _).trans ?_
      repeat' (first | delta body_first.sl.r | delta body_first.sl.r_1 | delta body_first.sl.r_2 | delta body_first.sl.r_3 | delta body_first.sl.r_4 | delta body_first.sl.r_5 | delta body_first.sl.r_6 | delta body_first.sl.r_7 | delta body_first.sl.r_8 | delta body_first.sl.r_9 | delta body_first.sl.r_10 | delta body_first.sl.r_11 | delta body_first.sl.r_12 | delta body_first.sl.r_13 | delta body_first.sl.r_14 | delta body_first.sl.v0 | delta body_first.sl.v1 | delta body_first.sl.v2 | delta body_first.sl.v16 | delta body_first.sl.v126 | delta body_first.sl.v132 | delta body_first.sl.v139 | delta body_first.sl.v145 | delta body_first.sl.HS0_1 | delta body_first.sl.v9 | delta body_first.sl.v20 | delta body_first.sl.v119 | delta body_first.sl.H12_1 | delta body_first.sl.H12_2 | delta body_first.sl.H12_3 | delta body_first.sl.H12_4 | delta body_first.sl.H12_5)
      simp only [readAt_lit, readCov_lit, Memref.IsWhole.read_unread, readCov_cols, readCov_rows, ew1, ew2]; rfl
    isplitl [H12]
    · iexists _; isplitr; swap; · iexact H12
      ipureintro; repeat' (first | delta body_first.sl.r | delta body_first.sl.r_1 | delta body_first.sl.r_2 | delta body_first.sl.r_3 | delta body_first.sl.r_4 | delta body_first.sl.r_5 | delta body_first.sl.r_6 | delta body_first.sl.r_7 | delta body_first.sl.r_8 | delta body_first.sl.r_9 | delta body_first.sl.r_10 | delta body_first.sl.r_11 | delta body_first.sl.r_12 | delta body_first.sl.r_13 | delta body_first.sl.r_14 | delta body_first.sl.v0 | delta body_first.sl.v1 | delta body_first.sl.v2 | delta body_first.sl.v16 | delta body_first.sl.v126 | delta body_first.sl.v132 | delta body_first.sl.v139 | delta body_first.sl.v145 | delta body_first.sl.HS0_1 | delta body_first.sl.v9 | delta body_first.sl.v20 | delta body_first.sl.v119 | delta body_first.sl.H12_1 | delta body_first.sl.H12_2 | delta body_first.sl.H12_3 | delta body_first.sl.H12_4 | delta body_first.sl.H12_5)
      simp only [readAt_lit, readCov_lit, Memref.IsWhole.read_unread, readCov_cols, readCov_rows, ew1, ew2]
      refine (read_putRows _ _ _ _ _ _ _ _).trans ?_
      simp (disch := decide) only [readAt_row, readCov_row, row_miss, read_full_lit, View.writes_nil, Memref.IsWhole.read_unread]; rfl
    isplitl [HS0]
    · iexists _; iexists _; isplitr; swap; · iexact HS0
      ipureintro; rfl
    isplitl [HS1]
    · iexists _; isplitr; swap; · iexact HS1
      ipureintro; exact (read_cols _ _ _ _ _ _ _ _ _ _ _ _ _ _ _ _ _ _ _ _ _ _ _ _ _ _ _ _ _ _ _ _ _ _).trans ew1
    iexists _; isplitr; swap; · iexact HS2
    ipureintro; exact (read_rows _ _ _ _ _ _ _ _ _ _ _ _ _ _ _ _ _ _ _ _ _ _ _ _ _ _ _ _ _ _ _ _ _ _).trans ew2
  isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    iexact Hq31
  isplitl [Hh0 Hh1 Hh2 Hh3]
  · isplitl [Hh0]; · iexact Hh0
    isplitl [Hh1]; · iexact Hh1
    isplitl [Hh2]; · iexact Hh2
    iexact Hh3
  iexists _; iexact HW

end Cert.FfnIdeal.Hand

end
-- ==== Proof.FfnRunLater.lean ====
module

public import proofs.«01_k».proof.Proof.FfnBlock

@[expose] public section

set_option maxRecDepth 16384

noncomputable section

namespace Cert.FfnIdeal.Hand

open Cert.FfnIdeal Cert.FfnIdeal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
/-- The body at a later grid point: the weights are in VMEM already. -/
theorem body_later (c : Dev nD) (i : grid0.Coords) (S : Slots) (hc0 : ¬cond0_0 i) (X : Ins F) (s : Vec F S8x1024 .f32)
    (f0 : HbBuf0 (F := F) c hbM0_0) (f1 : HbBuf0 (F := F) c hbM0_1) (f2 : HbBuf0 (F := F) c hbM0_2) (f3 : HbBuf0 (F := F) c hbM0_3)
    (W : Waits sig Unit) (K : PUnit → sProp 𝕄) :
    iprop(insAt S c X ∗ (∃ d, owns (c : Thread nD τ) S.m13 fullShare d) ∗ (∃ d, owns (c : Thread nD τ) S.m14 fullShare d) ∗ (∃ d, owns (c : Thread nD τ) S.m15 fullShare d) ∗ (∃ d, owns (c : Thread nD τ) S.m16 fullShare d) ∗ owns (c : Thread nD τ) S.m17 fullShare s ∗ (∃ d, owns (c : Thread nD τ) S.m18 fullShare d) ∗ owns (c : Thread nD τ) S.m19 fullShare X.w1 ∗ owns (c : Thread nD τ) S.m20 fullShare X.w2 ∗ cellsAt c ∗ piecesAt c f0 f1 f2 f3 ∗ owes (c : Thread nD τ) 0 W
      ∗ (iprop(insAt S c X ∗ outsAt S c X s ∗ cellsAt c ∗ piecesAt c f0 f1 f2 f3 ∗ (∃ W', owes (c : Thread nD τ) 0 W')) -∗ K ⟨⟩))
      ⊢ wp frame (wpE (defs₀ (F := F)) Variants.none c none) Set.univ (bodyOn S i) K := by
  obtain ⟨arg1, harg1, arg2, harg2, arg3, harg3, arg4, harg4, arg9, harg9, arg10, harg10, arg11, harg11, arg12, harg12, arg13, harg13, arg14, harg14, arg15, harg15, arg16, harg16, arg17, harg17, arg18, harg18, arg19, harg19, arg20, harg20⟩ := S
  obtain ⟨x0, x1, x2, x3, x4, x5, x6, x7, w1, w2⟩ := X
  dsimp only [bodyOn, insAt, outsAt, cellsAt, piecesAt]
  simp only [cc0_ffn_fwd_bwd_eq_skeleton]; unfold cc0_ffn_fwd_bwd_skel
  simp only [k0_part16_eq_skeleton, k0_part17_eq_skeleton, k0_part18_eq_skeleton, k0_part19_eq_skeleton]

  unfold owns
  iintro ⟨⟨⟨%g0, %hf0, H0⟩, ⟨%g1, %hf1, H1⟩, ⟨%g2, %hf2, H2⟩, ⟨%g3, %hf3, H3⟩, ⟨%g4, %hf4, H4⟩, ⟨%g5, %hf5, H5⟩, ⟨%g6, %hf6, H6⟩, ⟨%g7, %hf7, H7⟩⟩, ⟨%d8, %f8, -, H8⟩, ⟨%d9, %f9, -, H9⟩, ⟨%d10, %f10, -, H10⟩, ⟨%d11, %f11, -, H11⟩, ⟨%f12, %hf12, H12⟩, ⟨%ds0, %fs0, -, HS0⟩, ⟨%fs1, %hfs1, HS1⟩, ⟨%fs2, %hfs2, HS2⟩, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31⟩, ⟨Hh0, Hh1, Hh2, Hh3⟩, HW, Hk⟩
  obtain rfl := harg1.eq_unread hf0; obtain rfl := harg2.eq_unread hf1; obtain rfl := harg3.eq_unread hf2; obtain rfl := harg4.eq_unread hf3; obtain rfl := harg9.eq_unread hf4; obtain rfl := harg10.eq_unread hf5; obtain rfl := harg11.eq_unread hf6; obtain rfl := harg12.eq_unread hf7; obtain rfl := harg17.eq_unread hf12; obtain rfl := harg19.eq_unread hfs1; obtain rfl := harg20.eq_unread hfs2
  sl_exec (disch := first | sl_exact hc0)
  sl_step
  iapply Hk
  isplitl [H0 H1 H2 H3 H4 H5 H6 H7]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    iexists _; isplitr; · ipureintro; exact harg12.read_unread _
    iexact H7
  isplitl [H8 H9 H10 H11 H12 HS0 HS1 HS2]
  · isplitl [H8]
    · iexists _; isplitr; swap; · iexact H8
      ipureintro; refine (View.read_writes_full _ _ _ _ _).trans ?_
      repeat' (first | delta body_later.sl.r | delta body_later.sl.r_1 | delta body_later.sl.r_2 | delta body_later.sl.r_3 | delta body_later.sl.r_4 | delta body_later.sl.r_5 | delta body_later.sl.r_6 | delta body_later.sl.r_7 | delta body_later.sl.r_8 | delta body_later.sl.r_9 | delta body_later.sl.r_10 | delta body_later.sl.r_11 | delta body_later.sl.r_12 | delta body_later.sl.r_13 | delta body_later.sl.r_14 | delta body_later.sl.v0 | delta body_later.sl.v1 | delta body_later.sl.v2 | delta body_later.sl.v16 | delta body_later.sl.v126 | delta body_later.sl.v132 | delta body_later.sl.v139 | delta body_later.sl.v145 | delta body_later.sl.HS0_1)
      simp only [readAt_lit, readCov_lit, Memref.IsWhole.read_unread]; rfl
    isplitl [H9]
    · iexists _; isplitr; swap; · iexact H9
      ipureintro; refine (View.read_writes_full _ _ _ _ _).trans ?_
      repeat' (first | delta body_later.sl.r | delta body_later.sl.r_1 | delta body_later.sl.r_2 | delta body_later.sl.r_3 | delta body_later.sl.r_4 | delta body_later.sl.r_5 | delta body_later.sl.r_6 | delta body_later.sl.r_7 | delta body_later.sl.r_8 | delta body_later.sl.r_9 | delta body_later.sl.r_10 | delta body_later.sl.r_11 | delta body_later.sl.r_12 | delta body_later.sl.r_13 | delta body_later.sl.r_14 | delta body_later.sl.v0 | delta body_later.sl.v1 | delta body_later.sl.v2 | delta body_later.sl.v16 | delta body_later.sl.v126 | delta body_later.sl.v132 | delta body_later.sl.v139 | delta body_later.sl.v145 | delta body_later.sl.HS0_1)
      simp only [readAt_lit, readCov_lit, Memref.IsWhole.read_unread]; rfl
    isplitl [H10]
    · iexists _; isplitr; swap; · iexact H10
      ipureintro; refine (View.read_writes_full _ _ _ _ _).trans ?_
      repeat' (first | delta body_later.sl.r | delta body_later.sl.r_1 | delta body_later.sl.r_2 | delta body_later.sl.r_3 | delta body_later.sl.r_4 | delta body_later.sl.r_5 | delta body_later.sl.r_6 | delta body_later.sl.r_7 | delta body_later.sl.r_8 | delta body_later.sl.r_9 | delta body_later.sl.r_10 | delta body_later.sl.r_11 | delta body_later.sl.r_12 | delta body_later.sl.r_13 | delta body_later.sl.r_14 | delta body_later.sl.v0 | delta body_later.sl.v1 | delta body_later.sl.v2 | delta body_later.sl.v16 | delta body_later.sl.v126 | delta body_later.sl.v132 | delta body_later.sl.v139 | delta body_later.sl.v145 | delta body_later.sl.HS0_1)
      simp only [readAt_lit, readCov_lit, Memref.IsWhole.read_unread]; rfl
    isplitl [H11]
    · iexists _; isplitr; swap; · iexact H11
      ipureintro; refine (View.read_writes_full _ _ _ _ _).trans ?_
      repeat' (first | delta body_later.sl.r | delta body_later.sl.r_1 | delta body_later.sl.r_2 | delta body_later.sl.r_3 | delta body_later.sl.r_4 | delta body_later.sl.r_5 | delta body_later.sl.r_6 | delta body_later.sl.r_7 | delta body_later.sl.r_8 | delta body_later.sl.r_9 | delta body_later.sl.r_10 | delta body_later.sl.r_11 | delta body_later.sl.r_12 | delta body_later.sl.r_13 | delta body_later.sl.r_14 | delta body_later.sl.v0 | delta body_later.sl.v1 | delta body_later.sl.v2 | delta body_later.sl.v16 | delta body_later.sl.v126 | delta body_later.sl.v132 | delta body_later.sl.v139 | delta body_later.sl.v145 | delta body_later.sl.HS0_1)
      simp only [readAt_lit, readCov_lit, Memref.IsWhole.read_unread]; rfl
    isplitl [H12]
    · iexists _; isplitr; swap; · iexact H12
      ipureintro; repeat' (first | delta body_later.sl.r | delta body_later.sl.r_1 | delta body_later.sl.r_2 | delta body_later.sl.r_3 | delta body_later.sl.r_4 | delta body_later.sl.r_5 | delta body_later.sl.r_6 | delta body_later.sl.r_7 | delta body_later.sl.r_8 | delta body_later.sl.r_9 | delta body_later.sl.r_10 | delta body_later.sl.r_11 | delta body_later.sl.r_12 | delta body_later.sl.r_13 | delta body_later.sl.r_14 | delta body_later.sl.v0 | delta body_later.sl.v1 | delta body_later.sl.v2 | delta body_later.sl.v16 | delta body_later.sl.v126 | delta body_later.sl.v132 | delta body_later.sl.v139 | delta body_later.sl.v145 | delta body_later.sl.HS0_1)
      simp only [readAt_lit, readCov_lit, Memref.IsWhole.read_unread]
      refine (read_putRows _ _ _ _ _ _ _ _).trans ?_
      simp (disch := decide) only [readAt_row, readCov_row, row_miss, read_full_lit, View.writes_nil, Memref.IsWhole.read_unread]; rfl
    isplitl [HS0]
    · iexists _; iexists _; isplitr; swap; · iexact HS0
      ipureintro; rfl
    isplitl [HS1]
    · iexists _; isplitr; · ipureintro; exact harg19.read_unread _
      iexact HS1
    iexists _; isplitr; · ipureintro; exact harg20.read_unread _
    iexact HS2
  isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    iexact Hq31
  isplitl [Hh0 Hh1 Hh2 Hh3]
  · isplitl [Hh0]; · iexact Hh0
    isplitl [Hh1]; · iexact Hh1
    isplitl [Hh2]; · iexact Hh2
    iexact Hh3
  iexists _; iexact HW

end Cert.FfnIdeal.Hand

end
-- ==== Proof.FfnFrame.lean ====
module

public import proofs.«01_k».proof.Proof.FfnRunFirst
public import proofs.«01_k».proof.Proof.FfnRunLater
public import Idealize.ShloMosaic.Lib.Claim

@[expose] public section

set_option maxRecDepth 16384

noncomputable section

namespace Cert.FfnIdeal.Hand

open Cert.FfnIdeal Cert.FfnIdeal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The first weight as the first grid point assembles it from its two arrays of pieces. -/
def weight1 (c : Dev nD) : Vec F S1024x4096 .bf16 :=
  w1Of ((Memref.whole main_v32).view.read (Elt F) (V m c main_v32)) ((Memref.whole main_v33).view.read (Elt F) (V m c main_v33))

/-- The second weight, likewise. -/
def weight2 (c : Dev nD) : Vec F S4096x1024 .bf16 :=
  w2Of ((Memref.whole main_v34).view.read (Elt F) (V m c main_v34)) ((Memref.whole main_v35).view.read (Elt F) (V m c main_v35))

/-- What the body computes from at point `t`: the inputs' blocks and the two weights. -/
def insOf (c : Dev nD) (t : Fin cfg0.N) : Ins F :=
  ⟨iblk m c 0 t, iblk m c 1 t, iblk m c 2 t, iblk m c 3 t, iblk m c 4 t, iblk m c 5 t, iblk m c 6 t, iblk m c 7 t, weight1 m c, weight2 m c⟩

/-- The column sums and the loss after point `n`: the first point starts from zeros. -/
def statsAt (c : Dev nD) : (n : ℕ) → n < cfg0.N → Vec F S8x1024 .f32
  | 0, h => (insOf m c ⟨0, h⟩).stats k0_pay2
  | n + 1, h => (insOf m c ⟨n + 1, h⟩).stats (statsAt c n (Nat.lt_of_succ_lt h))

/-- The staging memrefs of point `t`. -/
def slotsAt (t : Fin cfg0.N) : Slots :=
  ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, scM0_0, Memref.isWhole_whole _, scM0_1, Memref.isWhole_whole _, scM0_2, Memref.isWhole_whole _⟩

/-- Between two points: the weights stay in VMEM, everything else is as the launch hands it over. -/
def carried (c : Dev nD) : sProp 𝕄 :=
  iprop(iprop((∃ d, owns (c : Thread nD τ) scM0_0 fullShare d) ∗ owns (c : Thread nD τ) scM0_1 fullShare (weight1 m c) ∗ owns (c : Thread nD τ) scM0_2 fullShare (weight2 m c))
    ∗ (∃ r, prngReg c r) ∗ cellsAt c ∗ piecesAt c (V m c main_v32) (V m c main_v33) (V m c main_v34) (V m c main_v35))

/-- The data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (insOf m c t).act
    | ⟨9, _⟩ => (insOf m c t).dpre
    | ⟨10, _⟩ => (insOf m c t).dz2b
    | ⟨11, _⟩ => (insOf m c t).dz1
    | ⟨12, _⟩ => statsAt m c t.val t.isLt
  Φ t := if t.val = 0 then Pipeline.ΦD osem0 spec0 H0 (V m) c else carried m c
  q _ := fullShare
  owed _ := 0

theorem arr_eq (c : Dev nD) (w : Fin cfg0.W) : (dats m 0 c).A w = V m c (Pipeline.arrRef spec0 w) := by
  dsimp only [dats]

theorem found_0 (c : Dev nD) (t : Fin cfg0.N) (d) : (dats m 0 c).before 0 t d = iblk m c 0 t :=
  before0_0_of m (dats m 0 c) (arr_eq m c 0) (fun _ => by dsimp only [dats]) t d
theorem found_1 (c : Dev nD) (t : Fin cfg0.N) (d) : (dats m 0 c).before 1 t d = iblk m c 1 t :=
  before0_1_of m (dats m 0 c) (arr_eq m c 1) (fun _ => by dsimp only [dats]) t d
theorem found_2 (c : Dev nD) (t : Fin cfg0.N) (d) : (dats m 0 c).before 2 t d = iblk m c 2 t :=
  before0_2_of m (dats m 0 c) (arr_eq m c 2) (fun _ => by dsimp only [dats]) t d
theorem found_3 (c : Dev nD) (t : Fin cfg0.N) (d) : (dats m 0 c).before 3 t d = iblk m c 3 t :=
  before0_3_of m (dats m 0 c) (arr_eq m c 3) (fun _ => by dsimp only [dats]) t d
theorem found_4 (c : Dev nD) (t : Fin cfg0.N) (d) : (dats m 0 c).before 4 t d = iblk m c 4 t :=
  before0_4_of m (dats m 0 c) (arr_eq m c 4) (fun _ => by dsimp only [dats]) t d
theorem found_5 (c : Dev nD) (t : Fin cfg0.N) (d) : (dats m 0 c).before 5 t d = iblk m c 5 t :=
  before0_5_of m (dats m 0 c) (arr_eq m c 5) (fun _ => by dsimp only [dats]) t d
theorem found_6 (c : Dev nD) (t : Fin cfg0.N) (d) : (dats m 0 c).before 6 t d = iblk m c 6 t :=
  before0_6_of m (dats m 0 c) (arr_eq m c 6) (fun _ => by dsimp only [dats]) t d
theorem found_7 (c : Dev nD) (t : Fin cfg0.N) (d) : (dats m 0 c).before 7 t d = iblk m c 7 t :=
  before0_7_of m (dats m 0 c) (arr_eq m c 7) (fun _ => by dsimp only [dats]) t d

/-- The statistics' buffer is written back after the last point only, so a later point finds what the one before left. -/
theorem found_stats (c : Dev nD) (t : Fin cfg0.N) (h0 : t.val ≠ 0) (d) :
    (dats m 0 c).before 12 t d = statsAt m c (t.val - 1) (Nat.lt_of_le_of_lt (Nat.sub_le _ _) t.isLt) := by
  have hN : t.val < 16 := lt_of_lt_of_eq t.isLt (show cfg0.N = 16 from N_0)
  rw [Dat.before_out_kept _ 12 rfl t (by omega) (Bool.eq_false_iff.mpr fun h => by have := (flush0_12 _).mp h; dsimp only at this; omega)
    (fun _ => rfl) (fun _ _ => rfl)]
  dsimp only [dats]

theorem statsAt_first (c : Dev nD) (t : Fin cfg0.N) (h : t.val = 0) :
    statsAt m c t.val t.isLt = (insOf m c t).stats k0_pay2 := by
  obtain ⟨n, hn⟩ := t
  cases n with
  | zero => rfl
  | succ n => exact absurd h (Nat.succ_ne_zero n)

theorem statsAt_later (c : Dev nD) (t : Fin cfg0.N) (h : t.val ≠ 0) :
    statsAt m c t.val t.isLt = (insOf m c t).stats (statsAt m c (t.val - 1) (Nat.lt_of_le_of_lt (Nat.sub_le _ _) t.isLt)) := by
  obtain ⟨n, hn⟩ := t
  cases n with
  | zero => exact absurd rfl h
  | succ n => rfl

theorem inv_start (c : Dev nD) : (dats m 0 c).Φ 0 = Pipeline.ΦD osem0 spec0 H0 (V m) c := by
  dsimp only [dats]; exact if_pos rfl

theorem inv_pos (c : Dev nD) (t : Fin (cfg0.N + 1)) (h : t.val ≠ 0) : (dats m 0 c).Φ t = carried m c := by
  dsimp only [dats]; exact if_neg h

set_option maxHeartbeats 4000000 in
/-- The body at any point, from what the pipeline hands it to what the data says it leaves. -/
theorem at_point (c : Dev nD) (t : Fin cfg0.N) :
    iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)))
      ⊢ wp frame (wpE (defs₀ (F := F)) Variants.none c none) Set.univ (bodyOn (slotsAt t) (grid0.coords t))
        (fun _ => iprop((dats m 0 c).Φ t.succ ∗ (dats m 0 c).owesAt () t.succ ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t) ∗ owns (c : Thread nD τ) (ms0_10 t) fullShare ((dats m 0 c).after 10 t) ∗ owns (c : Thread nD τ) (ms0_11 t) fullShare ((dats m 0 c).after 11 t) ∗ owns (c : Thread nD τ) (ms0_12 t) fullShare ((dats m 0 c).after 12 t))) := by
  simp only [found_0, found_1, found_2, found_3, found_4, found_5, found_6, found_7]
  rw [inv_pos m c t.succ (by simp)]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  have hs : (dats m 0 c).after 12 t = statsAt m c t.val t.isLt := by dsimp only [dats]
  rw [hs]
  by_cases hz : t.val = 0
  · rw [show (dats m 0 c).Φ t.castSucc = Pipeline.ΦD osem0 spec0 H0 (V m) c from by dsimp only [dats]; exact if_pos hz, PhiD0_eq,
      statsAt_first m c t hz]
    unfold carried
    iintro ⟨⟨⟨HS0, HS1, HS2⟩, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (body_first c (grid0.coords t) (slotsAt t) ((hcond0_0 t).mpr (by omega)) (insOf m c t) (V m c main_v32) (V m c main_v33) (V m c main_v34) (V m c main_v35) W _)
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]; · iexact HS0
    isplitl [HS1]; · iexact HS1
    isplitl [HS2]; · iexact HS2
    isplitl [Hq]; · iexact Hq
    isplitl [Hh]; · iexact Hh
    isplitl [HW]; · iexact HW
    iintro ⟨⟨H0, H1, H2, H3, H4, H5, H6, H7⟩, ⟨H8, H9, H10, H11, H12, HS0, HS1, HS2⟩, Hq, Hh, ⟨%W', HW⟩⟩
    isplitl [HS0 HS1 HS2 Hg Hq Hh]
    · isplitl [HS0 HS1 HS2]
      · isplitl [HS0]; · iexact HS0
        isplitl [HS1]; · iexact HS1
        iexact HS2
      isplitl [Hg]; · iexact Hg
      isplitl [Hq]; · iexact Hq
      iexact Hh
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · rw [inv_pos m c t.castSucc hz, statsAt_later m c t hz]
    simp only [found_stats m c t hz]
    unfold carried
    iintro ⟨⟨⟨HS0, HS1, HS2⟩, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (body_later c (grid0.coords t) (slotsAt t) (fun h => hz (by have := (hcond0_0 t).mp h; omega)) (insOf m c t) _ (V m c main_v32) (V m c main_v33) (V m c main_v34) (V m c main_v35) W _)
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexists _; iexact H8
    isplitl [H9]; · iexists _; iexact H9
    isplitl [H10]; · iexists _; iexact H10
    isplitl [H11]; · iexists _; iexact H11
    isplitl [H12]; · iexact H12
    isplitl [HS0]; · iexact HS0
    isplitl [HS1]; · iexact HS1
    isplitl [HS2]; · iexact HS2
    isplitl [Hq]; · iexact Hq
    isplitl [Hh]; · iexact Hh
    isplitl [HW]; · iexact HW
    iintro ⟨⟨H0, H1, H2, H3, H4, H5, H6, H7⟩, ⟨H8, H9, H10, H11, H12, HS0, HS1, HS2⟩, Hq, Hh, ⟨%W', HW⟩⟩
    isplitl [HS0 HS1 HS2 Hg Hq Hh]
    · isplitl [HS0 HS1 HS2]
      · isplitl [HS0]; · iexact HS0
        isplitl [HS1]; · iexact HS1
        iexact HS2
      isplitl [Hg]; · iexact Hg
      isplitl [Hq]; · iexact Hq
      iexact Hh
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The library's body obligation at every point. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyOn (slotsAt t) (grid0.coords t) from by
    unfold defs₀; rw [Defs.onTc_tc]; rfl]
  exact triple_restated (at_point m c t) rfl .rfl fun _ => .rfl

/-- After the last point everything the launch handed over comes back. -/
theorem inv_end (c : Dev nD) : (dats m 0 c).Φ (Fin.last cfg0.N) ⊢ Pipeline.ΦD osem0 spec0 H0 (V m) c := by
  rw [inv_pos m c _ (by rw [Fin.val_last]; have : cfg0.N = 16 := N_0; omega), PhiD0_eq]
  unfold carried
  iintro ⟨⟨HS0, HS1, HS2⟩, Hg, Hq, Hh⟩
  isplitl [HS0 HS1 HS2]
  · isplitl [HS0]; · iexact HS0
    isplitl [HS1]; · iexists _; iexact HS1
    iexists _; iexact HS2
  isplitl [Hg]; · iexact Hg
  isplitl [Hq]; · iexact Hq
  iexact Hh

set_option backward.isDefEq.respectTransparency.types false in
/-- The launch: every array of the pipeline ends at what the data says, every other buffer as the region found it, every
    counter at zero. -/
theorem run_quiet : θ_run defs (onTc (τ := τ) (main (F := F))) (s₀ m ρ)
    (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (obligation m c).loose) (hshare := fun c => (dats m 0 c).share_full fun _ => rfl)
    (howed := fun _ _ => rfl) (V := V m) (hmain := hmain m Variants.none) (hA := arr_eq m)
    (hin := fun c => by rw [inv_start m c]) (hout := inv_end m)

/-- The launch without the counters. -/
theorem run_arrays : θ_run defs (onTc (τ := τ) (main (F := F))) (s₀ m ρ) (Pipeline.FramePost cfgs (dats m) 0 (V m)) :=
  (θ_run defs _ _).mono (fun _ h => h.1) (run_quiet m ρ)

/-- The program runs to its end from any memory, leaves its arguments as they were and its counters at zero. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (arr_eq m) (run_arrays m ρ)) ((θ_run defs _ _).mono (fun _ h => h.2) (run_quiet m ρ))

end Cert.FfnIdeal.Hand

end
-- ==== Proof.FfnReal.lean ====
module

public import Idealize.ShloMosaic.Lib.Pointwise

/-!
The feed-forward layer, its loss and its gradient in real arithmetic, one token
at a time.  Both programs are compared with these definitions.
-/

@[expose] public section

namespace Cert.FfnReal

open scoped BigOperators
open Idealize.ShloMosaic

/-- A sum of reals, read as an extended real. -/
theorem coe_sum {n : ℕ} (f : Fin n → ℝ) : ∑ k, ((f k : ℝ) : EReal) = ((∑ k, f k : ℝ) : EReal) := by
  have h : ∀ s : Finset (Fin n), ∑ k ∈ s, ((f k : ℝ) : EReal) = ((∑ k ∈ s, f k : ℝ) : EReal) := by
    intro s
    induction s using Finset.induction_on with
    | empty => simp
    | insert a s ha ih => rw [Finset.sum_insert ha, Finset.sum_insert ha, ih, EReal.coe_add]
  exact h _

/-- A quotient of reals by a real that is not zero. -/
theorem coe_div (x : ℝ) {y : ℝ} (h : y ≠ 0) : Ideal.div (x : EReal) (y : EReal) = ((x / y : ℝ) : EReal) := by
  rw [Ideal.div_coe h, ← EReal.coe_mul, one_div, div_eq_mul_inv]

/-- The reciprocal root of a positive real. -/
theorem coe_rsqrt {x : ℝ} (h : 0 < x) : Ideal.rsqrt (x : EReal) = (((Real.sqrt x)⁻¹ : ℝ) : EReal) := by
  rw [Ideal.rsqrt_coe, if_neg (not_lt.mpr h.le), if_neg h.ne']

/-- The larger of a real and zero. -/
theorem coe_relu (x : ℝ) : max (x : EReal) 0 = ((max x 0 : ℝ) : EReal) := by
  rw [EReal.coe_strictMono.monotone.map_max, EReal.coe_zero]

theorem ofBits_1024 : Ideal.ofBits .f32 0x44800000#32 = ((1024 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul, -EReal.coe_neg]; norm_num
theorem ofBits_two : Ideal.ofBits .f32 0x40000000#32 = ((2 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
/-- The scale of the skip connection is a real. -/
theorem ofBits_scale : Ideal.ofBits .f32 0x3F9837F0#32 = ((9975792 * (2 : ℝ) ^ (-23 : ℤ) : ℝ) : EReal) := by
  simp [Ideal.ofBits, Ideal.ieee, -EReal.coe_mul]
/-- The small constant is a real. -/
theorem ofBits_small : Ideal.ofBits .f32 0x3727C5AC#32 = ((10995116 * (2 : ℝ) ^ (-40 : ℤ) : ℝ) : EReal) := by
  simp [Ideal.ofBits, Ideal.ieee, -EReal.coe_mul]
/-- … and positive. -/
theorem small_pos : (0 : ℝ) < 10995116 * (2 : ℝ) ^ (-40 : ℤ) := by positivity

/-- The mean of a row. -/
noncomputable def mean (v : Fin 1024 → ℝ) : ℝ := (∑ k, v k) / 1024

/-- A row less its mean. -/
noncomputable def cen (v : Fin 1024 → ℝ) (k : Fin 1024) : ℝ := v k - mean v

/-- The variance of a row with the small constant added. -/
noncomputable def spread (ε : ℝ) (v : Fin 1024 → ℝ) : ℝ := mean (fun k => cen v k * cen v k) + ε

/-- The reciprocal standard deviation of a row. -/
noncomputable def rs (ε : ℝ) (v : Fin 1024 → ℝ) : ℝ := (Real.sqrt (spread ε v))⁻¹

/-- The normalised row. -/
noncomputable def nrm (ε : ℝ) (v : Fin 1024 → ℝ) (k : Fin 1024) : ℝ := cen v k * rs ε v

/-- The gradient of the normalised row, applied to a cotangent `d`. -/
noncomputable def back (ε : ℝ) (v d : Fin 1024 → ℝ) (k : Fin 1024) : ℝ :=
  rs ε v * ((d k - mean d) - nrm ε v k * mean (fun k => d k * nrm ε v k))

theorem spread_pos {ε : ℝ} (hε : 0 < ε) (v : Fin 1024 → ℝ) : 0 < spread ε v := by
  unfold spread mean
  have : 0 ≤ (∑ k, cen v k * cen v k) / 1024 :=
    div_nonneg (Finset.sum_nonneg fun k _ => mul_self_nonneg _) (by norm_num)
  linarith

theorem sum_cen (v : Fin 1024 → ℝ) : ∑ k, cen v k = 0 := by
  simp only [cen, mean, Finset.sum_sub_distrib, Finset.sum_const, Finset.card_univ, Fintype.card_fin,
    nsmul_eq_mul]
  push_cast
  ring

theorem rs_div_spread {ε : ℝ} (hε : 0 < ε) (v : Fin 1024 → ℝ) : rs ε v / spread ε v = rs ε v * (rs ε v * rs ε v) := by
  have h := spread_pos hε v
  have h2 : Real.sqrt (spread ε v) * Real.sqrt (spread ε v) = spread ε v := Real.mul_self_sqrt h.le
  unfold rs
  rw [← mul_inv, h2, div_eq_mul_inv]

/-- The layer norm's gradient, read off the differentiated mean, variance and
reciprocal root, is `back`. -/
theorem back_eq {ε : ℝ} (hε : 0 < ε) (v d : Fin 1024 → ℝ) (k : Fin 1024) :
    d k * rs ε v + (∑ i, cen v i * d i) * (-(1 / 2) * (rs ε v / spread ε v)) / 1024 * (2 * cen v k)
      + ((∑ i, -(d i * rs ε v))
          + ∑ i, -((∑ i, cen v i * d i) * (-(1 / 2) * (rs ε v / spread ε v)) / 1024 * (2 * cen v i))) / 1024
      = back ε v d k := by
  rw [rs_div_spread hε]
  have h1 : (∑ i, -(d i * rs ε v)) = -((∑ i, d i) * rs ε v) := by
    rw [Finset.sum_neg_distrib, Finset.sum_mul]
  have h2 : ∀ c : ℝ, (∑ i, -(c * (2 * cen v i))) = 0 := by
    intro c
    rw [Finset.sum_neg_distrib, ← Finset.mul_sum, ← Finset.mul_sum, sum_cen]
    ring
  have h3 : mean (fun k => d k * nrm ε v k) = (∑ i, cen v i * d i) * rs ε v / 1024 := by
    unfold mean nrm
    rw [Finset.sum_mul]
    congr 1
    exact Finset.sum_congr rfl fun i _ => by ring
  unfold back
  rw [h1, h2, h3]
  unfold nrm mean
  ring

/-- The numbers of the layer: the scale of the skip connection, the small constant,
the two norms' parameters and the two weight matrices. -/
structure Par where
  α : ℝ
  ε : ℝ
  g1 : Fin 1024 → ℝ
  b1 : Fin 1024 → ℝ
  g2 : Fin 1024 → ℝ
  b2 : Fin 1024 → ℝ
  w1 : Fin 1024 → Fin 4096 → ℝ
  w2 : Fin 4096 → Fin 1024 → ℝ

namespace Par

variable (P : Par) (z t : Fin 1024 → ℝ)

/-- The layer's input: the first norm, scaled and shifted. -/
noncomputable def x1 (k : Fin 1024) : ℝ := nrm P.ε z k * P.g1 k + P.b1 k
/-- The first product. -/
noncomputable def pre (q : Fin 4096) : ℝ := ∑ k, P.x1 z k * P.w1 k q
/-- Its positive part. -/
noncomputable def relu (q : Fin 4096) : ℝ := max (P.pre z q) 0
/-- The square of the positive part. -/
noncomputable def act (q : Fin 4096) : ℝ := P.relu z q * P.relu z q
/-- The layer's output with the skip connection, before the second norm. -/
noncomputable def z2 (k : Fin 1024) : ℝ := P.α * P.x1 z k + ∑ q, P.act z q * P.w2 q k
/-- The second norm. -/
noncomputable def xhat2 (k : Fin 1024) : ℝ := nrm P.ε (P.z2 z) k
/-- The prediction less the target. -/
noncomputable def diff (k : Fin 1024) : ℝ := P.xhat2 z k * P.g2 k + P.b2 k - t k
/-- One token's loss. -/
noncomputable def loss : ℝ := (∑ k, P.diff z t k * P.diff z t k) / 1024
/-- The loss's gradient at the prediction. -/
noncomputable def dy (k : Fin 1024) : ℝ := P.diff z t k / 1024
/-- The cotangent of the second norm. -/
noncomputable def dn2 (k : Fin 1024) : ℝ := P.dy z t k * P.g2 k
/-- The gradient at `z2`. -/
noncomputable def dz2 (k : Fin 1024) : ℝ := back P.ε (P.z2 z) (P.dn2 z t) k
/-- The gradient at the first product. -/
noncomputable def dpre (q : Fin 4096) : ℝ := (∑ k, P.dz2 z t k * P.w2 q k) * (2 * P.relu z q)
/-- The gradient at the layer's input. -/
noncomputable def dx1 (k : Fin 1024) : ℝ := P.α * P.dz2 z t k + ∑ q, P.dpre z t q * P.w1 k q
/-- The cotangent of the first norm. -/
noncomputable def dn1 (k : Fin 1024) : ℝ := P.dx1 z t k * P.g1 k
/-- The gradient at the first norm's input. -/
noncomputable def dz1 (k : Fin 1024) : ℝ := back P.ε z (P.dn1 z t) k

/-- Where the first product is not positive its gradient is zero already. -/
theorem dpre_select (s : ℝ) (q : Fin 4096) :
    (if 0 < P.pre z q then s * (2 * P.relu z q) else 0) = s * (2 * P.relu z q) := by
  split_ifs with h
  · rfl
  · rw [relu, max_eq_right (not_lt.mp h)]
    ring

end Par

end Cert.FfnReal
-- ==== Proof.FfnKernelValue.lean ====
module

public import proofs.«01_k».proof.Proof.FfnReal
public import proofs.«01_k».proof.Proof.FfnBlock

/-!
What one block of the kernel computes when its inputs are real numbers: the
values of the layer in real arithmetic, token by token.
-/

@[expose] public section

set_option maxRecDepth 16384

noncomputable section

namespace Cert.FfnIdeal.Hand

open Cert.FfnIdeal Cert.FfnIdeal.Gen
open Idealize.ShloMosaic
open Cert.FfnReal

/-- A block's inputs are real: the norm of the tokens `Z`, the targets `T`, and the
layer's parameters. -/
structure Reads (X : Ins Ideal) (P : Par) (Z T : Fin 256 → Fin 1024 → ℝ) : Prop where
  scale : Ideal.ofBits .f32 0x3F9837F0#32 = (P.α : EReal)
  small : Ideal.ofBits .f32 0x3727C5AC#32 = (P.ε : EReal)
  pos : 0 < P.ε
  xhat1 : ∀ r k, X.xhat1 (ix2 r k) = ((nrm P.ε (Z r) k : ℝ) : EReal)
  rstd1 : ∀ r, X.rstd1 (ix2 r 0) = ((rs P.ε (Z r) : ℝ) : EReal)
  x1b : ∀ r k, X.x1b (ix2 r k) = ((P.x1 (Z r) k : ℝ) : EReal)
  target : ∀ r k, X.target (ix2 r k) = ((T r k : ℝ) : EReal)
  g1 : ∀ k, X.g1 (ix2 0 k) = ((P.g1 k : ℝ) : EReal)
  b1 : ∀ k, X.b1 (ix2 0 k) = ((P.b1 k : ℝ) : EReal)
  g2 : ∀ k, X.g2 (ix2 0 k) = ((P.g2 k : ℝ) : EReal)
  b2 : ∀ k, X.b2 (ix2 0 k) = ((P.b2 k : ℝ) : EReal)
  w1 : ∀ k q, X.w1 (ix2 k q) = ((P.w1 k q : ℝ) : EReal)
  w2 : ∀ q k, X.w2 (ix2 q k) = ((P.w2 q k : ℝ) : EReal)

namespace Reads

variable {X : Ins Ideal} {P : Par} {Z T : Fin 256 → Fin 1024 → ℝ} (h : Reads X P Z T)
include h

theorem relu (r : Fin 256) (q : Fin 4096) : X.relu (ix2 r q) = ((P.relu (Z r) q : ℝ) : EReal) := by
  pointwise [Ins.relu, k0_pay4]
  simp only [h.x1b, h.w1, ← EReal.coe_mul, coe_sum, coe_relu]
  rfl

theorem act (r : Fin 256) (q : Fin 4096) : X.act (ix2 r q) = ((P.act (Z r) q : ℝ) : EReal) := by
  pointwise [Ins.act, k0_pay5]
  simp only [h.relu, ← EReal.coe_mul]
  rfl

theorem z2 (r : Fin 256) (k : Fin 1024) : X.z2 (ix2 r k) = ((P.z2 (Z r) k : ℝ) : EReal) := by
  have ha := h.act
  unfold Ins.act at ha
  pointwise [Ins.z2, k0_pay6, k0_pay3]
  simp only [h.scale, h.xhat1, h.g1, h.b1, ha, h.w2, ← EReal.coe_mul, ← EReal.coe_add, coe_sum]
  rfl

theorem cen2 (r : Fin 256) (k : Fin 1024) : k0_pay7 X.z2 (ix2 r k) = ((cen (P.z2 (Z r)) k : ℝ) : EReal) := by
  pointwise [k0_pay7]
  simp only [h.z2, ofBits_1024, coe_sum, coe_div _ (show (1024 : ℝ) ≠ 0 by norm_num), ← EReal.coe_sub]
  rfl

theorem rstd2 (r : Fin 256) : X.rstd2 (ix2 r 0) = ((rs P.ε (P.z2 (Z r)) : ℝ) : EReal) := by
  have e : ((∑ k, cen (P.z2 (Z r)) k * cen (P.z2 (Z r)) k) / 1024 + P.ε) = spread P.ε (P.z2 (Z r)) := rfl
  pointwise [Ins.rstd2, k0_pay8]
  simp only [h.cen2, h.small, ofBits_1024, ← EReal.coe_mul, coe_sum, coe_div _ (show (1024 : ℝ) ≠ 0 by norm_num),
    ← EReal.coe_add, e, coe_rsqrt (spread_pos h.pos _)]
  rfl

theorem xhat2 (r : Fin 256) (k : Fin 1024) : X.xhat2 (ix2 r k) = ((P.xhat2 (Z r) k : ℝ) : EReal) := by
  have hr := h.rstd2
  unfold Ins.rstd2 at hr
  pointwise [Ins.xhat2, k0_pay9]
  simp only [h.cen2, hr, ← EReal.coe_mul]
  rfl

theorem diff (r : Fin 256) (k : Fin 1024) :
    k0_pay10 X.g2 X.z2 X.b2 X.target (ix2 r k) = ((P.diff (Z r) (T r) k : ℝ) : EReal) := by
  have hx := h.xhat2
  unfold Ins.xhat2 at hx
  pointwise [k0_pay10]
  simp only [hx, h.g2, h.b2, h.target, ← EReal.coe_mul, ← EReal.coe_add, ← EReal.coe_sub]
  rfl

theorem loss : X.loss (ix2 0 0) = ((1 / 2 * ∑ r, P.loss (Z r) (T r) : ℝ) : EReal) := by
  pointwise [Ins.loss, k0_pay11]
  simp only [h.diff, ofBits_1024, ofBits_half, ← EReal.coe_mul, coe_sum, coe_div _ (show (1024 : ℝ) ≠ 0 by norm_num)]
  rfl

theorem dy (r : Fin 256) (k : Fin 1024) : X.dy (ix2 r k) = ((P.dy (Z r) (T r) k : ℝ) : EReal) := by
  pointwise [Ins.dy, k0_pay12]
  simp only [h.diff, ofBits_1024, coe_div _ (show (1024 : ℝ) ≠ 0 by norm_num)]
  rfl

theorem dn2 (r : Fin 256) (k : Fin 1024) :
    k0_pay13 X.g2 X.z2 X.b2 X.target (ix2 r k) = ((P.dn2 (Z r) (T r) k : ℝ) : EReal) := by
  have hd := h.dy
  unfold Ins.dy at hd
  pointwise [k0_pay13]
  simp only [hd, h.g2, ← EReal.coe_mul]
  rfl

theorem dxc (r : Fin 256) (k : Fin 1024) :
    X.dxc (ix2 r k) = ((P.dn2 (Z r) (T r) k - mean (P.dn2 (Z r) (T r)) : ℝ) : EReal) := by
  pointwise [Ins.dxc, k0_pay14]
  simp only [h.dn2, ofBits_1024, coe_sum, coe_div _ (show (1024 : ℝ) ≠ 0 by norm_num), ← EReal.coe_sub]
  rfl

theorem dxx (r : Fin 256) (k : Fin 1024) :
    X.dxx (ix2 r k) = ((P.dn2 (Z r) (T r) k * P.xhat2 (Z r) k : ℝ) : EReal) := by
  have hx := h.xhat2
  unfold Ins.xhat2 at hx
  pointwise [Ins.dxx, k0_pay15]
  simp only [h.dn2, hx, ← EReal.coe_mul]

theorem dz2 (r : Fin 256) (k : Fin 1024) :
    k0_pay16 X.rstd2 X.xhat2 X.dxc X.dxx (ix2 r k) = ((P.dz2 (Z r) (T r) k : ℝ) : EReal) := by
  pointwise [k0_pay16]
  simp only [h.dxx, h.dxc, h.xhat2, h.rstd2, ofBits_1024, coe_sum, coe_div _ (show (1024 : ℝ) ≠ 0 by norm_num),
    ← EReal.coe_mul, ← EReal.coe_sub]
  rfl

theorem dz2b (r : Fin 256) (k : Fin 1024) : X.dz2b (ix2 r k) = ((P.dz2 (Z r) (T r) k : ℝ) : EReal) := by
  pointwise [Ins.dz2b, k0_pay17]
  exact h.dz2 r k

theorem dpre (r : Fin 256) (q : Fin 4096) : X.dpre (ix2 r q) = ((P.dpre (Z r) (T r) q : ℝ) : EReal) := by
  have hd := h.dz2b
  unfold Ins.dz2b at hd
  pointwise [Ins.dpre, k0_pay18]
  simp only [hd, h.w2, h.relu, ofBits_two, coe_sum, ← EReal.coe_mul]
  rfl

theorem dx1 (r : Fin 256) (k : Fin 1024) : X.dx1 (ix2 r k) = ((P.dx1 (Z r) (T r) k : ℝ) : EReal) := by
  have hp := h.dpre
  unfold Ins.dpre at hp
  pointwise [Ins.dx1, k0_pay19]
  simp only [h.dz2, hp, h.w1, h.scale, coe_sum, ← EReal.coe_mul, ← EReal.coe_add]
  rfl

theorem dn1 (r : Fin 256) (k : Fin 1024) :
    k0_pay21 X.g1 X.rstd2 X.xhat2 X.dxc X.dxx X.w2 X.relu X.w1 (ix2 r k) = ((P.dn1 (Z r) (T r) k : ℝ) : EReal) := by
  have hd := h.dx1
  unfold Ins.dx1 at hd
  pointwise [k0_pay21]
  simp only [hd, h.g1, ← EReal.coe_mul]
  rfl

theorem dz1 (r : Fin 256) (k : Fin 1024) : X.dz1 (ix2 r k) = ((P.dz1 (Z r) (T r) k : ℝ) : EReal) := by
  pointwise [Ins.dz1, k0_pay24, k0_pay20, k0_pay22, k0_pay23, k0_pay3]
  simp only [h.dn1, h.xhat1, h.rstd1, ofBits_1024, coe_sum, coe_div _ (show (1024 : ℝ) ≠ 0 by norm_num),
    ← EReal.coe_mul, ← EReal.coe_sub]
  rfl

/-- The running sums after one more block: the four parameters' gradients and the loss
gain the block's rows, the three rows below are kept. -/
theorem stats0 (s : Vec Ideal S8x1024 .f32) (k : Fin 1024) : X.stats s (ix2 0 k)
    = s (ix2 0 k) + ((∑ r, P.dx1 (Z r) (T r) k * nrm P.ε (Z r) k : ℝ) : EReal) := by
  rw [Ins.stats, ix2_eq_valueIdx]
  refine Eq.trans (b := k0_pay25 (k0_pay3 X.xhat1) X.dx1 (row s 0) (ix2 0 k)) (by rw [ix2_eq_valueIdx]; rfl) ?_
  pointwise [k0_pay25, k0_pay3, row]
  simp only [h.dx1, h.xhat1, coe_sum, ← EReal.coe_mul]

theorem stats1 (s : Vec Ideal S8x1024 .f32) (k : Fin 1024) : X.stats s (ix2 1 k)
    = s (ix2 1 k) + ((∑ r, P.dx1 (Z r) (T r) k : ℝ) : EReal) := by
  rw [Ins.stats, ix2_eq_valueIdx]
  refine Eq.trans (b := k0_pay26 X.dx1 (row s 1) (ix2 0 k)) (by rw [ix2_eq_valueIdx]; rfl) ?_
  pointwise [k0_pay26, row]
  simp only [h.dx1, coe_sum]

theorem stats2 (s : Vec Ideal S8x1024 .f32) (k : Fin 1024) : X.stats s (ix2 2 k)
    = s (ix2 2 k) + ((∑ r, P.dy (Z r) (T r) k * P.xhat2 (Z r) k : ℝ) : EReal) := by
  rw [Ins.stats, ix2_eq_valueIdx]
  refine Eq.trans (b := k0_pay27 X.xhat2 X.dy (row s 2) (ix2 0 k)) (by rw [ix2_eq_valueIdx]; rfl) ?_
  pointwise [k0_pay27, row]
  simp only [h.dy, h.xhat2, coe_sum, ← EReal.coe_mul]

theorem stats3 (s : Vec Ideal S8x1024 .f32) (k : Fin 1024) : X.stats s (ix2 3 k)
    = s (ix2 3 k) + ((∑ r, P.dy (Z r) (T r) k : ℝ) : EReal) := by
  rw [Ins.stats, ix2_eq_valueIdx]
  refine Eq.trans (b := k0_pay28 X.dy (row s 3) (ix2 0 k)) (by rw [ix2_eq_valueIdx]; rfl) ?_
  pointwise [k0_pay28, row]
  simp only [h.dy, coe_sum]

theorem stats4 (s : Vec Ideal S8x1024 .f32) (k : Fin 1024) : X.stats s (ix2 4 k)
    = s (ix2 4 k) + ((1 / 2 * ∑ r, P.loss (Z r) (T r) : ℝ) : EReal) := by
  rw [Ins.stats, ix2_eq_valueIdx]
  refine Eq.trans (b := k0_pay1 X.loss (row s 4) (ix2 0 k)) (by rw [ix2_eq_valueIdx]; rfl) ?_
  pointwise [k0_pay1, row]
  simp only [h.loss]

end Reads

end Cert.FfnIdeal.Hand
-- ==== Proof.FfnEntry.lean ====
module

public import proofs.«01_k».proof.Proof.FfnKernelValue
public import proofs.«01_k».proof.Proof.FfnFrame
public import Idealize.ShloMosaic.Lib.Pipeline.ValueKit

/-!
What the kernel's blocks hold at each grid point when the program's arguments
are real numbers.
-/

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic Idealize.SL.Sem
open Cert.FfnReal

/-- The program's arguments are real: the tokens `Z`, the targets `T` and the layer's parameters. -/
structure ArgReads (m : (ℓ : Loc nD τ sig) → Buf (Elt Ideal) ℓ) (c : Dev nD) (P : Par) (Z T : Fin 4096 → Fin 1024 → ℝ) : Prop where
  scale : Ideal.ofBits .f32 0x3F9837F0#32 = (P.α : EReal)
  small : Ideal.ofBits .f32 0x3727C5AC#32 = (P.ε : EReal)
  pos : 0 < P.ε
  z1 : ∀ r k, (m ((c : Thread nD τ).loc main_arg0) : Vec Ideal S1x4096x1024 .f32) (ix3 0 r k) = ((Z r k : ℝ) : EReal)
  g1 : ∀ k, (m ((c : Thread nD τ).loc main_arg1) : Vec Ideal S1x1024 .f32) (ix2 0 k) = ((P.g1 k : ℝ) : EReal)
  b1 : ∀ k, (m ((c : Thread nD τ).loc main_arg2) : Vec Ideal S1x1024 .f32) (ix2 0 k) = ((P.b1 k : ℝ) : EReal)
  w1 : ∀ k q, (m ((c : Thread nD τ).loc main_arg3) : Vec Ideal S1x1024x4096 .f32) (ix3 0 k q) = ((P.w1 k q : ℝ) : EReal)
  w2 : ∀ q k, (m ((c : Thread nD τ).loc main_arg4) : Vec Ideal S1x4096x1024 .f32) (ix3 0 q k) = ((P.w2 q k : ℝ) : EReal)
  g2 : ∀ k, (m ((c : Thread nD τ).loc main_arg5) : Vec Ideal S1x1024 .f32) (ix2 0 k) = ((P.g2 k : ℝ) : EReal)
  b2 : ∀ k, (m ((c : Thread nD τ).loc main_arg6) : Vec Ideal S1x1024 .f32) (ix2 0 k) = ((P.b2 k : ℝ) : EReal)
  target : ∀ r k, (m ((c : Thread nD τ).loc main_arg7) : Vec Ideal S1x4096x1024 .f32) (ix3 0 r k) = ((T r k : ℝ) : EReal)

/-- The token that is row `r` of block `t`. -/
def tok (t : Fin cfg0.N) (r : Fin 256) : Fin 4096 :=
  ⟨t.val * 256 + r.val, by have := t.isLt; have : cfg0.N = 16 := N_0; have := r.isLt; omega⟩

namespace ArgReads

variable {m : (ℓ : Loc nD τ sig) → Buf (Elt Ideal) ℓ} {c : Dev nD} {P : Par} {Z T : Fin 4096 → Fin 1024 → ℝ} (h : ArgReads m c P Z T)
include h

theorem rstd1 (r : Fin 4096) : (V m c main_v14 : Vec Ideal S4096x1 .f32) (ix2 r 0) = ((rs P.ε (Z r) : ℝ) : EReal) := by
  have e : ((∑ k, (Z r k - (∑ i, Z r i) / 1024) * (Z r k - (∑ i, Z r i) / 1024)) / 1024 + P.ε) = spread P.ε (Z r) := rfl
  entry_read
  pointwise
  simp only [h.z1, h.small, ofBits_1024, ← EReal.coe_mul, ← EReal.coe_sub, coe_sum, coe_div _ (show (1024 : ℝ) ≠ 0 by norm_num),
    ← EReal.coe_add, e, coe_rsqrt (spread_pos h.pos _)]
  rfl

theorem xhat1 (r : Fin 4096) (k : Fin 1024) : (V m c main_v18 : Vec Ideal S4096x1024 .f32) (ix2 r k) = ((nrm P.ε (Z r) k : ℝ) : EReal) := by
  have e : ((∑ k, (Z r k - (∑ i, Z r i) / 1024) * (Z r k - (∑ i, Z r i) / 1024)) / 1024 + P.ε) = spread P.ε (Z r) := rfl
  entry_read
  pointwise
  simp only [h.z1, h.small, ofBits_1024, ← EReal.coe_mul, ← EReal.coe_sub, coe_sum, coe_div _ (show (1024 : ℝ) ≠ 0 by norm_num),
    ← EReal.coe_add, e, coe_rsqrt (spread_pos h.pos _)]
  rfl

theorem x1b (r : Fin 4096) (k : Fin 1024) : (V m c main_v23 : Vec Ideal S4096x1024 .bf16) (ix2 r k) = ((P.x1 (Z r) k : ℝ) : EReal) := by
  have e : ((∑ k, (Z r k - (∑ i, Z r i) / 1024) * (Z r k - (∑ i, Z r i) / 1024)) / 1024 + P.ε) = spread P.ε (Z r) := rfl
  entry_read
  pointwise
  simp only [h.z1, h.g1, h.b1, h.small, ofBits_1024, ← EReal.coe_mul, ← EReal.coe_sub, coe_sum, coe_div _ (show (1024 : ℝ) ≠ 0 by norm_num),
    ← EReal.coe_add, e, coe_rsqrt (spread_pos h.pos _)]
  rfl

theorem target' (r : Fin 4096) (k : Fin 1024) : (V m c main_v31 : Vec Ideal S4096x1024 .f32) (ix2 r k) = ((T r k : ℝ) : EReal) := by
  entry_read
  pointwise
  exact h.target r k

theorem half1 (j : Fin 8) (k : Fin 1024) (u : Fin 256) : (V m c main_v32 : Vec Ideal S8x1024x256 .bf16) (ix3 j k u)
    = ((P.w1 k ⟨j.val * 512 + u.val, by omega⟩ : ℝ) : EReal) := by
  entry_read
  pointwise
  exact h.w1 k _

theorem half1' (j : Fin 8) (k : Fin 1024) (u : Fin 256) : (V m c main_v33 : Vec Ideal S8x1024x256 .bf16) (ix3 j k u)
    = ((P.w1 k ⟨j.val * 512 + 256 + u.val, by omega⟩ : ℝ) : EReal) := by
  entry_read
  pointwise
  exact (h.w1 k _).trans (by congr 3; omega)

theorem half2 (j : Fin 8) (u : Fin 256) (k : Fin 1024) : (V m c main_v34 : Vec Ideal S8x256x1024 .bf16) (ix3 j u k)
    = ((P.w2 ⟨j.val * 512 + u.val, by omega⟩ k : ℝ) : EReal) := by
  entry_read
  pointwise
  exact h.w2 _ k

theorem half2' (j : Fin 8) (u : Fin 256) (k : Fin 1024) : (V m c main_v35 : Vec Ideal S8x256x1024 .bf16) (ix3 j u k)
    = ((P.w2 ⟨j.val * 512 + 256 + u.val, by omega⟩ k : ℝ) : EReal) := by
  entry_read
  pointwise
  exact (h.w2 _ k).trans (by congr 3; omega)

end ArgReads

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] :=
  (by decide +kernel : ∀ t : Fin grid0.N, _)

variable (m : (ℓ : Loc nD τ sig) → Buf (Elt Ideal) ℓ) (c : Dev nD)

theorem block0 (t : Fin cfg0.N) (r : Fin 256) (k : Fin 1024) :
    (iblk m c 0 t : Vec Ideal S256x1024 .f32) (ix2 r k) = (V m c main_v18 : Vec Ideal S4096x1024 .f32) (ix2 (tok t r) k) := by
  blk_ext [iblk, idx t, tok]

theorem block1 (t : Fin cfg0.N) (r : Fin 256) :
    (iblk m c 1 t : Vec Ideal S256x1 .f32) (ix2 r 0) = (V m c main_v14 : Vec Ideal S4096x1 .f32) (ix2 (tok t r) 0) := by
  blk_ext [iblk, idx t, tok]

theorem block2 (t : Fin cfg0.N) (r : Fin 256) (k : Fin 1024) :
    (iblk m c 2 t : Vec Ideal S256x1024 .bf16) (ix2 r k) = (V m c main_v23 : Vec Ideal S4096x1024 .bf16) (ix2 (tok t r) k) := by
  blk_ext [iblk, idx t, tok]

theorem block3 (t : Fin cfg0.N) (r : Fin 256) (k : Fin 1024) :
    (iblk m c 3 t : Vec Ideal S256x1024 .f32) (ix2 r k) = (V m c main_v31 : Vec Ideal S4096x1024 .f32) (ix2 (tok t r) k) := by
  blk_ext [iblk, idx t, tok]

theorem block4 (t : Fin cfg0.N) (k : Fin 1024) : (iblk m c 4 t : Vec Ideal S1x1024 .f32) (ix2 0 k)
    = (m ((c : Thread nD τ).loc main_arg1) : Vec Ideal S1x1024 .f32) (ix2 0 k) := by
  rw [← V_main_arg1 m c]
  blk_ext [iblk, idx t]

theorem block5 (t : Fin cfg0.N) (k : Fin 1024) : (iblk m c 5 t : Vec Ideal S1x1024 .f32) (ix2 0 k)
    = (m ((c : Thread nD τ).loc main_arg2) : Vec Ideal S1x1024 .f32) (ix2 0 k) := by
  rw [← V_main_arg2 m c]
  blk_ext [iblk, idx t]

theorem block6 (t : Fin cfg0.N) (k : Fin 1024) : (iblk m c 6 t : Vec Ideal S1x1024 .f32) (ix2 0 k)
    = (m ((c : Thread nD τ).loc main_arg5) : Vec Ideal S1x1024 .f32) (ix2 0 k) := by
  rw [← V_main_arg5 m c]
  blk_ext [iblk, idx t]

theorem block7 (t : Fin cfg0.N) (k : Fin 1024) : (iblk m c 7 t : Vec Ideal S1x1024 .f32) (ix2 0 k)
    = (m ((c : Thread nD τ).loc main_arg6) : Vec Ideal S1x1024 .f32) (ix2 0 k) := by
  rw [← V_main_arg6 m c]
  blk_ext [iblk, idx t]

variable {m c} {P : Par} {Z T : Fin 4096 → Fin 1024 → ℝ}

theorem weight1_real (h : ArgReads m c P Z T) (k : Fin 1024) (q : Fin 4096) : weight1 m c (ix2 k q) = ((P.w1 k q : ℝ) : EReal) := by
  unfold weight1 w1Of
  have hq : ((ix2 k q : S1024x4096.Idx) 1).val = q.val := rfl
  simp only [← ix3_eq_valueIdx]
  split_ifs with e
  · refine (h.half1 (pieceOf q.val q.isLt) k (placeOf q.val)).trans (congrArg (fun i => ((P.w1 k i : ℝ) : EReal)) (Fin.ext ?_))
    simp only [pieceOf, placeOf]
    have e' : q.val / 256 % 2 = 0 := e
    omega
  · refine (h.half1' (pieceOf q.val q.isLt) k (placeOf q.val)).trans (congrArg (fun i => ((P.w1 k i : ℝ) : EReal)) (Fin.ext ?_))
    simp only [pieceOf, placeOf]
    have e' : ¬ q.val / 256 % 2 = 0 := e
    omega

theorem weight2_real (h : ArgReads m c P Z T) (q : Fin 4096) (k : Fin 1024) : weight2 m c (ix2 q k) = ((P.w2 q k : ℝ) : EReal) := by
  unfold weight2 w2Of
  simp only [← ix3_eq_valueIdx]
  split_ifs with e
  · refine (h.half2 (pieceOf q.val q.isLt) (placeOf q.val) k).trans (congrArg (fun i => ((P.w2 i k : ℝ) : EReal)) (Fin.ext ?_))
    simp only [pieceOf, placeOf]
    have e' : q.val / 256 % 2 = 0 := e
    omega
  · refine (h.half2' (pieceOf q.val q.isLt) (placeOf q.val) k).trans (congrArg (fun i => ((P.w2 i k : ℝ) : EReal)) (Fin.ext ?_))
    simp only [pieceOf, placeOf]
    have e' : ¬ q.val / 256 % 2 = 0 := e
    omega

/-- Every block's inputs are real. -/
theorem reads_at (h : ArgReads m c P Z T) (t : Fin cfg0.N) :
    Reads (insOf m c t) P (fun r => Z (tok t r)) (fun r => T (tok t r)) := by
  refine ⟨h.scale, h.small, h.pos, ?_, ?_, ?_, ?_, ?_, ?_, ?_, ?_, ?_, ?_⟩ <;> dsimp only [insOf]
  · exact fun r k => (block0 m c t r k).trans (h.xhat1 _ k)
  · exact fun r => (block1 m c t r).trans (h.rstd1 _)
  · exact fun r k => (block2 m c t r k).trans (h.x1b _ k)
  · exact fun r k => (block3 m c t r k).trans (h.target' _ k)
  · exact fun k => (block4 m c t k).trans (h.g1 k)
  · exact fun k => (block5 m c t k).trans (h.b1 k)
  · exact fun k => (block6 m c t k).trans (h.g2 k)
  · exact fun k => (block7 m c t k).trans (h.b2 k)
  · exact weight1_real h
  · exact weight2_real h

end Cert.FfnIdeal.Hand
-- ==== Proof.FfnFinal.lean ====
module

public import proofs.«01_k».proof.Proof.FfnEntry
public import Idealize.ShloMosaic.Lib.Pipeline.ValueKit

/-!
The kernel's five result arrays when the program's arguments are real numbers.
-/

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic Idealize.SL.Sem
open Idealize.ShloMosaic.Pipeline (Dat)
open Cert.FfnReal
open scoped BigOperators

theorem idxOut : ∀ t : Fin cfg0.N, win0_8.index t = ![t.val, 0] ∧ win0_9.index t = ![t.val, 0] ∧ win0_10.index t = ![t.val, 0]
    ∧ win0_11.index t = ![t.val, 0] ∧ win0_12.index t = ![0, 0] :=
  (by decide +kernel : ∀ t : Fin grid0.N, _)

/-- An index of a block is a row and a column. -/
theorem ix2_split {a b : ℕ} (y : (⟨2, ![a, b]⟩ : Shape).Idx) : y = ix2 (n0 := a) (n1 := b) (y 0) (y 1) := by
  funext i
  match i with
  | ⟨0, _⟩ => rfl
  | ⟨1, _⟩ => rfl

variable {m : (ℓ : Loc nD τ sig) → Buf (Elt Ideal) ℓ} {c : Dev nD} {P : Par} {Z T : Fin 4096 → Fin 1024 → ℝ}

/-- The activations. -/
theorem final_act (h : ArgReads m c P Z T) : (dats m 0 c).arrAt 8 cfg0.N
    = (fun j : S4096x4096.Idx => ((P.act (Z (j 0)) (j 1) : ℝ) : EReal)) := by
  refine (dats m 0 c).arrAt_eq_of_covers 8 _ (by decide +kernel) fun t hf y => ?_
  have e0 : (((cfg0.win 8).blk t).view.emb y 0 : Fin 4096) = tok t (y 0) := Fin.ext (by blk_simp [idxOut t]; simp only [tok])
  have e1 : (((cfg0.win 8).blk t).view.emb y 1 : Fin 4096) = y 1 := Fin.ext (by blk_simp [idxOut t])
  have hv := (reads_at h t).act (y 0) (y 1)
  rw [← ix2_split (a := 256) (b := 4096) y] at hv
  rw [show (dats m 0 c).after 8 t = (insOf m c t).act by dsimp only [dats]]
  refine Eq.trans hv ?_
  rw [← e0, ← e1]

/-- The gradient at the first product. -/
theorem final_dpre (h : ArgReads m c P Z T) : (dats m 0 c).arrAt 9 cfg0.N
    = (fun j : S4096x4096.Idx => ((P.dpre (Z (j 0)) (T (j 0)) (j 1) : ℝ) : EReal)) := by
  refine (dats m 0 c).arrAt_eq_of_covers 9 _ (by decide +kernel) fun t hf y => ?_
  have e0 : (((cfg0.win 9).blk t).view.emb y 0 : Fin 4096) = tok t (y 0) := Fin.ext (by blk_simp [idxOut t]; simp only [tok])
  have e1 : (((cfg0.win 9).blk t).view.emb y 1 : Fin 4096) = y 1 := Fin.ext (by blk_simp [idxOut t])
  have hv := (reads_at h t).dpre (y 0) (y 1)
  rw [← ix2_split (a := 256) (b := 4096) y] at hv
  rw [show (dats m 0 c).after 9 t = (insOf m c t).dpre by dsimp only [dats]]
  refine Eq.trans hv ?_
  rw [← e0, ← e1]

/-- The gradient at the second norm's input. -/
theorem final_dz2 (h : ArgReads m c P Z T) : (dats m 0 c).arrAt 10 cfg0.N
    = (fun j : S4096x1024.Idx => ((P.dz2 (Z (j 0)) (T (j 0)) (j 1) : ℝ) : EReal)) := by
  refine (dats m 0 c).arrAt_eq_of_covers 10 _ (by decide +kernel) fun t hf y => ?_
  have e0 : (((cfg0.win 10).blk t).view.emb y 0 : Fin 4096) = tok t (y 0) := Fin.ext (by blk_simp [idxOut t]; simp only [tok])
  have e1 : (((cfg0.win 10).blk t).view.emb y 1 : Fin 1024) = y 1 := Fin.ext (by blk_simp [idxOut t])
  have hv := (reads_at h t).dz2b (y 0) (y 1)
  rw [← ix2_split (a := 256) (b := 1024) y] at hv
  rw [show (dats m 0 c).after 10 t = (insOf m c t).dz2b by dsimp only [dats]]
  refine Eq.trans hv ?_
  rw [← e0, ← e1]

/-- The gradient at the first norm's input. -/
theorem final_dz1 (h : ArgReads m c P Z T) : (dats m 0 c).arrAt 11 cfg0.N
    = (fun j : S4096x1024.Idx => ((P.dz1 (Z (j 0)) (T (j 0)) (j 1) : ℝ) : EReal)) := by
  refine (dats m 0 c).arrAt_eq_of_covers 11 _ (by decide +kernel) fun t hf y => ?_
  have e0 : (((cfg0.win 11).blk t).view.emb y 0 : Fin 4096) = tok t (y 0) := Fin.ext (by blk_simp [idxOut t]; simp only [tok])
  have e1 : (((cfg0.win 11).blk t).view.emb y 1 : Fin 1024) = y 1 := Fin.ext (by blk_simp [idxOut t])
  have hv := (reads_at h t).dz1 (y 0) (y 1)
  rw [← ix2_split (a := 256) (b := 1024) y] at hv
  rw [show (dats m 0 c).after 11 t = (insOf m c t).dz1 by dsimp only [dats]]
  refine Eq.trans hv ?_
  rw [← e0, ← e1]

/-- The sum over the tokens of block `p`. -/
def blockSum (G : Fin 4096 → ℝ) (p : ℕ) : ℝ := if hp : p < cfg0.N then ∑ r, G (tok ⟨p, hp⟩ r) else 0

theorem sum_blocks (G : Fin 4096 → ℝ) : ∑ p ∈ Finset.range 16, blockSum G p = ∑ i, G i := by
  rw [Finset.sum_range, Fin.sum_univ_tiles 16 256 rfl G]
  refine Finset.sum_congr rfl fun p _ => ?_
  have hp : p.val < cfg0.N := lt_of_lt_of_eq p.isLt N_0.symm
  rw [blockSum, dif_pos hp]
  rfl

/-- A row of the running sums that gains a block's real sum at every point holds the sum so far. -/
theorem row_so_far (i : Fin 8) (k : Fin 1024) (G : Fin 4096 → ℝ)
    (step : ∀ t s, (insOf m c t).stats s (ix2 i k) = s (ix2 i k) + ((∑ r, G (tok t r) : ℝ) : EReal)) :
    ∀ n h, statsAt m c n h (ix2 i k) = ((∑ p ∈ Finset.range (n + 1), blockSum G p : ℝ) : EReal)
  | 0, h => by
    rw [statsAt, step, Finset.sum_range_one, blockSum, dif_pos h]
    pointwise [k0_pay2]
  | n + 1, h => by
    rw [statsAt, step, row_so_far i k G step n, Finset.sum_range_succ _ (n + 1), EReal.coe_add]
    rw [blockSum, dif_pos h]

/-- … and after the last point the sum over every token. -/
theorem row_total (i : Fin 8) (k : Fin 1024) (G : Fin 4096 → ℝ)
    (step : ∀ t s, (insOf m c t).stats s (ix2 i k) = s (ix2 i k) + ((∑ r, G (tok t r) : ℝ) : EReal)) :
    statsAt m c t0_15.val t0_15.isLt (ix2 i k) = ((∑ r, G r : ℝ) : EReal) := by
  rw [← sum_blocks G]
  exact row_so_far i k G step 15 _

/-- Row `i` of the parameters' gradients and the loss. -/
def statRow (P : Par) (Z T : Fin 4096 → Fin 1024 → ℝ) (i : Fin 8) (k : Fin 1024) : ℝ :=
  match i with
  | ⟨0, _⟩ => ∑ r, P.dx1 (Z r) (T r) k * nrm P.ε (Z r) k
  | ⟨1, _⟩ => ∑ r, P.dx1 (Z r) (T r) k
  | ⟨2, _⟩ => ∑ r, P.dy (Z r) (T r) k * P.xhat2 (Z r) k
  | ⟨3, _⟩ => ∑ r, P.dy (Z r) (T r) k
  | ⟨4, _⟩ => 1 / 2 * ∑ r, P.loss (Z r) (T r)
  | _ => 0

theorem rows_below (X : Ins Ideal) (s : Vec Ideal S8x1024 .f32) (i : Fin 8) (hi : 5 ≤ i.val) (k : Fin 1024) :
    X.stats s (ix2 i k) = s (ix2 i k) := by
  match i, hi with
  | ⟨5, _⟩, _ => rfl
  | ⟨6, _⟩, _ => rfl
  | ⟨7, _⟩, _ => rfl

theorem stats_real (h : ArgReads m c P Z T) (i : Fin 8) (k : Fin 1024) :
    statsAt m c t0_15.val t0_15.isLt (ix2 i k) = ((statRow P Z T i k : ℝ) : EReal) := by
  have below : ∀ i : Fin 8, 5 ≤ i.val → statsAt m c t0_15.val t0_15.isLt (ix2 i k) = ((0 : ℝ) : EReal) := fun i hi =>
    (row_total i k (fun _ => 0) fun t s => by rw [rows_below _ s i hi]; simp).trans (by simp)
  match i with
  | ⟨0, _⟩ => exact row_total 0 k (fun r => P.dx1 (Z r) (T r) k * nrm P.ε (Z r) k) fun t s => (reads_at h t).stats0 s k
  | ⟨1, _⟩ => exact row_total 1 k (fun r => P.dx1 (Z r) (T r) k) fun t s => (reads_at h t).stats1 s k
  | ⟨2, _⟩ => exact row_total 2 k (fun r => P.dy (Z r) (T r) k * P.xhat2 (Z r) k) fun t s => (reads_at h t).stats2 s k
  | ⟨3, _⟩ => exact row_total 3 k (fun r => P.dy (Z r) (T r) k) fun t s => (reads_at h t).stats3 s k
  | ⟨4, _⟩ =>
    refine (row_total 4 k (fun r => 1 / 2 * P.loss (Z r) (T r)) fun t s => ?_).trans ?_
    · rw [(reads_at h t).stats4 s k, Finset.mul_sum]
    · rw [← Finset.mul_sum]; rfl
  | ⟨5, _⟩ => exact below 5 (by decide)
  | ⟨6, _⟩ => exact below 6 (by decide)
  | ⟨7, _⟩ => exact below 7 (by decide)

/-- The parameters' gradients and the loss. -/
theorem final_stats (h : ArgReads m c P Z T) : (dats m 0 c).arrAt 12 cfg0.N
    = (fun j : S8x1024.Idx => ((statRow P Z T (j 0) (j 1) : ℝ) : EReal)) := by
  refine (dats m 0 c).arrAt_eq_of_after_last 12 t0_15 (by decide +kernel) _ fun j => ?_
  have hv := stats_real h (j 0) (j 1)
  rw [← ix2_split (a := 8) (b := 1024) j] at hv
  rw [show (dats m 0 c).after 12 t0_15 = statsAt m c t0_15.val t0_15.isLt by dsimp only [dats]]
  exact hv

end Cert.FfnIdeal.Hand
-- ==== Proof.FfnRefValue.lean ====
module

public import proofs.«01_k».proof.Proof.FfnReal
public import proofs.«01_k».proof.Proof.Gen.FfnRefIdeal.Run

/-!
What the reference computes when its arguments are real numbers: the values of
the layer in real arithmetic, token by token.
-/

@[expose] public section

set_option maxRecDepth 16384

noncomputable section

namespace Cert.FfnRefIdeal.Hand

open Cert.FfnRefIdeal Cert.FfnRefIdeal.Gen Cert.FfnRefIdeal.Value
open Idealize.ShloMosaic Idealize.ShloMosaic.TcCoe
open Cert.FfnReal

/-- A sum over the two axes of length one has one summand. -/
theorem sum_singles (v : S1x4096x1.Idx → EReal) (c : EReal) (r : Fin 4096) :
    Ideal.hostReduceAdd reducesTo_S1x4096x1_S4096_d0_2 v c (ix1 r) = c + v (ix3 0 r 0) := by
  unfold Ideal.hostReduceAdd
  have e : (Finset.univ.filter fun i => reducesTo_S1x4096x1_S4096_d0_2.drop i = ix1 r) = {ix3 0 r 0} := by
    ext i
    simp only [Finset.mem_filter, Finset.mem_univ, true_and, Finset.mem_singleton]
    constructor
    · intro e
      funext a
      apply Fin.ext
      match a with
      | ⟨0, _⟩ => exact Nat.lt_one_iff.mp (i 0).isLt
      | ⟨1, _⟩ => exact congrArg Fin.val (congrFun e 0)
      | ⟨2, _⟩ => exact Nat.lt_one_iff.mp (i 2).isLt
    · rintro rfl
      funext a
      match a with
      | ⟨0, _⟩ => rfl
  rw [e, Finset.sum_singleton]

/-- … and likewise along the last axis. -/
theorem sum_singles' (v : S1x1x1024.Idx → EReal) (c : EReal) (k : Fin 1024) :
    Ideal.hostReduceAdd reducesTo_S1x1x1024_S1024_d0_1 v c (ix1 k) = c + v (ix3 0 0 k) := by
  unfold Ideal.hostReduceAdd
  have e : (Finset.univ.filter fun i => reducesTo_S1x1x1024_S1024_d0_1.drop i = ix1 k) = {ix3 0 0 k} := by
    ext i
    simp only [Finset.mem_filter, Finset.mem_univ, true_and, Finset.mem_singleton]
    constructor
    · intro e
      funext a
      apply Fin.ext
      match a with
      | ⟨0, _⟩ => exact Nat.lt_one_iff.mp (i 0).isLt
      | ⟨1, _⟩ => exact Nat.lt_one_iff.mp (i 1).isLt
      | ⟨2, _⟩ => exact congrArg Fin.val (congrFun e 0)
    · rintro rfl
      funext a
      match a with
      | ⟨0, _⟩ => rfl
  rw [e, Finset.sum_singleton]

/-- The arguments are real: the tokens `Z`, the targets `T` and the layer's parameters. -/
structure Reads (V : Valuation τ sig (Elt Ideal)) (P : Par) (Z T : Fin 4096 → Fin 1024 → ℝ) : Prop where
  scale : Ideal.ofBits .f32 0x3F9837F0#32 = (P.α : EReal)
  small : Ideal.ofBits .f32 0x3727C5AC#32 = (P.ε : EReal)
  pos : 0 < P.ε
  z1 : ∀ r k, (V (Proc.devRef .tc main_arg0) : Vec Ideal S1x4096x1024 .f32) (ix3 0 r k) = ((Z r k : ℝ) : EReal)
  g1 : ∀ k, (V (Proc.devRef .tc main_arg1) : Vec Ideal S1x1024 .f32) (ix2 0 k) = ((P.g1 k : ℝ) : EReal)
  b1 : ∀ k, (V (Proc.devRef .tc main_arg2) : Vec Ideal S1x1024 .f32) (ix2 0 k) = ((P.b1 k : ℝ) : EReal)
  w1 : ∀ k q, (V (Proc.devRef .tc main_arg3) : Vec Ideal S1x1024x4096 .f32) (ix3 0 k q) = ((P.w1 k q : ℝ) : EReal)
  w2 : ∀ q k, (V (Proc.devRef .tc main_arg4) : Vec Ideal S1x4096x1024 .f32) (ix3 0 q k) = ((P.w2 q k : ℝ) : EReal)
  g2 : ∀ k, (V (Proc.devRef .tc main_arg5) : Vec Ideal S1x1024 .f32) (ix2 0 k) = ((P.g2 k : ℝ) : EReal)
  b2 : ∀ k, (V (Proc.devRef .tc main_arg6) : Vec Ideal S1x1024 .f32) (ix2 0 k) = ((P.b2 k : ℝ) : EReal)
  target : ∀ r k, (V (Proc.devRef .tc main_arg7) : Vec Ideal S1x4096x1024 .f32) (ix3 0 r k) = ((T r k : ℝ) : EReal)

namespace Reads

variable {V : Valuation τ sig (Elt Ideal)} {P : Par} {Z T : Fin 4096 → Fin 1024 → ℝ} (h : Reads V P Z T)
include h

theorem mu1 (r : Fin 4096) : res_main_v5 V (ix3 0 r 0) = ((mean (Z r) : ℝ) : EReal) := by
  pointwise [res_main_v5]
  simp only [h.z1, ofBits_1024, coe_sum, coe_div _ (show (1024 : ℝ) ≠ 0 by norm_num)]
  rfl

theorem cen1 (r : Fin 4096) (k : Fin 1024) : res_main_v7 V (ix3 0 r k) = ((cen (Z r) k : ℝ) : EReal) := by
  pointwise [res_main_v7]
  simp only [h.z1, h.mu1, ← EReal.coe_sub]
  rfl

theorem cen1' (r : Fin 4096) (k : Fin 1024) : res_main_v16 V (ix3 0 r k) = ((cen (Z r) k : ℝ) : EReal) := h.cen1 r k

theorem spread1 (r : Fin 4096) : res_main_v18 V (ix3 0 r 0) = ((spread P.ε (Z r) : ℝ) : EReal) := by
  pointwise [res_main_v18]
  simp only [h.cen1, h.small, ofBits_1024, ← EReal.coe_mul, coe_sum, coe_div _ (show (1024 : ℝ) ≠ 0 by norm_num), ← EReal.coe_add]
  rfl

theorem rs1 (r : Fin 4096) : res_main_v19 V (ix3 0 r 0) = ((rs P.ε (Z r) : ℝ) : EReal) := by
  pointwise [res_main_v19]
  simp only [h.spread1, coe_rsqrt (spread_pos h.pos _)]
  rfl

theorem nrm1 (r : Fin 4096) (k : Fin 1024) : res_main_v24 V (ix3 0 r k) = ((nrm P.ε (Z r) k : ℝ) : EReal) := by
  pointwise [res_main_v24]
  simp only [h.cen1', h.rs1, ← EReal.coe_mul]
  rfl

theorem gain1 (k : Fin 1024) : res_main_v25 V (ix3 0 0 k) = ((P.g1 k : ℝ) : EReal) := by
  pointwise [res_main_v25]
  exact h.g1 k

theorem x1 (r : Fin 4096) (k : Fin 1024) : res_main_v30 V (ix3 0 r k) = ((P.x1 (Z r) k : ℝ) : EReal) := by
  pointwise [res_main_v30]
  simp only [h.nrm1, h.gain1, h.b1, ← EReal.coe_mul, ← EReal.coe_add]
  rfl

theorem w1' (k : Fin 1024) (q : Fin 4096) : res_main_v31 V (ix2 k q) = ((P.w1 k q : ℝ) : EReal) := by
  pointwise [res_main_v31]
  exact h.w1 k q

theorem w2' (q : Fin 4096) (k : Fin 1024) : res_main_v42 V (ix2 q k) = ((P.w2 q k : ℝ) : EReal) := by
  pointwise [res_main_v42]
  exact h.w2 q k

theorem pre (r q : Fin 4096) : res_main_v32 V (ix3 0 r q) = ((P.pre (Z r) q : ℝ) : EReal) := by
  pointwise [res_main_v32]
  simp only [h.x1, h.w1', ← EReal.coe_mul, coe_sum]
  rfl

theorem relu (r q : Fin 4096) : res_main_v33 V (ix3 0 r q) = ((P.relu (Z r) q : ℝ) : EReal) := by
  pointwise [res_main_v33]
  simp only [h.pre, coe_relu]
  rfl

theorem act (r q : Fin 4096) : res_main_v37 V (ix3 0 r q) = ((P.act (Z r) q : ℝ) : EReal) := by
  pointwise [res_main_v37]
  simp only [h.relu, ← EReal.coe_mul]
  rfl

theorem z2 (r : Fin 4096) (k : Fin 1024) : res_main_v44 V (ix3 0 r k) = ((P.z2 (Z r) k : ℝ) : EReal) := by
  pointwise [res_main_v44]
  simp only [h.scale, h.x1, h.act, h.w2', ← EReal.coe_mul, ← EReal.coe_add, coe_sum]
  rfl

theorem mu2 (r : Fin 4096) : res_main_v50 V (ix3 0 r 0) = ((mean (P.z2 (Z r)) : ℝ) : EReal) := by
  pointwise [res_main_v50]
  simp only [h.z2, ofBits_1024, coe_sum, coe_div _ (show (1024 : ℝ) ≠ 0 by norm_num)]
  rfl

theorem cen2 (r : Fin 4096) (k : Fin 1024) : res_main_v52 V (ix3 0 r k) = ((cen (P.z2 (Z r)) k : ℝ) : EReal) := by
  pointwise [res_main_v52]
  simp only [h.z2, h.mu2, ← EReal.coe_sub]
  rfl

theorem cen2' (r : Fin 4096) (k : Fin 1024) : res_main_v61 V (ix3 0 r k) = ((cen (P.z2 (Z r)) k : ℝ) : EReal) := h.cen2 r k

theorem spread2 (r : Fin 4096) : res_main_v63 V (ix3 0 r 0) = ((spread P.ε (P.z2 (Z r)) : ℝ) : EReal) := by
  pointwise [res_main_v63]
  simp only [h.cen2, h.small, ofBits_1024, ← EReal.coe_mul, coe_sum, coe_div _ (show (1024 : ℝ) ≠ 0 by norm_num), ← EReal.coe_add]
  rfl

theorem rs2 (r : Fin 4096) : res_main_v64 V (ix3 0 r 0) = ((rs P.ε (P.z2 (Z r)) : ℝ) : EReal) := by
  pointwise [res_main_v64]
  simp only [h.spread2, coe_rsqrt (spread_pos h.pos _)]
  rfl

theorem xhat2 (r : Fin 4096) (k : Fin 1024) : res_main_v69 V (ix3 0 r k) = ((P.xhat2 (Z r) k : ℝ) : EReal) := by
  pointwise [res_main_v69]
  simp only [h.cen2', h.rs2, ← EReal.coe_mul]
  rfl

theorem gain2 (k : Fin 1024) : res_main_v70 V (ix3 0 0 k) = ((P.g2 k : ℝ) : EReal) := by
  pointwise [res_main_v70]
  exact h.g2 k

theorem diff (r : Fin 4096) (k : Fin 1024) : res_main_v76 V (ix3 0 r k) = ((P.diff (Z r) (T r) k : ℝ) : EReal) := by
  pointwise [res_main_v76]
  simp only [h.xhat2, h.gain2, h.b2, h.target, ← EReal.coe_mul, ← EReal.coe_add, ← EReal.coe_sub]
  rfl

theorem dy (r : Fin 4096) (k : Fin 1024) : res_main_v90 V (ix3 0 r k) = ((P.dy (Z r) (T r) k : ℝ) : EReal) := by
  have e : ∀ d : ℝ, 1 / 2 / 1024 * (2 * d) = d / 1024 := fun d => by ring
  pointwise [res_main_v90]
  simp only [h.diff, ofBits_1024, ofBits_half, ofBits_two, ofBits_one, coe_div _ (show (1024 : ℝ) ≠ 0 by norm_num), ← EReal.coe_mul, mul_one, e]
  rfl

theorem dn2 (r : Fin 4096) (k : Fin 1024) : res_main_v98 V (ix3 0 r k) = ((P.dn2 (Z r) (T r) k : ℝ) : EReal) := by
  pointwise [res_main_v98]
  simp only [h.dy, h.gain2, ← EReal.coe_mul]
  rfl

theorem part2 (r : Fin 4096) (k : Fin 1024) :
    res_main_v104 V (ix3 0 r k) = ((P.dn2 (Z r) (T r) k * rs P.ε (P.z2 (Z r)) : ℝ) : EReal) := by
  pointwise [res_main_v104]
  simp only [h.dn2, h.rs2, ← EReal.coe_mul]

theorem rest2 (r : Fin 4096) (k : Fin 1024) : res_main_v114 V (ix3 0 r k)
    = (((∑ i, cen (P.z2 (Z r)) i * P.dn2 (Z r) (T r) i) * (-(1 / 2) * (rs P.ε (P.z2 (Z r)) / spread P.ε (P.z2 (Z r)))) / 1024
        * (2 * cen (P.z2 (Z r)) k) : ℝ) : EReal) := by
  pointwise [res_main_v114]
  rw [sum_singles]
  pointwise
  simp only [h.cen2, h.cen2', h.dn2, h.rs2, h.spread2, ofBits_1024, ofBits_neg_half, ofBits_two, coe_sum,
    coe_div _ (show (1024 : ℝ) ≠ 0 by norm_num), coe_div _ (spread_pos h.pos _).ne', ← EReal.coe_mul]

theorem dz2 (r : Fin 4096) (k : Fin 1024) : res_main_v125 V (ix3 0 r k) = ((P.dz2 (Z r) (T r) k : ℝ) : EReal) := by
  pointwise [res_main_v125]
  rw [sum_singles]
  pointwise
  simp only [h.part2, h.rest2, ofBits_1024, ← EReal.coe_neg, coe_sum,
    coe_div _ (show (1024 : ℝ) ≠ 0 by norm_num), ← EReal.coe_add]
  rw [back_eq h.pos]
  rfl

theorem dpre (r q : Fin 4096) : res_main_v133 V (ix3 0 r q) = ((P.dpre (Z r) (T r) q : ℝ) : EReal) := by
  pointwise [res_main_v133]
  simp only [h.pre, h.dz2, h.w2', h.relu, ofBits_two, ← EReal.coe_mul, coe_sum,
    EReal.coe_pos]
  rw [Par.dpre, ← P.dpre_select (Z r)]
  split_ifs <;> rfl

theorem dx1 (r : Fin 4096) (k : Fin 1024) : res_main_v135 V (ix3 0 r k) = ((P.dx1 (Z r) (T r) k : ℝ) : EReal) := by
  pointwise [res_main_v135]
  simp only [h.scale, h.dz2, h.dpre, h.w1', ← EReal.coe_mul, ← EReal.coe_add, coe_sum]
  rfl

theorem dn1 (r : Fin 4096) (k : Fin 1024) : res_main_v143 V (ix3 0 r k) = ((P.dn1 (Z r) (T r) k : ℝ) : EReal) := by
  pointwise [res_main_v143]
  simp only [h.dx1, h.gain1, ← EReal.coe_mul]
  rfl

theorem part1 (r : Fin 4096) (k : Fin 1024) :
    res_main_v149 V (ix3 0 r k) = ((P.dn1 (Z r) (T r) k * rs P.ε (Z r) : ℝ) : EReal) := by
  pointwise [res_main_v149]
  simp only [h.dn1, h.rs1, ← EReal.coe_mul]

theorem rest1 (r : Fin 4096) (k : Fin 1024) : res_main_v159 V (ix3 0 r k)
    = (((∑ i, cen (Z r) i * P.dn1 (Z r) (T r) i) * (-(1 / 2) * (rs P.ε (Z r) / spread P.ε (Z r))) / 1024
        * (2 * cen (Z r) k) : ℝ) : EReal) := by
  pointwise [res_main_v159]
  rw [sum_singles]
  pointwise
  simp only [h.cen1, h.cen1', h.dn1, h.rs1, h.spread1, ofBits_1024, ofBits_neg_half, ofBits_two, coe_sum,
    coe_div _ (show (1024 : ℝ) ≠ 0 by norm_num), coe_div _ (spread_pos h.pos _).ne', ← EReal.coe_mul]

theorem dz1 (r : Fin 4096) (k : Fin 1024) : (shapeCast _ (addf (addf (res_main_v149 V) (res_main_v159 V)) (broadcastInDim S1x4096x1024 ![0, 1] bcast_S1x4096_S1x4096x1024_0_1 (broadcastInDim S1x4096 ![1] bcast_S4096_S1x4096_1 (Host.reduceAdd (Host.divf (addf (shapeCast _ (Host.reduceAdd (Host.negf (res_main_v149 V)) (constant S_ .f32 0x00000000#32) reducesTo_S1x4096x1024_S1x4096_d2 h_S_) shapeCasts_S1x4096_S1x4096x1) (shapeCast _ (Host.reduceAdd (Host.negf (res_main_v159 V)) (constant S_ .f32 0x00000000#32) reducesTo_S1x4096x1024_S1x4096_d2 h_S_) shapeCasts_S1x4096_S1x4096x1)) (broadcastInDim S1x4096x1 ![] bcast_S_S1x4096x1 (constant S_ .f32 0x44800000#32))) (constant S_ .f32 0x00000000#32) reducesTo_S1x4096x1_S4096_d0_2 h_S_)))) shapeCasts_S1x4096x1024_S4096x1024 : FVec Ideal S4096x1024 .f32) (ix2 r k)
    = ((P.dz1 (Z r) (T r) k : ℝ) : EReal) := by
  pointwise
  rw [sum_singles]
  pointwise
  simp only [h.part1, h.rest1, ofBits_1024, ← EReal.coe_neg, coe_sum,
    coe_div _ (show (1024 : ℝ) ≠ 0 by norm_num), ← EReal.coe_add]
  rw [back_eq h.pos]
  rfl

theorem sumGain1 (k : Fin 1024) : (broadcastInDim S1x1024 ![1] bcast_S1024_S1x1024_1 (Host.reduceAdd (shapeCast _ (Host.reduceAdd (mulf (res_main_v24 V) (res_main_v135 V)) (constant S_ .f32 0x00000000#32) reducesTo_S1x4096x1024_S1x1024_d1 h_S_) shapeCasts_S1x1024_S1x1x1024) (constant S_ .f32 0x00000000#32) reducesTo_S1x1x1024_S1024_d0_1 h_S_) : FVec Ideal S1x1024 .f32) (ix2 0 k)
    = ((∑ r, P.dx1 (Z r) (T r) k * nrm P.ε (Z r) k : ℝ) : EReal) := by
  pointwise
  rw [sum_singles']
  pointwise
  simp only [h.nrm1, h.dx1, ← EReal.coe_mul, coe_sum, mul_comm]

theorem sumBias1 (k : Fin 1024) : (broadcastInDim S1x1024 ![1] bcast_S1024_S1x1024_1 (Host.reduceAdd (shapeCast _ (Host.reduceAdd (res_main_v135 V) (constant S_ .f32 0x00000000#32) reducesTo_S1x4096x1024_S1x1024_d1 h_S_) shapeCasts_S1x1024_S1x1x1024) (constant S_ .f32 0x00000000#32) reducesTo_S1x1x1024_S1024_d0_1 h_S_) : FVec Ideal S1x1024 .f32) (ix2 0 k)
    = ((∑ r, P.dx1 (Z r) (T r) k : ℝ) : EReal) := by
  pointwise
  rw [sum_singles']
  pointwise
  simp only [h.dx1, coe_sum]

theorem sumGain2 (k : Fin 1024) : (broadcastInDim S1x1024 ![1] bcast_S1024_S1x1024_1 (Host.reduceAdd (shapeCast _ (Host.reduceAdd (mulf (res_main_v69 V) (res_main_v90 V)) (constant S_ .f32 0x00000000#32) reducesTo_S1x4096x1024_S1x1024_d1 h_S_) shapeCasts_S1x1024_S1x1x1024) (constant S_ .f32 0x00000000#32) reducesTo_S1x1x1024_S1024_d0_1 h_S_) : FVec Ideal S1x1024 .f32) (ix2 0 k)
    = ((∑ r, P.dy (Z r) (T r) k * P.xhat2 (Z r) k : ℝ) : EReal) := by
  pointwise
  rw [sum_singles']
  pointwise
  simp only [h.xhat2, h.dy, ← EReal.coe_mul, coe_sum, mul_comm]

theorem sumBias2 (k : Fin 1024) : (broadcastInDim S1x1024 ![1] bcast_S1024_S1x1024_1 (Host.reduceAdd (shapeCast _ (Host.reduceAdd (res_main_v90 V) (constant S_ .f32 0x00000000#32) reducesTo_S1x4096x1024_S1x1024_d1 h_S_) shapeCasts_S1x1024_S1x1x1024) (constant S_ .f32 0x00000000#32) reducesTo_S1x1x1024_S1024_d0_1 h_S_) : FVec Ideal S1x1024 .f32) (ix2 0 k)
    = ((∑ r, P.dy (Z r) (T r) k : ℝ) : EReal) := by
  pointwise
  rw [sum_singles']
  pointwise
  simp only [h.dy, coe_sum]

theorem sumLoss (k : Fin 1024) : (broadcastInDim S1x1024 ![] bcast_S_S1x1024 (mulf (constant S_ .f32 0x3F000000#32) (Host.reduceAdd (Host.divf (Host.reduceAdd (mulf (res_main_v76 V) (res_main_v76 V)) (constant S_ .f32 0x00000000#32) reducesTo_S1x4096x1024_S1x4096_d2 h_S_) (broadcastInDim S1x4096 ![] bcast_S_S1x4096 (constant S_ .f32 0x44800000#32))) (constant S_ .f32 0x00000000#32) reducesTo_S1x4096_S_d0_1 h_S_)) : FVec Ideal S1x1024 .f32) (ix2 0 k)
    = ((1 / 2 * ∑ r, P.loss (Z r) (T r) : ℝ) : EReal) := by
  pointwise
  simp only [h.diff, ofBits_1024, ofBits_half, ← EReal.coe_mul, coe_sum, coe_div _ (show (1024 : ℝ) ≠ 0 by norm_num)]
  rw [Fin.sum_univ_one]
  rfl

end Reads

end Cert.FfnRefIdeal.Hand
-- ==== Proof.FfnFinite.lean ====
module

public import proofs.«01_k».proof.Proof.FfnFinal
public import proofs.«01_k».proof.Proof.FfnRefValue
public import proofs.«01_k».proof.Proof.Gen.Pre_ffn_finite
public import proofs.«01_k».proof.Defs
public import Idealize.ShloMosaic.Lib.ReduceAll
public import Idealize.ShloMosaic.Lib.KernelVsHost

/-!
The precondition makes every argument an array of real numbers. With those
numbers both programs' results are the layer's values in real arithmetic.
-/

@[expose] public section

noncomputable section

namespace Cert.FfnIdeal.Hand

open Cert.FfnIdeal Cert.FfnIdeal.Gen
open Idealize.ShloMosaic Idealize.ShloMosaic.TcCoe
open Cert.FfnReal

/-- A value whose size is below infinity is a real number. -/
theorem real_of_lt {x : EReal} (e : BitVec.ofBool (decide (max x (-x) < Ideal.ofBits .f32 0x7F800000#32)) = 1#1) : ∃ a : ℝ, x = (a : EReal) := by
  have ht : Ideal.ofBits .f32 0x7F800000#32 = ⊤ := by simp [Ideal.ofBits, Ideal.ieee]
  rw [ht] at e
  induction x with
  | bot => simp at e
  | coe a => exact ⟨a, rfl⟩
  | top => simp at e

theorem real_of_flag {s : Shape} {b} (x : FVec Ideal s .f32) (i : s.Idx)
    (e : cmpf .olt (Host.absf x) (broadcastInDim s ![] b (constant Cert.Pre_ffn_finite.S_ .f32 0x7F800000#32)) i = 1#1) :
    ∃ a : ℝ, x i = (a : EReal) := by
  apply real_of_lt
  pointwise at e
  exact e

theorem real_of_all {s : Shape} {b axes h hu} {x : FVec Ideal s .f32} {j : Cert.Pre_ffn_finite.S_.Idx}
    (e : Host.reduce IntOp.andi (cmpf .olt (Host.absf x) (broadcastInDim s ![] b (constant Cert.Pre_ffn_finite.S_ .f32 0x7F800000#32)))
      (constantI Cert.Pre_ffn_finite.S_ 1 1#1) (axes := axes) (t := Cert.Pre_ffn_finite.S_) h (u := Cert.Pre_ffn_finite.S_) hu j = 1#1) :
    ∀ i, ∃ a : ℝ, x i = (a : EReal) := by
  haveI : Subsingleton Cert.Pre_ffn_finite.S_.Idx := ⟨fun a b => funext fun k => k.elim0⟩
  exact fun i => real_of_flag x i (Host.reduce_andi_all _ _ _ _ j e i)

/-- What the precondition says of each argument. -/
theorem reals_of_pre [Cert.Pre_ffn_finite.Facts] (a0 : FVec Ideal Cert.Pre_ffn_finite.S1x4096x1024 .f32) (a1 : FVec Ideal Cert.Pre_ffn_finite.S1x1024 .f32) (a2 : FVec Ideal Cert.Pre_ffn_finite.S1x1024 .f32) (a3 : FVec Ideal Cert.Pre_ffn_finite.S1x1024x4096 .f32) (a4 : FVec Ideal Cert.Pre_ffn_finite.S1x4096x1024 .f32) (a5 : FVec Ideal Cert.Pre_ffn_finite.S1x1024 .f32) (a6 : FVec Ideal Cert.Pre_ffn_finite.S1x1024 .f32) (a7 : FVec Ideal Cert.Pre_ffn_finite.S1x4096x1024 .f32)
    (e : Cert.Pre_ffn_finite.fn (F := Ideal) a0 a1 a2 a3 a4 a5 a6 a7 = fun _ => 1#1) :
    (∀ i, ∃ a : ℝ, a0 i = (a : EReal))
      ∧ (∀ i, ∃ a : ℝ, a1 i = (a : EReal))
      ∧ (∀ i, ∃ a : ℝ, a2 i = (a : EReal))
      ∧ (∀ i, ∃ a : ℝ, a3 i = (a : EReal))
      ∧ (∀ i, ∃ a : ℝ, a4 i = (a : EReal))
      ∧ (∀ i, ∃ a : ℝ, a5 i = (a : EReal))
      ∧ (∀ i, ∃ a : ℝ, a6 i = (a : EReal))
      ∧ (∀ i, ∃ a : ℝ, a7 i = (a : EReal)) := by
  have e := congrFun e ix0
  unfold Cert.Pre_ffn_finite.fn Cert.Pre_ffn_finite.fn_part1 Cert.Pre_ffn_finite.fn_part2 at e
  dsimp only at e
  simp only [show ∀ x y : IVec Cert.Pre_ffn_finite.S_ 1, andi x y ix0 = IntOp.andi (x ix0) (y ix0) from fun _ _ => rfl, IntOp.andi_eq_one] at e
  obtain ⟨⟨⟨⟨⟨⟨⟨e0, e1⟩, e2⟩, e3⟩, e4⟩, e5⟩, e6⟩, e7⟩ := e
  exact ⟨real_of_all e0, real_of_all e1, real_of_all e2, real_of_all e3, real_of_all e4, real_of_all e5, real_of_all e6, real_of_all e7⟩

/-- The real numbers the arguments are. -/
theorem argReads_of_pre [Cert.Pre_ffn_finite.Facts] (m : (ℓ : Loc nD τ sig) → Buf (Elt Ideal) ℓ) (c : Dev nD) (pre : Cert.Pre_FfnIdeal_ffn_finite m) :
    ∃ P Z T, ArgReads m c P Z T := by
  obtain ⟨e0, e1, e2, e3, e4, e5, e6, e7⟩ := reals_of_pre _ _ _ _ _ _ _ _ (pre c)
  choose f0 h0 using e0
  choose f1 h1 using e1
  choose f2 h2 using e2
  choose f3 h3 using e3
  choose f4 h4 using e4
  choose f5 h5 using e5
  choose f6 h6 using e6
  choose f7 h7 using e7
  exact ⟨⟨_, _, fun k => f1 (ix2 0 k), fun k => f2 (ix2 0 k), fun k => f5 (ix2 0 k), fun k => f6 (ix2 0 k),
      fun k q => f3 (ix3 0 k q), fun q k => f4 (ix3 0 q k)⟩, fun r k => f0 (ix3 0 r k), fun r k => f7 (ix3 0 r k),
    ⟨ofBits_scale, ofBits_small, small_pos, fun r k => h0 _, fun k => h1 _, fun k => h2 _, fun k q => h3 _, fun q k => h4 _,
      fun k => h5 _, fun k => h6 _, fun r k => h7 _⟩⟩

end Cert.FfnIdeal.Hand
-- ==== Proof.FfnRefFinal.lean ====
module

public import proofs.«01_k».proof.Proof.FfnFinite

/-!
The reference's five results, as the same real functions the kernel's are.
-/

@[expose] public section

set_option maxRecDepth 16384

noncomputable section

namespace Cert.FfnRefIdeal.Hand

open Cert.FfnRefIdeal Cert.FfnRefIdeal.Gen Cert.FfnRefIdeal.Value
open Idealize.ShloMosaic Idealize.ShloMosaic.TcCoe
open Cert.FfnReal
open Cert.FfnIdeal.Hand (ix2_split statRow ArgReads)

variable {V : Valuation τ sig (Elt Ideal)} {P : Par} {Z T : Fin 4096 → Fin 1024 → ℝ}

namespace Reads

theorem rows_at (a0 a1 a2 a3 a4 : FVec Ideal S1x1024 .f32) (z : FVec Ideal S3x1024 .f32) (i : Fin 8) (k : Fin 1024) :
    (concatenate S8x1024 0 [⟨S1x1024, a0⟩, ⟨S1x1024, a1⟩, ⟨S1x1024, a2⟩, ⟨S1x1024, a3⟩, ⟨S1x1024, a4⟩, ⟨S3x1024, z⟩]
      concatenates_S1x1024_S1x1024_S1x1024_S1x1024_S1x1024_S3x1024_S8x1024_d0 : FVec Ideal S8x1024 .f32) (ix2 i k)
    = match i with
      | ⟨0, _⟩ => a0 (ix2 0 k)
      | ⟨1, _⟩ => a1 (ix2 0 k)
      | ⟨2, _⟩ => a2 (ix2 0 k)
      | ⟨3, _⟩ => a3 (ix2 0 k)
      | ⟨4, _⟩ => a4 (ix2 0 k)
      | ⟨5, _⟩ => z (ix2 0 k)
      | ⟨6, _⟩ => z (ix2 1 k)
      | ⟨7, _⟩ => z (ix2 2 k) := by
  match i with
  | ⟨0, _⟩ => pointwise
  | ⟨1, _⟩ => pointwise
  | ⟨2, _⟩ => pointwise
  | ⟨3, _⟩ => pointwise
  | ⟨4, _⟩ => pointwise
  | ⟨5, _⟩ => pointwise
  | ⟨6, _⟩ => pointwise
  | ⟨7, _⟩ => pointwise

theorem zeros_at (i : S3x1024.Idx) : (broadcastInDim S3x1024 ![] bcast_S_S3x1024 (constant S_ .f32 0x00000000#32) : FVec Ideal S3x1024 .f32) i
    = ((0 : ℝ) : EReal) := by
  show Ideal.ofBits .f32 0x00000000#32 = _
  rw [Ideal.ofBits_zero_f32]; rfl

variable (h : Reads V P Z T)
include h

theorem final_act : truncf .bf16 (shapeCast _ (res_main_v37 V) shapeCasts_S1x4096x4096_S4096x4096) bitsLt_bf16_f32
    = (fun j : S4096x4096.Idx => ((P.act (Z (j 0)) (j 1) : ℝ) : EReal)) := by
  funext j
  have hv := h.act (j 0) (j 1)
  rw [ix2_split (a := 4096) (b := 4096) j]
  pointwise
  exact hv

theorem final_dpre : truncf .bf16 (shapeCast _ (res_main_v133 V) shapeCasts_S1x4096x4096_S4096x4096) bitsLt_bf16_f32
    = (fun j : S4096x4096.Idx => ((P.dpre (Z (j 0)) (T (j 0)) (j 1) : ℝ) : EReal)) := by
  funext j
  have hv := h.dpre (j 0) (j 1)
  rw [ix2_split (a := 4096) (b := 4096) j]
  pointwise
  exact hv

theorem final_dz2 : truncf .bf16 (shapeCast _ (res_main_v125 V) shapeCasts_S1x4096x1024_S4096x1024) bitsLt_bf16_f32
    = (fun j : S4096x1024.Idx => ((P.dz2 (Z (j 0)) (T (j 0)) (j 1) : ℝ) : EReal)) := by
  funext j
  have hv := h.dz2 (j 0) (j 1)
  rw [ix2_split (a := 4096) (b := 1024) j]
  pointwise
  exact hv

theorem final_dz1 : shapeCast _ (addf (addf (res_main_v149 V) (res_main_v159 V)) (broadcastInDim S1x4096x1024 ![0, 1] bcast_S1x4096_S1x4096x1024_0_1 (broadcastInDim S1x4096 ![1] bcast_S4096_S1x4096_1 (Host.reduceAdd (Host.divf (addf (shapeCast _ (Host.reduceAdd (Host.negf (res_main_v149 V)) (constant S_ .f32 0x00000000#32) reducesTo_S1x4096x1024_S1x4096_d2 h_S_) shapeCasts_S1x4096_S1x4096x1) (shapeCast _ (Host.reduceAdd (Host.negf (res_main_v159 V)) (constant S_ .f32 0x00000000#32) reducesTo_S1x4096x1024_S1x4096_d2 h_S_) shapeCasts_S1x4096_S1x4096x1)) (broadcastInDim S1x4096x1 ![] bcast_S_S1x4096x1 (constant S_ .f32 0x44800000#32))) (constant S_ .f32 0x00000000#32) reducesTo_S1x4096x1_S4096_d0_2 h_S_)))) shapeCasts_S1x4096x1024_S4096x1024
    = (fun j : S4096x1024.Idx => ((P.dz1 (Z (j 0)) (T (j 0)) (j 1) : ℝ) : EReal)) := by
  funext j
  have hv := h.dz1 (j 0) (j 1)
  rw [ix2_split (a := 4096) (b := 1024) j]
  exact hv

theorem stat_row (i : Fin 8) (k : Fin 1024) : ((concatenate S8x1024 0 [⟨S1x1024, ((broadcastInDim S1x1024 ![1] bcast_S1024_S1x1024_1 (Host.reduceAdd (shapeCast _ (Host.reduceAdd (mulf (res_main_v24 V) (res_main_v135 V)) (constant S_ .f32 0x00000000#32) reducesTo_S1x4096x1024_S1x1024_d1 h_S_) shapeCasts_S1x1024_S1x1x1024) (constant S_ .f32 0x00000000#32) reducesTo_S1x1x1024_S1024_d0_1 h_S_)) : FVec Ideal S1x1024 .f32)⟩, ⟨S1x1024, ((broadcastInDim S1x1024 ![1] bcast_S1024_S1x1024_1 (Host.reduceAdd (shapeCast _ (Host.reduceAdd (res_main_v135 V) (constant S_ .f32 0x00000000#32) reducesTo_S1x4096x1024_S1x1024_d1 h_S_) shapeCasts_S1x1024_S1x1x1024) (constant S_ .f32 0x00000000#32) reducesTo_S1x1x1024_S1024_d0_1 h_S_)) : FVec Ideal S1x1024 .f32)⟩, ⟨S1x1024, ((broadcastInDim S1x1024 ![1] bcast_S1024_S1x1024_1 (Host.reduceAdd (shapeCast _ (Host.reduceAdd (mulf (res_main_v69 V) (res_main_v90 V)) (constant S_ .f32 0x00000000#32) reducesTo_S1x4096x1024_S1x1024_d1 h_S_) shapeCasts_S1x1024_S1x1x1024) (constant S_ .f32 0x00000000#32) reducesTo_S1x1x1024_S1024_d0_1 h_S_)) : FVec Ideal S1x1024 .f32)⟩, ⟨S1x1024, ((broadcastInDim S1x1024 ![1] bcast_S1024_S1x1024_1 (Host.reduceAdd (shapeCast _ (Host.reduceAdd (res_main_v90 V) (constant S_ .f32 0x00000000#32) reducesTo_S1x4096x1024_S1x1024_d1 h_S_) shapeCasts_S1x1024_S1x1x1024) (constant S_ .f32 0x00000000#32) reducesTo_S1x1x1024_S1024_d0_1 h_S_)) : FVec Ideal S1x1024 .f32)⟩, ⟨S1x1024, ((broadcastInDim S1x1024 ![] bcast_S_S1x1024 (mulf (constant S_ .f32 0x3F000000#32) (Host.reduceAdd (Host.divf (Host.reduceAdd (mulf (res_main_v76 V) (res_main_v76 V)) (constant S_ .f32 0x00000000#32) reducesTo_S1x4096x1024_S1x4096_d2 h_S_) (broadcastInDim S1x4096 ![] bcast_S_S1x4096 (constant S_ .f32 0x44800000#32))) (constant S_ .f32 0x00000000#32) reducesTo_S1x4096_S_d0_1 h_S_))) : FVec Ideal S1x1024 .f32)⟩, ⟨S3x1024, ((broadcastInDim S3x1024 ![] bcast_S_S3x1024 (constant S_ .f32 0x00000000#32)) : FVec Ideal S3x1024 .f32)⟩] concatenates_S1x1024_S1x1024_S1x1024_S1x1024_S1x1024_S3x1024_S8x1024_d0 : FVec Ideal S8x1024 .f32) : FVec Ideal S8x1024 .f32) (ix2 i k)
    = ((statRow P Z T i k : ℝ) : EReal) := by
  rw [rows_at]
  match i with
  | ⟨0, _⟩ => exact h.sumGain1 k
  | ⟨1, _⟩ => exact h.sumBias1 k
  | ⟨2, _⟩ => exact h.sumGain2 k
  | ⟨3, _⟩ => exact h.sumBias2 k
  | ⟨4, _⟩ => exact h.sumLoss k
  | ⟨5, _⟩ => exact zeros_at _
  | ⟨6, _⟩ => exact zeros_at _
  | ⟨7, _⟩ => exact zeros_at _

theorem final_stats : ((concatenate S8x1024 0 [⟨S1x1024, ((broadcastInDim S1x1024 ![1] bcast_S1024_S1x1024_1 (Host.reduceAdd (shapeCast _ (Host.reduceAdd (mulf (res_main_v24 V) (res_main_v135 V)) (constant S_ .f32 0x00000000#32) reducesTo_S1x4096x1024_S1x1024_d1 h_S_) shapeCasts_S1x1024_S1x1x1024) (constant S_ .f32 0x00000000#32) reducesTo_S1x1x1024_S1024_d0_1 h_S_)) : FVec Ideal S1x1024 .f32)⟩, ⟨S1x1024, ((broadcastInDim S1x1024 ![1] bcast_S1024_S1x1024_1 (Host.reduceAdd (shapeCast _ (Host.reduceAdd (res_main_v135 V) (constant S_ .f32 0x00000000#32) reducesTo_S1x4096x1024_S1x1024_d1 h_S_) shapeCasts_S1x1024_S1x1x1024) (constant S_ .f32 0x00000000#32) reducesTo_S1x1x1024_S1024_d0_1 h_S_)) : FVec Ideal S1x1024 .f32)⟩, ⟨S1x1024, ((broadcastInDim S1x1024 ![1] bcast_S1024_S1x1024_1 (Host.reduceAdd (shapeCast _ (Host.reduceAdd (mulf (res_main_v69 V) (res_main_v90 V)) (constant S_ .f32 0x00000000#32) reducesTo_S1x4096x1024_S1x1024_d1 h_S_) shapeCasts_S1x1024_S1x1x1024) (constant S_ .f32 0x00000000#32) reducesTo_S1x1x1024_S1024_d0_1 h_S_)) : FVec Ideal S1x1024 .f32)⟩, ⟨S1x1024, ((broadcastInDim S1x1024 ![1] bcast_S1024_S1x1024_1 (Host.reduceAdd (shapeCast _ (Host.reduceAdd (res_main_v90 V) (constant S_ .f32 0x00000000#32) reducesTo_S1x4096x1024_S1x1024_d1 h_S_) shapeCasts_S1x1024_S1x1x1024) (constant S_ .f32 0x00000000#32) reducesTo_S1x1x1024_S1024_d0_1 h_S_)) : FVec Ideal S1x1024 .f32)⟩, ⟨S1x1024, ((broadcastInDim S1x1024 ![] bcast_S_S1x1024 (mulf (constant S_ .f32 0x3F000000#32) (Host.reduceAdd (Host.divf (Host.reduceAdd (mulf (res_main_v76 V) (res_main_v76 V)) (constant S_ .f32 0x00000000#32) reducesTo_S1x4096x1024_S1x4096_d2 h_S_) (broadcastInDim S1x4096 ![] bcast_S_S1x4096 (constant S_ .f32 0x44800000#32))) (constant S_ .f32 0x00000000#32) reducesTo_S1x4096_S_d0_1 h_S_))) : FVec Ideal S1x1024 .f32)⟩, ⟨S3x1024, ((broadcastInDim S3x1024 ![] bcast_S_S3x1024 (constant S_ .f32 0x00000000#32)) : FVec Ideal S3x1024 .f32)⟩] concatenates_S1x1024_S1x1024_S1x1024_S1x1024_S1x1024_S3x1024_S8x1024_d0 : FVec Ideal S8x1024 .f32) : FVec Ideal S8x1024 .f32)
    = (fun j : S8x1024.Idx => ((statRow P Z T (j 0) (j 1) : ℝ) : EReal)) := by
  funext j
  have hv := h.stat_row (j 0) (j 1)
  rw [← ix2_split (a := 8) (b := 1024) j] at hv
  exact hv

end Reads

/-- The reference's arguments are the kernel's. -/
theorem reads_of {m : (ℓ : Loc Cert.FfnIdeal.nD Cert.FfnIdeal.τ Cert.FfnIdeal.sig) → Buf (Elt Ideal) ℓ} {m' : (ℓ : Loc nD τ sig) → Buf (Elt Ideal) ℓ} {c : Dev nD}
    (h : ArgReads m c P Z T)
    (e : m' ((c.tc : Thread nD τ).loc main_arg0) = m ((c.tc : Thread Cert.FfnIdeal.nD Cert.FfnIdeal.τ).loc Cert.FfnIdeal.main_arg0)
      ∧ m' ((c.tc : Thread nD τ).loc main_arg1) = m ((c.tc : Thread Cert.FfnIdeal.nD Cert.FfnIdeal.τ).loc Cert.FfnIdeal.main_arg1)
      ∧ m' ((c.tc : Thread nD τ).loc main_arg2) = m ((c.tc : Thread Cert.FfnIdeal.nD Cert.FfnIdeal.τ).loc Cert.FfnIdeal.main_arg2)
      ∧ m' ((c.tc : Thread nD τ).loc main_arg3) = m ((c.tc : Thread Cert.FfnIdeal.nD Cert.FfnIdeal.τ).loc Cert.FfnIdeal.main_arg3)
      ∧ m' ((c.tc : Thread nD τ).loc main_arg4) = m ((c.tc : Thread Cert.FfnIdeal.nD Cert.FfnIdeal.τ).loc Cert.FfnIdeal.main_arg4)
      ∧ m' ((c.tc : Thread nD τ).loc main_arg5) = m ((c.tc : Thread Cert.FfnIdeal.nD Cert.FfnIdeal.τ).loc Cert.FfnIdeal.main_arg5)
      ∧ m' ((c.tc : Thread nD τ).loc main_arg6) = m ((c.tc : Thread Cert.FfnIdeal.nD Cert.FfnIdeal.τ).loc Cert.FfnIdeal.main_arg6)
      ∧ m' ((c.tc : Thread nD τ).loc main_arg7) = m ((c.tc : Thread Cert.FfnIdeal.nD Cert.FfnIdeal.τ).loc Cert.FfnIdeal.main_arg7)) :
    Reads (StableHlo.launchContents m' c) P Z T := by
  obtain ⟨e0, e1, e2, e3, e4, e5, e6, e7⟩ := e
  exact ⟨h.scale, h.small, h.pos, fun r k => (congrFun e0 _).trans (h.z1 r k), fun k => (congrFun e1 _).trans (h.g1 k),
    fun k => (congrFun e2 _).trans (h.b1 k), fun k q => (congrFun e3 _).trans (h.w1 k q), fun q k => (congrFun e4 _).trans (h.w2 q k),
    fun k => (congrFun e5 _).trans (h.g2 k), fun k => (congrFun e6 _).trans (h.b2 k), fun r k => (congrFun e7 _).trans (h.target r k)⟩

end Cert.FfnRefIdeal.Hand
-- ==== Proof.MixPoint.lean ====
module

public import proofs.«01_k».proof.Proof.Gen.MixIdeal.Skeleton
public import Idealize.ShloMosaic.Lib.ValueIdx
public import Idealize.ShloMosaic.Lib.Pointwise

@[expose] public section

set_option maxRecDepth 16384

noncomputable section

namespace Cert.MixIdeal.Hand

open Cert.MixIdeal Cert.MixIdeal.Gen
open Idealize.ShloMosaic

/-- Channel `k` of head `a`. -/
def chan (a : Fin 8) (k : Fin 64) : Fin 512 := ⟨64 * a.val + k.val, by omega⟩
/-- Token `t` of block `b` of the two a grid point takes. -/
def tok (b : Fin 2) (t : Fin 128) : Fin 256 := ⟨128 * b.val + t.val, by omega⟩

theorem row_0_0 (u c : FVec Ideal S512x256 .f32) (S : Vec Ideal S1x128 .f32) (t : Fin 128) :
    k0_pay54 u c S (ix2 0 t) = S (ix2 0 t) + ∑ k : Fin 64, (k0_pay49 u c) (ix2 (chan 0 k) (tok 0 t)) := by
  pointwise [k0_pay54, k0_pay52]
  simp [chan, tok]

theorem row_0_1 (A : FVec Ideal S512x256 .f32) (S : Vec Ideal S1x128 .f32) (t : Fin 128) :
    k0_pay62 A S (ix2 0 t) = S (ix2 0 t) + ∑ k : Fin 64, A (ix2 (chan 1 k) (tok 0 t)) := by
  pointwise [k0_pay62, k0_pay60]
  simp [chan, tok]

theorem row_0_2 (A : FVec Ideal S512x256 .f32) (S : Vec Ideal S1x128 .f32) (t : Fin 128) :
    k0_pay70 A S (ix2 0 t) = S (ix2 0 t) + ∑ k : Fin 64, A (ix2 (chan 2 k) (tok 0 t)) := by
  pointwise [k0_pay70, k0_pay68]
  simp [chan, tok]

theorem row_0_3 (A : FVec Ideal S512x256 .f32) (S : Vec Ideal S1x128 .f32) (t : Fin 128) :
    k0_pay78 A S (ix2 0 t) = S (ix2 0 t) + ∑ k : Fin 64, A (ix2 (chan 3 k) (tok 0 t)) := by
  pointwise [k0_pay78, k0_pay76]
  simp [chan, tok]

theorem row_0_4 (A : FVec Ideal S512x256 .f32) (S : Vec Ideal S1x128 .f32) (t : Fin 128) :
    k0_pay85 A S (ix2 0 t) = S (ix2 0 t) + ∑ k : Fin 64, A (ix2 (chan 4 k) (tok 0 t)) := by
  pointwise [k0_pay85, k0_pay83]
  simp [chan, tok]

theorem row_0_5 (A : FVec Ideal S512x256 .f32) (S : Vec Ideal S1x128 .f32) (t : Fin 128) :
    k0_pay92 A S (ix2 0 t) = S (ix2 0 t) + ∑ k : Fin 64, A (ix2 (chan 5 k) (tok 0 t)) := by
  pointwise [k0_pay92, k0_pay90]
  simp [chan, tok]

theorem row_0_6 (A : FVec Ideal S512x256 .f32) (S : Vec Ideal S1x128 .f32) (t : Fin 128) :
    k0_pay99 A S (ix2 0 t) = S (ix2 0 t) + ∑ k : Fin 64, A (ix2 (chan 6 k) (tok 0 t)) := by
  pointwise [k0_pay99, k0_pay97]
  simp [chan, tok]

theorem row_0_7 (A : FVec Ideal S512x256 .f32) (S : Vec Ideal S1x128 .f32) (t : Fin 128) :
    k0_pay106 A S (ix2 0 t) = S (ix2 0 t) + ∑ k : Fin 64, A (ix2 (chan 7 k) (tok 0 t)) := by
  pointwise [k0_pay106, k0_pay104]
  simp [chan, tok]

theorem row_1_0 (A : FVec Ideal S512x256 .f32) (S : Vec Ideal S1x128 .f32) (t : Fin 128) :
    k0_pay113 A S (ix2 0 t) = S (ix2 0 t) + ∑ k : Fin 64, A (ix2 (chan 0 k) (tok 1 t)) := by
  pointwise [k0_pay113, k0_pay111]
  simp [chan, tok]

theorem row_1_1 (A : FVec Ideal S512x256 .f32) (S : Vec Ideal S1x128 .f32) (t : Fin 128) :
    k0_pay120 A S (ix2 0 t) = S (ix2 0 t) + ∑ k : Fin 64, A (ix2 (chan 1 k) (tok 1 t)) := by
  pointwise [k0_pay120, k0_pay118]
  simp [chan, tok]

theorem row_1_2 (A : FVec Ideal S512x256 .f32) (S : Vec Ideal S1x128 .f32) (t : Fin 128) :
    k0_pay127 A S (ix2 0 t) = S (ix2 0 t) + ∑ k : Fin 64, A (ix2 (chan 2 k) (tok 1 t)) := by
  pointwise [k0_pay127, k0_pay125]
  simp [chan, tok]

theorem row_1_3 (A : FVec Ideal S512x256 .f32) (S : Vec Ideal S1x128 .f32) (t : Fin 128) :
    k0_pay135 A S (ix2 0 t) = S (ix2 0 t) + ∑ k : Fin 64, A (ix2 (chan 3 k) (tok 1 t)) := by
  pointwise [k0_pay135, k0_pay133]
  simp [chan, tok]

theorem row_1_4 (A : FVec Ideal S512x256 .f32) (S : Vec Ideal S1x128 .f32) (t : Fin 128) :
    k0_pay143 A S (ix2 0 t) = S (ix2 0 t) + ∑ k : Fin 64, A (ix2 (chan 4 k) (tok 1 t)) := by
  pointwise [k0_pay143, k0_pay141]
  simp [chan, tok]

theorem row_1_5 (A : FVec Ideal S512x256 .f32) (S : Vec Ideal S1x128 .f32) (t : Fin 128) :
    k0_pay150 A S (ix2 0 t) = S (ix2 0 t) + ∑ k : Fin 64, A (ix2 (chan 5 k) (tok 1 t)) := by
  pointwise [k0_pay150, k0_pay148]
  simp [chan, tok]

theorem row_1_6 (A : FVec Ideal S512x256 .f32) (S : Vec Ideal S1x128 .f32) (t : Fin 128) :
    k0_pay157 A S (ix2 0 t) = S (ix2 0 t) + ∑ k : Fin 64, A (ix2 (chan 6 k) (tok 1 t)) := by
  pointwise [k0_pay157, k0_pay155]
  simp [chan, tok]

theorem row_1_7 (A : FVec Ideal S512x256 .f32) (S : Vec Ideal S1x128 .f32) (t : Fin 128) :
    k0_pay164 A S (ix2 0 t) = S (ix2 0 t) + ∑ k : Fin 64, A (ix2 (chan 7 k) (tok 1 t)) := by
  pointwise [k0_pay164, k0_pay162]
  simp [chan, tok]

theorem outer_0_0 (g : FVec Ideal S512x1 .f32) (u : FVec Ideal S512x256 .f32) (b : FVec Ideal S512x1 .f32) (z : FVec Ideal S512x256 .f32) (r : FVec Ideal S1x256 .f32) (c : FVec Ideal S512x256 .f32) (S : Vec Ideal S1x128x128 .f32) (t s : Fin 128) :
    k0_pay56 (k0_pay55 g u b z r c S) (ix3 0 t s)
      = S (ix3 0 t s) + ∑ k : Fin 64, (k0_pay49 u c) (ix2 (chan 0 k) (tok 0 t)) * (k0_pay47 g b z r) (ix2 (chan 0 k) (tok 0 s)) := by
  pointwise [k0_pay56, k0_pay55, k0_pay53, k0_pay50, k0_pay52]
  simp [chan, tok]

theorem outer_0_1 (B : FVec Ideal S512x256 .bf16) (A : FVec Ideal S512x256 .f32) (S : Vec Ideal S1x128x128 .f32) (t s : Fin 128) :
    k0_pay64 (k0_pay63 B A S) (ix3 0 t s)
      = S (ix3 0 t s) + ∑ k : Fin 64, A (ix2 (chan 1 k) (tok 0 t)) * B (ix2 (chan 1 k) (tok 0 s)) := by
  pointwise [k0_pay64, k0_pay63, k0_pay61, k0_pay58, k0_pay60]
  simp [chan, tok]

theorem outer_0_2 (B : FVec Ideal S512x256 .bf16) (A : FVec Ideal S512x256 .f32) (S : Vec Ideal S1x128x128 .f32) (t s : Fin 128) :
    k0_pay72 (k0_pay71 B A S) (ix3 0 t s)
      = S (ix3 0 t s) + ∑ k : Fin 64, A (ix2 (chan 2 k) (tok 0 t)) * B (ix2 (chan 2 k) (tok 0 s)) := by
  pointwise [k0_pay72, k0_pay71, k0_pay69, k0_pay66, k0_pay68]
  simp [chan, tok]

theorem outer_0_3 (B : FVec Ideal S512x256 .bf16) (A : FVec Ideal S512x256 .f32) (S : Vec Ideal S1x128x128 .f32) (t s : Fin 128) :
    k0_pay79 B A S (ix3 0 t s)
      = S (ix3 0 t s) + ∑ k : Fin 64, A (ix2 (chan 3 k) (tok 0 t)) * B (ix2 (chan 3 k) (tok 0 s)) := by
  pointwise [k0_pay79, k0_pay77, k0_pay74, k0_pay76]
  simp [chan, tok]

theorem outer_0_4 (B : FVec Ideal S512x256 .bf16) (A : FVec Ideal S512x256 .f32) (S : Vec Ideal S1x128x128 .f32) (t s : Fin 128) :
    k0_pay86 B A S (ix3 0 t s)
      = S (ix3 0 t s) + ∑ k : Fin 64, A (ix2 (chan 4 k) (tok 0 t)) * B (ix2 (chan 4 k) (tok 0 s)) := by
  pointwise [k0_pay86, k0_pay84, k0_pay81, k0_pay83]
  simp [chan, tok]

theorem outer_0_5 (B : FVec Ideal S512x256 .bf16) (A : FVec Ideal S512x256 .f32) (S : Vec Ideal S1x128x128 .f32) (t s : Fin 128) :
    k0_pay93 B A S (ix3 0 t s)
      = S (ix3 0 t s) + ∑ k : Fin 64, A (ix2 (chan 5 k) (tok 0 t)) * B (ix2 (chan 5 k) (tok 0 s)) := by
  pointwise [k0_pay93, k0_pay91, k0_pay88, k0_pay90]
  simp [chan, tok]

theorem outer_0_6 (B : FVec Ideal S512x256 .bf16) (A : FVec Ideal S512x256 .f32) (S : Vec Ideal S1x128x128 .f32) (t s : Fin 128) :
    k0_pay100 B A S (ix3 0 t s)
      = S (ix3 0 t s) + ∑ k : Fin 64, A (ix2 (chan 6 k) (tok 0 t)) * B (ix2 (chan 6 k) (tok 0 s)) := by
  pointwise [k0_pay100, k0_pay98, k0_pay95, k0_pay97]
  simp [chan, tok]

theorem outer_0_7 (B : FVec Ideal S512x256 .bf16) (A : FVec Ideal S512x256 .f32) (S : Vec Ideal S1x128x128 .f32) (t s : Fin 128) :
    k0_pay107 B A S (ix3 0 t s)
      = S (ix3 0 t s) + ∑ k : Fin 64, A (ix2 (chan 7 k) (tok 0 t)) * B (ix2 (chan 7 k) (tok 0 s)) := by
  pointwise [k0_pay107, k0_pay105, k0_pay102, k0_pay104]
  simp [chan, tok]

theorem outer_1_0 (B : FVec Ideal S512x256 .bf16) (A : FVec Ideal S512x256 .f32) (S : Vec Ideal S1x128x128 .f32) (t s : Fin 128) :
    k0_pay114 B A S (ix3 0 t s)
      = S (ix3 0 t s) + ∑ k : Fin 64, A (ix2 (chan 0 k) (tok 1 t)) * B (ix2 (chan 0 k) (tok 1 s)) := by
  pointwise [k0_pay114, k0_pay112, k0_pay109, k0_pay111]
  simp [chan, tok]

theorem outer_1_1 (B : FVec Ideal S512x256 .bf16) (A : FVec Ideal S512x256 .f32) (S : Vec Ideal S1x128x128 .f32) (t s : Fin 128) :
    k0_pay121 B A S (ix3 0 t s)
      = S (ix3 0 t s) + ∑ k : Fin 64, A (ix2 (chan 1 k) (tok 1 t)) * B (ix2 (chan 1 k) (tok 1 s)) := by
  pointwise [k0_pay121, k0_pay119, k0_pay116, k0_pay118]
  simp [chan, tok]

theorem outer_1_2 (B : FVec Ideal S512x256 .bf16) (A : FVec Ideal S512x256 .f32) (S : Vec Ideal S1x128x128 .f32) (t s : Fin 128) :
    k0_pay128 B A S (ix3 0 t s)
      = S (ix3 0 t s) + ∑ k : Fin 64, A (ix2 (chan 2 k) (tok 1 t)) * B (ix2 (chan 2 k) (tok 1 s)) := by
  pointwise [k0_pay128, k0_pay126, k0_pay123, k0_pay125]
  simp [chan, tok]

theorem outer_1_3 (B : FVec Ideal S512x256 .bf16) (A : FVec Ideal S512x256 .f32) (S : Vec Ideal S1x128x128 .f32) (t s : Fin 128) :
    k0_pay136 B A S (ix3 0 t s)
      = S (ix3 0 t s) + ∑ k : Fin 64, A (ix2 (chan 3 k) (tok 1 t)) * B (ix2 (chan 3 k) (tok 1 s)) := by
  pointwise [k0_pay136, k0_pay134, k0_pay131, k0_pay133]
  simp [chan, tok]

theorem outer_1_4 (B : FVec Ideal S512x256 .bf16) (A : FVec Ideal S512x256 .f32) (S : Vec Ideal S1x128x128 .f32) (t s : Fin 128) :
    k0_pay144 B A S (ix3 0 t s)
      = S (ix3 0 t s) + ∑ k : Fin 64, A (ix2 (chan 4 k) (tok 1 t)) * B (ix2 (chan 4 k) (tok 1 s)) := by
  pointwise [k0_pay144, k0_pay142, k0_pay139, k0_pay141]
  simp [chan, tok]

theorem outer_1_5 (B : FVec Ideal S512x256 .bf16) (A : FVec Ideal S512x256 .f32) (S : Vec Ideal S1x128x128 .f32) (t s : Fin 128) :
    k0_pay151 B A S (ix3 0 t s)
      = S (ix3 0 t s) + ∑ k : Fin 64, A (ix2 (chan 5 k) (tok 1 t)) * B (ix2 (chan 5 k) (tok 1 s)) := by
  pointwise [k0_pay151, k0_pay149, k0_pay146, k0_pay148]
  simp [chan, tok]

theorem outer_1_6 (B : FVec Ideal S512x256 .bf16) (A : FVec Ideal S512x256 .f32) (S : Vec Ideal S1x128x128 .f32) (t s : Fin 128) :
    k0_pay158 A (k0_pay153 B) S (ix3 0 t s)
      = S (ix3 0 t s) + ∑ k : Fin 64, A (ix2 (chan 6 k) (tok 1 t)) * B (ix2 (chan 6 k) (tok 1 s)) := by
  pointwise [k0_pay158, k0_pay153, k0_pay156, k0_pay155]
  simp [chan, tok]

theorem outer_1_7 (B : FVec Ideal S512x256 .bf16) (A : FVec Ideal S512x256 .f32) (S : Vec Ideal S1x128x128 .f32) (t s : Fin 128) :
    k0_pay165 A (k0_pay160 B) S (ix3 0 t s)
      = S (ix3 0 t s) + ∑ k : Fin 64, A (ix2 (chan 7 k) (tok 1 t)) * B (ix2 (chan 7 k) (tok 1 s)) := by
  pointwise [k0_pay165, k0_pay160, k0_pay163, k0_pay162]
  simp [chan, tok]

theorem back_0_0 (u c : FVec Ideal S512x256 .f32) (W : Vec Ideal S1x128x128 .bf16) (k : Fin 64) (s : Fin 128) :
    k0_pay57 (k0_pay53 u c) W (ix2 k s) = ∑ t : Fin 128, (k0_pay49 u c) (ix2 (chan 0 k) (tok 0 t)) * W (ix3 0 t s) := by
  pointwise [k0_pay57, k0_pay53, k0_pay52]
  simp [chan, tok]

theorem back_0_1 (A : FVec Ideal S512x256 .f32) (W : Vec Ideal S1x128x128 .bf16) (k : Fin 64) (s : Fin 128) :
    k0_pay65 (k0_pay61 A) W (ix2 k s) = ∑ t : Fin 128, A (ix2 (chan 1 k) (tok 0 t)) * W (ix3 0 t s) := by
  pointwise [k0_pay65, k0_pay61, k0_pay60]
  simp [chan, tok]

theorem back_0_2 (A : FVec Ideal S512x256 .f32) (W : Vec Ideal S1x128x128 .bf16) (k : Fin 64) (s : Fin 128) :
    k0_pay73 (k0_pay69 A) W (ix2 k s) = ∑ t : Fin 128, A (ix2 (chan 2 k) (tok 0 t)) * W (ix3 0 t s) := by
  pointwise [k0_pay73, k0_pay69, k0_pay68]
  simp [chan, tok]

theorem back_0_3 (A : FVec Ideal S512x256 .f32) (W : Vec Ideal S1x128x128 .bf16) (k : Fin 64) (s : Fin 128) :
    k0_pay80 (k0_pay77 A) W (ix2 k s) = ∑ t : Fin 128, A (ix2 (chan 3 k) (tok 0 t)) * W (ix3 0 t s) := by
  pointwise [k0_pay80, k0_pay77, k0_pay76]
  simp [chan, tok]

theorem back_0_4 (A : FVec Ideal S512x256 .f32) (W : Vec Ideal S1x128x128 .bf16) (k : Fin 64) (s : Fin 128) :
    k0_pay87 (k0_pay84 A) W (ix2 k s) = ∑ t : Fin 128, A (ix2 (chan 4 k) (tok 0 t)) * W (ix3 0 t s) := by
  pointwise [k0_pay87, k0_pay84, k0_pay83]
  simp [chan, tok]

theorem back_0_5 (A : FVec Ideal S512x256 .f32) (W : Vec Ideal S1x128x128 .bf16) (k : Fin 64) (s : Fin 128) :
    k0_pay94 (k0_pay91 A) W (ix2 k s) = ∑ t : Fin 128, A (ix2 (chan 5 k) (tok 0 t)) * W (ix3 0 t s) := by
  pointwise [k0_pay94, k0_pay91, k0_pay90]
  simp [chan, tok]

theorem back_0_6 (A : FVec Ideal S512x256 .f32) (W : Vec Ideal S1x128x128 .bf16) (k : Fin 64) (s : Fin 128) :
    k0_pay101 (k0_pay98 A) W (ix2 k s) = ∑ t : Fin 128, A (ix2 (chan 6 k) (tok 0 t)) * W (ix3 0 t s) := by
  pointwise [k0_pay101, k0_pay98, k0_pay97]
  simp [chan, tok]

theorem back_1_0 (A : FVec Ideal S512x256 .f32) (W : Vec Ideal S1x128x128 .bf16) (k : Fin 64) (s : Fin 128) :
    k0_pay115 (k0_pay112 A) W (ix2 k s) = ∑ t : Fin 128, A (ix2 (chan 0 k) (tok 1 t)) * W (ix3 0 t s) := by
  pointwise [k0_pay115, k0_pay112, k0_pay111]
  simp [chan, tok]

theorem back_1_1 (A : FVec Ideal S512x256 .f32) (W : Vec Ideal S1x128x128 .bf16) (k : Fin 64) (s : Fin 128) :
    k0_pay122 (k0_pay119 A) W (ix2 k s) = ∑ t : Fin 128, A (ix2 (chan 1 k) (tok 1 t)) * W (ix3 0 t s) := by
  pointwise [k0_pay122, k0_pay119, k0_pay118]
  simp [chan, tok]

theorem back_1_2 (A : FVec Ideal S512x256 .f32) (W : Vec Ideal S1x128x128 .bf16) (k : Fin 64) (s : Fin 128) :
    k0_pay130 (k0_pay126 A) (k0_pay129 W) (ix2 k s) = ∑ t : Fin 128, A (ix2 (chan 2 k) (tok 1 t)) * W (ix3 0 t s) := by
  pointwise [k0_pay130, k0_pay126, k0_pay129, k0_pay125]
  simp [chan, tok]

theorem back_1_3 (A : FVec Ideal S512x256 .f32) (W : Vec Ideal S1x128x128 .bf16) (k : Fin 64) (s : Fin 128) :
    k0_pay138 (k0_pay134 A) (k0_pay137 W) (constant S64x128 .f32 0x00000000#32) (ix2 k s) = ∑ t : Fin 128, A (ix2 (chan 3 k) (tok 1 t)) * W (ix3 0 t s) := by
  pointwise [k0_pay138, k0_pay134, k0_pay137, k0_pay133]
  simp [chan, tok]

theorem back_1_4 (A : FVec Ideal S512x256 .f32) (W : Vec Ideal S1x128x128 .bf16) (k : Fin 64) (s : Fin 128) :
    k0_pay145 A W (ix2 k s) = ∑ t : Fin 128, A (ix2 (chan 4 k) (tok 1 t)) * W (ix3 0 t s) := by
  pointwise [k0_pay145, k0_pay142, k0_pay141]
  simp [chan, tok]

theorem back_1_5 (A : FVec Ideal S512x256 .f32) (W : Vec Ideal S1x128x128 .bf16) (k : Fin 64) (s : Fin 128) :
    k0_pay152 A W (ix2 k s) = ∑ t : Fin 128, A (ix2 (chan 5 k) (tok 1 t)) * W (ix3 0 t s) := by
  pointwise [k0_pay152, k0_pay149, k0_pay148]
  simp [chan, tok]

theorem back_1_6 (A : FVec Ideal S512x256 .f32) (W : Vec Ideal S1x128x128 .bf16) (k : Fin 64) (s : Fin 128) :
    k0_pay159 A W (ix2 k s) = ∑ t : Fin 128, A (ix2 (chan 6 k) (tok 1 t)) * W (ix3 0 t s) := by
  pointwise [k0_pay159, k0_pay156, k0_pay155]
  simp [chan, tok]

set_option maxHeartbeats 1000000 in
/-- The eight heads of the first block, one below another. -/
theorem stack_0 (u c : FVec Ideal S512x256 .f32) (W : Fin 8 → Vec Ideal S1x128x128 .bf16) (a : Fin 8) (k : Fin 64) (s : Fin 128) :
    k0_pay108 (k0_pay57 (k0_pay53 u c) (W 0)) (k0_pay65 (k0_pay61 (k0_pay49 u c)) (W 1)) (k0_pay73 (k0_pay69 (k0_pay49 u c)) (W 2))
        (k0_pay80 (k0_pay77 (k0_pay49 u c)) (W 3)) (k0_pay87 (k0_pay84 (k0_pay49 u c)) (W 4)) (k0_pay94 (k0_pay91 (k0_pay49 u c)) (W 5))
        (k0_pay101 (k0_pay98 (k0_pay49 u c)) (W 6)) (k0_pay105 (k0_pay49 u c)) (W 7) (ix2 (chan a k) s)
      = ∑ t : Fin 128, k0_pay49 u c (ix2 (chan a k) (tok 0 t)) * W a (ix3 0 t s) := by
  match a with
  | ⟨0, _⟩ =>
    refine Eq.trans ?_ (back_0_0 u c _ k s)
    pointwise [k0_pay108, chan]
  | ⟨1, _⟩ =>
    have e : ∀ h, (⟨64 + k.val - 64, h⟩ : Fin 64) = k := fun h => Fin.ext (by show 64 + k.val - 64 = k.val; omega)
    refine Eq.trans ?_ (back_0_1 _ _ k s)
    pointwise [k0_pay108, chan]

  | ⟨2, _⟩ =>
    have e : ∀ h, (⟨128 + k.val - 64 - 64, h⟩ : Fin 64) = k := fun h => Fin.ext (by show 128 + k.val - 64 - 64 = k.val; omega)
    refine Eq.trans ?_ (back_0_2 _ _ k s)
    pointwise [k0_pay108, chan]
    split_ifs <;> first | (exfalso; omega) | rw [e]
  | ⟨3, _⟩ =>
    have e : ∀ h, (⟨192 + k.val - 64 - 64 - 64, h⟩ : Fin 64) = k := fun h => Fin.ext (by show 192 + k.val - 64 - 64 - 64 = k.val; omega)
    refine Eq.trans ?_ (back_0_3 _ _ k s)
    pointwise [k0_pay108, chan]
    split_ifs <;> first | (exfalso; omega) | rw [e]
  | ⟨4, _⟩ =>
    have e : ∀ h, (⟨256 + k.val - 64 - 64 - 64 - 64, h⟩ : Fin 64) = k := fun h => Fin.ext (by show 256 + k.val - 64 - 64 - 64 - 64 = k.val; omega)
    refine Eq.trans ?_ (back_0_4 _ _ k s)
    pointwise [k0_pay108, chan]
    split_ifs <;> first | (exfalso; omega) | rw [e]
  | ⟨5, _⟩ =>
    have e : ∀ h, (⟨320 + k.val - 64 - 64 - 64 - 64 - 64, h⟩ : Fin 64) = k := fun h => Fin.ext (by show 320 + k.val - 64 - 64 - 64 - 64 - 64 = k.val; omega)
    refine Eq.trans ?_ (back_0_5 _ _ k s)
    pointwise [k0_pay108, chan]
    split_ifs <;> first | (exfalso; omega) | rw [e]
  | ⟨6, _⟩ =>
    have e : ∀ h, (⟨384 + k.val - 64 - 64 - 64 - 64 - 64 - 64, h⟩ : Fin 64) = k := fun h => Fin.ext (by show 384 + k.val - 64 - 64 - 64 - 64 - 64 - 64 = k.val; omega)
    refine Eq.trans ?_ (back_0_6 _ _ k s)
    pointwise [k0_pay108, chan]
    split_ifs <;> first | (exfalso; omega) | rw [e]
  | ⟨7, _⟩ =>
    have e : 448 + k.val - 64 - 64 - 64 - 64 - 64 - 64 - 64 = k.val := by omega
    pointwise [k0_pay108, k0_pay105, k0_pay104, chan, tok]
    rw [dif_neg (show ¬ 448 + k.val < 64 by omega), dif_neg (show ¬ 448 + k.val - 64 < 64 by omega), dif_neg (show ¬ 448 + k.val - 64 - 64 < 64 by omega), dif_neg (show ¬ 448 + k.val - 64 - 64 - 64 < 64 by omega), dif_neg (show ¬ 448 + k.val - 64 - 64 - 64 - 64 < 64 by omega), dif_neg (show ¬ 448 + k.val - 64 - 64 - 64 - 64 - 64 < 64 by omega), dif_neg (show ¬ 448 + k.val - 64 - 64 - 64 - 64 - 64 - 64 < 64 by omega)]
    simp only [e]

/-- The first block's columns of the two blocks side by side. -/
theorem beside_0 (A : FVec Ideal S512x256 .f32) (P : FVec Ideal S512x128 .f32) (W : Fin 8 → Vec Ideal S1x128x128 .bf16) (d : Fin 512)
    (s : Fin 128) :
    k0_pay166 A P (k0_pay115 (k0_pay112 A) (W 0)) (k0_pay122 (k0_pay119 A) (W 1)) (k0_pay130 (k0_pay126 A) (k0_pay129 (W 2)))
        (k0_pay138 (k0_pay134 A) (k0_pay137 (W 3)) (constant S64x128 .f32 0x00000000#32)) (k0_pay145 A (W 4)) (k0_pay152 A (W 5))
        (k0_pay159 A (W 6)) (W 7) (ix2 d (tok 0 s)) = P (ix2 d s) := by
  pointwise [k0_pay166, tok]

set_option maxHeartbeats 1000000 in
/-- … and the second block's, head by head. -/
theorem beside_1 (A : FVec Ideal S512x256 .f32) (P : FVec Ideal S512x128 .f32) (W : Fin 8 → Vec Ideal S1x128x128 .bf16) (a : Fin 8) (k : Fin 64)
    (s : Fin 128) :
    k0_pay166 A P (k0_pay115 (k0_pay112 A) (W 0)) (k0_pay122 (k0_pay119 A) (W 1)) (k0_pay130 (k0_pay126 A) (k0_pay129 (W 2)))
        (k0_pay138 (k0_pay134 A) (k0_pay137 (W 3)) (constant S64x128 .f32 0x00000000#32)) (k0_pay145 A (W 4)) (k0_pay152 A (W 5))
        (k0_pay159 A (W 6)) (W 7) (ix2 (chan a k) (tok 1 s))
      = ∑ t : Fin 128, A (ix2 (chan a k) (tok 1 t)) * W a (ix3 0 t s) := by
  match a with
  | ⟨0, _⟩ =>
    refine Eq.trans ?_ (back_1_0 _ _ k s)
    pointwise [k0_pay166, chan, tok]
  | ⟨1, _⟩ =>
    have e : ∀ h, (⟨64 + k.val - 64, h⟩ : Fin 64) = k := fun h => Fin.ext (by show 64 + k.val - 64 = k.val; omega)
    refine Eq.trans ?_ (back_1_1 _ _ k s)
    pointwise [k0_pay166, chan, tok]

  | ⟨2, _⟩ =>
    have e : ∀ h, (⟨128 + k.val - 64 - 64, h⟩ : Fin 64) = k := fun h => Fin.ext (by show 128 + k.val - 64 - 64 = k.val; omega)
    refine Eq.trans ?_ (back_1_2 _ _ k s)
    pointwise [k0_pay166, chan, tok]
    split_ifs <;> first | (exfalso; omega) | rw [e]
  | ⟨3, _⟩ =>
    have e : ∀ h, (⟨192 + k.val - 64 - 64 - 64, h⟩ : Fin 64) = k := fun h => Fin.ext (by show 192 + k.val - 64 - 64 - 64 = k.val; omega)
    refine Eq.trans ?_ (back_1_3 _ _ k s)
    pointwise [k0_pay166, chan, tok]
    split_ifs <;> first | (exfalso; omega) | rw [e]
  | ⟨4, _⟩ =>
    have e : ∀ h, (⟨256 + k.val - 64 - 64 - 64 - 64, h⟩ : Fin 64) = k := fun h => Fin.ext (by show 256 + k.val - 64 - 64 - 64 - 64 = k.val; omega)
    refine Eq.trans ?_ (back_1_4 _ _ k s)
    pointwise [k0_pay166, chan, tok]
    split_ifs <;> first | (exfalso; omega) | rw [e]
  | ⟨5, _⟩ =>
    have e : ∀ h, (⟨320 + k.val - 64 - 64 - 64 - 64 - 64, h⟩ : Fin 64) = k := fun h => Fin.ext (by show 320 + k.val - 64 - 64 - 64 - 64 - 64 = k.val; omega)
    refine Eq.trans ?_ (back_1_5 _ _ k s)
    pointwise [k0_pay166, chan, tok]
    split_ifs <;> first | (exfalso; omega) | rw [e]
  | ⟨6, _⟩ =>
    have e : ∀ h, (⟨384 + k.val - 64 - 64 - 64 - 64 - 64 - 64, h⟩ : Fin 64) = k := fun h => Fin.ext (by show 384 + k.val - 64 - 64 - 64 - 64 - 64 - 64 = k.val; omega)
    refine Eq.trans ?_ (back_1_6 _ _ k s)
    pointwise [k0_pay166, chan, tok]
    split_ifs <;> first | (exfalso; omega) | rw [e]
  | ⟨7, _⟩ =>
    have e : 448 + k.val - 64 - 64 - 64 - 64 - 64 - 64 - 64 = k.val := by omega
    pointwise [k0_pay166, k0_pay163, k0_pay162, chan, tok]
    rw [dif_neg (show ¬ 448 + k.val < 64 by omega), dif_neg (show ¬ 448 + k.val - 64 < 64 by omega), dif_neg (show ¬ 448 + k.val - 64 - 64 < 64 by omega), dif_neg (show ¬ 448 + k.val - 64 - 64 - 64 < 64 by omega), dif_neg (show ¬ 448 + k.val - 64 - 64 - 64 - 64 < 64 by omega), dif_neg (show ¬ 448 + k.val - 64 - 64 - 64 - 64 - 64 < 64 by omega), dif_neg (show ¬ 448 + k.val - 64 - 64 - 64 - 64 - 64 - 64 < 64 by omega)]
    simp only [e]

theorem t168 (B : FVec Ideal S512x256 .f32) (V : Vec Ideal S512x128 .f32) (d : Fin 512) (s : Fin 128) :
    k0_pay168 B V (ix2 d s) = V (ix2 d s) + B (ix2 d (tok 0 s)) := by
  pointwise [k0_pay168]
  simp [tok]

end Cert.MixIdeal.Hand

end
-- ==== Proof.MixRead.lean ====
module

public import proofs.«01_k».proof.Proof.Gen.MixIdeal.Skeleton
public import Idealize.ShloMosaic.Lib.ValueIdx
public import Idealize.ShloMosaic.Lib.Pointwise
public import Idealize.ShloMosaic.Lib.VecWindow
public import Idealize.ShloMosaic.Lib.WritesUnit
public import Idealize.ShloMosaic.Lib.WholeRead

/-!
Loads and stores of one head's part of a buffer: a row of an 8 by 128 buffer,
or a 128 by 128 matrix of a buffer of eight.
-/

@[expose] public section

set_option maxRecDepth 16384

noncomputable section

namespace Cert.MixIdeal.Hand

open Cert.MixIdeal Cert.MixIdeal.Gen
open Idealize.ShloMosaic

variable {F : FTy → Type} [FloatOps F] {sp : Space} {e : EltTy}

/-- Matrix `r` of a buffer of eight. -/
def mat (S : Vec F S8x128x128 e) (r : Fin 8) : Vec F S1x128x128 e := fun j => S (ix3 r (j 1) (j 2))
/-- The buffer with matrix `r` replaced. -/
def putMat (r : Fin 8) (w : Vec F S1x128x128 e) (S : Vec F S8x128x128 e) : Vec F S8x128x128 e := fun j =>
  if (show Fin 8 from j 0) = r then w (ix3 0 (j 1) (j 2)) else S j
/-- Row `r` of a buffer of eight rows. -/
def row (S : Vec F S8x128 e) (r : Fin 8) : Vec F S1x128 e := fun j => S (ix2 r (j 1))
/-- The buffer with row `r` replaced. -/
def putRow (r : Fin 8) (w : Vec F S1x128 e) (S : Vec F S8x128 e) : Vec F S8x128 e := fun j =>
  if (show Fin 8 from j 0) = r then w (ix2 0 (j 1)) else S j
/-- The upper 512 rows. -/
def upper (S : Vec F S1024x256 e) : Vec F S512x256 e := fun j => S (ix2 ⟨(j 0).val, lt_of_lt_of_le (j 0).isLt (by decide)⟩ (j 1))

theorem mat_lt {r : ℕ} (inb : ∀ a, (![r, 0, 0] : Fin 3 → ℕ) a + (![1, 128, 128] : Fin 3 → ℕ) a ≤ S8x128x128.size a) : r < 8 := by
  have := inb 0
  simp [S1x128x128, S8x128x128] at this
  omega

theorem row_lt {r : ℕ} (inb : ∀ a, (![r, 0] : Fin 2 → ℕ) a + (![1, 128] : Fin 2 → ℕ) a ≤ S8x128.size a) : r < 8 := by
  have := inb 0
  simp [S1x128, S8x128] at this
  omega

/-- A store of one matrix, read back. -/
theorem read_mat (v : View sig .tc sp S8x128x128 e) (f : v.ty.Contents (Elt F)) (r : ℕ) (inb) (w : Vec F S1x128x128 e)
    (L : List (View.Piece (Elt F) S8x128x128 e)) :
    v.read (Elt F) (v.writes (Elt F) f (⟨Rect.unit (s := S8x128x128) ![r, 0, 0] ![1, 128, 128] inb, w⟩ :: L))
      = putMat ⟨r, mat_lt inb⟩ w (v.read (Elt F) (v.writes (Elt F) f L)) := by
  funext y
  unfold putMat
  split
  · next h =>
    have h' : (y 0).val = r := congrArg Fin.val h
    refine View.read_writes_cons_unit_of_mem v f inb w L y (ix3 0 (y 1) (y 2)) rfl fun a => ?_
    match a with
    | ⟨0, _⟩ => exact h'
    | ⟨1, _⟩ => exact (Nat.zero_add _).symm
    | ⟨2, _⟩ => exact (Nat.zero_add _).symm
  · next h =>
    have h' : (y 0).val ≠ r := fun q => h (Fin.ext q)
    refine View.read_writes_cons_unit_of_not_mem v f inb w L y rfl 0 ?_
    show (y 0).val < r ∨ r + 1 ≤ (y 0).val
    omega

/-- A store of one row, read back. -/
theorem read_row (v : View sig .tc sp S8x128 e) (f : v.ty.Contents (Elt F)) (r : ℕ) (inb) (w : Vec F S1x128 e)
    (L : List (View.Piece (Elt F) S8x128 e)) :
    v.read (Elt F) (v.writes (Elt F) f (⟨Rect.unit (s := S8x128) ![r, 0] ![1, 128] inb, w⟩ :: L))
      = putRow ⟨r, row_lt inb⟩ w (v.read (Elt F) (v.writes (Elt F) f L)) := by
  funext y
  unfold putRow
  split
  · next h =>
    have h' : (y 0).val = r := congrArg Fin.val h
    refine View.read_writes_cons_unit_of_mem v f inb w L y (ix2 0 (y 1)) rfl fun a => ?_
    match a with
    | ⟨0, _⟩ => exact h'
    | ⟨1, _⟩ => exact (Nat.zero_add _).symm
  · next h =>
    have h' : (y 0).val ≠ r := fun q => h (Fin.ext q)
    refine View.read_writes_cons_unit_of_not_mem v f inb w L y rfl 0 ?_
    show (y 0).val < r ∨ r + 1 ≤ (y 0).val
    omega

/-- A load of one matrix. -/
theorem readAt_mat (v : View sig .tc sp S8x128x128 e) (f : v.ty.Contents (Elt F)) (r : ℕ) (inb) :
    v.readAt (Elt F) (Rect.unit (s := S8x128x128) ![r, 0, 0] ![1, 128, 128] inb).toLoadRect f
      = mat (v.read (Elt F) f) ⟨r, mat_lt inb⟩ := by
  funext j
  refine congrArg (v.read (Elt F) f) (funext fun a => Fin.ext ?_)
  match a with
  | ⟨0, _⟩ =>
    have : (j 0).val = 0 := by have := (j 0).isLt; simp [S1x128x128] at this; omega
    show r + 1 * (j 0).val = r
    omega
  | ⟨1, _⟩ => show 0 + 1 * (j 1).val = (j 1).val; omega
  | ⟨2, _⟩ => show 0 + 1 * (j 2).val = (j 2).val; omega

theorem readCov_mat (v : View sig .tc sp S8x128x128 e) (L : List (View.Piece (Elt F) S8x128x128 e)) (r : ℕ) (inb) :
    v.readCov L (Rect.unit (s := S8x128x128) ![r, 0, 0] ![1, 128, 128] inb).toLoadRect
      = mat (v.read (Elt F) (v.writes (Elt F) v.junk L)) ⟨r, mat_lt inb⟩ := readAt_mat v _ r inb

/-- A load of one row. -/
theorem readAt_row (v : View sig .tc sp S8x128 e) (f : v.ty.Contents (Elt F)) (r : ℕ) (inb) :
    v.readAt (Elt F) (Rect.unit (s := S8x128) ![r, 0] ![1, 128] inb).toLoadRect f
      = row (v.read (Elt F) f) ⟨r, row_lt inb⟩ := by
  funext j
  refine congrArg (v.read (Elt F) f) (funext fun a => Fin.ext ?_)
  match a with
  | ⟨0, _⟩ =>
    have : (j 0).val = 0 := by have := (j 0).isLt; simp [S1x128] at this; omega
    show r + 1 * (j 0).val = r
    omega
  | ⟨1, _⟩ => show 0 + 1 * (j 1).val = (j 1).val; omega

theorem readCov_row (v : View sig .tc sp S8x128 e) (L : List (View.Piece (Elt F) S8x128 e)) (r : ℕ) (inb) :
    v.readCov L (Rect.unit (s := S8x128) ![r, 0] ![1, 128] inb).toLoadRect
      = row (v.read (Elt F) (v.writes (Elt F) v.junk L)) ⟨r, row_lt inb⟩ := readAt_row v _ r inb

/-- A load of the upper 512 rows. -/
theorem readAt_upper (v : View sig .tc sp S1024x256 e) (f : v.ty.Contents (Elt F)) (inb) :
    v.readAt (Elt F) (Rect.unit (s := S1024x256) ![0, 0] ![512, 256] inb).toLoadRect f = upper (v.read (Elt F) f) := by
  funext j
  refine congrArg (v.read (Elt F) f) (funext fun a => Fin.ext ?_)
  match a with
  | ⟨0, _⟩ => show 0 + 1 * (j 0).val = (j 0).val; omega
  | ⟨1, _⟩ => show 0 + 1 * (j 1).val = (j 1).val; omega

theorem mat_put (r : ℕ) (hr : r < 8) (w : Vec F S1x128x128 e) (S : Vec F S8x128x128 e) (r' : ℕ) (hr' : r' < 8) (h : r = r') :
    mat (putMat ⟨r', hr'⟩ w S) ⟨r, hr⟩ = w := by
  subst h
  funext j
  have : j = ix3 0 (j 1) (j 2) := by
    rw [show (0 : Fin 1) = j 0 from (Fin.eq_zero (j 0)).symm]
    exact ValueIdx.eq_ix3 j
  rw [this]
  exact if_pos rfl

theorem mat_put_other (r r' : ℕ) (hr : r < 8) (hr' : r' < 8) (h : r ≠ r') (w : Vec F S1x128x128 e) (S : Vec F S8x128x128 e) :
    mat (putMat ⟨r', hr'⟩ w S) ⟨r, hr⟩ = mat S ⟨r, hr⟩ :=
  funext fun j => if_neg fun q => h (congrArg Fin.val q)

theorem row_put (r : ℕ) (hr : r < 8) (w : Vec F S1x128 e) (S : Vec F S8x128 e) (r' : ℕ) (hr' : r' < 8) (h : r = r') :
    row (putRow ⟨r', hr'⟩ w S) ⟨r, hr⟩ = w := by
  subst h
  funext j
  have : j = ix2 0 (j 1) := by
    rw [show (0 : Fin 1) = j 0 from (Fin.eq_zero (j 0)).symm]
    exact ValueIdx.eq_ix2 j
  rw [this]
  exact if_pos rfl

theorem row_put_other (r r' : ℕ) (hr : r < 8) (hr' : r' < 8) (h : r ≠ r') (w : Vec F S1x128 e) (S : Vec F S8x128 e) :
    row (putRow ⟨r', hr'⟩ w S) ⟨r, hr⟩ = row S ⟨r, hr⟩ :=
  funext fun j => if_neg fun q => h (congrArg Fin.val q)

/-- Two buffers that agree matrix by matrix are equal. -/
theorem mat_ext {S T : Vec F S8x128x128 e} (h : ∀ r, mat S r = mat T r) : S = T := by
  funext j
  have := congrFun (h (j 0)) (ix3 0 (j 1) (j 2))
  rw [ValueIdx.eq_ix3 j]
  exact this

theorem row_ext {S T : Vec F S8x128 e} (h : ∀ r, row S r = row T r) : S = T := by
  funext j
  have := congrFun (h (j 0)) (ix2 0 (j 1))
  rw [ValueIdx.eq_ix2 j]
  exact this

theorem read_full2 {a b : ℕ} (v : View sig .tc sp (⟨2, ![a, b]⟩ : Shape) e) (f : v.ty.Contents (Elt F)) (inb)
    (w : (⟨2, ![a, b]⟩ : Shape).Idx → Elt F e) (L : List (View.Piece (Elt F) (⟨2, ![a, b]⟩ : Shape) e)) :
    v.read (Elt F) (v.writes (Elt F) f (⟨Rect.unit (s := ⟨2, ![a, b]⟩) ![0, 0] ![a, b] inb, w⟩ :: L)) = w :=
  View.read_writes_full v f inb w L

theorem readAt_full2 {a b : ℕ} (v : View sig .tc sp (⟨2, ![a, b]⟩ : Shape) e) (f : v.ty.Contents (Elt F)) (inb) :
    v.readAt (Elt F) (Rect.unit (s := ⟨2, ![a, b]⟩) ![0, 0] ![a, b] inb).toLoadRect f = v.read (Elt F) f := View.readAt_full v f inb

theorem readCov_full2 {a b : ℕ} (v : View sig .tc sp (⟨2, ![a, b]⟩ : Shape) e) (inb) (inb')
    (w : (⟨2, ![a, b]⟩ : Shape).Idx → Elt F e) (L : List (View.Piece (Elt F) (⟨2, ![a, b]⟩ : Shape) e)) :
    v.readCov (⟨Rect.unit (s := ⟨2, ![a, b]⟩) ![0, 0] ![a, b] inb', w⟩ :: L) (Rect.unit (s := ⟨2, ![a, b]⟩) ![0, 0] ![a, b] inb).toLoadRect = w :=
  View.readCov_full v inb inb' w L

theorem readCov_acc {κ : Kind} (v : View sig κ sp S512x128 e) (inb) (inb') (w : Vec F S512x128 e) (L : List (View.Piece (Elt F) S512x128 e)) :
    v.readCov (⟨Rect.unit (s := S512x128) ![0, 0] ![512, 128] inb', w⟩ :: L) (Rect.unit (s := S512x128) ![0, 0] ![512, 128] inb).toLoadRect = w :=
  View.readCov_full v inb inb' w L

theorem read_full3 {a b d : ℕ} (v : View sig .tc sp (⟨3, ![a, b, d]⟩ : Shape) e) (f : v.ty.Contents (Elt F)) (inb)
    (w : (⟨3, ![a, b, d]⟩ : Shape).Idx → Elt F e) (L : List (View.Piece (Elt F) (⟨3, ![a, b, d]⟩ : Shape) e)) :
    v.read (Elt F) (v.writes (Elt F) f (⟨Rect.unit (s := ⟨3, ![a, b, d]⟩) ![0, 0, 0] ![a, b, d] inb, w⟩ :: L)) = w :=
  View.read_writes_full v f inb w L

end Cert.MixIdeal.Hand

end
-- ==== Proof.MixMask.lean ====
module

public import proofs.«01_k».proof.Proof.MixPoint
public import proofs.«01_k».proof.Proof.MixRead
public import Idealize.ShloMosaic.Lib.WordCmp

/-!
The causal mask, the gate's values at a grid point, and the sums over a block.
-/

@[expose] public section

set_option maxRecDepth 16384

noncomputable section

namespace Cert.MixIdeal.Hand

open Cert.MixIdeal Cert.MixIdeal.Gen
open Idealize.ShloMosaic

theorem ix_mat (j : S1x128x128.Idx) : ∃ r s : Fin 128, j = ix3 0 r s := ⟨j 1, j 2, by
  rw [show (0 : Fin 1) = j 0 from (Fin.eq_zero (j 0)).symm]
  exact ValueIdx.eq_ix3 j⟩

theorem ix_row (j : S1x128.Idx) : ∃ r : Fin 128, j = ix2 0 r := ⟨j 1, by
  rw [show (0 : Fin 1) = j 0 from (Fin.eq_zero (j 0)).symm]
  exact ValueIdx.eq_ix2 j⟩

/-- A matrix with the entries above the diagonal set to zero. -/
def tri (V : Vec Ideal S1x128x128 .f32) : FVec Ideal S1x128x128 .bf16 := fun j =>
  if (show Fin 128 from j 2) ≤ (show Fin 128 from j 1) then V j else 0
/-- … and eight of them. -/
def tri8 (V : Vec Ideal S8x128x128 .f32) : Vec Ideal S8x128x128 .bf16 := fun j =>
  if (show Fin 128 from j 2) ≤ (show Fin 128 from j 1) then V j else 0

theorem mat_tri8 (V : Vec Ideal S8x128x128 .f32) (a : Fin 8) : mat (tri8 V) a = tri (mat V a) := rfl

theorem tri_congr (V W : Vec Ideal S1x128x128 .f32) (r s : Fin 128) (h : V (ix3 0 r s) = W (ix3 0 r s)) : tri V (ix3 0 r s) = tri W (ix3 0 r s) :=
  congrArg (fun x : EReal => if s ≤ r then x else 0) h

theorem sel (r s : Fin 128) (x y : EReal) :
    Scalar.select (IntOp.cmpi .sge (BitVec.ofNat 32 r.val) (BitVec.ofNat 32 s.val)) x y = if s ≤ r then x else y := by
  rw [WordCmp.cmpi_sge_ofNat (by omega) (by omega), WordCmp.select_ofBool]
  simp only [decide_eq_true_eq]
  rfl

theorem tri_6 (V : Vec Ideal S1x128x128 .f32) : k0_pay6 V = tri V := by
  funext j
  obtain ⟨r, s, rfl⟩ := ix_mat j
  pointwise [k0_pay6, k0_pay5]
  rw [sel]
  rfl

theorem tri_7 (V : Vec Ideal S1x128x128 .f32) : k0_pay7 V = tri V := by
  funext j
  obtain ⟨r, s, rfl⟩ := ix_mat j
  pointwise [k0_pay7, k0_pay5]
  rw [sel]
  rfl

theorem tri_8 (V : Vec Ideal S1x128x128 .f32) : k0_pay8 V = tri V := by
  funext j
  obtain ⟨r, s, rfl⟩ := ix_mat j
  pointwise [k0_pay8, k0_pay5]
  rw [sel]
  rfl

theorem tri_10 (V : Vec Ideal S1x128x128 .f32) : k0_pay10 (k0_pay9 V) = tri V := by
  funext j
  obtain ⟨r, s, rfl⟩ := ix_mat j
  pointwise [k0_pay10, k0_pay9, k0_pay5]
  rw [sel]
  rfl

theorem tri_11 (V : Vec Ideal S1x128x128 .f32) : k0_pay11 k0_pay5 V = tri V := by
  funext j
  obtain ⟨r, s, rfl⟩ := ix_mat j
  pointwise [k0_pay11, k0_pay5]
  rw [sel]
  rfl

theorem tri_12 (V : Vec Ideal S1x128x128 .f32) : k0_pay12 k0_pay5 V = tri V := by
  funext j
  obtain ⟨r, s, rfl⟩ := ix_mat j
  pointwise [k0_pay12, k0_pay5]
  rw [sel]
  rfl

theorem tri_13 (V : Vec Ideal S1x128x128 .f32) : k0_pay13 k0_pay5 V = tri V := by
  funext j
  obtain ⟨r, s, rfl⟩ := ix_mat j
  pointwise [k0_pay13, k0_pay5]
  rw [sel]
  rfl

theorem tri_30 (V : Vec Ideal S1x128x128 .f32) : k0_pay30 k0_pay5 (k0_pay14 V) = tri V := by
  funext j
  obtain ⟨r, s, rfl⟩ := ix_mat j
  pointwise [k0_pay30, k0_pay14, k0_pay5]
  rw [sel]
  rfl

theorem tri_16 (V : Vec Ideal S1x128x128 .f32) : k0_pay16 V = tri V := by
  funext j
  obtain ⟨r, s, rfl⟩ := ix_mat j
  pointwise [k0_pay16, k0_pay15]
  rw [sel]
  rfl

theorem tri_17 (V : Vec Ideal S1x128x128 .f32) : k0_pay17 V = tri V := by
  funext j
  obtain ⟨r, s, rfl⟩ := ix_mat j
  pointwise [k0_pay17, k0_pay15]
  rw [sel]
  rfl

theorem tri_18 (V : Vec Ideal S1x128x128 .f32) : k0_pay18 V = tri V := by
  funext j
  obtain ⟨r, s, rfl⟩ := ix_mat j
  pointwise [k0_pay18, k0_pay15]
  rw [sel]
  rfl

theorem tri_20 (V : Vec Ideal S1x128x128 .f32) : k0_pay20 (k0_pay19 V) = tri V := by
  funext j
  obtain ⟨r, s, rfl⟩ := ix_mat j
  pointwise [k0_pay20, k0_pay19, k0_pay15]
  rw [sel]
  rfl

theorem tri_21 (V : Vec Ideal S1x128x128 .f32) : k0_pay21 k0_pay15 V = tri V := by
  funext j
  obtain ⟨r, s, rfl⟩ := ix_mat j
  pointwise [k0_pay21, k0_pay15]
  rw [sel]
  rfl

theorem tri_22 (V : Vec Ideal S1x128x128 .f32) : k0_pay22 k0_pay15 V = tri V := by
  funext j
  obtain ⟨r, s, rfl⟩ := ix_mat j
  pointwise [k0_pay22, k0_pay15]
  rw [sel]
  rfl

theorem tri_23 (V : Vec Ideal S1x128x128 .f32) : k0_pay23 k0_pay15 V = tri V := by
  funext j
  obtain ⟨r, s, rfl⟩ := ix_mat j
  pointwise [k0_pay23, k0_pay15]
  rw [sel]
  rfl

theorem tri_1 (V : Vec Ideal S1x128x128 .f32) : k0_pay1 k0_pay15 (k0_pay24 V) = tri V := by
  funext j
  obtain ⟨r, s, rfl⟩ := ix_mat j
  pointwise [k0_pay1, k0_pay24, k0_pay15]
  rw [sel]
  rfl

/-- The gradient by the gate's mixed values at a grid point. -/
def dm (u : Vec Ideal S512x256 .f32) (d : Vec Ideal S1024x256 .f32) : FVec Ideal S512x256 .f32 := k0_pay49 (k0_pay36 u) (upper d)
/-- The normalised gate values at a grid point. -/
def xh (v : Vec Ideal S512x256 .f32) : FVec Ideal S512x256 .f32 := k0_pay46 (k0_pay44 v) (k0_pay45 v)
/-- … with scale and shift. -/
def vp (v : Vec Ideal S512x256 .f32) (g b : Vec Ideal S512x1 .f32) : FVec Ideal S512x256 .bf16 :=
  k0_pay47 (k0_pay31 g) (k0_pay43 b) (k0_pay44 v) (k0_pay45 v)

theorem vp_at (v : Vec Ideal S512x256 .f32) (g b : Vec Ideal S512x1 .f32) (d : Fin 512) (t : Fin 256) :
    vp v g b (ix2 d t) = xh v (ix2 d t) * g (ix2 d 0) + b (ix2 d 0) := by
  unfold vp xh
  pointwise [k0_pay46, k0_pay47, k0_pay31, k0_pay43]

/-- The gate's derivative by its normalised values at a grid point, as the kernel joins it from sixteen products. -/
def dv (u : Vec Ideal S512x256 .f32) (d : Vec Ideal S1024x256 .f32) (W : Vec Ideal S8x128x128 .bf16) : FVec Ideal S512x256 .f32 :=
  k0_pay166 (dm u d)
    (k0_pay108 (k0_pay57 (k0_pay53 (k0_pay36 u) (upper d)) (mat W 0)) (k0_pay65 (k0_pay61 (dm u d)) (mat W 1)) (k0_pay73 (k0_pay69 (dm u d)) (mat W 2))
      (k0_pay80 (k0_pay77 (dm u d)) (mat W 3)) (k0_pay87 (k0_pay84 (dm u d)) (mat W 4)) (k0_pay94 (k0_pay91 (dm u d)) (mat W 5))
      (k0_pay101 (k0_pay98 (dm u d)) (mat W 6)) (k0_pay105 (dm u d)) (mat W 7))
    (k0_pay115 (k0_pay112 (dm u d)) (mat W 0)) (k0_pay122 (k0_pay119 (dm u d)) (mat W 1)) (k0_pay130 (k0_pay126 (dm u d)) (k0_pay129 (mat W 2)))
    (k0_pay138 (k0_pay134 (dm u d)) (k0_pay137 (mat W 3)) (constant S64x128 .f32 0x00000000#32)) (k0_pay145 (dm u d) (mat W 4))
    (k0_pay152 (dm u d) (mat W 5)) (k0_pay159 (dm u d) (mat W 6)) (mat W 7)

theorem dv_0 (u : Vec Ideal S512x256 .f32) (d : Vec Ideal S1024x256 .f32) (W : Vec Ideal S8x128x128 .bf16) (a : Fin 8) (k : Fin 64) (s : Fin 128) :
    dv u d W (ix2 (chan a k) (tok 0 s)) = ∑ t : Fin 128, dm u d (ix2 (chan a k) (tok 0 t)) * W (ix3 a t s) :=
  (beside_0 _ _ (mat W) _ s).trans (stack_0 _ _ (mat W) a k s)

theorem dv_1 (u : Vec Ideal S512x256 .f32) (d : Vec Ideal S1024x256 .f32) (W : Vec Ideal S8x128x128 .bf16) (a : Fin 8) (k : Fin 64) (s : Fin 128) :
    dv u d W (ix2 (chan a k) (tok 1 s)) = ∑ t : Fin 128, dm u d (ix2 (chan a k) (tok 1 t)) * W (ix3 a t s) :=
  beside_1 _ _ (mat W) a k s

/-- What a grid point adds to the spatial weight's gradient. -/
def gwsStep (A : FVec Ideal S512x256 .f32) (B : FVec Ideal S512x256 .bf16) (S : Vec Ideal S8x128x128 .f32) : Vec Ideal S8x128x128 .f32 := fun j =>
  S j + (∑ k : Fin 64, A (ix2 (chan (j 0) k) (tok 0 (j 1))) * B (ix2 (chan (j 0) k) (tok 0 (j 2))))
    + ∑ k : Fin 64, A (ix2 (chan (j 0) k) (tok 1 (j 1))) * B (ix2 (chan (j 0) k) (tok 1 (j 2)))

/-- What a grid point adds to the spatial bias's gradient. -/
def gbsStep (A : FVec Ideal S512x256 .f32) (S : Vec Ideal S8x128 .f32) : Vec Ideal S8x128 .f32 := fun j =>
  S j + (∑ k : Fin 64, A (ix2 (chan (j 0) k) (tok 0 (j 1)))) + ∑ k : Fin 64, A (ix2 (chan (j 0) k) (tok 1 (j 1)))

/-- What a grid point adds to the two running sums over positions. -/
def accStep (B : FVec Ideal S512x256 .f32) (S : Vec Ideal S512x128 .f32) : Vec Ideal S512x128 .f32 := fun j =>
  S j + B (ix2 (j 0) (tok 0 (j 1))) + B (ix2 (j 0) (tok 1 (j 1)))

theorem acc_db (B : FVec Ideal S512x256 .f32) (S : Vec Ideal S512x128 .f32) : k0_pay171 B (k0_pay169 B S) = accStep B S := by
  funext j
  obtain ⟨d, s, rfl⟩ : ∃ (d : Fin 512) (s : Fin 128), j = ix2 d s := ⟨j 0, j 1, ValueIdx.eq_ix2 j⟩
  unfold accStep
  pointwise [k0_pay171, k0_pay169, tok]

theorem acc_dg (B : FVec Ideal S512x256 .f32) (S : Vec Ideal S512x128 .f32) : k0_pay170 B (k0_pay168 B S) = accStep B S := by
  funext j
  obtain ⟨d, s, rfl⟩ : ∃ (d : Fin 512) (s : Fin 128), j = ix2 d s := ⟨j 0, j 1, ValueIdx.eq_ix2 j⟩
  unfold accStep
  pointwise [k0_pay170, k0_pay168, tok]

/-- The two rows of the layer norm's gradients, the other six rows zero. -/
def vlnOut (G B : Vec Ideal S512x128 .f32) : Vec Ideal S8x512 .f32 := fun j =>
  if (j 0).val = 0 then ∑ x : Fin 128, G (ix2 (j 1) x) else if (j 0).val = 1 then ∑ x : Fin 128, B (ix2 (j 1) x) else 0

theorem sum_g (V : Vec Ideal S512x128 .f32) (k : Fin 512) : k0_pay3 V (ix2 0 k) = ∑ x : Fin 128, V (ix2 k x) := by
  pointwise [k0_pay3]
theorem sum_b (V : Vec Ideal S512x128 .f32) (k : Fin 512) : k0_pay4 V (ix2 0 k) = ∑ x : Fin 128, V (ix2 k x) := by
  pointwise [k0_pay4]
theorem sum_0 (j : S8x512.Idx) : k0_pay2 (F := Ideal) j = 0 := by
  obtain ⟨d, s, rfl⟩ : ∃ (d : Fin 8) (s : Fin 512), j = ix2 d s := ⟨j 0, j 1, ValueIdx.eq_ix2 j⟩
  pointwise [k0_pay2]

theorem vln_hit {sp : Space} (v : View sig .tc sp S8x512 .f32) (f : v.ty.Contents (Elt Ideal)) (r : ℕ) (inb) (w : Vec Ideal S1x512 .f32)
    (L : List (View.Piece (Elt Ideal) S8x512 .f32)) (y : S8x512.Idx) (h : (y 0).val = r) :
    v.read (Elt Ideal) (v.writes (Elt Ideal) f (⟨Rect.unit (s := S8x512) ![r, 0] ![1, 512] inb, w⟩ :: L)) y = w (ix2 0 (y 1)) := by
  refine View.read_writes_cons_unit_of_mem v f inb w L y (ix2 0 (y 1)) rfl fun a => ?_
  match a with
  | ⟨0, _⟩ => exact h
  | ⟨1, _⟩ => exact (Nat.zero_add _).symm

theorem vln_miss {sp : Space} (v : View sig .tc sp S8x512 .f32) (f : v.ty.Contents (Elt Ideal)) (r : ℕ) (inb) (w : Vec Ideal S1x512 .f32)
    (L : List (View.Piece (Elt Ideal) S8x512 .f32)) (y : S8x512.Idx) (h : (y 0).val ≠ r) :
    v.read (Elt Ideal) (v.writes (Elt Ideal) f (⟨Rect.unit (s := S8x512) ![r, 0] ![1, 512] inb, w⟩ :: L)) y
      = v.read (Elt Ideal) (v.writes (Elt Ideal) f L) y := by
  refine View.read_writes_cons_unit_of_not_mem v f inb w L y rfl 0 ?_
  show (y 0).val < r ∨ r + 1 ≤ (y 0).val
  omega

theorem read_vln {sp : Space} (v : View sig .tc sp S8x512 .f32) (f : v.ty.Contents (Elt Ideal)) (G B : Vec Ideal S512x128 .f32) :
    v.read (Elt Ideal) (v.writes (Elt Ideal) f
      [⟨Rect.unit (s := S8x512) ![1, 0] ![1, 512] inb_S8x512_S1x512_1_0, k0_pay4 B⟩,
        ⟨Rect.unit (s := S8x512) ![0, 0] ![1, 512] inb_S8x512_S1x512_0_0, k0_pay3 G⟩,
        ⟨Rect.unit (s := S8x512) ![0, 0] ![8, 512] inb_S8x512_S8x512_0_0, k0_pay2 (F := Ideal)⟩]) = vlnOut G B := by
  funext y
  unfold vlnOut
  by_cases h1 : (y 0).val = 1
  · rw [if_neg (by omega), if_pos h1]
    exact (vln_hit v f 1 _ (k0_pay4 B) _ y h1).trans (sum_b B (y 1))
  refine (vln_miss v f 1 _ (k0_pay4 B) _ y h1).trans ?_
  by_cases h0 : (y 0).val = 0
  · rw [if_pos h0]
    exact (vln_hit v f 0 _ (k0_pay3 G) _ y h0).trans (sum_g G (y 1))
  · rw [if_neg h0, if_neg h1]
    refine (vln_miss v f 0 _ (k0_pay3 G) _ y h0).trans ?_
    exact (congrFun (read_full2 v f inb_S8x512_S8x512_0_0 (k0_pay2 (F := Ideal)) []) y).trans (sum_0 y)

theorem zero_gws (j : S8x128x128.Idx) : k0_pay25 (F := Ideal) j = 0 := by
  obtain ⟨a, d, s, rfl⟩ : ∃ (a : Fin 8) (d s : Fin 128), j = ix3 a d s := ⟨j 0, j 1, j 2, ValueIdx.eq_ix3 j⟩
  pointwise [k0_pay25]
theorem zero_gbs (j : S8x128.Idx) : k0_pay26 (F := Ideal) j = 0 := by
  obtain ⟨d, s, rfl⟩ : ∃ (d : Fin 8) (s : Fin 128), j = ix2 d s := ⟨j 0, j 1, ValueIdx.eq_ix2 j⟩
  pointwise [k0_pay26]
theorem zero_dg (j : S512x128.Idx) : k0_pay28 (F := Ideal) j = 0 := by
  obtain ⟨d, s, rfl⟩ : ∃ (d : Fin 512) (s : Fin 128), j = ix2 d s := ⟨j 0, j 1, ValueIdx.eq_ix2 j⟩
  pointwise [k0_pay28]
theorem zero_db (j : S512x128.Idx) : k0_pay29 (F := Ideal) j = 0 := by
  obtain ⟨d, s, rfl⟩ : ∃ (d : Fin 512) (s : Fin 128), j = ix2 d s := ⟨j 0, j 1, ValueIdx.eq_ix2 j⟩
  pointwise [k0_pay29]

end Cert.MixIdeal.Hand

end
-- ==== Proof.MixStep.lean ====
module

public import proofs.«01_k».proof.Proof.Gen.MixIdeal.Frame
public import proofs.«01_k».proof.Proof.MixMask

/-!
What each grid point leaves in the kernel's running sums: the first point starts
them, every point adds its two blocks, the last one writes the results.
-/

@[expose] public section

set_option maxRecDepth 16384

noncomputable section

namespace Cert.MixIdeal.Hand

open Cert.MixIdeal Cert.MixIdeal.Gen Idealize.ShloMosaic Idealize.ShloMosaic.TcCoe Idealize.SL.Sem
open Idealize.ShloMosaic.Pipeline (Dat)

variable (m : (ℓ : Loc nD τ sig) → Buf (Elt Ideal) ℓ)

theorem scr0 (h : (Memref.whole cc0_scratch0).IsWhole) (x : Vec Ideal S512x128 .f32) :
    View.read (Elt Ideal) (View.whole cc0_scratch0) (h.unread x) = x := h.read_unread x
theorem scr1 (h : (Memref.whole cc0_scratch1).IsWhole) (x : Vec Ideal S512x128 .f32) :
    View.read (Elt Ideal) (View.whole cc0_scratch1) (h.unread x) = x := h.read_unread x
theorem scr2 (h : (Memref.whole cc0_scratch2).IsWhole) (x : Vec Ideal S8x128x128 .bf16) :
    View.read (Elt Ideal) (View.whole cc0_scratch2) (h.unread x) = x := h.read_unread x
theorem scr3 (h : (Memref.whole cc0_scratch3).IsWhole) (x : Vec Ideal S8x128x128 .f32) :
    View.read (Elt Ideal) (View.whole cc0_scratch3) (h.unread x) = x := h.read_unread x

/-- What the point before left. -/
def before (c : Dev nD) (t : Fin cfg0.N) := outsAt0 m c (t.val - 1) (Nat.lt_of_le_of_lt (Nat.sub_le _ _) t.isLt)

set_option maxHeartbeats 4000000 in
theorem gws_A (c : Dev nD) (t : Fin cfg0.N) (h0 : t.val % 16 = 0) (h1 : t.val % 16 = 0) (h2 : ¬t.val % 16 = 15) :
    (outsAt0 m c t.val t.isLt).2.2.2.2.2.2.2.2.2.2 = gwsStep (dm (X0_2 m c t) (iblk m c 1 t)) (vp (X0_3 m c t) (iblk m c 13 t) (iblk m c 14 t)) (k0_pay25 (F := Ideal)) := by
  rw [outsAt0_A m c t h0 h1 h2]
  dsimp only
  unfold sout0_A_3 kernelRun0_A
  dsimp only
  simp only [kernelRun0_A.sl.HS3_1, kernelRun0_A.sl.HS3_2, kernelRun0_A.sl.HS3_3, kernelRun0_A.sl.HS3_4, kernelRun0_A.sl.HS3_5,
    kernelRun0_A.sl.HS3_6, kernelRun0_A.sl.HS3_7, kernelRun0_A.sl.HS3_8, kernelRun0_A.sl.HS3_9, kernelRun0_A.sl.HS3_10,
    kernelRun0_A.sl.HS3_11, kernelRun0_A.sl.HS3_12, kernelRun0_A.sl.HS3_13, kernelRun0_A.sl.HS3_14, kernelRun0_A.sl.HS3_15,
    kernelRun0_A.sl.HS3_16, kernelRun0_A.sl.r_2, kernelRun0_A.sl.r_3, kernelRun0_A.sl.r_5, kernelRun0_A.sl.r_7, kernelRun0_A.sl.r_8,
    kernelRun0_A.sl.r_9, kernelRun0_A.sl.r_11, kernelRun0_A.sl.r_13, kernelRun0_A.sl.r_15, kernelRun0_A.sl.r_18, kernelRun0_A.sl.r_21,
    kernelRun0_A.sl.r_24, kernelRun0_A.sl.r_46, kernelRun0_A.sl.r_48, kernelRun0_A.sl.v114, kernelRun0_A.sl.v146, kernelRun0_A.sl.v178,
    kernelRun0_A.sl.v210, kernelRun0_A.sl.v242, kernelRun0_A.sl.v274, kernelRun0_A.sl.v306, kernelRun0_A.sl.v338, kernelRun0_A.sl.v371,
    kernelRun0_A.sl.v403, kernelRun0_A.sl.v435, kernelRun0_A.sl.v467, kernelRun0_A.sl.v499, kernelRun0_A.sl.v531, kernelRun0_A.sl.v563,
    kernelRun0_A.sl.v595,
    readCov_mat, readAt_mat, read_mat, mat_put, mat_put_other, readCov_row, readAt_row, read_row, row_put, row_put_other, readAt_upper, readAt_full2, readCov_acc, read_full2, read_full3, Memref.IsWhole.read_unread, ne_eq, Nat.reduceEqDiff, OfNat.ofNat_ne_zero, OfNat.zero_ne_ofNat, not_false_eq_true, one_ne_zero, zero_ne_one, OfNat.one_ne_ofNat, OfNat.ofNat_ne_one, scr0, scr1, scr2, scr3, tri_1, tri_6, tri_7, tri_8, tri_10, tri_11, tri_12, tri_13, tri_16, tri_17, tri_18, tri_20, tri_21, tri_22, tri_23, tri_30]
  refine mat_ext fun a => funext fun j => ?_
  obtain ⟨r, s, rfl⟩ := ix_mat j
  rcases a with ⟨_ | _ | _ | _ | _ | _ | _ | _ | a, ha⟩ <;> first | omega | skip
  all_goals simp only [zero_add, Nat.reduceAdd, readCov_mat, readAt_mat, read_mat, mat_put, mat_put_other, readCov_row, readAt_row, read_row, row_put, row_put_other, readAt_upper, readAt_full2, readCov_acc, read_full2, read_full3, Memref.IsWhole.read_unread, outer_0_0, outer_0_1, outer_0_2, outer_0_3, outer_0_4, outer_0_5, outer_0_6, outer_0_7, outer_1_0, outer_1_1, outer_1_2, outer_1_3, outer_1_4, outer_1_5, outer_1_6, outer_1_7, ne_eq, Nat.reduceEqDiff, OfNat.ofNat_ne_zero, OfNat.zero_ne_ofNat, not_false_eq_true, one_ne_zero, zero_ne_one, OfNat.one_ne_ofNat, OfNat.ofNat_ne_one, scr0, scr1, scr2, scr3]
  all_goals rfl

set_option maxHeartbeats 4000000 in
theorem gbs_A (c : Dev nD) (t : Fin cfg0.N) (h0 : t.val % 16 = 0) (h1 : t.val % 16 = 0) (h2 : ¬t.val % 16 = 15) :
    (outsAt0 m c t.val t.isLt).2.2.2.2.1 = gbsStep (dm (X0_2 m c t) (iblk m c 1 t)) (k0_pay26 (F := Ideal)) := by
  rw [outsAt0_A m c t h0 h1 h2]
  dsimp only
  unfold out0_A_21 kernelRun0_A
  dsimp only
  simp only [kernelRun0_A.sl.H21_1, kernelRun0_A.sl.H21_2, kernelRun0_A.sl.H21_3, kernelRun0_A.sl.H21_4, kernelRun0_A.sl.H21_5,
    kernelRun0_A.sl.H21_6, kernelRun0_A.sl.H21_7, kernelRun0_A.sl.H21_8, kernelRun0_A.sl.H21_9, kernelRun0_A.sl.H21_10,
    kernelRun0_A.sl.H21_11, kernelRun0_A.sl.H21_12, kernelRun0_A.sl.H21_13, kernelRun0_A.sl.H21_14, kernelRun0_A.sl.H21_15,
    kernelRun0_A.sl.H21_16, kernelRun0_A.sl.r_3, kernelRun0_A.sl.r_13, kernelRun0_A.sl.v108, kernelRun0_A.sl.v140, kernelRun0_A.sl.v172,
    kernelRun0_A.sl.v204, kernelRun0_A.sl.v236, kernelRun0_A.sl.v268, kernelRun0_A.sl.v300, kernelRun0_A.sl.v332, kernelRun0_A.sl.v365,
    kernelRun0_A.sl.v397, kernelRun0_A.sl.v429, kernelRun0_A.sl.v461, kernelRun0_A.sl.v493, kernelRun0_A.sl.v525, kernelRun0_A.sl.v557,
    kernelRun0_A.sl.v589,
    readCov_mat, readAt_mat, read_mat, mat_put, mat_put_other, readCov_row, readAt_row, read_row, row_put, row_put_other, readAt_upper, readAt_full2, readCov_acc, read_full2, read_full3, Memref.IsWhole.read_unread, ne_eq, Nat.reduceEqDiff, OfNat.ofNat_ne_zero, OfNat.zero_ne_ofNat, not_false_eq_true, one_ne_zero, zero_ne_one, OfNat.one_ne_ofNat, OfNat.ofNat_ne_one, scr0, scr1, scr2, scr3, tri_1, tri_6, tri_7, tri_8, tri_10, tri_11, tri_12, tri_13, tri_16, tri_17, tri_18, tri_20, tri_21, tri_22, tri_23, tri_30]
  refine row_ext fun a => funext fun j => ?_
  obtain ⟨r, rfl⟩ := ix_row j
  rcases a with ⟨_ | _ | _ | _ | _ | _ | _ | _ | a, ha⟩ <;> first | omega | skip
  all_goals simp only [zero_add, Nat.reduceAdd, readCov_mat, readAt_mat, read_mat, mat_put, mat_put_other, readCov_row, readAt_row, read_row, row_put, row_put_other, readAt_upper, readAt_full2, readCov_acc, read_full2, read_full3, Memref.IsWhole.read_unread, row_0_0, row_0_1, row_0_2, row_0_3, row_0_4, row_0_5, row_0_6, row_0_7, row_1_0, row_1_1, row_1_2, row_1_3, row_1_4, row_1_5, row_1_6, row_1_7, ne_eq, Nat.reduceEqDiff, OfNat.ofNat_ne_zero, OfNat.zero_ne_ofNat, not_false_eq_true, one_ne_zero, zero_ne_one, OfNat.one_ne_ofNat, OfNat.ofNat_ne_one, scr0, scr1, scr2, scr3]
  all_goals rfl

set_option maxHeartbeats 4000000 in
theorem dg_A (c : Dev nD) (t : Fin cfg0.N) (h0 : t.val % 16 = 0) (h1 : t.val % 16 = 0) (h2 : ¬t.val % 16 = 15) :
    (outsAt0 m c t.val t.isLt).2.2.2.2.2.2.2.1 = accStep (mulf (dv (X0_2 m c t) (iblk m c 1 t) (tri8 (iblk m c 11 t))) (xh (X0_3 m c t))) (k0_pay28 (F := Ideal)) := by
  rw [outsAt0_A m c t h0 h1 h2]
  dsimp only
  unfold sout0_A_0 kernelRun0_A
  dsimp only
  simp only [kernelRun0_A.sl.HS0_1, kernelRun0_A.sl.HS0_2, kernelRun0_A.sl.HS2_8, kernelRun0_A.sl.cst_307, kernelRun0_A.sl.r, kernelRun0_A.sl.r_1,
    kernelRun0_A.sl.r_3, kernelRun0_A.sl.r_5, kernelRun0_A.sl.r_8, kernelRun0_A.sl.r_9, kernelRun0_A.sl.r_10, kernelRun0_A.sl.r_13,
    kernelRun0_A.sl.r_14, kernelRun0_A.sl.r_16, kernelRun0_A.sl.r_17, kernelRun0_A.sl.r_19, kernelRun0_A.sl.r_20, kernelRun0_A.sl.r_22,
    kernelRun0_A.sl.r_23, kernelRun0_A.sl.r_25, kernelRun0_A.sl.r_26, kernelRun0_A.sl.r_27, kernelRun0_A.sl.r_28, kernelRun0_A.sl.r_29,
    kernelRun0_A.sl.r_30, kernelRun0_A.sl.r_31, kernelRun0_A.sl.r_32, kernelRun0_A.sl.r_33, kernelRun0_A.sl.r_34, kernelRun0_A.sl.r_35,
    kernelRun0_A.sl.r_36, kernelRun0_A.sl.r_37, kernelRun0_A.sl.r_38, kernelRun0_A.sl.r_39, kernelRun0_A.sl.r_40, kernelRun0_A.sl.r_41,
    kernelRun0_A.sl.r_42, kernelRun0_A.sl.r_43, kernelRun0_A.sl.r_44, kernelRun0_A.sl.r_45, kernelRun0_A.sl.r_47, kernelRun0_A.sl.r_50,
    kernelRun0_A.sl.v125, kernelRun0_A.sl.v157, kernelRun0_A.sl.v189, kernelRun0_A.sl.v221, kernelRun0_A.sl.v253, kernelRun0_A.sl.v285,
    kernelRun0_A.sl.v317, kernelRun0_A.sl.v608, kernelRun0_A.sl.v620, kernelRun0_A.sl.v93,
    readCov_mat, readAt_mat, read_mat, mat_put, mat_put_other, readCov_row, readAt_row, read_row, row_put, row_put_other, readAt_upper, readAt_full2, readCov_acc, read_full2, read_full3, Memref.IsWhole.read_unread, ne_eq, Nat.reduceEqDiff, OfNat.ofNat_ne_zero, OfNat.zero_ne_ofNat, not_false_eq_true, one_ne_zero, zero_ne_one, OfNat.one_ne_ofNat, OfNat.ofNat_ne_one, scr0, scr1, scr2, scr3, tri_1, tri_6, tri_7, tri_8, tri_10, tri_11, tri_12, tri_13, tri_16, tri_17, tri_18, tri_20, tri_21, tri_22, tri_23, tri_30]
  refine (congrArg (k0_pay170 _) (readCov_acc _ _ _ _ _)).trans ((acc_dg _ _).trans ?_)
  exact congrArg (accStep _) (readCov_acc _ _ _ _ _)

set_option maxHeartbeats 4000000 in
theorem db_A (c : Dev nD) (t : Fin cfg0.N) (h0 : t.val % 16 = 0) (h1 : t.val % 16 = 0) (h2 : ¬t.val % 16 = 15) :
    (outsAt0 m c t.val t.isLt).2.2.2.2.2.2.2.2.1 = accStep (dv (X0_2 m c t) (iblk m c 1 t) (tri8 (iblk m c 11 t))) (k0_pay29 (F := Ideal)) := by
  rw [outsAt0_A m c t h0 h1 h2]
  dsimp only
  unfold sout0_A_1 kernelRun0_A
  dsimp only
  simp only [kernelRun0_A.sl.HS1_1, kernelRun0_A.sl.HS1_2, kernelRun0_A.sl.HS2_8, kernelRun0_A.sl.cst_307, kernelRun0_A.sl.r, kernelRun0_A.sl.r_1,
    kernelRun0_A.sl.r_3, kernelRun0_A.sl.r_13, kernelRun0_A.sl.r_14, kernelRun0_A.sl.r_16, kernelRun0_A.sl.r_17, kernelRun0_A.sl.r_19,
    kernelRun0_A.sl.r_20, kernelRun0_A.sl.r_22, kernelRun0_A.sl.r_23, kernelRun0_A.sl.r_25, kernelRun0_A.sl.r_26, kernelRun0_A.sl.r_27,
    kernelRun0_A.sl.r_28, kernelRun0_A.sl.r_29, kernelRun0_A.sl.r_30, kernelRun0_A.sl.r_31, kernelRun0_A.sl.r_32, kernelRun0_A.sl.r_33,
    kernelRun0_A.sl.r_34, kernelRun0_A.sl.r_35, kernelRun0_A.sl.r_36, kernelRun0_A.sl.r_37, kernelRun0_A.sl.r_38, kernelRun0_A.sl.r_39,
    kernelRun0_A.sl.r_40, kernelRun0_A.sl.r_41, kernelRun0_A.sl.r_42, kernelRun0_A.sl.r_43, kernelRun0_A.sl.r_44, kernelRun0_A.sl.r_45,
    kernelRun0_A.sl.r_47, kernelRun0_A.sl.r_49, kernelRun0_A.sl.v125, kernelRun0_A.sl.v157, kernelRun0_A.sl.v189, kernelRun0_A.sl.v221,
    kernelRun0_A.sl.v253, kernelRun0_A.sl.v285, kernelRun0_A.sl.v317, kernelRun0_A.sl.v614, kernelRun0_A.sl.v626, kernelRun0_A.sl.v93,
    readCov_mat, readAt_mat, read_mat, mat_put, mat_put_other, readCov_row, readAt_row, read_row, row_put, row_put_other, readAt_upper, readAt_full2, readCov_acc, read_full2, read_full3, Memref.IsWhole.read_unread, ne_eq, Nat.reduceEqDiff, OfNat.ofNat_ne_zero, OfNat.zero_ne_ofNat, not_false_eq_true, one_ne_zero, zero_ne_one, OfNat.one_ne_ofNat, OfNat.ofNat_ne_one, scr0, scr1, scr2, scr3, tri_1, tri_6, tri_7, tri_8, tri_10, tri_11, tri_12, tri_13, tri_16, tri_17, tri_18, tri_20, tri_21, tri_22, tri_23, tri_30]
  refine (congrArg (k0_pay171 _) (readCov_acc _ _ _ _ _)).trans ((acc_db _ _).trans ?_)
  exact congrArg (accStep _) (readCov_acc _ _ _ _ _)

set_option maxHeartbeats 4000000 in
theorem wm_A (c : Dev nD) (t : Fin cfg0.N) (h0 : t.val % 16 = 0) (h1 : t.val % 16 = 0) (h2 : ¬t.val % 16 = 15) :
    (outsAt0 m c t.val t.isLt).2.2.2.2.2.2.2.2.2.1 = tri8 (iblk m c 11 t) := by
  rw [outsAt0_A m c t h0 h1 h2]
  dsimp only
  unfold sout0_A_2 kernelRun0_A
  dsimp only
  simp only [kernelRun0_A.sl.HS2_8, kernelRun0_A.sl.r, kernelRun0_A.sl.r_1,
    readCov_mat, readAt_mat, read_mat, mat_put, mat_put_other, readCov_row, readAt_row, read_row, row_put, row_put_other, readAt_upper, readAt_full2, readCov_acc, read_full2, read_full3, Memref.IsWhole.read_unread, ne_eq, Nat.reduceEqDiff, OfNat.ofNat_ne_zero, OfNat.zero_ne_ofNat, not_false_eq_true, one_ne_zero, zero_ne_one, OfNat.one_ne_ofNat, OfNat.ofNat_ne_one, scr0, scr1, scr2, scr3, tri_1, tri_6, tri_7, tri_8, tri_10, tri_11, tri_12, tri_13, tri_16, tri_17, tri_18, tri_20, tri_21, tri_22, tri_23, tri_30]
  refine mat_ext fun a => ?_
  rcases a with ⟨_ | _ | _ | _ | _ | _ | _ | _ | a, ha⟩ <;> first | omega | skip
  all_goals simp only [zero_add, Nat.reduceAdd, readCov_mat, readAt_mat, read_mat, mat_put, mat_put_other, readCov_row, readAt_row, read_row, row_put, row_put_other, readAt_upper, readAt_full2, readCov_acc, read_full2, read_full3, Memref.IsWhole.read_unread, outer_0_0, outer_0_1, outer_0_2, outer_0_3, outer_0_4, outer_0_5, outer_0_6, outer_0_7, outer_1_0, outer_1_1, outer_1_2, outer_1_3, outer_1_4, outer_1_5, outer_1_6, outer_1_7, ne_eq, Nat.reduceEqDiff, OfNat.ofNat_ne_zero, OfNat.zero_ne_ofNat, not_false_eq_true, one_ne_zero, zero_ne_one, OfNat.one_ne_ofNat, OfNat.ofNat_ne_one, scr0, scr1, scr2, scr3]
  all_goals rfl

set_option maxHeartbeats 4000000 in
theorem gws_B (c : Dev nD) (t : Fin cfg0.N) (h0 : ¬t.val % 16 = 0) (h1 : ¬t.val % 16 = 0) (h2 : ¬t.val % 16 = 15) :
    (outsAt0 m c t.val t.isLt).2.2.2.2.2.2.2.2.2.2 = gwsStep (dm (X0_2 m c t) (iblk m c 1 t)) (vp (X0_3 m c t) (iblk m c 13 t) (iblk m c 14 t)) (before m c t).2.2.2.2.2.2.2.2.2.2 := by
  rw [outsAt0_B m c t h0 h1 h2]
  dsimp only
  generalize hP : (outsAt0 m c (t.val - 1) (Nat.lt_of_le_of_lt (Nat.sub_le _ _) t.isLt)) = P
  rw [show before m c t = P from hP]
  unfold sout0_B_3 kernelRun0_B
  dsimp only
  simp only [kernelRun0_B.sl.HS3_8, kernelRun0_B.sl.HS3_9, kernelRun0_B.sl.HS3_10, kernelRun0_B.sl.HS3_11, kernelRun0_B.sl.HS3_12,
    kernelRun0_B.sl.HS3_13, kernelRun0_B.sl.HS3_14, kernelRun0_B.sl.HS3_15, kernelRun0_B.sl.r, kernelRun0_B.sl.r_1, kernelRun0_B.sl.r_3,
    kernelRun0_B.sl.r_5, kernelRun0_B.sl.r_6, kernelRun0_B.sl.r_7, kernelRun0_B.sl.r_9, kernelRun0_B.sl.r_11, kernelRun0_B.sl.r_13,
    kernelRun0_B.sl.r_16, kernelRun0_B.sl.r_19, kernelRun0_B.sl.r_22, kernelRun0_B.sl.r_45, kernelRun0_B.sl.r_47, kernelRun0_B.sl.v146,
    kernelRun0_B.sl.v178, kernelRun0_B.sl.v210, kernelRun0_B.sl.v242, kernelRun0_B.sl.v274, kernelRun0_B.sl.v306, kernelRun0_B.sl.v338,
    kernelRun0_B.sl.v371, kernelRun0_B.sl.v403, kernelRun0_B.sl.v435, kernelRun0_B.sl.v467, kernelRun0_B.sl.v499, kernelRun0_B.sl.v531,
    kernelRun0_B.sl.v563, kernelRun0_B.sl.v595,
    readCov_mat, readAt_mat, read_mat, mat_put, mat_put_other, readCov_row, readAt_row, read_row, row_put, row_put_other, readAt_upper, readAt_full2, readCov_acc, read_full2, read_full3, Memref.IsWhole.read_unread, ne_eq, Nat.reduceEqDiff, OfNat.ofNat_ne_zero, OfNat.zero_ne_ofNat, not_false_eq_true, one_ne_zero, zero_ne_one, OfNat.one_ne_ofNat, OfNat.ofNat_ne_one, scr0, scr1, scr2, scr3]
  refine mat_ext fun a => funext fun j => ?_
  obtain ⟨r, s, rfl⟩ := ix_mat j
  rcases a with ⟨_ | _ | _ | _ | _ | _ | _ | _ | a, ha⟩ <;> first | omega | skip
  all_goals simp only [zero_add, Nat.reduceAdd, readCov_mat, readAt_mat, read_mat, mat_put, mat_put_other, readCov_row, readAt_row, read_row, row_put, row_put_other, readAt_upper, readAt_full2, readCov_acc, read_full2, read_full3, Memref.IsWhole.read_unread, outer_0_0, outer_0_1, outer_0_2, outer_0_3, outer_0_4, outer_0_5, outer_0_6, outer_0_7, outer_1_0, outer_1_1, outer_1_2, outer_1_3, outer_1_4, outer_1_5, outer_1_6, outer_1_7, ne_eq, Nat.reduceEqDiff, OfNat.ofNat_ne_zero, OfNat.zero_ne_ofNat, not_false_eq_true, one_ne_zero, zero_ne_one, OfNat.one_ne_ofNat, OfNat.ofNat_ne_one, scr0, scr1, scr2, scr3]
  all_goals rfl

set_option maxHeartbeats 4000000 in
theorem gbs_B (c : Dev nD) (t : Fin cfg0.N) (h0 : ¬t.val % 16 = 0) (h1 : ¬t.val % 16 = 0) (h2 : ¬t.val % 16 = 15) :
    (outsAt0 m c t.val t.isLt).2.2.2.2.1 = gbsStep (dm (X0_2 m c t) (iblk m c 1 t)) (before m c t).2.2.2.2.1 := by
  rw [outsAt0_B m c t h0 h1 h2]
  dsimp only
  generalize hP : (outsAt0 m c (t.val - 1) (Nat.lt_of_le_of_lt (Nat.sub_le _ _) t.isLt)) = P
  rw [show before m c t = P from hP]
  unfold out0_B_21 kernelRun0_B
  dsimp only
  simp only [kernelRun0_B.sl.H21_8, kernelRun0_B.sl.H21_9, kernelRun0_B.sl.H21_10, kernelRun0_B.sl.H21_11, kernelRun0_B.sl.H21_12,
    kernelRun0_B.sl.H21_13, kernelRun0_B.sl.H21_14, kernelRun0_B.sl.H21_15, kernelRun0_B.sl.r_1, kernelRun0_B.sl.r_11, kernelRun0_B.sl.v140,
    kernelRun0_B.sl.v172, kernelRun0_B.sl.v204, kernelRun0_B.sl.v236, kernelRun0_B.sl.v268, kernelRun0_B.sl.v300, kernelRun0_B.sl.v332,
    kernelRun0_B.sl.v365, kernelRun0_B.sl.v397, kernelRun0_B.sl.v429, kernelRun0_B.sl.v461, kernelRun0_B.sl.v493, kernelRun0_B.sl.v525,
    kernelRun0_B.sl.v557, kernelRun0_B.sl.v589,
    readCov_mat, readAt_mat, read_mat, mat_put, mat_put_other, readCov_row, readAt_row, read_row, row_put, row_put_other, readAt_upper, readAt_full2, readCov_acc, read_full2, read_full3, Memref.IsWhole.read_unread, ne_eq, Nat.reduceEqDiff, OfNat.ofNat_ne_zero, OfNat.zero_ne_ofNat, not_false_eq_true, one_ne_zero, zero_ne_one, OfNat.one_ne_ofNat, OfNat.ofNat_ne_one, scr0, scr1, scr2, scr3]
  refine row_ext fun a => funext fun j => ?_
  obtain ⟨r, rfl⟩ := ix_row j
  rcases a with ⟨_ | _ | _ | _ | _ | _ | _ | _ | a, ha⟩ <;> first | omega | skip
  all_goals simp only [zero_add, Nat.reduceAdd, readCov_mat, readAt_mat, read_mat, mat_put, mat_put_other, readCov_row, readAt_row, read_row, row_put, row_put_other, readAt_upper, readAt_full2, readCov_acc, read_full2, read_full3, Memref.IsWhole.read_unread, row_0_0, row_0_1, row_0_2, row_0_3, row_0_4, row_0_5, row_0_6, row_0_7, row_1_0, row_1_1, row_1_2, row_1_3, row_1_4, row_1_5, row_1_6, row_1_7, ne_eq, Nat.reduceEqDiff, OfNat.ofNat_ne_zero, OfNat.zero_ne_ofNat, not_false_eq_true, one_ne_zero, zero_ne_one, OfNat.one_ne_ofNat, OfNat.ofNat_ne_one, scr0, scr1, scr2, scr3]
  all_goals rfl

set_option maxHeartbeats 4000000 in
theorem dg_B (c : Dev nD) (t : Fin cfg0.N) (h0 : ¬t.val % 16 = 0) (h1 : ¬t.val % 16 = 0) (h2 : ¬t.val % 16 = 15) :
    (outsAt0 m c t.val t.isLt).2.2.2.2.2.2.2.1 = accStep (mulf (dv (X0_2 m c t) (iblk m c 1 t) (before m c t).2.2.2.2.2.2.2.2.2.1) (xh (X0_3 m c t))) (before m c t).2.2.2.2.2.2.2.1 := by
  rw [outsAt0_B m c t h0 h1 h2]
  dsimp only
  generalize hP : (outsAt0 m c (t.val - 1) (Nat.lt_of_le_of_lt (Nat.sub_le _ _) t.isLt)) = P
  rw [show before m c t = P from hP]
  unfold sout0_B_0 kernelRun0_B
  dsimp only
  simp only [kernelRun0_B.sl.HS0_1, kernelRun0_B.sl.cst_307, kernelRun0_B.sl.r_1, kernelRun0_B.sl.r_3, kernelRun0_B.sl.r_6, kernelRun0_B.sl.r_7,
    kernelRun0_B.sl.r_8, kernelRun0_B.sl.r_11, kernelRun0_B.sl.r_12, kernelRun0_B.sl.r_14, kernelRun0_B.sl.r_15, kernelRun0_B.sl.r_17,
    kernelRun0_B.sl.r_18, kernelRun0_B.sl.r_20, kernelRun0_B.sl.r_21, kernelRun0_B.sl.r_23, kernelRun0_B.sl.r_24, kernelRun0_B.sl.r_25,
    kernelRun0_B.sl.r_26, kernelRun0_B.sl.r_27, kernelRun0_B.sl.r_28, kernelRun0_B.sl.r_29, kernelRun0_B.sl.r_30, kernelRun0_B.sl.r_31,
    kernelRun0_B.sl.r_32, kernelRun0_B.sl.r_33, kernelRun0_B.sl.r_34, kernelRun0_B.sl.r_35, kernelRun0_B.sl.r_36, kernelRun0_B.sl.r_37,
    kernelRun0_B.sl.r_38, kernelRun0_B.sl.r_39, kernelRun0_B.sl.r_40, kernelRun0_B.sl.r_41, kernelRun0_B.sl.r_42, kernelRun0_B.sl.r_43,
    kernelRun0_B.sl.r_44, kernelRun0_B.sl.r_46, kernelRun0_B.sl.r_49, kernelRun0_B.sl.v620,
    readCov_mat, readAt_mat, read_mat, mat_put, mat_put_other, readCov_row, readAt_row, read_row, row_put, row_put_other, readAt_upper, readAt_full2, readCov_acc, read_full2, read_full3, Memref.IsWhole.read_unread, ne_eq, Nat.reduceEqDiff, OfNat.ofNat_ne_zero, OfNat.zero_ne_ofNat, not_false_eq_true, one_ne_zero, zero_ne_one, OfNat.one_ne_ofNat, OfNat.ofNat_ne_one, scr0, scr1, scr2, scr3]
  refine (congrArg (k0_pay170 _) (readCov_acc _ _ _ _ _)).trans ((acc_dg _ _).trans ?_)
  rfl

set_option maxHeartbeats 4000000 in
theorem db_B (c : Dev nD) (t : Fin cfg0.N) (h0 : ¬t.val % 16 = 0) (h1 : ¬t.val % 16 = 0) (h2 : ¬t.val % 16 = 15) :
    (outsAt0 m c t.val t.isLt).2.2.2.2.2.2.2.2.1 = accStep (dv (X0_2 m c t) (iblk m c 1 t) (before m c t).2.2.2.2.2.2.2.2.2.1) (before m c t).2.2.2.2.2.2.2.2.1 := by
  rw [outsAt0_B m c t h0 h1 h2]
  dsimp only
  generalize hP : (outsAt0 m c (t.val - 1) (Nat.lt_of_le_of_lt (Nat.sub_le _ _) t.isLt)) = P
  rw [show before m c t = P from hP]
  unfold sout0_B_1 kernelRun0_B
  dsimp only
  simp only [kernelRun0_B.sl.HS1_1, kernelRun0_B.sl.cst_307, kernelRun0_B.sl.r_1, kernelRun0_B.sl.r_11, kernelRun0_B.sl.r_12, kernelRun0_B.sl.r_14,
    kernelRun0_B.sl.r_15, kernelRun0_B.sl.r_17, kernelRun0_B.sl.r_18, kernelRun0_B.sl.r_20, kernelRun0_B.sl.r_21, kernelRun0_B.sl.r_23,
    kernelRun0_B.sl.r_24, kernelRun0_B.sl.r_25, kernelRun0_B.sl.r_26, kernelRun0_B.sl.r_27, kernelRun0_B.sl.r_28, kernelRun0_B.sl.r_29,
    kernelRun0_B.sl.r_30, kernelRun0_B.sl.r_31, kernelRun0_B.sl.r_32, kernelRun0_B.sl.r_33, kernelRun0_B.sl.r_34, kernelRun0_B.sl.r_35,
    kernelRun0_B.sl.r_36, kernelRun0_B.sl.r_37, kernelRun0_B.sl.r_38, kernelRun0_B.sl.r_39, kernelRun0_B.sl.r_40, kernelRun0_B.sl.r_41,
    kernelRun0_B.sl.r_42, kernelRun0_B.sl.r_43, kernelRun0_B.sl.r_44, kernelRun0_B.sl.r_46, kernelRun0_B.sl.r_48, kernelRun0_B.sl.v626,
    readCov_mat, readAt_mat, read_mat, mat_put, mat_put_other, readCov_row, readAt_row, read_row, row_put, row_put_other, readAt_upper, readAt_full2, readCov_acc, read_full2, read_full3, Memref.IsWhole.read_unread, ne_eq, Nat.reduceEqDiff, OfNat.ofNat_ne_zero, OfNat.zero_ne_ofNat, not_false_eq_true, one_ne_zero, zero_ne_one, OfNat.one_ne_ofNat, OfNat.ofNat_ne_one, scr0, scr1, scr2, scr3]
  refine (congrArg (k0_pay171 _) (readCov_acc _ _ _ _ _)).trans ((acc_db _ _).trans ?_)
  rfl

theorem wm_B (c : Dev nD) (t : Fin cfg0.N) (h0 : ¬t.val % 16 = 0) (h1 : ¬t.val % 16 = 0) (h2 : ¬t.val % 16 = 15) :
    (outsAt0 m c t.val t.isLt).2.2.2.2.2.2.2.2.2.1 = (before m c t).2.2.2.2.2.2.2.2.2.1 := by
  rw [outsAt0_B m c t h0 h1 h2]
  rfl

set_option maxHeartbeats 4000000 in
theorem gws_C (c : Dev nD) (t : Fin cfg0.N) (h0 : ¬t.val % 16 = 0) (h1 : ¬t.val % 16 = 0) (h2 : t.val % 16 = 15) :
    (outsAt0 m c t.val t.isLt).2.2.2.2.2.2.2.2.2.2 = gwsStep (dm (X0_2 m c t) (iblk m c 1 t)) (vp (X0_3 m c t) (iblk m c 13 t) (iblk m c 14 t)) (before m c t).2.2.2.2.2.2.2.2.2.2 := by
  rw [outsAt0_C m c t h0 h1 h2]
  dsimp only
  generalize hP : (outsAt0 m c (t.val - 1) (Nat.lt_of_le_of_lt (Nat.sub_le _ _) t.isLt)) = P
  rw [show before m c t = P from hP]
  unfold sout0_C_3 kernelRun0_C
  dsimp only
  simp only [kernelRun0_C.sl.HS3_8, kernelRun0_C.sl.HS3_9, kernelRun0_C.sl.HS3_10, kernelRun0_C.sl.HS3_11, kernelRun0_C.sl.HS3_12,
    kernelRun0_C.sl.HS3_13, kernelRun0_C.sl.HS3_14, kernelRun0_C.sl.HS3_15, kernelRun0_C.sl.HS3_16, kernelRun0_C.sl.r, kernelRun0_C.sl.r_1,
    kernelRun0_C.sl.r_3, kernelRun0_C.sl.r_5, kernelRun0_C.sl.r_6, kernelRun0_C.sl.r_7, kernelRun0_C.sl.r_9, kernelRun0_C.sl.r_11,
    kernelRun0_C.sl.r_13, kernelRun0_C.sl.r_16, kernelRun0_C.sl.r_19, kernelRun0_C.sl.r_22, kernelRun0_C.sl.r_45, kernelRun0_C.sl.r_47,
    kernelRun0_C.sl.v146, kernelRun0_C.sl.v178, kernelRun0_C.sl.v210, kernelRun0_C.sl.v242, kernelRun0_C.sl.v274, kernelRun0_C.sl.v306,
    kernelRun0_C.sl.v338, kernelRun0_C.sl.v371, kernelRun0_C.sl.v403, kernelRun0_C.sl.v435, kernelRun0_C.sl.v467, kernelRun0_C.sl.v499,
    kernelRun0_C.sl.v531, kernelRun0_C.sl.v563, kernelRun0_C.sl.v595,
    readCov_mat, readAt_mat, read_mat, mat_put, mat_put_other, readCov_row, readAt_row, read_row, row_put, row_put_other, readAt_upper, readAt_full2, readCov_acc, read_full2, read_full3, Memref.IsWhole.read_unread, ne_eq, Nat.reduceEqDiff, OfNat.ofNat_ne_zero, OfNat.zero_ne_ofNat, not_false_eq_true, one_ne_zero, zero_ne_one, OfNat.one_ne_ofNat, OfNat.ofNat_ne_one, scr0, scr1, scr2, scr3]
  refine mat_ext fun a => funext fun j => ?_
  obtain ⟨r, s, rfl⟩ := ix_mat j
  rcases a with ⟨_ | _ | _ | _ | _ | _ | _ | _ | a, ha⟩ <;> first | omega | skip
  all_goals simp only [zero_add, Nat.reduceAdd, readCov_mat, readAt_mat, read_mat, mat_put, mat_put_other, readCov_row, readAt_row, read_row, row_put, row_put_other, readAt_upper, readAt_full2, readCov_acc, read_full2, read_full3, Memref.IsWhole.read_unread, outer_0_0, outer_0_1, outer_0_2, outer_0_3, outer_0_4, outer_0_5, outer_0_6, outer_0_7, outer_1_0, outer_1_1, outer_1_2, outer_1_3, outer_1_4, outer_1_5, outer_1_6, outer_1_7, ne_eq, Nat.reduceEqDiff, OfNat.ofNat_ne_zero, OfNat.zero_ne_ofNat, not_false_eq_true, one_ne_zero, zero_ne_one, OfNat.one_ne_ofNat, OfNat.ofNat_ne_one, scr0, scr1, scr2, scr3]
  all_goals rfl

set_option maxHeartbeats 4000000 in
theorem gbs_C (c : Dev nD) (t : Fin cfg0.N) (h0 : ¬t.val % 16 = 0) (h1 : ¬t.val % 16 = 0) (h2 : t.val % 16 = 15) :
    (outsAt0 m c t.val t.isLt).2.2.2.2.1 = gbsStep (dm (X0_2 m c t) (iblk m c 1 t)) (before m c t).2.2.2.2.1 := by
  rw [outsAt0_C m c t h0 h1 h2]
  dsimp only
  generalize hP : (outsAt0 m c (t.val - 1) (Nat.lt_of_le_of_lt (Nat.sub_le _ _) t.isLt)) = P
  rw [show before m c t = P from hP]
  unfold out0_C_21 kernelRun0_C
  dsimp only
  simp only [kernelRun0_C.sl.H21_8, kernelRun0_C.sl.H21_9, kernelRun0_C.sl.H21_10, kernelRun0_C.sl.H21_11, kernelRun0_C.sl.H21_12,
    kernelRun0_C.sl.H21_13, kernelRun0_C.sl.H21_14, kernelRun0_C.sl.H21_15, kernelRun0_C.sl.r_1, kernelRun0_C.sl.r_11, kernelRun0_C.sl.v140,
    kernelRun0_C.sl.v172, kernelRun0_C.sl.v204, kernelRun0_C.sl.v236, kernelRun0_C.sl.v268, kernelRun0_C.sl.v300, kernelRun0_C.sl.v332,
    kernelRun0_C.sl.v365, kernelRun0_C.sl.v397, kernelRun0_C.sl.v429, kernelRun0_C.sl.v461, kernelRun0_C.sl.v493, kernelRun0_C.sl.v525,
    kernelRun0_C.sl.v557, kernelRun0_C.sl.v589,
    readCov_mat, readAt_mat, read_mat, mat_put, mat_put_other, readCov_row, readAt_row, read_row, row_put, row_put_other, readAt_upper, readAt_full2, readCov_acc, read_full2, read_full3, Memref.IsWhole.read_unread, ne_eq, Nat.reduceEqDiff, OfNat.ofNat_ne_zero, OfNat.zero_ne_ofNat, not_false_eq_true, one_ne_zero, zero_ne_one, OfNat.one_ne_ofNat, OfNat.ofNat_ne_one, scr0, scr1, scr2, scr3]
  refine row_ext fun a => funext fun j => ?_
  obtain ⟨r, rfl⟩ := ix_row j
  rcases a with ⟨_ | _ | _ | _ | _ | _ | _ | _ | a, ha⟩ <;> first | omega | skip
  all_goals simp only [zero_add, Nat.reduceAdd, readCov_mat, readAt_mat, read_mat, mat_put, mat_put_other, readCov_row, readAt_row, read_row, row_put, row_put_other, readAt_upper, readAt_full2, readCov_acc, read_full2, read_full3, Memref.IsWhole.read_unread, row_0_0, row_0_1, row_0_2, row_0_3, row_0_4, row_0_5, row_0_6, row_0_7, row_1_0, row_1_1, row_1_2, row_1_3, row_1_4, row_1_5, row_1_6, row_1_7, ne_eq, Nat.reduceEqDiff, OfNat.ofNat_ne_zero, OfNat.zero_ne_ofNat, not_false_eq_true, one_ne_zero, zero_ne_one, OfNat.one_ne_ofNat, OfNat.ofNat_ne_one, scr0, scr1, scr2, scr3]
  all_goals rfl

set_option maxHeartbeats 4000000 in
theorem dg_C (c : Dev nD) (t : Fin cfg0.N) (h0 : ¬t.val % 16 = 0) (h1 : ¬t.val % 16 = 0) (h2 : t.val % 16 = 15) :
    (outsAt0 m c t.val t.isLt).2.2.2.2.2.2.2.1 = accStep (mulf (dv (X0_2 m c t) (iblk m c 1 t) (before m c t).2.2.2.2.2.2.2.2.2.1) (xh (X0_3 m c t))) (before m c t).2.2.2.2.2.2.2.1 := by
  rw [outsAt0_C m c t h0 h1 h2]
  dsimp only
  generalize hP : (outsAt0 m c (t.val - 1) (Nat.lt_of_le_of_lt (Nat.sub_le _ _) t.isLt)) = P
  rw [show before m c t = P from hP]
  unfold sout0_C_0 kernelRun0_C
  dsimp only
  simp only [kernelRun0_C.sl.HS0_1, kernelRun0_C.sl.HS0_2, kernelRun0_C.sl.cst_307, kernelRun0_C.sl.r_1, kernelRun0_C.sl.r_3, kernelRun0_C.sl.r_6,
    kernelRun0_C.sl.r_7, kernelRun0_C.sl.r_8, kernelRun0_C.sl.r_11, kernelRun0_C.sl.r_12, kernelRun0_C.sl.r_14, kernelRun0_C.sl.r_15,
    kernelRun0_C.sl.r_17, kernelRun0_C.sl.r_18, kernelRun0_C.sl.r_20, kernelRun0_C.sl.r_21, kernelRun0_C.sl.r_23, kernelRun0_C.sl.r_24,
    kernelRun0_C.sl.r_25, kernelRun0_C.sl.r_26, kernelRun0_C.sl.r_27, kernelRun0_C.sl.r_28, kernelRun0_C.sl.r_29, kernelRun0_C.sl.r_30,
    kernelRun0_C.sl.r_31, kernelRun0_C.sl.r_32, kernelRun0_C.sl.r_33, kernelRun0_C.sl.r_34, kernelRun0_C.sl.r_35, kernelRun0_C.sl.r_36,
    kernelRun0_C.sl.r_37, kernelRun0_C.sl.r_38, kernelRun0_C.sl.r_39, kernelRun0_C.sl.r_40, kernelRun0_C.sl.r_41, kernelRun0_C.sl.r_42,
    kernelRun0_C.sl.r_43, kernelRun0_C.sl.r_44, kernelRun0_C.sl.r_46, kernelRun0_C.sl.r_49, kernelRun0_C.sl.v620,
    readCov_mat, readAt_mat, read_mat, mat_put, mat_put_other, readCov_row, readAt_row, read_row, row_put, row_put_other, readAt_upper, readAt_full2, readCov_acc, read_full2, read_full3, Memref.IsWhole.read_unread, ne_eq, Nat.reduceEqDiff, OfNat.ofNat_ne_zero, OfNat.zero_ne_ofNat, not_false_eq_true, one_ne_zero, zero_ne_one, OfNat.one_ne_ofNat, OfNat.ofNat_ne_one, scr0, scr1, scr2, scr3]
  refine (congrArg (k0_pay170 _) (readCov_acc _ _ _ _ _)).trans ((acc_dg _ _).trans ?_)
  rfl

set_option maxHeartbeats 4000000 in
theorem db_C (c : Dev nD) (t : Fin cfg0.N) (h0 : ¬t.val % 16 = 0) (h1 : ¬t.val % 16 = 0) (h2 : t.val % 16 = 15) :
    (outsAt0 m c t.val t.isLt).2.2.2.2.2.2.2.2.1 = accStep (dv (X0_2 m c t) (iblk m c 1 t) (before m c t).2.2.2.2.2.2.2.2.2.1) (before m c t).2.2.2.2.2.2.2.2.1 := by
  rw [outsAt0_C m c t h0 h1 h2]
  dsimp only
  generalize hP : (outsAt0 m c (t.val - 1) (Nat.lt_of_le_of_lt (Nat.sub_le _ _) t.isLt)) = P
  rw [show before m c t = P from hP]
  unfold sout0_C_1 kernelRun0_C
  dsimp only
  simp only [kernelRun0_C.sl.HS1_1, kernelRun0_C.sl.HS1_2, kernelRun0_C.sl.cst_307, kernelRun0_C.sl.r_1, kernelRun0_C.sl.r_11, kernelRun0_C.sl.r_12,
    kernelRun0_C.sl.r_14, kernelRun0_C.sl.r_15, kernelRun0_C.sl.r_17, kernelRun0_C.sl.r_18, kernelRun0_C.sl.r_20, kernelRun0_C.sl.r_21,
    kernelRun0_C.sl.r_23, kernelRun0_C.sl.r_24, kernelRun0_C.sl.r_25, kernelRun0_C.sl.r_26, kernelRun0_C.sl.r_27, kernelRun0_C.sl.r_28,
    kernelRun0_C.sl.r_29, kernelRun0_C.sl.r_30, kernelRun0_C.sl.r_31, kernelRun0_C.sl.r_32, kernelRun0_C.sl.r_33, kernelRun0_C.sl.r_34,
    kernelRun0_C.sl.r_35, kernelRun0_C.sl.r_36, kernelRun0_C.sl.r_37, kernelRun0_C.sl.r_38, kernelRun0_C.sl.r_39, kernelRun0_C.sl.r_40,
    kernelRun0_C.sl.r_41, kernelRun0_C.sl.r_42, kernelRun0_C.sl.r_43, kernelRun0_C.sl.r_44, kernelRun0_C.sl.r_46, kernelRun0_C.sl.r_48,
    kernelRun0_C.sl.v626,
    readCov_mat, readAt_mat, read_mat, mat_put, mat_put_other, readCov_row, readAt_row, read_row, row_put, row_put_other, readAt_upper, readAt_full2, readCov_acc, read_full2, read_full3, Memref.IsWhole.read_unread, ne_eq, Nat.reduceEqDiff, OfNat.ofNat_ne_zero, OfNat.zero_ne_ofNat, not_false_eq_true, one_ne_zero, zero_ne_one, OfNat.one_ne_ofNat, OfNat.ofNat_ne_one, scr0, scr1, scr2, scr3]
  refine (congrArg (k0_pay171 _) (readCov_acc _ _ _ _ _)).trans ((acc_db _ _).trans ?_)
  rfl

theorem wm_C (c : Dev nD) (t : Fin cfg0.N) (h0 : ¬t.val % 16 = 0) (h1 : ¬t.val % 16 = 0) (h2 : t.val % 16 = 15) :
    (outsAt0 m c t.val t.isLt).2.2.2.2.2.2.2.2.2.1 = (before m c t).2.2.2.2.2.2.2.2.2.1 := by
  rw [outsAt0_C m c t h0 h1 h2]
  rfl

set_option maxHeartbeats 4000000 in
theorem gwsOut_C (c : Dev nD) (t : Fin cfg0.N) (h0 : ¬t.val % 16 = 0) (h1 : ¬t.val % 16 = 0) (h2 : t.val % 16 = 15) :
    (outsAt0 m c t.val t.isLt).2.2.2.1 = tri8 (gwsStep (dm (X0_2 m c t) (iblk m c 1 t)) (vp (X0_3 m c t) (iblk m c 13 t) (iblk m c 14 t)) (before m c t).2.2.2.2.2.2.2.2.2.2) := by
  rw [outsAt0_C m c t h0 h1 h2]
  dsimp only
  generalize hP : (outsAt0 m c (t.val - 1) (Nat.lt_of_le_of_lt (Nat.sub_le _ _) t.isLt)) = P
  rw [show before m c t = P from hP]
  unfold out0_C_20 kernelRun0_C
  dsimp only
  simp only [kernelRun0_C.sl.HS3_8, kernelRun0_C.sl.HS3_9, kernelRun0_C.sl.HS3_10, kernelRun0_C.sl.HS3_11, kernelRun0_C.sl.HS3_12,
    kernelRun0_C.sl.HS3_13, kernelRun0_C.sl.HS3_14, kernelRun0_C.sl.HS3_15, kernelRun0_C.sl.HS3_16, kernelRun0_C.sl.r, kernelRun0_C.sl.r_1,
    kernelRun0_C.sl.r_3, kernelRun0_C.sl.r_5, kernelRun0_C.sl.r_6, kernelRun0_C.sl.r_7, kernelRun0_C.sl.r_9, kernelRun0_C.sl.r_11,
    kernelRun0_C.sl.r_13, kernelRun0_C.sl.r_16, kernelRun0_C.sl.r_19, kernelRun0_C.sl.r_22, kernelRun0_C.sl.r_45, kernelRun0_C.sl.r_47,
    kernelRun0_C.sl.r_160, kernelRun0_C.sl.r_161, kernelRun0_C.sl.v1270, kernelRun0_C.sl.v1278, kernelRun0_C.sl.v1286,
    kernelRun0_C.sl.v1294, kernelRun0_C.sl.v1302, kernelRun0_C.sl.v1310, kernelRun0_C.sl.v1318, kernelRun0_C.sl.v1326, kernelRun0_C.sl.v146,
    kernelRun0_C.sl.v178, kernelRun0_C.sl.v210, kernelRun0_C.sl.v242, kernelRun0_C.sl.v274, kernelRun0_C.sl.v306, kernelRun0_C.sl.v338,
    kernelRun0_C.sl.v371, kernelRun0_C.sl.v403, kernelRun0_C.sl.v435, kernelRun0_C.sl.v467, kernelRun0_C.sl.v499, kernelRun0_C.sl.v531,
    kernelRun0_C.sl.v563, kernelRun0_C.sl.v595,
    readCov_mat, readAt_mat, read_mat, mat_put, mat_put_other, readCov_row, readAt_row, read_row, row_put, row_put_other, readAt_upper, readAt_full2, readCov_acc, read_full2, read_full3, Memref.IsWhole.read_unread, ne_eq, Nat.reduceEqDiff, OfNat.ofNat_ne_zero, OfNat.zero_ne_ofNat, not_false_eq_true, one_ne_zero, zero_ne_one, OfNat.one_ne_ofNat, OfNat.ofNat_ne_one, scr0, scr1, scr2, scr3, tri_1, tri_6, tri_7, tri_8, tri_10, tri_11, tri_12, tri_13, tri_16, tri_17, tri_18, tri_20, tri_21, tri_22, tri_23, tri_30]
  refine mat_ext fun a => funext fun j => ?_
  obtain ⟨r, s, rfl⟩ := ix_mat j
  rcases a with ⟨_ | _ | _ | _ | _ | _ | _ | _ | a, ha⟩ <;> first | omega | skip
  all_goals simp only [mat_tri8, zero_add, Nat.reduceAdd, readCov_mat, readAt_mat, read_mat, mat_put, mat_put_other, readCov_row, readAt_row, read_row, row_put, row_put_other, readAt_upper, readAt_full2, readCov_acc, read_full2, read_full3, Memref.IsWhole.read_unread, outer_0_0, outer_0_1, outer_0_2, outer_0_3, outer_0_4, outer_0_5, outer_0_6, outer_0_7, outer_1_0, outer_1_1, outer_1_2, outer_1_3, outer_1_4, outer_1_5, outer_1_6, outer_1_7, ne_eq, Nat.reduceEqDiff, OfNat.ofNat_ne_zero, OfNat.zero_ne_ofNat, not_false_eq_true, one_ne_zero, zero_ne_one, OfNat.one_ne_ofNat, OfNat.ofNat_ne_one, scr0, scr1, scr2, scr3]
  all_goals refine tri_congr _ _ r s ?_
  all_goals simp only [outer_0_0, outer_0_1, outer_0_2, outer_0_3, outer_0_4, outer_0_5, outer_0_6, outer_0_7, outer_1_0, outer_1_1, outer_1_2, outer_1_3, outer_1_4, outer_1_5, outer_1_6, outer_1_7]
  all_goals rfl

set_option maxHeartbeats 4000000 in
theorem vlnOut_C (c : Dev nD) (t : Fin cfg0.N) (h0 : ¬t.val % 16 = 0) (h1 : ¬t.val % 16 = 0) (h2 : t.val % 16 = 15) :
    (outsAt0 m c t.val t.isLt).2.2.2.2.2.1 = vlnOut (accStep (mulf (dv (X0_2 m c t) (iblk m c 1 t) (before m c t).2.2.2.2.2.2.2.2.2.1) (xh (X0_3 m c t))) (before m c t).2.2.2.2.2.2.2.1) (accStep (dv (X0_2 m c t) (iblk m c 1 t) (before m c t).2.2.2.2.2.2.2.2.2.1) (before m c t).2.2.2.2.2.2.2.2.1) := by
  rw [outsAt0_C m c t h0 h1 h2]
  dsimp only
  generalize hP : (outsAt0 m c (t.val - 1) (Nat.lt_of_le_of_lt (Nat.sub_le _ _) t.isLt)) = P
  rw [show before m c t = P from hP]
  unfold out0_C_22 kernelRun0_C
  dsimp only
  simp only [kernelRun0_C.sl.HS0_1, kernelRun0_C.sl.HS0_2, kernelRun0_C.sl.HS1_1, kernelRun0_C.sl.HS1_2, kernelRun0_C.sl.cst_307,
    kernelRun0_C.sl.r_1, kernelRun0_C.sl.r_3, kernelRun0_C.sl.r_6, kernelRun0_C.sl.r_7, kernelRun0_C.sl.r_8, kernelRun0_C.sl.r_11,
    kernelRun0_C.sl.r_12, kernelRun0_C.sl.r_14, kernelRun0_C.sl.r_15, kernelRun0_C.sl.r_17, kernelRun0_C.sl.r_18, kernelRun0_C.sl.r_20,
    kernelRun0_C.sl.r_21, kernelRun0_C.sl.r_23, kernelRun0_C.sl.r_24, kernelRun0_C.sl.r_25, kernelRun0_C.sl.r_26, kernelRun0_C.sl.r_27,
    kernelRun0_C.sl.r_28, kernelRun0_C.sl.r_29, kernelRun0_C.sl.r_30, kernelRun0_C.sl.r_31, kernelRun0_C.sl.r_32, kernelRun0_C.sl.r_33,
    kernelRun0_C.sl.r_34, kernelRun0_C.sl.r_35, kernelRun0_C.sl.r_36, kernelRun0_C.sl.r_37, kernelRun0_C.sl.r_38, kernelRun0_C.sl.r_39,
    kernelRun0_C.sl.r_40, kernelRun0_C.sl.r_41, kernelRun0_C.sl.r_42, kernelRun0_C.sl.r_43, kernelRun0_C.sl.r_44, kernelRun0_C.sl.r_46,
    kernelRun0_C.sl.r_48, kernelRun0_C.sl.r_49, kernelRun0_C.sl.v1336, kernelRun0_C.sl.v1341, kernelRun0_C.sl.v620, kernelRun0_C.sl.v626,
    readCov_mat, readAt_mat, read_mat, mat_put, mat_put_other, readCov_row, readAt_row, read_row, row_put, row_put_other, readAt_upper, readAt_full2, readCov_acc, read_full2, read_full3, Memref.IsWhole.read_unread, ne_eq, Nat.reduceEqDiff, OfNat.ofNat_ne_zero, OfNat.zero_ne_ofNat, not_false_eq_true, one_ne_zero, zero_ne_one, OfNat.one_ne_ofNat, OfNat.ofNat_ne_one, scr0, scr1, scr2, scr3]
  refine (read_vln _ _ _ _).trans (congrArg₂ vlnOut ?_ ?_)
  · refine (readCov_acc _ _ _ _ _).trans ((congrArg (k0_pay170 _) (readCov_acc _ _ _ _ _)).trans (acc_dg _ _))
  · refine (readCov_acc _ _ _ _ _).trans ((congrArg (k0_pay171 _) (readCov_acc _ _ _ _ _)).trans (acc_db _ _))

end Cert.MixIdeal.Hand

end
-- ==== Proof.MixMath.lean ====
module

public import Idealize.ShloMosaic.Lib.Pointwise

/-!
The gated mixing unit's gradients as plain sums over tokens and channels: the
functions both programs' results are read to.
-/

@[expose] public section

noncomputable section

namespace Cert.MixMath

open Idealize.ShloMosaic
open scoped BigOperators

/-- The tanh form of the gelu. -/
def gelu (x : EReal) : EReal :=
  x * (Ideal.ofBits FTy.f32 1056964608#32 * (1 + Ideal.tanh (Ideal.ofBits FTy.f32 1061962282#32 *
    (x + Ideal.ofBits FTy.f32 1027024659#32 * (x * x * x)))))

/-- The mean of a token's channels. -/
def mean (f : Fin 512 → EReal) : EReal := Ideal.div (∑ k, f k) (Ideal.ofBits FTy.f32 1140850688#32)

/-- A token's channels less their mean, over their deviation. -/
def norm (f : Fin 512 → EReal) (d : Fin 512) : EReal :=
  (f d - mean f) * Ideal.rsqrt (mean (fun k => (f k - mean f) * (f k - mean f)) + Ideal.ofBits FTy.f32 925353388#32)

/-- A channel of head `a`. -/
def ch (a : Fin 8) (k : Fin 64) : Fin 512 := ⟨a.val * 64 + k.val, by omega⟩

/-- A token of chunk `n`. -/
def tk (n : Fin 32) (t : Fin 128) : Fin 4096 := ⟨n.val * 128 + t.val, by omega⟩

/-- What the unit reads: both halves of the hidden features, the gradient that comes back, the norm's scale and
    shift, and the mixing weights. -/
structure Args where
  u : Fin 4096 → Fin 512 → EReal
  v : Fin 4096 → Fin 512 → EReal
  dout : Fin 4096 → Fin 512 → EReal
  g : Fin 512 → EReal
  b : Fin 512 → EReal
  w : Fin 8 → Fin 128 → Fin 128 → EReal

namespace Args

variable (P : Args)

/-- The gradient at the mixed features. -/
def dmix (i : Fin 4096) (d : Fin 512) : EReal := gelu (P.u i d) * P.dout i d

/-- The normalized gate features, before scale and shift. -/
def xhat (i : Fin 4096) (d : Fin 512) : EReal := norm (fun k => gelu (P.v i k)) d

/-- … and after. -/
def vnorm (i : Fin 4096) (d : Fin 512) : EReal := P.xhat i d * P.g d + P.b d

/-- The causal mixing weights. -/
def wmask (a : Fin 8) (t s : Fin 128) : EReal := if s.val ≤ t.val then P.w a t s else 0

/-- The gradient at the normalized gate features. -/
def dv (i : Fin 4096) (d : Fin 512) : EReal :=
  ∑ t : Fin 128, P.dmix ⟨i.val / 128 * 128 + t.val, by omega⟩ d * P.wmask ⟨d.val / 64, by omega⟩ t ⟨i.val % 128, Nat.mod_lt _ (by decide)⟩

/-- The mixing weights' gradient. -/
def dw (a : Fin 8) (t s : Fin 128) : EReal :=
  if s.val ≤ t.val then ∑ n, ∑ k, P.dmix (tk n t) (ch a k) * P.vnorm (tk n s) (ch a k) else 0

/-- The mixing bias's gradient. -/
def db (a : Fin 8) (t : Fin 128) : EReal := ∑ n, ∑ k, P.dmix (tk n t) (ch a k)

/-- The norm's gradients: the scale's in row 0, the shift's in row 1. -/
def dln (i : Fin 8) (d : Fin 512) : EReal :=
  if i.val = 0 then ∑ r, P.xhat r d * P.dv r d else if i.val = 1 then ∑ r, P.dv r d else 0

end Args

end Cert.MixMath
-- ==== Proof.MixEntry.lean ====
module

public import proofs.«01_k».proof.Proof.MixStep
public import proofs.«01_k».proof.Proof.MixMath
public import Idealize.ShloMosaic.Lib.Pipeline.ValueKit
public import Idealize.ShloMosaic.Lib.StableHlo.RunRead

/-!
What the gated mixing unit's blocks hold at each grid point, from the
program's arguments.
-/

@[expose] public section

set_option maxRecDepth 16384

noncomputable section

namespace Cert.MixIdeal.Hand

open Cert.MixIdeal Cert.MixIdeal.Gen
open Idealize.ShloMosaic Idealize.ShloMosaic.TcCoe Idealize.ShloMosaic.Tactic Idealize.SL.Sem
open Cert.MixMath

variable (m : (ℓ : Loc nD τ sig) → Buf (Elt Ideal) ℓ) (c : Dev nD)

/-- The program's arguments. -/
def args : Args where
  u i d := (m ((c : Thread nD τ).loc main_arg0) : Vec Ideal S1x4096x1792 .f32) (ix3 0 i (⟨d.val, by omega⟩ : Fin 1792))
  v i d := (m ((c : Thread nD τ).loc main_arg0) : Vec Ideal S1x4096x1792 .f32) (ix3 0 i (⟨512 + d.val, by omega⟩ : Fin 1792))
  dout i d := (m ((c : Thread nD τ).loc main_arg7) : Vec Ideal S1x4096x1024 .f32) (ix3 0 i (⟨d.val, by omega⟩ : Fin 1024))
  g d := (m ((c : Thread nD τ).loc main_arg2) : Vec Ideal S1x512 .f32) (ix2 0 d)
  b d := (m ((c : Thread nD τ).loc main_arg3) : Vec Ideal S1x512 .f32) (ix2 0 d)
  w a t s := (m ((c : Thread nD τ).loc main_arg4) : Vec Ideal S1x8x128x128 .f32) (ix4 0 a t s)

/-- The token in column `x` of point `t`'s blocks. -/
def at_ (t : Fin cfg0.N) (x : Fin 256) : Fin 4096 :=
  ⟨t.val * 256 + x.val, by have := t.isLt; have : cfg0.N = 16 := N_0; have := x.isLt; omega⟩

theorem hidden (d : Fin 1792) (i : Fin 4096) : (V m c main_v29 : Vec Ideal S1792x4096 .f32) (ix2 d i)
    = (m ((c : Thread nD τ).loc main_arg0) : Vec Ideal S1x4096x1792 .f32) (ix3 0 i d) := by
  show StableHlo.after _ _ _ _ = _
  after_reads_simp
  pointwise

theorem back (d : Fin 1024) (i : Fin 4096) : (V m c main_v27 : Vec Ideal S1024x4096 .f32) (ix2 d i)
    = (m ((c : Thread nD τ).loc main_arg7) : Vec Ideal S1x4096x1024 .f32) (ix3 0 i d) := by
  show StableHlo.after _ _ _ _ = _
  after_reads_simp
  pointwise

theorem weights (a : Fin 8) (t s : Fin 128) : (V m c main_v30 : Vec Ideal S8x128x128 .f32) (ix3 a t s)
    = (m ((c : Thread nD τ).loc main_arg4) : Vec Ideal S1x8x128x128 .f32) (ix4 0 a t s) := by
  show StableHlo.after _ _ _ _ = _
  after_reads_simp
  pointwise

theorem scale (d : Fin 512) : (V m c main_v32 : Vec Ideal S512x1 .f32) (ix2 d 0)
    = (m ((c : Thread nD τ).loc main_arg2) : Vec Ideal S1x512 .f32) (ix2 0 d) := by
  show StableHlo.after _ _ _ _ = _
  after_reads_simp
  pointwise

theorem shift (d : Fin 512) : (V m c main_v33 : Vec Ideal S512x1 .f32) (ix2 d 0)
    = (m ((c : Thread nD τ).loc main_arg3) : Vec Ideal S1x512 .f32) (ix2 0 d) := by
  show StableHlo.after _ _ _ _ = _
  after_reads_simp
  pointwise

theorem idx : ∀ t : Fin cfg0.N, win0_1.index t = ![0, t.val] ∧ win0_2.index t = ![0, t.val] ∧ win0_3.index t = ![1, t.val]
    ∧ win0_11.index t = ![0, 0, 0] ∧ win0_13.index t = ![0, 0] ∧ win0_14.index t = ![0, 0] :=
  (by decide +kernel : ∀ t : Fin grid0.N, _)

theorem block1 (t : Fin cfg0.N) (d : Fin 1024) (x : Fin 256) :
    (iblk m c 1 t : Vec Ideal S1024x256 .f32) (ix2 d x) = (V m c main_v27 : Vec Ideal S1024x4096 .f32) (ix2 d (at_ t x)) := by
  blk_ext [iblk, idx t, at_]

theorem block11 (t : Fin cfg0.N) : (iblk m c 11 t : Vec Ideal S8x128x128 .f32) = (V m c main_v30 : Vec Ideal S8x128x128 .f32) := by
  funext j
  blk_ext [iblk, idx t]

theorem block13 (t : Fin cfg0.N) : (iblk m c 13 t : Vec Ideal S512x1 .f32) = (V m c main_v32 : Vec Ideal S512x1 .f32) := by
  funext j
  blk_ext [iblk, idx t]

theorem block14 (t : Fin cfg0.N) : (iblk m c 14 t : Vec Ideal S512x1 .f32) = (V m c main_v33 : Vec Ideal S512x1 .f32) := by
  funext j
  blk_ext [iblk, idx t]

theorem block2 (t : Fin cfg0.N) (d : Fin 512) (x : Fin 256) :
    (X0_2 m c t : Vec Ideal S512x256 .f32) (ix2 d x) = (V m c main_v29 : Vec Ideal S1792x4096 .f32) (ix2 ⟨d.val, by omega⟩ (at_ t x)) := by
  rw [X0_2, Pipeline.Window.fill, dif_pos (moved0_2 t _)]
  blk_ext [iblk, idx t, at_]

theorem block3 (t : Fin cfg0.N) (d : Fin 512) (x : Fin 256) :
    (X0_3 m c t : Vec Ideal S512x256 .f32) (ix2 d x) = (V m c main_v29 : Vec Ideal S1792x4096 .f32) (ix2 ⟨512 + d.val, by omega⟩ (at_ t x)) := by
  rw [X0_3, Pipeline.Window.fill, dif_pos (moved0_3 t _)]
  blk_ext [iblk, idx t, at_]

end Cert.MixIdeal.Hand
-- ==== Proof.MixValue.lean ====
module

public import proofs.«01_k».proof.Proof.MixEntry

/-!
The kernel's running sums, point by point, as sums over chunks of tokens.
-/

@[expose] public section

set_option maxRecDepth 16384

noncomputable section

namespace Cert.MixIdeal.Hand

open Cert.MixIdeal Cert.MixIdeal.Gen
open Idealize.ShloMosaic Idealize.ShloMosaic.TcCoe Idealize.ShloMosaic.Tactic Idealize.SL.Sem
open Cert.MixMath
open scoped BigOperators

variable (m : (ℓ : Loc nD τ sig) → Buf (Elt Ideal) ℓ) (c : Dev nD)

/-- Chunk `b` of the two that grid point `t` takes. -/
def ck (t : Fin cfg0.N) (b : Fin 2) : Fin 32 :=
  ⟨t.val * 2 + b.val, by have := t.isLt; have : cfg0.N = 16 := N_0; have := b.isLt; omega⟩

theorem at_tok (t : Fin cfg0.N) (b : Fin 2) (s : Fin 128) : at_ t (tok b s) = tk (ck t b) s :=
  Fin.ext (by simp only [at_, tok, tk, ck]; omega)

theorem chan_ch (a : Fin 8) (k : Fin 64) : chan a k = ch a k := Fin.ext (by simp only [chan, ch]; omega)

theorem dm_val (t : Fin cfg0.N) (d : Fin 512) (x : Fin 256) :
    dm (X0_2 m c t) (iblk m c 1 t) (ix2 d x) = (args m c).dmix (at_ t x) d := by
  have hu := (block2 m c t d x).trans (hidden m c _ _)
  have hd := (block1 m c t ⟨d.val, by omega⟩ x).trans (back m c _ _)
  unfold dm
  pointwise [k0_pay49, k0_pay36, k0_pay32, k0_pay33, k0_pay34, k0_pay35, k0_pay48, upper]
  rw [hu]
  exact (congrArg (· * gelu ((args m c).u (at_ t x) d)) hd).trans (mul_comm _ _)

theorem xh_val (t : Fin cfg0.N) (d : Fin 512) (x : Fin 256) :
    xh (X0_3 m c t) (ix2 d x) = (args m c).xhat (at_ t x) d := by
  have hv := fun k => (block3 m c t k x).trans (hidden m c _ _)
  unfold xh
  pointwise [k0_pay46, k0_pay44, k0_pay45, k0_pay38, k0_pay39, k0_pay40, k0_pay41]
  simp only [hv]
  rfl

theorem vp_val (t : Fin cfg0.N) (d : Fin 512) (x : Fin 256) :
    vp (X0_3 m c t) (iblk m c 13 t) (iblk m c 14 t) (ix2 d x) = (args m c).vnorm (at_ t x) d := by
  rw [vp_at, xh_val, block13, block14, scale, shift]
  rfl

/-- The masked weights the kernel keeps. -/
def wm : Vec Ideal S8x128x128 .bf16 := tri8 (V m c main_v30)

theorem wm_val (a : Fin 8) (t s : Fin 128) : wm m c (ix3 a t s) = (args m c).wmask a t s := by
  show (if s ≤ t then ((V m c main_v30 : Vec Ideal S8x128x128 .f32) (ix3 a t s) : EReal) else (0 : EReal)) = _
  rw [weights]
  rfl

theorem dv_val (t : Fin cfg0.N) (d : Fin 512) (b : Fin 2) (s : Fin 128) :
    dv (X0_2 m c t) (iblk m c 1 t) (wm m c) (ix2 d (tok b s)) = (args m c).dv (tk (ck t b) s) d := by
  obtain ⟨a, k, rfl⟩ : ∃ (a : Fin 8) (k : Fin 64), d = chan a k :=
    ⟨⟨d.val / 64, by omega⟩, ⟨d.val % 64, by omega⟩, Fin.ext (by simp only [chan]; omega)⟩
  have e : dv (X0_2 m c t) (iblk m c 1 t) (wm m c) (ix2 (chan a k) (tok b s))
      = ∑ r : Fin 128, dm (X0_2 m c t) (iblk m c 1 t) (ix2 (chan a k) (tok b r)) * wm m c (ix3 a r s) := by
    match b with
    | ⟨0, _⟩ => exact dv_0 _ _ _ a k s
    | ⟨1, _⟩ => exact dv_1 _ _ _ a k s
  rw [e]
  refine Finset.sum_congr rfl fun r _ => ?_
  rw [dm_val, wm_val, at_tok]
  have e1 : (⟨(tk (ck t b) s).val / 128 * 128 + r.val, by have := (tk (ck t b) s).isLt; omega⟩ : Fin 4096) = tk (ck t b) r :=
    Fin.ext (by simp only [tk]; omega)
  have e2 : (⟨(chan a k).val / 64, by have := (chan a k).isLt; omega⟩ : Fin 8) = a := Fin.ext (by simp only [chan]; omega)
  have e3 : (⟨(tk (ck t b) s).val % 128, Nat.mod_lt _ (by decide)⟩ : Fin 128) = s := Fin.ext (by simp only [tk]; omega)
  rw [e1, e2, e3]

/-- A running sum that gains two chunks at each grid point ends as the sum over all of them. -/
theorem total (f : Fin 32 → EReal) (S : (n : ℕ) → n < cfg0.N → EReal) (z : EReal) (hz : z = 0)
    (h0 : ∀ h, S 0 h = z + f (ck ⟨0, h⟩ 0) + f (ck ⟨0, h⟩ 1))
    (hs : ∀ n h, S (n + 1) h = S n (Nat.lt_of_succ_lt h) + f (ck ⟨n + 1, h⟩ 0) + f (ck ⟨n + 1, h⟩ 1)) :
    S t0_15.val t0_15.isLt = ∑ n, f n := by
  have N : cfg0.N = 16 := N_0
  let g : ℕ → EReal := fun p => if hp : p < cfg0.N then f (ck ⟨p, hp⟩ 0) + f (ck ⟨p, hp⟩ 1) else 0
  have hg : ∀ p (hp : p < cfg0.N), g p = f (ck ⟨p, hp⟩ 0) + f (ck ⟨p, hp⟩ 1) := fun p hp => dif_pos hp
  have far : ∀ n h, S n h = ∑ p ∈ Finset.range (n + 1), g p := by
    intro n
    induction n with
    | zero => intro h; rw [h0, hz, zero_add, Finset.sum_range_one, hg 0 h]
    | succ n ih =>
      intro h
      rw [hs, ih, Finset.sum_range_succ _ (n + 1), add_assoc, hg (n + 1) h]
  rw [far, show t0_15.val + 1 = 16 from rfl, Finset.sum_range, Fin.sum_univ_tiles 16 2 rfl f]
  refine Finset.sum_congr rfl fun p _ => ?_
  rw [Fin.sum_univ_two]
  exact hg p.val (lt_of_lt_of_eq p.isLt N.symm)

theorem later (n : ℕ) (h : n + 1 < cfg0.N) : ¬(n + 1) % 16 = 0 := by
  have : cfg0.N = 16 := N_0
  omega

theorem not_last : ¬0 % 16 = 15 := by decide

/-- Every point holds the masked weights. -/
theorem wm_all : ∀ n h, (outsAt0 m c n h).2.2.2.2.2.2.2.2.2.1 = wm m c
  | 0, h => by
    rw [wm, ← block11 m c ⟨0, h⟩]
    exact wm_A m c ⟨0, h⟩ rfl rfl not_last
  | n + 1, h => by
    refine Eq.trans ?_ (wm_all n (Nat.lt_of_succ_lt h))
    by_cases e : (n + 1) % 16 = 15
    · exact wm_C m c ⟨n + 1, h⟩ (later n h) (later n h) e
    · exact wm_B m c ⟨n + 1, h⟩ (later n h) (later n h) e

theorem before_wm (t : Fin cfg0.N) : (before m c t).2.2.2.2.2.2.2.2.2.1 = wm m c := wm_all m c _ _

theorem gws_next (n : ℕ) (h : n + 1 < cfg0.N) : (outsAt0 m c (n + 1) h).2.2.2.2.2.2.2.2.2.2
    = gwsStep (dm (X0_2 m c ⟨n + 1, h⟩) (iblk m c 1 ⟨n + 1, h⟩)) (vp (X0_3 m c ⟨n + 1, h⟩) (iblk m c 13 ⟨n + 1, h⟩) (iblk m c 14 ⟨n + 1, h⟩))
      (outsAt0 m c n (Nat.lt_of_succ_lt h)).2.2.2.2.2.2.2.2.2.2 := by
  by_cases e : (n + 1) % 16 = 15
  · exact gws_C m c ⟨n + 1, h⟩ (later n h) (later n h) e
  · exact gws_B m c ⟨n + 1, h⟩ (later n h) (later n h) e

theorem gbs_next (n : ℕ) (h : n + 1 < cfg0.N) : (outsAt0 m c (n + 1) h).2.2.2.2.1
    = gbsStep (dm (X0_2 m c ⟨n + 1, h⟩) (iblk m c 1 ⟨n + 1, h⟩)) (outsAt0 m c n (Nat.lt_of_succ_lt h)).2.2.2.2.1 := by
  by_cases e : (n + 1) % 16 = 15
  · exact gbs_C m c ⟨n + 1, h⟩ (later n h) (later n h) e
  · exact gbs_B m c ⟨n + 1, h⟩ (later n h) (later n h) e

theorem dg_next (n : ℕ) (h : n + 1 < cfg0.N) : (outsAt0 m c (n + 1) h).2.2.2.2.2.2.2.1
    = accStep (mulf (dv (X0_2 m c ⟨n + 1, h⟩) (iblk m c 1 ⟨n + 1, h⟩) (wm m c)) (xh (X0_3 m c ⟨n + 1, h⟩)))
      (outsAt0 m c n (Nat.lt_of_succ_lt h)).2.2.2.2.2.2.2.1 := by
  rw [← before_wm m c ⟨n + 1, h⟩]
  by_cases e : (n + 1) % 16 = 15
  · exact dg_C m c ⟨n + 1, h⟩ (later n h) (later n h) e
  · exact dg_B m c ⟨n + 1, h⟩ (later n h) (later n h) e

theorem db_next (n : ℕ) (h : n + 1 < cfg0.N) : (outsAt0 m c (n + 1) h).2.2.2.2.2.2.2.2.1
    = accStep (dv (X0_2 m c ⟨n + 1, h⟩) (iblk m c 1 ⟨n + 1, h⟩) (wm m c)) (outsAt0 m c n (Nat.lt_of_succ_lt h)).2.2.2.2.2.2.2.2.1 := by
  rw [← before_wm m c ⟨n + 1, h⟩]
  by_cases e : (n + 1) % 16 = 15
  · exact db_C m c ⟨n + 1, h⟩ (later n h) (later n h) e
  · exact db_B m c ⟨n + 1, h⟩ (later n h) (later n h) e

theorem gws_pair (t : Fin cfg0.N) (S : Vec Ideal S8x128x128 .f32) (a : Fin 8) (r s : Fin 128) :
    gwsStep (dm (X0_2 m c t) (iblk m c 1 t)) (vp (X0_3 m c t) (iblk m c 13 t) (iblk m c 14 t)) S (ix3 a r s)
      = S (ix3 a r s) + (∑ k, (args m c).dmix (tk (ck t 0) r) (ch a k) * (args m c).vnorm (tk (ck t 0) s) (ch a k))
        + ∑ k, (args m c).dmix (tk (ck t 1) r) (ch a k) * (args m c).vnorm (tk (ck t 1) s) (ch a k) := by
  show S (ix3 a r s) + (∑ k : Fin 64, dm _ _ (ix2 (chan a k) (tok 0 r)) * vp _ _ _ (ix2 (chan a k) (tok 0 s)))
    + ∑ k : Fin 64, dm _ _ (ix2 (chan a k) (tok 1 r)) * vp _ _ _ (ix2 (chan a k) (tok 1 s)) = _
  simp only [dm_val, vp_val, at_tok, chan_ch]

theorem gbs_pair (t : Fin cfg0.N) (S : Vec Ideal S8x128 .f32) (a : Fin 8) (r : Fin 128) :
    gbsStep (dm (X0_2 m c t) (iblk m c 1 t)) S (ix2 a r)
      = S (ix2 a r) + (∑ k, (args m c).dmix (tk (ck t 0) r) (ch a k)) + ∑ k, (args m c).dmix (tk (ck t 1) r) (ch a k) := by
  show S (ix2 a r) + (∑ k : Fin 64, dm _ _ (ix2 (chan a k) (tok 0 r))) + ∑ k : Fin 64, dm _ _ (ix2 (chan a k) (tok 1 r)) = _
  simp only [dm_val, at_tok, chan_ch]

theorem db_pair (t : Fin cfg0.N) (S : Vec Ideal S512x128 .f32) (d : Fin 512) (s : Fin 128) :
    accStep (dv (X0_2 m c t) (iblk m c 1 t) (wm m c)) S (ix2 d s)
      = S (ix2 d s) + (args m c).dv (tk (ck t 0) s) d + (args m c).dv (tk (ck t 1) s) d := by
  show S (ix2 d s) + dv _ _ _ (ix2 d (tok 0 s)) + dv _ _ _ (ix2 d (tok 1 s)) = _
  rw [dv_val, dv_val]

theorem dg_pair (t : Fin cfg0.N) (S : Vec Ideal S512x128 .f32) (d : Fin 512) (s : Fin 128) :
    accStep (mulf (dv (X0_2 m c t) (iblk m c 1 t) (wm m c)) (xh (X0_3 m c t))) S (ix2 d s)
      = S (ix2 d s) + (args m c).xhat (tk (ck t 0) s) d * (args m c).dv (tk (ck t 0) s) d
        + (args m c).xhat (tk (ck t 1) s) d * (args m c).dv (tk (ck t 1) s) d := by
  show S (ix2 d s) + dv _ _ _ (ix2 d (tok 0 s)) * xh _ (ix2 d (tok 0 s)) + dv _ _ _ (ix2 d (tok 1 s)) * xh _ (ix2 d (tok 1 s)) = _
  rw [dv_val, dv_val, xh_val, xh_val, at_tok, at_tok, mul_comm ((args m c).dv _ _), mul_comm ((args m c).dv _ _)]

theorem gws_total (a : Fin 8) (r s : Fin 128) : (outsAt0 m c t0_15.val t0_15.isLt).2.2.2.2.2.2.2.2.2.2 (ix3 a r s)
    = ∑ n, ∑ k, (args m c).dmix (tk n r) (ch a k) * (args m c).vnorm (tk n s) (ch a k) :=
  total _ (fun n h => (outsAt0 m c n h).2.2.2.2.2.2.2.2.2.2 (ix3 a r s)) _ (zero_gws (ix3 a r s))
    (fun h => (congrFun (gws_A m c ⟨0, h⟩ rfl rfl not_last) _).trans (gws_pair m c _ _ a r s))
    (fun n h => (congrFun (gws_next m c n h) _).trans (gws_pair m c _ _ a r s))

theorem gbs_total (a : Fin 8) (r : Fin 128) : (outsAt0 m c t0_15.val t0_15.isLt).2.2.2.2.1 (ix2 a r)
    = ∑ n, ∑ k, (args m c).dmix (tk n r) (ch a k) :=
  total _ (fun n h => (outsAt0 m c n h).2.2.2.2.1 (ix2 a r)) _ (zero_gbs (ix2 a r))
    (fun h => (congrFun (gbs_A m c ⟨0, h⟩ rfl rfl not_last) _).trans (gbs_pair m c _ _ a r))
    (fun n h => (congrFun (gbs_next m c n h) _).trans (gbs_pair m c _ _ a r))

theorem wm_first (h : 0 < cfg0.N) : tri8 (iblk m c 11 ⟨0, h⟩) = wm m c := by rw [wm, ← block11 m c ⟨0, h⟩]

theorem dg_total (d : Fin 512) (s : Fin 128) : (outsAt0 m c t0_15.val t0_15.isLt).2.2.2.2.2.2.2.1 (ix2 d s)
    = ∑ n, (args m c).xhat (tk n s) d * (args m c).dv (tk n s) d :=
  total _ (fun n h => (outsAt0 m c n h).2.2.2.2.2.2.2.1 (ix2 d s)) _ (zero_dg (ix2 d s))
    (fun h => (congrFun (dg_A m c ⟨0, h⟩ rfl rfl not_last) _).trans (by rw [wm_first m c h]; exact dg_pair m c _ _ d s))
    (fun n h => (congrFun (dg_next m c n h) _).trans (dg_pair m c _ _ d s))

theorem db_total (d : Fin 512) (s : Fin 128) : (outsAt0 m c t0_15.val t0_15.isLt).2.2.2.2.2.2.2.2.1 (ix2 d s)
    = ∑ n, (args m c).dv (tk n s) d :=
  total _ (fun n h => (outsAt0 m c n h).2.2.2.2.2.2.2.2.1 (ix2 d s)) _ (zero_db (ix2 d s))
    (fun h => (congrFun (db_A m c ⟨0, h⟩ rfl rfl not_last) _).trans (by rw [wm_first m c h]; exact db_pair m c _ _ d s))
    (fun n h => (congrFun (db_next m c n h) _).trans (db_pair m c _ _ d s))

/-- A sum over every token, position by position. -/
theorem by_position (f : Fin 4096 → EReal) : ∑ s : Fin 128, ∑ n : Fin 32, f (tk n s) = ∑ r, f r := by
  rw [Finset.sum_comm, Fin.sum_univ_tiles 32 128 rfl f]
  rfl

theorem vln_val (G B : Vec Ideal S512x128 .f32) (hG : ∀ d s, G (ix2 d s) = ∑ n, (args m c).xhat (tk n s) d * (args m c).dv (tk n s) d)
    (hB : ∀ d s, B (ix2 d s) = ∑ n, (args m c).dv (tk n s) d) (i : Fin 8) (d : Fin 512) : vlnOut G B (ix2 i d) = (args m c).dln i d := by
  show (if i.val = 0 then ∑ x : Fin 128, G (ix2 d x) else if i.val = 1 then ∑ x : Fin 128, B (ix2 d x) else (0 : EReal)) = _
  simp only [hG, hB, by_position fun r => (args m c).xhat r d * (args m c).dv r d, by_position fun r => (args m c).dv r d]
  rfl

/-- The mixing weights' gradient. -/
theorem final_dw : (dats m 0 c).arrAt 20 cfg0.N = (fun j : S8x128x128.Idx => (args m c).dw (j 0) (j 1) (j 2)) := by
  refine (dats m 0 c).arrAt_eq_of_after_last 20 t0_15 (by decide +kernel) _ fun j => ?_
  rw [show (dats m 0 c).after 20 t0_15 = (outsAt0 m c t0_15.val t0_15.isLt).2.2.2.1 by dsimp only [dats]]
  obtain ⟨a, r, s, rfl⟩ : ∃ (a : Fin 8) (r s : Fin 128), j = ix3 a r s := ⟨j 0, j 1, j 2, ValueIdx.eq_ix3 j⟩
  rw [gwsOut_C m c t0_15 (by decide) (by decide) (by decide), ← gws_C m c t0_15 (by decide) (by decide) (by decide)]
  exact congrArg (fun x : EReal => if s ≤ r then x else 0) (gws_total m c a r s)

/-- The mixing bias's gradient. -/
theorem final_db : (dats m 0 c).arrAt 21 cfg0.N = (fun j : S8x128.Idx => (args m c).db (j 0) (j 1)) := by
  refine (dats m 0 c).arrAt_eq_of_after_last 21 t0_15 (by decide +kernel) _ fun j => ?_
  rw [show (dats m 0 c).after 21 t0_15 = (outsAt0 m c t0_15.val t0_15.isLt).2.2.2.2.1 by dsimp only [dats]]
  obtain ⟨a, r, rfl⟩ : ∃ (a : Fin 8) (r : Fin 128), j = ix2 a r := ⟨j 0, j 1, ValueIdx.eq_ix2 j⟩
  exact gbs_total m c a r

set_option maxHeartbeats 2000000 in
/-- The norm's gradients. -/
theorem final_dln : (dats m 0 c).arrAt 22 cfg0.N = (fun j : S8x512.Idx => (args m c).dln (j 0) (j 1)) := by
  refine (dats m 0 c).arrAt_eq_of_after_last 22 t0_15 (by decide +kernel) _ fun j => ?_
  rw [show (dats m 0 c).after 22 t0_15 = (outsAt0 m c t0_15.val t0_15.isLt).2.2.2.2.2.1 by dsimp only [dats]]
  obtain ⟨i, d, rfl⟩ : ∃ (i : Fin 8) (d : Fin 512), j = ix2 i d := ⟨j 0, j 1, ValueIdx.eq_ix2 j⟩
  have e := vlnOut_C m c t0_15 (by decide) (by decide) (by decide)
  rw [← dg_C m c t0_15 (by decide) (by decide) (by decide), ← db_C m c t0_15 (by decide) (by decide) (by decide)] at e
  exact (congrFun e _).trans (vln_val m c _ _ (dg_total m c) (db_total m c) i d)

end Cert.MixIdeal.Hand
-- ==== Proof.FwdRead.lean ====
module

public import proofs.«01_k».proof.Proof.Gen.FwdIdeal.Skeleton
public import Idealize.ShloMosaic.Lib.ValueIdx
public import Idealize.ShloMosaic.Lib.Pointwise
public import Idealize.ShloMosaic.Lib.VecWindow
public import Idealize.ShloMosaic.Lib.WritesUnit
public import Idealize.ShloMosaic.Lib.WholeRead

/-!
A part of a buffer, loaded or stored: the cells from an offset on, of any shape.
-/

@[expose] public section

noncomputable section

namespace Cert.FwdIdeal.Hand

open Cert.FwdIdeal Cert.FwdIdeal.Gen
open Idealize.ShloMosaic

variable {F : FTy → Type} {sp : Space} {e : EltTy} {s : Shape} {off off' size size' : Fin s.rank → ℕ}

/-- The cells of `S` from `off` on. -/
def cell (inb : ∀ a, off a + size a ≤ s.size a) (S : Vec F s e) : (Rect.unit off size inb).shape.Idx → Elt F e :=
  fun j => S ((Rect.unit off size inb).emb j)

/-- `S` with the cells from `off` on replaced. -/
def put (inb : ∀ a, off a + size a ≤ s.size a) (w : (Rect.unit off size inb).shape.Idx → Elt F e) (S : Vec F s e) : Vec F s e := fun j =>
  if h : ∀ a, off a ≤ (j a).val ∧ (j a).val < off a + size a then w (Rect.unitLocal (s := s) (off := off) (size := size) j h) else S j

/-- A store, read back. -/
theorem read_put (v : View sig .tc sp s e) (f : v.ty.Contents (Elt F)) (inb : ∀ a, off a + size a ≤ s.size a)
    (w : (Rect.unit off size inb).shape.Idx → Elt F e) (L : List (View.Piece (Elt F) s e)) :
    v.read (Elt F) (v.writes (Elt F) f (⟨Rect.unit off size inb, w⟩ :: L)) = put inb w (v.read (Elt F) (v.writes (Elt F) f L)) :=
  funext fun y => View.read_writes_cons_unit v f inb w L y rfl

/-- A load. -/
theorem readAt_cell (v : View sig .tc sp s e) (f : v.ty.Contents (Elt F)) (inb : ∀ a, off a + size a ≤ s.size a) :
    v.readAt (Elt F) (Rect.unit off size inb).toLoadRect f = cell inb (v.read (Elt F) f) := rfl

/-- A load from what was just stored. -/
theorem readCov_cell [∀ e, Nonempty (Elt F e)] (v : View sig .tc sp s e) (L : List (View.Piece (Elt F) s e)) (inb : ∀ a, off a + size a ≤ s.size a) :
    v.readCov L (Rect.unit off size inb).toLoadRect = cell inb (v.read (Elt F) (v.writes (Elt F) v.junk L)) := rfl

/-- The cells just stored. -/
theorem cell_put (inb inb' : ∀ a, off a + size a ≤ s.size a) (w : (Rect.unit off size inb').shape.Idx → Elt F e) (S : Vec F s e) :
    cell inb (put inb' w S) = w := by
  funext j
  unfold cell put
  have hv : ∀ a, (((Rect.unit off size inb).emb j) a).val = off a + (j a).val := fun a => by
    show off a + 1 * (j a).val = _
    rw [Nat.one_mul]
  have h : ∀ a, off a ≤ (((Rect.unit off size inb).emb j) a).val ∧ (((Rect.unit off size inb).emb j) a).val < off a + size a := fun a => by
    have := (j a).isLt
    rw [hv a]
    exact ⟨Nat.le_add_right _ _, Nat.add_lt_add_left this _⟩
  rw [dif_pos h]
  congr 1
  funext a
  apply Fin.ext
  rw [Rect.unitLocal_val, hv a]
  omega

/-- Other cells are kept. -/
theorem cell_put_other (inb : ∀ a, off a + size a ≤ s.size a) (inb' : ∀ a, off' a + size' a ≤ s.size a)
    (h : ∃ a, off a + size a ≤ off' a ∨ off' a + size' a ≤ off a) (w : (Rect.unit off' size' inb').shape.Idx → Elt F e) (S : Vec F s e) :
    cell inb (put inb' w S) = cell inb S := by
  funext j
  unfold cell put
  obtain ⟨a, ha⟩ := h
  have hv : (((Rect.unit off size inb).emb j) a).val = off a + (j a).val := by
    show off a + 1 * (j a).val = _
    rw [Nat.one_mul]
  have hj : (j a).val < size a := (j a).isLt
  rw [dif_neg]
  intro hall
  have := hall a
  omega

/-- All the cells. -/
theorem cell_full2 {a b : ℕ} (inb : ∀ x, (![0, 0] : Fin 2 → ℕ) x + (![a, b] : Fin 2 → ℕ) x ≤ (⟨2, ![a, b]⟩ : Shape).size x)
    (S : Vec F ⟨2, ![a, b]⟩ e) : cell (s := ⟨2, ![a, b]⟩) inb S = S := by
  funext j
  refine congrArg S (funext fun x => Fin.ext ?_)
  show (![0, 0] : Fin 2 → ℕ) x + 1 * (j x).val = (j x).val
  fin_cases x <;> simp

theorem put_full2 {a b : ℕ} (inb : ∀ x, (![0, 0] : Fin 2 → ℕ) x + (![a, b] : Fin 2 → ℕ) x ≤ (⟨2, ![a, b]⟩ : Shape).size x)
    (w S : Vec F ⟨2, ![a, b]⟩ e) : put (s := ⟨2, ![a, b]⟩) inb w S = w :=
  (cell_full2 inb _).symm.trans (cell_put inb inb w S)

end Cert.FwdIdeal.Hand
-- ==== Proof.FwdMath.lean ====
module

public import proofs.«01_k».proof.Proof.MixMath

/-!
The forward pass of the mixing layer as plain functions of tokens and
channels: the gated unit's output, and causal sliding-window attention with a
sink. Both programs' results are read to these.
-/

@[expose] public section

noncomputable section

namespace Cert.FwdMath

open Idealize.ShloMosaic
open Cert.MixMath (gelu norm)
open scoped BigOperators

/-- Channel `k` of head `a`. -/
def chan (a : Fin 8) (k : Fin 64) : Fin 512 := ⟨64 * a.val + k.val, by omega⟩
/-- Channel `k` of key head `v`. -/
def kchan (v : Fin 2) (k : Fin 64) : Fin 128 := ⟨64 * v.val + k.val, by omega⟩
/-- Token `t` of block `b` of the two a grid point takes. -/
def tok (b : Fin 2) (t : Fin 128) : Fin 256 := ⟨128 * b.val + t.val, by omega⟩
/-- The lane of query `r` of the `j`-th head of a group. -/
def lane (j : Fin 4) (r : Fin 128) : Fin 512 := ⟨128 * j.val + r.val, by omega⟩
/-- The `j`-th head of the group of key head `v`. -/
def hd (v : Fin 2) (j : Fin 4) : Fin 8 := ⟨4 * v.val + j.val, by omega⟩
/-- Token `t` of block `n`. -/
def at_ (n : Fin 32) (t : Fin 128) : Fin 4096 := ⟨128 * n.val + t.val, by omega⟩

/-- The other half's channel. -/
def swap (d : Fin 64) : Fin 64 := if h : d.val < 32 then ⟨d.val + 32, by omega⟩ else ⟨d.val - 32, by omega⟩

/-- A head turned by its angles, the sine taken with its sign. -/
def turn (x c s : Fin 64 → EReal) (d : Fin 64) : EReal := x d * c d + x (swap d) * s d

/-- The larger of a row's scores and its sink. -/
def top (f : Fin 256 → EReal) (z : EReal) : EReal := max (Finset.univ.fold max (Ideal.ofBits FTy.f32 4286578688#32) f) z

/-- The sum of a row's exponentials, with the sink's. -/
def den (f : Fin 256 → EReal) (z : EReal) : EReal := (∑ x, Ideal.exp (f x - top f z)) + Ideal.exp (z - top f z)

/-- A row's log-sum. -/
def lse (f : Fin 256 → EReal) (z : EReal) : EReal := top f z + Ideal.log (den f z)

/-- The values weighted by a row's softmax. -/
def avg (f : Fin 256 → EReal) (z : EReal) (v : Fin 256 → EReal) : EReal :=
  ∑ x, v x * (Ideal.exp (f x - top f z) * Ideal.div 1 (den f z))

end Cert.FwdMath
-- ==== Proof.FwdGate.lean ====
module

public import proofs.«01_k».proof.Proof.FwdRead
public import proofs.«01_k».proof.Proof.FwdMath
public import Idealize.ShloMosaic.Lib.WordCmp

/-!
The gated unit's part of a grid point: the causal mask of the weights, and each
head's output in each of the point's two blocks of tokens.
-/

@[expose] public section

set_option maxRecDepth 16384

noncomputable section

namespace Cert.FwdIdeal.Hand

open Cert.FwdIdeal Cert.FwdIdeal.Gen
open Idealize.ShloMosaic
open Cert.FwdMath
open scoped BigOperators

theorem ix_mat (j : S1x128x128.Idx) : ∃ r s : Fin 128, j = ix3 0 r s := ⟨j 1, j 2, by
  rw [show (0 : Fin 1) = j 0 from (Fin.eq_zero (j 0)).symm]
  exact ValueIdx.eq_ix3 j⟩

/-- A matrix with the entries above the diagonal set to zero. -/
def tri (V : Vec Ideal S1x128x128 .f32) : FVec Ideal S1x128x128 .bf16 := fun j =>
  if (show Fin 128 from j 2) ≤ (show Fin 128 from j 1) then V j else 0
/-- … and eight of them. -/
def tri8 (V : Vec Ideal S8x128x128 .f32) : Vec Ideal S8x128x128 .bf16 := fun j =>
  if (show Fin 128 from j 2) ≤ (show Fin 128 from j 1) then V j else 0

theorem sel (r s : Fin 128) (x y : EReal) :
    Scalar.select (IntOp.cmpi .sge (BitVec.ofNat 32 r.val) (BitVec.ofNat 32 s.val)) x y = if s ≤ r then x else y := by
  rw [WordCmp.cmpi_sge_ofNat (by omega) (by omega), WordCmp.select_ofBool]
  simp only [decide_eq_true_eq]
  rfl

/-- Each head's weights are masked alike. -/
theorem tri_all (V : Vec Ideal S1x128x128 .f32) :
    k0_pay10 V = tri V ∧ k0_pay11 V = tri V ∧ k0_pay12 V = tri V ∧ k0_pay14 (k0_pay13 V) = tri V ∧ k0_pay15 k0_pay9 V = tri V ∧
    k0_pay16 k0_pay9 V = tri V ∧ k0_pay17 k0_pay9 V = tri V ∧ k0_pay19 k0_pay9 (k0_pay18 V) = tri V := by
  refine ⟨?_, ?_, ?_, ?_, ?_, ?_, ?_, ?_⟩ <;> funext j <;> obtain ⟨r, s, rfl⟩ := ix_mat j
  · pointwise [k0_pay10, k0_pay9]; rw [sel]; rfl
  · pointwise [k0_pay11, k0_pay9]; rw [sel]; rfl
  · pointwise [k0_pay12, k0_pay9]; rw [sel]; rfl
  · pointwise [k0_pay14, k0_pay13, k0_pay9]; rw [sel]; rfl
  · pointwise [k0_pay15, k0_pay9]; rw [sel]; rfl
  · pointwise [k0_pay16, k0_pay9]; rw [sel]; rfl
  · pointwise [k0_pay17, k0_pay9]; rw [sel]; rfl
  · pointwise [k0_pay19, k0_pay18, k0_pay9]; rw [sel]; rfl

/-- Head `a` of the gated unit in block `b`, from the gate, the normalised values, the head's weights and its bias. -/
def gt (a : Fin 8) (b : Fin 2) (u : FVec Ideal S512x256 .f32) (v : FVec Ideal S512x256 .bf16) (w : Vec Ideal S1x128x128 .bf16)
    (z : Vec Ideal S1x128 .f32) : FVec Ideal S64x128 .bf16 := fun j =>
  u (ix2 (chan a (j 0)) (tok b (j 1))) * ((∑ s : Fin 128, v (ix2 (chan a (j 0)) (tok b s)) * w (ix3 0 (j 1) s)) + z (ix2 0 (j 1)))

variable (u : FVec Ideal S512x256 .f32) (v : FVec Ideal S512x256 .bf16) (w : Vec Ideal S1x128x128 .bf16) (z : Vec Ideal S1x128 .f32)

/-- The heads of the first block. -/
theorem gate_first (x : FVec Ideal S512x256 .f32) (g : FVec Ideal S512x1 .f32) (y : Vec Ideal S512x1 .f32) :
    k0_pay25 u x g y w z = gt 0 0 u (k0_pay24 x g y) w z ∧ k0_pay27 u (k0_pay26 x g y w) z = gt 1 0 u (k0_pay24 x g y) w z := by
  refine ⟨?_, ?_⟩ <;> funext j <;> obtain ⟨d, r, rfl⟩ : ∃ d r, j = ix2 d r := ⟨j 0, j 1, ValueIdx.eq_ix2 j⟩ <;>
    generalize hv : k0_pay24 x g y = v
  · pointwise [k0_pay25, hv, gt, chan, tok]
  · pointwise [k0_pay27, k0_pay26, hv, gt, chan, tok]

theorem gate_rest : k0_pay28 u v w z = gt 2 0 u v w z ∧ k0_pay29 u v w z = gt 3 0 u v w z ∧
    k0_pay32 u (k0_pay30 v) (k0_pay31 w) (constant S64x128 .f32 0x00000000#32) z = gt 4 0 u v w z ∧
    k0_pay33 u v w z = gt 5 0 u v w z ∧ k0_pay34 u v w z = gt 6 0 u v w z ∧ k0_pay36 u (k0_pay35 v) w z = gt 7 0 u v w z := by
  refine ⟨?_, ?_, ?_, ?_, ?_, ?_⟩ <;> funext j <;> obtain ⟨d, r, rfl⟩ : ∃ d r, j = ix2 d r := ⟨j 0, j 1, ValueIdx.eq_ix2 j⟩
  · pointwise [k0_pay28, gt, chan, tok]
  · pointwise [k0_pay29, gt, chan, tok]
  · pointwise [k0_pay32, k0_pay30, k0_pay31, gt, chan, tok]
  · pointwise [k0_pay33, gt, chan, tok]
  · pointwise [k0_pay34, gt, chan, tok]
  · pointwise [k0_pay36, k0_pay35, gt, chan, tok]

/-- The heads of the second block. -/
theorem gate_second : k0_pay37 u v w z = gt 0 1 u v w z ∧ k0_pay38 u v w z = gt 1 1 u v w z ∧ k0_pay40 u (k0_pay39 v) w z = gt 2 1 u v w z ∧
    k0_pay41 u v w z = gt 3 1 u v w z ∧ k0_pay42 u v w z = gt 4 1 u v w z ∧ k0_pay43 u v w z = gt 5 1 u v w z ∧
    k0_pay44 u v w z = gt 6 1 u v w z ∧ k0_pay46 (k0_pay45 u v w z) = gt 7 1 u v w z := by
  refine ⟨?_, ?_, ?_, ?_, ?_, ?_, ?_, ?_⟩ <;> funext j <;> obtain ⟨d, r, rfl⟩ : ∃ d r, j = ix2 d r := ⟨j 0, j 1, ValueIdx.eq_ix2 j⟩
  · pointwise [k0_pay37, gt, chan, tok]
  · pointwise [k0_pay38, gt, chan, tok]
  · pointwise [k0_pay40, k0_pay39, gt, chan, tok]
  · pointwise [k0_pay41, gt, chan, tok]
  · pointwise [k0_pay42, gt, chan, tok]
  · pointwise [k0_pay43, gt, chan, tok]
  · pointwise [k0_pay44, gt, chan, tok]
  · pointwise [k0_pay46, k0_pay45, gt, chan, tok]

/-- The gate at a grid point. -/
theorem gate_at (x : Vec Ideal S512x256 .f32) (d : Fin 512) (t : Fin 256) :
    k0_pay21 x (ix2 d t) = Cert.MixMath.gelu (x (ix2 d t)) ∧ k0_pay22 x (ix2 d t) = Cert.MixMath.gelu (x (ix2 d t)) := by
  refine ⟨?_, ?_⟩
  · pointwise [k0_pay21]
    rw [mul_comm (Ideal.ofBits FTy.f32 1056964608#32) (x _), mul_assoc]
    rfl
  · pointwise [k0_pay22]
    rw [mul_comm (Ideal.ofBits FTy.f32 1056964608#32) (x _), mul_assoc]
    rfl

theorem norm_at (x : FVec Ideal S512x256 .f32) (g y : Vec Ideal S512x1 .f32) (d : Fin 512) (t : Fin 256) :
    k0_pay24 x (k0_pay23 g) y (ix2 d t) = Cert.MixMath.norm (fun k => x (ix2 k t)) d * g (ix2 d 0) + y (ix2 d 0) := by
  pointwise [k0_pay24, k0_pay23]
  rfl

end Cert.FwdIdeal.Hand
-- ==== Proof.FwdTurn.lean ====
module

public import proofs.«01_k».proof.Proof.FwdRead
public import proofs.«01_k».proof.Proof.FwdMath

/-!
What the attention of a grid point reads: turned queries and keys, values, the
band's bias and the sinks.
-/

@[expose] public section

set_option maxRecDepth 16384

noncomputable section

namespace Cert.FwdIdeal.Hand

open Cert.FwdIdeal Cert.FwdIdeal.Gen
open Idealize.ShloMosaic
open Cert.FwdMath
open scoped BigOperators

theorem far (r : Fin 128) : ¬256 + r.val < 128 ∧ ¬256 + r.val - 128 < 128 ∧ 256 + r.val - 128 - 128 = r.val ∧
    ¬384 + r.val < 128 ∧ ¬384 + r.val - 128 < 128 ∧ 384 + r.val - 128 - 128 = 128 + r.val := by
  omega

/-- The turned queries. -/
def qr (q : Vec Ideal S512x256 .f32) (c s : Vec Ideal S64x256 .f32) : FVec Ideal S512x256 .bf16 :=
  k0_pay58 (k0_pay48 c) (k0_pay49 s) (k0_pay50 q) (k0_pay51 c s q) (k0_pay52 c s q) (k0_pay53 c s q) (k0_pay54 c s q) (k0_pay55 c s q) (k0_pay56 q) (k0_pay57 q)

/-- The turned keys of the point's first block and the block before … -/
def k0 (kc : Vec Ideal S256x256 .f32) (c s : Vec Ideal S64x256 .f32) (kp : Vec Ideal S256x128 .f32) (cp sp : Vec Ideal S64x128 .f32) : FVec Ideal S256x128 .bf16 :=
  k0_pay65 (k0_pay47 kc) (k0_pay48 c) (k0_pay49 s) (k0_pay61 kp) (k0_pay62 cp) (k0_pay63 sp)
/-- … and of its two blocks. -/
def k1 (kc : Vec Ideal S256x256 .f32) (c s : Vec Ideal S64x256 .f32) : FVec Ideal S256x128 .bf16 :=
  k0_pay95 (k0_pay48 c) (k0_pay49 s) (k0_pay90 (k0_pay47 kc)) (k0_pay91 (k0_pay48 c)) (k0_pay92 (k0_pay49 s)) (k0_pay94 (k0_pay47 kc))
/-- The values of the same blocks. -/
def w0 (kc : Vec Ideal S256x256 .f32) (kp : Vec Ideal S256x128 .f32) : FVec Ideal S128x256 .bf16 := k0_pay66 (k0_pay47 kc) (k0_pay61 kp)
def w1 (kc : Vec Ideal S256x256 .f32) : FVec Ideal S128x256 .bf16 := k0_pay96 (k0_pay90 (k0_pay47 kc)) (k0_pay94 (k0_pay47 kc))

/-- Column `y` of one head, turned. -/
def turned {n m : ℕ} (a : Fin 64 → Fin n) (x : Vec Ideal ⟨2, ![n, m]⟩ .f32) (c s : Vec Ideal ⟨2, ![64, m]⟩ .f32) (y : Fin m) (d : Fin 64) : EReal :=
  turn (fun e => x (ix2 (a e) y)) (fun e => c (ix2 e y)) (fun e => s (ix2 e y)) d

theorem swap_lt (d : Fin 64) (h : d.val < 32) : swap d = ⟨32 + d.val, by omega⟩ := (dif_pos h).trans (Fin.ext (Nat.add_comm _ _))
theorem swap_ge (d : Fin 64) (h : ¬d.val < 32) : swap d = ⟨d.val - 32, by omega⟩ := dif_neg h

theorem far8 (d : Fin 64) : 128 + d.val - 64 = 64 + d.val ∧ 192 + d.val - 64 = 128 + d.val ∧ 256 + d.val - 64 = 192 + d.val ∧ 320 + d.val - 64 = 256 + d.val ∧ 384 + d.val - 64 = 320 + d.val ∧ 448 + d.val - 64 = 384 + d.val ∧ ¬64 + d.val < 64 ∧ ¬128 + d.val < 64 ∧ ¬192 + d.val < 64 ∧ ¬256 + d.val < 64 ∧ ¬320 + d.val < 64 ∧ ¬384 + d.val < 64 ∧ ¬448 + d.val < 64 := by
  omega

/-- Eight heads, one below the other. -/
theorem stack (p0 p1 p2 p3 p4 p5 p6 p7 : FVec Ideal S64x256 .f32) (a : Fin 8) (d : Fin 64) (y : Fin 256) :
    concatenate S512x256 0 [⟨S64x256, p0⟩, ⟨S64x256, p1⟩, ⟨S64x256, p2⟩, ⟨S64x256, p3⟩, ⟨S64x256, p4⟩, ⟨S64x256, p5⟩, ⟨S64x256, p6⟩, ⟨S64x256, p7⟩]
      concatenates_S64x256_S64x256_S64x256_S64x256_S64x256_S64x256_S64x256_S64x256_S512x256_d0 (ix2 (chan a d) y) = (![p0, p1, p2, p3, p4, p5, p6, p7] a) (ix2 d y) := by
  fin_cases a <;> (pointwise [chan]; try simp [far8 d])

theorem turn_01 (q : Vec Ideal S512x256 .f32) (c s : Vec Ideal S64x256 .f32) (d : Fin 64) (y : Fin 256) :
    k0_pay51 c s q (ix2 d y) = turned (chan 0) q c s y d ∧ k0_pay52 c s q (ix2 d y) = turned (chan 1) q c s y d ∧
    k0_pay53 c s q (ix2 d y) = turned (chan 2) q c s y d ∧ k0_pay54 c s q (ix2 d y) = turned (chan 3) q c s y d ∧
    k0_pay55 c s q (ix2 d y) = turned (chan 4) q c s y d := by
  unfold turned turn
  by_cases h : d.val < 32
  · rw [swap_lt d h]
    refine ⟨?_, ?_, ?_, ?_, ?_⟩ <;> pointwise [k0_pay51, k0_pay52, k0_pay53, k0_pay54, k0_pay55, k0_pay48, k0_pay49, k0_pay50, chan, h]
  · rw [swap_ge d h]
    refine ⟨?_, ?_, ?_, ?_, ?_⟩ <;> pointwise [k0_pay51, k0_pay52, k0_pay53, k0_pay54, k0_pay55, k0_pay48, k0_pay49, k0_pay50, chan, h]

theorem qr_at (q : Vec Ideal S512x256 .f32) (c s : Vec Ideal S64x256 .f32) (a : Fin 8) (d : Fin 64) (y : Fin 256) :
    qr q c s (ix2 (chan a d) y) = turned (chan a) q c s y d * Ideal.ofBits FTy.f32 0x3E000000#32 := by
  obtain ⟨h0, h1, h2, h3, h4⟩ := turn_01 q c s d y
  refine (congrArg (fun x : EReal => x * Ideal.ofBits FTy.f32 0x3E000000#32) (stack _ _ _ _ _ _ _ _ a d y)).trans (congrArg (· * _) ?_)
  fin_cases a
  · exact h0
  · exact h1
  · exact h2
  · exact h3
  · exact h4
  all_goals
    unfold turned turn
    by_cases h : d.val < 32
    · rw [swap_lt d h]
      pointwise [k0_pay56, k0_pay57, k0_pay48, k0_pay49, k0_pay50, chan, h]
    · rw [swap_ge d h]
      pointwise [k0_pay56, k0_pay57, k0_pay48, k0_pay49, k0_pay50, chan, h]

theorem k0_at (kc : Vec Ideal S256x256 .f32) (c s : Vec Ideal S64x256 .f32) (kp : Vec Ideal S256x128 .f32) (cp sp : Vec Ideal S64x128 .f32)
    (v : Fin 2) (d : Fin 64) (x : Fin 256) : k0 kc c s kp cp sp (ix2 x (kchan v d)) =
      if h : x.val < 128 then turned (fun e => ⟨(kchan v e).val, by omega⟩) kp cp sp ⟨x.val, h⟩ d
      else turned (fun e => ⟨(kchan v e).val, by omega⟩) kc c s ⟨x.val - 128, by omega⟩ d := by
  unfold turned turn
  by_cases h : d.val < 32
  · rw [swap_lt d h]
    fin_cases v <;> pointwise [k0, k0_pay65, k0_pay64, k0_pay47, k0_pay48, k0_pay49, k0_pay61, k0_pay62, k0_pay63, kchan, h]
  · rw [swap_ge d h]
    fin_cases v <;> pointwise [k0, k0_pay65, k0_pay64, k0_pay47, k0_pay48, k0_pay49, k0_pay61, k0_pay62, k0_pay63, kchan, h]

theorem k1_at (kc : Vec Ideal S256x256 .f32) (c s : Vec Ideal S64x256 .f32) (v : Fin 2) (d : Fin 64) (x : Fin 256) :
    k1 kc c s (ix2 x (kchan v d)) = turned (fun e => ⟨(kchan v e).val, by omega⟩) kc c s x d := by
  unfold turned turn
  by_cases h : d.val < 32
  · rw [swap_lt d h]
    fin_cases v <;> pointwise [k1, k0_pay95, k0_pay90, k0_pay91, k0_pay92, k0_pay94, k0_pay47, k0_pay48, k0_pay49, kchan, h]
    all_goals by_cases hx : x.val < 128
    all_goals simp [hx]
    all_goals simp [Nat.add_sub_cancel' (Nat.le_of_not_lt hx)]
  · rw [swap_ge d h]
    fin_cases v <;> pointwise [k1, k0_pay95, k0_pay90, k0_pay91, k0_pay92, k0_pay94, k0_pay47, k0_pay48, k0_pay49, kchan, h]
    all_goals by_cases hx : x.val < 128
    all_goals simp [hx]
    all_goals simp [Nat.add_sub_cancel' (Nat.le_of_not_lt hx)]

theorem w0_at (kc : Vec Ideal S256x256 .f32) (kp : Vec Ideal S256x128 .f32) (e : Fin 128) (x : Fin 256) :
    w0 kc kp (ix2 e x) = if h : x.val < 128 then kp (ix2 ⟨128 + e.val, by omega⟩ ⟨x.val, h⟩) else kc (ix2 ⟨128 + e.val, by omega⟩ ⟨x.val - 128, by omega⟩) := by
  pointwise [w0, k0_pay66, k0_pay64, k0_pay47, k0_pay61]

theorem w1_at (kc : Vec Ideal S256x256 .f32) (e : Fin 128) (x : Fin 256) : w1 kc (ix2 e x) = kc (ix2 ⟨128 + e.val, by omega⟩ x) := by
  pointwise [w1, k0_pay96, k0_pay90, k0_pay94, k0_pay47]
  by_cases hx : x.val < 128
  · simp [hx]
  · simp [hx, Nat.add_sub_cancel' (Nat.le_of_not_lt hx)]

/-- The band's bias, beside itself for each head of a group. -/
theorem bias_0 (b : Vec Ideal S1x256x128 .f32) (x : Fin 256) (j : Fin 4) (r : Fin 128) : k0_pay67 b (ix2 x (lane j r)) = b (ix3 0 x r) := by
  fin_cases j <;> (pointwise [k0_pay67, lane]; try simp [far r])
theorem bias_1 (b : Vec Ideal S1x256x128 .f32) (x : Fin 256) (j : Fin 4) (r : Fin 128) : k0_pay97 (k0_pay93 b) (ix2 x (lane j r)) = b (ix3 0 x r) := by
  fin_cases j <;> (pointwise [k0_pay97, k0_pay93, lane]; try simp [far r])

/-- The sinks of a group, one to each head's lanes. -/
theorem sink_0 (z : Fin 4 → EReal) (j : Fin 4) (r : Fin 128) : k0_pay59 (F := Ideal) (z 0) (z 1) (z 2) (z 3) (ix2 0 (lane j r)) = z j := by
  fin_cases j <;> (pointwise [k0_pay59, lane]; try simp [far r])
theorem sink_1 (z : Fin 4 → EReal) (j : Fin 4) (r : Fin 128) : k0_pay60 (F := Ideal) (z 0) (z 1) (z 2) (z 3) (ix2 0 (lane j r)) = z j := by
  fin_cases j <;> (pointwise [k0_pay60, lane]; try simp [far r])

end Cert.FwdIdeal.Hand
-- ==== Proof.FwdAttn.lean ====
module

public import proofs.«01_k».proof.Proof.FwdRead
public import proofs.«01_k».proof.Proof.FwdTurn

/-!
The attention's part of a grid point: scores, log-sums and weighted values of
each group of four heads in each of the point's two blocks of tokens.
-/

@[expose] public section

set_option maxRecDepth 16384

noncomputable section

namespace Cert.FwdIdeal.Hand

open Cert.FwdIdeal Cert.FwdIdeal.Gen
open Idealize.ShloMosaic
open Cert.FwdMath
open scoped BigOperators

/-- The head a lane belongs to, and its query. -/
theorem lane_cases (l : Fin 512) : ∃ (j : Fin 4) (r : Fin 128), l = lane j r :=
  ⟨⟨l.val / 128, by omega⟩, ⟨l.val % 128, by omega⟩, Fin.ext (by show l.val = 128 * (l.val / 128) + l.val % 128; omega)⟩

/-- The scores of the group of key head `v` in block `b`: keys against queries, and the band's bias. -/
def sc (v b : Fin 2) (q : FVec Ideal S512x256 .bf16) (k : FVec Ideal S256x128 .bf16) (z : FVec Ideal S256x512 .f32) : FVec Ideal S256x512 .f32 := fun i =>
  (∑ d : Fin 64, k (ix2 (i 0) (kchan v d)) *
    q (ix2 (chan (hd v ⟨(i 1).val / 128, by have : (i 1).val < 512 := (i 1).isLt; omega⟩) d) (tok b ⟨(i 1).val % 128, by omega⟩))) + z (ix2 (i 0) (i 1))

theorem sc_lane (v b : Fin 2) (q : FVec Ideal S512x256 .bf16) (k : FVec Ideal S256x128 .bf16) (z : FVec Ideal S256x512 .f32) (x : Fin 256) (j : Fin 4) (r : Fin 128) :
    sc v b q k z (ix2 x (lane j r)) = (∑ d : Fin 64, k (ix2 x (kchan v d)) * q (ix2 (chan (hd v j) d) (tok b r))) + z (ix2 x (lane j r)) := by
  have e1 : (⟨(lane j r).val / 128, by omega⟩ : Fin 4) = j := Fin.ext (by show (128 * j.val + r.val) / 128 = j.val; omega)
  have e2 : (⟨(lane j r).val % 128, by omega⟩ : Fin 128) = r := Fin.ext (by show (128 * j.val + r.val) % 128 = r.val; omega)
  show (∑ d : Fin 64, k (ix2 x (kchan v d)) * q (ix2 (chan (hd v ⟨(lane j r).val / 128, _⟩) d) (tok b ⟨(lane j r).val % 128, _⟩))) + z (ix2 x (lane j r)) = _
  rw [e1, e2]

/-- A sum over both key heads' channels of which one's terms vanish. -/
theorem sum_halves (f : Fin 128 → EReal) : ∑ c, f c = (∑ d : Fin 64, f (kchan 0 d)) + ∑ d : Fin 64, f (kchan 1 d) := by
  rw [show (∑ c : Fin 128, f c) = ∑ c : Fin (64 + 64), f c from rfl, Fin.sum_univ_add]
  refine congrArg (· + _) (Finset.sum_congr rfl fun d _ => congrArg f (Fin.ext ?_))
  show d.val = 64 * 0 + d.val
  omega

theorem half_0 (k q : Fin 128 → EReal) (h : ∀ d, q (kchan 1 d) = 0) : ∑ c, k c * q c = ∑ d : Fin 64, k (kchan 0 d) * q (kchan 0 d) := by
  rw [sum_halves, Finset.sum_eq_zero (s := Finset.univ) (f := fun d : Fin 64 => k (kchan 1 d) * q (kchan 1 d)) (fun d _ => by rw [h, mul_zero]), add_zero]

theorem half_1 (k q : Fin 128 → EReal) (h : ∀ d, q (kchan 0 d) = 0) : ∑ c, k c * q c = ∑ d : Fin 64, k (kchan 1 d) * q (kchan 1 d) := by
  rw [sum_halves, Finset.sum_eq_zero (s := Finset.univ) (f := fun d : Fin 64 => k (kchan 0 d) * q (kchan 0 d)) (fun d _ => by rw [h, mul_zero]), zero_add]

/-- The queries of a group, beside zeros for the other key head's channels. -/
theorem query_0 (q : FVec Ideal S512x256 .bf16) (d : Fin 64) (j : Fin 4) (r : Fin 128) :
    k0_pay68 q (ix2 (kchan 0 d) (lane j r)) = q (ix2 (chan (hd 0 j) d) (tok 0 r)) ∧ k0_pay68 q (ix2 (kchan 1 d) (lane j r)) = 0 := by
  fin_cases j <;> constructor <;> (pointwise [k0_pay68, lane, kchan, chan, hd, tok]; try simp [far r])

theorem query_1 (q : FVec Ideal S512x256 .bf16) (d : Fin 64) (j : Fin 4) (r : Fin 128) :
    k0_pay79 q (ix2 (kchan 1 d) (lane j r)) = q (ix2 (chan (hd 1 j) d) (tok 0 r)) ∧ k0_pay79 q (ix2 (kchan 0 d) (lane j r)) = 0 := by
  fin_cases j <;> constructor <;> (pointwise [k0_pay79, lane, kchan, chan, hd, tok]; try simp [far r])

theorem score_00 (q : FVec Ideal S512x256 .bf16) (k : FVec Ideal S256x128 .bf16) (z : FVec Ideal S256x512 .f32) :
    k0_pay69 k z (k0_pay68 q) (constant S256x512 .f32 0x00000000#32) = sc 0 0 q k z := by
  funext i
  obtain ⟨x, l, rfl⟩ : ∃ x l, i = ix2 x l := ⟨i 0, i 1, ValueIdx.eq_ix2 i⟩
  obtain ⟨j, r, rfl⟩ := lane_cases l
  rw [sc_lane]
  have e := half_0 (fun c => k (ix2 x c)) (fun c => k0_pay68 q (ix2 c (lane j r))) (fun d => (query_0 q d j r).2)
  simp only [(query_0 q _ j r).1] at e
  rw [← e]
  generalize k0_pay68 q = p
  pointwise [k0_pay69]

theorem score_10 (q : FVec Ideal S512x256 .bf16) (k : FVec Ideal S256x128 .bf16) (z : FVec Ideal S256x512 .f32) :
    k0_pay80 k z (k0_pay79 q) (constant S256x512 .f32 0x00000000#32) = sc 1 0 q k z := by
  funext i
  obtain ⟨x, l, rfl⟩ : ∃ x l, i = ix2 x l := ⟨i 0, i 1, ValueIdx.eq_ix2 i⟩
  obtain ⟨j, r, rfl⟩ := lane_cases l
  rw [sc_lane]
  have e := half_1 (fun c => k (ix2 x c)) (fun c => k0_pay79 q (ix2 c (lane j r))) (fun d => (query_1 q d j r).2)
  simp only [(query_1 q _ j r).1] at e
  rw [← e]
  generalize k0_pay79 q = p
  pointwise [k0_pay80]

/-- The same for the second block. -/
theorem score_01 (c s : FVec Ideal S64x256 .f32) (q : FVec Ideal S512x256 .bf16) (k1 : FVec Ideal S256x128 .f32) (c1 s1 : FVec Ideal S64x128 .f32)
    (z1 k2 : FVec Ideal S256x128 .f32) : k0_pay98 c s q k1 c1 s1 z1 k2 = sc 0 1 q (k0_pay95 c s k1 c1 s1 k2) (k0_pay97 z1) := by
  funext i
  obtain ⟨x, l, rfl⟩ : ∃ x l, i = ix2 x l := ⟨i 0, i 1, ValueIdx.eq_ix2 i⟩
  generalize hk : k0_pay95 c s k1 c1 s1 k2 = k
  generalize hz : k0_pay97 z1 = z
  obtain ⟨j, r, rfl⟩ := lane_cases l
  rw [sc_lane]
  have e := half_0 (fun c => k (ix2 x c)) (fun c => if h : c.val < 64 then q (ix2 (chan (hd 0 j) ⟨c.val, h⟩) (tok 1 r)) else 0)
    (fun d => dif_neg (by show ¬64 * 1 + d.val < 64; omega))
  have e' : ∀ d : Fin 64, (if h : (kchan 0 d).val < 64 then q (ix2 (chan (hd 0 j) ⟨(kchan 0 d).val, h⟩) (tok 1 r)) else 0) = q (ix2 (chan (hd 0 j) d) (tok 1 r)) := fun d => by
    have h : (kchan 0 d).val = d.val := by show 64 * 0 + d.val = d.val; omega
    simp only [h, d.isLt, dite_true]
  simp only [e'] at e
  rw [← e]
  fin_cases j <;> (pointwise [k0_pay98, hk, hz, lane, chan, hd, tok]; try simp [far r])

theorem score_11 (q : FVec Ideal S512x256 .bf16) (k : FVec Ideal S256x128 .bf16) (z : FVec Ideal S256x512 .f32) :
    k0_pay109 q k z = sc 1 1 q k z := by
  funext i
  obtain ⟨x, l, rfl⟩ : ∃ x l, i = ix2 x l := ⟨i 0, i 1, ValueIdx.eq_ix2 i⟩
  obtain ⟨j, r, rfl⟩ := lane_cases l
  rw [sc_lane]
  have e := half_1 (fun c => k (ix2 x c)) (fun c => if h : 64 ≤ c.val then q (ix2 (chan (hd 1 j) ⟨c.val - 64, by omega⟩) (tok 1 r)) else 0)
    (fun d => dif_neg (by show ¬64 ≤ 64 * 0 + d.val; omega))
  have e' : ∀ d : Fin 64, (if h : 64 ≤ (kchan 1 d).val then q (ix2 (chan (hd 1 j) ⟨(kchan 1 d).val - 64, by omega⟩) (tok 1 r)) else 0) = q (ix2 (chan (hd 1 j) d) (tok 1 r)) := fun d => by
    have h : (kchan 1 d).val = 64 + d.val := by show 64 * 1 + d.val = 64 + d.val; omega
    simp only [h, Nat.le_add_right, dite_true, Nat.add_sub_cancel_left]
  simp only [e'] at e
  rw [← e]
  fin_cases j <;> (pointwise [k0_pay109, lane, chan, hd, tok]; try simp [far r])

/-- The log-sums of a group's rows. -/
def lt (z : FVec Ideal S1x512 .f32) (S : FVec Ideal S256x512 .f32) : FVec Ideal S1x512 .f32 := fun i =>
  lse (fun x => S (ix2 x (i 1))) (z (ix2 0 (i 1)))

/-- The weighted values of the `j`-th head of the group of key head `v`. -/
def ot (v : Fin 2) (j : Fin 4) (z : FVec Ideal S1x512 .f32) (w : FVec Ideal S128x256 .bf16) (S : FVec Ideal S256x512 .f32) : FVec Ideal S64x128 .bf16 := fun i =>
  avg (fun x => S (ix2 x (lane j (i 1)))) (z (ix2 0 (lane j (i 1)))) (fun x => w (ix2 (kchan v (i 0)) x))

/-- The larger of a lane's scores and its sink, and the scores less that. -/
def mx (S : FVec Ideal S256x512 .f32) (z : FVec Ideal S1x512 .f32) : FVec Ideal S1x512 .f32 :=
  maximumf (shapeCast S1x512 (multiReduction .maximumf [0] S512 S 0xFF800000#32 reduces_S256x512_S512 (.inl rfl) rfl) shapeCasts_S512_S1x512) z
def df (S : FVec Ideal S256x512 .f32) (z : FVec Ideal S1x512 .f32) : FVec Ideal S256x512 .f32 :=
  subf S (broadcastTo S256x512 (mx S z) broadcasts_S1x512_S256x512)

theorem mx_at (S : FVec Ideal S256x512 .f32) (z : FVec Ideal S1x512 .f32) (l : Fin 512) :
    mx S z (ix2 0 l) = top (fun x => S (ix2 x l)) (z (ix2 0 l)) := by
  pointwise [mx]
  rfl

theorem df_at (S : FVec Ideal S256x512 .f32) (z : FVec Ideal S1x512 .f32) (x : Fin 256) (l : Fin 512) :
    df S z (ix2 x l) = S (ix2 x l) - top (fun x => S (ix2 x l)) (z (ix2 0 l)) := by
  rw [← mx_at]
  unfold df
  generalize mx S z = y
  pointwise []

theorem lt_at (S : FVec Ideal S256x512 .f32) (z : FVec Ideal S1x512 .f32) : k0_pay103 z (mx S z) (df S z) = lt z S := by
  funext i
  obtain ⟨l, rfl⟩ : ∃ l, i = ix2 0 l := ⟨i 1, by rw [show (0 : Fin 1) = i 0 from (Fin.eq_zero (i 0)).symm]; exact ValueIdx.eq_ix2 i⟩
  have hm := mx_at S z l
  have hd := fun x => df_at S z x l
  revert hm hd
  generalize mx S z = y
  generalize df S z = D
  intro hm hd
  pointwise [k0_pay103, k0_pay102, k0_pay101]
  simp only [hm, hd]
  rfl

theorem ot_0 (S : FVec Ideal S256x512 .f32) (z : FVec Ideal S1x512 .f32) (w : FVec Ideal S128x256 .bf16) (j : Fin 4) (d : Fin 64) (r : Fin 128) :
    k0_pay104 z w (mx S z) (df S z) (ix2 d (lane j r)) = ot 0 j z w S (ix2 d r) := by
  have hm := mx_at S z (lane j r)
  have hd := fun x => df_at S z x (lane j r)
  revert hm hd
  generalize mx S z = y
  generalize df S z = D
  intro hm hd
  have hk : (⟨d.val, by omega⟩ : Fin 128) = kchan 0 d := Fin.ext (by show d.val = 64 * 0 + d.val; omega)
  pointwise [k0_pay104, k0_pay102, k0_pay101]
  simp only [hm, hd, hk]
  rfl

theorem ot_1 (S : FVec Ideal S256x512 .f32) (z : FVec Ideal S1x512 .f32) (w : FVec Ideal S128x256 .bf16) (j : Fin 4) (d : Fin 64) (r : Fin 128) :
    k0_pay4 z w (mx S z) (df S z) (ix2 d (lane j r)) = ot 1 j z w S (ix2 d r) := by
  have hm := mx_at S z (lane j r)
  have hd := fun x => df_at S z x (lane j r)
  revert hm hd
  generalize mx S z = y
  generalize df S z = D
  intro hm hd
  pointwise [k0_pay4, k0_pay2, k0_pay1]
  simp only [hm, hd]
  rfl

/-- A group's heads, cut out one by one. -/
theorem cut (X : FVec Ideal S64x512 .bf16) (d : Fin 64) (r : Fin 128) :
    extractStridedSlice S64x128 ![0, 0] X slices_S64x512_o0_0_S64x128 (ix2 d r) = X (ix2 d (lane 0 r)) ∧
    extractStridedSlice S64x128 ![0, 128] X slices_S64x512_o0_128_S64x128 (ix2 d r) = X (ix2 d (lane 1 r)) ∧
    extractStridedSlice S64x128 ![0, 256] X slices_S64x512_o0_256_S64x128 (ix2 d r) = X (ix2 d (lane 2 r)) ∧
    extractStridedSlice S64x128 ![0, 384] X slices_S64x512_o0_384_S64x128 (ix2 d r) = X (ix2 d (lane 3 r)) := by
  refine ⟨?_, ?_, ?_, ?_⟩ <;> pointwise [lane]

section

variable (z : FVec Ideal S1x512 .f32) (w : FVec Ideal S128x256 .bf16) (S : FVec Ideal S256x512 .f32)
variable (k : FVec Ideal S256x128 .bf16) (b : FVec Ideal S256x512 .f32) (q : FVec Ideal S128x512 .bf16) (c : FVec Ideal S256x512 .f32)

theorem heads_0 : k0_pay105 z w (mx S z) (df S z) = ot 0 0 z w S ∧ k0_pay106 z w (mx S z) (df S z) = ot 0 1 z w S ∧
    k0_pay107 z w (mx S z) (df S z) = ot 0 2 z w S ∧ k0_pay108 z w (mx S z) (df S z) = ot 0 3 z w S := by
  refine ⟨?_, ?_, ?_, ?_⟩ <;> funext i <;> obtain ⟨d, r, rfl⟩ : ∃ d r, i = ix2 d r := ⟨i 0, i 1, ValueIdx.eq_ix2 i⟩
  · exact (cut _ d r).1.trans (ot_0 S z w 0 d r)
  · exact (cut _ d r).2.1.trans (ot_0 S z w 1 d r)
  · exact (cut _ d r).2.2.1.trans (ot_0 S z w 2 d r)
  · exact (cut _ d r).2.2.2.trans (ot_0 S z w 3 d r)

theorem heads_1 : k0_pay5 z w (mx S z) (df S z) = ot 1 0 z w S ∧ k0_pay6 z w (mx S z) (df S z) = ot 1 1 z w S ∧
    k0_pay7 z w (mx S z) (df S z) = ot 1 2 z w S ∧ k0_pay8 z w (mx S z) (df S z) = ot 1 3 z w S := by
  refine ⟨?_, ?_, ?_, ?_⟩ <;> funext i <;> obtain ⟨d, r, rfl⟩ : ∃ d r, i = ix2 d r := ⟨i 0, i 1, ValueIdx.eq_ix2 i⟩
  · exact (cut _ d r).1.trans (ot_1 S z w 0 d r)
  · exact (cut _ d r).2.1.trans (ot_1 S z w 1 d r)
  · exact (cut _ d r).2.2.1.trans (ot_1 S z w 2 d r)
  · exact (cut _ d r).2.2.2.trans (ot_1 S z w 3 d r)

/-- The first block's, of key head 0 … -/
theorem first_0 : k0_pay75 z k w b q c = ot 0 0 z w (k0_pay69 k b q c) ∧
    k0_pay76 z k w b q c = ot 0 1 z w (k0_pay69 k b q c) ∧ k0_pay77 z k w b q c = ot 0 2 z w (k0_pay69 k b q c) ∧
    k0_pay78 z k w b q c = ot 0 3 z w (k0_pay69 k b q c) :=
  have h := heads_0 z w (k0_pay69 k b q c)
  ⟨h.1, h.2.1, h.2.2.1, h.2.2.2⟩

theorem sums_0 : k0_pay73 z k b q c = lt z (k0_pay69 k b q c) := lt_at (k0_pay69 k b q c) z

/-- … and of key head 1. -/
theorem first_1 : k0_pay86 z k w b q c = ot 1 0 z w (k0_pay80 k b q c) ∧
    k0_pay87 z k w b q c = ot 1 1 z w (k0_pay80 k b q c) ∧ k0_pay88 z k w b q c = ot 1 2 z w (k0_pay80 k b q c) ∧
    k0_pay89 z k w b q c = ot 1 3 z w (k0_pay80 k b q c) :=
  have h := heads_1 z w (k0_pay80 k b q c)
  ⟨h.1, h.2.1, h.2.2.1, h.2.2.2⟩

theorem sums_1 : k0_pay84 z k b q c = lt z (k0_pay80 k b q c) := lt_at (k0_pay80 k b q c) z

end

/-- The second block's larger values are those of its scores. -/
theorem second_0 (z : FVec Ideal S1x512 .f32) (c s : FVec Ideal S64x256 .f32) (q : FVec Ideal S512x256 .bf16) (k1 : FVec Ideal S256x128 .f32)
    (c1 s1 : FVec Ideal S64x128 .f32) (z1 k2 : FVec Ideal S256x128 .f32) :
    k0_pay99 c s q z k1 c1 s1 z1 k2 = mx (k0_pay98 c s q k1 c1 s1 z1 k2) z ∧ k0_pay100 c s q z k1 c1 s1 z1 k2 = df (k0_pay98 c s q k1 c1 s1 z1 k2) z :=
  ⟨rfl, rfl⟩

theorem second_1 (z : FVec Ideal S1x512 .f32) (q : FVec Ideal S512x256 .bf16) (k : FVec Ideal S256x128 .bf16) (b : FVec Ideal S256x512 .f32) :
    k0_pay110 q z k b = mx (k0_pay109 q k b) z ∧ k0_pay111 q z k b = df (k0_pay109 q k b) z :=
  ⟨rfl, rfl⟩

theorem lt_at' (S : FVec Ideal S256x512 .f32) (z : FVec Ideal S1x512 .f32) : k0_pay3 z (mx S z) (df S z) = lt z S := lt_at S z

end Cert.FwdIdeal.Hand
-- ==== Proof.FwdFill.lean ====
module

public import proofs.«01_k».proof.Proof.FwdGate
public import proofs.«01_k».proof.Proof.FwdAttn

/-!
A point's block of concatenated outputs, put together head by head, and its
block of log-sums.
-/

@[expose] public section

set_option maxRecDepth 16384

noncomputable section

namespace Cert.FwdIdeal.Hand

open Cert.FwdIdeal Cert.FwdIdeal.Gen
open Idealize.ShloMosaic
open Cert.FwdMath

variable {F : FTy → Type} {e : EltTy}

/-- Row `d` of the `a`-th of sixteen heads. -/
def row (a : Fin 16) (d : Fin 64) : Fin 1024 := ⟨64 * a.val + d.val, by omega⟩

/-- The block with each head's part in each of its two blocks of tokens put in place. -/
def fill (T : Fin 16 → Fin 2 → Vec F S64x128 e) (S : Vec F S1024x256 e) : Vec F S1024x256 e :=
  put inb_S1024x256_S64x128_960_128 (T 15 1) (put inb_S1024x256_S64x128_896_128 (T 14 1) (put inb_S1024x256_S64x128_832_128 (T 13 1) (put
    inb_S1024x256_S64x128_768_128 (T 12 1) (put inb_S1024x256_S64x128_704_128 (T 11 1) (put inb_S1024x256_S64x128_640_128 (T 10 1) (put
    inb_S1024x256_S64x128_576_128 (T 9 1) (put inb_S1024x256_S64x128_512_128 (T 8 1) (put inb_S1024x256_S64x128_960_0 (T 15 0) (put
    inb_S1024x256_S64x128_896_0 (T 14 0) (put inb_S1024x256_S64x128_832_0 (T 13 0) (put inb_S1024x256_S64x128_768_0 (T 12 0) (put
    inb_S1024x256_S64x128_704_0 (T 11 0) (put inb_S1024x256_S64x128_640_0 (T 10 0) (put inb_S1024x256_S64x128_576_0 (T 9 0) (put
    inb_S1024x256_S64x128_512_0 (T 8 0) (put inb_S1024x256_S64x128_448_128 (T 7 1) (put inb_S1024x256_S64x128_384_128 (T 6 1) (put
    inb_S1024x256_S64x128_320_128 (T 5 1) (put inb_S1024x256_S64x128_256_128 (T 4 1) (put inb_S1024x256_S64x128_192_128 (T 3 1) (put
    inb_S1024x256_S64x128_128_128 (T 2 1) (put inb_S1024x256_S64x128_64_128 (T 1 1) (put inb_S1024x256_S64x128_0_128 (T 0 1) (put
    inb_S1024x256_S64x128_448_0 (T 7 0) (put inb_S1024x256_S64x128_384_0 (T 6 0) (put inb_S1024x256_S64x128_320_0 (T 5 0) (put inb_S1024x256_S64x128_256_0
    (T 4 0) (put inb_S1024x256_S64x128_192_0 (T 3 0) (put inb_S1024x256_S64x128_128_0 (T 2 0) (put inb_S1024x256_S64x128_64_0 (T 1 0) (put
    inb_S1024x256_S64x128_0_0 (T 0 0) S)))))))))))))))))))))))))))))))

theorem fill_cell (T : Fin 16 → Fin 2 → Vec F S64x128 e) (S : Vec F S1024x256 e) (a : Fin 16) (b : Fin 2)
    (inb : ∀ x, (![64 * a.val, 128 * b.val] : Fin 2 → ℕ) x + S64x128.size x ≤ S1024x256.size x) : cell inb (fill T S) = T a b := by
  unfold fill
  fin_cases a <;> fin_cases b <;> simp (disch := decide) only [cell_put_other, cell_put, Nat.reduceMul]
  all_goals rfl

theorem fill_at (T : Fin 16 → Fin 2 → Vec F S64x128 e) (S : Vec F S1024x256 e) (a : Fin 16) (b : Fin 2) (d : Fin 64) (r : Fin 128) :
    fill T S (ix2 (row a d) (tok b r)) = T a b (ix2 d r) := by
  have inb : ∀ x, (![64 * a.val, 128 * b.val] : Fin 2 → ℕ) x + S64x128.size x ≤ S1024x256.size x := by
    intro x
    fin_cases x
    · show 64 * a.val + 64 ≤ 1024
      omega
    · show 128 * b.val + 128 ≤ 256
      omega
  rw [← fill_cell T S a b inb]
  refine congrArg (fill T S) (funext fun x => Fin.ext ?_)
  fin_cases x
  · show 64 * a.val + d.val = 64 * a.val + 1 * d.val
    omega
  · show 128 * b.val + r.val = 128 * b.val + 1 * r.val
    omega

/-- A block of eight rows of log-sums of which four are stored. -/
def fillRows (a b c d : Vec F S1x512 e) (S : Vec F S8x512 e) : Vec F S8x512 e :=
  put inb_S8x512_S1x512_3_0 d (put inb_S8x512_S1x512_2_0 c (put inb_S8x512_S1x512_1_0 b (put inb_S8x512_S1x512_0_0 a S)))

theorem fillRows_at (a b c d : Vec F S1x512 e) (S : Vec F S8x512 e) (k : Fin 8) (l : Fin 512) : fillRows a b c d S (ix2 k l) =
    if k.val = 0 then a (ix2 0 l) else if k.val = 1 then b (ix2 0 l) else if k.val = 2 then c (ix2 0 l) else if k.val = 3 then d (ix2 0 l) else S (ix2 k l) := by
  have hit : ∀ (n : ℕ) (inb : ∀ x, (![n, 0] : Fin 2 → ℕ) x + S1x512.size x ≤ S8x512.size x) (w : Vec F S1x512 e) (S : Vec F S8x512 e),
      put inb w S (ix2 k l) = if k.val = n then w (ix2 0 l) else S (ix2 k l) := by
    intro n inb w S
    unfold put
    by_cases h : k.val = n
    · rw [if_pos h, dif_pos (by
        intro x
        fin_cases x
        · show n ≤ k.val ∧ k.val < n + 1
          omega
        · show 0 ≤ l.val ∧ l.val < 0 + 512
          omega)]
      refine congrArg w (funext fun x => Fin.ext ?_)
      rw [Rect.unitLocal_val]
      fin_cases x
      · show k.val - n = 0
        omega
      · show l.val - 0 = l.val
        omega
    · rw [if_neg h, dif_neg]
      intro hall
      have := hall 0
      have h1 : n ≤ k.val ∧ k.val < n + 1 := this
      omega
  unfold fillRows
  rw [hit 3, hit 2, hit 1, hit 0]
  by_cases h0 : k.val = 0
  · simp [h0]
  by_cases h1 : k.val = 1
  · simp [h1]
  by_cases h2 : k.val = 2
  · simp [h2]
  simp [h0, h1, h2]

end Cert.FwdIdeal.Hand
-- ==== Proof.FwdStep.lean ====
module

public import proofs.«01_k».proof.Proof.Gen.FwdIdeal.Frame
public import proofs.«01_k».proof.Proof.FwdFill

/-!
What each grid point leaves: the outputs of its two blocks of tokens, the
log-sums of their rows, and the masked weights it works with.
-/

@[expose] public section

set_option maxRecDepth 16384

noncomputable section

namespace Cert.FwdIdeal.Hand

open Cert.FwdIdeal Cert.FwdIdeal.Gen Idealize.ShloMosaic Idealize.ShloMosaic.TcCoe Idealize.SL.Sem
open Idealize.ShloMosaic.Pipeline (Dat)
open Cert.FwdMath

/-- Matrix `a` of eight. -/
def wt {e : EltTy} (x : Vec Ideal S8x128x128 e) (a : Fin 8) : Vec Ideal S1x128x128 e := fun j => x (ix3 a (j 1) (j 2))
/-- Row `a` of eight. -/
def br (x : Vec Ideal S8x128 .f32) (a : Fin 8) : Vec Ideal S1x128 .f32 := fun j => x (ix2 a (j 1))

/-- The normalised values at a point. -/
def vv (x : Vec Ideal S512x256 .f32) (g y : Vec Ideal S512x1 .f32) : FVec Ideal S512x256 .bf16 := k0_pay24 (k0_pay22 x) (k0_pay23 g) y
/-- The sinks of key head 0, along the lanes … -/
def sk0 (x : Vec Ideal S8 .f32) : FVec Ideal S1x512 .f32 := k0_pay59 (F := Ideal) (x (ix1 0)) (x (ix1 1)) (x (ix1 2)) (x (ix1 3))
/-- … and of key head 1. -/
def sk1 (x : Vec Ideal S8 .f32) : FVec Ideal S1x512 .f32 := k0_pay60 (F := Ideal) (x (ix1 4)) (x (ix1 5)) (x (ix1 6)) (x (ix1 7))
/-- What a point reads. -/
structure Pt where
  i : grid0.Coords
  x0 : Vec Ideal S8 .f32
  x1 : Vec Ideal S512x256 .f32
  x2 : Vec Ideal S512x256 .f32
  x3 : Vec Ideal S512x256 .f32
  x4 : Vec Ideal S256x256 .f32
  x5 : Vec Ideal S256x128 .f32
  x6 : Vec Ideal S64x256 .f32
  x7 : Vec Ideal S64x256 .f32
  x8 : Vec Ideal S64x128 .f32
  x9 : Vec Ideal S64x128 .f32
  x10 : Vec Ideal S8x128x128 .f32
  x11 : Vec Ideal S8x128 .f32
  x12 : Vec Ideal S512x1 .f32
  x13 : Vec Ideal S512x1 .f32
  x14 : Vec Ideal S2x256x128 .f32

namespace Pt

variable (p : Pt)

def u : FVec Ideal S512x256 .f32 := k0_pay21 p.x1
def v : FVec Ideal S512x256 .bf16 := vv p.x2 p.x12 p.x13
def q : FVec Ideal S512x256 .bf16 := qr p.x3 p.x6 p.x7
def k (b : Fin 2) : FVec Ideal S256x128 .bf16 := ![k0 p.x4 p.x6 p.x7 p.x5 p.x8 p.x9, k1 p.x4 p.x6 p.x7] b
def w (b : Fin 2) : FVec Ideal S128x256 .bf16 := ![w0 p.x4 p.x5, w1 p.x4] b
/-- The band's bias for block `b`. -/
def bias (b : Fin 2) : FVec Ideal S256x512 .f32 :=
  ![k0_pay67 (cell (k0_off1_inb p.i) p.x14), k0_pay97 (k0_pay93 (cell inb_S2x256x128_S1x256x128_1_0_0 p.x14))] b
def sink (v : Fin 2) : FVec Ideal S1x512 .f32 :=
  ![sk0 p.x0, sk1 p.x0] v
def score (v b : Fin 2) : FVec Ideal S256x512 .f32 := sc v b p.q (p.k b) (p.bias b)
/-- Each head's part of each block: eight of the gated unit, eight of the attention. -/
def parts (wm : Vec Ideal S8x128x128 .bf16) (a : Fin 16) (b : Fin 2) : Vec Ideal S64x128 .bf16 :=
  if h : a.val < 8 then gt ⟨a.val, h⟩ b p.u p.v (wt wm ⟨a.val, h⟩) (br p.x11 ⟨a.val, h⟩)
  else ot ⟨(a.val - 8) / 4, by omega⟩ ⟨(a.val - 8) % 4, by omega⟩ (p.sink ⟨(a.val - 8) / 4, by omega⟩) (p.w b) (p.score ⟨(a.val - 8) / 4, by omega⟩ b)

end Pt

theorem cell_wt {e : EltTy} {n : ℕ} (h : n < 8) (inb : ∀ a, (![n, 0, 0] : Fin 3 → ℕ) a + S1x128x128.size a ≤ S8x128x128.size a)
    (x : Vec Ideal S8x128x128 e) : cell inb x = wt x ⟨n, h⟩ := by
  funext j
  refine congrArg x (funext fun a => Fin.ext ?_)
  have h0 : (j 0).val < 1 := (j 0).isLt
  show (![n, 0, 0] : Fin 3 → ℕ) a + 1 * (j a).val = _
  fin_cases a
  · show n + 1 * (j 0).val = n
    omega
  · show 0 + 1 * (j 1).val = (j 1).val
    omega
  · show 0 + 1 * (j 2).val = (j 2).val
    omega

theorem cell_br {n : ℕ} (h : n < 8) (inb : ∀ a, (![n, 0] : Fin 2 → ℕ) a + S1x128.size a ≤ S8x128.size a)
    (x : Vec Ideal S8x128 .f32) : cell inb x = br x ⟨n, h⟩ := by
  funext j
  refine congrArg x (funext fun a => Fin.ext ?_)
  have h0 : (j 0).val < 1 := (j 0).isLt
  show (![n, 0] : Fin 2 → ℕ) a + 1 * (j a).val = _
  fin_cases a
  · show n + 1 * (j 0).val = n
    omega
  · show 0 + 1 * (j 1).val = (j 1).val
    omega

theorem cell_sink {n : ℕ} (h : n < 8) (inb : ∀ a, (![n] : Fin 1 → ℕ) a + S1.size a ≤ S8.size a)
    (x : Vec Ideal S8 .f32) (i : (Rect.unit (s := S8) ![n] S1.size inb).shape.Idx) : cell inb x i = x (ix1 ⟨n, h⟩) := by
  refine congrArg x (funext fun a => Fin.ext ?_)
  fin_cases a
  have h0 : (i 0).val < 1 := (i 0).isLt
  show n + 1 * (i 0).val = n
  omega

theorem read_scr (h : (Memref.whole cc0_scratch0).IsWhole) (x : Vec Ideal S8x128x128 .bf16) :
    View.read (Elt Ideal) (View.whole cc0_scratch0) (h.unread x) = x := h.read_unread x

/-! The values a point names, from what it reads. -/

section Names

/-- Eight masked matrices stored one over another are the eight masked. -/
theorem puts8 (V : Vec Ideal S8x128x128 .f32) (S : Vec Ideal S8x128x128 .bf16) :
    put inb_S8x128x128_S1x128x128_7_0_0 (tri (wt V 7)) (put inb_S8x128x128_S1x128x128_6_0_0 (tri (wt V 6)) (put inb_S8x128x128_S1x128x128_5_0_0 (tri (wt V 5)) (put inb_S8x128x128_S1x128x128_4_0_0 (tri (wt V 4)) (put inb_S8x128x128_S1x128x128_3_0_0 (tri (wt V 3)) (put inb_S8x128x128_S1x128x128_2_0_0 (tri (wt V 2)) (put inb_S8x128x128_S1x128x128_1_0_0 (tri (wt V 1)) (put inb_S8x128x128_S1x128x128_0_0_0 (tri (wt V 0)) S))))))) = tri8 V := by
  suffices h : ∀ a, wt (e := .bf16) (put inb_S8x128x128_S1x128x128_7_0_0 (tri (wt V 7)) (put inb_S8x128x128_S1x128x128_6_0_0 (tri (wt V 6)) (put inb_S8x128x128_S1x128x128_5_0_0 (tri (wt V 5)) (put inb_S8x128x128_S1x128x128_4_0_0 (tri (wt V 4)) (put inb_S8x128x128_S1x128x128_3_0_0 (tri (wt V 3)) (put inb_S8x128x128_S1x128x128_2_0_0 (tri (wt V 2)) (put inb_S8x128x128_S1x128x128_1_0_0 (tri (wt V 1)) (put inb_S8x128x128_S1x128x128_0_0_0 (tri (wt V 0)) S)))))))) a = wt (tri8 V) a by
    funext j
    have e : j = ix3 (j 0) (j 1) (j 2) := ValueIdx.eq_ix3 j
    rw [e]
    exact congrFun (h (j 0)) (ix3 0 (j 1) (j 2))
  intro a
  fin_cases a
  · exact (cell_wt (by decide) inb_S8x128x128_S1x128x128_0_0_0 _).symm.trans (by simp (disch := decide) only [cell_put_other, cell_put]; rfl)
  · exact (cell_wt (by decide) inb_S8x128x128_S1x128x128_1_0_0 _).symm.trans (by simp (disch := decide) only [cell_put_other, cell_put]; rfl)
  · exact (cell_wt (by decide) inb_S8x128x128_S1x128x128_2_0_0 _).symm.trans (by simp (disch := decide) only [cell_put_other, cell_put]; rfl)
  · exact (cell_wt (by decide) inb_S8x128x128_S1x128x128_3_0_0 _).symm.trans (by simp (disch := decide) only [cell_put_other, cell_put]; rfl)
  · exact (cell_wt (by decide) inb_S8x128x128_S1x128x128_4_0_0 _).symm.trans (by simp (disch := decide) only [cell_put_other, cell_put]; rfl)
  · exact (cell_wt (by decide) inb_S8x128x128_S1x128x128_5_0_0 _).symm.trans (by simp (disch := decide) only [cell_put_other, cell_put]; rfl)
  · exact (cell_wt (by decide) inb_S8x128x128_S1x128x128_6_0_0 _).symm.trans (by simp (disch := decide) only [cell_put_other, cell_put]; rfl)
  · exact (cell_wt (by decide) inb_S8x128x128_S1x128x128_7_0_0 _).symm.trans (by simp (disch := decide) only [cell_put_other, cell_put]; rfl)

theorem masked (c arg11 harg11) (arg18 : Memref sig .tc .vmem S8x128x128 .bf16) (x10 : Vec Ideal S8x128x128 .f32) :
    arg18.view.read (Elt Ideal) (arg18.view.writes (Elt Ideal) arg18.view.junk (kernelRun0_A.sl.HS0_8 (F := Ideal) c arg11 harg11 x10)) = tri8 x10 := by
  simp (disch := decide) only [kernelRun0_A.sl.HS0_8, kernelRun0_A.sl.r, kernelRun0_A.sl.r_1, read_put, readAt_cell, Memref.IsWhole.read_unread, cell_wt, tri_all]
  exact puts8 x10 _

theorem mask0_A (c) (arg11) (harg11) (arg18) (x10) : kernelRun0_A.sl.v61 (F := Ideal) c arg11 harg11 arg18 x10 = wt (tri8 x10) 0 := by
  simp (disch := decide) only [kernelRun0_A.sl.v61, masked, readAt_cell, Memref.IsWhole.read_unread, cell_full2, readCov_cell, cell_wt]
  rfl

theorem mask1_A (c) (arg11) (harg11) (arg18) (x10) : kernelRun0_A.sl.v73 (F := Ideal) c arg11 harg11 arg18 x10 = wt (tri8 x10) 1 := by
  simp (disch := decide) only [kernelRun0_A.sl.v73, masked, readAt_cell, Memref.IsWhole.read_unread, cell_full2, readCov_cell, cell_wt]
  rfl

theorem mask2_A (c) (arg11) (harg11) (arg18) (x10) : kernelRun0_A.sl.v85 (F := Ideal) c arg11 harg11 arg18 x10 = wt (tri8 x10) 2 := by
  simp (disch := decide) only [kernelRun0_A.sl.v85, masked, readAt_cell, Memref.IsWhole.read_unread, cell_full2, readCov_cell, cell_wt]
  rfl

theorem mask3_A (c) (arg11) (harg11) (arg18) (x10) : kernelRun0_A.sl.v97 (F := Ideal) c arg11 harg11 arg18 x10 = wt (tri8 x10) 3 := by
  simp (disch := decide) only [kernelRun0_A.sl.v97, masked, readAt_cell, Memref.IsWhole.read_unread, cell_full2, readCov_cell, cell_wt]
  rfl

theorem mask4_A (c) (arg11) (harg11) (arg18) (x10) : kernelRun0_A.sl.v109 (F := Ideal) c arg11 harg11 arg18 x10 = wt (tri8 x10) 4 := by
  simp (disch := decide) only [kernelRun0_A.sl.v109, masked, readAt_cell, Memref.IsWhole.read_unread, cell_full2, readCov_cell, cell_wt]
  rfl

theorem mask5_A (c) (arg11) (harg11) (arg18) (x10) : kernelRun0_A.sl.v121 (F := Ideal) c arg11 harg11 arg18 x10 = wt (tri8 x10) 5 := by
  simp (disch := decide) only [kernelRun0_A.sl.v121, masked, readAt_cell, Memref.IsWhole.read_unread, cell_full2, readCov_cell, cell_wt]
  rfl

theorem mask6_A (c) (arg11) (harg11) (arg18) (x10) : kernelRun0_A.sl.v133 (F := Ideal) c arg11 harg11 arg18 x10 = wt (tri8 x10) 6 := by
  simp (disch := decide) only [kernelRun0_A.sl.v133, masked, readAt_cell, Memref.IsWhole.read_unread, cell_full2, readCov_cell, cell_wt]
  rfl

theorem mask7_A (c) (arg11) (harg11) (arg18) (x10) : kernelRun0_A.sl.v145 (F := Ideal) c arg11 harg11 arg18 x10 = wt (tri8 x10) 7 := by
  simp (disch := decide) only [kernelRun0_A.sl.v145, masked, readAt_cell, Memref.IsWhole.read_unread, cell_full2, readCov_cell, cell_wt]
  rfl

theorem u_A (c) (arg2) (harg2) (x1) : kernelRun0_A.sl.r_2 (F := Ideal) c arg2 harg2 x1 = k0_pay21 x1 := by
  simp (disch := decide) only [kernelRun0_A.sl.r_2, readAt_cell, Memref.IsWhole.read_unread, cell_full2]

theorem v1_A (c) (arg3) (harg3) (arg11) (harg11) (arg13) (harg13) (arg14) (harg14) (arg18) (x2) (x10) (x12) (x13) : kernelRun0_A.sl.r_6 (F := Ideal) c arg3 harg3 arg11 harg11 arg13 harg13 arg14 harg14 arg18 x2 x10 x12 x13 = k0_pay26 (k0_pay22 x2) (k0_pay23 x12) x13 (wt (tri8 x10) 1) := by
  simp (disch := decide) only [kernelRun0_A.sl.r_3, kernelRun0_A.sl.r_4, kernelRun0_A.sl.r_6, mask1_A, readAt_cell, Memref.IsWhole.read_unread, cell_full2]

theorem v_A (c) (arg3) (harg3) (arg13) (harg13) (arg14) (harg14) (x2) (x12) (x13) : kernelRun0_A.sl.r_5 (F := Ideal) c arg3 harg3 arg13 harg13 arg14 harg14 x2 x12 x13 = vv x2 x12 x13 := by
  simp (disch := decide) only [kernelRun0_A.sl.r_3, kernelRun0_A.sl.r_4, kernelRun0_A.sl.r_5, readAt_cell, Memref.IsWhole.read_unread, cell_full2]
  rfl

theorem q_A (c) (arg4) (harg4) (arg7) (harg7) (arg8) (harg8) (x3) (x6) (x7) : kernelRun0_A.sl.r_32 (F := Ideal) c arg4 harg4 arg7 harg7 arg8 harg8 x3 x6 x7 = qr x3 x6 x7 := by
  simp (disch := decide) only [kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_32, readAt_cell, Memref.IsWhole.read_unread, cell_full2]
  rfl

theorem sink0_A (c) (arg1) (harg1) (x0) : kernelRun0_A.sl.r_33 (F := Ideal) c arg1 harg1 x0 = sk0 x0 := by
  simp (disch := decide) only [kernelRun0_A.sl.r_24, kernelRun0_A.sl.r_25, kernelRun0_A.sl.r_26, kernelRun0_A.sl.r_27, kernelRun0_A.sl.r_33, readAt_cell, Memref.IsWhole.read_unread, cell_full2, cell_sink]
  rfl

theorem sink1_A (c) (arg1) (harg1) (x0) : kernelRun0_A.sl.r_34 (F := Ideal) c arg1 harg1 x0 = sk1 x0 := by
  simp (disch := decide) only [kernelRun0_A.sl.r_28, kernelRun0_A.sl.r_29, kernelRun0_A.sl.r_30, kernelRun0_A.sl.r_31, kernelRun0_A.sl.r_34, readAt_cell, Memref.IsWhole.read_unread, cell_full2, cell_sink]
  rfl

theorem k0_A (c) (arg5) (harg5) (arg6) (harg6) (arg7) (harg7) (arg8) (harg8) (arg9) (harg9) (arg10) (harg10) (x4) (x5) (x6) (x7) (x8) (x9) : kernelRun0_A.sl.r_38 (F := Ideal) c arg5 harg5 arg6 harg6 arg7 harg7 arg8 harg8 arg9 harg9 arg10 harg10 x4 x5 x6 x7 x8 x9 = k0 x4 x6 x7 x5 x8 x9 := by
  simp (disch := decide) only [kernelRun0_A.sl.r_13, kernelRun0_A.sl.r_14, kernelRun0_A.sl.r_15, kernelRun0_A.sl.r_35, kernelRun0_A.sl.r_36, kernelRun0_A.sl.r_37, kernelRun0_A.sl.r_38, readAt_cell, Memref.IsWhole.read_unread, cell_full2]
  rfl

theorem w0_A (c) (arg5) (harg5) (arg6) (harg6) (x4) (x5) : kernelRun0_A.sl.r_39 (F := Ideal) c arg5 harg5 arg6 harg6 x4 x5 = w0 x4 x5 := by
  simp (disch := decide) only [kernelRun0_A.sl.r_13, kernelRun0_A.sl.r_35, kernelRun0_A.sl.r_39, readAt_cell, Memref.IsWhole.read_unread, cell_full2]
  rfl

theorem bias0_A (c) (i) (arg15) (harg15) (x14) : kernelRun0_A.sl.r_40 (F := Ideal) c i arg15 harg15 x14 = k0_pay67 (cell (k0_off1_inb i) x14) := by
  simp (disch := decide) only [kernelRun0_A.sl.r_40, readAt_cell, Memref.IsWhole.read_unread, cell_full2]
  rfl

theorem k1_A (c) (arg5) (harg5) (arg7) (harg7) (arg8) (harg8) (x4) (x6) (x7) : kernelRun0_A.sl.r_48 (F := Ideal) c arg5 harg5 arg7 harg7 arg8 harg8 x4 x6 x7 = k1 x4 x6 x7 := by
  simp (disch := decide) only [kernelRun0_A.sl.r_13, kernelRun0_A.sl.r_14, kernelRun0_A.sl.r_15, kernelRun0_A.sl.r_43, kernelRun0_A.sl.r_44, kernelRun0_A.sl.r_45, kernelRun0_A.sl.r_47, kernelRun0_A.sl.r_48, readAt_cell, Memref.IsWhole.read_unread, cell_full2]
  rfl

theorem w1_A (c) (arg5) (harg5) (x4) : kernelRun0_A.sl.r_49 (F := Ideal) c arg5 harg5 x4 = w1 x4 := by
  simp (disch := decide) only [kernelRun0_A.sl.r_13, kernelRun0_A.sl.r_43, kernelRun0_A.sl.r_47, kernelRun0_A.sl.r_49, readAt_cell, Memref.IsWhole.read_unread, cell_full2]
  rfl

theorem bias1_A (c) (arg15) (harg15) (x14) : kernelRun0_A.sl.r_50 (F := Ideal) c arg15 harg15 x14 = k0_pay97 (k0_pay93 (cell inb_S2x256x128_S1x256x128_1_0_0 x14)) := by
  simp (disch := decide) only [kernelRun0_A.sl.r_46, kernelRun0_A.sl.r_50, readAt_cell, Memref.IsWhole.read_unread, cell_full2]
  rfl

theorem mx0_A (c) (arg1) (harg1) (arg4) (harg4) (arg5) (harg5) (arg7) (harg7) (arg8) (harg8) (arg15) (harg15) (x0) (x3) (x4) (x6) (x7) (x14) : kernelRun0_A.sl.r_51 (F := Ideal) c arg1 harg1 arg4 harg4 arg5 harg5 arg7 harg7 arg8 harg8 arg15 harg15 x0 x3 x4 x6 x7 x14 = mx (sc 0 1 (qr x3 x6 x7) (k1 x4 x6 x7) (k0_pay97 (k0_pay93 (cell inb_S2x256x128_S1x256x128_1_0_0 x14)))) (sk0 x0) := by
  simp (disch := decide) only [kernelRun0_A.sl.r_13, kernelRun0_A.sl.r_14, kernelRun0_A.sl.r_15, kernelRun0_A.sl.r_43, kernelRun0_A.sl.r_44, kernelRun0_A.sl.r_45, kernelRun0_A.sl.r_46, kernelRun0_A.sl.r_47, kernelRun0_A.sl.r_51, q_A, sink0_A, readAt_cell, Memref.IsWhole.read_unread, cell_full2, second_0, score_01]
  rfl

theorem df0_A (c) (arg1) (harg1) (arg4) (harg4) (arg5) (harg5) (arg7) (harg7) (arg8) (harg8) (arg15) (harg15) (x0) (x3) (x4) (x6) (x7) (x14) : kernelRun0_A.sl.r_52 (F := Ideal) c arg1 harg1 arg4 harg4 arg5 harg5 arg7 harg7 arg8 harg8 arg15 harg15 x0 x3 x4 x6 x7 x14 = df (sc 0 1 (qr x3 x6 x7) (k1 x4 x6 x7) (k0_pay97 (k0_pay93 (cell inb_S2x256x128_S1x256x128_1_0_0 x14)))) (sk0 x0) := by
  simp (disch := decide) only [kernelRun0_A.sl.r_13, kernelRun0_A.sl.r_14, kernelRun0_A.sl.r_15, kernelRun0_A.sl.r_43, kernelRun0_A.sl.r_44, kernelRun0_A.sl.r_45, kernelRun0_A.sl.r_46, kernelRun0_A.sl.r_47, kernelRun0_A.sl.r_52, q_A, sink0_A, readAt_cell, Memref.IsWhole.read_unread, cell_full2, second_0, score_01]
  rfl

theorem mx1_A (c) (arg1) (harg1) (arg4) (harg4) (arg5) (harg5) (arg7) (harg7) (arg8) (harg8) (arg15) (harg15) (x0) (x3) (x4) (x6) (x7) (x14) : kernelRun0_A.sl.r_53 (F := Ideal) c arg1 harg1 arg4 harg4 arg5 harg5 arg7 harg7 arg8 harg8 arg15 harg15 x0 x3 x4 x6 x7 x14 = mx (sc 1 1 (qr x3 x6 x7) (k1 x4 x6 x7) (k0_pay97 (k0_pay93 (cell inb_S2x256x128_S1x256x128_1_0_0 x14)))) (sk1 x0) := by
  simp (disch := decide) only [kernelRun0_A.sl.r_53, bias1_A, k1_A, q_A, sink1_A, readAt_cell, Memref.IsWhole.read_unread, cell_full2, second_1, score_11]

theorem df1_A (c) (arg1) (harg1) (arg4) (harg4) (arg5) (harg5) (arg7) (harg7) (arg8) (harg8) (arg15) (harg15) (x0) (x3) (x4) (x6) (x7) (x14) : kernelRun0_A.sl.r_54 (F := Ideal) c arg1 harg1 arg4 harg4 arg5 harg5 arg7 harg7 arg8 harg8 arg15 harg15 x0 x3 x4 x6 x7 x14 = df (sc 1 1 (qr x3 x6 x7) (k1 x4 x6 x7) (k0_pay97 (k0_pay93 (cell inb_S2x256x128_S1x256x128_1_0_0 x14)))) (sk1 x0) := by
  simp (disch := decide) only [kernelRun0_A.sl.r_54, bias1_A, k1_A, q_A, sink1_A, readAt_cell, Memref.IsWhole.read_unread, cell_full2, second_1, score_11]

theorem u_B (c) (arg2) (harg2) (x1) : kernelRun0_B.sl.r (F := Ideal) c arg2 harg2 x1 = k0_pay21 x1 := by
  simp (disch := decide) only [kernelRun0_B.sl.r, readAt_cell, Memref.IsWhole.read_unread, cell_full2]

theorem v1_B (c) (arg3) (harg3) (arg13) (harg13) (arg14) (harg14) (arg18) (harg18) (x2) (x12) (x13) (xs0) : kernelRun0_B.sl.r_4 (F := Ideal) c arg3 harg3 arg13 harg13 arg14 harg14 arg18 harg18 x2 x12 x13 xs0 = k0_pay26 (k0_pay22 x2) (k0_pay23 x12) x13 (wt xs0 1) := by
  simp (disch := decide) only [kernelRun0_B.sl.r_1, kernelRun0_B.sl.r_2, kernelRun0_B.sl.r_4, readAt_cell, Memref.IsWhole.read_unread, cell_full2, cell_wt]
  rfl

theorem v_B (c) (arg3) (harg3) (arg13) (harg13) (arg14) (harg14) (x2) (x12) (x13) : kernelRun0_B.sl.r_3 (F := Ideal) c arg3 harg3 arg13 harg13 arg14 harg14 x2 x12 x13 = vv x2 x12 x13 := by
  simp (disch := decide) only [kernelRun0_B.sl.r_1, kernelRun0_B.sl.r_2, kernelRun0_B.sl.r_3, readAt_cell, Memref.IsWhole.read_unread, cell_full2]
  rfl

theorem q_B (c) (arg4) (harg4) (arg7) (harg7) (arg8) (harg8) (x3) (x6) (x7) : kernelRun0_B.sl.r_30 (F := Ideal) c arg4 harg4 arg7 harg7 arg8 harg8 x3 x6 x7 = qr x3 x6 x7 := by
  simp (disch := decide) only [kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_30, readAt_cell, Memref.IsWhole.read_unread, cell_full2]
  rfl

theorem sink0_B (c) (arg1) (harg1) (x0) : kernelRun0_B.sl.r_31 (F := Ideal) c arg1 harg1 x0 = sk0 x0 := by
  simp (disch := decide) only [kernelRun0_B.sl.r_22, kernelRun0_B.sl.r_23, kernelRun0_B.sl.r_24, kernelRun0_B.sl.r_25, kernelRun0_B.sl.r_31, readAt_cell, Memref.IsWhole.read_unread, cell_full2, cell_sink]
  rfl

theorem sink1_B (c) (arg1) (harg1) (x0) : kernelRun0_B.sl.r_32 (F := Ideal) c arg1 harg1 x0 = sk1 x0 := by
  simp (disch := decide) only [kernelRun0_B.sl.r_26, kernelRun0_B.sl.r_27, kernelRun0_B.sl.r_28, kernelRun0_B.sl.r_29, kernelRun0_B.sl.r_32, readAt_cell, Memref.IsWhole.read_unread, cell_full2, cell_sink]
  rfl

theorem k0_B (c) (arg5) (harg5) (arg6) (harg6) (arg7) (harg7) (arg8) (harg8) (arg9) (harg9) (arg10) (harg10) (x4) (x5) (x6) (x7) (x8) (x9) : kernelRun0_B.sl.r_36 (F := Ideal) c arg5 harg5 arg6 harg6 arg7 harg7 arg8 harg8 arg9 harg9 arg10 harg10 x4 x5 x6 x7 x8 x9 = k0 x4 x6 x7 x5 x8 x9 := by
  simp (disch := decide) only [kernelRun0_B.sl.r_11, kernelRun0_B.sl.r_12, kernelRun0_B.sl.r_13, kernelRun0_B.sl.r_33, kernelRun0_B.sl.r_34, kernelRun0_B.sl.r_35, kernelRun0_B.sl.r_36, readAt_cell, Memref.IsWhole.read_unread, cell_full2]
  rfl

theorem w0_B (c) (arg5) (harg5) (arg6) (harg6) (x4) (x5) : kernelRun0_B.sl.r_37 (F := Ideal) c arg5 harg5 arg6 harg6 x4 x5 = w0 x4 x5 := by
  simp (disch := decide) only [kernelRun0_B.sl.r_11, kernelRun0_B.sl.r_33, kernelRun0_B.sl.r_37, readAt_cell, Memref.IsWhole.read_unread, cell_full2]
  rfl

theorem bias0_B (c) (i) (arg15) (harg15) (x14) : kernelRun0_B.sl.r_38 (F := Ideal) c i arg15 harg15 x14 = k0_pay67 (cell (k0_off1_inb i) x14) := by
  simp (disch := decide) only [kernelRun0_B.sl.r_38, readAt_cell, Memref.IsWhole.read_unread, cell_full2]
  rfl

theorem k1_B (c) (arg5) (harg5) (arg7) (harg7) (arg8) (harg8) (x4) (x6) (x7) : kernelRun0_B.sl.r_46 (F := Ideal) c arg5 harg5 arg7 harg7 arg8 harg8 x4 x6 x7 = k1 x4 x6 x7 := by
  simp (disch := decide) only [kernelRun0_B.sl.r_11, kernelRun0_B.sl.r_12, kernelRun0_B.sl.r_13, kernelRun0_B.sl.r_41, kernelRun0_B.sl.r_42, kernelRun0_B.sl.r_43, kernelRun0_B.sl.r_45, kernelRun0_B.sl.r_46, readAt_cell, Memref.IsWhole.read_unread, cell_full2]
  rfl

theorem w1_B (c) (arg5) (harg5) (x4) : kernelRun0_B.sl.r_47 (F := Ideal) c arg5 harg5 x4 = w1 x4 := by
  simp (disch := decide) only [kernelRun0_B.sl.r_11, kernelRun0_B.sl.r_41, kernelRun0_B.sl.r_45, kernelRun0_B.sl.r_47, readAt_cell, Memref.IsWhole.read_unread, cell_full2]
  rfl

theorem bias1_B (c) (arg15) (harg15) (x14) : kernelRun0_B.sl.r_48 (F := Ideal) c arg15 harg15 x14 = k0_pay97 (k0_pay93 (cell inb_S2x256x128_S1x256x128_1_0_0 x14)) := by
  simp (disch := decide) only [kernelRun0_B.sl.r_44, kernelRun0_B.sl.r_48, readAt_cell, Memref.IsWhole.read_unread, cell_full2]
  rfl

theorem mx0_B (c) (arg1) (harg1) (arg4) (harg4) (arg5) (harg5) (arg7) (harg7) (arg8) (harg8) (arg15) (harg15) (x0) (x3) (x4) (x6) (x7) (x14) : kernelRun0_B.sl.r_49 (F := Ideal) c arg1 harg1 arg4 harg4 arg5 harg5 arg7 harg7 arg8 harg8 arg15 harg15 x0 x3 x4 x6 x7 x14 = mx (sc 0 1 (qr x3 x6 x7) (k1 x4 x6 x7) (k0_pay97 (k0_pay93 (cell inb_S2x256x128_S1x256x128_1_0_0 x14)))) (sk0 x0) := by
  simp (disch := decide) only [kernelRun0_B.sl.r_11, kernelRun0_B.sl.r_12, kernelRun0_B.sl.r_13, kernelRun0_B.sl.r_41, kernelRun0_B.sl.r_42, kernelRun0_B.sl.r_43, kernelRun0_B.sl.r_44, kernelRun0_B.sl.r_45, kernelRun0_B.sl.r_49, q_B, sink0_B, readAt_cell, Memref.IsWhole.read_unread, cell_full2, second_0, score_01]
  rfl

theorem df0_B (c) (arg1) (harg1) (arg4) (harg4) (arg5) (harg5) (arg7) (harg7) (arg8) (harg8) (arg15) (harg15) (x0) (x3) (x4) (x6) (x7) (x14) : kernelRun0_B.sl.r_50 (F := Ideal) c arg1 harg1 arg4 harg4 arg5 harg5 arg7 harg7 arg8 harg8 arg15 harg15 x0 x3 x4 x6 x7 x14 = df (sc 0 1 (qr x3 x6 x7) (k1 x4 x6 x7) (k0_pay97 (k0_pay93 (cell inb_S2x256x128_S1x256x128_1_0_0 x14)))) (sk0 x0) := by
  simp (disch := decide) only [kernelRun0_B.sl.r_11, kernelRun0_B.sl.r_12, kernelRun0_B.sl.r_13, kernelRun0_B.sl.r_41, kernelRun0_B.sl.r_42, kernelRun0_B.sl.r_43, kernelRun0_B.sl.r_44, kernelRun0_B.sl.r_45, kernelRun0_B.sl.r_50, q_B, sink0_B, readAt_cell, Memref.IsWhole.read_unread, cell_full2, second_0, score_01]
  rfl

theorem mx1_B (c) (arg1) (harg1) (arg4) (harg4) (arg5) (harg5) (arg7) (harg7) (arg8) (harg8) (arg15) (harg15) (x0) (x3) (x4) (x6) (x7) (x14) : kernelRun0_B.sl.r_51 (F := Ideal) c arg1 harg1 arg4 harg4 arg5 harg5 arg7 harg7 arg8 harg8 arg15 harg15 x0 x3 x4 x6 x7 x14 = mx (sc 1 1 (qr x3 x6 x7) (k1 x4 x6 x7) (k0_pay97 (k0_pay93 (cell inb_S2x256x128_S1x256x128_1_0_0 x14)))) (sk1 x0) := by
  simp (disch := decide) only [kernelRun0_B.sl.r_51, bias1_B, k1_B, q_B, sink1_B, readAt_cell, Memref.IsWhole.read_unread, cell_full2, second_1, score_11]

theorem df1_B (c) (arg1) (harg1) (arg4) (harg4) (arg5) (harg5) (arg7) (harg7) (arg8) (harg8) (arg15) (harg15) (x0) (x3) (x4) (x6) (x7) (x14) : kernelRun0_B.sl.r_52 (F := Ideal) c arg1 harg1 arg4 harg4 arg5 harg5 arg7 harg7 arg8 harg8 arg15 harg15 x0 x3 x4 x6 x7 x14 = df (sc 1 1 (qr x3 x6 x7) (k1 x4 x6 x7) (k0_pay97 (k0_pay93 (cell inb_S2x256x128_S1x256x128_1_0_0 x14)))) (sk1 x0) := by
  simp (disch := decide) only [kernelRun0_B.sl.r_52, bias1_B, k1_B, q_B, sink1_B, readAt_cell, Memref.IsWhole.read_unread, cell_full2, second_1, score_11]

end Names

end Cert.FwdIdeal.Hand
-- ==== Proof.FwdPoint.lean ====
module

public import proofs.«01_k».proof.Proof.FwdStep

/-!
What each grid point leaves, from what it reads.
-/

@[expose] public section

set_option maxRecDepth 16384

noncomputable section

namespace Cert.FwdIdeal.Hand

open Cert.FwdIdeal Cert.FwdIdeal.Gen Idealize.ShloMosaic Idealize.ShloMosaic.TcCoe Idealize.SL.Sem
open Idealize.ShloMosaic.Pipeline (Dat)
open Cert.FwdMath

variable (m : (ℓ : Loc nD τ sig) → Buf (Elt Ideal) ℓ)

/-- What point `t` reads. -/
def pt (c : Dev nD) (t : Fin cfg0.N) : Pt :=
  ⟨grid0.coords t, iblk m c 0 t, X0_1 m c t, X0_2 m c t, X0_3 m c t, iblk m c 4 t, iblk m c 5 t, iblk m c 6 t, iblk m c 7 t, iblk m c 8 t, iblk m c 9 t,
    iblk m c 10 t, iblk m c 11 t, iblk m c 12 t, iblk m c 13 t, iblk m c 14 t⟩

theorem whole_rows (w S : Vec Ideal S8x512 .f32) : put (F := Ideal) (e := .f32) inb_S8x512_S8x512_0_0 w S = w := put_full2 inb_S8x512_S8x512_0_0 w S
theorem sink_z (p : Pt) : p.sink 0 = sk0 p.x0 := rfl
theorem sink_o (p : Pt) : p.sink 1 = sk1 p.x0 := rfl
theorem score_z (p : Pt) (v : Fin 2) : p.score v 0 = sc v 0 (qr p.x3 p.x6 p.x7) (k0 p.x4 p.x6 p.x7 p.x5 p.x8 p.x9) (k0_pay67 (cell (k0_off1_inb p.i) p.x14)) := rfl
theorem score_o (p : Pt) (v : Fin 2) : p.score v 1 =
    sc v 1 (qr p.x3 p.x6 p.x7) (k1 p.x4 p.x6 p.x7) (k0_pay97 (k0_pay93 (cell inb_S2x256x128_S1x256x128_1_0_0 p.x14))) := rfl

theorem parts_lo (p : Pt) (wm : Vec Ideal S8x128x128 .bf16) (b : Fin 2) : p.parts wm 0 b = gt 0 b p.u p.v (wt wm 0) (br p.x11 0) ∧
    p.parts wm 1 b = gt 1 b p.u p.v (wt wm 1) (br p.x11 1) ∧
    p.parts wm 2 b = gt 2 b p.u p.v (wt wm 2) (br p.x11 2) ∧
    p.parts wm 3 b = gt 3 b p.u p.v (wt wm 3) (br p.x11 3) ∧
    p.parts wm 4 b = gt 4 b p.u p.v (wt wm 4) (br p.x11 4) ∧
    p.parts wm 5 b = gt 5 b p.u p.v (wt wm 5) (br p.x11 5) ∧
    p.parts wm 6 b = gt 6 b p.u p.v (wt wm 6) (br p.x11 6) ∧
    p.parts wm 7 b = gt 7 b p.u p.v (wt wm 7) (br p.x11 7) :=
  ⟨rfl, rfl, rfl, rfl, rfl, rfl, rfl, rfl⟩
theorem parts_hi (p : Pt) (wm : Vec Ideal S8x128x128 .bf16) (b : Fin 2) : p.parts wm 8 b = ot 0 0 (p.sink 0) (p.w b) (p.score 0 b) ∧
    p.parts wm 9 b = ot 0 1 (p.sink 0) (p.w b) (p.score 0 b) ∧
    p.parts wm 10 b = ot 0 2 (p.sink 0) (p.w b) (p.score 0 b) ∧
    p.parts wm 11 b = ot 0 3 (p.sink 0) (p.w b) (p.score 0 b) ∧
    p.parts wm 12 b = ot 1 0 (p.sink 1) (p.w b) (p.score 1 b) ∧
    p.parts wm 13 b = ot 1 1 (p.sink 1) (p.w b) (p.score 1 b) ∧
    p.parts wm 14 b = ot 1 2 (p.sink 1) (p.w b) (p.score 1 b) ∧
    p.parts wm 15 b = ot 1 3 (p.sink 1) (p.w b) (p.score 1 b) :=
  ⟨rfl, rfl, rfl, rfl, rfl, rfl, rfl, rfl⟩
theorem u_eq (p : Pt) : p.u = k0_pay21 p.x1 := rfl
theorem v_eq (p : Pt) : p.v = vv p.x2 p.x12 p.x13 := rfl
theorem w_z (p : Pt) : p.w 0 = w0 p.x4 p.x5 := rfl
theorem w_o (p : Pt) : p.w 1 = w1 p.x4 := rfl

theorem lse_A (c : Dev nD) (t : Fin cfg0.N) (h0 : t.val % 16 = 0) : (outsAt0 m c t.val t.isLt).2.1 = fillRows (F := Ideal) (e := .f32) (lt ((pt m c t).sink 0) ((pt m c t).score 0 0)) (lt ((pt m c t).sink 1) ((pt m c t).score 1 0)) (lt ((pt m c t).sink 0) ((pt m c t).score 0 1)) (lt ((pt m c t).sink 1) ((pt m c t).score 1 1)) (k0_pay20 (F := Ideal)) := by
  rw [outsAt0_A m c t h0]
  dsimp only
  unfold out0_A_16 kernelRun0_A
  dsimp only
  simp only [kernelRun0_A.sl.cst_163, kernelRun0_A.sl.r_41, kernelRun0_A.sl.r_42, q_A, sink0_A, sink1_A, k0_A, bias0_A, mx0_A, df0_A, mx1_A, df1_A, readAt_cell, Memref.IsWhole.read_unread, read_put]
  simp only [sums_0, sums_1, score_00, score_10, lt_at, lt_at']
  simp only [sink_z, sink_o, score_z, score_o, fillRows, pt]
  generalize View.read (Elt Ideal) VO0_16 _ = S
  rw [whole_rows]

theorem lse_B (c : Dev nD) (t : Fin cfg0.N) (h0 : ¬ t.val % 16 = 0) : (outsAt0 m c t.val t.isLt).2.1 = fillRows (F := Ideal) (e := .f32) (lt ((pt m c t).sink 0) ((pt m c t).score 0 0)) (lt ((pt m c t).sink 1) ((pt m c t).score 1 0)) (lt ((pt m c t).sink 0) ((pt m c t).score 0 1)) (lt ((pt m c t).sink 1) ((pt m c t).score 1 1)) (k0_pay20 (F := Ideal)) := by
  rw [outsAt0_B m c t h0]
  dsimp only
  unfold out0_B_16 kernelRun0_B
  dsimp only
  simp only [kernelRun0_B.sl.cst_51, kernelRun0_B.sl.cst_163, kernelRun0_B.sl.r_39, kernelRun0_B.sl.r_40, q_B, sink0_B, sink1_B, k0_B, bias0_B, mx0_B, df0_B, mx1_B, df1_B, readAt_cell, Memref.IsWhole.read_unread, read_put]
  simp only [sums_0, sums_1, score_00, score_10, lt_at, lt_at']
  simp only [sink_z, sink_o, score_z, score_o, fillRows, pt]
  generalize View.read (Elt Ideal) VO0_16 _ = S
  rw [whole_rows]

theorem scr_A (c : Dev nD) (t : Fin cfg0.N) (h0 : t.val % 16 = 0) : (outsAt0 m c t.val t.isLt).2.2 = tri8 (iblk m c 10 t) := by
  rw [outsAt0_A m c t h0]
  dsimp only
  unfold sout0_A_0 kernelRun0_A
  exact masked c (ms0_10 t) (hs0_10 t) scM0_0 (iblk m c 10 t)

theorem scr_B (c : Dev nD) (t : Fin cfg0.N) (h0 : ¬ t.val % 16 = 0) : (outsAt0 m c t.val t.isLt).2.2 = (outsAt0 m c (t.val - 1) (Nat.lt_of_le_of_lt (Nat.sub_le _ _) t.isLt)).2.2 := by
  rw [outsAt0_B m c t h0]
  rfl

set_option maxHeartbeats 1000000 in
theorem cat_A (c : Dev nD) (t : Fin cfg0.N) (h0 : t.val % 16 = 0) : (outsAt0 m c t.val t.isLt).1 =
    fill ((pt m c t).parts (tri8 (iblk m c 10 t))) (View.read (Elt Ideal) VO0_15 (VO0_15.writes (Elt Ideal) VO0_15.junk [])) := by
  rw [outsAt0_A m c t h0]
  dsimp only
  unfold out0_A_15 kernelRun0_A
  dsimp only
  simp only [kernelRun0_A.sl.cst_51, kernelRun0_A.sl.cst_163, kernelRun0_A.sl.r_3, kernelRun0_A.sl.r_4, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_35, kernelRun0_A.sl.r_36, kernelRun0_A.sl.r_37, kernelRun0_A.sl.r_41, kernelRun0_A.sl.r_42, kernelRun0_A.sl.r_43, kernelRun0_A.sl.r_44, kernelRun0_A.sl.r_45, kernelRun0_A.sl.r_46, kernelRun0_A.sl.r_47, mask0_A, mask1_A, mask2_A, mask3_A, mask4_A, mask5_A, mask6_A, mask7_A, u_A, v1_A, v_A, q_A, sink0_A, sink1_A, k0_A, w0_A, bias0_A, k1_A, w1_A, bias1_A, mx0_A, df0_A, mx1_A, df1_A, readAt_cell, Memref.IsWhole.read_unread, read_put, cell_full2]
  simp (disch := decide) only [cell_br, cell_wt, read_scr]
  have gv := gate_first (g := k0_pay23 (iblk m c 12 t)) (x := k0_pay22 (X0_2 m c t)) (y := iblk m c 13 t)
  simp only [show k0_pay24 (k0_pay22 (X0_2 m c t)) (k0_pay23 (iblk m c 12 t)) (iblk m c 13 t) = vv (X0_2 m c t) (iblk m c 12 t) (iblk m c 13 t) from rfl] at gv
  simp only [gv, gate_rest, gate_second, first_0, first_1, score_00, score_10, heads_0, heads_1]
  simp only [fill, parts_lo, parts_hi, u_eq, v_eq, w_z, w_o, sink_z, sink_o, score_z, score_o, pt]
  rfl

set_option maxHeartbeats 1000000 in
theorem cat_B (c : Dev nD) (t : Fin cfg0.N) (h0 : ¬ t.val % 16 = 0) : (outsAt0 m c t.val t.isLt).1 =
    fill ((pt m c t).parts (outsAt0 m c (t.val - 1) (Nat.lt_of_le_of_lt (Nat.sub_le _ _) t.isLt)).2.2) (View.read (Elt Ideal) VO0_15 (VO0_15.writes (Elt Ideal) VO0_15.junk [])) := by
  rw [outsAt0_B m c t h0]
  dsimp only
  unfold out0_B_15 kernelRun0_B
  dsimp only
  simp only [kernelRun0_B.sl.cst_51, kernelRun0_B.sl.cst_163, kernelRun0_B.sl.r_1, kernelRun0_B.sl.r_2, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_33, kernelRun0_B.sl.r_34, kernelRun0_B.sl.r_35, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.v0, kernelRun0_B.sl.v1, kernelRun0_B.sl.v2, u_B, v1_B, v_B, q_B, sink0_B, sink1_B, k0_B, w0_B, bias0_B, k1_B, w1_B, bias1_B, mx0_B, df0_B, mx1_B, df1_B, readAt_cell, Memref.IsWhole.read_unread, read_put, cell_full2]
  simp (disch := decide) only [cell_br, cell_wt, read_scr]
  have gv := gate_first (g := k0_pay23 (iblk m c 12 t)) (x := k0_pay22 (X0_2 m c t)) (y := iblk m c 13 t)
  simp only [show k0_pay24 (k0_pay22 (X0_2 m c t)) (k0_pay23 (iblk m c 12 t)) (iblk m c 13 t) = vv (X0_2 m c t) (iblk m c 12 t) (iblk m c 13 t) from rfl] at gv
  simp only [gv, gate_rest, gate_second, first_0, first_1, score_00, score_10, heads_0, heads_1]
  simp only [fill, parts_lo, parts_hi, u_eq, v_eq, w_z, w_o, sink_z, sink_o, score_z, score_o, pt]
  rfl

end Cert.FwdIdeal.Hand
-- ==== Proof.FwdSpec.lean ====
module

public import proofs.«01_k».proof.Proof.FwdMath

/-!
What the mixing unit's forward pass computes, from its arguments: the gated
unit's channels, the attention's channels and the log-sum of each row.
-/

@[expose] public section

noncomputable section

namespace Cert.FwdMath

open Idealize.ShloMosaic
open Cert.MixMath (gelu norm)
open scoped BigOperators

/-- The forward pass's arguments, and the cosine and the sine of each token's angles. -/
structure Args where
  h : Fin 4096 → Fin 1792 → EReal
  cos : Fin 4096 → Fin 32 → EReal
  sin : Fin 4096 → Fin 32 → EReal
  g : Fin 512 → EReal
  b : Fin 512 → EReal
  w : Fin 8 → Fin 128 → Fin 128 → EReal
  bs : Fin 8 → Fin 128 → EReal
  z : Fin 8 → EReal

namespace Args

variable (A : Args)

/-- A head turned by token `i`'s angles. -/
def rot (x : Fin 64 → EReal) (i : Fin 4096) (d : Fin 64) : EReal :=
  if h : d.val < 32 then x d * A.cos i ⟨d.val, h⟩ - x ⟨32 + d.val, by omega⟩ * A.sin i ⟨d.val, h⟩
  else x d * A.cos i ⟨d.val - 32, by omega⟩ + x ⟨d.val - 32, by omega⟩ * A.sin i ⟨d.val - 32, by omega⟩

def query (a : Fin 8) (i : Fin 4096) (d : Fin 64) : EReal := A.rot (fun e => A.h i ⟨1024 + (64 * a.val + e.val), by omega⟩) i d
def key (v : Fin 2) (i : Fin 4096) (d : Fin 64) : EReal := A.rot (fun e => A.h i ⟨1536 + (64 * v.val + e.val), by omega⟩) i d
def value (v : Fin 2) (i : Fin 4096) (d : Fin 64) : EReal := A.h i ⟨1664 + (64 * v.val + d.val), by omega⟩

/-- The token at place `x` of block `n`'s keys: the block before, then the block itself. -/
def place (n : Fin 32) (x : Fin 256) : Fin 4096 := ⟨128 * n.val + x.val - 128, by omega⟩
/-- Whether query `r` of block `n` reads place `x`. -/
abbrev sees (n : Fin 32) (r : Fin 128) (x : Fin 256) : Prop := x.val ≤ r.val + 128 ∧ r.val < x.val ∧ (128 ≤ x.val ∨ 0 < n.val)

/-- The key head of head `a`. -/
def grp (a : Fin 8) : Fin 2 := ⟨a.val / 4, by omega⟩

/-- The scores of a row. -/
def score (a : Fin 8) (n : Fin 32) (r : Fin 128) (x : Fin 256) : EReal :=
  if sees n r x then (∑ d : Fin 64, A.query a (at_ n r) d * A.key (grp a) (place n x) d) * Ideal.ofBits FTy.f32 0x3E000000#32
  else Ideal.ofBits FTy.f32 0xFF800000#32

/-- Channel `d` of head `a` of the attention. -/
def attn (a : Fin 8) (n : Fin 32) (r : Fin 128) (d : Fin 64) : EReal :=
  avg (A.score a n r) (A.z a) (fun x => A.value (grp a) (place n x) d)

/-- The log-sum of a row. -/
def rowSum (a : Fin 8) (n : Fin 32) (r : Fin 128) : EReal := lse (A.score a n r) (A.z a)

/-- Channel `k` of token `i`, normalised. -/
def normed (i : Fin 4096) (k : Fin 512) : EReal := norm (fun e => gelu (A.h i ⟨512 + e.val, by omega⟩)) k * A.g k + A.b k

/-- Channel `d` of head `a` of the gated unit. -/
def gate (a : Fin 8) (n : Fin 32) (r : Fin 128) (d : Fin 64) : EReal :=
  gelu (A.h (at_ n r) ⟨64 * a.val + d.val, by omega⟩) *
    ((∑ s : Fin 128, A.normed (at_ n s) (chan a d) * (if s ≤ r then A.w a r s else 0)) + A.bs a r)

/-- The two side by side. -/
def cat (y : Fin 1024) (i : Fin 4096) : EReal :=
  if h : y.val < 512 then A.gate ⟨y.val / 64, by omega⟩ ⟨i.val / 128, by omega⟩ ⟨i.val % 128, by omega⟩ ⟨y.val % 64, by omega⟩
  else A.attn ⟨(y.val - 512) / 64, by omega⟩ ⟨i.val / 128, by omega⟩ ⟨i.val % 128, by omega⟩ ⟨y.val % 64, by omega⟩

/-- The log-sums, two blocks to eight rows of which the last four are zero. -/
def sums (y : Fin 128) (l : Fin 512) : EReal :=
  if h : y.val % 8 < 4 then A.rowSum ⟨4 * (y.val % 8 % 2) + l.val / 128, by omega⟩ ⟨2 * (y.val / 8) + y.val % 8 / 2, by omega⟩ ⟨l.val % 128, by omega⟩
  else 0

end Args

/-- The turn with a signed sine. -/
theorem Args.turn_eq (A : Args) (x : Fin 64 → EReal) (i : Fin 4096) (c s : Fin 64 → EReal)
    (hc : ∀ d : Fin 64, c d = A.cos i ⟨d.val % 32, by omega⟩)
    (hs : ∀ d : Fin 64, s d = A.sin i ⟨d.val % 32, by omega⟩ * (if d.val < 32 then -1 else 1)) (d : Fin 64) : turn x c s d = A.rot x i d := by
  unfold turn rot
  rw [hc, hs]
  by_cases h : d.val < 32
  · have e : (⟨d.val % 32, by omega⟩ : Fin 32) = ⟨d.val, h⟩ := Fin.ext (Nat.mod_eq_of_lt h)
    have f : swap d = ⟨32 + d.val, by omega⟩ := (dif_pos h).trans (Fin.ext (Nat.add_comm _ _))
    rw [e, f, if_pos h, dif_pos h, sub_eq_add_neg, mul_neg, mul_one, mul_neg]
  · have e : (⟨d.val % 32, by omega⟩ : Fin 32) = ⟨d.val - 32, by omega⟩ := Fin.ext (by show d.val % 32 = d.val - 32; omega)
    have f : swap d = ⟨d.val - 32, by omega⟩ := dif_neg h
    rw [e, f, if_neg h, dif_neg h, mul_one]

theorem eighth : Ideal.ofBits FTy.f32 0x3E000000#32 = (((1 : ℝ) / 8 : ℝ) : EReal) := by
  simp [Ideal.ofBits, Ideal.ieee]
  norm_num
  rw [← EReal.coe_mul]
  norm_num

theorem hidden_eq : Ideal.ofBits FTy.f32 0xFF800000#32 = ⊥ := by
  simp [Ideal.ofBits, Ideal.ieee]

/-- A sum of products one of whose factors is scaled. -/
theorem sum_scaled {ι : Type} [Fintype ι] (k q : ι → EReal) :
    ∑ d, k d * (q d * Ideal.ofBits FTy.f32 0x3E000000#32) = (∑ d, q d * k d) * Ideal.ofBits FTy.f32 0x3E000000#32 := by
  rw [eighth]
  have key : ∀ s : Finset ι, ∑ d ∈ s, k d * (q d * (((1 : ℝ) / 8 : ℝ) : EReal)) = (∑ d ∈ s, q d * k d) * (((1 : ℝ) / 8 : ℝ) : EReal) := by
    classical
    intro s
    induction s using Finset.induction_on with
    | empty => simp
    | insert a s ha ih =>
      rw [Finset.sum_insert ha, Finset.sum_insert ha, ih, EReal.right_distrib_of_nonneg_of_ne_top (by exact_mod_cast (by norm_num : (0 : ℝ) ≤ 1 / 8)) (EReal.coe_ne_top _)]
      congr 1
      rw [← mul_assoc, mul_comm (k a)]
  exact key Finset.univ

/-- Scores that are hidden weigh nothing, whatever the value. -/
theorem avg_congr (f : Fin 256 → EReal) (z : EReal) (v v' : Fin 256 → EReal) (h : ∀ x, f x ≠ ⊥ → v x = v' x) : avg f z v = avg f z v' := by
  refine Finset.sum_congr rfl fun x _ => ?_
  by_cases e : f x = ⊥
  · have : Ideal.exp (f x - top f z) = 0 := by
      rw [e, EReal.bot_sub]
      rfl
    rw [this, zero_mul, mul_zero, mul_zero]
  · rw [h x e]

end Cert.FwdMath
-- ==== Proof.FwdWord.lean ====
module

public import proofs.«01_k».proof.Proof.FwdSpec
public import Idealize.ShloMosaic.Lib.WordCmp

/-!
The band of the attention, as it is written in words of 32 bits, and the angles.
-/

@[expose] public section

noncomputable section

namespace Cert.FwdMath

open Idealize.ShloMosaic

/-- The `e`-th angle of a token at position `p`. -/
def angle (p : BitVec 32) (e : Fin 32) : EReal :=
  FloatOps.sitofp (F := Ideal) FTy.f32 p * Ideal.pow (Ideal.ofBits FTy.f32 1176256512#32)
    (Ideal.div (-(Ideal.ofBits FTy.f32 1073741824#32 * FloatOps.sitofp (F := Ideal) FTy.f32 (BitVec.ofNat 32 e.val))) (Ideal.ofBits FTy.f32 1115684864#32))

theorem dist_word (r x : ℕ) (hr : r < 128) (hx : x < 256) :
    (IntOp.subi (IntOp.addi (BitVec.ofNat 32 r) 128#32) (BitVec.ofNat 32 x)).toInt = (r : Int) + 128 - x := by
  show (BitVec.ofNat 32 r + 128#32 - BitVec.ofNat 32 x).toInt = _
  simp only [BitVec.toInt_sub, BitVec.toInt_add, WordCmp.toInt_ofNat_of_lt (w := 32) (a := r) (by omega), WordCmp.toInt_ofNat_of_lt (w := 32) (a := x) (by omega)]
  show ((((r : Int) + 128).bmod (2 ^ 32)) - x).bmod (2 ^ 32) = _
  simp only [Int.bmod]
  omega

theorem place_word (n x : ℕ) (hn : n < 32) (hx : x < 256) :
    (IntOp.subi (IntOp.addi (IntOp.muli (BitVec.ofNat 32 n) 128#32) (BitVec.ofNat 32 x)) 128#32).toInt = 128 * (n : Int) + x - 128 := by
  have e : IntOp.muli (BitVec.ofNat 32 n) 128#32 = BitVec.ofNat 32 (n * 128) := by
    show BitVec.ofNat 32 n * BitVec.ofNat 32 128 = _
    rw [BitVec.ofNat_mul]
  rw [e]
  show (BitVec.ofNat 32 (n * 128) + BitVec.ofNat 32 x - 128#32).toInt = _
  simp only [BitVec.toInt_sub, BitVec.toInt_add, WordCmp.toInt_ofNat_of_lt (w := 32) (a := n * 128) (by omega), WordCmp.toInt_ofNat_of_lt (w := 32) (a := x) (by omega)]
  show ((((n * 128 : ℕ) : Int) + x).bmod (2 ^ 32) - 128).bmod (2 ^ 32) = _
  simp only [Int.bmod]
  omega

/-- Where the band is open. -/
theorem band_word (l r x : ℕ) (hl : l < 2) (hr : r < 128) (hx : x < 256) (u v : EReal) :
    Scalar.select (IntOp.andi (IntOp.andi (IntOp.cmpi .sge (IntOp.subi (IntOp.addi (BitVec.ofNat 32 r) 128#32) (BitVec.ofNat 32 x)) 0#32)
        (IntOp.cmpi .slt (IntOp.subi (IntOp.addi (BitVec.ofNat 32 r) 128#32) (BitVec.ofNat 32 x)) 128#32))
      (IntOp.ori (IntOp.cmpi .sge (BitVec.ofNat 32 x) 128#32) (IntOp.cmpi .sgt (BitVec.ofNat 32 l) 0#32))) u v
      = if x ≤ r + 128 ∧ r < x ∧ (128 ≤ x ∨ 0 < l) then u else v := by
  rw [WordCmp.cmpi_sge_eq, WordCmp.cmpi_slt_eq, WordCmp.cmpi_sge_eq, WordCmp.cmpi_sgt_eq, dist_word r x hr hx,
    WordCmp.toInt_ofNat_of_lt (w := 32) (a := x) (by omega), WordCmp.toInt_ofNat_of_lt (w := 32) (a := l) (by omega),
    show (0#32 : BitVec 32).toInt = 0 from rfl, show (128#32 : BitVec 32).toInt = 128 from rfl, WordCmp.andi_ofBool, WordCmp.ori_ofBool, WordCmp.andi_ofBool,
    WordCmp.select_ofBool]
  refine if_congr ?_ rfl rfl
  simp only [Bool.and_eq_true, Bool.or_eq_true, decide_eq_true_eq]
  omega

/-- The same, as the reference writes it. -/
theorem mask_word (n r x : ℕ) (hn : n < 32) (hr : r < 128) (hx : x < 256) (u v : EReal) :
    Scalar.select (IntOp.andi (IntOp.andi (IntOp.cmpi .sge (IntOp.subi (IntOp.addi (BitVec.ofNat 32 r) 128#32) (BitVec.ofNat 32 x)) 0#32)
        (IntOp.cmpi .slt (IntOp.subi (IntOp.addi (BitVec.ofNat 32 r) 128#32) (BitVec.ofNat 32 x)) 128#32))
      (IntOp.cmpi .sge (IntOp.subi (IntOp.addi (IntOp.muli (BitVec.ofNat 32 n) 128#32) (BitVec.ofNat 32 x)) 128#32) 0#32)) u v
      = if x ≤ r + 128 ∧ r < x ∧ (128 ≤ x ∨ 0 < n) then u else v := by
  rw [WordCmp.cmpi_sge_eq, WordCmp.cmpi_slt_eq, WordCmp.cmpi_sge_eq, dist_word r x hr hx, place_word n x hn hx,
    show (0#32 : BitVec 32).toInt = 0 from rfl, show (128#32 : BitVec 32).toInt = 128 from rfl, WordCmp.andi_ofBool, WordCmp.andi_ofBool, WordCmp.select_ofBool]
  refine if_congr ?_ rfl rfl
  simp only [Bool.and_eq_true, decide_eq_true_eq]
  omega

theorem half_word (d : ℕ) (hd : d < 64) (u v : EReal) :
    Scalar.select (IntOp.cmpi .slt (BitVec.ofNat 32 d) 32#32) u v = if d < 32 then u else v := by
  rw [WordCmp.cmpi_slt_eq, WordCmp.toInt_ofNat_of_lt (w := 32) (a := d) (by omega), show (32#32 : BitVec 32).toInt = 32 from rfl, WordCmp.select_ofBool]
  refine if_congr ?_ rfl rfl
  simp only [decide_eq_true_eq]
  omega

end Cert.FwdMath
-- ==== Proof.FwdEntry.lean ====
module

public import proofs.«01_k».proof.Proof.FwdPoint
public import proofs.«01_k».proof.Proof.FwdWord
public import Idealize.ShloMosaic.Lib.Pipeline.ValueKit
public import Idealize.ShloMosaic.Lib.StableHlo.RunRead

/-!
What the forward pass's blocks hold at each grid point, from the program's
arguments.
-/

@[expose] public section

set_option maxRecDepth 16384

noncomputable section

namespace Cert.FwdIdeal.Hand

open Cert.FwdIdeal Cert.FwdIdeal.Gen
open Idealize.ShloMosaic Idealize.ShloMosaic.TcCoe Idealize.ShloMosaic.Tactic Idealize.SL.Sem
open Cert.FwdMath

variable (m : (ℓ : Loc nD τ sig) → Buf (Elt Ideal) ℓ) (c : Dev nD)

theorem hidden (d : Fin 1792) (i : Fin 4096) : (V m c main_v27 : Vec Ideal S1792x4096 .f32) (ix2 d i)
    = (m ((c : Thread nD τ).loc main_arg0) : Vec Ideal S1x4096x1792 .f32) (ix3 0 i d) := by
  show StableHlo.after _ _ _ _ = _
  after_reads_simp
  pointwise

theorem weights (a : Fin 8) (t s : Fin 128) : (V m c main_v28 : Vec Ideal S8x128x128 .f32) (ix3 a t s)
    = (m ((c : Thread nD τ).loc main_arg4) : Vec Ideal S1x8x128x128 .f32) (ix4 0 a t s) := by
  show StableHlo.after _ _ _ _ = _
  after_reads_simp
  pointwise

theorem offsets (a : Fin 8) (t : Fin 128) : (V m c main_v29 : Vec Ideal S8x128 .f32) (ix2 a t)
    = (m ((c : Thread nD τ).loc main_arg5) : Vec Ideal S1x8x128 .f32) (ix3 0 a t) := by
  show StableHlo.after _ _ _ _ = _
  after_reads_simp
  pointwise

theorem scale (d : Fin 512) : (V m c main_v30 : Vec Ideal S512x1 .f32) (ix2 d 0)
    = (m ((c : Thread nD τ).loc main_arg2) : Vec Ideal S1x512 .f32) (ix2 0 d) := by
  show StableHlo.after _ _ _ _ = _
  after_reads_simp
  pointwise

theorem shift (d : Fin 512) : (V m c main_v31 : Vec Ideal S512x1 .f32) (ix2 d 0)
    = (m ((c : Thread nD τ).loc main_arg3) : Vec Ideal S1x512 .f32) (ix2 0 d) := by
  show StableHlo.after _ _ _ _ = _
  after_reads_simp
  pointwise

theorem sinks (a : Fin 8) : (V m c main_v32 : Vec Ideal S8 .f32) (ix1 a)
    = (m ((c : Thread nD τ).loc main_arg6) : Vec Ideal S1x8 .f32) (ix2 0 a) := by
  show StableHlo.after _ _ _ _ = _
  after_reads_simp
  pointwise

theorem cosines (d : Fin 64) (i : Fin 4096) : (V m c main_v19 : Vec Ideal S64x4096 .f32) (ix2 d i)
    = Ideal.cos (angle ((m ((c : Thread nD τ).loc main_arg1) : Vec Ideal S1x4096 .i32) (ix2 0 i)) ⟨d.val % 32, by omega⟩) := by
  show StableHlo.after _ _ _ _ = _
  after_reads_simp
  pointwise
  rfl

theorem sines (d : Fin 64) (i : Fin 4096) : (V m c main_v25 : Vec Ideal S64x4096 .f32) (ix2 d i)
    = Ideal.sin (angle ((m ((c : Thread nD τ).loc main_arg1) : Vec Ideal S1x4096 .i32) (ix2 0 i)) ⟨d.val % 32, by omega⟩) * (if d.val < 32 then -1 else 1) := by
  show StableHlo.after _ _ _ _ = _
  after_reads_simp
  pointwise
  refine congrArg₂ (· * ·) rfl ?_
  refine (half_word d.val d.isLt (Ideal.ofBits FTy.f32 3212836864#32) (Ideal.ofBits FTy.f32 1065353216#32)).trans ?_
  have e1 : Ideal.ofBits FTy.f32 1065353216#32 = 1 := by
    simp [Ideal.ofBits, Ideal.ieee]
    rw [← EReal.coe_mul]
    norm_num
  have e2 : Ideal.ofBits FTy.f32 3212836864#32 = -1 := by
    simp [Ideal.ofBits, Ideal.ieee]
    rw [← EReal.coe_mul]
    norm_num
  rw [e1, e2]

theorem band (l : Fin 2) (x : Fin 256) (r : Fin 128) : (V m c main_v51 : Vec Ideal S2x256x128 .f32) (ix3 l x r)
    = if x.val ≤ r.val + 128 ∧ r.val < x.val ∧ (128 ≤ x.val ∨ 0 < l.val) then 0 else Ideal.ofBits FTy.f32 0xFF800000#32 := by
  show StableHlo.after _ _ _ _ = _
  after_reads_simp
  pointwise
  refine (band_word l.val r.val x.val l.isLt r.isLt x.isLt (Ideal.ofBits FTy.f32 0#32) (Ideal.ofBits FTy.f32 0xFF800000#32)).trans ?_
  have e0 : Ideal.ofBits FTy.f32 0#32 = 0 := by
    simp [Ideal.ofBits, Ideal.ieee]
  rw [e0]

/-- The arguments, by their places. -/
def args : Args where
  h i d := (m ((c : Thread nD τ).loc main_arg0) : Vec Ideal S1x4096x1792 .f32) (ix3 0 i d)
  cos i e := Ideal.cos (angle ((m ((c : Thread nD τ).loc main_arg1) : Vec Ideal S1x4096 .i32) (ix2 0 i)) e)
  sin i e := Ideal.sin (angle ((m ((c : Thread nD τ).loc main_arg1) : Vec Ideal S1x4096 .i32) (ix2 0 i)) e)
  g d := (m ((c : Thread nD τ).loc main_arg2) : Vec Ideal S1x512 .f32) (ix2 0 d)
  b d := (m ((c : Thread nD τ).loc main_arg3) : Vec Ideal S1x512 .f32) (ix2 0 d)
  w a t s := (m ((c : Thread nD τ).loc main_arg4) : Vec Ideal S1x8x128x128 .f32) (ix4 0 a t s)
  bs a t := (m ((c : Thread nD τ).loc main_arg5) : Vec Ideal S1x8x128 .f32) (ix3 0 a t)
  z a := (m ((c : Thread nD τ).loc main_arg6) : Vec Ideal S1x8 .f32) (ix2 0 a)

/-- The token in column `x` of point `t`'s blocks. -/
def tokAt (t : Fin cfg0.N) (x : Fin 256) : Fin 4096 :=
  ⟨t.val * 256 + x.val, by have := t.isLt; have : cfg0.N = 16 := N_0; have := x.isLt; omega⟩

/-- The token in column `x` of the block before point `t`'s, or of the first. -/
def tokBefore (t : Fin cfg0.N) (x : Fin 128) : Fin 4096 :=
  ⟨(2 * t.val - 1) * 128 + x.val, by have := t.isLt; have : cfg0.N = 16 := N_0; have := x.isLt; omega⟩

theorem idx : ∀ t : Fin cfg0.N, win0_1.index t = ![0, t.val] ∧ win0_2.index t = ![1, t.val] ∧ win0_3.index t = ![2, t.val]
    ∧ win0_4.index t = ![6, t.val] ∧ win0_5.index t = ![6, 2 * t.val - 1] ∧ win0_6.index t = ![0, t.val] ∧ win0_7.index t = ![0, t.val]
    ∧ win0_8.index t = ![0, 2 * t.val - 1] ∧ win0_9.index t = ![0, 2 * t.val - 1] ∧ win0_10.index t = ![0, 0, 0] ∧ win0_11.index t = ![0, 0]
    ∧ win0_12.index t = ![0, 0] ∧ win0_13.index t = ![0, 0] ∧ win0_14.index t = ![0, 0, 0] ∧ win0_0.index t = ![0] :=
  (by decide +kernel : ∀ t : Fin grid0.N, _)

theorem block0 (t : Fin cfg0.N) : (iblk m c 0 t : Vec Ideal S8 .f32) = (V m c main_v32 : Vec Ideal S8 .f32) := by
  funext j
  blk_ext [iblk, idx t]

theorem block1 (t : Fin cfg0.N) (d : Fin 512) (x : Fin 256) :
    (X0_1 m c t : Vec Ideal S512x256 .f32) (ix2 d x) = (V m c main_v27 : Vec Ideal S1792x4096 .f32) (ix2 ⟨d.val, by omega⟩ (tokAt t x)) := by
  rw [X0_1, Pipeline.Window.fill, dif_pos (moved0_1 t _)]
  blk_ext [iblk, idx t, tokAt]

theorem block2 (t : Fin cfg0.N) (d : Fin 512) (x : Fin 256) :
    (X0_2 m c t : Vec Ideal S512x256 .f32) (ix2 d x) = (V m c main_v27 : Vec Ideal S1792x4096 .f32) (ix2 ⟨512 + d.val, by omega⟩ (tokAt t x)) := by
  rw [X0_2, Pipeline.Window.fill, dif_pos (moved0_2 t _)]
  blk_ext [iblk, idx t, tokAt]

theorem block3 (t : Fin cfg0.N) (d : Fin 512) (x : Fin 256) :
    (X0_3 m c t : Vec Ideal S512x256 .f32) (ix2 d x) = (V m c main_v27 : Vec Ideal S1792x4096 .f32) (ix2 ⟨1024 + d.val, by omega⟩ (tokAt t x)) := by
  rw [X0_3, Pipeline.Window.fill, dif_pos (moved0_3 t _)]
  blk_ext [iblk, idx t, tokAt]

theorem block4 (t : Fin cfg0.N) (d x : Fin 256) :
    (iblk m c 4 t : Vec Ideal S256x256 .f32) (ix2 d x) = (V m c main_v27 : Vec Ideal S1792x4096 .f32) (ix2 ⟨1536 + d.val, by omega⟩ (tokAt t x)) := by
  blk_ext [iblk, idx t, tokAt]

theorem block5 (t : Fin cfg0.N) (d : Fin 256) (x : Fin 128) :
    (iblk m c 5 t : Vec Ideal S256x128 .f32) (ix2 d x) = (V m c main_v27 : Vec Ideal S1792x4096 .f32) (ix2 ⟨1536 + d.val, by omega⟩ (tokBefore t x)) := by
  blk_ext [iblk, idx t, tokBefore]

theorem block6 (t : Fin cfg0.N) (d : Fin 64) (x : Fin 256) :
    (iblk m c 6 t : Vec Ideal S64x256 .f32) (ix2 d x) = (V m c main_v19 : Vec Ideal S64x4096 .f32) (ix2 d (tokAt t x)) := by
  blk_ext [iblk, idx t, tokAt]

theorem block7 (t : Fin cfg0.N) (d : Fin 64) (x : Fin 256) :
    (iblk m c 7 t : Vec Ideal S64x256 .f32) (ix2 d x) = (V m c main_v25 : Vec Ideal S64x4096 .f32) (ix2 d (tokAt t x)) := by
  blk_ext [iblk, idx t, tokAt]

theorem block8 (t : Fin cfg0.N) (d : Fin 64) (x : Fin 128) :
    (iblk m c 8 t : Vec Ideal S64x128 .f32) (ix2 d x) = (V m c main_v19 : Vec Ideal S64x4096 .f32) (ix2 d (tokBefore t x)) := by
  blk_ext [iblk, idx t, tokBefore]

theorem block9 (t : Fin cfg0.N) (d : Fin 64) (x : Fin 128) :
    (iblk m c 9 t : Vec Ideal S64x128 .f32) (ix2 d x) = (V m c main_v25 : Vec Ideal S64x4096 .f32) (ix2 d (tokBefore t x)) := by
  blk_ext [iblk, idx t, tokBefore]

theorem block10 (t : Fin cfg0.N) : (iblk m c 10 t : Vec Ideal S8x128x128 .f32) = (V m c main_v28 : Vec Ideal S8x128x128 .f32) := by
  funext j
  blk_ext [iblk, idx t]

theorem block11 (t : Fin cfg0.N) : (iblk m c 11 t : Vec Ideal S8x128 .f32) = (V m c main_v29 : Vec Ideal S8x128 .f32) := by
  funext j
  blk_ext [iblk, idx t]

theorem block12 (t : Fin cfg0.N) : (iblk m c 12 t : Vec Ideal S512x1 .f32) = (V m c main_v30 : Vec Ideal S512x1 .f32) := by
  funext j
  blk_ext [iblk, idx t]

theorem block13 (t : Fin cfg0.N) : (iblk m c 13 t : Vec Ideal S512x1 .f32) = (V m c main_v31 : Vec Ideal S512x1 .f32) := by
  funext j
  blk_ext [iblk, idx t]

theorem block14 (t : Fin cfg0.N) : (iblk m c 14 t : Vec Ideal S2x256x128 .f32) = (V m c main_v51 : Vec Ideal S2x256x128 .f32) := by
  funext j
  blk_ext [iblk, idx t]

/-- The masked weights stay in place. -/
theorem kept : ∀ (n : ℕ) (h : n < cfg0.N), (outsAt0 m c n h).2.2 = tri8 (V m c main_v28 : Vec Ideal S8x128x128 .f32) := by
  have hN : cfg0.N = 16 := N_0
  intro n
  induction n with
  | zero => exact fun h => (scr_A m c ⟨0, h⟩ rfl).trans (congrArg tri8 (block10 m c _))
  | succ n ih => exact fun h => (scr_B m c ⟨n + 1, h⟩ (by show ¬(n + 1) % 16 = 0; omega)).trans (ih (by omega))

/-- What a point leaves of the log-sums … -/
theorem lse_all (t : Fin cfg0.N) : (outsAt0 m c t.val t.isLt).2.1 = fillRows (F := Ideal) (e := .f32) (lt ((pt m c t).sink 0) ((pt m c t).score 0 0))
    (lt ((pt m c t).sink 1) ((pt m c t).score 1 0)) (lt ((pt m c t).sink 0) ((pt m c t).score 0 1)) (lt ((pt m c t).sink 1) ((pt m c t).score 1 1)) (k0_pay20 (F := Ideal)) := by
  by_cases h : t.val % 16 = 0
  · exact lse_A m c t h
  · exact lse_B m c t h

/-- … and of the channels. -/
theorem cat_all (t : Fin cfg0.N) : (outsAt0 m c t.val t.isLt).1 = fill ((pt m c t).parts (tri8 (V m c main_v28 : Vec Ideal S8x128x128 .f32)))
    (View.read (Elt Ideal) VO0_15 (VO0_15.writes (Elt Ideal) VO0_15.junk [])) := by
  by_cases h : t.val % 16 = 0
  · exact (cat_A m c t h).trans (congrArg (fun w => fill ((pt m c t).parts (tri8 w)) _) (block10 m c t))
  · exact (cat_B m c t h).trans (congrArg (fun w => fill ((pt m c t).parts w) _) (kept m c _ _))

end Cert.FwdIdeal.Hand
-- ==== Proof.FwdValue.lean ====
module

public import proofs.«01_k».proof.Proof.FwdEntry
public import Idealize.ShloMosaic.Lib.Pipeline.ValueKit
public import Idealize.ShloMosaic.Lib.Pipeline.Value

/-!
The forward pass's two results, from the program's arguments.
-/

@[expose] public section

set_option maxRecDepth 16384

noncomputable section

namespace Cert.FwdIdeal.Hand

open Cert.FwdIdeal Cert.FwdIdeal.Gen Idealize.ShloMosaic Idealize.ShloMosaic.TcCoe Idealize.SL.Sem
open Idealize.ShloMosaic.Pipeline (Dat)
open Cert.FwdMath
open scoped BigOperators

variable (m : (ℓ : Loc nD τ sig) → Buf (Elt Ideal) ℓ)
variable (c : Dev nD)

/-- The `b`-th block of tokens of point `t`. -/
def blkAt (t : Fin cfg0.N) (b : Fin 2) : Fin 32 := ⟨2 * t.val + b.val, by have := t.isLt; have : cfg0.N = 16 := N_0; omega⟩

theorem tokAt_eq (t : Fin cfg0.N) (b : Fin 2) (r : Fin 128) : tokAt t (tok b r) = at_ (blkAt t b) r :=
  Fin.ext (by show t.val * 256 + (128 * b.val + r.val) = 128 * (2 * t.val + b.val) + r.val; omega)

theorem cos_at (t : Fin cfg0.N) (x : Fin 256) (d : Fin 64) : (pt m c t).x6 (ix2 d x) = (args m c).cos (tokAt t x) ⟨d.val % 32, by omega⟩ :=
  (block6 m c t d x).trans (cosines m c d _)
theorem sin_at (t : Fin cfg0.N) (x : Fin 256) (d : Fin 64) :
    (pt m c t).x7 (ix2 d x) = (args m c).sin (tokAt t x) ⟨d.val % 32, by omega⟩ * (if d.val < 32 then -1 else 1) :=
  (block7 m c t d x).trans (sines m c d _)
theorem cos_before (t : Fin cfg0.N) (x : Fin 128) (d : Fin 64) : (pt m c t).x8 (ix2 d x) = (args m c).cos (tokBefore t x) ⟨d.val % 32, by omega⟩ :=
  (block8 m c t d x).trans (cosines m c d _)
theorem sin_before (t : Fin cfg0.N) (x : Fin 128) (d : Fin 64) :
    (pt m c t).x9 (ix2 d x) = (args m c).sin (tokBefore t x) ⟨d.val % 32, by omega⟩ * (if d.val < 32 then -1 else 1) :=
  (block9 m c t d x).trans (sines m c d _)
theorem kv_at (t : Fin cfg0.N) (d x : Fin 256) : (pt m c t).x4 (ix2 d x) = (args m c).h (tokAt t x) ⟨1536 + d.val, by omega⟩ :=
  (block4 m c t d x).trans (hidden m c _ _)
theorem kv_before (t : Fin cfg0.N) (d : Fin 256) (x : Fin 128) : (pt m c t).x5 (ix2 d x) = (args m c).h (tokBefore t x) ⟨1536 + d.val, by omega⟩ :=
  (block5 m c t d x).trans (hidden m c _ _)

theorem query_at (t : Fin cfg0.N) (a : Fin 8) (d : Fin 64) (b : Fin 2) (r : Fin 128) :
    (pt m c t).q (ix2 (chan a d) (tok b r)) = (args m c).query a (at_ (blkAt t b) r) d * Ideal.ofBits FTy.f32 0x3E000000#32 := by
  refine (qr_at _ _ _ a d _).trans (congrArg (· * _) ?_)
  have hx : (fun e => (pt m c t).x3 (ix2 (chan a e) (tok b r))) = fun e : Fin 64 => (args m c).h (at_ (blkAt t b) r) ⟨1024 + (64 * a.val + e.val), by omega⟩ :=
    funext fun e => by
      refine ((block3 m c t (chan a e) (tok b r)).trans (hidden m c _ _)).trans ?_
      rw [tokAt_eq]
      rfl
  unfold turned
  rw [hx, ← tokAt_eq]
  exact Args.turn_eq (args m c) _ (tokAt t (tok b r)) _ _ (fun d => cos_at m c t _ d) (fun d => sin_at m c t _ d) d

/-- The keys of the block itself. -/
theorem key_at (t : Fin cfg0.N) (v : Fin 2) (d : Fin 64) (x : Fin 256) :
    turned (fun e => (⟨(kchan v e).val, by omega⟩ : Fin 256)) (pt m c t).x4 (pt m c t).x6 (pt m c t).x7 x d = (args m c).key v (tokAt t x) d := by
  unfold turned
  have hx : (fun e => (pt m c t).x4 (ix2 (⟨(kchan v e).val, by omega⟩ : Fin 256) x)) = fun e : Fin 64 => (args m c).h (tokAt t x) ⟨1536 + (64 * v.val + e.val), by omega⟩ :=
    funext fun e => kv_at m c t _ x
  rw [hx]
  exact Args.turn_eq (args m c) _ (tokAt t x) _ _ (fun d => cos_at m c t _ d) (fun d => sin_at m c t _ d) d

/-- The keys of the block before. -/
theorem key_before (t : Fin cfg0.N) (v : Fin 2) (d : Fin 64) (x : Fin 128) :
    turned (fun e => (⟨(kchan v e).val, by omega⟩ : Fin 256)) (pt m c t).x5 (pt m c t).x8 (pt m c t).x9 x d = (args m c).key v (tokBefore t x) d := by
  unfold turned
  have hx : (fun e => (pt m c t).x5 (ix2 (⟨(kchan v e).val, by omega⟩ : Fin 256) x)) = fun e : Fin 64 => (args m c).h (tokBefore t x) ⟨1536 + (64 * v.val + e.val), by omega⟩ :=
    funext fun e => kv_before m c t _ x
  rw [hx]
  exact Args.turn_eq (args m c) _ (tokBefore t x) _ _ (fun d => cos_before m c t _ d) (fun d => sin_before m c t _ d) d

theorem place_1 (t : Fin cfg0.N) (x : Fin 256) : tokAt t x = Args.place (blkAt t 1) x :=
  Fin.ext (by show t.val * 256 + x.val = 128 * (2 * t.val + 1) + x.val - 128; omega)
theorem place_0 (t : Fin cfg0.N) (x : Fin 256) (h : ¬x.val < 128) : tokAt t ⟨x.val - 128, by omega⟩ = Args.place (blkAt t 0) x :=
  Fin.ext (by show t.val * 256 + (x.val - 128) = 128 * (2 * t.val + 0) + x.val - 128; omega)
theorem place_before (t : Fin cfg0.N) (x : Fin 256) (h : x.val < 128) (ht : 0 < t.val) : tokBefore t ⟨x.val, h⟩ = Args.place (blkAt t 0) x :=
  Fin.ext (by show (2 * t.val - 1) * 128 + x.val = 128 * (2 * t.val + 0) + x.val - 128; omega)

/-- Whether place `x` holds a token. -/
abbrev held (n : Fin 32) (x : Fin 256) : Prop := 128 ≤ x.val ∨ 0 < n.val

theorem keys (t : Fin cfg0.N) (b v : Fin 2) (d : Fin 64) (x : Fin 256) (hx : held (blkAt t b) x) :
    (pt m c t).k b (ix2 x (kchan v d)) = (args m c).key v (Args.place (blkAt t b) x) d := by
  fin_cases b
  · refine (k0_at _ _ _ _ _ _ v d x).trans ?_
    by_cases h : x.val < 128
    · have ht : 0 < t.val := by
        rcases hx with h' | h'
        · omega
        · have : 0 < 2 * t.val + 0 := h'
          omega
      rw [dif_pos h]
      refine (key_before m c t v d _).trans ?_
      rw [place_before t x h ht]
      rfl
    · rw [dif_neg h]
      refine (key_at m c t v d _).trans ?_
      rw [place_0 t x h]
      rfl
  · refine (k1_at _ _ _ v d x).trans ?_
    refine (key_at m c t v d _).trans ?_
    rw [place_1 t x]
    rfl

theorem values (t : Fin cfg0.N) (b v : Fin 2) (d : Fin 64) (x : Fin 256) (hx : held (blkAt t b) x) :
    (pt m c t).w b (ix2 (kchan v d) x) = (args m c).value v (Args.place (blkAt t b) x) d := by
  have e : ∀ i, (args m c).h i ⟨1536 + (128 + (kchan v d).val), by omega⟩ = (args m c).value v i d := fun i =>
    congrArg ((args m c).h i) (Fin.ext (by show 1536 + (128 + (64 * v.val + d.val)) = 1664 + (64 * v.val + d.val); omega))
  fin_cases b
  · refine (w0_at _ _ (kchan v d) x).trans ?_
    by_cases h : x.val < 128
    · have ht : 0 < t.val := by
        rcases hx with h' | h'
        · omega
        · have : 0 < 2 * t.val + 0 := h'
          omega
      rw [dif_pos h]
      refine ((kv_before m c t _ _).trans (e _)).trans ?_
      rw [place_before t x h ht]
      rfl
    · rw [dif_neg h]
      refine ((kv_at m c t _ _).trans (e _)).trans ?_
      rw [place_0 t x h]
      rfl
  · refine (w1_at _ (kchan v d) x).trans ?_
    refine ((kv_at m c t _ _).trans (e _)).trans ?_
    rw [place_1 t x]
    rfl

theorem row_word : ∀ t : Fin cfg0.N, k0_off1 (grid0.coords t) = ![if 0 < t.val then 1 else 0, 0, 0] :=
  (by decide +kernel : ∀ t : Fin grid0.N, _)

theorem biases (t : Fin cfg0.N) (b : Fin 2) (x : Fin 256) (j : Fin 4) (r : Fin 128) :
    (pt m c t).bias b (ix2 x (lane j r)) = if Args.sees (blkAt t b) r x then 0 else Ideal.ofBits FTy.f32 0xFF800000#32 := by
  have hb : ∀ (l : Fin 2), (pt m c t).x14 (ix3 l x r) = if x.val ≤ r.val + 128 ∧ r.val < x.val ∧ (128 ≤ x.val ∨ 0 < l.val) then 0 else Ideal.ofBits FTy.f32 0xFF800000#32 :=
    fun l => (congrFun (block14 m c t) _).trans (band m c l x r)
  fin_cases b
  · refine (bias_0 _ x j r).trans ?_
    have e : cell (k0_off1_inb (pt m c t).i) (pt m c t).x14 (ix3 0 x r) = (pt m c t).x14 (ix3 (if 0 < t.val then 1 else 0) x r) := by
      refine congrArg (pt m c t).x14 (funext fun a => Fin.ext ?_)
      have h := congrFun (row_word t) a
      show k0_off1 (grid0.coords t) a + 1 * _ = _
      rw [h]
      fin_cases a
      · show (if 0 < t.val then 1 else 0) + 1 * 0 = ((if 0 < t.val then 1 else 0 : Fin 2)).val
        by_cases ht : 0 < t.val
        · simp only [if_pos ht]; rfl
        · simp only [if_neg ht]; rfl
      · show 0 + 1 * x.val = x.val
        omega
      · show 0 + 1 * r.val = r.val
        omega
    refine (e.trans (hb _)).trans (if_congr ?_ rfl rfl)
    show _ ↔ (x.val ≤ r.val + 128 ∧ r.val < x.val ∧ (128 ≤ x.val ∨ 0 < 2 * t.val + 0))
    by_cases ht : 0 < t.val
    · simp only [if_pos ht]
      show (x.val ≤ r.val + 128 ∧ r.val < x.val ∧ (128 ≤ x.val ∨ 0 < 1)) ↔ _
      omega
    · simp only [if_neg ht]
      show (x.val ≤ r.val + 128 ∧ r.val < x.val ∧ (128 ≤ x.val ∨ 0 < 0)) ↔ _
      omega
  · refine (bias_1 _ x j r).trans ?_
    have e : cell inb_S2x256x128_S1x256x128_1_0_0 (pt m c t).x14 (ix3 0 x r) = (pt m c t).x14 (ix3 1 x r) := by
      refine congrArg (pt m c t).x14 (funext fun a => Fin.ext ?_)
      fin_cases a
      · rfl
      · show 0 + 1 * x.val = x.val
        omega
      · show 0 + 1 * r.val = r.val
        omega
    refine (e.trans (hb _)).trans (if_congr ?_ rfl rfl)
    show (x.val ≤ r.val + 128 ∧ r.val < x.val ∧ (128 ≤ x.val ∨ 0 < 1)) ↔ (x.val ≤ r.val + 128 ∧ r.val < x.val ∧ (128 ≤ x.val ∨ 0 < 2 * t.val + 1))
    omega

theorem grp_hd (v : Fin 2) (j : Fin 4) : Args.grp (hd v j) = v := Fin.ext (by show (4 * v.val + j.val) / 4 = v.val; omega)

theorem scores (t : Fin cfg0.N) (b v : Fin 2) (x : Fin 256) (j : Fin 4) (r : Fin 128) :
    (pt m c t).score v b (ix2 x (lane j r)) = (args m c).score (hd v j) (blkAt t b) r x := by
  refine (sc_lane v b _ _ _ x j r).trans ?_
  rw [biases]
  unfold Args.score
  by_cases h : Args.sees (blkAt t b) r x
  · rw [if_pos h, if_pos h, add_zero, grp_hd]
    refine Eq.trans (Finset.sum_congr rfl fun d _ => ?_) (sum_scaled _ _)
    rw [query_at, keys m c t b v d x h.2.2]
  · rw [if_neg h, if_neg h, hidden_eq, EReal.add_bot]

theorem sinks_at (t : Fin cfg0.N) (v : Fin 2) (j : Fin 4) (r : Fin 128) : (pt m c t).sink v (ix2 0 (lane j r)) = (args m c).z (hd v j) := by
  have e : ∀ a : Fin 8, (pt m c t).x0 (ix1 a) = (args m c).z a := fun a => (congrFun (block0 m c t) _).trans (sinks m c a)
  fin_cases v
  · refine (sink_0 (fun j => (pt m c t).x0 (ix1 ⟨j.val, by omega⟩)) j r).trans ((e _).trans (congrArg (args m c).z (Fin.ext ?_)))
    show j.val = 4 * 0 + j.val
    omega
  · refine (sink_1 (fun j => (pt m c t).x0 (ix1 ⟨4 + j.val, by omega⟩)) j r).trans ((e _).trans (congrArg (args m c).z (Fin.ext ?_)))
    show 4 + j.val = 4 * 1 + j.val
    omega

theorem attn_at (t : Fin cfg0.N) (b v : Fin 2) (j : Fin 4) (d : Fin 64) (r : Fin 128) :
    ot v j ((pt m c t).sink v) ((pt m c t).w b) ((pt m c t).score v b) (ix2 d r) = (args m c).attn (hd v j) (blkAt t b) r d := by
  have hs : (fun x => (pt m c t).score v b (ix2 x (lane j r))) = (args m c).score (hd v j) (blkAt t b) r := funext fun x => scores m c t b v x j r
  show avg (fun x => (pt m c t).score v b (ix2 x (lane j r))) ((pt m c t).sink v (ix2 0 (lane j r))) (fun x => (pt m c t).w b (ix2 (kchan v d) x)) = _
  rw [hs, sinks_at]
  unfold Args.attn
  rw [grp_hd]
  refine avg_congr _ _ _ _ fun x hx => values m c t b v d x ?_
  by_contra hn
  refine hx ?_
  unfold Args.score
  rw [if_neg fun h => hn h.2.2, hidden_eq]

theorem sum_at (t : Fin cfg0.N) (b v : Fin 2) (j : Fin 4) (r : Fin 128) :
    lt ((pt m c t).sink v) ((pt m c t).score v b) (ix2 0 (lane j r)) = (args m c).rowSum (hd v j) (blkAt t b) r := by
  have hs : (fun x => (pt m c t).score v b (ix2 x (lane j r))) = (args m c).score (hd v j) (blkAt t b) r := funext fun x => scores m c t b v x j r
  show lse (fun x => (pt m c t).score v b (ix2 x (lane j r))) ((pt m c t).sink v (ix2 0 (lane j r))) = _
  rw [hs, sinks_at]
  rfl

theorem vv_at (x : Vec Ideal S512x256 .f32) (g y : Vec Ideal S512x1 .f32) (k : Fin 512) (s : Fin 256) :
    vv x g y (ix2 k s) = Cert.MixMath.norm (fun e => Cert.MixMath.gelu (x (ix2 e s))) k * g (ix2 k 0) + y (ix2 k 0) := by
  refine (norm_at _ _ _ k _).trans ?_
  rw [show (fun k => k0_pay22 x (ix2 k s)) = fun e => Cert.MixMath.gelu (x (ix2 e s)) from funext fun e => (gate_at x e s).2]

theorem gt_at (a : Fin 8) (b : Fin 2) (u : FVec Ideal S512x256 .f32) (v : FVec Ideal S512x256 .bf16) (w : Vec Ideal S8x128x128 .f32) (z : Vec Ideal S8x128 .f32)
    (d : Fin 64) (r : Fin 128) : gt a b u v (wt (tri8 w) a) (br z a) (ix2 d r)
      = u (ix2 (chan a d) (tok b r)) * ((∑ s : Fin 128, v (ix2 (chan a d) (tok b s)) * (if s ≤ r then w (ix3 a r s) else 0)) + z (ix2 a r)) := rfl

theorem hidden_1 (t : Fin cfg0.N) (e : Fin 512) (b : Fin 2) (s : Fin 128) : (pt m c t).x1 (ix2 e (tok b s)) = (args m c).h (at_ (blkAt t b) s) ⟨e.val, by omega⟩ := by
  refine ((block1 m c t e (tok b s)).trans (hidden m c _ _)).trans ?_
  rw [tokAt_eq]
  rfl

theorem hidden_2 (t : Fin cfg0.N) (e : Fin 512) (b : Fin 2) (s : Fin 128) : (pt m c t).x2 (ix2 e (tok b s)) = (args m c).h (at_ (blkAt t b) s) ⟨512 + e.val, by omega⟩ := by
  refine ((block2 m c t e (tok b s)).trans (hidden m c _ _)).trans ?_
  rw [tokAt_eq]
  rfl

theorem scale_at (t : Fin cfg0.N) (k : Fin 512) : (pt m c t).x12 (ix2 k 0) = (args m c).g k := (congrFun (block12 m c t) (ix2 k 0)).trans (scale m c k)
theorem shift_at (t : Fin cfg0.N) (k : Fin 512) : (pt m c t).x13 (ix2 k 0) = (args m c).b k := (congrFun (block13 m c t) (ix2 k 0)).trans (shift m c k)

theorem normed_at (t : Fin cfg0.N) (k : Fin 512) (b : Fin 2) (s : Fin 128) : (pt m c t).v (ix2 k (tok b s)) = (args m c).normed (at_ (blkAt t b) s) k := by
  refine (congrFun (v_eq (pt m c t)) _).trans ((vv_at _ _ _ k _).trans ?_)
  have hx : (fun e => Cert.MixMath.gelu ((pt m c t).x2 (ix2 e (tok b s)))) = fun e : Fin 512 => Cert.MixMath.gelu ((args m c).h (at_ (blkAt t b) s) ⟨512 + e.val, by omega⟩) :=
    funext fun e => congrArg Cert.MixMath.gelu (hidden_2 m c t e b s)
  rw [hx, scale_at, shift_at]
  rfl

theorem gated_at (t : Fin cfg0.N) (a : Fin 8) (b : Fin 2) (d : Fin 64) (r : Fin 128) :
    gt a b (pt m c t).u (pt m c t).v (wt (tri8 (V m c main_v28 : Vec Ideal S8x128x128 .f32)) a) (br (pt m c t).x11 a) (ix2 d r)
      = (args m c).gate a (blkAt t b) r d := by
  have hu : (pt m c t).u (ix2 (chan a d) (tok b r)) = Cert.MixMath.gelu ((args m c).h (at_ (blkAt t b) r) ⟨64 * a.val + d.val, by omega⟩) := by
    refine (congrFun (u_eq (pt m c t)) _).trans ((gate_at _ _ _).1.trans (congrArg Cert.MixMath.gelu (hidden_1 m c t _ b r)))
  have hz : (pt m c t).x11 (ix2 a r) = (args m c).bs a r := (congrFun (block11 m c t) _).trans (offsets m c a r)
  refine (gt_at _ _ _ _ _ _ _ _).trans ?_
  refine congrArg₂ (· * ·) hu (congrArg₂ (· + ·) (Finset.sum_congr rfl fun s _ => congrArg₂ (· * ·) (normed_at m c t _ b s) ?_) hz)
  by_cases h : s ≤ r
  · rw [if_pos h, if_pos h]
    exact weights m c a r s
  · rw [if_neg h, if_neg h]

theorem idxOut : ∀ t : Fin cfg0.N, win0_15.index t = ![0, t.val] ∧ win0_16.index t = ![t.val, 0] :=
  (by decide +kernel : ∀ t : Fin grid0.N, _)

theorem cat_at (t : Fin cfg0.N) (y : Fin 1024) (x : Fin 256) : (outsAt0 m c t.val t.isLt).1 (ix2 y x) = (args m c).cat y (tokAt t x) := by
  obtain ⟨a, d, rfl⟩ : ∃ (a : Fin 16) (d : Fin 64), y = row a d :=
    ⟨⟨y.val / 64, by omega⟩, ⟨y.val % 64, by omega⟩, Fin.ext (by show y.val = 64 * (y.val / 64) + y.val % 64; omega)⟩
  obtain ⟨b, r, rfl⟩ : ∃ (b : Fin 2) (r : Fin 128), x = tok b r :=
    ⟨⟨x.val / 128, by omega⟩, ⟨x.val % 128, by omega⟩, Fin.ext (by show x.val = 128 * (x.val / 128) + x.val % 128; omega)⟩
  rw [cat_all, fill_at, tokAt_eq]
  have e1 : (⟨(at_ (blkAt t b) r).val / 128, by omega⟩ : Fin 32) = blkAt t b := Fin.ext (by show (128 * (blkAt t b).val + r.val) / 128 = (blkAt t b).val; omega)
  have e2 : (⟨(at_ (blkAt t b) r).val % 128, by omega⟩ : Fin 128) = r := Fin.ext (by show (128 * (blkAt t b).val + r.val) % 128 = r.val; omega)
  have e3 : (⟨(row a d).val % 64, by omega⟩ : Fin 64) = d := Fin.ext (by show (64 * a.val + d.val) % 64 = d.val; omega)
  unfold Args.cat
  rw [e1, e2, e3]
  by_cases h : a.val < 8
  · have hy : (row a d).val < 512 := by
      show 64 * a.val + d.val < 512
      omega
    rw [dif_pos hy]
    have e4 : (⟨(row a d).val / 64, by omega⟩ : Fin 8) = ⟨a.val, h⟩ := Fin.ext (by show (64 * a.val + d.val) / 64 = a.val; omega)
    rw [e4]
    unfold Pt.parts
    rw [dif_pos h]
    exact gated_at m c t ⟨a.val, h⟩ b d r
  · have hy : ¬(row a d).val < 512 := by
      show ¬64 * a.val + d.val < 512
      omega
    rw [dif_neg hy]
    have e4 : (⟨((row a d).val - 512) / 64, by omega⟩ : Fin 8) = hd ⟨(a.val - 8) / 4, by omega⟩ ⟨(a.val - 8) % 4, by omega⟩ :=
      Fin.ext (by show (64 * a.val + d.val - 512) / 64 = 4 * ((a.val - 8) / 4) + (a.val - 8) % 4; omega)
    rw [e4]
    unfold Pt.parts
    rw [dif_neg h]
    exact attn_at m c t b _ _ d r

theorem zeros_at (k : Fin 8) (l : Fin 512) : k0_pay20 (F := Ideal) (ix2 k l) = (0 : EReal) := by
  pointwise [k0_pay20]

theorem sums_at (t : Fin cfg0.N) (k : Fin 8) (l : Fin 512) (y : Fin 128) (hy : y.val = 8 * t.val + k.val) :
    (outsAt0 m c t.val t.isLt).2.1 (ix2 k l) = (args m c).sums y l := by
  obtain ⟨j, r, rfl⟩ := lane_cases l
  rw [lse_all, fillRows_at]
  have e2 : (⟨(lane j r).val % 128, by omega⟩ : Fin 128) = r := Fin.ext (by show (128 * j.val + r.val) % 128 = r.val; omega)
  unfold Args.sums
  rw [e2]
  by_cases h : k.val < 4
  · have hk : y.val % 8 < 4 := by omega
    rw [dif_pos hk]
    have e : ∀ (v b : Fin 2), k.val = 2 * b.val + v.val → lt ((pt m c t).sink v) ((pt m c t).score v b) (ix2 0 (lane j r)) =
        (args m c).rowSum ⟨4 * (y.val % 8 % 2) + (lane j r).val / 128, by omega⟩ ⟨2 * (y.val / 8) + y.val % 8 / 2, by omega⟩ r := by
      intro v b hv
      refine (sum_at m c t b v j r).trans ?_
      have f1 : hd v j = ⟨4 * (y.val % 8 % 2) + (lane j r).val / 128, by omega⟩ := Fin.ext (by show 4 * v.val + j.val = 4 * (y.val % 8 % 2) + (128 * j.val + r.val) / 128; omega)
      have f2 : blkAt t b = ⟨2 * (y.val / 8) + y.val % 8 / 2, by omega⟩ := Fin.ext (by show 2 * t.val + b.val = 2 * (y.val / 8) + y.val % 8 / 2; omega)
      rw [f1, f2]
    split_ifs with h0 h1 h2 h3
    · exact e 0 0 h0
    · exact e 1 0 h1
    · exact e 0 1 h2
    · exact e 1 1 h3
    · omega
  · have hk : ¬y.val % 8 < 4 := by omega
    rw [dif_neg hk, if_neg (by omega), if_neg (by omega), if_neg (by omega), if_neg (by omega)]
    exact zeros_at k _

/-- A place of a block is a row and a column. -/
theorem place_split {a b : ℕ} (y : (⟨2, ![a, b]⟩ : Shape).Idx) : y = ix2 (n0 := a) (n1 := b) (y 0) (y 1) :=
  funext fun i => match i with
    | ⟨0, _⟩ => rfl
    | ⟨1, _⟩ => rfl

/-- The channels, in the end. -/
theorem final_cat : (dats m 0 c).arrAt 15 cfg0.N = (fun j : S1024x4096.Idx => (args m c).cat (j 0) (j 1)) := by
  refine (dats m 0 c).arrAt_eq_of_covers 15 _ (by decide +kernel) fun t hf y => ?_
  have e0 : (((cfg0.win 15).blk t).view.emb y 0 : Fin 1024) = y 0 := Fin.ext (by blk_simp [idxOut t])
  have e1 : (((cfg0.win 15).blk t).view.emb y 1 : Fin 4096) = tokAt t (y 1) := Fin.ext (by blk_simp [idxOut t]; simp only [tokAt])
  have hv := cat_at m c t (y 0) (y 1)
  rw [← place_split (a := 1024) (b := 256) y] at hv
  rw [show (dats m 0 c).after 15 t = (outsAt0 m c t.val t.isLt).1 by dsimp only [dats]]
  refine Eq.trans hv ?_
  rw [← e0, ← e1]

/-- The log-sums, in the end. -/
theorem final_sums : (dats m 0 c).arrAt 16 cfg0.N = (fun j : S128x512.Idx => (args m c).sums (j 0) (j 1)) := by
  refine (dats m 0 c).arrAt_eq_of_covers 16 _ (by decide +kernel) fun t hf y => ?_
  have e0 : (((cfg0.win 16).blk t).view.emb y 0 : Fin 128).val = 8 * t.val + (y 0).val := by
    blk_simp [idxOut t]
    omega
  have e1 : (((cfg0.win 16).blk t).view.emb y 1 : Fin 512) = y 1 := Fin.ext (by blk_simp [idxOut t])
  have hv := sums_at m c t (y 0) (y 1) _ e0
  rw [← place_split (a := 8) (b := 512) y] at hv
  rw [show (dats m 0 c).after 16 t = (outsAt0 m c t.val t.isLt).2.1 by dsimp only [dats]]
  refine Eq.trans hv ?_
  rw [← e1]

end Cert.FwdIdeal.Hand
-- ==== Proof.FwdFinite.lean ====
module

public import proofs.«01_k».proof.Proof.FwdValue
public import proofs.«01_k».proof.Proof.FfnFinite
public import proofs.«01_k».proof.Proof.Gen.Pre_forward_finite
public import proofs.«01_k».proof.Defs

/-!
The precondition makes the query columns, the key columns and the sinks real
numbers. Then no row's sum of exponentials is zero.
-/

@[expose] public section

noncomputable section

namespace Cert.FwdMath

open Idealize.ShloMosaic
open scoped BigOperators

abbrev IsReal (x : EReal) : Prop := ∃ a : ℝ, x = (a : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type} (s : Finset ι) {f : ι → EReal} (h : ∀ i, IsReal (f i)) : IsReal (∑ i ∈ s, f i) := by
  classical
  induction s using Finset.induction_on with
  | empty => exact ⟨0, by simp⟩
  | insert a s ha ih =>
    rw [Finset.sum_insert ha]
    exact (h a).add ih

theorem IsReal.div {x y : ℝ} (h : y ≠ 0) : IsReal (Ideal.div (x : EReal) (y : EReal)) := by
  unfold Ideal.div
  rw [if_neg (by exact_mod_cast h), ← EReal.coe_inv, ← EReal.coe_mul]
  exact ⟨_, rfl⟩

theorem base_real : Ideal.ofBits FTy.f32 1176256512#32 = ((10000 : ℝ) : EReal) := by
  simp [Ideal.ofBits, Ideal.ieee]
  rw [← EReal.coe_mul]
  norm_num

theorem two_real : Ideal.ofBits FTy.f32 1073741824#32 = ((2 : ℝ) : EReal) := by
  simp [Ideal.ofBits, Ideal.ieee]
  rw [← EReal.coe_mul]
  norm_num

theorem width_real : Ideal.ofBits FTy.f32 1115684864#32 = ((64 : ℝ) : EReal) := by
  simp [Ideal.ofBits, Ideal.ieee]
  rw [← EReal.coe_mul]
  norm_num

/-- A token's angles are real numbers. -/
theorem angle_real (p : BitVec 32) (e : Fin 32) : IsReal (angle p e) := by
  have hs : ∀ q : BitVec 32, FloatOps.sitofp (F := Ideal) FTy.f32 q = (((q.toInt : ℝ)) : EReal) := fun _ => rfl
  unfold angle
  rw [base_real, two_real, width_real, hs, hs]
  refine IsReal.mul ⟨_, rfl⟩ ?_
  obtain ⟨u, hu⟩ : IsReal (Ideal.div (-(((2 : ℝ) : EReal) * ((((BitVec.ofNat 32 e.val).toInt : ℝ)) : EReal))) ((64 : ℝ) : EReal)) := by
    rw [← EReal.coe_mul, ← EReal.coe_neg]
    exact IsReal.div (by norm_num)
  rw [hu]
  exact ⟨_, rfl⟩

theorem cos_real {x : EReal} (h : IsReal x) : IsReal (Ideal.cos x) := by
  obtain ⟨a, rfl⟩ := h
  exact ⟨_, rfl⟩

theorem sin_real {x : EReal} (h : IsReal x) : IsReal (Ideal.sin x) := by
  obtain ⟨a, rfl⟩ := h
  exact ⟨_, rfl⟩

theorem exp_nonneg (x : EReal) : 0 ≤ Ideal.exp x := by
  induction x with
  | bot => exact le_refl _
  | coe a => exact EReal.coe_nonneg.2 (Real.exp_pos a).le
  | top => exact le_top

/-- A row with a real sink and no infinite score has a positive sum. -/
theorem den_ne_zero (f : Fin 256 → EReal) (z : ℝ) (h : ∀ x, f x ≠ ⊤) : den f (z : EReal) ≠ 0 := by
  have ht : top f (z : EReal) < ⊤ := by
    unfold top
    refine max_lt (Finset.fold_max_lt _ |>.2 ⟨?_, fun x _ => lt_top_iff_ne_top.2 (h x)⟩) (EReal.coe_lt_top z)
    rw [hidden_eq]
    exact bot_lt_top
  have hb : (z : EReal) ≤ top f (z : EReal) := le_max_right _ _
  obtain ⟨t, e⟩ : IsReal (top f (z : EReal)) := by
    induction hx : top f (z : EReal) with
    | bot => rw [hx] at hb; exact absurd (le_bot_iff.1 hb) (EReal.coe_ne_bot z)
    | coe a => exact ⟨a, rfl⟩
    | top => rw [hx] at ht; exact absurd ht (lt_irrefl _)
  have hp : 0 < Ideal.exp ((z : EReal) - top f (z : EReal)) := by
    rw [e, ← EReal.coe_sub]
    exact EReal.coe_pos.2 (Real.exp_pos _)
  exact (lt_of_lt_of_le hp (le_add_of_nonneg_left (Finset.sum_nonneg fun x _ => exp_nonneg _))).ne'

namespace Args

variable (A : Args)

theorem rot_real (hc : ∀ i e, IsReal (A.cos i e)) (hs : ∀ i e, IsReal (A.sin i e)) (x : Fin 64 → EReal) (hx : ∀ d, IsReal (x d)) (i : Fin 4096)
    (d : Fin 64) : IsReal (A.rot x i d) := by
  unfold rot
  split
  · exact ((hx _).mul (hc _ _)).sub ((hx _).mul (hs _ _))
  · exact ((hx _).mul (hc _ _)).add ((hx _).mul (hs _ _))

theorem score_ne_top (hc : ∀ i e, IsReal (A.cos i e)) (hs : ∀ i e, IsReal (A.sin i e))
    (hh : ∀ (i : Fin 4096) (k : Fin 640), IsReal (A.h i ⟨1024 + k.val, by omega⟩)) (a : Fin 8) (n : Fin 32) (r : Fin 128) (x : Fin 256) :
    A.score a n r x ≠ ⊤ := by
  unfold score
  split
  · have hk : ∀ (v : Fin 2) (i : Fin 4096) (e : Fin 64), IsReal (A.h i ⟨1536 + (64 * v.val + e.val), by omega⟩) := fun v i e => by
      have e1 : (⟨1536 + (64 * v.val + e.val), by omega⟩ : Fin 1792) = ⟨1024 + (⟨512 + (64 * v.val + e.val), by omega⟩ : Fin 640).val, by
          show 1024 + (512 + (64 * v.val + e.val)) < 1792; omega⟩ := Fin.ext (by show 1536 + _ = 1024 + (512 + _); omega)
      rw [e1]
      exact hh _ _
    obtain ⟨b, e⟩ : IsReal ((∑ d : Fin 64, A.query a (at_ n r) d * A.key (grp a) (place n x) d) * Ideal.ofBits FTy.f32 0x3E000000#32) :=
      IsReal.mul (IsReal.sum _ fun d => IsReal.mul
        (A.rot_real hc hs _ (fun e => hh _ ⟨64 * a.val + e.val, by omega⟩) _ _) (A.rot_real hc hs _ (fun e => hk _ _ e) _ _)) ⟨_, eighth⟩
    rw [e]
    exact EReal.coe_ne_top b
  · rw [hidden_eq]
    exact bot_ne_top

end Args

end Cert.FwdMath

namespace Cert.FwdIdeal.Hand

open Cert.FwdIdeal Cert.FwdIdeal.Gen
open Idealize.ShloMosaic Idealize.ShloMosaic.TcCoe
open Cert.FwdMath
open Cert.FfnIdeal.Hand (real_of_all)

/-- What the precondition says of the query and key columns and of the sinks. -/
theorem reals_of_pre [Cert.Pre_forward_finite.Facts] (a0 : FVec Ideal Cert.Pre_forward_finite.S1x4096x1792 .f32) (a1 : IVec Cert.Pre_forward_finite.S1x4096 32)
    (a2 a3 : FVec Ideal Cert.Pre_forward_finite.S1x512 .f32) (a4 : FVec Ideal Cert.Pre_forward_finite.S1x8x128x128 .f32)
    (a5 : FVec Ideal Cert.Pre_forward_finite.S1x8x128 .f32) (a6 : FVec Ideal Cert.Pre_forward_finite.S1x8 .f32)
    (e : Cert.Pre_forward_finite.fn (F := Ideal) a0 a1 a2 a3 a4 a5 a6 = fun _ => 1#1) :
    (∀ (i : Fin 4096) (k : Fin 640), IsReal (a0 (ix3 0 i ⟨1024 + k.val, by omega⟩))) ∧ ∀ a : Fin 8, IsReal (a6 (ix2 0 a)) := by
  have e := congrFun e ix0
  unfold Cert.Pre_forward_finite.fn at e
  dsimp only at e
  simp only [show ∀ x y : IVec Cert.Pre_forward_finite.S_ 1, andi x y ix0 = IntOp.andi (x ix0) (y ix0) from fun _ _ => rfl, IntOp.andi_eq_one] at e
  obtain ⟨e0, e6⟩ := e
  refine ⟨fun i k => ?_, fun a => real_of_all e6 _⟩
  obtain ⟨b, hb⟩ := real_of_all e0 (ix3 0 i k)
  refine ⟨b, ?_⟩
  pointwise at hb
  exact hb

/-- No row's sum of exponentials is zero. -/
theorem den_of_pre [Cert.Pre_forward_finite.Facts] (m : (ℓ : Loc nD τ sig) → Buf (Elt Ideal) ℓ) (c : Dev nD) (pre : Cert.Pre_FwdIdeal_forward_finite m)
    (a : Fin 8) (n : Fin 32) (r : Fin 128) : den ((args m c).score a n r) ((args m c).z a) ≠ 0 := by
  obtain ⟨e0, e6⟩ := reals_of_pre _ _ _ _ _ _ _ (pre c)
  obtain ⟨z, hz⟩ := e6 a
  rw [show (args m c).z a = (z : EReal) from hz]
  exact den_ne_zero _ z fun x => (args m c).score_ne_top (fun _ _ => cos_real (angle_real _ _)) (fun _ _ => sin_real (angle_real _ _)) e0 a n r x

end Cert.FwdIdeal.Hand
-- ==== Proof.FwdRefRow.lean ====
module

public import proofs.«01_k».proof.Proof.Gen.FwdRefIdeal.Run
public import proofs.«01_k».proof.Proof.FwdWord

/-!
The reference's keys, queries, values and scores, by their places.
-/

@[expose] public section

set_option maxRecDepth 16384

noncomputable section

namespace Cert.FwdRefIdeal.Hand

open Cert.FwdRefIdeal Cert.FwdRefIdeal.Gen Cert.FwdRefIdeal.Value
open Idealize.ShloMosaic Idealize.ShloMosaic.TcCoe Idealize.SL.Sem
open Cert.FwdMath
open scoped BigOperators

variable (V0 : Valuation τ sig (Elt Ideal))

/-- The reference's arguments. -/
def args : Args where
  h i d := (V0 (Proc.devRef .tc main_arg0) : Vec Ideal S1x4096x1792 .f32) (ix3 0 i d)
  cos i e := Ideal.cos (angle ((V0 (Proc.devRef .tc main_arg1) : Vec Ideal S1x4096 .i32) (ix2 0 i)) e)
  sin i e := Ideal.sin (angle ((V0 (Proc.devRef .tc main_arg1) : Vec Ideal S1x4096 .i32) (ix2 0 i)) e)
  g d := (V0 (Proc.devRef .tc main_arg2) : Vec Ideal S1x512 .f32) (ix2 0 d)
  b d := (V0 (Proc.devRef .tc main_arg3) : Vec Ideal S1x512 .f32) (ix2 0 d)
  w a t s := (V0 (Proc.devRef .tc main_arg4) : Vec Ideal S1x8x128x128 .f32) (ix4 0 a t s)
  bs a t := (V0 (Proc.devRef .tc main_arg5) : Vec Ideal S1x8x128 .f32) (ix3 0 a t)
  z a := (V0 (Proc.devRef .tc main_arg6) : Vec Ideal S1x8 .f32) (ix2 0 a)

theorem h_eq (i i' : Fin 4096) (k k' : Fin 1792) (hi : i.val = i'.val) (hk : k.val = k'.val) :
    (V0 (Proc.devRef .tc main_arg0) : Vec Ideal S1x4096x1792 .f32) (ix3 0 i k) = (args V0).h i' k' := by
  rw [Fin.ext hi, Fin.ext hk]
  rfl
theorem cos_eq (i i' : Fin 4096) (e e' : Fin 32) (hi : i.val = i'.val) (he : e.val = e'.val) :
    Ideal.cos (angle ((V0 (Proc.devRef .tc main_arg1) : Vec Ideal S1x4096 .i32) (ix2 0 i)) e) = (args V0).cos i' e' := by
  rw [Fin.ext hi, Fin.ext he]
  rfl
theorem sin_eq (i i' : Fin 4096) (e e' : Fin 32) (hi : i.val = i'.val) (he : e.val = e'.val) :
    Ideal.sin (angle ((V0 (Proc.devRef .tc main_arg1) : Vec Ideal S1x4096 .i32) (ix2 0 i)) e) = (args V0).sin i' e' := by
  rw [Fin.ext hi, Fin.ext he]
  rfl

theorem angles_q (i : Fin 4096) (e : Fin 32) : (res_main_v91 V0 : FVec Ideal S1x4096x32 .f32) (ix3 0 i e)
    = angle ((V0 (Proc.devRef .tc main_arg1) : Vec Ideal S1x4096 .i32) (ix2 0 i)) e := by
  unfold res_main_v91
  pointwise
  rfl

theorem angles_k (i : Fin 4096) (e : Fin 32) : (res_main_v125 V0 : FVec Ideal S1x4096x32 .f32) (ix3 0 i e)
    = angle ((V0 (Proc.devRef .tc main_arg1) : Vec Ideal S1x4096 .i32) (ix2 0 i)) e := by
  unfold res_main_v125
  pointwise
  rfl

theorem keys (n : Fin 32) (r : Fin 128) (v : Fin 2) (d : Fin 64) : (res_main_v145 V0 : FVec Ideal S1x32x128x2x64 .f32) (ix5 0 n r v d)
    = (args V0).key v (at_ n r) d := by
  unfold res_main_v145
  unfold res_main_v127 res_main_v129 res_main_v130 res_main_v131 res_main_v109
  pointwise [angles_k]
  unfold Args.key Args.rot
  by_cases h : d.val < 32
  · refine (dif_pos h).trans (Eq.trans ?_ (dif_pos h).symm)
    exact congrArg₂ (· - ·) (congrArg₂ (· * ·) (h_eq V0 _ _ _ _ (by show n.val * 128 + r.val = 128 * n.val + r.val; omega) (by show 1536 + (v.val * 64 + d.val) = 1536 + (64 * v.val + d.val); omega)) (cos_eq V0 _ _ _ _ (by show n.val * 128 + r.val = 128 * n.val + r.val; omega) rfl))
      (congrArg₂ (· * ·) (h_eq V0 _ _ _ _ (by show n.val * 128 + r.val = 128 * n.val + r.val; omega) (by show 1536 + (v.val * 64 + (32 + d.val)) = 1536 + (64 * v.val + (32 + d.val)); omega)) (sin_eq V0 _ _ _ _ (by show n.val * 128 + r.val = 128 * n.val + r.val; omega) rfl))
  · refine (dif_neg h).trans (Eq.trans ?_ (dif_neg h).symm)
    exact congrArg₂ (· + ·) (congrArg₂ (· * ·) (h_eq V0 _ _ _ _ (by show n.val * 128 + r.val = 128 * n.val + r.val; omega) (by show 1536 + (v.val * 64 + (32 + (d.val - 32))) = 1536 + (64 * v.val + d.val); omega)) (cos_eq V0 _ _ _ _ (by show n.val * 128 + r.val = 128 * n.val + r.val; omega) rfl))
      (congrArg₂ (· * ·) (h_eq V0 _ _ _ _ (by show n.val * 128 + r.val = 128 * n.val + r.val; omega) (by show 1536 + (v.val * 64 + (d.val - 32)) = 1536 + (64 * v.val + (d.val - 32)); omega)) (sin_eq V0 _ _ _ _ (by show n.val * 128 + r.val = 128 * n.val + r.val; omega) rfl))

theorem values (n : Fin 32) (r : Fin 128) (v : Fin 2) (d : Fin 64) : (res_main_v151 V0 : FVec Ideal S1x32x128x2x64 .f32) (ix5 0 n r v d)
    = (args V0).value v (at_ n r) d := by
  unfold res_main_v151
  pointwise
  exact h_eq V0 _ _ _ _ (by show n.val * 128 + r.val = 128 * n.val + r.val; omega) (by show 1664 + (v.val * 64 + d.val) = 1664 + (64 * v.val + d.val); omega)

/-- The block before each block, then the block. -/
theorem beside (Y : FVec Ideal S1x32x128x2x64 .f32) (n : Fin 32) (x : Fin 256) (v : Fin 2) (d : Fin 64) :
    (concatenate S1x32x256x2x64 2 [⟨S1x32x128x2x64, (concatenate S1x32x128x2x64 1 [⟨S1x1x128x2x64, (broadcastInDim S1x1x128x2x64 ![] bcast_S_S1x1x128x2x64 (constant S_ .f32 0x00000000#32))⟩, ⟨S1x31x128x2x64, (extractStridedSlice S1x31x128x2x64 ![0, 0, 0, 0, 0] Y slices_S1x32x128x2x64_S1x31x128x2x64_0_0_0_0_0)⟩] concatenates_S1x1x128x2x64_S1x31x128x2x64_S1x32x128x2x64_d1)⟩, ⟨S1x32x128x2x64, Y⟩] concatenates_S1x32x128x2x64_S1x32x128x2x64_S1x32x256x2x64_d2 : FVec Ideal S1x32x256x2x64 .f32) (ix5 0 n x v d)
      = if 128 ≤ x.val ∨ 0 < n.val then Y (ix5 0 ⟨(Args.place n x).val / 128, by omega⟩ ⟨(Args.place n x).val % 128, by omega⟩ v d) else 0 := by
  have hp : (Args.place n x).val = 128 * n.val + x.val - 128 := rfl
  pointwise
  by_cases h : x.val < 128
  · refine (dif_pos h).trans ?_
    by_cases hn : n.val < 1
    · exact (dif_pos hn).trans (if_neg (by omega)).symm
    · refine (dif_neg hn).trans (Eq.trans ?_ (if_pos (by omega)).symm)
      exact congrArg Y (congrArg₂ (fun a b => ix5 0 a b v d) (Fin.ext (by show n.val - 1 = (Args.place n x).val / 128; omega))
        (Fin.ext (by show x.val = (Args.place n x).val % 128; omega)))
  · refine (dif_neg h).trans (Eq.trans ?_ (if_pos (by omega)).symm)
    exact congrArg Y (congrArg₂ (fun a b => ix5 0 a b v d) (Fin.ext (by show n.val = (Args.place n x).val / 128; omega))
      (Fin.ext (by show x.val - 128 = (Args.place n x).val % 128; omega)))

theorem at_place (n : Fin 32) (x : Fin 256) :
    at_ ⟨(Args.place n x).val / 128, by omega⟩ ⟨(Args.place n x).val % 128, by omega⟩ = Args.place n x :=
  Fin.ext (Nat.div_add_mod _ _)

/-- The queries, grouped by their key heads. -/
theorem queries (n : Fin 32) (r : Fin 128) (v : Fin 2) (j : Fin 4) (d : Fin 64) :
    (shapeCast _ (concatenate S1x4096x8x64 3 [⟨S1x4096x8x32, (subf (mulf (res_main_v96 V0) (broadcastInDim S1x4096x8x32 ![0, 1, 2, 3] bcast_S1x4096x1x32_S1x4096x8x32_0_1_2_3 (res_main_v93 V0))) (mulf (res_main_v97 V0) (broadcastInDim S1x4096x8x32 ![0, 1, 2, 3] bcast_S1x4096x1x32_S1x4096x8x32_0_1_2_3 (res_main_v95 V0))))⟩, ⟨S1x4096x8x32, (addf (mulf (res_main_v97 V0) (broadcastInDim S1x4096x8x32 ![0, 1, 2, 3] bcast_S1x4096x1x32_S1x4096x8x32_0_1_2_3 (res_main_v93 V0))) (mulf (res_main_v96 V0) (broadcastInDim S1x4096x8x32 ![0, 1, 2, 3] bcast_S1x4096x1x32_S1x4096x8x32_0_1_2_3 (res_main_v95 V0))))⟩] concatenates_S1x4096x8x32_S1x4096x8x32_S1x4096x8x64_d3) shapeCasts_S1x4096x8x64_S1x32x128x2x4x64 : FVec Ideal S1x32x128x2x4x64 .f32) (ix6 0 n r v j d)
    = (args V0).query (hd v j) (at_ n r) d := by
  unfold res_main_v93 res_main_v95 res_main_v96 res_main_v97 res_main_v75
  pointwise [angles_q]
  unfold Args.query Args.rot
  by_cases h : d.val < 32
  · refine (dif_pos h).trans (Eq.trans ?_ (dif_pos h).symm)
    exact congrArg₂ (· - ·) (congrArg₂ (· * ·) (h_eq V0 _ _ _ _ (by show n.val * 128 + r.val = 128 * n.val + r.val; omega) (by show 1024 + ((v.val * 4 + j.val) * 64 + d.val) = 1024 + (64 * (4 * v.val + j.val) + d.val); omega)) (cos_eq V0 _ _ _ _ (by show n.val * 128 + r.val = 128 * n.val + r.val; omega) rfl))
      (congrArg₂ (· * ·) (h_eq V0 _ _ _ _ (by show n.val * 128 + r.val = 128 * n.val + r.val; omega) (by show 1024 + ((v.val * 4 + j.val) * 64 + (32 + d.val)) = 1024 + (64 * (4 * v.val + j.val) + (32 + d.val)); omega)) (sin_eq V0 _ _ _ _ (by show n.val * 128 + r.val = 128 * n.val + r.val; omega) rfl))
  · refine (dif_neg h).trans (Eq.trans ?_ (dif_neg h).symm)
    exact congrArg₂ (· + ·) (congrArg₂ (· * ·) (h_eq V0 _ _ _ _ (by show n.val * 128 + r.val = 128 * n.val + r.val; omega) (by show 1024 + ((v.val * 4 + j.val) * 64 + (32 + (d.val - 32))) = 1024 + (64 * (4 * v.val + j.val) + d.val); omega)) (cos_eq V0 _ _ _ _ (by show n.val * 128 + r.val = 128 * n.val + r.val; omega) rfl))
      (congrArg₂ (· * ·) (h_eq V0 _ _ _ _ (by show n.val * 128 + r.val = 128 * n.val + r.val; omega) (by show 1024 + ((v.val * 4 + j.val) * 64 + (d.val - 32)) = 1024 + (64 * (4 * v.val + j.val) + (d.val - 32)); omega)) (sin_eq V0 _ _ _ _ (by show n.val * 128 + r.val = 128 * n.val + r.val; omega) rfl))

/-- The queries' products with the keys. -/
theorem products (A : FVec Ideal S1x32x256x2x64 .f32) (B : FVec Ideal S1x32x128x2x4x64 .f32) (n : Fin 32) (v : Fin 2) (j : Fin 4) (r : Fin 128) (x : Fin 256) :
    (transpose S1x32x2x4x128x256 [0, 1, 2, 5, 4, 3] (Host.dotGeneral dot_S1x32x256x2x64_S1x32x128x2x4x64_S1x32x2x256x128x4_4_5_2_24_013_013 none A B) transposes_S1x32x2x256x128x4_S1x32x2x4x128x256_0_1_2_5_4_3 : FVec Ideal S1x32x2x4x128x256 .f32) (ix6 0 n v j r x)
      = ∑ d : Fin 64, A (ix5 0 n x v d) * B (ix6 0 n r v j d) := by
  pointwise

/-- The band's mask. -/
theorem masked (P : FVec Ideal S1x32x2x4x128x256 .f32) (n : Fin 32) (v : Fin 2) (j : Fin 4) (r : Fin 128) (x : Fin 256) :
    ((select (broadcastInDim S1x32x2x4x128x256 ![0, 1, 2, 3, 4, 5] bcast_S1x32x1x1x128x256_S1x32x2x4x128x256_0_1_2_3_4_5 (broadcastInDim S1x32x1x1x128x256 ![1, 4, 5] bcast_S32x128x256_S1x32x1x1x128x256_1_4_5 (andi (broadcastInDim S32x128x256 ![0, 1, 2] bcast_S1x128x256_S32x128x256_0_1_2 (broadcastInDim S1x128x256 ![1, 2] bcast_S128x256_S1x128x256_1_2 (andi (cmpi .sge (res_main_v169 V0) (broadcastInDim S128x256 ![] bcast_S_S128x256 (constantI S_ 32 0#32))) (cmpi .slt (res_main_v169 V0) (broadcastInDim S128x256 ![] bcast_S_S128x256 (constantI S_ 32 128#32)))))) (broadcastInDim S32x128x256 ![0, 1, 2] bcast_S32x1x256_S32x128x256_0_1_2 (cmpi .sge (subi (addi (broadcastInDim S32x1x256 ![0, 1, 2] bcast_S32x1x1_S32x1x256_0_1_2 (muli (broadcastInDim S32x1x1 ![0] bcast_S32_S32x1x1_0 (iotaInDim S32 32 0)) (broadcastInDim S32x1x1 ![] bcast_S_S32x1x1 (constantI S_ 32 128#32)))) (broadcastInDim S32x1x256 ![0, 1, 2] bcast_S1x1x256_S32x1x256_0_1_2 (broadcastInDim S1x1x256 ![1, 2] bcast_S1x256_S1x1x256_1_2 (res_main_v164 V0)))) (broadcastInDim S32x1x256 ![] bcast_S_S32x1x256 (constantI S_ 32 128#32))) (broadcastInDim S32x1x256 ![] bcast_S_S32x1x256 (constantI S_ 32 0#32))))))) P (broadcastInDim S1x32x2x4x128x256 ![] bcast_S_S1x32x2x4x128x256 (id (constant S_ .f32 0xFF800000#32)))) : FVec Ideal S1x32x2x4x128x256 .f32) (ix6 0 n v j r x)
      = if Args.sees n r x then P (ix6 0 n v j r x) else Ideal.ofBits FTy.f32 0xFF800000#32 := by
  unfold res_main_v169 res_main_v164
  pointwise
  exact mask_word n.val r.val x.val n.isLt r.isLt x.isLt _ _

theorem sinks (n : Fin 32) (v : Fin 2) (j : Fin 4) (r : Fin 128) : ((broadcastInDim S1x32x2x4x128x1 ![0, 1, 2, 3, 4, 5] bcast_S1x1x2x4x1x1_S1x32x2x4x128x1_0_1_2_3_4_5 (broadcastInDim S1x1x2x4x1x1 ![2, 3] bcast_S2x4_S1x1x2x4x1x1_2_3 (shapeCast _ (shapeCast _ (V0 (Proc.devRef .tc main_arg6)) shapeCasts_S1x8_S8) shapeCasts_S8_S2x4))) : FVec Ideal S1x32x2x4x128x1 .f32) (ix6 0 n v j r 0) = (args V0).z (hd v j) := by
  pointwise
  exact congrArg (V0 (Proc.devRef .tc main_arg6) : Vec Ideal S1x8 .f32) (congrArg (ix2 0) (Fin.ext (by show v.val * 4 + j.val = 4 * v.val + j.val; omega)))

theorem joined_lo (P : FVec Ideal S1x32x2x4x128x256 .f32) (Z : FVec Ideal S1x32x2x4x128x1 .f32) (n : Fin 32) (v : Fin 2) (j : Fin 4) (r : Fin 128) (x : Fin 256) :
    (concatenate S1x32x2x4x128x257 5 [⟨S1x32x2x4x128x256, P⟩, ⟨S1x32x2x4x128x1, Z⟩] concatenates_S1x32x2x4x128x256_S1x32x2x4x128x1_S1x32x2x4x128x257_d5 : FVec Ideal S1x32x2x4x128x257 .f32) (ix6 0 n v j r x.castSucc)
      = P (ix6 0 n v j r x) := by
  pointwise
  exact dif_pos x.isLt

theorem joined_hi (P : FVec Ideal S1x32x2x4x128x256 .f32) (Z : FVec Ideal S1x32x2x4x128x1 .f32) (n : Fin 32) (v : Fin 2) (j : Fin 4) (r : Fin 128) (x : Fin 257) (h : ¬x.val < 256) :
    (concatenate S1x32x2x4x128x257 5 [⟨S1x32x2x4x128x256, P⟩, ⟨S1x32x2x4x128x1, Z⟩] concatenates_S1x32x2x4x128x256_S1x32x2x4x128x1_S1x32x2x4x128x257_d5 : FVec Ideal S1x32x2x4x128x257 .f32) (ix6 0 n v j r x)
      = Z (ix6 0 n v j r 0) := by
  pointwise
  exact (dif_neg h).trans (congrArg Z (congrArg (ix6 0 n v j r) (Fin.ext (by show x.val - 256 = 0; omega))))

theorem scaled (P : FVec Ideal S1x32x2x4x128x256 .f32) (i : S1x32x2x4x128x256.Idx) :
    (mulf P (broadcastInDim S1x32x2x4x128x256 ![] bcast_S_S1x32x2x4x128x256 (constant S_ .f32 0x3E000000#32)) : FVec Ideal S1x32x2x4x128x256 .f32) i = P i * Ideal.ofBits FTy.f32 0x3E000000#32 := rfl

theorem scores (n : Fin 32) (v : Fin 2) (j : Fin 4) (r : Fin 128) (x : Fin 256) :
    (res_main_v196 V0 : FVec Ideal S1x32x2x4x128x257 .f32) (ix6 0 n v j r x.castSucc) = (args V0).score (hd v j) n r x := by
  unfold res_main_v196
  refine (joined_lo _ _ n v j r x).trans ((masked V0 _ n v j r x).trans ?_)
  have hg : Args.grp (hd v j) = v := Fin.ext (by show (4 * v.val + j.val) / 4 = v.val; omega)
  refine if_ctx_congr Iff.rfl (fun h => ?_) fun _ => rfl
  refine (scaled _ _).trans (congrArg (· * _) ((products _ _ n v j r x).trans (Finset.sum_congr rfl fun d _ => ?_)))
  refine (mul_comm _ _).trans (congrArg₂ (· * ·) (queries V0 n r v j d) ((beside _ n x v d).trans ((if_pos h.2.2).trans ((keys V0 _ _ v d).trans ?_))))
  rw [at_place, hg]

theorem sink_at (n : Fin 32) (v : Fin 2) (j : Fin 4) (r : Fin 128) :
    (res_main_v196 V0 : FVec Ideal S1x32x2x4x128x257 .f32) (ix6 0 n v j r (Fin.last 256)) = (args V0).z (hd v j) := by
  unfold res_main_v196
  exact (joined_hi _ _ n v j r _ (by decide)).trans (sinks V0 n v j r)

end Cert.FwdRefIdeal.Hand
-- ==== Proof.FwdRefValue.lean ====
module

public import proofs.«01_k».proof.Proof.FwdRefRow

/-!
The reference's two results.
-/

@[expose] public section

set_option maxRecDepth 16384

noncomputable section

namespace Cert.FwdRefIdeal.Hand

open Cert.FwdRefIdeal Cert.FwdRefIdeal.Gen Cert.FwdRefIdeal.Value
open Idealize.ShloMosaic Idealize.ShloMosaic.TcCoe Idealize.SL.Sem
open Cert.FwdMath
open scoped BigOperators

/-- The entries of a row. -/
def rowAt (n : Fin 32) (v : Fin 2) (j : Fin 4) (r : Fin 128) : Fin 257 ↪ S1x32x2x4x128x257.Idx where
  toFun x := ix6 0 n v j r x
  inj' _ _ h := congrFun h 5

theorem drop_row (n : Fin 32) (v : Fin 2) (j : Fin 4) (r : Fin 128) (x : Fin 257) :
    reducesTo_S1x32x2x4x128x257_S1x32x2x4x128_d5.drop (ix6 0 n v j r x) = ix5 0 n v j r := by
  funext l
  match l with
  | ⟨0, _⟩ => rfl
  | ⟨1, _⟩ => rfl
  | ⟨2, _⟩ => rfl
  | ⟨3, _⟩ => rfl
  | ⟨4, _⟩ => rfl

theorem row_of_drop (i : S1x32x2x4x128x257.Idx) (n : Fin 32) (v : Fin 2) (j : Fin 4) (r : Fin 128)
    (e : reducesTo_S1x32x2x4x128x257_S1x32x2x4x128_d5.drop i = ix5 0 n v j r) : ix6 0 n v j r (i 5) = i := by
  funext l
  apply Fin.ext
  match l with
  | ⟨0, _⟩ => exact (Nat.lt_one_iff.mp (i 0).isLt).symm
  | ⟨1, _⟩ => exact (congrArg Fin.val (congrFun e 1)).symm
  | ⟨2, _⟩ => exact (congrArg Fin.val (congrFun e 2)).symm
  | ⟨3, _⟩ => exact (congrArg Fin.val (congrFun e 3)).symm
  | ⟨4, _⟩ => exact (congrArg Fin.val (congrFun e 4)).symm
  | ⟨5, _⟩ => rfl

theorem rows (n : Fin 32) (v : Fin 2) (j : Fin 4) (r : Fin 128) :
    (Finset.univ.filter fun i => reducesTo_S1x32x2x4x128x257_S1x32x2x4x128_d5.drop i = ix5 0 n v j r) = Finset.univ.map (rowAt n v j r) := by
  ext i
  simp only [Finset.mem_filter, Finset.mem_univ, true_and, Finset.mem_map]
  exact ⟨fun e => ⟨i 5, row_of_drop i n v j r e⟩, fun ⟨x, hx⟩ => hx ▸ drop_row n v j r x⟩

/-- A row's largest entry. -/
theorem largest (S : FVec Ideal S1x32x2x4x128x257 .f32) (n : Fin 32) (v : Fin 2) (j : Fin 4) (r : Fin 128) :
    (Host.reduce FloatOps.maximumf S (constant S_ .f32 0xFF800000#32) reducesTo_S1x32x2x4x128x257_S1x32x2x4x128_d5 h_S_ : FVec Ideal S1x32x2x4x128 .f32) (ix5 0 n v j r)
      = top (fun x => S (ix6 0 n v j r x.castSucc)) (S (ix6 0 n v j r (Fin.last 256))) := by
  pointwise
  rw [rows, Finset.fold_map, Fin.univ_castSuccEmb, Finset.fold_cons, Finset.fold_map]
  exact max_comm _ _

/-- The sum of a row. -/
theorem totals (S : FVec Ideal S1x32x2x4x128x257 .f32) (n : Fin 32) (v : Fin 2) (j : Fin 4) (r : Fin 128) :
    (Host.reduceAdd S (constant S_ .f32 0x00000000#32) reducesTo_S1x32x2x4x128x257_S1x32x2x4x128_d5 h_S_ : FVec Ideal S1x32x2x4x128 .f32) (ix5 0 n v j r)
      = (∑ x : Fin 256, S (ix6 0 n v j r x.castSucc)) + S (ix6 0 n v j r (Fin.last 256)) := by
  pointwise
  rw [Ideal.hostReduceAdd, zero_add, rows, Finset.sum_map, Fin.sum_univ_castSucc]
  rfl

theorem over_hidden (y : EReal) : max (Ideal.ofBits FTy.f32 0xFF800000#32) y = y := by rw [hidden_eq, max_eq_right bot_le]

/-- The exponentials of a row. -/
theorem powers (T : FVec Ideal S1x32x2x4x128 .f32) (S : FVec Ideal S1x32x2x4x128x257 .f32) (n : Fin 32) (v : Fin 2) (j : Fin 4) (r : Fin 128) (x : Fin 257) :
    (Host.exp (subf S (broadcastInDim S1x32x2x4x128x257 ![0, 1, 2, 3, 4, 5] bcast_S1x32x2x4x128x1_S1x32x2x4x128x257_0_1_2_3_4_5 (broadcastInDim S1x32x2x4x128x1 ![0, 1, 2, 3, 4] bcast_S1x32x2x4x128_S1x32x2x4x128x1_0_1_2_3_4 (maximumf (broadcastInDim S1x32x2x4x128 ![] bcast_S_S1x32x2x4x128 (constant S_ .f32 0xFF800000#32)) T)))) : FVec Ideal S1x32x2x4x128x257 .f32) (ix6 0 n v j r x)
      = Ideal.exp (S (ix6 0 n v j r x) - T (ix5 0 n v j r)) := by
  pointwise
  exact congrArg (fun y => Ideal.exp (S (ix6 0 n v j r x) - y)) (over_hidden _)

/-- … and their log-sum. -/
theorem log_sums (S : FVec Ideal S1x32x2x4x128x257 .f32) (n : Fin 32) (v : Fin 2) (j : Fin 4) (r : Fin 128) (T : FVec Ideal S1x32x2x4x128 .f32)
    (h : T (ix5 0 n v j r) = top (fun x => S (ix6 0 n v j r x.castSucc)) (S (ix6 0 n v j r (Fin.last 256)))) :
    ((addf T (Host.log (Host.reduceAdd (Host.exp (subf S (broadcastInDim S1x32x2x4x128x257 ![0, 1, 2, 3, 4, 5] bcast_S1x32x2x4x128x1_S1x32x2x4x128x257_0_1_2_3_4_5 (broadcastInDim S1x32x2x4x128x1 ![0, 1, 2, 3, 4] bcast_S1x32x2x4x128_S1x32x2x4x128x1_0_1_2_3_4 T)))) (constant S_ .f32 0x00000000#32) reducesTo_S1x32x2x4x128x257_S1x32x2x4x128_d5 h_S_))) : FVec Ideal S1x32x2x4x128 .f32) (ix5 0 n v j r)
      = lse (fun x => S (ix6 0 n v j r x.castSucc)) (S (ix6 0 n v j r (Fin.last 256))) := by
  unfold lse den
  rw [← h]
  refine congrArg₂ (· + ·) rfl (congrArg Ideal.log ((totals _ n v j r).trans ?_))
  refine congrArg₂ (· + ·) (Finset.sum_congr rfl fun x _ => ?_) ?_
  · pointwise
  · pointwise

/-- The softmax of a row. -/
theorem softmax (E : FVec Ideal S1x32x2x4x128x257 .f32) (n : Fin 32) (v : Fin 2) (j : Fin 4) (r : Fin 128) (x : Fin 256) :
    ((extractStridedSlice S1x32x2x4x128x256 ![0, 0, 0, 0, 0, 0] (Host.divf E (broadcastInDim S1x32x2x4x128x257 ![0, 1, 2, 3, 4, 5] bcast_S1x32x2x4x128x1_S1x32x2x4x128x257_0_1_2_3_4_5 (broadcastInDim S1x32x2x4x128x1 ![0, 1, 2, 3, 4] bcast_S1x32x2x4x128_S1x32x2x4x128x1_0_1_2_3_4 (Host.reduceAdd E (constant S_ .f32 0x00000000#32) reducesTo_S1x32x2x4x128x257_S1x32x2x4x128_d5 h_S_)))) slices_S1x32x2x4x128x257_S1x32x2x4x128x256_0_0_0_0_0_0) : FVec Ideal S1x32x2x4x128x256 .f32) (ix6 0 n v j r x)
      = Ideal.div (E (ix6 0 n v j r x.castSucc)) ((∑ x : Fin 256, E (ix6 0 n v j r x.castSucc)) + E (ix6 0 n v j r (Fin.last 256))) := by
  have h := totals E n v j r
  generalize (Host.reduceAdd E (constant S_ .f32 0x00000000#32) reducesTo_S1x32x2x4x128x257_S1x32x2x4x128_d5 h_S_ : FVec Ideal S1x32x2x4x128 .f32) = T at h ⊢
  rw [← h]
  pointwise
  rfl

theorem congr_ix5 (B : FVec Ideal S1x32x256x2x64 .f32) {n n' : Fin 32} {x : Fin 256} {v v' : Fin 2} {d d' : Fin 64} (h1 : n = n') (h2 : v = v') (h3 : d = d') :
    B (ix5 0 n x v d) = B (ix5 0 n' x v' d') := by rw [h1, h2, h3]
theorem congr_ix6 (W : FVec Ideal S1x32x2x4x128x256 .f32) {n n' : Fin 32} {x : Fin 256} {v v' : Fin 2} {j j' : Fin 4} {r r' : Fin 128} (h1 : n = n') (h2 : v = v')
    (h3 : j = j') (h4 : r = r') : W (ix6 0 n v j r x) = W (ix6 0 n' v' j' r' x) := by rw [h1, h2, h3, h4]
theorem congr_ix3 (M : FVec Ideal S8x128x128 .f32) {a a' : Fin 8} {r r' s : Fin 128} (h1 : a = a') (h2 : r = r') : M (ix3 a r s) = M (ix3 a' r' s) := by rw [h1, h2]
theorem congr_ix3' (M : FVec Ideal S1x8x128 .f32) {a a' : Fin 8} {r r' : Fin 128} (h1 : a = a') (h2 : r = r') : M (ix3 0 a r) = M (ix3 0 a' r') := by rw [h1, h2]

/-- The weighted values. -/
theorem weighted (B : FVec Ideal S1x32x256x2x64 .f32) (W : FVec Ideal S1x32x2x4x128x256 .f32) (n : Fin 32) (v : Fin 2) (j : Fin 4) (r : Fin 128) (d : Fin 64) :
    ((shapeCast _ (transpose S1x32x128x2x4x64 [0, 1, 5, 2, 4, 3] (Host.dotGeneral dot_S1x32x256x2x64_S1x32x2x4x128x256_S1x32x2x64x4x128_2_5_4_34_013_012 none B W) transposes_S1x32x2x64x4x128_S1x32x128x2x4x64_0_1_5_2_4_3) shapeCasts_S1x32x128x2x4x64_S1x4096x512) : FVec Ideal S1x4096x512 .f32) (ix3 0 (at_ n r) (chan (hd v j) d)) = ∑ x : Fin 256, B (ix5 0 n x v d) * W (ix6 0 n v j r x) := by
  pointwise
  have e1 : (at_ n r).val / 128 = n.val := by show (128 * n.val + r.val) / 128 = n.val; omega
  have e2 : (at_ n r).val % 128 = r.val := by show (128 * n.val + r.val) % 128 = r.val; omega
  have e3 : (chan (hd v j) d).val / 256 = v.val := by show (64 * (4 * v.val + j.val) + d.val) / 256 = v.val; omega
  have e4 : (chan (hd v j) d).val % 64 = d.val := by show (64 * (4 * v.val + j.val) + d.val) % 64 = d.val; omega
  have e5 : (chan (hd v j) d).val / 64 % 4 = j.val := by show (64 * (4 * v.val + j.val) + d.val) / 64 % 4 = j.val; omega
  exact Finset.sum_congr rfl fun x _ => congrArg₂ (· * ·) (congr_ix5 B (Fin.ext e1) (Fin.ext e3) (Fin.ext e4)) (congr_ix6 W (Fin.ext e1) (Fin.ext e3) (Fin.ext e5) (Fin.ext e2))

/-- The gated unit. -/
theorem gated (V0 : Valuation τ sig (Elt Ideal)) (U N : FVec Ideal S1x4096x512 .f32) (M : FVec Ideal S8x128x128 .f32) (a : Fin 8) (n : Fin 32) (r : Fin 128) (d : Fin 64) :
    ((shapeCast _ (mulf (shapeCast _ U shapeCasts_S1x4096x512_S1x32x128x8x64) (addf (transpose S1x32x128x8x64 [1, 2, 4, 0, 3] (Host.dotGeneral dot_S1x32x128x8x64_S8x128x128_S8x1x32x64x128_2_2_014_1_3_0 none (shapeCast _ N shapeCasts_S1x4096x512_S1x32x128x8x64) M) transposes_S8x1x32x64x128_S1x32x128x8x64_1_2_4_0_3) (broadcastInDim S1x32x128x8x64 ![0, 1, 2, 3, 4] bcast_S1x1x128x8x1_S1x32x128x8x64_0_1_2_3_4 (broadcastInDim S1x1x128x8x1 ![2, 3] bcast_S128x8_S1x1x128x8x1_2_3 (transpose S128x8 [1, 0] (shapeCast _ (V0 (Proc.devRef .tc main_arg5)) shapeCasts_S1x8x128_S8x128) transposes_S8x128_S128x8_1_0))))) shapeCasts_S1x32x128x8x64_S1x4096x512) : FVec Ideal S1x4096x512 .f32) (ix3 0 (at_ n r) (chan a d))
      = U (ix3 0 (at_ n r) (chan a d)) * ((∑ s : Fin 128, N (ix3 0 (at_ n s) (chan a d)) * M (ix3 a r s)) + (args V0).bs a r) := by
  pointwise
  have e1 : (at_ n r).val / 128 = n.val := by show (128 * n.val + r.val) / 128 = n.val; omega
  have e2 : (at_ n r).val % 128 = r.val := by show (128 * n.val + r.val) % 128 = r.val; omega
  have e3 : (chan a d).val / 64 = a.val := by show (64 * a.val + d.val) / 64 = a.val; omega
  refine congrArg₂ (· * ·) rfl (congrArg₂ (· + ·) (Finset.sum_congr rfl fun s _ => congrArg₂ (· * ·) (congrArg N (congrArg (fun i => ix3 0 i (chan a d)) (Fin.ext ?_)))
    (congr_ix3 M (Fin.ext e3) (Fin.ext e2))) (congr_ix3' _ (Fin.ext e3) (Fin.ext e2)))
  show (at_ n r).val / 128 * 128 + s.val = 128 * n.val + s.val
  omega

theorem beside_cols (L R : FVec Ideal S1x4096x512 .f32) (y : Fin 1024) (i : Fin 4096) :
    (truncf .bf16 (transpose S1024x4096 [1, 0] (shapeCast _ (concatenate S1x4096x1024 2 [⟨S1x4096x512, L⟩, ⟨S1x4096x512, R⟩] concatenates_S1x4096x512_S1x4096x512_S1x4096x1024_d2) shapeCasts_S1x4096x1024_S4096x1024 : FVec Ideal S4096x1024 .f32) transposes_S4096x1024_S1024x4096_1_0) bitsLt_bf16_f32 : FVec Ideal S1024x4096 .bf16) (ix2 y i)
      = if h : y.val < 512 then L (ix3 0 i ⟨y.val, h⟩) else R (ix3 0 i ⟨y.val - 512, by omega⟩) := by
  pointwise

theorem sums_shape (X : FVec Ideal S1x32x2x4x128 .f32) (y : Fin 128) (l : Fin 512) :
    (shapeCast _ (concatenate S16x8x512 1 [⟨S16x4x512, (shapeCast _ X shapeCasts_S1x32x2x4x128_S16x4x512)⟩, ⟨S16x4x512, (broadcastInDim S16x4x512 ![] bcast_S_S16x4x512 (constant S_ .f32 0x00000000#32))⟩] concatenates_S16x4x512_S16x4x512_S16x8x512_d1) shapeCasts_S16x8x512_S128x512 : FVec Ideal S128x512 .f32) (ix2 y l)
      = if h : y.val % 8 < 4 then X (ix5 0 (⟨2 * (y.val / 8) + y.val % 8 / 2, by omega⟩ : Fin 32) (⟨y.val % 8 % 2, by omega⟩ : Fin 2) (⟨l.val / 128, by omega⟩ : Fin 4) (⟨l.val % 128, by omega⟩ : Fin 128)) else 0 := by
  pointwise
  by_cases h : y.val % 8 < 4
  · refine (dif_pos h).trans (Eq.trans ?_ (dif_pos h).symm)
    exact congrArg X (congrArg (fun n => ix5 0 n _ _ _) (Fin.ext (by show y.val / 8 * 2 + y.val % 8 / 2 = 2 * (y.val / 8) + y.val % 8 / 2; omega)))
  · exact (dif_neg h).trans (Eq.symm (a := dite _ _ _) (b := (0 : EReal)) (dif_neg h))

end Cert.FwdRefIdeal.Hand
-- ==== Proof.FwdRefResult.lean ====
module

public import proofs.«01_k».proof.Proof.FwdRefValue

/-!
The reference's two results are the forward pass's, where no row's sum of
exponentials is zero.
-/

@[expose] public section

set_option maxRecDepth 16384

noncomputable section

namespace Cert.FwdRefIdeal.Hand

open Cert.FwdRefIdeal Cert.FwdRefIdeal.Gen Cert.FwdRefIdeal.Value
open Idealize.ShloMosaic Idealize.ShloMosaic.TcCoe Idealize.SL.Sem Idealize.ShloMosaic.StableHlo
open Cert.FwdMath
open Cert.MixMath (gelu norm)
open scoped BigOperators

variable (V0 : Valuation τ sig (Elt Ideal))

/-- The gate. -/
theorem gate_at (i : Fin 4096) (d : Fin 512) : ((mulf (res_main_v0 V0) (mulf (broadcastInDim S1x4096x512 ![] bcast_S_S1x4096x512 (constant S_ .f32 0x3F000000#32)) (addf (broadcastInDim S1x4096x512 ![] bcast_S_S1x4096x512 (constant S_ .f32 0x3F800000#32)) (Host.tanh (mulf (broadcastInDim S1x4096x512 ![] bcast_S_S1x4096x512 (constant S_ .f32 0x3F4C422A#32)) (addf (res_main_v0 V0) (mulf (broadcastInDim S1x4096x512 ![] bcast_S_S1x4096x512 (constant S_ .f32 0x3D372713#32)) (mulf (mulf (res_main_v0 V0) (res_main_v0 V0)) (res_main_v0 V0))))))))) : FVec Ideal S1x4096x512 .f32) (ix3 0 i d) = gelu ((args V0).h i ⟨d.val, by omega⟩) := by
  unfold res_main_v0
  pointwise
  rfl

theorem values_at (i : Fin 4096) (d : Fin 512) : (res_main_v34 V0 : FVec Ideal S1x4096x512 .f32) (ix3 0 i d) = gelu ((args V0).h i ⟨512 + d.val, by omega⟩) := by
  unfold res_main_v34 res_main_v1
  pointwise
  rfl

/-- The normalised values, scaled and shifted. -/
theorem normed_at (i : Fin 4096) (d : Fin 512) : ((addf (mulf (mulf (subf (res_main_v34 V0) (broadcastInDim S1x4096x512 ![0, 1, 2] bcast_S1x4096x1_S1x4096x512_0_1_2 (res_main_v38 V0))) (broadcastInDim S1x4096x512 ![0, 1, 2] bcast_S1x4096x1_S1x4096x512_0_1_2 (Host.rsqrt (addf (Host.divf (broadcastInDim S1x4096x1 ![0, 1] bcast_S1x4096_S1x4096x1_0_1 (Host.reduceAdd (mulf (res_main_v40 V0) (res_main_v40 V0)) (constant S_ .f32 0x00000000#32) reducesTo_S1x4096x512_S1x4096_d2 h_S_)) (broadcastInDim S1x4096x1 ![] bcast_S_S1x4096x1 (constant S_ .f32 0x44000000#32))) (broadcastInDim S1x4096x1 ![] bcast_S_S1x4096x1 (constant S_ .f32 0x3727C5AC#32)))))) (broadcastInDim S1x4096x512 ![0, 1, 2] bcast_S1x1x512_S1x4096x512_0_1_2 (broadcastInDim S1x1x512 ![2] bcast_S512_S1x1x512_2 (shapeCast _ (V0 (Proc.devRef .tc main_arg2)) shapeCasts_S1x512_S512)))) (broadcastInDim S1x4096x512 ![0, 1, 2] bcast_S1x1x512_S1x4096x512_0_1_2 (broadcastInDim S1x1x512 ![2] bcast_S512_S1x1x512_2 (shapeCast _ (V0 (Proc.devRef .tc main_arg3)) shapeCasts_S1x512_S512)))) : FVec Ideal S1x4096x512 .f32) (ix3 0 i d) = (args V0).normed i d := by
  have hv : (fun e => (res_main_v34 V0 : FVec Ideal S1x4096x512 .f32) (ix3 0 i e)) = fun e : Fin 512 => gelu ((args V0).h i ⟨512 + e.val, by omega⟩) :=
    funext fun e => values_at V0 i e
  unfold Args.normed
  rw [← hv]
  unfold res_main_v38 res_main_v40 res_main_v38
  generalize (res_main_v34 V0 : FVec Ideal S1x4096x512 .f32) = x
  pointwise
  rfl

theorem mask_at (x : EReal) (t s : Fin 128) :
    Scalar.select (IntOp.cmpi CmpIPredicate.sge (IntOp.addi (BitVec.ofNat 32 t.val) 0#32) (BitVec.ofNat 32 s.val)) x 0
      = if s ≤ t then x else 0 := by
  have e : IntOp.addi (BitVec.ofNat 32 t.val) 0#32 = BitVec.ofNat 32 t.val := by simp [IntOp.addi]
  rw [e, Idealize.ShloMosaic.WordCmp.cmpi_sge_ofNat (by omega) (by omega), Idealize.ShloMosaic.WordCmp.select_ofBool]
  simp only [decide_eq_true_eq]
  rfl

/-- The masked weights. -/
theorem weights_at (a : Fin 8) (t s : Fin 128) : ((mulf (shapeCast _ (V0 (Proc.devRef .tc main_arg4)) shapeCasts_S1x8x128x128_S8x128x128) (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32)))))) : FVec Ideal S8x128x128 .f32) (ix3 a t s) = if s ≤ t then (args V0).w a t s else 0 := by
  pointwise
  exact mask_at _ t s

theorem exps_at (n : Fin 32) (v : Fin 2) (j : Fin 4) (r : Fin 128) (x : Fin 257) (s : EReal)
    (hs : (res_main_v196 V0 : FVec Ideal S1x32x2x4x128x257 .f32) (ix6 0 n v j r x) = s) :
    (res_main_v203 V0 : FVec Ideal S1x32x2x4x128x257 .f32) (ix6 0 n v j r x) = Ideal.exp (s - top ((args V0).score (hd v j) n r) ((args V0).z (hd v j))) := by
  unfold res_main_v203
  refine (powers _ _ n v j r x).trans ?_
  rw [largest, hs, sink_at, show (fun x : Fin 256 => (res_main_v196 V0 : FVec Ideal S1x32x2x4x128x257 .f32) (ix6 0 n v j r x.castSucc)) = (args V0).score (hd v j) n r from
    funext fun x => scores V0 n v j r x]

theorem total_at (E : FVec Ideal S1x32x2x4x128x257 .f32) (hE : E = res_main_v203 V0) (n : Fin 32) (v : Fin 2) (j : Fin 4) (r : Fin 128) :
    (∑ x : Fin 256, E (ix6 0 n v j r x.castSucc)) + E (ix6 0 n v j r (Fin.last 256))
      = den ((args V0).score (hd v j) n r) ((args V0).z (hd v j)) := by
  subst hE
  exact congrArg₂ (· + ·) (Finset.sum_congr rfl fun x _ => exps_at V0 n v j r _ _ (scores V0 n v j r x)) (exps_at V0 n v j r _ _ (sink_at V0 n v j r))

theorem log_at (n : Fin 32) (v : Fin 2) (j : Fin 4) (r : Fin 128) :
    ((addf (res_main_v211 V0) (Host.log (Host.reduceAdd (Host.exp (subf (res_main_v196 V0) (broadcastInDim S1x32x2x4x128x257 ![0, 1, 2, 3, 4, 5] bcast_S1x32x2x4x128x1_S1x32x2x4x128x257_0_1_2_3_4_5 (broadcastInDim S1x32x2x4x128x1 ![0, 1, 2, 3, 4] bcast_S1x32x2x4x128_S1x32x2x4x128x1_0_1_2_3_4 (res_main_v211 V0))))) (constant S_ .f32 0x00000000#32) reducesTo_S1x32x2x4x128x257_S1x32x2x4x128_d5 h_S_))) : FVec Ideal S1x32x2x4x128 .f32) (ix5 0 n v j r) = (args V0).rowSum (hd v j) n r := by
  refine (log_sums _ n v j r _ (largest _ n v j r)).trans ?_
  rw [sink_at, show (fun x : Fin 256 => (res_main_v196 V0 : FVec Ideal S1x32x2x4x128x257 .f32) (ix6 0 n v j r x.castSucc)) = (args V0).score (hd v j) n r from
    funext fun x => scores V0 n v j r x]
  rfl

/-- Dividing is multiplying by the inverse, unless it is zero that divides. -/
theorem div_eq (x y : EReal) (h : y ≠ 0) : Ideal.div x y = x * Ideal.div 1 y := by
  unfold Ideal.div
  rw [if_neg h, if_neg h, one_mul]

/-- The attention's channels. -/
theorem attn_at (hden : ∀ a n r, den ((args V0).score a n r) ((args V0).z a) ≠ 0) (n : Fin 32) (v : Fin 2) (j : Fin 4) (r : Fin 128) (d : Fin 64) :
    ((shapeCast _ (transpose S1x32x128x2x4x64 [0, 1, 5, 2, 4, 3] (Host.dotGeneral dot_S1x32x256x2x64_S1x32x2x4x128x256_S1x32x2x64x4x128_2_5_4_34_013_012 none (concatenate S1x32x256x2x64 2 [⟨S1x32x128x2x64, (concatenate S1x32x128x2x64 1 [⟨S1x1x128x2x64, (broadcastInDim S1x1x128x2x64 ![] bcast_S_S1x1x128x2x64 (constant S_ .f32 0x00000000#32))⟩, ⟨S1x31x128x2x64, (extractStridedSlice S1x31x128x2x64 ![0, 0, 0, 0, 0] (res_main_v151 V0) slices_S1x32x128x2x64_S1x31x128x2x64_0_0_0_0_0)⟩] concatenates_S1x1x128x2x64_S1x31x128x2x64_S1x32x128x2x64_d1)⟩, ⟨S1x32x128x2x64, (res_main_v151 V0)⟩] concatenates_S1x32x128x2x64_S1x32x128x2x64_S1x32x256x2x64_d2) (extractStridedSlice S1x32x2x4x128x256 ![0, 0, 0, 0, 0, 0] (Host.divf (res_main_v203 V0) (broadcastInDim S1x32x2x4x128x257 ![0, 1, 2, 3, 4, 5] bcast_S1x32x2x4x128x1_S1x32x2x4x128x257_0_1_2_3_4_5 (broadcastInDim S1x32x2x4x128x1 ![0, 1, 2, 3, 4] bcast_S1x32x2x4x128_S1x32x2x4x128x1_0_1_2_3_4 (Host.reduceAdd (res_main_v203 V0) (constant S_ .f32 0x00000000#32) reducesTo_S1x32x2x4x128x257_S1x32x2x4x128_d5 h_S_)))) slices_S1x32x2x4x128x257_S1x32x2x4x128x256_0_0_0_0_0_0)) transposes_S1x32x2x64x4x128_S1x32x128x2x4x64_0_1_5_2_4_3) shapeCasts_S1x32x128x2x4x64_S1x4096x512) : FVec Ideal S1x4096x512 .f32) (ix3 0 (at_ n r) (chan (hd v j) d)) = (args V0).attn (hd v j) n r d := by
  have hg : Args.grp (hd v j) = v := Fin.ext (by show (4 * v.val + j.val) / 4 = v.val; omega)
  refine (weighted _ _ n v j r d).trans ?_
  unfold Args.attn
  rw [hg]
  refine Eq.trans (Finset.sum_congr rfl fun x _ => congrArg₂ (· * ·) (beside _ n x v d) ((softmax _ n v j r x).trans ?_))
    (avg_congr _ _ (fun x => if 128 ≤ x.val ∨ 0 < n.val then (res_main_v151 V0 : FVec Ideal S1x32x128x2x64 .f32) (ix5 0 ⟨(Args.place n x).val / 128, by omega⟩ ⟨(Args.place n x).val % 128, by omega⟩ v d) else 0) _ fun x hx => ?_)
  · rw [total_at V0 _ rfl, div_eq _ _ (hden _ _ _)]
    exact congrArg (· * _) (exps_at V0 n v j r _ _ (scores V0 n v j r x))
  · have hs : Args.sees n r x := by
      by_contra hn
      refine hx ?_
      unfold Args.score
      rw [if_neg hn, hidden_eq]
    refine (if_pos hs.2.2).trans ((values V0 _ _ v d).trans ?_)
    rw [at_place]

/-- The gated unit's channels. -/
theorem gated_at (a : Fin 8) (n : Fin 32) (r : Fin 128) (d : Fin 64) :
    ((shapeCast _ (mulf (shapeCast _ (mulf (res_main_v0 V0) (mulf (broadcastInDim S1x4096x512 ![] bcast_S_S1x4096x512 (constant S_ .f32 0x3F000000#32)) (addf (broadcastInDim S1x4096x512 ![] bcast_S_S1x4096x512 (constant S_ .f32 0x3F800000#32)) (Host.tanh (mulf (broadcastInDim S1x4096x512 ![] bcast_S_S1x4096x512 (constant S_ .f32 0x3F4C422A#32)) (addf (res_main_v0 V0) (mulf (broadcastInDim S1x4096x512 ![] bcast_S_S1x4096x512 (constant S_ .f32 0x3D372713#32)) (mulf (mulf (res_main_v0 V0) (res_main_v0 V0)) (res_main_v0 V0))))))))) shapeCasts_S1x4096x512_S1x32x128x8x64) (addf (transpose S1x32x128x8x64 [1, 2, 4, 0, 3] (Host.dotGeneral dot_S1x32x128x8x64_S8x128x128_S8x1x32x64x128_2_2_014_1_3_0 none (shapeCast _ (addf (mulf (mulf (subf (res_main_v34 V0) (broadcastInDim S1x4096x512 ![0, 1, 2] bcast_S1x4096x1_S1x4096x512_0_1_2 (res_main_v38 V0))) (broadcastInDim S1x4096x512 ![0, 1, 2] bcast_S1x4096x1_S1x4096x512_0_1_2 (Host.rsqrt (addf (Host.divf (broadcastInDim S1x4096x1 ![0, 1] bcast_S1x4096_S1x4096x1_0_1 (Host.reduceAdd (mulf (res_main_v40 V0) (res_main_v40 V0)) (constant S_ .f32 0x00000000#32) reducesTo_S1x4096x512_S1x4096_d2 h_S_)) (broadcastInDim S1x4096x1 ![] bcast_S_S1x4096x1 (constant S_ .f32 0x44000000#32))) (broadcastInDim S1x4096x1 ![] bcast_S_S1x4096x1 (constant S_ .f32 0x3727C5AC#32)))))) (broadcastInDim S1x4096x512 ![0, 1, 2] bcast_S1x1x512_S1x4096x512_0_1_2 (broadcastInDim S1x1x512 ![2] bcast_S512_S1x1x512_2 (shapeCast _ (V0 (Proc.devRef .tc main_arg2)) shapeCasts_S1x512_S512)))) (broadcastInDim S1x4096x512 ![0, 1, 2] bcast_S1x1x512_S1x4096x512_0_1_2 (broadcastInDim S1x1x512 ![2] bcast_S512_S1x1x512_2 (shapeCast _ (V0 (Proc.devRef .tc main_arg3)) shapeCasts_S1x512_S512)))) shapeCasts_S1x4096x512_S1x32x128x8x64) (mulf (shapeCast _ (V0 (Proc.devRef .tc main_arg4)) shapeCasts_S1x8x128x128_S8x128x128) (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32))))))) transposes_S8x1x32x64x128_S1x32x128x8x64_1_2_4_0_3) (broadcastInDim S1x32x128x8x64 ![0, 1, 2, 3, 4] bcast_S1x1x128x8x1_S1x32x128x8x64_0_1_2_3_4 (broadcastInDim S1x1x128x8x1 ![2, 3] bcast_S128x8_S1x1x128x8x1_2_3 (transpose S128x8 [1, 0] (shapeCast _ (V0 (Proc.devRef .tc main_arg5)) shapeCasts_S1x8x128_S8x128) transposes_S8x128_S128x8_1_0))))) shapeCasts_S1x32x128x8x64_S1x4096x512) : FVec Ideal S1x4096x512 .f32) (ix3 0 (at_ n r) (chan a d)) = (args V0).gate a n r d := by
  refine (gated V0 _ _ _ a n r d).trans ?_
  exact congrArg₂ (· * ·) (Cert.FwdRefIdeal.Hand.gate_at V0 _ _) (congrArg₂ (· + ·) (Finset.sum_congr rfl fun s _ =>
    congrArg₂ (· * ·) (normed_at V0 _ _) (weights_at V0 a r s)) rfl)

/-- The reference's channels. -/
theorem value_cat (hden : ∀ a n r, den ((args V0).score a n r) ((args V0).z a) ≠ 0) :
    (truncf .bf16 (transpose S1024x4096 [1, 0] (res_main_v225 V0) transposes_S4096x1024_S1024x4096_1_0) bitsLt_bf16_f32 : FVec Ideal S1024x4096 .bf16)
      = fun j => (args V0).cat (j 0) (j 1) := by
  funext j
  obtain ⟨y, i, rfl⟩ : ∃ (y : Fin 1024) (i : Fin 4096), j = ix2 y i := ⟨j 0, j 1, ValueIdx.eq_ix2 j⟩
  obtain ⟨n, r, rfl⟩ : ∃ (n : Fin 32) (r : Fin 128), i = at_ n r :=
    ⟨⟨i.val / 128, by omega⟩, ⟨i.val % 128, by omega⟩, Fin.ext (by show i.val = 128 * (i.val / 128) + i.val % 128; omega)⟩
  unfold res_main_v225
  refine (beside_cols _ _ y _).trans ?_
  show _ = (args V0).cat y (at_ n r)
  have e1 : (⟨(at_ n r).val / 128, by omega⟩ : Fin 32) = n := Fin.ext (by show (128 * n.val + r.val) / 128 = n.val; omega)
  have e2 : (⟨(at_ n r).val % 128, by omega⟩ : Fin 128) = r := Fin.ext (by show (128 * n.val + r.val) % 128 = r.val; omega)
  unfold Args.cat
  rw [e1, e2]
  by_cases h : y.val < 512
  · refine (dif_pos h).trans (Eq.trans ?_ (dif_pos h).symm)
    have e : (⟨y.val, h⟩ : Fin 512) = chan ⟨y.val / 64, by omega⟩ ⟨y.val % 64, by omega⟩ := Fin.ext (by show y.val = 64 * (y.val / 64) + y.val % 64; omega)
    rw [e]
    exact gated_at V0 _ n r _
  · refine (dif_neg h).trans (Eq.trans ?_ (dif_neg h).symm)
    have e3 : (⟨(y.val - 512) / 64, by omega⟩ : Fin 8) = hd ⟨(y.val - 512) / 256, by omega⟩ ⟨(y.val - 512) / 64 % 4, by omega⟩ :=
      Fin.ext (by show (y.val - 512) / 64 = 4 * ((y.val - 512) / 256) + (y.val - 512) / 64 % 4; omega)
    rw [e3]
    have e : (⟨y.val - 512, by omega⟩ : Fin 512) = chan (hd ⟨(y.val - 512) / 256, by omega⟩ ⟨(y.val - 512) / 64 % 4, by omega⟩) ⟨y.val % 64, by omega⟩ :=
      Fin.ext (by show y.val - 512 = 64 * (4 * ((y.val - 512) / 256) + (y.val - 512) / 64 % 4) + y.val % 64; omega)
    rw [e]
    exact attn_at V0 hden n _ _ r _

/-- The reference's log-sums. -/
theorem value_sums : (shapeCast _ (concatenate S16x8x512 1 [⟨S16x4x512, (shapeCast _ (addf (res_main_v211 V0) (Host.log (Host.reduceAdd (Host.exp (subf (res_main_v196 V0) (broadcastInDim S1x32x2x4x128x257 ![0, 1, 2, 3, 4, 5] bcast_S1x32x2x4x128x1_S1x32x2x4x128x257_0_1_2_3_4_5 (broadcastInDim S1x32x2x4x128x1 ![0, 1, 2, 3, 4] bcast_S1x32x2x4x128_S1x32x2x4x128x1_0_1_2_3_4 (res_main_v211 V0))))) (constant S_ .f32 0x00000000#32) reducesTo_S1x32x2x4x128x257_S1x32x2x4x128_d5 h_S_))) shapeCasts_S1x32x2x4x128_S16x4x512)⟩, ⟨S16x4x512, (broadcastInDim S16x4x512 ![] bcast_S_S16x4x512 (constant S_ .f32 0x00000000#32))⟩] concatenates_S16x4x512_S16x4x512_S16x8x512_d1) shapeCasts_S16x8x512_S128x512 : FVec Ideal S128x512 .f32)
      = fun j => (args V0).sums (j 0) (j 1) := by
  funext j
  obtain ⟨y, l, rfl⟩ : ∃ (y : Fin 128) (l : Fin 512), j = ix2 y l := ⟨j 0, j 1, ValueIdx.eq_ix2 j⟩
  refine (sums_shape _ y l).trans ?_
  show _ = (args V0).sums y l
  unfold Args.sums
  by_cases h : y.val % 8 < 4
  · refine (dif_pos h).trans (Eq.trans ?_ (dif_pos h).symm)
    exact log_at V0 _ _ _ _
  · exact (dif_neg h).trans (Eq.symm (a := dite _ _ _) (b := (0 : EReal)) (dif_neg h))

variable (m : (ℓ : Loc nD τ sig) → Buf (Elt Ideal) ℓ)

theorem args_launch (c : Dev nD) : args (launchContents m c) =
    { h := fun i d => (m ((c.tc : Thread nD τ).loc main_arg0) : Vec Ideal S1x4096x1792 .f32) (ix3 0 i d)
      cos := fun i e => Ideal.cos (angle ((m ((c.tc : Thread nD τ).loc main_arg1) : Vec Ideal S1x4096 .i32) (ix2 0 i)) e)
      sin := fun i e => Ideal.sin (angle ((m ((c.tc : Thread nD τ).loc main_arg1) : Vec Ideal S1x4096 .i32) (ix2 0 i)) e)
      g := fun d => (m ((c.tc : Thread nD τ).loc main_arg2) : Vec Ideal S1x512 .f32) (ix2 0 d)
      b := fun d => (m ((c.tc : Thread nD τ).loc main_arg3) : Vec Ideal S1x512 .f32) (ix2 0 d)
      w := fun a t s => (m ((c.tc : Thread nD τ).loc main_arg4) : Vec Ideal S1x8x128x128 .f32) (ix4 0 a t s)
      bs := fun a t => (m ((c.tc : Thread nD τ).loc main_arg5) : Vec Ideal S1x8x128 .f32) (ix3 0 a t)
      z := fun a => (m ((c.tc : Thread nD τ).loc main_arg6) : Vec Ideal S1x8 .f32) (ix2 0 a) } := rfl

/-- What every run of the reference leaves in its results. -/
theorem results (ρ : Dev nD → PrngReg)
    (hden : ∀ c a n r, den ((args (launchContents m c)).score a n r) ((args (launchContents m c)).z a) ≠ 0) :
    θ_run defs (onTc (τ := τ) (main (F := Ideal))) ⟨m, fun _ => 0, ρ⟩ fun r => ∀ c : Dev nD,
    r.2.mem ((c.tc : Thread nD τ).loc main_v227) = (fun j : S1024x4096.Idx => (args (launchContents m c)).cat (j 0) (j 1))
    ∧ r.2.mem ((c.tc : Thread nD τ).loc main_v223) = (fun j : S128x512.Idx => (args (launchContents m c)).sums (j 0) (j 1)) :=
  (θ_run defs _ _).mono (fun r h c => ⟨(h c).1.trans (value_cat (launchContents m c) (hden c)), (h c).2.1.trans (value_sums (launchContents m c))⟩)
    (Value.run m ρ)

end Cert.FwdRefIdeal.Hand
-- ==== Proof.AttPoint.lean ====
module

public import proofs.«01_k».proof.Proof.Gen.AttIdeal.Skeleton
public import proofs.«01_k».proof.Proof.FwdAttn
public import proofs.«01_k».proof.Proof.FwdPoint

/-!
The sinks' part of a grid point: what each group of four heads in each of the
point's two blocks takes off the gradient.
-/

@[expose] public section

set_option maxRecDepth 16384

noncomputable section

namespace Cert.AttIdeal.Hand

open Cert.AttIdeal Cert.AttIdeal.Gen
open Idealize.ShloMosaic
open Cert.FwdIdeal.Hand (lane_cases sc sc_lane half_0 half_1 far)
open Cert.FwdMath
open scoped BigOperators

/-- A group's sink weights times the sums of its weights against the values' cotangents `P`. -/
def comb (z l : FVec Ideal S1x512 .f32) (S P : FVec Ideal S256x512 .f32) : FVec Ideal S1x512 .f32 :=
  mulf (exp (subf z l)) (shapeCast S1x512 (multiReduction .add [0] S512
    (mulf (exp (subf S (broadcastTo S256x512 l broadcasts_S1x512_S256x512))) P) 0x00000000#32 reduces_S256x512_S512 (.inl rfl) rfl) shapeCasts_S512_S1x512)

theorem comb_at (z l : FVec Ideal S1x512 .f32) (S P : FVec Ideal S256x512 .f32) (m : Fin 512) :
    comb z l S P (ix2 0 m) = Ideal.exp (z (ix2 0 m) - l (ix2 0 m)) * ∑ x : Fin 256, Ideal.exp (S (ix2 x m) - l (ix2 0 m)) * P (ix2 x m) := by
  pointwise [comb]

section

variable (w : FVec Ideal S256x128 .f32) (w' : FVec Ideal S256x128 .bf16) (o0 o1 o2 o3 : Vec Ideal S64x128 .f32)

/-- The values' cotangents of a group: values against the output's. -/
def vd (v : Fin 2) (w : FVec Ideal S256x128 .bf16) (o : Fin 4 → Vec Ideal S64x128 .f32) (x : Fin 256) (j : Fin 4) (r : Fin 128) : EReal :=
  ∑ d : Fin 64, w (ix2 x (kchan v d)) * o j (ix2 d r)

theorem vd_00 (x : Fin 256) (j : Fin 4) (r : Fin 128) :
    k0_pay208 w o0 o1 o2 o3 (ix2 x (lane j r)) = vd 0 w ![o0, o1, o2, o3] x j r := by
  have e := half_0 (fun c => w (ix2 x c)) (fun c => if h : c.val < 64 then ![o0, o1, o2, o3] j (ix2 ⟨c.val, h⟩ r) else 0)
    (fun d => dif_neg (by show ¬64 * 1 + d.val < 64; omega))
  have e' : ∀ d : Fin 64, (if h : (kchan 0 d).val < 64 then ![o0, o1, o2, o3] j (ix2 ⟨(kchan 0 d).val, h⟩ r) else 0) = ![o0, o1, o2, o3] j (ix2 d r) := fun d => by
    have h : (kchan 0 d).val = d.val := by show 64 * 0 + d.val = d.val; omega
    simp only [h, d.isLt, dite_true]
  simp only [e'] at e
  refine Eq.trans ?_ e
  fin_cases j <;> (pointwise [k0_pay208, k0_pay205, k0_pay202, lane]; try simp [far r])

theorem vd_10 (x : Fin 256) (j : Fin 4) (r : Fin 128) :
    k0_pay228 w' (k0_pay224 o0) o1 o2 o3 (ix2 x (lane j r)) = vd 1 w' ![o0, o1, o2, o3] x j r := by
  have e := half_1 (fun c => w' (ix2 x c)) (fun c => if h : 64 ≤ c.val then ![o0, o1, o2, o3] j (ix2 ⟨c.val - 64, by omega⟩ r) else 0)
    (fun d => dif_neg (by show ¬64 ≤ 64 * 0 + d.val; omega))
  have e' : ∀ d : Fin 64, (if h : 64 ≤ (kchan 1 d).val then ![o0, o1, o2, o3] j (ix2 ⟨(kchan 1 d).val - 64, by omega⟩ r) else 0) = ![o0, o1, o2, o3] j (ix2 d r) := fun d => by
    have h : (kchan 1 d).val = 64 + d.val := by show 64 * 1 + d.val = 64 + d.val; omega
    simp only [h, Nat.le_add_right, dite_true, Nat.add_sub_cancel_left]
  simp only [e'] at e
  refine Eq.trans ?_ e
  fin_cases j <;> (pointwise [k0_pay228, k0_pay225, k0_pay224, lane]; try simp [far r])

theorem vd_01 (a b : FVec Ideal S256x128 .f32) (x : Fin 256) (j : Fin 4) (r : Fin 128) :
    k0_pay264 a b o0 o1 o2 o3 (ix2 x (lane j r)) = vd 0 (k0_pay257 a b) ![o0, o1, o2, o3] x j r :=
  vd_00 (k0_pay257 a b) o0 o1 o2 o3 x j r

theorem vd_11 (x : Fin 256) (j : Fin 4) (r : Fin 128) :
    k0_pay286 w' o0 o1 o2 o3 (ix2 x (lane j r)) = vd 1 w' ![o0, o1, o2, o3] x j r :=
  vd_10 w' o0 o1 o2 o3 x j r

/-- What a group takes off the gradient: sinks `z`, log-sums `l`, scores `S`, values `w`, cotangents `o`. -/
def dsk (v : Fin 2) (z l : FVec Ideal S1x512 .f32) (S : FVec Ideal S256x512 .f32) (w : FVec Ideal S256x128 .bf16) (o : Fin 4 → Vec Ideal S64x128 .f32)
    (j : Fin 4) (r : Fin 128) : EReal :=
  Ideal.exp (z (ix2 0 (lane j r)) - l (ix2 0 (lane j r))) *
    ∑ x : Fin 256, Ideal.exp (S (ix2 x (lane j r)) - l (ix2 0 (lane j r))) * vd v w o x j r

theorem comb_dsk (v : Fin 2) (z l : FVec Ideal S1x512 .f32) (S P : FVec Ideal S256x512 .f32) (w : FVec Ideal S256x128 .bf16) (o : Fin 4 → Vec Ideal S64x128 .f32)
    (j : Fin 4) (r : Fin 128) (h : ∀ x, P (ix2 x (lane j r)) = vd v w o x j r) : comb z l S P (ix2 0 (lane j r)) = dsk v z l S w o j r := by
  rw [comb_at]
  simp only [h]
  rfl

variable (q : FVec Ideal S512x256 .bf16) (z l : FVec Ideal S1x512 .f32) (b : FVec Ideal S256x128 .f32) (k : FVec Ideal S256x128 .bf16) (j : Fin 4) (r : Fin 128)

theorem cast_l : k0_pay206 (F := Ideal) l = l := by
  funext i
  obtain ⟨m, rfl⟩ : ∃ m, i = ix2 0 m := ⟨i 1, by rw [show (0 : Fin 1) = i 0 from (Fin.eq_zero (i 0)).symm]; exact ValueIdx.eq_ix2 i⟩
  pointwise [k0_pay206]

theorem dsk_00 : k0_pay211 q z b k w o0 o1 o2 o3 l (ix2 0 (lane j r)) = dsk 0 z l (sc 0 0 q k (k0_pay203 b)) w ![o0, o1, o2, o3] j r := by
  have e : k0_pay211 q z b k w o0 o1 o2 o3 l = comb z (k0_pay206 l) (Cert.FwdIdeal.Gen.k0_pay69 k (k0_pay203 b) (Cert.FwdIdeal.Gen.k0_pay68 q)
    (constant S256x512 .f32 0x00000000#32)) (k0_pay208 w o0 o1 o2 o3) := rfl
  rw [e, cast_l, Cert.FwdIdeal.Hand.score_00]
  exact comb_dsk 0 z l _ _ w _ j r fun x => vd_00 w o0 o1 o2 o3 x j r

theorem dsk_10 (Z : FVec Ideal S256x512 .f32) : k0_pay231 z k w' Z (k0_pay223 q) (k0_pay224 o0) o1 o2 o3 l (ix2 0 (lane j r)) = dsk 1 z l (sc 1 0 q k Z) w' ![o0, o1, o2, o3] j r := by
  have e : k0_pay231 z k w' Z (k0_pay223 q) (k0_pay224 o0) o1 o2 o3 l = comb z (k0_pay206 l) (Cert.FwdIdeal.Gen.k0_pay80 k Z (Cert.FwdIdeal.Gen.k0_pay79 q)
    (constant S256x512 .f32 0x00000000#32)) (k0_pay228 w' (k0_pay224 o0) o1 o2 o3) := rfl
  rw [e, cast_l, Cert.FwdIdeal.Hand.score_10]
  exact comb_dsk 1 z l _ _ w' _ j r fun x => vd_10 w' o0 o1 o2 o3 x j r

theorem dsk_01 (kc : FVec Ideal S256x256 .f32) (c s : FVec Ideal S64x256 .f32) (x y : FVec Ideal S256x128 .f32) :
    k0_pay268 (k0_pay263 z l) (k0_pay265 q x b y (k0_pay253 kc c s) (k0_pay254 kc c s) o0 o1 o2 o3 l) (ix2 0 (lane j r))
      = dsk 0 z l (sc 0 1 q (k0_pay256 (k0_pay253 kc c s) (k0_pay254 kc c s)) (k0_pay258 b)) (k0_pay257 x y) ![o0, o1, o2, o3] j r := by
  generalize k0_pay253 kc c s = k1
  generalize k0_pay254 kc c s = k2
  have e : k0_pay268 (k0_pay263 z l) (k0_pay265 q x b y k1 k2 o0 o1 o2 o3 l) = comb z (k0_pay206 l)
    (addf (matmul dot_S256x128_S128x512_S256x512_1_0_0_1_n_n none (k0_pay256 k1 k2) (concatenate S128x512 0 [⟨S64x512, k0_pay259 q⟩,
      ⟨S64x512, broadcast S64x512 (Scalar.ofBits .bf16 0x0000#16)⟩] concatenates_S64x512_S64x512_S128x512_d0) (constant S256x512 .f32 0x00000000#32)) (k0_pay258 b))
    (k0_pay264 x y o0 o1 o2 o3) := rfl
  rw [e, cast_l]
  generalize k0_pay256 k1 k2 = k
  generalize k0_pay258 b = Z
  have e2 : addf (matmul dot_S256x128_S128x512_S256x512_1_0_0_1_n_n none k (concatenate S128x512 0 [⟨S64x512, k0_pay259 q⟩,
      ⟨S64x512, broadcast S64x512 (Scalar.ofBits .bf16 0x0000#16)⟩] concatenates_S64x512_S64x512_S128x512_d0) (constant S256x512 .f32 0x00000000#32)) Z = sc 0 1 q k Z := by
    funext i
    obtain ⟨x, l, rfl⟩ : ∃ x l, i = ix2 x l := ⟨i 0, i 1, ValueIdx.eq_ix2 i⟩
    obtain ⟨j, r, rfl⟩ := lane_cases l
    rw [sc_lane]
    have e := half_0 (fun c => k (ix2 x c)) (fun c => if h : c.val < 64 then q (ix2 (chan (hd 0 j) ⟨c.val, h⟩) (tok 1 r)) else 0)
      (fun d => dif_neg (by show ¬64 * 1 + d.val < 64; omega))
    have e' : ∀ d : Fin 64, (if h : (kchan 0 d).val < 64 then q (ix2 (chan (hd 0 j) ⟨(kchan 0 d).val, h⟩) (tok 1 r)) else 0) = q (ix2 (chan (hd 0 j) d) (tok 1 r)) := fun d => by
      have h : (kchan 0 d).val = d.val := by show 64 * 0 + d.val = d.val; omega
      simp only [h, d.isLt, dite_true]
    simp only [e'] at e
    rw [← e]
    fin_cases j <;> (pointwise [k0_pay259, lane, chan, hd, tok]; try simp [far r])
  rw [e2]
  exact comb_dsk 0 z l _ _ (k0_pay257 x y) _ j r fun x' => vd_01 o0 o1 o2 o3 x y x' j r

theorem dsk_11 (Z : FVec Ideal S256x512 .f32) : k0_pay289 q z k w' Z (k0_pay280 q) (k0_pay281 q) o0 o1 o2 o3 l (ix2 0 (lane j r)) = dsk 1 z l (sc 1 1 q k Z) w' ![o0, o1, o2, o3] j r := by
  have e : k0_pay289 q z k w' Z (k0_pay280 q) (k0_pay281 q) o0 o1 o2 o3 l = comb z (k0_pay206 l) (Cert.FwdIdeal.Gen.k0_pay109 q k Z) (k0_pay286 w' o0 o1 o2 o3) := rfl
  rw [e, cast_l, Cert.FwdIdeal.Hand.score_11]
  exact comb_dsk 1 z l _ _ w' _ j r fun x => vd_11 w' o0 o1 o2 o3 x j r

end

end Cert.AttIdeal.Hand
-- ==== Proof.AttRead.lean ====
module

public import proofs.«01_k».proof.Proof.Gen.AttIdeal.Skeleton
public import Idealize.ShloMosaic.Lib.ValueIdx
public import Idealize.ShloMosaic.Lib.Pointwise
public import Idealize.ShloMosaic.Lib.VecWindow
public import Idealize.ShloMosaic.Lib.WritesUnit
public import Idealize.ShloMosaic.Lib.WholeRead

/-!
Loads and stores of one head's row of an 8 by 128 buffer, in the attention's
program.
-/

@[expose] public section

set_option maxRecDepth 16384

noncomputable section

namespace Cert.AttIdeal.Hand

open Cert.AttIdeal Cert.AttIdeal.Gen
open Idealize.ShloMosaic

variable {F : FTy → Type} [FloatOps F] {sp : Space} {e : EltTy}

/-- Row `r` of a buffer of eight rows. -/
def row (S : Vec F S8x128 e) (r : Fin 8) : Vec F S1x128 e := fun j => S (ix2 r (j 1))
/-- The buffer with row `r` replaced. -/
def putRow (r : Fin 8) (w : Vec F S1x128 e) (S : Vec F S8x128 e) : Vec F S8x128 e := fun j =>
  if (show Fin 8 from j 0) = r then w (ix2 0 (j 1)) else S j
theorem row_lt {r : ℕ} (inb : ∀ a, (![r, 0] : Fin 2 → ℕ) a + (![1, 128] : Fin 2 → ℕ) a ≤ S8x128.size a) : r < 8 := by
  have := inb 0
  simp [S1x128, S8x128] at this
  omega

/-- A store of one row, read back. -/
theorem read_row (v : View sig .tc sp S8x128 e) (f : v.ty.Contents (Elt F)) (r : ℕ) (inb) (w : Vec F S1x128 e)
    (L : List (View.Piece (Elt F) S8x128 e)) :
    v.read (Elt F) (v.writes (Elt F) f (⟨Rect.unit (s := S8x128) ![r, 0] ![1, 128] inb, w⟩ :: L))
      = putRow ⟨r, row_lt inb⟩ w (v.read (Elt F) (v.writes (Elt F) f L)) := by
  funext y
  unfold putRow
  split
  · next h =>
    have h' : (y 0).val = r := congrArg Fin.val h
    refine View.read_writes_cons_unit_of_mem v f inb w L y (ix2 0 (y 1)) rfl fun a => ?_
    match a with
    | ⟨0, _⟩ => exact h'
    | ⟨1, _⟩ => exact (Nat.zero_add _).symm
  · next h =>
    have h' : (y 0).val ≠ r := fun q => h (Fin.ext q)
    refine View.read_writes_cons_unit_of_not_mem v f inb w L y rfl 0 ?_
    show (y 0).val < r ∨ r + 1 ≤ (y 0).val
    omega

/-- A load of one row. -/
theorem readAt_row (v : View sig .tc sp S8x128 e) (f : v.ty.Contents (Elt F)) (r : ℕ) (inb) :
    v.readAt (Elt F) (Rect.unit (s := S8x128) ![r, 0] ![1, 128] inb).toLoadRect f
      = row (v.read (Elt F) f) ⟨r, row_lt inb⟩ := by
  funext j
  refine congrArg (v.read (Elt F) f) (funext fun a => Fin.ext ?_)
  match a with
  | ⟨0, _⟩ =>
    have : (j 0).val = 0 := by have := (j 0).isLt; simp [S1x128] at this; omega
    show r + 1 * (j 0).val = r
    omega
  | ⟨1, _⟩ => show 0 + 1 * (j 1).val = (j 1).val; omega

theorem readCov_row (v : View sig .tc sp S8x128 e) (L : List (View.Piece (Elt F) S8x128 e)) (r : ℕ) (inb) :
    v.readCov L (Rect.unit (s := S8x128) ![r, 0] ![1, 128] inb).toLoadRect
      = row (v.read (Elt F) (v.writes (Elt F) v.junk L)) ⟨r, row_lt inb⟩ := readAt_row v _ r inb

theorem row_put (r : ℕ) (hr : r < 8) (w : Vec F S1x128 e) (S : Vec F S8x128 e) (r' : ℕ) (hr' : r' < 8) (h : r = r') :
    row (putRow ⟨r', hr'⟩ w S) ⟨r, hr⟩ = w := by
  subst h
  funext j
  have : j = ix2 0 (j 1) := by
    rw [show (0 : Fin 1) = j 0 from (Fin.eq_zero (j 0)).symm]
    exact ValueIdx.eq_ix2 j
  rw [this]
  exact if_pos rfl

theorem row_put_other (r r' : ℕ) (hr : r < 8) (hr' : r' < 8) (h : r ≠ r') (w : Vec F S1x128 e) (S : Vec F S8x128 e) :
    row (putRow ⟨r', hr'⟩ w S) ⟨r, hr⟩ = row S ⟨r, hr⟩ :=
  funext fun j => if_neg fun q => h (congrArg Fin.val q)

theorem row_ext {S T : Vec F S8x128 e} (h : ∀ r, row S r = row T r) : S = T := by
  funext j
  have := congrFun (h (j 0)) (ix2 0 (j 1))
  rw [ValueIdx.eq_ix2 j]
  exact this

theorem read_full2 {a b : ℕ} (v : View sig .tc sp (⟨2, ![a, b]⟩ : Shape) e) (f : v.ty.Contents (Elt F)) (inb)
    (w : (⟨2, ![a, b]⟩ : Shape).Idx → Elt F e) (L : List (View.Piece (Elt F) (⟨2, ![a, b]⟩ : Shape) e)) :
    v.read (Elt F) (v.writes (Elt F) f (⟨Rect.unit (s := ⟨2, ![a, b]⟩) ![0, 0] ![a, b] inb, w⟩ :: L)) = w :=
  View.read_writes_full v f inb w L

theorem readAt_full2 {a b : ℕ} (v : View sig .tc sp (⟨2, ![a, b]⟩ : Shape) e) (f : v.ty.Contents (Elt F)) (inb) :
    v.readAt (Elt F) (Rect.unit (s := ⟨2, ![a, b]⟩) ![0, 0] ![a, b] inb).toLoadRect f = v.read (Elt F) f := View.readAt_full v f inb

end Cert.AttIdeal.Hand
-- ==== Proof.AttStep.lean ====
module

public import proofs.«01_k».proof.Proof.AttPoint
public import proofs.«01_k».proof.Proof.AttRead
public import proofs.«01_k».proof.Proof.Gen.AttIdeal.Frame

/-!
What one grid point of the attention's backward pass takes off the sinks'
gradient.
-/

@[expose] public section

set_option maxRecDepth 16384

noncomputable section

namespace Cert.AttIdeal.Hand

open Cert.AttIdeal Cert.AttIdeal.Gen Idealize.ShloMosaic Idealize.ShloMosaic.TcCoe Idealize.SL.Sem
open Idealize.ShloMosaic.Pipeline (Dat)
open Cert.FwdMath
open Cert.FwdIdeal.Hand (Pt sc far)

section

variable (X : Vec Ideal S1x128 .f32) (D E : FVec Ideal S1x512 .f32) (r : Fin 128)

theorem less_0 : k0_pay213 D X (ix2 0 r) = X (ix2 0 r) - D (ix2 0 (lane 0 r)) := by pointwise [k0_pay213, lane]
theorem less_1 : k0_pay215 D X (ix2 0 r) = X (ix2 0 r) - D (ix2 0 (lane 1 r)) := by pointwise [k0_pay215, lane]
theorem less_2 : k0_pay217 D X (ix2 0 r) = X (ix2 0 r) - D (ix2 0 (lane 2 r)) := by pointwise [k0_pay217, lane]
theorem less_3 : k0_pay219 D X (ix2 0 r) = X (ix2 0 r) - D (ix2 0 (lane 3 r)) := by pointwise [k0_pay219, lane]

end

/-- Sixteen stores of rows, two of each. -/
theorem put_all (S w0 w1 w2 w3 w4 w5 w6 w7) (u0 u1 u2 u3 u4 u5 u6 u7 : Vec Ideal S1x128 .f32) (G : Vec Ideal S8x128 .f32)
    (h0 : ∀ r, w0 (ix2 0 r) = G (ix2 0 r)) (h1 : ∀ r, w1 (ix2 0 r) = G (ix2 1 r)) (h2 : ∀ r, w2 (ix2 0 r) = G (ix2 2 r)) (h3 : ∀ r, w3 (ix2 0 r) = G (ix2 3 r))
    (h4 : ∀ r, w4 (ix2 0 r) = G (ix2 4 r)) (h5 : ∀ r, w5 (ix2 0 r) = G (ix2 5 r)) (h6 : ∀ r, w6 (ix2 0 r) = G (ix2 6 r)) (h7 : ∀ r, w7 (ix2 0 r) = G (ix2 7 r)) :
    putRow (F := Ideal) (e := .f32) 7 w7 (putRow 6 w6 (putRow 5 w5 (putRow 4 w4 (putRow 3 w3 (putRow 2 w2 (putRow 1 w1 (putRow 0 w0
      (putRow 7 u7 (putRow 6 u6 (putRow 5 u5 (putRow 4 u4 (putRow 3 u3 (putRow 2 u2 (putRow 1 u1 (putRow 0 u0 S))))))))))))))) = G := by
  funext j
  obtain ⟨a, r, rfl⟩ : ∃ a r, j = ix2 a r := ⟨j 0, j 1, ValueIdx.eq_ix2 j⟩
  fin_cases a
  · exact h0 r
  · exact h1 r
  · exact h2 r
  · exact h3 r
  · exact h4 r
  · exact h5 r
  · exact h6 r
  · exact h7 r

theorem readAt_cell {sp : Space} {off size inb} (v : View sig .tc sp S2x256x128 .f32) (f : v.ty.Contents (Elt Ideal)) :
    v.readAt (Elt Ideal) (Rect.unit (s := S2x256x128) off size inb).toLoadRect f = Cert.FwdIdeal.Hand.cell inb (v.read (Elt Ideal) f) := rfl

/-- The log-sums of one group at one block. -/
def line (X : Vec Ideal S8x512 .f32) (a : Fin 8) : Vec Ideal S1x512 .f32 := fun i => X (ix2 a (i 1))

variable (m : (ℓ : Loc nD τ sig) → Buf (Elt Ideal) ℓ) (c : Dev nD) (t : Fin cfg0.N)

/-- What a point reads of the arrays that the forward pass reads too. -/
def pt : Pt :=
  ⟨grid0.coords t, iblk m c 0 t, fun _ => (0 : EReal), fun _ => (0 : EReal), X0_4 m c t, iblk m c 5 t, iblk m c 6 t, iblk m c 7 t, iblk m c 8 t,
    iblk m c 9 t, iblk m c 10 t, fun _ => (0 : EReal), fun _ => (0 : EReal), fun _ => (0 : EReal), fun _ => (0 : EReal), iblk m c 15 t⟩

/-- The values, by places. -/
def vals (p : Pt) (b : Fin 2) : FVec Ideal S256x128 .bf16 :=
  ![k0_pay202 (k0_pay201 (k0_pay177 p.x4) (k0_pay190 p.x5)), k0_pay257 (k0_pay246 (k0_pay177 p.x4)) (k0_pay250 (k0_pay177 p.x4))] b

/-- A part of the cotangents, by where it starts. -/
def partAt (X : Vec Ideal S1024x256 .f32) (a b : ℕ) (h : a + 64 ≤ 1024 ∧ b + 128 ≤ 256) : Vec Ideal S64x128 .f32 :=
  fun i => X (ix2 ⟨a + (i 0).val, by have := (i 0).isLt; simp [S64x128] at this; omega⟩ ⟨b + (i 1).val, by have := (i 1).isLt; simp [S64x128] at this; omega⟩)
/-- A head's cotangents at one block. -/
def part (X : Vec Ideal S1024x256 .f32) (a : Fin 8) (b : Fin 2) : Vec Ideal S64x128 .f32 := partAt X (512 + 64 * a.val) (128 * b.val) (by omega)

/-- What a point takes off at a head and a place, for one of its blocks. -/
def off (v : Fin 2) (j : Fin 4) (b : Fin 2) (r : Fin 128) : EReal :=
  dsk v ((pt m c t).sink v) (line (iblk m c 16 t) ⟨2 * b.val + v.val, by omega⟩) ((pt m c t).score v b) (vals (pt m c t) b)
    ![part (iblk m c 1 t) (hd v 0) b, part (iblk m c 1 t) (hd v 1) b, part (iblk m c 1 t) (hd v 2) b, part (iblk m c 1 t) (hd v 3) b] j r

end Cert.AttIdeal.Hand
-- ==== Proof.AttSpec.lean ====
module

public import proofs.«01_k».proof.Proof.FwdSpec
public import proofs.«01_k».proof.Proof.FwdWord

/-!
A sink's gradient by its place in a block: what the attention's backward pass
adds up, from the forward pass's arguments and the cotangent.
-/

@[expose] public section

noncomputable section

namespace Cert.FwdMath

open Idealize.ShloMosaic
open scoped BigOperators

/-- The attention's arguments; it reads nothing of the gated unit. -/
def attArgs (h : FVec Ideal ⟨3, ![1, 4096, 1792]⟩ .f32) (p : IVec ⟨2, ![1, 4096]⟩ 32) (z : FVec Ideal ⟨2, ![1, 8]⟩ .f32) : Args where
  h i d := h (ix3 0 i d)
  cos i e := Ideal.cos (angle (p (ix2 0 i)) e)
  sin i e := Ideal.sin (angle (p (ix2 0 i)) e)
  g _ := 0
  b _ := 0
  w _ _ _ := 0
  bs _ _ := 0
  z a := z (ix2 0 a)

/-- The attention's columns of the cotangent. -/
def attCot (c : FVec Ideal ⟨3, ![1, 4096, 1024]⟩ .f32) (a : Fin 8) (i : Fin 4096) (d : Fin 64) : EReal :=
  c (ix3 0 i ⟨512 + (64 * a.val + d.val), by omega⟩)

namespace Args

variable (A : Args) (o : Fin 8 → Fin 4096 → Fin 64 → EReal)

/-- The gradient of a row's weights. -/
def dWeight (a : Fin 8) (n : Fin 32) (r : Fin 128) (x : Fin 256) : EReal :=
  ∑ d : Fin 64, A.value (grp a) (place n x) d * o a (at_ n r) d

/-- Row `r` of block `n` of head `a`: the sink's weight, times the sum of the row's weights times their gradients. -/
def sinkTerm (a : Fin 8) (n : Fin 32) (r : Fin 128) : EReal :=
  Ideal.exp (A.z a - A.rowSum a n r) * ∑ x : Fin 256, Ideal.exp (A.score a n r x - A.rowSum a n r) * A.dWeight o a n r x

end Args

/-- A real factor that is not negative goes through a sum. -/
theorem real_mul_sum {ι : Type} (s : Finset ι) (c : ℝ) (hc : 0 ≤ c) (f : ι → EReal) : (c : EReal) * ∑ x ∈ s, f x = ∑ x ∈ s, (c : EReal) * f x := by
  classical
  induction s using Finset.induction_on with
  | empty => simp
  | insert a s ha ih =>
    rw [Finset.sum_insert ha, Finset.sum_insert ha, ← ih, EReal.left_distrib_of_nonneg_of_ne_top (by exact_mod_cast hc) (EReal.coe_ne_top _)]

/-- The same gradient from the unscaled exponentials and their sum: the quotient's rule, the sink's own gradient being zero. -/
theorem sink_rule (f : Fin 256 → EReal) (z : ℝ) (hf : ∀ x, f x ≠ ⊤) (w : Fin 256 → EReal) :
    (Ideal.div 0 (den f z) + -((∑ x, w x * Ideal.div 1 (den f z * den f z) * Ideal.exp (f x - top f z))
        + 0 * Ideal.div 1 (den f z * den f z) * Ideal.exp ((z : EReal) - top f z))) * Ideal.exp ((z : EReal) - top f z)
      = -(Ideal.exp ((z : EReal) - lse f z) * ∑ x, Ideal.exp (f x - lse f z) * w x) := by
  have ht : top f (z : EReal) < ⊤ := by
    unfold top
    refine max_lt (Finset.fold_max_lt _ |>.2 ⟨?_, fun x _ => lt_top_iff_ne_top.2 (hf x)⟩) (EReal.coe_lt_top z)
    rw [hidden_eq]
    exact bot_lt_top
  have hb : (z : EReal) ≤ top f (z : EReal) := le_max_right _ _
  have hr : ∃ t : ℝ, top f (z : EReal) = t := by
    induction hx : top f (z : EReal) with
    | bot => rw [hx] at hb; exact absurd (le_bot_iff.1 hb) (EReal.coe_ne_bot z)
    | coe a => exact ⟨a, rfl⟩
    | top => rw [hx] at ht; exact absurd ht (lt_irrefl _)
  obtain ⟨t, et⟩ := hr
  have hE : ∀ x, ∃ e : ℝ, 0 ≤ e ∧ Ideal.exp (f x - (t : EReal)) = e ∧ ∀ l : ℝ, Ideal.exp (f x - ((t + l : ℝ) : EReal)) = ((e * Real.exp (-l) : ℝ) : EReal) := fun x => by
    induction hx : f x with
    | bot => exact ⟨0, le_refl _, by rw [EReal.bot_sub]; rfl, fun l => by rw [EReal.bot_sub, zero_mul]; rfl⟩
    | coe a => exact ⟨Real.exp (a - t), (Real.exp_pos _).le, by rw [← EReal.coe_sub]; rfl, fun l => by
        rw [← EReal.coe_sub, ← Real.exp_add, show a - (t + l) = a - t + -l by ring]; rfl⟩
    | top => exact absurd hx (hf x)
  choose e he0 he hel using hE
  have hz : Ideal.exp ((z : EReal) - (t : EReal)) = ((Real.exp (z - t) : ℝ) : EReal) := by rw [← EReal.coe_sub]; rfl
  have hden : den f (z : EReal) = (((∑ x, e x) + Real.exp (z - t) : ℝ) : EReal) := by
    unfold den
    rw [et, hz, Finset.sum_congr rfl fun x _ => he x, EReal.coe_add]
    congr 1
  have hpos : 0 < (∑ x, e x) + Real.exp (z - t) := add_pos_of_nonneg_of_pos (Finset.sum_nonneg fun x _ => he0 x) (Real.exp_pos _)
  generalize (∑ x, e x) + Real.exp (z - t) = D at hden hpos
  have hlse : lse f (z : EReal) = ((t + Real.log D : ℝ) : EReal) := by
    unfold lse
    rw [et, hden]
    have : Ideal.log (D : EReal) = ((Real.log D : ℝ) : EReal) := (Ideal.log_coe D).trans (if_neg (not_le.2 hpos))
    rw [this, EReal.coe_add]
  have hexp : Real.exp (-Real.log D) = D⁻¹ := by rw [Real.exp_neg, Real.exp_log hpos]
  have hdiv1 : Ideal.div 1 ((D : EReal) * (D : EReal)) = ((D⁻¹ * D⁻¹ : ℝ) : EReal) := by
    unfold Ideal.div
    rw [← EReal.coe_mul, if_neg (by exact_mod_cast (mul_pos hpos hpos).ne'), one_mul, ← EReal.coe_inv, mul_inv]
  have hdiv0 : Ideal.div 0 (D : EReal) = 0 := by
    unfold Ideal.div
    rw [if_neg (by exact_mod_cast hpos.ne'), zero_mul]
  have hzl : Ideal.exp ((z : EReal) - ((t + Real.log D : ℝ) : EReal)) = ((Real.exp (z - t) * D⁻¹ : ℝ) : EReal) := by
    rw [← EReal.coe_sub, ← hexp, ← Real.exp_add, show z - (t + Real.log D) = z - t + -Real.log D by ring]; rfl
  have hD : (0 : ℝ) ≤ D⁻¹ := (inv_pos.2 hpos).le
  rw [hden, hlse, et, hdiv1, hdiv0, hz, hzl, zero_mul, zero_mul, add_zero, zero_add, EReal.neg_mul]
  congr 1
  simp only [he, hel, hexp]
  have h1 : ∀ x, w x * ((D⁻¹ * D⁻¹ : ℝ) : EReal) * ((e x : ℝ) : EReal) = ((D⁻¹ : ℝ) : EReal) * (((e x * D⁻¹ : ℝ) : EReal) * w x) := fun x => by
    rw [mul_assoc, ← EReal.coe_mul, ← mul_assoc, ← EReal.coe_mul, mul_comm (w x)]
    congr 2
    ring
  rw [Finset.sum_congr rfl fun x _ => h1 x, ← real_mul_sum _ _ hD, mul_comm, ← mul_assoc, ← EReal.coe_mul]

end Cert.FwdMath
-- ==== Proof.AttRefRow.lean ====
module

public import proofs.«01_k».proof.Proof.Gen.AttRefIdeal.Run
public import proofs.«01_k».proof.Proof.FwdRefValue
public import proofs.«01_k».proof.Proof.AttSpec

/-!
The reference's keys, queries, values and scores in the attention's gradient,
by their places.
-/

@[expose] public section

set_option maxRecDepth 16384

noncomputable section

namespace Cert.AttRefIdeal.Hand

open Cert.AttRefIdeal Cert.AttRefIdeal.Gen Cert.AttRefIdeal.Value
open Idealize.ShloMosaic Idealize.ShloMosaic.TcCoe Idealize.SL.Sem
open Cert.FwdMath
open scoped BigOperators

variable (V0 : Valuation τ sig (Elt Ideal))

/-- The reference's arguments. -/
def args : Args :=
  attArgs (V0 (Proc.devRef .tc main_arg0)) (V0 (Proc.devRef .tc main_arg1)) (V0 (Proc.devRef .tc main_arg6))

theorem h_eq (i i' : Fin 4096) (k k' : Fin 1792) (hi : i.val = i'.val) (hk : k.val = k'.val) :
    (V0 (Proc.devRef .tc main_arg0) : Vec Ideal S1x4096x1792 .f32) (ix3 0 i k) = (args V0).h i' k' := by
  rw [Fin.ext hi, Fin.ext hk]
  rfl
theorem cos_eq (i i' : Fin 4096) (e e' : Fin 32) (hi : i.val = i'.val) (he : e.val = e'.val) :
    Ideal.cos (angle ((V0 (Proc.devRef .tc main_arg1) : Vec Ideal S1x4096 .i32) (ix2 0 i)) e) = (args V0).cos i' e' := by
  rw [Fin.ext hi, Fin.ext he]
  rfl
theorem sin_eq (i i' : Fin 4096) (e e' : Fin 32) (hi : i.val = i'.val) (he : e.val = e'.val) :
    Ideal.sin (angle ((V0 (Proc.devRef .tc main_arg1) : Vec Ideal S1x4096 .i32) (ix2 0 i)) e) = (args V0).sin i' e' := by
  rw [Fin.ext hi, Fin.ext he]
  rfl

theorem angles_q (i : Fin 4096) (e : Fin 32) : (res_main_v23 V0 : FVec Ideal S1x4096x32 .f32) (ix3 0 i e)
    = angle ((V0 (Proc.devRef .tc main_arg1) : Vec Ideal S1x4096 .i32) (ix2 0 i)) e := by
  unfold res_main_v23
  pointwise
  rfl

theorem angles_k (i : Fin 4096) (e : Fin 32) : (res_main_v57 V0 : FVec Ideal S1x4096x32 .f32) (ix3 0 i e)
    = angle ((V0 (Proc.devRef .tc main_arg1) : Vec Ideal S1x4096 .i32) (ix2 0 i)) e := by
  unfold res_main_v57
  pointwise
  rfl

theorem keys (n : Fin 32) (r : Fin 128) (v : Fin 2) (d : Fin 64) : (res_main_v77 V0 : FVec Ideal S1x32x128x2x64 .f32) (ix5 0 n r v d)
    = (args V0).key v (at_ n r) d := by
  unfold res_main_v77
  unfold res_main_v59 res_main_v61 res_main_v62 res_main_v63 res_main_v41 res_main_v0
  pointwise [angles_k]
  unfold Args.key Args.rot
  by_cases h : d.val < 32
  · refine (dif_pos h).trans (Eq.trans ?_ (dif_pos h).symm)
    exact congrArg₂ (· - ·) (congrArg₂ (· * ·) (h_eq V0 _ _ _ _ (by show n.val * 128 + r.val = 128 * n.val + r.val; omega) (by show 1024 + (512 + (v.val * 64 + d.val))= 1536 + (64 * v.val + d.val); omega)) (cos_eq V0 _ _ _ _ (by show n.val * 128 + r.val = 128 * n.val + r.val; omega) rfl))
      (congrArg₂ (· * ·) (h_eq V0 _ _ _ _ (by show n.val * 128 + r.val = 128 * n.val + r.val; omega) (by show 1024 + (512 + (v.val * 64 + (32 + d.val)))= 1536 + (64 * v.val + (32 + d.val)); omega)) (sin_eq V0 _ _ _ _ (by show n.val * 128 + r.val = 128 * n.val + r.val; omega) rfl))
  · refine (dif_neg h).trans (Eq.trans ?_ (dif_neg h).symm)
    exact congrArg₂ (· + ·) (congrArg₂ (· * ·) (h_eq V0 _ _ _ _ (by show n.val * 128 + r.val = 128 * n.val + r.val; omega) (by show 1024 + (512 + (v.val * 64 + (32 + (d.val - 32))))= 1536 + (64 * v.val + d.val); omega)) (cos_eq V0 _ _ _ _ (by show n.val * 128 + r.val = 128 * n.val + r.val; omega) rfl))
      (congrArg₂ (· * ·) (h_eq V0 _ _ _ _ (by show n.val * 128 + r.val = 128 * n.val + r.val; omega) (by show 1024 + (512 + (v.val * 64 + (d.val - 32)))= 1536 + (64 * v.val + (d.val - 32)); omega)) (sin_eq V0 _ _ _ _ (by show n.val * 128 + r.val = 128 * n.val + r.val; omega) rfl))

theorem values (n : Fin 32) (r : Fin 128) (v : Fin 2) (d : Fin 64) : (res_main_v83 V0 : FVec Ideal S1x32x128x2x64 .f32) (ix5 0 n r v d)
    = (args V0).value v (at_ n r) d := by
  unfold res_main_v83 res_main_v0
  pointwise
  exact h_eq V0 _ _ _ _ (by show n.val * 128 + r.val = 128 * n.val + r.val; omega) (by show 1024 + (640 + (v.val * 64 + d.val)) = 1664 + (64 * v.val + d.val); omega)

/-- The queries, grouped by their key heads. -/
theorem queries (n : Fin 32) (r : Fin 128) (v : Fin 2) (j : Fin 4) (d : Fin 64) :
    (shapeCast _ (concatenate S1x4096x8x64 3 [⟨S1x4096x8x32, (subf (mulf (res_main_v28 V0) (broadcastInDim S1x4096x8x32 ![0, 1, 2, 3] bcast_S1x4096x1x32_S1x4096x8x32_0_1_2_3 (res_main_v25 V0))) (mulf (res_main_v29 V0) (broadcastInDim S1x4096x8x32 ![0, 1, 2, 3] bcast_S1x4096x1x32_S1x4096x8x32_0_1_2_3 (res_main_v27 V0))))⟩, ⟨S1x4096x8x32, (addf (mulf (res_main_v29 V0) (broadcastInDim S1x4096x8x32 ![0, 1, 2, 3] bcast_S1x4096x1x32_S1x4096x8x32_0_1_2_3 (res_main_v25 V0))) (mulf (res_main_v28 V0) (broadcastInDim S1x4096x8x32 ![0, 1, 2, 3] bcast_S1x4096x1x32_S1x4096x8x32_0_1_2_3 (res_main_v27 V0))))⟩] concatenates_S1x4096x8x32_S1x4096x8x32_S1x4096x8x64_d3) shapeCasts_S1x4096x8x64_S1x32x128x2x4x64 : FVec Ideal S1x32x128x2x4x64 .f32) (ix6 0 n r v j d)
    = (args V0).query (hd v j) (at_ n r) d := by
  unfold res_main_v25 res_main_v27 res_main_v28 res_main_v29 res_main_v7 res_main_v0
  pointwise [angles_q]
  unfold Args.query Args.rot
  by_cases h : d.val < 32
  · refine (dif_pos h).trans (Eq.trans ?_ (dif_pos h).symm)
    exact congrArg₂ (· - ·) (congrArg₂ (· * ·) (h_eq V0 _ _ _ _ (by show n.val * 128 + r.val = 128 * n.val + r.val; omega) (by show 1024 + ((v.val * 4 + j.val) * 64 + d.val) = 1024 + (64 * (4 * v.val + j.val) + d.val); omega)) (cos_eq V0 _ _ _ _ (by show n.val * 128 + r.val = 128 * n.val + r.val; omega) rfl))
      (congrArg₂ (· * ·) (h_eq V0 _ _ _ _ (by show n.val * 128 + r.val = 128 * n.val + r.val; omega) (by show 1024 + ((v.val * 4 + j.val) * 64 + (32 + d.val)) = 1024 + (64 * (4 * v.val + j.val) + (32 + d.val)); omega)) (sin_eq V0 _ _ _ _ (by show n.val * 128 + r.val = 128 * n.val + r.val; omega) rfl))
  · refine (dif_neg h).trans (Eq.trans ?_ (dif_neg h).symm)
    exact congrArg₂ (· + ·) (congrArg₂ (· * ·) (h_eq V0 _ _ _ _ (by show n.val * 128 + r.val = 128 * n.val + r.val; omega) (by show 1024 + ((v.val * 4 + j.val) * 64 + (32 + (d.val - 32))) = 1024 + (64 * (4 * v.val + j.val) + d.val); omega)) (cos_eq V0 _ _ _ _ (by show n.val * 128 + r.val = 128 * n.val + r.val; omega) rfl))
      (congrArg₂ (· * ·) (h_eq V0 _ _ _ _ (by show n.val * 128 + r.val = 128 * n.val + r.val; omega) (by show 1024 + ((v.val * 4 + j.val) * 64 + (d.val - 32)) = 1024 + (64 * (4 * v.val + j.val) + (d.val - 32)); omega)) (sin_eq V0 _ _ _ _ (by show n.val * 128 + r.val = 128 * n.val + r.val; omega) rfl))

/-- The band's mask. -/
theorem masked (P : FVec Ideal S1x32x2x4x128x256 .f32) (n : Fin 32) (v : Fin 2) (j : Fin 4) (r : Fin 128) (x : Fin 256) :
    ((select (broadcastInDim S1x32x2x4x128x256 ![0, 1, 2, 3, 4, 5] bcast_S1x32x1x1x128x256_S1x32x2x4x128x256_0_1_2_3_4_5 (broadcastInDim S1x32x1x1x128x256 ![1, 4, 5] bcast_S32x128x256_S1x32x1x1x128x256_1_4_5 (andi (broadcastInDim S32x128x256 ![0, 1, 2] bcast_S1x128x256_S32x128x256_0_1_2 (broadcastInDim S1x128x256 ![1, 2] bcast_S128x256_S1x128x256_1_2 (andi (cmpi .sge (res_main_v101 V0) (broadcastInDim S128x256 ![] bcast_S_S128x256 (constantI S_ 32 0#32))) (cmpi .slt (res_main_v101 V0) (broadcastInDim S128x256 ![] bcast_S_S128x256 (constantI S_ 32 128#32)))))) (broadcastInDim S32x128x256 ![0, 1, 2] bcast_S32x1x256_S32x128x256_0_1_2 (cmpi .sge (subi (addi (broadcastInDim S32x1x256 ![0, 1, 2] bcast_S32x1x1_S32x1x256_0_1_2 (muli (broadcastInDim S32x1x1 ![0] bcast_S32_S32x1x1_0 (iotaInDim S32 32 0)) (broadcastInDim S32x1x1 ![] bcast_S_S32x1x1 (constantI S_ 32 128#32)))) (broadcastInDim S32x1x256 ![0, 1, 2] bcast_S1x1x256_S32x1x256_0_1_2 (broadcastInDim S1x1x256 ![1, 2] bcast_S1x256_S1x1x256_1_2 (res_main_v96 V0)))) (broadcastInDim S32x1x256 ![] bcast_S_S32x1x256 (constantI S_ 32 128#32))) (broadcastInDim S32x1x256 ![] bcast_S_S32x1x256 (constantI S_ 32 0#32))))))) P (broadcastInDim S1x32x2x4x128x256 ![] bcast_S_S1x32x2x4x128x256 (id (constant S_ .f32 0xFF800000#32)))) : FVec Ideal S1x32x2x4x128x256 .f32) (ix6 0 n v j r x)
      = if Args.sees n r x then P (ix6 0 n v j r x) else Ideal.ofBits FTy.f32 0xFF800000#32 := by
  unfold res_main_v101 res_main_v96
  pointwise
  exact mask_word n.val r.val x.val n.isLt r.isLt x.isLt _ _

theorem sinks (n : Fin 32) (v : Fin 2) (j : Fin 4) (r : Fin 128) : (broadcastInDim S1x32x2x4x128x1 ![0, 1, 2, 3, 4, 5] bcast_S1x1x2x4x128x1_S1x32x2x4x128x1_0_1_2_3_4_5 (broadcastInDim S1x1x2x4x128x1 ![2, 3, 4] bcast_S2x4x128_S1x1x2x4x128x1_2_3_4 (shapeCast _ (broadcastInDim S8x128 ![0, 1] bcast_S8x1_S8x128_0_1 (broadcastInDim S8x1 ![0] bcast_S8_S8x1_0 (shapeCast _ (V0 (Proc.devRef .tc main_arg6)) shapeCasts_S1x8_S8))) shapeCasts_S8x128_S2x4x128)) : FVec Ideal S1x32x2x4x128x1 .f32) (ix6 0 n v j r 0) = (args V0).z (hd v j) := by
  pointwise
  exact congrArg (V0 (Proc.devRef .tc main_arg6) : Vec Ideal S1x8 .f32) (congrArg (ix2 0) (Fin.ext (by show v.val * 4 + j.val = 4 * v.val + j.val; omega)))

theorem scores (n : Fin 32) (v : Fin 2) (j : Fin 4) (r : Fin 128) (x : Fin 256) :
    (res_main_v128 V0 : FVec Ideal S1x32x2x4x128x257 .f32) (ix6 0 n v j r x.castSucc) = (args V0).score (hd v j) n r x := by
  unfold res_main_v128
  refine (Cert.FwdRefIdeal.Hand.joined_lo _ _ n v j r x).trans ((masked V0 _ n v j r x).trans ?_)
  have hg : Args.grp (hd v j) = v := Fin.ext (by show (4 * v.val + j.val) / 4 = v.val; omega)
  refine if_ctx_congr Iff.rfl (fun h => ?_) fun _ => rfl
  refine (Cert.FwdRefIdeal.Hand.scaled _ _).trans (congrArg (· * _) ((Cert.FwdRefIdeal.Hand.products _ _ n v j r x).trans (Finset.sum_congr rfl fun d _ => ?_)))
  refine (mul_comm _ _).trans (congrArg₂ (· * ·) (queries V0 n r v j d) ((Cert.FwdRefIdeal.Hand.beside _ n x v d).trans ((if_pos h.2.2).trans ((keys V0 _ _ v d).trans ?_))))
  rw [Cert.FwdRefIdeal.Hand.at_place, hg]

theorem sink_at (n : Fin 32) (v : Fin 2) (j : Fin 4) (r : Fin 128) :
    (res_main_v128 V0 : FVec Ideal S1x32x2x4x128x257 .f32) (ix6 0 n v j r (Fin.last 256)) = (args V0).z (hd v j) := by
  unfold res_main_v128
  exact (Cert.FwdRefIdeal.Hand.joined_hi _ _ n v j r _ (by decide)).trans (sinks V0 n v j r)

end Cert.AttRefIdeal.Hand
-- ==== Proof.AttRefValue.lean ====
module

public import proofs.«01_k».proof.Proof.AttRefRow
public import proofs.«01_k».proof.Proof.FfnReal

/-!
The reference's gradient of the sinks.
-/

@[expose] public section

set_option maxRecDepth 16384

noncomputable section

namespace Cert.AttRefIdeal.Hand

open Cert.AttRefIdeal Cert.AttRefIdeal.Gen Cert.AttRefIdeal.Value
open Idealize.ShloMosaic Idealize.ShloMosaic.TcCoe Idealize.SL.Sem
open Cert.FwdMath
open scoped BigOperators

/-- The entries that a reduction puts together, listed. -/
theorem listed {ι α β : Type} [Fintype ι] [Fintype α] [DecidableEq β] (drop : α → β) (e : ι ↪ α) (b : β) (h1 : ∀ x, drop (e x) = b)
    (h2 : ∀ i, drop i = b → ∃ x, e x = i) (f : α → EReal) : (∑ i ∈ Finset.univ.filter fun i => drop i = b, f i) = ∑ x, f (e x) := by
  rw [show (Finset.univ.filter fun i => drop i = b) = Finset.univ.map e from ?_, Finset.sum_map]
  ext i
  simp only [Finset.mem_filter, Finset.mem_univ, true_and, Finset.mem_map]
  exact ⟨h2 i, fun ⟨x, hx⟩ => hx ▸ h1 x⟩

def blocksAt (v : Fin 2) (j : Fin 4) (r : Fin 128) : Fin 32 ↪ S1x32x2x4x128x1.Idx where
  toFun n := ix6 0 n v j r 0
  inj' _ _ h := congrFun h 1

/-- The sum over the blocks of tokens. -/
theorem over_blocks (X : FVec Ideal S1x32x2x4x128x1 .f32) (v : Fin 2) (j : Fin 4) (r : Fin 128) :
    (Host.reduceAdd X (constant S_ .f32 0x00000000#32) reducesTo_S1x32x2x4x128x1_S2x4x128_d0_1_5 h_S_ : FVec Ideal S2x4x128 .f32) (ix3 v j r)
      = ∑ n : Fin 32, X (ix6 0 n v j r 0) := by
  pointwise
  rw [Ideal.hostReduceAdd, zero_add]
  refine listed _ (blocksAt v j r) _ (fun n => ?_) (fun i e => ⟨i 1, ?_⟩) X
  · funext l
    match l with
    | ⟨0, _⟩ => rfl
    | ⟨1, _⟩ => rfl
    | ⟨2, _⟩ => rfl
  · funext l
    apply Fin.ext
    match l with
    | ⟨0, _⟩ => exact (Nat.lt_one_iff.mp (i 0).isLt).symm
    | ⟨1, _⟩ => rfl
    | ⟨2, _⟩ => exact (congrArg Fin.val (congrFun e 0)).symm
    | ⟨3, _⟩ => exact (congrArg Fin.val (congrFun e 1)).symm
    | ⟨4, _⟩ => exact (congrArg Fin.val (congrFun e 2)).symm
    | ⟨5, _⟩ => exact (Nat.lt_one_iff.mp (i 5).isLt).symm

def oneAt (v : Fin 2) (j : Fin 4) (r : Fin 128) : Fin 1 ↪ S1x1x2x4x128x1.Idx where
  toFun n := ix6 0 n v j r 0
  inj' _ _ h := congrFun h 1

/-- The second sum has one term. -/
theorem over_one (X : FVec Ideal S1x1x2x4x128x1 .f32) (v : Fin 2) (j : Fin 4) (r : Fin 128) :
    (Host.reduceAdd X (constant S_ .f32 0x00000000#32) reducesTo_S1x1x2x4x128x1_S2x4x128_d0_1_5 h_S_ : FVec Ideal S2x4x128 .f32) (ix3 v j r)
      = X (ix6 0 0 v j r 0) := by
  pointwise
  rw [Ideal.hostReduceAdd, zero_add]
  refine (listed _ (oneAt v j r) _ (fun n => ?_) (fun i e => ⟨i 1, ?_⟩) X).trans (Fin.sum_univ_one _)
  · funext l
    match l with
    | ⟨0, _⟩ => rfl
    | ⟨1, _⟩ => rfl
    | ⟨2, _⟩ => rfl
  · funext l
    apply Fin.ext
    match l with
    | ⟨0, _⟩ => exact (Nat.lt_one_iff.mp (i 0).isLt).symm
    | ⟨1, _⟩ => rfl
    | ⟨2, _⟩ => exact (congrArg Fin.val (congrFun e 0)).symm
    | ⟨3, _⟩ => exact (congrArg Fin.val (congrFun e 1)).symm
    | ⟨4, _⟩ => exact (congrArg Fin.val (congrFun e 2)).symm
    | ⟨5, _⟩ => exact (Nat.lt_one_iff.mp (i 5).isLt).symm

def rowSumAt (n : Fin 32) (v : Fin 2) (j : Fin 4) (r : Fin 128) : Fin 1 ↪ S1x32x2x4x128x1.Idx where
  toFun x := ix6 0 n v j r x
  inj' _ _ h := congrFun h 5

theorem over_last (X : FVec Ideal S1x32x2x4x128x1 .f32) (n : Fin 32) (v : Fin 2) (j : Fin 4) (r : Fin 128) :
    (Host.reduceAdd X (constant S_ .f32 0x00000000#32) reducesTo_S1x32x2x4x128x1_S32x2x4x128_d0_5 h_S_ : FVec Ideal S32x2x4x128 .f32) (ix4 n v j r)
      = X (ix6 0 n v j r 0) := by
  pointwise
  rw [Ideal.hostReduceAdd, zero_add]
  refine (listed _ (rowSumAt n v j r) _ (fun x => ?_) (fun i e => ⟨i 5, ?_⟩) X).trans (Fin.sum_univ_one _)
  · funext l
    match l with
    | ⟨0, _⟩ => rfl
    | ⟨1, _⟩ => rfl
    | ⟨2, _⟩ => rfl
    | ⟨3, _⟩ => rfl
  · funext l
    apply Fin.ext
    match l with
    | ⟨0, _⟩ => exact (Nat.lt_one_iff.mp (i 0).isLt).symm
    | ⟨1, _⟩ => exact (congrArg Fin.val (congrFun e 0)).symm
    | ⟨2, _⟩ => exact (congrArg Fin.val (congrFun e 1)).symm
    | ⟨3, _⟩ => exact (congrArg Fin.val (congrFun e 2)).symm
    | ⟨4, _⟩ => exact (congrArg Fin.val (congrFun e 3)).symm
    | ⟨5, _⟩ => rfl

theorem spread (R : FVec Ideal S32x2x4x128 .f32) (n : Fin 32) (v : Fin 2) (j : Fin 4) (r : Fin 128) :
    (broadcastInDim S1x32x2x4x128x257 ![0, 1, 2, 3, 4] bcast_S1x32x2x4x128_S1x32x2x4x128x257_0_1_2_3_4 (broadcastInDim S1x32x2x4x128 ![1, 2, 3, 4] bcast_S32x2x4x128_S1x32x2x4x128_1_2_3_4 R) : FVec Ideal S1x32x2x4x128x257 .f32) (ix6 0 n v j r (Fin.last 256)) = R (ix4 n v j r) := by
  pointwise

/-- The gradient of the joined scores, at the sink's place, from the exponentials `E` and the weights' gradients `W`. -/
theorem back_row (E W : FVec Ideal S1x32x2x4x128x257 .f32) (n : Fin 32) (v : Fin 2) (j : Fin 4) (r : Fin 128) (D : FVec Ideal S1x32x2x4x128x1 .f32) :
    (mulf (addf (Host.divf W (broadcastInDim S1x32x2x4x128x257 ![0, 1, 2, 3, 4, 5] bcast_S1x32x2x4x128x1_S1x32x2x4x128x257_0_1_2_3_4_5 D)) (broadcastInDim S1x32x2x4x128x257 ![0, 1, 2, 3, 4] bcast_S1x32x2x4x128_S1x32x2x4x128x257_0_1_2_3_4 (broadcastInDim S1x32x2x4x128 ![1, 2, 3, 4] bcast_S32x2x4x128_S1x32x2x4x128_1_2_3_4 (Host.reduceAdd (Host.negf (shapeCast _ (Host.reduceAdd (mulf (mulf W (broadcastInDim S1x32x2x4x128x257 ![0, 1, 2, 3, 4, 5] bcast_S1x32x2x4x128x1_S1x32x2x4x128x257_0_1_2_3_4_5 (Host.divf (broadcastInDim S1x32x2x4x128x1 ![] bcast_S_S1x32x2x4x128x1 (constant S_ .f32 0x3F800000#32)) (mulf D D)))) E) (constant S_ .f32 0x00000000#32) reducesTo_S1x32x2x4x128x257_S1x32x2x4x128_d5 h_S_) shapeCasts_S1x32x2x4x128_S1x32x2x4x128x1)) (constant S_ .f32 0x00000000#32) reducesTo_S1x32x2x4x128x1_S32x2x4x128_d0_5 h_S_)))) E : FVec Ideal S1x32x2x4x128x257 .f32) (ix6 0 n v j r (Fin.last 256))
      = (Ideal.div (W (ix6 0 n v j r (Fin.last 256))) (D (ix6 0 n v j r 0)) + -((∑ x : Fin 256, W (ix6 0 n v j r x.castSucc) * Ideal.div 1 (D (ix6 0 n v j r 0) * D (ix6 0 n v j r 0)) * E (ix6 0 n v j r x.castSucc))
          + W (ix6 0 n v j r (Fin.last 256)) * Ideal.div 1 (D (ix6 0 n v j r 0) * D (ix6 0 n v j r 0)) * E (ix6 0 n v j r (Fin.last 256)))) * E (ix6 0 n v j r (Fin.last 256)) := by
  have one : Ideal.ofBits FTy.f32 0x3F800000#32 = 1 := Cert.FfnReal.ofBits_one.trans EReal.coe_one
  have hs := Cert.FwdRefIdeal.Hand.totals (mulf (mulf W (broadcastInDim S1x32x2x4x128x257 ![0, 1, 2, 3, 4, 5] bcast_S1x32x2x4x128x1_S1x32x2x4x128x257_0_1_2_3_4_5 (Host.divf (broadcastInDim S1x32x2x4x128x1 ![] bcast_S_S1x32x2x4x128x1 (constant S_ .f32 0x3F800000#32)) (mulf D D)))) E) n v j r
  have hs' : ∀ x : Fin 257, (mulf (mulf W (broadcastInDim S1x32x2x4x128x257 ![0, 1, 2, 3, 4, 5] bcast_S1x32x2x4x128x1_S1x32x2x4x128x257_0_1_2_3_4_5 (Host.divf (broadcastInDim S1x32x2x4x128x1 ![] bcast_S_S1x32x2x4x128x1 (constant S_ .f32 0x3F800000#32)) (mulf D D)))) E : FVec Ideal S1x32x2x4x128x257 .f32) (ix6 0 n v j r x)
      = W (ix6 0 n v j r x) * Ideal.div 1 (D (ix6 0 n v j r 0) * D (ix6 0 n v j r 0)) * E (ix6 0 n v j r x) := fun x => by
    pointwise [one]
  simp only [hs'] at hs
  rw [← hs]
  clear hs hs'
  refine congrArg (· * E (ix6 0 n v j r (Fin.last 256))) (congrArg₂ (· + ·) ?_ ?_)
  · pointwise
  · refine (spread _ n v j r).trans ((over_last _ n v j r).trans ?_)
    generalize Host.reduceAdd (F := Ideal) (mulf _ E) _ _ _ = R
    pointwise

/-- A row with a zero at the sink's place. -/
theorem with_zero (P : FVec Ideal S1x32x2x4x128x256 .f32) (n : Fin 32) (v : Fin 2) (j : Fin 4) (r : Fin 128) (x : Fin 257) :
    (pad S1x32x2x4x128x257 ![0, 0, 0, 0, 0, 0] ![0, 0, 0, 0, 0, 1] ![0, 0, 0, 0, 0, 0] P (constant S_ .f32 0x00000000#32) pads_S1x32x2x4x128x256_S1x32x2x4x128x257_000_000_000_000_000_010 h_S_ : FVec Ideal S1x32x2x4x128x257 .f32) (ix6 0 n v j r x)
      = if h : x.val < 256 then P (ix6 0 n v j r ⟨x.val, h⟩) else 0 := by
  pointwise

/-- The weights' gradients: cotangents against values. -/
theorem against (C : FVec Ideal S1x4096x1024 .f32) (Y : FVec Ideal S1x32x256x2x64 .f32) (n : Fin 32) (v : Fin 2) (j : Fin 4) (r : Fin 128) (x : Fin 256) :
    (Host.dotGeneral dot_S1x32x2x64x4x128_S1x32x256x2x64_S1x32x2x4x128x256_3_4_45_2_012_013 none (transpose S1x32x2x64x4x128 [0, 1, 3, 5, 4, 2] (shapeCast _ (extractStridedSlice S1x4096x512 ![0, 0, 512] C slices_S1x4096x1024_S1x4096x512_0_0_512) shapeCasts_S1x4096x512_S1x32x128x2x4x64) transposes_S1x32x128x2x4x64_S1x32x2x64x4x128_0_1_3_5_4_2) Y : FVec Ideal S1x32x2x4x128x256 .f32) (ix6 0 n v j r x)
      = ∑ d : Fin 64, Y (ix5 0 n x v d) * attCot C (hd v j) (at_ n r) d := by
  pointwise
  refine Finset.sum_congr rfl fun d _ => (mul_comm _ _).trans (congrArg (_ * ·) (congrArg C ?_))
  have e1 : (⟨n.val * 128 + r.val, by omega⟩ : Fin 4096) = at_ n r := Fin.ext (by show n.val * 128 + r.val = 128 * n.val + r.val; omega)
  have e2 : (⟨512 + (v.val * 256 + j.val * 64 + d.val), by omega⟩ : Fin 1024) = ⟨512 + (64 * (hd v j).val + d.val), by omega⟩ :=
    Fin.ext (by show 512 + (v.val * 256 + j.val * 64 + d.val) = 512 + (64 * (4 * v.val + j.val) + d.val); omega)
  exact congrArg₂ (ix3 0) e1 e2

variable (V0 : Valuation τ sig (Elt Ideal))

/-- The cotangent's columns. -/
def cot : Fin 8 → Fin 4096 → Fin 64 → EReal := attCot (V0 (Proc.devRef .tc main_arg7))

def behind : S1x32x256x2x64.Idx → EReal := (res_main_v88 V0 : FVec Ideal S1x32x256x2x64 .f32)
def joined : S1x32x2x4x128x257.Idx → EReal := (res_main_v128 V0 : FVec Ideal S1x32x2x4x128x257 .f32)

/-- The gradient of a row's weights, zero where the row reaches before the first block. -/
def wAt (n : Fin 32) (v : Fin 2) (j : Fin 4) (r : Fin 128) (x : Fin 256) : EReal :=
  ∑ d : Fin 64, behind V0 (ix5 0 n x v d) * cot V0 (hd v j) (at_ n r) d

theorem w_eq (n : Fin 32) (v : Fin 2) (j : Fin 4) (r : Fin 128) (x : Fin 256) (h : Args.sees n r x) : wAt V0 n v j r x = (args V0).dWeight (cot V0) (hd v j) n r x := by
  have hg : Args.grp (hd v j) = v := Fin.ext (by show (4 * v.val + j.val) / 4 = v.val; omega)
  unfold wAt Args.dWeight
  rw [hg]
  refine Finset.sum_congr rfl fun d _ => congrArg (· * _) ?_
  unfold behind res_main_v88
  refine (Cert.FwdRefIdeal.Hand.beside _ n x v d).trans ((if_pos h.2.2).trans ((values V0 _ _ v d).trans ?_))
  rw [Cert.FwdRefIdeal.Hand.at_place]

theorem back_in (n : Fin 32) (v : Fin 2) (j : Fin 4) (r : Fin 128) :
    (∀ x : Fin 256, (res_main_v179 V0 : FVec Ideal S1x32x2x4x128x257 .f32) (ix6 0 n v j r x.castSucc) = wAt V0 n v j r x) ∧
    (res_main_v179 V0 : FVec Ideal S1x32x2x4x128x257 .f32) (ix6 0 n v j r (Fin.last 256)) = (0 : EReal) := by
  unfold res_main_v179
  exact ⟨fun x => (with_zero _ n v j r _).trans ((dif_pos x.isLt).trans (against _ _ n v j r x)), (with_zero _ n v j r _).trans (dif_neg (by decide))⟩

theorem largest_at (n : Fin 32) (v : Fin 2) (j : Fin 4) (r : Fin 128) : (res_main_v130 V0 : FVec Ideal S1x32x2x4x128 .f32) (ix5 0 n v j r)
    = top ((args V0).score (hd v j) n r) ((args V0).z (hd v j)) := by
  unfold res_main_v130
  refine (Cert.FwdRefIdeal.Hand.largest _ n v j r).trans ?_
  rw [sink_at]
  exact congrArg (fun f => top f _) (funext fun x => scores V0 n v j r x)

theorem power_at (n : Fin 32) (v : Fin 2) (j : Fin 4) (r : Fin 128) (x : Fin 257) : (res_main_v150 V0 : FVec Ideal S1x32x2x4x128x257 .f32) (ix6 0 n v j r x)
    = Ideal.exp (joined V0 (ix6 0 n v j r x) - top ((args V0).score (hd v j) n r) ((args V0).z (hd v j))) := by
  unfold res_main_v150
  exact (Cert.FwdRefIdeal.Hand.powers _ _ n v j r x).trans (congrArg (fun y => Ideal.exp (joined V0 (ix6 0 n v j r x) - y)) (largest_at V0 n v j r))

theorem joined_s (n : Fin 32) (v : Fin 2) (j : Fin 4) (r : Fin 128) (x : Fin 256) : joined V0 (ix6 0 n v j r x.castSucc) = (args V0).score (hd v j) n r x :=
  scores V0 n v j r x
theorem joined_z (n : Fin 32) (v : Fin 2) (j : Fin 4) (r : Fin 128) : joined V0 (ix6 0 n v j r (Fin.last 256)) = (args V0).z (hd v j) := sink_at V0 n v j r

theorem keep (T : FVec Ideal S1x32x2x4x128 .f32) (n : Fin 32) (v : Fin 2) (j : Fin 4) (r : Fin 128) :
    (broadcastInDim S1x32x2x4x128x1 ![0, 1, 2, 3, 4] bcast_S1x32x2x4x128_S1x32x2x4x128x1_0_1_2_3_4 T : FVec Ideal S1x32x2x4x128x1 .f32) (ix6 0 n v j r 0) = T (ix5 0 n v j r) := by
  pointwise

theorem den_at (n : Fin 32) (v : Fin 2) (j : Fin 4) (r : Fin 128) : (res_main_v152 V0 : FVec Ideal S1x32x2x4x128x1 .f32) (ix6 0 n v j r 0)
    = den ((args V0).score (hd v j) n r) ((args V0).z (hd v j)) := by
  unfold res_main_v152
  refine (keep _ n v j r).trans ((Cert.FwdRefIdeal.Hand.totals _ n v j r).trans ?_)
  unfold den
  exact congrArg₂ (· + ·) (Finset.sum_congr rfl fun x _ => (power_at V0 n v j r _).trans (by rw [joined_s])) ((power_at V0 n v j r _).trans (by rw [joined_z]))

/-- One row's part of the gradient. -/
theorem row_at (n : Fin 32) (v : Fin 2) (j : Fin 4) (r : Fin 128) (z : ℝ) (hz : (args V0).z (hd v j) = (z : EReal)) (hf : ∀ x, (args V0).score (hd v j) n r x ≠ ⊤) :
    (res_main_v192 V0 : FVec Ideal S1x32x2x4x128x257 .f32) (ix6 0 n v j r (Fin.last 256)) = -(args V0).sinkTerm (cot V0) (hd v j) n r := by
  unfold res_main_v192
  refine (back_row _ _ n v j r _).trans ?_
  simp only [(back_in V0 n v j r).1, (back_in V0 n v j r).2, den_at, power_at, joined_s, joined_z, hz]
  refine (sink_rule _ z hf _).trans ?_
  unfold Args.sinkTerm Args.rowSum
  rw [hz]
  refine congrArg (fun y => -(_ * y)) (Finset.sum_congr rfl fun x _ => ?_)
  by_cases h : Args.sees n r x
  · rw [w_eq V0 n v j r x h]
  · have e : (args V0).score (hd v j) n r x = ⊥ := (if_neg h).trans hidden_eq
    rw [e, EReal.bot_sub]
    show (0 : EReal) * _ = 0 * _
    rw [zero_mul, zero_mul]

theorem widen (X : FVec Ideal S2x4x128 .f32) (v : Fin 2) (j : Fin 4) (r : Fin 128) :
    (broadcastInDim S1x1x2x4x128x1 ![2, 3, 4] bcast_S2x4x128_S1x1x2x4x128x1_2_3_4 X : FVec Ideal S1x1x2x4x128x1 .f32) (ix6 0 0 v j r 0) = X (ix3 v j r) := by
  pointwise

theorem at_sink (X : FVec Ideal S1x32x2x4x128x257 .f32) (n : Fin 32) (v : Fin 2) (j : Fin 4) (r : Fin 128) :
    (extractStridedSlice S1x32x2x4x128x1 ![0, 0, 0, 0, 0, 256] X slices_S1x32x2x4x128x257_S1x32x2x4x128x1_0_0_0_0_0_256 : FVec Ideal S1x32x2x4x128x1 .f32) (ix6 0 n v j r 0)
      = X (ix6 0 n v j r (Fin.last 256)) := by
  pointwise
  rfl

theorem flat (X : FVec Ideal S2x4x128 .f32) (v : Fin 2) (j : Fin 4) (r : Fin 128) :
    (shapeCast _ X shapeCasts_S2x4x128_S8x128 : FVec Ideal S8x128 .f32) (ix2 (hd v j) r) = X (ix3 v j r) := by
  pointwise
  exact congrArg₂ (fun a b => X (ix3 a b r)) (Fin.ext (by show (4 * v.val + j.val) / 4 = v.val; omega)) (Fin.ext (by show (4 * v.val + j.val) % 4 = j.val; omega))

/-- The reference's result. -/
theorem result (hz : ∀ a, ∃ z : ℝ, (args V0).z a = (z : EReal)) (hf : ∀ a n r x, (args V0).score a n r x ≠ ⊤) :
    (shapeCast _ (Host.reduceAdd (broadcastInDim S1x1x2x4x128x1 ![2, 3, 4] bcast_S2x4x128_S1x1x2x4x128x1_2_3_4 (Host.reduceAdd (extractStridedSlice S1x32x2x4x128x1 ![0, 0, 0, 0, 0, 256] (res_main_v192 V0) slices_S1x32x2x4x128x257_S1x32x2x4x128x1_0_0_0_0_0_256) (constant S_ .f32 0x00000000#32) reducesTo_S1x32x2x4x128x1_S2x4x128_d0_1_5 h_S_)) (constant S_ .f32 0x00000000#32) reducesTo_S1x1x2x4x128x1_S2x4x128_d0_1_5 h_S_) shapeCasts_S2x4x128_S8x128 : FVec Ideal S8x128 .f32)
      = fun i => ∑ n : Fin 32, -(args V0).sinkTerm (cot V0) (i 0) n (i 1) := by
  funext i
  obtain ⟨a, r, rfl⟩ : ∃ a r, i = ix2 a r := ⟨i 0, i 1, ValueIdx.eq_ix2 i⟩
  obtain ⟨v, j, rfl⟩ : ∃ v j, a = hd v j := ⟨⟨a.val / 4, by omega⟩, ⟨a.val % 4, by omega⟩, Fin.ext (by show a.val = 4 * (a.val / 4) + a.val % 4; omega)⟩
  refine (flat _ v j r).trans ((over_one _ v j r).trans ((widen _ v j r).trans ((over_blocks _ v j r).trans (Finset.sum_congr rfl fun n _ => ?_))))
  obtain ⟨z, hz⟩ := hz (hd v j)
  exact (at_sink _ n v j r).trans (row_at V0 n v j r z hz fun x => hf _ n r x)

end Cert.AttRefIdeal.Hand
-- ==== Proof.MixRefValue.lean ====
module

public import proofs.«01_k».proof.Proof.Gen.MixRefIdeal.Run
public import proofs.«01_k».proof.Proof.MixMath
public import Idealize.ShloMosaic.Lib.WordCmp

/-!
The reference's three results of the gated mixing unit, as plain sums.
-/

@[expose] public section

set_option maxRecDepth 16384

noncomputable section

namespace Cert.MixRefIdeal.Hand

open Cert.MixRefIdeal Cert.MixRefIdeal.Gen Cert.MixRefIdeal.Value
open Idealize.ShloMosaic Idealize.ShloMosaic.TcCoe Idealize.SL.Sem
open Cert.MixMath

/-- The contraction that gives the mixing weights' gradient. -/
abbrev outer : DotDims S8x1x32x64x128 S1x32x128x8x64 S8x128x128 := dot_S8x1x32x64x128_S1x32x128x8x64_S8x128x128_123_014_4_2_0_3

/-- A block and a channel of a head, as an index that contraction sums over. -/
def over (n : Fin 32) (k : Fin 64) : outer.contr.Idx := fun (p : Fin 3) =>
  match p with
  | ⟨0, _⟩ => (0 : Fin 1)
  | ⟨1, _⟩ => n
  | ⟨2, _⟩ => k

def overs : Fin 32 × Fin 64 ≃ outer.contr.Idx where
  toFun x := over x.1 x.2
  invFun p := ((p (1 : Fin 3) : Fin 32), (p (2 : Fin 3) : Fin 64))
  left_inv _ := rfl
  right_inv p := by
    funext (i : Fin 3)
    match i with
    | ⟨0, _⟩ => exact (Subsingleton.elim (α := Fin 1) _ _)
    | ⟨1, _⟩ => rfl
    | ⟨2, _⟩ => rfl

theorem outer_left (a : Fin 8) (t s : Fin 128) (n : Fin 32) (k : Fin 64) :
    outer.lhsIdx (ix3 a t s) (over n k) = ix5 a (0 : Fin 1) n k t := by
  funext i
  match i with
  | ⟨0, _⟩ => rfl
  | ⟨1, _⟩ => rfl
  | ⟨2, _⟩ => rfl
  | ⟨3, _⟩ => rfl
  | ⟨4, _⟩ => rfl

theorem outer_right (a : Fin 8) (t s : Fin 128) (n : Fin 32) (k : Fin 64) :
    outer.rhsIdx (ix3 a t s) (over n k) = ix5 (0 : Fin 1) n s a k := by
  funext i
  match i with
  | ⟨0, _⟩ => rfl
  | ⟨1, _⟩ => rfl
  | ⟨2, _⟩ => rfl
  | ⟨3, _⟩ => rfl
  | ⟨4, _⟩ => rfl

theorem outer_at (A : S8x1x32x64x128.Idx → EReal) (B : S1x32x128x8x64.Idx → EReal) (a : Fin 8) (t s : Fin 128) :
    Ideal.matmul outer A B (fun _ => 0) (ix3 a t s)
      = ∑ n : Fin 32, ∑ k : Fin 64, A (ix5 a (0 : Fin 1) n k t) * B (ix5 (0 : Fin 1) n s a k) := by
  rw [Ideal.matmul, ← Fintype.sum_equiv overs (fun x => A (outer.lhsIdx (ix3 a t s) (over x.1 x.2)) * B (outer.rhsIdx (ix3 a t s) (over x.1 x.2))) _ fun _ => rfl,
    Fintype.sum_prod_type, zero_add]
  simp only [outer_left, outer_right]

/-- A reduction at an index, over the entries `e` lists. -/
theorem reduce_over {s t : Shape} {axes : List (Fin s.rank)} (h : s.ReducesTo axes t) (x : s.Idx → EReal) (j : t.Idx)
    {α : Type} [Fintype α] (e : α → s.Idx) (back : s.Idx → α) (hb : ∀ a, back (e a) = a) (he : ∀ a, h.drop (e a) = j)
    (hi : ∀ i, h.drop i = j → e (back i) = i) : Ideal.hostReduceAdd h x 0 j = ∑ a, x (e a) := by
  rw [Ideal.hostReduceAdd, zero_add]
  exact Finset.sum_bij' (fun i _ => back i) (fun a _ => e a) (fun _ _ => Finset.mem_univ _)
    (fun a _ => Finset.mem_filter.mpr ⟨Finset.mem_univ _, he a⟩) (fun i hi' => hi i (Finset.mem_filter.mp hi').2) (fun a _ => hb a)
    (fun i hi' => by rw [hi i (Finset.mem_filter.mp hi').2])

theorem sum_chunks (x : S1x32x128x8x64.Idx → EReal) (t : Fin 128) (a : Fin 8) :
    Ideal.hostReduceAdd reducesTo_S1x32x128x8x64_S1x128x8_d1_4 x 0 (ix3 (0 : Fin 1) t a)
      = ∑ n : Fin 32, ∑ k : Fin 64, x (ix5 (0 : Fin 1) n t a k) := by
  refine (reduce_over _ x _ (α := Fin 32 × Fin 64) (fun p => ix5 (0 : Fin 1) p.1 t a p.2) (fun i => (i 1, i 4)) (fun _ => rfl) (fun p => ?_)
    fun i e => ?_).trans (Fintype.sum_prod_type _)
  · funext l
    match l with
    | ⟨0, _⟩ => rfl
    | ⟨1, _⟩ => rfl
    | ⟨2, _⟩ => rfl
  · funext l
    apply Fin.ext
    match l with
    | ⟨0, _⟩ => exact (Nat.lt_one_iff.mp (i 0).isLt).symm
    | ⟨1, _⟩ => rfl
    | ⟨2, _⟩ => exact (congrArg Fin.val (congrFun e 1)).symm
    | ⟨3, _⟩ => exact (congrArg Fin.val (congrFun e 2)).symm
    | ⟨4, _⟩ => rfl

theorem sum_ones (x : S1x1x128x8x1.Idx → EReal) (t : Fin 128) (a : Fin 8) :
    Ideal.hostReduceAdd reducesTo_S1x1x128x8x1_S128x8_d0_1_4 x 0 (ix2 t a) = x (ix5 (0 : Fin 1) (0 : Fin 1) t a (0 : Fin 1)) := by
  refine (reduce_over _ x _ (α := Unit) (fun _ => ix5 (0 : Fin 1) (0 : Fin 1) t a (0 : Fin 1)) (fun _ => ()) (fun _ => rfl) (fun _ => ?_)
    fun i e => ?_).trans (Fintype.sum_unique _)
  · funext l
    match l with
    | ⟨0, _⟩ => rfl
    | ⟨1, _⟩ => rfl
  · funext l
    apply Fin.ext
    match l with
    | ⟨0, _⟩ => exact (Nat.lt_one_iff.mp (i 0).isLt).symm
    | ⟨1, _⟩ => exact (Nat.lt_one_iff.mp (i 1).isLt).symm
    | ⟨2, _⟩ => exact (congrArg Fin.val (congrFun e 0)).symm
    | ⟨3, _⟩ => exact (congrArg Fin.val (congrFun e 1)).symm
    | ⟨4, _⟩ => exact (Nat.lt_one_iff.mp (i 4).isLt).symm

theorem sum_ones' (x : S1x1x512.Idx → EReal) (d : Fin 512) :
    Ideal.hostReduceAdd reducesTo_S1x1x512_S512_d0_1 x 0 (ix1 d) = x (ix3 (0 : Fin 1) (0 : Fin 1) d) := by
  refine (reduce_over _ x _ (α := Unit) (fun _ => ix3 (0 : Fin 1) (0 : Fin 1) d) (fun _ => ()) (fun _ => rfl) (fun _ => ?_)
    fun i e => ?_).trans (Fintype.sum_unique _)
  · funext l
    match l with
    | ⟨0, _⟩ => rfl
  · funext l
    apply Fin.ext
    match l with
    | ⟨0, _⟩ => exact (Nat.lt_one_iff.mp (i 0).isLt).symm
    | ⟨1, _⟩ => exact (Nat.lt_one_iff.mp (i 1).isLt).symm
    | ⟨2, _⟩ => exact (congrArg Fin.val (congrFun e 0)).symm

variable (m : (ℓ : Loc nD τ sig) → Buf (Elt Ideal) ℓ) (c : Dev nD)

/-- The reference's arguments. -/
def args : Args where
  u i d := (m ((c : Thread nD τ).loc main_arg0) : Vec Ideal S1x4096x1792 .f32) (ix3 0 i (⟨d.val, by omega⟩ : Fin 1792))
  v i d := (m ((c : Thread nD τ).loc main_arg0) : Vec Ideal S1x4096x1792 .f32) (ix3 0 i (⟨512 + d.val, by omega⟩ : Fin 1792))
  dout i d := (m ((c : Thread nD τ).loc main_arg7) : Vec Ideal S1x4096x1024 .f32) (ix3 0 i (⟨d.val, by omega⟩ : Fin 1024))
  g d := (m ((c : Thread nD τ).loc main_arg2) : Vec Ideal S1x512 .f32) (ix2 0 d)
  b d := (m ((c : Thread nD τ).loc main_arg3) : Vec Ideal S1x512 .f32) (ix2 0 d)
  w a t s := (m ((c : Thread nD τ).loc main_arg4) : Vec Ideal S1x8x128x128 .f32) (ix4 0 a t s)

theorem mask_at (x : EReal) (t s : Fin 128) :
    Scalar.select (IntOp.cmpi CmpIPredicate.sge (IntOp.addi (BitVec.ofNat 32 t.val) 0#32) (BitVec.ofNat 32 s.val)) x 0
      = if s.val ≤ t.val then x else 0 := by
  have e : IntOp.addi (BitVec.ofNat 32 t.val) 0#32 = BitVec.ofNat 32 t.val := by simp [IntOp.addi]
  rw [e, Idealize.ShloMosaic.WordCmp.cmpi_sge_ofNat (by omega) (by omega), Idealize.ShloMosaic.WordCmp.select_ofBool]
  simp only [decide_eq_true_eq]

/-- The mixing weights' gradient. -/
theorem value_dw : (res_main_v97 m c : FVec Ideal S8x128x128 .bf16) = fun j => (args m c).dw (j 0) (j 1) (j 2) := by
  funext j
  obtain ⟨a, t, s, rfl⟩ : ∃ (a : Fin 8) (t s : Fin 128), j = ix3 a t s := ⟨j 0, j 1, j 2, ValueIdx.eq_ix3 j⟩
  unfold res_main_v97
  pointwise [outer_at]
  exact mask_at _ t s

theorem rows_at (r0 r1 : FVec Ideal S1x512 .f32) (z : FVec Ideal S6x512 .f32) (i : Fin 8) (d : Fin 512) (x y : EReal)
    (h0 : r0 (ix2 0 d) = x) (h1 : r1 (ix2 0 d) = y) (h2 : ∀ k : Fin 6, z (ix2 k d) = 0) :
    (concatenate S8x512 0 [⟨S1x512, r0⟩, ⟨S1x512, r1⟩, ⟨S6x512, z⟩] concatenates_S1x512_S1x512_S6x512_S8x512_d0 : FVec Ideal S8x512 .f32) (ix2 i d)
      = if i.val = 0 then x else if i.val = 1 then y else 0 := by
  rcases (by omega : i.val = 0 ∨ i.val = 1 ∨ 2 ≤ i.val) with e | e | e
  · obtain rfl : i = 0 := Fin.ext e
    pointwise
    exact h0
  · obtain rfl : i = 1 := Fin.ext e
    pointwise
    exact h1
  · rw [if_neg (by omega), if_neg (by omega)]
    pointwise
    rw [dif_neg (by omega), dif_neg (by omega)]
    exact h2 _

/-- A row that sums over the tokens. -/
theorem row_sum (x : FVec Ideal S1x4096x512 .f32) (d : Fin 512) :
    (broadcastInDim S1x512 ![1] bcast_S512_S1x512_1 (Host.reduceAdd (shapeCast S1x1x512 (Host.reduceAdd x (constant S_ .f32 0x00000000#32)
      reducesTo_S1x4096x512_S1x512_d1 h_S_) shapeCasts_S1x512_S1x1x512) (constant S_ .f32 0x00000000#32) reducesTo_S1x1x512_S512_d0_1 h_S_)
        : FVec Ideal S1x512 .f32) (ix2 0 d) = ∑ r : Fin 4096, x (ix3 0 r d) := by
  pointwise [sum_ones']

/-- The gradient at the normalized gate features, from the mixed features' gradient and the masked weights. -/
theorem dv_at (x : FVec Ideal S1x32x128x8x64 .f32) (w : FVec Ideal S8x128x128 .f32) (i : Fin 4096) (d : Fin 512) :
    (shapeCast S1x4096x512 (transpose S1x32x128x8x64 [1, 2, 4, 0, 3]
      (Host.dotGeneral dot_S8x1x32x64x128_S8x128x128_S8x1x32x64x128_4_1_123_2_0_0 none
        (transpose S8x1x32x64x128 [3, 0, 1, 4, 2] x transposes_S1x32x128x8x64_S8x1x32x64x128_3_0_1_4_2) w)
      transposes_S8x1x32x64x128_S1x32x128x8x64_1_2_4_0_3) shapeCasts_S1x32x128x8x64_S1x4096x512 : FVec Ideal S1x4096x512 .f32) (ix3 0 i d)
    = ∑ t : Fin 128, x (ix5 (0 : Fin 1) (⟨i.val / 128, by omega⟩ : Fin 32) t (⟨d.val / 64, by omega⟩ : Fin 8) (⟨d.val % 64, by omega⟩ : Fin 64))
        * w (ix3 (⟨d.val / 64, by omega⟩ : Fin 8) t (⟨i.val % 128, by omega⟩ : Fin 128)) := by
  pointwise

/-- The masked weights. -/
theorem wmask_at (w : FVec Ideal S1x8x128x128 .f32) (a : Fin 8) (t s : Fin 128) :
    (mulf (shapeCast S8x128x128 w shapeCasts_S1x8x128x128_S8x128x128) (broadcastInDim S8x128x128 ![0, 1, 2] bcast_S1x128x128_S8x128x128_0_1_2
      (broadcastInDim S1x128x128 ![1, 2] bcast_S128x128_S1x128x128_1_2 (select (cmpi .sge (addi (iotaInDim S128x128 32 0)
        (broadcastInDim S128x128 ![] bcast_S_S128x128 (constantI S_ 32 0#32))) (iotaInDim S128x128 32 1))
        (broadcastInDim S128x128 ![] bcast_S_S128x128 (constant S_ .f32 0x3F800000#32))
        (broadcastInDim S128x128 ![] bcast_S_S128x128 (constant S_ .f32 0x00000000#32))))) : FVec Ideal S8x128x128 .f32) (ix3 a t s)
      = if s.val ≤ t.val then w (ix4 (0 : Fin 1) a t s) else 0 := by
  pointwise
  exact mask_at _ t s

/-- The features normalized, before scale and shift. -/
theorem norm_at (x : FVec Ideal S1x4096x512 .f32) (i : Fin 4096) (d : Fin 512) :
    (mulf (subf x (broadcastInDim S1x4096x512 ![0, 1, 2] bcast_S1x4096x1_S1x4096x512_0_1_2 (Host.divf (broadcastInDim S1x4096x1 ![0, 1] bcast_S1x4096_S1x4096x1_0_1
        (Host.reduceAdd x (constant S_ .f32 0x00000000#32) reducesTo_S1x4096x512_S1x4096_d2 h_S_))
        (broadcastInDim S1x4096x1 ![] bcast_S_S1x4096x1 (constant S_ .f32 0x44000000#32)))))
      (broadcastInDim S1x4096x512 ![0, 1, 2] bcast_S1x4096x1_S1x4096x512_0_1_2 (Host.rsqrt (addf (Host.divf
        (broadcastInDim S1x4096x1 ![0, 1] bcast_S1x4096_S1x4096x1_0_1 (Host.reduceAdd (mulf (subf x (broadcastInDim S1x4096x512 ![0, 1, 2] bcast_S1x4096x1_S1x4096x512_0_1_2 (Host.divf (broadcastInDim S1x4096x1 ![0, 1] bcast_S1x4096_S1x4096x1_0_1
        (Host.reduceAdd x (constant S_ .f32 0x00000000#32) reducesTo_S1x4096x512_S1x4096_d2 h_S_))
        (broadcastInDim S1x4096x1 ![] bcast_S_S1x4096x1 (constant S_ .f32 0x44000000#32))))) (subf x (broadcastInDim S1x4096x512 ![0, 1, 2] bcast_S1x4096x1_S1x4096x512_0_1_2 (Host.divf (broadcastInDim S1x4096x1 ![0, 1] bcast_S1x4096_S1x4096x1_0_1
        (Host.reduceAdd x (constant S_ .f32 0x00000000#32) reducesTo_S1x4096x512_S1x4096_d2 h_S_))
        (broadcastInDim S1x4096x1 ![] bcast_S_S1x4096x1 (constant S_ .f32 0x44000000#32))))))
          (constant S_ .f32 0x00000000#32) reducesTo_S1x4096x512_S1x4096_d2 h_S_))
        (broadcastInDim S1x4096x1 ![] bcast_S_S1x4096x1 (constant S_ .f32 0x44000000#32)))
        (broadcastInDim S1x4096x1 ![] bcast_S_S1x4096x1 (constant S_ .f32 0x3727C5AC#32))))) : FVec Ideal S1x4096x512 .f32) (ix3 0 i d)
      = norm (fun k => x (ix3 0 i k)) d := by
  pointwise
  rfl

/-- Row `i` of the norm's gradients. -/
theorem value_dln : (res_main_v100 m c : FVec Ideal S8x512 .f32) = fun j => (args m c).dln (j 0) (j 1) := by
  funext j
  obtain ⟨i, d, rfl⟩ : ∃ (i : Fin 8) (d : Fin 512), j = ix2 i d := ⟨j 0, j 1, ValueIdx.eq_ix2 j⟩
  unfold res_main_v100
  refine rows_at _ _ _ i d _ _ ((row_sum _ d).trans (Finset.sum_congr rfl fun r _ => ?_))
    ((row_sum _ d).trans (Finset.sum_congr rfl fun r _ => ?_)) fun k => ?_
  · refine congrArg₂ (· * ·) ?_ ((dv_at _ _ r d).trans (Finset.sum_congr rfl fun t _ => congrArg₂ (· * ·) ?_ (wmask_at _ _ _ _)))
    · refine (norm_at _ r d).trans (congrArg (fun f => norm f d) (funext fun k => ?_))
      pointwise
      rfl
    · pointwise
      rfl
  · refine (dv_at _ _ r d).trans (Finset.sum_congr rfl fun t _ => congrArg₂ (· * ·) ?_ (wmask_at _ _ _ _))
    pointwise
    rfl
  · pointwise

/-- What every run of the reference leaves in its results. -/
theorem results (ρ : Dev nD → PrngReg) : θ_run defs (onTc (τ := τ) (main (F := Ideal))) ⟨m, fun _ => 0, ρ⟩ fun r => ∀ c : Dev nD,
    r.2.mem ((c.tc : Thread nD τ).loc main_v97) = (fun j : S8x128x128.Idx => (args m c).dw (j 0) (j 1) (j 2))
    ∧ r.2.mem ((c.tc : Thread nD τ).loc main_v98) = (fun j : S8x128.Idx => (args m c).db (j 0) (j 1))
    ∧ r.2.mem ((c.tc : Thread nD τ).loc main_v100) = (fun j : S8x512.Idx => (args m c).dln (j 0) (j 1)) := by
  refine (θ_run defs _ _).mono (fun r h c => ⟨(h c).1.trans (value_dw m c), (h c).2.1.trans ?_, (h c).2.2.1.trans (value_dln m c)⟩)
    (Value.run m ρ)
  funext j
  obtain ⟨a, t, rfl⟩ : ∃ (a : Fin 8) (t : Fin 128), j = ix2 a t := ⟨j 0, j 1, ValueIdx.eq_ix2 j⟩
  pointwise [sum_ones, sum_chunks]
  rfl

end Cert.MixRefIdeal.Hand
-- ==== Proof.OutMath.lean ====
module

public import Idealize.ShloMosaic.Lib.Pointwise

/-!
The mixing layer's output projection as plain functions of tokens and channels:
the scaled residual plus the projection, normalized over the channels.
-/

@[expose] public section

noncomputable section

namespace Cert.OutMath

open Idealize.ShloMosaic
open scoped BigOperators

/-- The corner at which a whole block begins. -/
theorem zeros2 : (![0, 0] : Fin 2 → ℕ) = fun _ => 0 :=
  funext fun i => match i with
    | ⟨0, _⟩ => rfl
    | ⟨1, _⟩ => rfl

/-- A place of a block is a row and a column. -/
theorem place_split {a b : ℕ} (y : (⟨2, ![a, b]⟩ : Shape).Idx) : y = ix2 (n0 := a) (n1 := b) (y 0) (y 1) :=
  funext fun i => match i with
    | ⟨0, _⟩ => rfl
    | ⟨1, _⟩ => rfl

/-- The mean over the 1024 channels. -/
def mean (f : Fin 1024 → EReal) : EReal := Ideal.div (∑ k, f k) (Ideal.ofBits FTy.f32 1149239296#32)

/-- The reciprocal deviation over the 1024 channels. -/
def rdev (f : Fin 1024 → EReal) : EReal :=
  Ideal.rsqrt (mean (fun k => (f k - mean f) * (f k - mean f)) + Ideal.ofBits FTy.f32 925353388#32)

/-- The arguments: mixed channels, residual stream, projection, and the norm's scale and shift. -/
structure Args where
  y : Fin 4096 → Fin 1024 → EReal
  x : Fin 4096 → Fin 1024 → EReal
  w : Fin 1024 → Fin 1024 → EReal
  g : Fin 1024 → EReal
  b : Fin 1024 → EReal

namespace Args
variable (A : Args)

/-- The sum that is normalized. -/
def sum (i : Fin 4096) (k : Fin 1024) : EReal := Ideal.ofBits FTy.f32 1066940400#32 * A.x i k + ∑ c, A.y i c * A.w c k
/-- A token's reciprocal deviation. -/
def rstd (i : Fin 4096) : EReal := rdev (A.sum i)
/-- A token's channels, normalized. -/
def xhat (i : Fin 4096) (k : Fin 1024) : EReal := (A.sum i k - mean (A.sum i)) * A.rstd i
/-- A token's channels, normalized, scaled and shifted. -/
def out (i : Fin 4096) (k : Fin 1024) : EReal := A.xhat i k * A.g k + A.b k

end Args

end Cert.OutMath
-- ==== Proof.OutValue.lean ====
module

public import proofs.«01_k».proof.Proof.OutMath
public import proofs.«01_k».proof.Proof.Gen.OutIdeal.Frame
public import Idealize.ShloMosaic.Lib.Pipeline.Value
public import Idealize.ShloMosaic.Lib.Pipeline.ValueKit
public import Idealize.ShloMosaic.Lib.StableHlo.RunRead

/-!
The output projection's three results, from the program's arguments.
-/

@[expose] public section

set_option maxRecDepth 16384

noncomputable section

namespace Cert.OutIdeal.Hand

open Cert.OutIdeal Cert.OutIdeal.Gen
open Idealize.ShloMosaic Idealize.ShloMosaic.TcCoe Idealize.ShloMosaic.Tactic Idealize.SL.Sem
open Idealize.ShloMosaic.Pipeline (Dat)
open Cert.OutMath
open scoped BigOperators

variable (m : (ℓ : Loc nD τ sig) → Buf (Elt Ideal) ℓ) (c : Dev nD)

/-- The arguments, by their places. -/
def args : Args where
  y i k := (m ((c : Thread nD τ).loc main_arg0) : Vec Ideal S1x4096x1024 .f32) (ix3 0 i k)
  x i k := (m ((c : Thread nD τ).loc main_arg1) : Vec Ideal S1x4096x1024 .f32) (ix3 0 i k)
  w d k := (m ((c : Thread nD τ).loc main_arg2) : Vec Ideal S1x1024x1024 .f32) (ix3 0 d k)
  g k := (m ((c : Thread nD τ).loc main_arg3) : Vec Ideal S1x1024 .f32) (ix2 0 k)
  b k := (m ((c : Thread nD τ).loc main_arg4) : Vec Ideal S1x1024 .f32) (ix2 0 k)

theorem mixed (k : Fin 1024) (i : Fin 4096) : (V m c main_v2 : Vec Ideal S1024x4096 .bf16) (ix2 k i) = (args m c).y i k := by
  show StableHlo.after _ _ _ _ = _
  after_reads_simp
  pointwise
  rfl

theorem stream (i : Fin 4096) (k : Fin 1024) : (V m c main_v3 : Vec Ideal S4096x1024 .f32) (ix2 i k) = (args m c).x i k := by
  show StableHlo.after _ _ _ _ = _
  after_reads_simp
  pointwise
  rfl

theorem weights (d k : Fin 1024) : (V m c main_v5 : Vec Ideal S1024x1024 .bf16) (ix2 d k) = (args m c).w d k := by
  show StableHlo.after _ _ _ _ = _
  after_reads_simp
  pointwise
  rfl

theorem scale (k : Fin 1024) : (V m c main_arg3 : Vec Ideal S1x1024 .f32) (ix2 0 k) = (args m c).g k := by
  show StableHlo.after _ _ _ _ = _
  after_reads_simp
  rfl

theorem shift (k : Fin 1024) : (V m c main_arg4 : Vec Ideal S1x1024 .f32) (ix2 0 k) = (args m c).b k := by
  show StableHlo.after _ _ _ _ = _
  after_reads_simp
  rfl

/-- The token in row `x` of point `t`'s blocks. -/
def tokAt (t : Fin cfg0.N) (x : Fin 512) : Fin 4096 :=
  ⟨t.val * 512 + x.val, by have := t.isLt; have : cfg0.N = 8 := N_0; have := x.isLt; omega⟩

theorem idx : ∀ t : Fin cfg0.N, win0_0.index t = ![0, t.val] ∧ win0_1.index t = ![t.val, 0] ∧ win0_2.index t = ![0, 0]
    ∧ win0_3.index t = ![0, 0] ∧ win0_4.index t = ![0, 0] :=
  (by decide +kernel : ∀ t : Fin grid0.N, _)

theorem idxOut : ∀ t : Fin cfg0.N, win0_5.index t = ![t.val, 0] ∧ win0_6.index t = ![t.val, 0] ∧ win0_7.index t = ![t.val, 0] :=
  (by decide +kernel : ∀ t : Fin grid0.N, _)

theorem block0 (t : Fin cfg0.N) (k : Fin 1024) (x : Fin 512) :
    (iblk m c 0 t : Vec Ideal S1024x512 .bf16) (ix2 k x) = (V m c main_v2 : Vec Ideal S1024x4096 .bf16) (ix2 k (tokAt t x)) := by
  blk_ext [iblk, idx t, tokAt]

theorem block1 (t : Fin cfg0.N) (x : Fin 512) (k : Fin 1024) :
    (iblk m c 1 t : Vec Ideal S512x1024 .f32) (ix2 x k) = (V m c main_v3 : Vec Ideal S4096x1024 .f32) (ix2 (tokAt t x) k) := by
  blk_ext [iblk, idx t, tokAt]

theorem block2 (t : Fin cfg0.N) (d k : Fin 1024) :
    (iblk m c 2 t : Vec Ideal S1024x1024 .bf16) (ix2 d k) = (V m c main_v5 : Vec Ideal S1024x1024 .bf16) (ix2 d k) := by
  blk_ext [iblk, idx t]

theorem block3 (t : Fin cfg0.N) (k : Fin 1024) :
    (iblk m c 3 t : Vec Ideal S1x1024 .f32) (ix2 0 k) = (V m c main_arg3 : Vec Ideal S1x1024 .f32) (ix2 0 k) := by
  blk_ext [iblk, idx t]

theorem block4 (t : Fin cfg0.N) (k : Fin 1024) :
    (iblk m c 4 t : Vec Ideal S1x1024 .f32) (ix2 0 k) = (V m c main_arg4 : Vec Ideal S1x1024 .f32) (ix2 0 k) := by
  blk_ext [iblk, idx t]

section Rows

variable (x : Vec Ideal S512x1024 .f32) (y : Vec Ideal S1024x512 .bf16) (w : Vec Ideal S1024x1024 .bf16)

/-- Row `r` of a block's sums. -/
def rowSum (r : Fin 512) (k : Fin 1024) : EReal := Ideal.ofBits FTy.f32 1066940400#32 * x (ix2 r k) + ∑ d : Fin 1024, y (ix2 d r) * w (ix2 d k)

theorem centered_at (r : Fin 512) (k : Fin 1024) : k0_pay1 x y w (ix2 r k) = rowSum x y w r k - mean (rowSum x y w r) := by
  pointwise [k0_pay1]
  rfl

theorem rdev_at (r : Fin 512) : k0_pay2 x y w (ix2 r 0) = rdev (rowSum x y w r) := by
  pointwise [k0_pay2, centered_at]
  rfl

theorem unit_at (r : Fin 512) (k : Fin 1024) : k0_pay3 x y w (ix2 r k) = (rowSum x y w r k - mean (rowSum x y w r)) * rdev (rowSum x y w r) := by
  pointwise [k0_pay3, centered_at, rdev_at]

theorem out_at (g b : Vec Ideal S1x1024 .f32) (r : Fin 512) (k : Fin 1024) :
    k0_pay4 x y w g b (ix2 r k) = (rowSum x y w r k - mean (rowSum x y w r)) * rdev (rowSum x y w r) * g (ix2 0 k) + b (ix2 0 k) := by
  pointwise [k0_pay4, unit_at]

end Rows

theorem rowSum_eq (t : Fin cfg0.N) (r : Fin 512) : rowSum (iblk m c 1 t) (iblk m c 0 t) (iblk m c 2 t) r = (args m c).sum (tokAt t r) :=
  funext fun k => congrArg₂ (· + ·) (congrArg (_ * ·) ((block1 m c t r k).trans (stream m c _ k)))
    (Finset.sum_congr rfl fun d _ => congrArg₂ (· * ·) ((block0 m c t d r).trans (mixed m c d _)) ((block2 m c t d k).trans (weights m c d k)))

/-- The normalized rows a point writes. -/
theorem xhat_at (t : Fin cfg0.N) (r : Fin 512) (k : Fin 1024) : (dats m 0 c).after 5 t (ix2 r k) = (args m c).xhat (tokAt t r) k := by
  rw [after0_5]
  unfold out0_5
  rw [View.canon_unit_zero zeros2, View.ld_unit_zero zeros2, View.ld_unit_zero zeros2, View.ld_unit_zero zeros2]
  refine (unit_at (iblk m c 1 t) (iblk m c 0 t) (iblk m c 2 t) r k).trans ?_
  rw [rowSum_eq]
  rfl

/-- The reciprocal deviations a point writes. -/
theorem rstd_at (t : Fin cfg0.N) (r : Fin 512) : (dats m 0 c).after 6 t (ix2 r 0) = (args m c).rstd (tokAt t r) := by
  rw [after0_6]
  unfold out0_6
  rw [View.canon_unit_zero zeros2, View.ld_unit_zero zeros2, View.ld_unit_zero zeros2, View.ld_unit_zero zeros2]
  refine (rdev_at (iblk m c 1 t) (iblk m c 0 t) (iblk m c 2 t) r).trans ?_
  rw [rowSum_eq]
  rfl

/-- The scaled and shifted rows a point writes. -/
theorem rows_at (t : Fin cfg0.N) (r : Fin 512) (k : Fin 1024) : (dats m 0 c).after 7 t (ix2 r k) = (args m c).out (tokAt t r) k := by
  rw [after0_7]
  unfold out0_7
  rw [View.canon_unit_zero zeros2, View.ld_unit_zero zeros2, View.ld_unit_zero zeros2, View.ld_unit_zero zeros2, View.ld_unit_zero zeros2,
    View.ld_unit_zero zeros2]
  refine (out_at (iblk m c 1 t) (iblk m c 0 t) (iblk m c 2 t) (iblk m c 3 t) (iblk m c 4 t) r k).trans ?_
  rw [rowSum_eq, block3, block4, scale, shift]
  rfl

/-- The normalized rows, in the end. -/
theorem final_xhat : (dats m 0 c).arrAt 5 cfg0.N = (fun j : S4096x1024.Idx => (args m c).xhat (j 0) (j 1)) := by
  refine (dats m 0 c).arrAt_eq_of_covers 5 _ (by decide +kernel) fun t hf y => ?_
  have e0 : (((cfg0.win 5).blk t).view.emb y 0 : Fin 4096) = tokAt t (y 0) := Fin.ext (by blk_simp [idxOut t]; simp only [tokAt])
  have e1 : (((cfg0.win 5).blk t).view.emb y 1 : Fin 1024) = y 1 := Fin.ext (by blk_simp [idxOut t])
  have hv := xhat_at m c t (y 0) (y 1)
  rw [← place_split (a := 512) (b := 1024) y] at hv
  refine Eq.trans hv ?_
  rw [← e0, ← e1]

/-- The reciprocal deviations, in the end. -/
theorem final_rstd : (dats m 0 c).arrAt 6 cfg0.N = (fun j : S4096x1.Idx => (args m c).rstd (j 0)) := by
  refine (dats m 0 c).arrAt_eq_of_covers 6 _ (by decide +kernel) fun t hf y => ?_
  have e0 : (((cfg0.win 6).blk t).view.emb y 0 : Fin 4096) = tokAt t (y 0) := Fin.ext (by blk_simp [idxOut t]; simp only [tokAt])
  have hv := rstd_at m c t (y 0)
  have hy : ∀ q : S512x1.Idx, q = ix2 (n0 := 512) (n1 := 1) (q 0) 0 := fun q =>
    (place_split (a := 512) (b := 1) q).trans (congrArg (ix2 (n0 := 512) (n1 := 1) (q 0)) (Subsingleton.elim (α := Fin 1) _ _))
  rw [← hy y] at hv
  refine Eq.trans hv ?_
  rw [← e0]

/-- The scaled and shifted rows, in the end. -/
theorem final_out : (dats m 0 c).arrAt 7 cfg0.N = (fun j : S4096x1024.Idx => (args m c).out (j 0) (j 1)) := by
  refine (dats m 0 c).arrAt_eq_of_covers 7 _ (by decide +kernel) fun t hf y => ?_
  have e0 : (((cfg0.win 7).blk t).view.emb y 0 : Fin 4096) = tokAt t (y 0) := Fin.ext (by blk_simp [idxOut t]; simp only [tokAt])
  have e1 : (((cfg0.win 7).blk t).view.emb y 1 : Fin 1024) = y 1 := Fin.ext (by blk_simp [idxOut t])
  have hv := rows_at m c t (y 0) (y 1)
  rw [← place_split (a := 512) (b := 1024) y] at hv
  refine Eq.trans hv ?_
  rw [← e0, ← e1]

end Cert.OutIdeal.Hand
-- ==== Proof.OutRefValue.lean ====
module

public import proofs.«01_k».proof.Proof.OutMath
public import proofs.«01_k».proof.Proof.Gen.OutRefIdeal.Run

/-!
The reference output projection's three results, from the program's arguments.
-/

@[expose] public section

set_option maxRecDepth 16384

noncomputable section

namespace Cert.OutRefIdeal.Hand

open Cert.OutRefIdeal Cert.OutRefIdeal.Gen Cert.OutRefIdeal.Value
open Idealize.ShloMosaic Idealize.ShloMosaic.TcCoe Idealize.SL.Sem
open Cert.OutMath
open scoped BigOperators

/-- The arguments, by their places. -/
def args (m : (ℓ : Loc nD τ sig) → Buf (Elt Ideal) ℓ) (c : Dev nD) : Args where
  y i k := (m ((c : Thread nD τ).loc main_arg0) : Vec Ideal S1x4096x1024 .f32) (ix3 0 i k)
  x i k := (m ((c : Thread nD τ).loc main_arg1) : Vec Ideal S1x4096x1024 .f32) (ix3 0 i k)
  w d k := (m ((c : Thread nD τ).loc main_arg2) : Vec Ideal S1x1024x1024 .f32) (ix3 0 d k)
  g k := (m ((c : Thread nD τ).loc main_arg3) : Vec Ideal S1x1024 .f32) (ix2 0 k)
  b k := (m ((c : Thread nD τ).loc main_arg4) : Vec Ideal S1x1024 .f32) (ix2 0 k)

/-- The centred rows. -/
theorem centered_at (z : FVec Ideal S1x4096x1024 .f32) (i : Fin 4096) (k : Fin 1024) :
    ((subf z (broadcastInDim S1x4096x1024 ![0, 1, 2] bcast_S1x4096x1_S1x4096x1024_0_1_2 (Host.divf (broadcastInDim S1x4096x1 ![0, 1] bcast_S1x4096_S1x4096x1_0_1
      (Host.reduceAdd z (constant S_ .f32 0x00000000#32) reducesTo_S1x4096x1024_S1x4096_d2 h_S_))
      (broadcastInDim S1x4096x1 ![] bcast_S_S1x4096x1 (constant S_ .f32 0x44800000#32))))) : FVec Ideal S1x4096x1024 .f32) (ix3 0 i k)
      = z (ix3 0 i k) - mean (fun k => z (ix3 0 i k)) := by
  pointwise
  rfl

/-- The rows' reciprocal deviations. -/
theorem rdev_at (z : FVec Ideal S1x4096x1024 .f32) (i : Fin 4096) :
    ((Host.rsqrt (addf (Host.divf (broadcastInDim S1x4096x1 ![0, 1] bcast_S1x4096_S1x4096x1_0_1
      (Host.reduceAdd (mulf (subf z (broadcastInDim S1x4096x1024 ![0, 1, 2] bcast_S1x4096x1_S1x4096x1024_0_1_2 (Host.divf (broadcastInDim S1x4096x1 ![0, 1] bcast_S1x4096_S1x4096x1_0_1
      (Host.reduceAdd z (constant S_ .f32 0x00000000#32) reducesTo_S1x4096x1024_S1x4096_d2 h_S_))
      (broadcastInDim S1x4096x1 ![] bcast_S_S1x4096x1 (constant S_ .f32 0x44800000#32))))) (subf z (broadcastInDim S1x4096x1024 ![0, 1, 2] bcast_S1x4096x1_S1x4096x1024_0_1_2 (Host.divf (broadcastInDim S1x4096x1 ![0, 1] bcast_S1x4096_S1x4096x1_0_1
      (Host.reduceAdd z (constant S_ .f32 0x00000000#32) reducesTo_S1x4096x1024_S1x4096_d2 h_S_))
      (broadcastInDim S1x4096x1 ![] bcast_S_S1x4096x1 (constant S_ .f32 0x44800000#32)))))) (constant S_ .f32 0x00000000#32) reducesTo_S1x4096x1024_S1x4096_d2 h_S_))
      (broadcastInDim S1x4096x1 ![] bcast_S_S1x4096x1 (constant S_ .f32 0x44800000#32))) (broadcastInDim S1x4096x1 ![] bcast_S_S1x4096x1 (constant S_ .f32 0x3727C5AC#32)))) : FVec Ideal S1x4096x1 .f32) (ix3 0 i 0)
      = rdev (fun k => z (ix3 0 i k)) := by
  pointwise [centered_at]
  rfl

/-- The normalized rows. -/
theorem unit_at (z : FVec Ideal S1x4096x1024 .f32) (i : Fin 4096) (k : Fin 1024) :
    ((mulf (subf z (broadcastInDim S1x4096x1024 ![0, 1, 2] bcast_S1x4096x1_S1x4096x1024_0_1_2 (Host.divf (broadcastInDim S1x4096x1 ![0, 1] bcast_S1x4096_S1x4096x1_0_1
      (Host.reduceAdd z (constant S_ .f32 0x00000000#32) reducesTo_S1x4096x1024_S1x4096_d2 h_S_))
      (broadcastInDim S1x4096x1 ![] bcast_S_S1x4096x1 (constant S_ .f32 0x44800000#32))))) (broadcastInDim S1x4096x1024 ![0, 1, 2] bcast_S1x4096x1_S1x4096x1024_0_1_2 (Host.rsqrt (addf (Host.divf (broadcastInDim S1x4096x1 ![0, 1] bcast_S1x4096_S1x4096x1_0_1
      (Host.reduceAdd (mulf (subf z (broadcastInDim S1x4096x1024 ![0, 1, 2] bcast_S1x4096x1_S1x4096x1024_0_1_2 (Host.divf (broadcastInDim S1x4096x1 ![0, 1] bcast_S1x4096_S1x4096x1_0_1
      (Host.reduceAdd z (constant S_ .f32 0x00000000#32) reducesTo_S1x4096x1024_S1x4096_d2 h_S_))
      (broadcastInDim S1x4096x1 ![] bcast_S_S1x4096x1 (constant S_ .f32 0x44800000#32))))) (subf z (broadcastInDim S1x4096x1024 ![0, 1, 2] bcast_S1x4096x1_S1x4096x1024_0_1_2 (Host.divf (broadcastInDim S1x4096x1 ![0, 1] bcast_S1x4096_S1x4096x1_0_1
      (Host.reduceAdd z (constant S_ .f32 0x00000000#32) reducesTo_S1x4096x1024_S1x4096_d2 h_S_))
      (broadcastInDim S1x4096x1 ![] bcast_S_S1x4096x1 (constant S_ .f32 0x44800000#32)))))) (constant S_ .f32 0x00000000#32) reducesTo_S1x4096x1024_S1x4096_d2 h_S_))
      (broadcastInDim S1x4096x1 ![] bcast_S_S1x4096x1 (constant S_ .f32 0x44800000#32))) (broadcastInDim S1x4096x1 ![] bcast_S_S1x4096x1 (constant S_ .f32 0x3727C5AC#32)))))) : FVec Ideal S1x4096x1024 .f32) (ix3 0 i k)
      = (z (ix3 0 i k) - mean (fun k => z (ix3 0 i k))) * rdev (fun k => z (ix3 0 i k)) := by
  pointwise [centered_at, rdev_at]
  rfl

/-- An array of rows laid flat. -/
theorem flat_at (z : FVec Ideal S1x4096x1024 .f32) (i : Fin 4096) (k : Fin 1024) :
    (shapeCast S4096x1024 z shapeCasts_S1x4096x1024_S4096x1024 : FVec Ideal S4096x1024 .f32) (ix2 i k) = z (ix3 0 i k) := by
  pointwise

/-- The same, narrowed: narrowing keeps the number. -/
theorem narrow_at (z : FVec Ideal S1x4096x1024 .f32) (i : Fin 4096) (k : Fin 1024) :
    (truncf .bf16 (shapeCast S4096x1024 z shapeCasts_S1x4096x1024_S4096x1024) bitsLt_bf16_f32 : FVec Ideal S4096x1024 .bf16) (ix2 i k) = z (ix3 0 i k) :=
  flat_at z i k

/-- A column laid flat. -/
theorem flat_col (z : FVec Ideal S1x4096x1 .f32) (i : Fin 4096) :
    (shapeCast S4096x1 z shapeCasts_S1x4096x1_S4096x1 : FVec Ideal S4096x1 .f32) (ix2 i 0) = z (ix3 0 i 0) := by
  pointwise

/-- The sums that are normalized. -/
theorem sum_at (y x : FVec Ideal S1x4096x1024 .f32) (w : FVec Ideal S1x1024x1024 .f32) (i : Fin 4096) (k : Fin 1024) :
    (addf (mulf (broadcastInDim S1x4096x1024 ![] bcast_S_S1x4096x1024 (constant S_ .f32 0x3F9837F0#32)) x)
      (Host.dotGeneral dot_S1x4096x1024_S1024x1024_S1x4096x1024_2_0_01_1_n_n none y
        (shapeCast S1024x1024 w shapeCasts_S1x1024x1024_S1024x1024)) : FVec Ideal S1x4096x1024 .f32) (ix3 0 i k)
      = Ideal.ofBits FTy.f32 1066940400#32 * x (ix3 0 i k) + ∑ d : Fin 1024, y (ix3 0 i d) * w (ix3 0 d k) := by
  pointwise

/-- A row taken to every token. -/
theorem row_at (g : FVec Ideal S1x1024 .f32) (i : Fin 4096) (k : Fin 1024) :
    (broadcastInDim S1x4096x1024 ![0, 1, 2] bcast_S1x1x1024_S1x4096x1024_0_1_2 (broadcastInDim S1x1x1024 ![2] bcast_S1024_S1x1x1024_2
      (shapeCast S1024 g shapeCasts_S1x1024_S1024)) : FVec Ideal S1x4096x1024 .f32) (ix3 0 i k) = g (ix2 0 k) := by
  pointwise

/-- The three results, at every place. -/
theorem results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = (fun j : S4096x1024.Idx => (args m c).xhat (j 0) (j 1))
      ∧ r.2.mem ((c.tc : Thread nD τ).loc main_v24) = (fun j : S4096x1.Idx => (args m c).rstd (j 0))
      ∧ r.2.mem ((c.tc : Thread nD τ).loc main_v52) = (fun j : S4096x1024.Idx => (args m c).out (j 0) (j 1)) := by
  refine (θ_run defs _ _).mono (fun r h c => ⟨(h c).1.trans ?_, (h c).2.1.trans ?_, (h c).2.2.1.trans ?_⟩) (run m ρ)
  · funext j
    obtain ⟨i, k, rfl⟩ : ∃ (i : Fin 4096) (k : Fin 1024), j = ix2 i k := ⟨j 0, j 1, ValueIdx.eq_ix2 j⟩
    refine ((flat_at _ i k).trans (unit_at _ i k)).trans ?_
    rw [funext (sum_at _ _ _ i), sum_at]
    rfl
  · funext j
    obtain ⟨i, k, rfl⟩ : ∃ (i : Fin 4096) (k : Fin 1), j = ix2 i k := ⟨j 0, j 1, ValueIdx.eq_ix2 j⟩
    obtain rfl : k = 0 := Subsingleton.elim _ _
    refine ((flat_col _ i).trans (rdev_at _ i)).trans ?_
    rw [funext (sum_at _ _ _ i)]
    rfl
  · funext j
    obtain ⟨i, k, rfl⟩ : ∃ (i : Fin 4096) (k : Fin 1024), j = ix2 i k := ⟨j 0, j 1, ValueIdx.eq_ix2 j⟩
    unfold res_main_v52
    refine (narrow_at _ i k).trans ?_
    refine (congrArg₂ (fun p q : EReal => p + q) (congrArg₂ (fun p q : EReal => p * q) (unit_at _ i k) (row_at _ i k)) (row_at _ i k)).trans ?_
    rw [funext (sum_at _ _ _ i), sum_at]
    rfl

end Cert.OutRefIdeal.Hand
-- ==== Proof.InpValue.lean ====
module

public import proofs.«01_k».proof.Proof.OutMath
public import proofs.«01_k».proof.Proof.Gen.InpIdeal.Frame
public import proofs.«01_k».proof.Proof.Gen.InpIdeal.Value
public import proofs.«01_k».proof.Proof.Gen.InpRefIdeal.Run
public import Idealize.ShloMosaic.Lib.Pipeline.ValueKit
public import Idealize.ShloMosaic.Lib.StableHlo.RunRead

/-!
The input projection: the kernel's two results and the reference's, from the arguments.
-/

@[expose] public section

set_option maxRecDepth 16384

noncomputable section

namespace Cert.InpMath

open Idealize.ShloMosaic
open scoped BigOperators

/-- The arguments: the residual stream and the projection. -/
structure Args where
  x : Fin 4096 → Fin 1024 → EReal
  w : Fin 1024 → Fin 1792 → EReal

/-- A token's projection onto a column. -/
def Args.proj (A : Args) (j : Fin 1792) (i : Fin 4096) : EReal := ∑ d, A.x i d * A.w d j

end Cert.InpMath

namespace Cert.InpIdeal.Hand

open Cert.InpIdeal Cert.InpIdeal.Gen
open Idealize.ShloMosaic Idealize.ShloMosaic.TcCoe Idealize.ShloMosaic.Tactic Idealize.SL.Sem
open Idealize.ShloMosaic.Pipeline (Dat)
open Cert.OutMath (zeros2 place_split)
open Cert.InpMath
open scoped BigOperators

variable (m : (ℓ : Loc nD τ sig) → Buf (Elt Ideal) ℓ) (c : Dev nD)

/-- The arguments, by their places. -/
def args : Args where
  x i k := (m ((c : Thread nD τ).loc main_arg0) : Vec Ideal S1x4096x1024 .f32) (ix3 0 i k)
  w d k := (m ((c : Thread nD τ).loc main_arg1) : Vec Ideal S1x1024x1792 .f32) (ix3 0 d k)

theorem stream (i : Fin 4096) (k : Fin 1024) : (V m c main_v0 : Vec Ideal S4096x1024 .f32) (ix2 i k) = (args m c).x i k := by
  show StableHlo.after _ _ _ _ = _
  after_reads_simp
  pointwise
  rfl

theorem weights (j : Fin 1792) (d : Fin 1024) : (V m c main_v3 : Vec Ideal S1792x1024 .bf16) (ix2 j d) = (args m c).w d j := by
  show StableHlo.after _ _ _ _ = _
  after_reads_simp
  pointwise
  rfl

/-- The token in row `x` of point `t`'s blocks. -/
def tokAt (t : Fin cfg0.N) (x : Fin 512) : Fin 4096 :=
  ⟨t.val * 512 + x.val, by have := t.isLt; have : cfg0.N = 8 := N_0; have := x.isLt; omega⟩

theorem idx : ∀ t : Fin cfg0.N, win0_0.index t = ![t.val, 0] ∧ win0_1.index t = ![0, 0] ∧ win0_2.index t = ![0, t.val]
    ∧ win0_3.index t = ![t.val, 0] :=
  (by decide +kernel : ∀ t : Fin grid0.N, _)

theorem block0 (t : Fin cfg0.N) (x : Fin 512) (k : Fin 1024) : (iblk m c 0 t : Vec Ideal S512x1024 .f32) (ix2 x k) = (args m c).x (tokAt t x) k := by
  refine Eq.trans ?_ (stream m c _ k)
  blk_ext [iblk, idx t, tokAt]

theorem block1 (t : Fin cfg0.N) (j : Fin 1792) (d : Fin 1024) : (iblk m c 1 t : Vec Ideal S1792x1024 .bf16) (ix2 j d) = (args m c).w d j := by
  refine Eq.trans ?_ (weights m c j d)
  blk_ext [iblk, idx t]

theorem product_at (x : Vec Ideal S512x1024 .f32) (w : Vec Ideal S1792x1024 .bf16) (j : Fin 1792) (r : Fin 512) :
    k0_pay2 x w (ix2 j r) = ∑ d : Fin 1024, w (ix2 j d) * x (ix2 r d) := by
  pointwise [k0_pay2, k0_pay1]

theorem copy_at (x : Vec Ideal S512x1024 .f32) (r : Fin 512) (k : Fin 1024) : k0_pay1 x (ix2 r k) = x (ix2 r k) := by
  pointwise [k0_pay1]

/-- The columns' projections a point writes. -/
theorem proj_at (t : Fin cfg0.N) (j : Fin 1792) (r : Fin 512) : (dats m 0 c).after 2 t (ix2 j r) = (args m c).proj j (tokAt t r) := by
  rw [after0_2]
  unfold out0_2
  rw [View.canon_unit_zero zeros2, View.ld_unit_zero zeros2, View.ld_unit_zero zeros2]
  refine (product_at (iblk m c 0 t) (iblk m c 1 t) j r).trans ?_
  exact Finset.sum_congr rfl fun d _ => (mul_comm _ _).trans (congrArg₂ (· * ·) (block0 m c t r d) (block1 m c t j d))

/-- The narrowed rows a point writes. -/
theorem copied (t : Fin cfg0.N) (r : Fin 512) (k : Fin 1024) : (dats m 0 c).after 3 t (ix2 r k) = (args m c).x (tokAt t r) k := by
  rw [after0_3]
  unfold out0_3
  rw [View.canon_unit_zero zeros2, View.ld_unit_zero zeros2]
  exact (copy_at (iblk m c 0 t) r k).trans (block0 m c t r k)

/-- The projections, in the end. -/
theorem final_proj : (dats m 0 c).arrAt 2 cfg0.N = (fun j : S1792x4096.Idx => (args m c).proj (j 0) (j 1)) := by
  refine (dats m 0 c).arrAt_eq_of_covers 2 _ (by decide +kernel) fun t hf y => ?_
  have e0 : (((cfg0.win 2).blk t).view.emb y 0 : Fin 1792) = y 0 := Fin.ext (by blk_simp [idx t])
  have e1 : (((cfg0.win 2).blk t).view.emb y 1 : Fin 4096) = tokAt t (y 1) := Fin.ext (by blk_simp [idx t]; simp only [tokAt])
  have hv := proj_at m c t (y 0) (y 1)
  rw [← place_split (a := 1792) (b := 512) y] at hv
  refine Eq.trans hv ?_
  rw [← e0, ← e1]

/-- The narrowed rows, in the end. -/
theorem final_copy : (dats m 0 c).arrAt 3 cfg0.N = (fun j : S4096x1024.Idx => (args m c).x (j 0) (j 1)) := by
  refine (dats m 0 c).arrAt_eq_of_covers 3 _ (by decide +kernel) fun t hf y => ?_
  have e0 : (((cfg0.win 3).blk t).view.emb y 0 : Fin 4096) = tokAt t (y 0) := Fin.ext (by blk_simp [idx t]; simp only [tokAt])
  have e1 : (((cfg0.win 3).blk t).view.emb y 1 : Fin 1024) = y 1 := Fin.ext (by blk_simp [idx t])
  have hv := copied m c t (y 0) (y 1)
  rw [← place_split (a := 512) (b := 1024) y] at hv
  refine Eq.trans hv ?_
  rw [← e0, ← e1]

end Cert.InpIdeal.Hand

namespace Cert.InpRefIdeal.Hand

open Cert.InpRefIdeal Cert.InpRefIdeal.Gen Cert.InpRefIdeal.Value
open Idealize.ShloMosaic Idealize.ShloMosaic.TcCoe Idealize.SL.Sem
open Cert.InpMath
open scoped BigOperators

/-- The arguments, by their places. -/
def args (m : (ℓ : Loc nD τ sig) → Buf (Elt Ideal) ℓ) (c : Dev nD) : Args where
  x i k := (m ((c : Thread nD τ).loc main_arg0) : Vec Ideal S1x4096x1024 .f32) (ix3 0 i k)
  w d k := (m ((c : Thread nD τ).loc main_arg1) : Vec Ideal S1x1024x1792 .f32) (ix3 0 d k)

/-- A product of rows with a matrix, laid out by columns. -/
theorem turned_at (x : FVec Ideal S1x4096x1024 .f32) (w : FVec Ideal S1x1024x1792 .f32) (j : Fin 1792) (i : Fin 4096) :
    (transpose S1792x4096 [1, 0] (shapeCast S4096x1792 (Host.dotGeneral dot_S1x4096x1024_S1024x1792_S1x4096x1792_2_0_01_1_n_n none x
      (shapeCast S1024x1792 w shapeCasts_S1x1024x1792_S1024x1792)) shapeCasts_S1x4096x1792_S4096x1792) transposes_S4096x1792_S1792x4096_1_0
      : FVec Ideal S1792x4096 .f32) (ix2 j i) = ∑ d : Fin 1024, x (ix3 0 i d) * w (ix3 0 d j) := by
  pointwise

/-- Rows laid flat and narrowed: narrowing keeps the number. -/
theorem narrow_at (z : FVec Ideal S1x4096x1024 .f32) (i : Fin 4096) (k : Fin 1024) :
    (truncf .bf16 (shapeCast S4096x1024 z shapeCasts_S1x4096x1024_S4096x1024) bitsLt_bf16_f32 : FVec Ideal S4096x1024 .bf16) (ix2 i k) = z (ix3 0 i k) := by
  pointwise

/-- Both results, at every place. -/
theorem results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = (fun j : S1792x4096.Idx => (args m c).proj (j 0) (j 1))
      ∧ r.2.mem ((c.tc : Thread nD τ).loc main_v5) = (fun j : S4096x1024.Idx => (args m c).x (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2.1.trans ?_, (h c).2.2⟩) (run m ρ)
  · funext j
    obtain ⟨i, k, rfl⟩ : ∃ (i : Fin 1792) (k : Fin 4096), j = ix2 i k := ⟨j 0, j 1, ValueIdx.eq_ix2 j⟩
    exact turned_at _ _ i k
  · funext j
    obtain ⟨i, k, rfl⟩ : ∃ (i : Fin 4096) (k : Fin 1024), j = ix2 i k := ⟨j 0, j 1, ValueIdx.eq_ix2 j⟩
    exact narrow_at _ i k

end Cert.InpRefIdeal.Hand
-- ==== Proof.BackValue.lean ====
module

public import proofs.«01_k».proof.Proof.OutMath
public import proofs.«01_k».proof.Proof.Gen.BackIdeal.Frame
public import proofs.«01_k».proof.Proof.Gen.BackIdeal.Value
public import proofs.«01_k».proof.Proof.Gen.BackRefIdeal.Run
public import Idealize.ShloMosaic.Lib.Pipeline.ValueKit
public import Idealize.ShloMosaic.Lib.StableHlo.RunRead

/-!
The output projection's backward: the kernel's two results and the reference's, from the arguments.
The weight's gradient is a running sum over the grid.
-/

@[expose] public section

set_option maxRecDepth 16384

noncomputable section

namespace Cert.BackMath

open Idealize.ShloMosaic
open scoped BigOperators

/-- The arguments: mixed channels, projection and cotangent. -/
structure Args where
  y : Fin 4096 → Fin 1024 → EReal
  w : Fin 1024 → Fin 1024 → EReal
  ct : Fin 4096 → Fin 1024 → EReal

namespace Args
variable (A : Args)

/-- The gradient of a token's mixed channel. -/
def dmixed (d : Fin 1024) (i : Fin 4096) : EReal := ∑ k, A.ct i k * A.w d k
/-- What a token adds to the weight's gradient; nothing after the last token. -/
def part (d k : Fin 1024) (i : ℕ) : EReal := if h : i < 4096 then A.y ⟨i, h⟩ d * A.ct ⟨i, h⟩ k else 0
/-- The weight's gradient from the first `n` tokens. -/
def upTo (d k : Fin 1024) (n : ℕ) : EReal := ∑ i ∈ Finset.range n, A.part d k i
/-- The weight's gradient. -/
def dw (d k : Fin 1024) : EReal := ∑ i, A.y i d * A.ct i k

/-- One more block of tokens. -/
theorem upTo_add (d k : Fin 1024) (n : ℕ) (hn : n + 1024 ≤ 4096) :
    A.upTo d k (n + 1024) = A.upTo d k n
      + ∑ r : Fin 1024, A.y ⟨n + r.val, by have := r.isLt; omega⟩ d * A.ct ⟨n + r.val, by have := r.isLt; omega⟩ k := by
  unfold upTo
  rw [Finset.sum_range_add, Finset.sum_range (n := 1024)]
  exact congrArg _ (Finset.sum_congr rfl fun r _ => dif_pos (by have := r.isLt; omega))

theorem upTo_all (d k : Fin 1024) : A.upTo d k 4096 = A.dw d k := by
  unfold upTo dw
  rw [Finset.sum_range]
  exact Finset.sum_congr rfl fun i _ => dif_pos i.isLt

end Args

end Cert.BackMath

namespace Cert.BackIdeal.Hand

open Cert.BackIdeal Cert.BackIdeal.Gen
open Idealize.ShloMosaic Idealize.ShloMosaic.TcCoe Idealize.ShloMosaic.Tactic Idealize.SL.Sem
open Idealize.ShloMosaic.Pipeline (Dat)
open Cert.OutMath (zeros2 place_split)
open Cert.BackMath
open scoped BigOperators

variable (m : (ℓ : Loc nD τ sig) → Buf (Elt Ideal) ℓ) (c : Dev nD)

/-- The arguments, by their places. -/
def args : Args where
  y i k := (m ((c : Thread nD τ).loc main_arg0) : Vec Ideal S1x4096x1024 .f32) (ix3 0 i k)
  w d k := (m ((c : Thread nD τ).loc main_arg1) : Vec Ideal S1x1024x1024 .f32) (ix3 0 d k)
  ct i k := (m ((c : Thread nD τ).loc main_arg2) : Vec Ideal S1x4096x1024 .f32) (ix3 0 i k)

theorem cotangent (i : Fin 4096) (k : Fin 1024) : (V m c main_v0 : Vec Ideal S4096x1024 .f32) (ix2 i k) = (args m c).ct i k := by
  show StableHlo.after _ _ _ _ = _
  after_reads_simp
  pointwise
  rfl

theorem mixed (k : Fin 1024) (i : Fin 4096) : (V m c main_v3 : Vec Ideal S1024x4096 .bf16) (ix2 k i) = (args m c).y i k := by
  show StableHlo.after _ _ _ _ = _
  after_reads_simp
  pointwise
  rfl

theorem weights (d k : Fin 1024) : (V m c main_v5 : Vec Ideal S1024x1024 .bf16) (ix2 d k) = (args m c).w d k := by
  show StableHlo.after _ _ _ _ = _
  after_reads_simp
  pointwise
  rfl

/-- The token in row `x` of point `t`'s blocks. -/
def tokAt (t : Fin cfg0.N) (x : Fin 1024) : Fin 4096 :=
  ⟨t.val * 1024 + x.val, by have := t.isLt; have : cfg0.N = 4 := N_0; have := x.isLt; omega⟩

theorem idx : ∀ t : Fin cfg0.N, win0_0.index t = ![t.val, 0] ∧ win0_1.index t = ![0, t.val] ∧ win0_2.index t = ![0, 0]
    ∧ win0_3.index t = ![0, t.val] ∧ win0_4.index t = ![0, 0] :=
  (by decide +kernel : ∀ t : Fin grid0.N, _)

theorem block0 (t : Fin cfg0.N) (x k : Fin 1024) : (iblk m c 0 t : Vec Ideal S1024x1024 .f32) (ix2 x k) = (args m c).ct (tokAt t x) k := by
  refine Eq.trans ?_ (cotangent m c _ k)
  blk_ext [iblk, idx t, tokAt]

theorem block1 (t : Fin cfg0.N) (k x : Fin 1024) : (iblk m c 1 t : Vec Ideal S1024x1024 .bf16) (ix2 k x) = (args m c).y (tokAt t x) k := by
  refine Eq.trans ?_ (mixed m c k _)
  blk_ext [iblk, idx t, tokAt]

theorem block2 (t : Fin cfg0.N) (d k : Fin 1024) : (iblk m c 2 t : Vec Ideal S1024x1024 .bf16) (ix2 d k) = (args m c).w d k := by
  refine Eq.trans ?_ (weights m c d k)
  blk_ext [iblk, idx t]

section Body

variable (z : Vec Ideal S1024x1024 .f32) (y w : Vec Ideal S1024x1024 .bf16) (s : Vec Ideal S1024x1024 .f32)

theorem through_at (d r : Fin 1024) : k0_pay3 z w (ix2 d r) = ∑ k : Fin 1024, w (ix2 d k) * z (ix2 r k) := by
  pointwise [k0_pay3, k0_pay2]

theorem added_at (d k : Fin 1024) : k0_pay4 z s y (ix2 d k) = s (ix2 d k) + ∑ r : Fin 1024, y (ix2 d r) * z (ix2 r k) := by
  pointwise [k0_pay4, k0_pay2]

theorem cleared_at (d k : Fin 1024) : (k0_pay1 : FVec Ideal S1024x1024 .f32) (ix2 d k) = 0 := by
  pointwise [k0_pay1]

variable (i : grid0.Coords) (a1 : Memref sig .tc .vmem S1024x1024 .f32) (h1 : a1.IsWhole) (a2 : Memref sig .tc .vmem S1024x1024 .bf16) (h2 : a2.IsWhole)
  (a3 : Memref sig .tc .vmem S1024x1024 .bf16) (h3 : a3.IsWhole) (a4 : Memref sig .tc .vmem S1024x1024 .f32) (h4 : a4.IsWhole)
  (a5 : Memref sig .tc .vmem S1024x1024 .f32) (h5 : a5.IsWhole)

/-- The channels' gradients that the first point leaves. -/
theorem first_through (hc : cond0_0 i) : out0_A_3 c i a1 h1 a2 h2 a3 h3 a4 h4 a5 h5 hc z y w = k0_pay3 z w := by
  unfold out0_A_3
  rw [View.read_writes_eq_canon _ _ _ (cover0_A_3 c i a1 h1 a2 h2 a3 h3 a4 h4 a5 h5 hc z y w)]
  unfold kernelRun0_A
  dsimp only
  sl_unfold_words
  rw [View.canon_unit_zero zeros2]
  simp only [View.readAt_eq_ld, h1.read_unread, h3.read_unread, View.ld_unit_zero (S := S1024x1024) zeros2]

/-- The channels' gradients that a later point leaves. -/
theorem later_through (hc : ¬cond0_0 i) : out0_B_3 c i a1 h1 a2 h2 a3 h3 a4 h4 a5 h5 hc z y w s = k0_pay3 z w := by
  unfold out0_B_3
  rw [View.read_writes_eq_canon _ _ _ (cover0_B_3 c i a1 h1 a2 h2 a3 h3 a4 h4 a5 h5 hc z y w s)]
  unfold kernelRun0_B
  dsimp only
  sl_unfold_words
  rw [View.canon_unit_zero zeros2]
  simp only [View.readAt_eq_ld, h1.read_unread, h3.read_unread, View.ld_unit_zero (S := S1024x1024) zeros2]

/-- The sum that the first point leaves: its own products, on zeros. -/
theorem first_sum (hc : cond0_0 i) : out0_A_4 c i a1 h1 a2 h2 a3 h3 a4 h4 a5 h5 hc z y w = k0_pay4 z (k0_pay1 (F := Ideal)) y := by
  unfold out0_A_4
  rw [View.read_writes_eq_canon _ _ _ (cover0_A_4 c i a1 h1 a2 h2 a3 h3 a4 h4 a5 h5 hc z y w)]
  unfold kernelRun0_A
  dsimp only
  sl_unfold_words
  rw [View.canon_cons_unit_zero (S := S1024x1024) zeros2, View.readCov_unit_zero (S := S1024x1024) _ zeros2]
  simp only [View.readAt_eq_ld, h1.read_unread, h2.read_unread, View.ld_unit_zero (S := S1024x1024) zeros2]

/-- The sum that a later point leaves: its products, on the sum so far. -/
theorem later_sum (hc : ¬cond0_0 i) : out0_B_4 c i a1 h1 a2 h2 a3 h3 a4 h4 a5 h5 hc z y w s = k0_pay4 z s y := by
  unfold out0_B_4
  rw [View.read_writes_eq_canon _ _ _ (cover0_B_4 c i a1 h1 a2 h2 a3 h3 a4 h4 a5 h5 hc z y w s)]
  unfold kernelRun0_B
  dsimp only
  sl_unfold_words
  rw [View.canon_unit_zero zeros2]
  simp only [View.readAt_eq_ld, h1.read_unread, h2.read_unread, h5.read_unread, View.ld_unit_zero (S := S1024x1024) zeros2]

end Body

theorem first_iff (t : Fin cfg0.N) : t.val % 4 = 0 ↔ t.val = 0 := by
  have := t.isLt; have : cfg0.N = 4 := N_0; omega

/-- The channels' gradients, at every point. -/
theorem through (t : Fin cfg0.N) : (outsAt0 m c t.val t.isLt).1 = k0_pay3 (iblk m c 0 t) (iblk m c 2 t) := by
  by_cases h0 : t.val % 4 = 0
  · rw [outsAt0_A m c t h0]
    dsimp only
    rw [first_through]
  · rw [outsAt0_B m c t h0]
    dsimp only
    rw [later_through]

/-- A block's products on a sum, as the arguments' tokens. -/
theorem added (t : Fin cfg0.N) (s : Vec Ideal S1024x1024 .f32) (d k : Fin 1024) :
    k0_pay4 (iblk m c 0 t) s (iblk m c 1 t) (ix2 d k) = s (ix2 d k) + ∑ r : Fin 1024, (args m c).y (tokAt t r) d * (args m c).ct (tokAt t r) k :=
  (added_at (iblk m c 0 t) (iblk m c 1 t) s d k).trans
    (congrArg _ (Finset.sum_congr rfl fun r _ => congrArg₂ (· * ·) (block1 m c t d r) (block0 m c t r k)))

/-- After point `n` the weight's gradient holds the tokens of the points so far. -/
theorem sums (d k : Fin 1024) : ∀ (n : ℕ) (h : n < cfg0.N), (outsAt0 m c n h).2 (ix2 d k) = (args m c).upTo d k (n * 1024 + 1024)
  | 0, h => by
    rw [show outsAt0 m c 0 h = _ from outsAt0_A m c ⟨0, h⟩ rfl]
    dsimp only
    rw [first_sum, added, cleared_at, Args.upTo_add _ _ _ _ (by omega)]
    exact congrArg₂ (· + ·) Finset.sum_empty.symm rfl
  | n + 1, h => by
    have hN : cfg0.N = 4 := N_0
    rw [show outsAt0 m c (n + 1) h = _ from outsAt0_B m c ⟨n + 1, h⟩ (by rw [first_iff]; exact Nat.succ_ne_zero n)]
    dsimp only
    rw [later_sum, added, Args.upTo_add _ _ _ _ (by omega)]
    exact congrArg₂ (· + ·) ((sums d k n (Nat.lt_of_succ_lt h)).trans (congrArg _ (by omega))) rfl

/-- The channels' gradients a point writes. -/
theorem dmixed_at (t : Fin cfg0.N) (d r : Fin 1024) : (dats m 0 c).after 3 t (ix2 d r) = (args m c).dmixed d (tokAt t r) := by
  rw [after0_3, through]
  refine (through_at (iblk m c 0 t) (iblk m c 2 t) d r).trans ?_
  exact Finset.sum_congr rfl fun k _ => (mul_comm _ _).trans (congrArg₂ (· * ·) (block0 m c t r k) (block2 m c t d k))

/-- The channels' gradients, in the end. -/
theorem final_dmixed : (dats m 0 c).arrAt 3 cfg0.N = (fun j : S1024x4096.Idx => (args m c).dmixed (j 0) (j 1)) := by
  refine (dats m 0 c).arrAt_eq_of_covers 3 _ (by decide +kernel) fun t hf y => ?_
  have e0 : (((cfg0.win 3).blk t).view.emb y 0 : Fin 1024) = y 0 := Fin.ext (by blk_simp [idx t])
  have e1 : (((cfg0.win 3).blk t).view.emb y 1 : Fin 4096) = tokAt t (y 1) := Fin.ext (by blk_simp [idx t]; simp only [tokAt])
  have hv := dmixed_at m c t (y 0) (y 1)
  rw [← place_split (a := 1024) (b := 1024) y] at hv
  refine Eq.trans hv ?_
  rw [← e0, ← e1]

/-- Only the last point writes the weight's gradient back. -/
theorem flushed_last : ∀ t : Fin cfg0.N, (cfg0.win 4).flush t = true → t.val = 3 :=
  (by decide +kernel : ∀ t : Fin grid0.N, _)

/-- The weight's gradient, in the end. -/
theorem final_dw : (dats m 0 c).arrAt 4 cfg0.N = (fun j : S1024x1024.Idx => (args m c).dw (j 0) (j 1)) := by
  refine (dats m 0 c).arrAt_eq_of_covers 4 _ (by decide +kernel) fun t hf y => ?_
  have e0 : (((cfg0.win 4).blk t).view.emb y 0 : Fin 1024) = y 0 := Fin.ext (by blk_simp [idx t])
  have e1 : (((cfg0.win 4).blk t).view.emb y 1 : Fin 1024) = y 1 := Fin.ext (by blk_simp [idx t])
  have hv : (dats m 0 c).after 4 t (ix2 (n0 := 1024) (n1 := 1024) (y 0) (y 1)) = (args m c).dw (y 0) (y 1) := by
    rw [after0_4]
    refine (sums m c (y 0) (y 1) t.val t.isLt).trans ?_
    rw [flushed_last t hf]
    exact (args m c).upTo_all (y 0) (y 1)
  rw [← place_split (a := 1024) (b := 1024) y] at hv
  refine Eq.trans hv ?_
  rw [← e0, ← e1]

end Cert.BackIdeal.Hand

namespace Cert.BackRefIdeal.Hand

open Cert.BackRefIdeal Cert.BackRefIdeal.Gen Cert.BackRefIdeal.Value
open Idealize.ShloMosaic Idealize.ShloMosaic.TcCoe Idealize.SL.Sem
open Cert.BackMath
open scoped BigOperators

/-- The arguments, by their places. -/
def args (m : (ℓ : Loc nD τ sig) → Buf (Elt Ideal) ℓ) (c : Dev nD) : Args where
  y i k := (m ((c : Thread nD τ).loc main_arg0) : Vec Ideal S1x4096x1024 .f32) (ix3 0 i k)
  w d k := (m ((c : Thread nD τ).loc main_arg1) : Vec Ideal S1x1024x1024 .f32) (ix3 0 d k)
  ct i k := (m ((c : Thread nD τ).loc main_arg2) : Vec Ideal S1x4096x1024 .f32) (ix3 0 i k)

/-- A product of rows with a matrix's rows, laid out by columns. -/
theorem turned_at (z : FVec Ideal S1x4096x1024 .f32) (w : FVec Ideal S1x1024x1024 .f32) (d : Fin 1024) (i : Fin 4096) :
    (transpose S1024x4096 [1, 0] (shapeCast S4096x1024 (Host.dotGeneral dot_S1x4096x1024_S1024x1024_S1x4096x1024_2_1_01_0_n_n none z
      (shapeCast S1024x1024 w shapeCasts_S1x1024x1024_S1024x1024)) shapeCasts_S1x4096x1024_S4096x1024) transposes_S4096x1024_S1024x4096_1_0
      : FVec Ideal S1024x4096 .f32) (ix2 d i) = ∑ k : Fin 1024, z (ix3 0 i k) * w (ix3 0 d k) := by
  pointwise

/-- A product over all tokens, turned. -/
theorem over_tokens (z y : FVec Ideal S1x4096x1024 .f32) (d k : Fin 1024) :
    (shapeCast S1024x1024 (broadcastInDim S1x1024x1024 ![1, 2] bcast_S1024x1024_S1x1024x1024_1_2 (transpose S1024x1024 [1, 0]
      (Host.dotGeneral dot_S1x4096x1024_S1x4096x1024_S1024x1024_01_01_2_2_n_n none z y) transposes_S1024x1024_S1024x1024_1_0))
      shapeCasts_S1x1024x1024_S1024x1024 : FVec Ideal S1024x1024 .f32) (ix2 d k) = ∑ i : Fin 4096, y (ix3 0 i d) * z (ix3 0 i k) := by
  pointwise
  exact (Fin.sum_univ_one _).trans (Finset.sum_congr rfl fun i _ => mul_comm _ _)

/-- Both gradients, at every place. -/
theorem results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = (fun j : S1024x4096.Idx => (args m c).dmixed (j 0) (j 1))
      ∧ r.2.mem ((c.tc : Thread nD τ).loc main_v8) = (fun j : S1024x1024.Idx => (args m c).dw (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2.1.trans ?_, (h c).2.2⟩) (run m ρ)
  · funext j
    obtain ⟨i, k, rfl⟩ : ∃ (i : Fin 1024) (k : Fin 4096), j = ix2 i k := ⟨j 0, j 1, ValueIdx.eq_ix2 j⟩
    exact turned_at _ _ i k
  · funext j
    obtain ⟨d, k, rfl⟩ : ∃ (d k : Fin 1024), j = ix2 d k := ⟨j 0, j 1, ValueIdx.eq_ix2 j⟩
    exact over_tokens _ _ d k

end Cert.BackRefIdeal.Hand
-- ==== Proof.DxValue.lean ====
module

public import proofs.«01_k».proof.Proof.OutMath
public import proofs.«01_k».proof.Proof.FwdRead
public import proofs.«01_k».proof.Proof.Gen.DxIdeal.Frame
public import proofs.«01_k».proof.Proof.Gen.DxIdeal.Value
public import proofs.«01_k».proof.Proof.Gen.DxRefIdeal.Run
public import Idealize.ShloMosaic.Lib.Pipeline.ValueKit
public import Idealize.ShloMosaic.Lib.StableHlo.RunRead

/-!
The gradient of the layer's input: the kernel's result and the reference's, from the arguments.
The keys' and values' columns take the block after theirs in, on every other block of tokens.
-/

@[expose] public section

set_option maxRecDepth 16384

noncomputable section

namespace Cert.DxMath

open Idealize.ShloMosaic
open scoped BigOperators

/-- The residual's factor. -/
def alpha : EReal := Ideal.ofBits FTy.f32 0x3F9837F0#32

/-- The arguments: the projection, the gradients of its columns — the keys' and values' in two
    parts — and the gradient of the residual sum. -/
structure Args where
  w : Fin 1024 → Fin 1792 → EReal
  dh : Fin 4096 → Fin 1536 → EReal
  own : Fin 4096 → Fin 256 → EReal
  next : Fin 16 → Fin 128 → Fin 256 → EReal
  ct : Fin 4096 → Fin 1024 → EReal

namespace Args
variable (A : Args)

/-- The gradient of a token's key or value column: its own block's, and on the second block of two the next block's too. -/
def dkv (i : Fin 4096) (d : Fin 256) : EReal :=
  if i.val / 128 % 2 = 0 then A.own i d else A.own i d + A.next ⟨i.val / 256, by have := i.isLt; omega⟩ ⟨i.val % 128, by omega⟩ d
theorem dkv_first (i : Fin 4096) (d : Fin 256) (h : i.val / 128 % 2 = 0) : A.dkv i d = A.own i d := if_pos h
theorem dkv_second (i : Fin 4096) (d : Fin 256) (h : ¬i.val / 128 % 2 = 0) (n : Fin 16) (r : Fin 128) (hn : n.val = i.val / 256) (hr : r.val = i.val % 128) :
    A.dkv i d = A.own i d + A.next n r d :=
  (if_neg h).trans (congrArg (A.own i d + ·) (congrArg₂ (fun a b => A.next a b d) (Fin.ext hn.symm) (Fin.ext hr.symm)))
/-- What the first columns give. -/
def main (i : Fin 4096) (k : Fin 1024) : EReal := ∑ q : Fin 1536, A.dh i q * A.w k ⟨q.val, by have := q.isLt; omega⟩
/-- What the keys' and values' columns give. -/
def rest (i : Fin 4096) (k : Fin 1024) : EReal := ∑ d : Fin 256, A.dkv i d * A.w k ⟨1536 + d.val, by have := d.isLt; omega⟩
/-- The gradient of the input. -/
def dx (i : Fin 4096) (k : Fin 1024) : EReal := alpha * A.ct i k + A.main i k + A.rest i k

end Args

end Cert.DxMath

namespace Cert.DxIdeal.Hand

open Cert.DxIdeal Cert.DxIdeal.Gen
open Idealize.ShloMosaic Idealize.ShloMosaic.TcCoe Idealize.ShloMosaic.Tactic Idealize.SL.Sem
open Idealize.ShloMosaic.Pipeline (Dat)
open Cert.OutMath (zeros2 place_split)
open Cert.FwdIdeal.Hand (cell put cell_put cell_put_other cell_full2)
open Cert.DxMath
open scoped BigOperators

variable (m : (ℓ : Loc nD τ sig) → Buf (Elt Ideal) ℓ) (c : Dev nD)

/-- The arguments, by their places. -/
def args : Args where
  w k q := (m ((c : Thread nD τ).loc main_arg1) : Vec Ideal S1x1024x1792 .f32) (ix3 0 k q)
  dh i q := (m ((c : Thread nD τ).loc main_arg2) : Vec Ideal S1x4096x1536 .f32) (ix3 0 i q)
  own i d := (m ((c : Thread nD τ).loc main_arg3) : Vec Ideal S1x4096x256 .f32) (ix3 0 i d)
  next n r d := (m ((c : Thread nD τ).loc main_arg4) : Vec Ideal S1x16x128x256 .f32) (ix4 0 n r d)
  ct i k := (m ((c : Thread nD τ).loc main_arg5) : Vec Ideal S1x4096x1024 .f32) (ix3 0 i k)

theorem columns (q : Fin 1536) (i : Fin 4096) : (V m c main_v2 : Vec Ideal S1536x4096 .bf16) (ix2 q i) = (args m c).dh i q := by
  show StableHlo.after _ _ _ _ = _
  after_reads_simp
  pointwise
  rfl

theorem owns_ (d : Fin 256) (i : Fin 4096) : (V m c main_v4 : Vec Ideal S256x4096 .f32) (ix2 d i) = (args m c).own i d := by
  show StableHlo.after _ _ _ _ = _
  after_reads_simp
  pointwise
  rfl

theorem nexts (d : Fin 256) (i : Fin 2048) : (V m c main_v7 : Vec Ideal S256x2048 .f32) (ix2 d i)
    = (args m c).next ⟨i.val / 128, by have := i.isLt; omega⟩ ⟨i.val % 128, by omega⟩ d := by
  show StableHlo.after _ _ _ _ = _
  after_reads_simp
  pointwise
  rfl

theorem cotangent (i : Fin 4096) (k : Fin 1024) : (V m c main_v8 : Vec Ideal S4096x1024 .f32) (ix2 i k) = (args m c).ct i k := by
  show StableHlo.after _ _ _ _ = _
  after_reads_simp
  pointwise
  rfl

theorem weights (q : Fin 1792) (k : Fin 1024) : (V m c main_v11 : Vec Ideal S1792x1024 .bf16) (ix2 q k) = (args m c).w k q := by
  show StableHlo.after _ _ _ _ = _
  after_reads_simp
  pointwise
  rfl

/-- The token in row `x` of point `t`'s blocks. -/
def tokAt (t : Fin cfg0.N) (x : Fin 512) : Fin 4096 :=
  ⟨t.val * 512 + x.val, by have := t.isLt; have : cfg0.N = 8 := N_0; have := x.isLt; omega⟩
/-- The row of the next blocks' array in row `x` of point `t`'s block. -/
def nextAt (t : Fin cfg0.N) (x : Fin 256) : Fin 2048 :=
  ⟨t.val * 256 + x.val, by have := t.isLt; have : cfg0.N = 8 := N_0; have := x.isLt; omega⟩

theorem idx : ∀ t : Fin cfg0.N, win0_0.index t = ![0, t.val] ∧ win0_1.index t = ![0, t.val] ∧ win0_2.index t = ![0, t.val]
    ∧ win0_3.index t = ![t.val, 0] ∧ win0_4.index t = ![0, 0] ∧ win0_5.index t = ![t.val, 0] :=
  (by decide +kernel : ∀ t : Fin grid0.N, _)

theorem block0 (t : Fin cfg0.N) (q : Fin 1536) (x : Fin 512) : (iblk m c 0 t : Vec Ideal S1536x512 .bf16) (ix2 q x) = (args m c).dh (tokAt t x) q := by
  refine Eq.trans ?_ (columns m c q _)
  blk_ext [iblk, idx t, tokAt]

theorem block1 (t : Fin cfg0.N) (d : Fin 256) (x : Fin 512) : (iblk m c 1 t : Vec Ideal S256x512 .f32) (ix2 d x) = (args m c).own (tokAt t x) d := by
  refine Eq.trans ?_ (owns_ m c d _)
  blk_ext [iblk, idx t, tokAt]

theorem block2 (t : Fin cfg0.N) (d x : Fin 256) : (iblk m c 2 t : Vec Ideal S256x256 .f32) (ix2 d x)
    = (args m c).next ⟨(nextAt t x).val / 128, by have := (nextAt t x).isLt; omega⟩ ⟨(nextAt t x).val % 128, by omega⟩ d := by
  refine Eq.trans ?_ (nexts m c d (nextAt t x))
  blk_ext [iblk, idx t, nextAt]

theorem block3 (t : Fin cfg0.N) (x : Fin 512) (k : Fin 1024) : (iblk m c 3 t : Vec Ideal S512x1024 .f32) (ix2 x k) = (args m c).ct (tokAt t x) k := by
  refine Eq.trans ?_ (cotangent m c _ k)
  blk_ext [iblk, idx t, tokAt]

theorem block4 (t : Fin cfg0.N) (q : Fin 1792) (k : Fin 1024) : (iblk m c 4 t : Vec Ideal S1792x1024 .bf16) (ix2 q k) = (args m c).w k q := by
  refine Eq.trans ?_ (weights m c q k)
  blk_ext [iblk, idx t]

section Body

variable (x0 : Vec Ideal S1536x512 .bf16) (x1 : Vec Ideal S256x512 .f32) (x2 : Vec Ideal S256x256 .f32) (x3 : Vec Ideal S512x1024 .f32)
  (x4 : Vec Ideal S1792x1024 .bf16)

/-- The four blocks of the keys' and values' columns, of 128 tokens each. -/
def part : Fin 4 → Vec Ideal S256x128 .bf16 :=
  ![k0_pay2 (cell inb_S256x512_S256x128_0_0 x1),
    k0_pay3 (cell inb_S256x512_S256x128_0_128 x1) (cell inb_S256x256_S256x128_0_0 x2),
    k0_pay4 (cell inb_S256x512_S256x128_0_256 x1),
    k0_pay5 (cell inb_S256x512_S256x128_0_384 x1) (cell inb_S256x256_S256x128_0_128 x2)]

/-- The four blocks put in place. -/
def fill (T : Fin 4 → Vec Ideal S256x128 .bf16) (S : Vec Ideal S256x512 .bf16) : Vec Ideal S256x512 .bf16 :=
  put inb_S256x512_S256x128_0_384 (T 3) (put inb_S256x512_S256x128_0_256 (T 2) (put inb_S256x512_S256x128_0_128 (T 1)
    (put inb_S256x512_S256x128_0_0 (T 0) S)))

/-- Token `r` of block `b` of four. -/
def col (b : Fin 4) (r : Fin 128) : Fin 512 := ⟨128 * b.val + r.val, by omega⟩

theorem fill_cell (T : Fin 4 → Vec Ideal S256x128 .bf16) (S : Vec Ideal S256x512 .bf16) (b : Fin 4)
    (inb : ∀ x, (![0, 128 * b.val] : Fin 2 → ℕ) x + S256x128.size x ≤ S256x512.size x) : cell inb (fill T S) = T b := by
  unfold fill
  fin_cases b <;> simp (disch := decide) only [cell_put_other, cell_put, Nat.reduceMul]
  all_goals rfl

theorem fill_at (T : Fin 4 → Vec Ideal S256x128 .bf16) (S : Vec Ideal S256x512 .bf16) (b : Fin 4) (d : Fin 256) (r : Fin 128) :
    fill T S (ix2 d (col b r)) = T b (ix2 d r) := by
  have inb : ∀ x, (![0, 128 * b.val] : Fin 2 → ℕ) x + S256x128.size x ≤ S256x512.size x := by
    intro x
    fin_cases x
    · show 0 + 256 ≤ 256
      omega
    · show 128 * b.val + 128 ≤ 512
      omega
  rw [← fill_cell T S b inb]
  refine congrArg (fill T S) (funext fun x => Fin.ext ?_)
  fin_cases x
  · show d.val = 0 + 1 * d.val
    omega
  · show 128 * b.val + r.val = 128 * b.val + 1 * r.val
    omega

theorem cell_own (o : ℕ) (inb : ∀ x, (![0, o] : Fin 2 → ℕ) x + S256x128.size x ≤ S256x512.size x) (d : Fin 256) (r : Fin 128) (y : Fin 512) (h : y.val = o + r.val) :
    (cell inb x1 : Vec Ideal S256x128 .f32) (ix2 d r) = x1 (ix2 d y) := by
  refine congrArg x1 (funext fun x => Fin.ext ?_)
  fin_cases x
  · show 0 + 1 * d.val = d.val
    omega
  · show o + 1 * r.val = y.val
    omega

theorem cell_next (o : ℕ) (inb : ∀ x, (![0, o] : Fin 2 → ℕ) x + S256x128.size x ≤ S256x256.size x) (d : Fin 256) (r : Fin 128) (y : Fin 256) (h : y.val = o + r.val) :
    (cell inb x2 : Vec Ideal S256x128 .f32) (ix2 d r) = x2 (ix2 d y) := by
  refine congrArg x2 (funext fun x => Fin.ext ?_)
  fin_cases x
  · show 0 + 1 * d.val = d.val
    omega
  · show o + 1 * r.val = y.val
    omega

theorem cell_first (q : Fin 1536) (k : Fin 1024) :
    (cell inb_S1792x1024_S1536x1024_0_0 x4 : Vec Ideal S1536x1024 .bf16) (ix2 q k) = x4 (ix2 ⟨q.val, by have := q.isLt; omega⟩ k) := by
  refine congrArg x4 (funext fun x => Fin.ext ?_)
  fin_cases x
  · show 0 + 1 * q.val = q.val
    omega
  · show 0 + 1 * k.val = k.val
    omega

theorem cell_rest (d : Fin 256) (k : Fin 1024) :
    (cell inb_S1792x1024_S256x1024_1536_0 x4 : Vec Ideal S256x1024 .bf16) (ix2 d k) = x4 (ix2 ⟨1536 + d.val, by have := d.isLt; omega⟩ k) := by
  refine congrArg x4 (funext fun x => Fin.ext ?_)
  fin_cases x
  · show 1536 + 1 * d.val = 1536 + d.val
    omega
  · show 0 + 1 * k.val = k.val
    omega

theorem plain2_at (u : Vec Ideal S256x128 .f32) (d : Fin 256) (r : Fin 128) : k0_pay2 u (ix2 d r) = u (ix2 d r) := by
  pointwise [k0_pay2]

theorem plain4_at (u : Vec Ideal S256x128 .f32) (d : Fin 256) (r : Fin 128) : k0_pay4 u (ix2 d r) = u (ix2 d r) := by
  pointwise [k0_pay4]

theorem both3_at (u v : Vec Ideal S256x128 .f32) (d : Fin 256) (r : Fin 128) : k0_pay3 u v (ix2 d r) = u (ix2 d r) + v (ix2 d r) := by
  pointwise [k0_pay3]

theorem both5_at (u v : Vec Ideal S256x128 .f32) (d : Fin 256) (r : Fin 128) : k0_pay5 u v (ix2 d r) = u (ix2 d r) + v (ix2 d r) := by
  pointwise [k0_pay5]

theorem block_0 (d : Fin 256) (r : Fin 128) : part x1 x2 0 (ix2 d r) = x1 (ix2 d (col 0 r)) := by
  exact (plain2_at (cell inb_S256x512_S256x128_0_0 x1) d r).trans (cell_own x1 0 inb_S256x512_S256x128_0_0 d r (col 0 r) (by show 128 * 0 + r.val = _; omega))

theorem block_1 (d : Fin 256) (r : Fin 128) : part x1 x2 1 (ix2 d r) = x1 (ix2 d (col 1 r)) + x2 (ix2 d ⟨r.val, by have := r.isLt; omega⟩) := by
  exact (both3_at (cell inb_S256x512_S256x128_0_128 x1) (cell inb_S256x256_S256x128_0_0 x2) d r).trans (congrArg₂ (· + ·) (cell_own x1 128 inb_S256x512_S256x128_0_128 d r (col 1 r) (by show 128 * 1 + r.val = _; omega))
    (cell_next x2 0 inb_S256x256_S256x128_0_0 d r ⟨r.val, by have := r.isLt; omega⟩ (by show r.val = 0 + r.val; omega)))

theorem block_2 (d : Fin 256) (r : Fin 128) : part x1 x2 2 (ix2 d r) = x1 (ix2 d (col 2 r)) := by
  exact (plain4_at (cell inb_S256x512_S256x128_0_256 x1) d r).trans (cell_own x1 256 inb_S256x512_S256x128_0_256 d r (col 2 r) (by show 128 * 2 + r.val = _; omega))

theorem block_3 (d : Fin 256) (r : Fin 128) : part x1 x2 3 (ix2 d r) = x1 (ix2 d (col 3 r)) + x2 (ix2 d ⟨128 + r.val, by have := r.isLt; omega⟩) := by
  exact (both5_at (cell inb_S256x512_S256x128_0_384 x1) (cell inb_S256x256_S256x128_0_128 x2) d r).trans (congrArg₂ (· + ·) (cell_own x1 384 inb_S256x512_S256x128_0_384 d r (col 3 r) (by show 128 * 3 + r.val = _; omega))
    (cell_next x2 128 inb_S256x256_S256x128_0_128 d r ⟨128 + r.val, by have := r.isLt; omega⟩ (by show 128 + r.val = 128 + r.val; omega)))

theorem sum_at (z : FVec Ideal S512x1024 .f32) (a : EReal) (w : Vec Ideal S1536x1024 .bf16) (s : Vec Ideal S256x512 .bf16) (v : Vec Ideal S256x1024 .bf16)
    (r : Fin 512) (k : Fin 1024) : k0_pay1 (F := Ideal) z a x0 w s v (ix2 r k)
      = a * z (ix2 r k) + (∑ q : Fin 1536, x0 (ix2 q r) * w (ix2 q k)) + ∑ d : Fin 256, s (ix2 d r) * v (ix2 d k) := by
  pointwise [k0_pay1]

theorem same_at (r : Fin 512) (k : Fin 1024) : k0_pay6 x3 (ix2 r k) = x3 (ix2 r k) := by
  pointwise [k0_pay6]

variable (i : grid0.Coords) (a1 : Memref sig .tc .vmem S1536x512 .bf16) (h1 : a1.IsWhole) (a2 : Memref sig .tc .vmem S256x512 .f32) (h2 : a2.IsWhole)
  (a3 : Memref sig .tc .vmem S256x256 .f32) (h3 : a3.IsWhole) (a4 : Memref sig .tc .vmem S512x1024 .f32) (h4 : a4.IsWhole)
  (a5 : Memref sig .tc .vmem S1792x1024 .bf16) (h5 : a5.IsWhole) (a6 : Memref sig .tc .vmem S512x1024 .f32) (h6 : a6.IsWhole)
  (a7 : Memref sig .tc .vmem S256x512 .bf16) (h7 : a7.IsWhole)

/-- A store, read back. -/
theorem stored (f : a7.view.ty.Contents (Elt Ideal)) (o : ℕ) (inb : ∀ x, (![0, o] : Fin 2 → ℕ) x + S256x128.size x ≤ S256x512.size x)
    (T : Vec Ideal S256x128 .bf16) (L : List (View.Piece (Elt Ideal) S256x512 .bf16)) :
    a7.view.read (Elt Ideal) (a7.view.writes (Elt Ideal) f (⟨Rect.unit (s := S256x512) ![0, o] S256x128.size inb, T⟩ :: L))
      = put inb T (a7.view.read (Elt Ideal) (a7.view.writes (Elt Ideal) f L)) :=
  funext fun y => View.read_writes_cons_unit a7.view f inb T L y rfl

/-- The four blocks stored, and all of them loaded. -/
theorem loaded (T0 T1 T2 T3 : Vec Ideal S256x128 .bf16) :
    a7.view.readCov (Val := Elt Ideal) [⟨Rect.unit (s := S256x512) ![0, 384] S256x128.size inb_S256x512_S256x128_0_384, T3⟩,
      ⟨Rect.unit (s := S256x512) ![0, 256] S256x128.size inb_S256x512_S256x128_0_256, T2⟩,
      ⟨Rect.unit (s := S256x512) ![0, 128] S256x128.size inb_S256x512_S256x128_0_128, T1⟩,
      ⟨Rect.unit (s := S256x512) ![0, 0] S256x128.size inb_S256x512_S256x128_0_0, T0⟩]
      (Rect.unit (s := S256x512) ![0, 0] ![256, 512] inb_S256x512_S256x512_0_0).toLoadRect
    = fill ![T0, T1, T2, T3] (a7.view.read (Elt Ideal) (a7.view.writes (Elt Ideal) a7.view.junk [])) := by
  refine (cell_full2 (a := 256) (b := 512) inb_S256x512_S256x512_0_0 _).trans ?_
  unfold fill
  refine (stored a7 _ 384 _ T3 _).trans (congrArg (put _ _) ?_)
  refine (stored a7 _ 256 _ T2 _).trans (congrArg (put _ _) ?_)
  refine (stored a7 _ 128 _ T1 _).trans (congrArg (put _ _) ?_)
  exact stored a7 _ 0 _ T0 _

theorem four {T0 T1 T2 T3 U0 U1 U2 U3 : Vec Ideal S256x128 .bf16} (S : Vec Ideal S256x512 .bf16)
    (e0 : T0 = U0) (e1 : T1 = U1) (e2 : T2 = U2) (e3 : T3 = U3) : fill ![T0, T1, T2, T3] S = fill ![U0, U1, U2, U3] S := by
  subst e0 e1 e2 e3
  rfl

theorem load_own (o : ℕ) (inb : ∀ x, (![0, o] : Fin 2 → ℕ) x + S256x128.size x ≤ S256x512.size x) :
    (a2.view.readAt (Elt Ideal) (Rect.unit (s := S256x512) ![0, o] S256x128.size inb).toLoadRect (h2.unread x1) : Vec Ideal S256x128 .f32) = cell inb x1 :=
  congrArg (cell inb) (h2.read_unread x1)

theorem load_next (o : ℕ) (inb : ∀ x, (![0, o] : Fin 2 → ℕ) x + S256x128.size x ≤ S256x256.size x) :
    (a3.view.readAt (Elt Ideal) (Rect.unit (s := S256x256) ![0, o] S256x128.size inb).toLoadRect (h3.unread x2) : Vec Ideal S256x128 .f32) = cell inb x2 :=
  congrArg (cell inb) (h3.read_unread x2)

theorem six {z z' : FVec Ideal S512x1024 .f32} {h h' : Vec Ideal S1536x512 .bf16} {w w' : Vec Ideal S1536x1024 .bf16} {s s' : Vec Ideal S256x512 .bf16}
    {v v' : Vec Ideal S256x1024 .bf16} (a : EReal) (ez : z = z') (eh : h = h') (ew : w = w') (es : s = s') (ev : v = v') :
    k0_pay1 (F := Ideal) z a h w s v = k0_pay1 (F := Ideal) z' a h' w' s' v' := by
  subst ez eh ew es ev
  rfl

/-- What a point leaves. -/
theorem left : out0_A_5 c i a1 h1 a2 h2 a3 h3 a4 h4 a5 h5 a6 h6 a7 h7 x0 x1 x2 x3 x4
    = k0_pay1 (F := Ideal) (k0_pay6 x3) alpha x0 (cell inb_S1792x1024_S1536x1024_0_0 x4)
      (fill (part x1 x2) (a7.view.read (Elt Ideal) (a7.view.writes (Elt Ideal) a7.view.junk []))) (cell inb_S1792x1024_S256x1024_1536_0 x4) := by
  unfold out0_A_5
  rw [View.read_writes_eq_canon _ _ _ (cover0_A_5 c i a1 h1 a2 h2 a3 h3 a4 h4 a5 h5 a6 h6 a7 h7 x0 x1 x2 x3 x4)]
  unfold kernelRun0_A
  dsimp only
  sl_unfold_words
  rw [View.canon_unit_zero zeros2]
  refine six alpha (congrArg k0_pay6 ?_) ?_ ?_ ((loaded a7 _ _ _ _).trans (four _ ?_ ?_ ?_ ?_)) ?_
  · exact (congrArg (cell inb_S512x1024_S512x1024_0_0) (h4.read_unread x3)).trans (cell_full2 (a := 512) (b := 1024) _ _)
  · exact (congrArg (cell inb_S1536x512_S1536x512_0_0) (h1.read_unread x0)).trans (cell_full2 (a := 1536) (b := 512) _ _)
  · exact congrArg (cell inb_S1792x1024_S1536x1024_0_0) (h5.read_unread x4)
  · exact congrArg k0_pay2 (load_own x1 a2 h2 0 _)
  · exact congrArg₂ k0_pay3 (load_own x1 a2 h2 128 _) (load_next x2 a3 h3 0 _)
  · exact congrArg k0_pay4 (load_own x1 a2 h2 256 _)
  · exact congrArg₂ k0_pay5 (load_own x1 a2 h2 384 _) (load_next x2 a3 h3 128 _)
  · exact congrArg (cell inb_S1792x1024_S256x1024_1536_0) (h5.read_unread x4)

end Body

theorem part_0 (t : Fin cfg0.N) (d : Fin 256) (r : Fin 128) :
    part (iblk m c 1 t) (iblk m c 2 t) 0 (ix2 d r) = (args m c).dkv (tokAt t (col 0 r)) d := by
  have hr := r.isLt
  rw [block_0 (iblk m c 1 t) (iblk m c 2 t) d r, Args.dkv_first _ _ _ (by show (t.val * 512 + (128 * 0 + r.val)) / 128 % 2 = 0; omega)]
  exact block1 m c t d (col 0 r)

theorem part_1 (t : Fin cfg0.N) (d : Fin 256) (r : Fin 128) :
    part (iblk m c 1 t) (iblk m c 2 t) 1 (ix2 d r) = (args m c).dkv (tokAt t (col 1 r)) d := by
  have hr := r.isLt
  rw [block_1 (iblk m c 1 t) (iblk m c 2 t) d r]
  refine Eq.trans (congrArg₂ (· + ·) (block1 m c t d (col 1 r)) (block2 m c t d ⟨r.val, by have := r.isLt; omega⟩)) ?_
  refine (Args.dkv_second _ _ _ ?_ _ _ ?_ ?_).symm
  · show ¬(t.val * 512 + (128 * 1 + r.val)) / 128 % 2 = 0
    omega
  · show (t.val * 256 + (r.val)) / 128 = (t.val * 512 + (128 * 1 + r.val)) / 256
    omega
  · show (t.val * 256 + (r.val)) % 128 = (t.val * 512 + (128 * 1 + r.val)) % 128
    omega

theorem part_2 (t : Fin cfg0.N) (d : Fin 256) (r : Fin 128) :
    part (iblk m c 1 t) (iblk m c 2 t) 2 (ix2 d r) = (args m c).dkv (tokAt t (col 2 r)) d := by
  have hr := r.isLt
  rw [block_2 (iblk m c 1 t) (iblk m c 2 t) d r, Args.dkv_first _ _ _ (by show (t.val * 512 + (128 * 2 + r.val)) / 128 % 2 = 0; omega)]
  exact block1 m c t d (col 2 r)

theorem part_3 (t : Fin cfg0.N) (d : Fin 256) (r : Fin 128) :
    part (iblk m c 1 t) (iblk m c 2 t) 3 (ix2 d r) = (args m c).dkv (tokAt t (col 3 r)) d := by
  have hr := r.isLt
  rw [block_3 (iblk m c 1 t) (iblk m c 2 t) d r]
  refine Eq.trans (congrArg₂ (· + ·) (block1 m c t d (col 3 r)) (block2 m c t d ⟨128 + r.val, by have := r.isLt; omega⟩)) ?_
  refine (Args.dkv_second _ _ _ ?_ _ _ ?_ ?_).symm
  · show ¬(t.val * 512 + (128 * 3 + r.val)) / 128 % 2 = 0
    omega
  · show (t.val * 256 + (128 + r.val)) / 128 = (t.val * 512 + (128 * 3 + r.val)) / 256
    omega
  · show (t.val * 256 + (128 + r.val)) % 128 = (t.val * 512 + (128 * 3 + r.val)) % 128
    omega

/-- The keys' and values' columns at a point: the gradients of its tokens. -/
theorem part_at (t : Fin cfg0.N) (d : Fin 256) (r : Fin 128) : ∀ b : Fin 4,
    part (iblk m c 1 t) (iblk m c 2 t) b (ix2 d r) = (args m c).dkv (tokAt t (col b r)) d
  | 0 => part_0 m c t d r
  | 1 => part_1 m c t d r
  | 2 => part_2 m c t d r
  | 3 => part_3 m c t d r

/-- The gradients a point writes. -/
theorem dx_at (t : Fin cfg0.N) (x : Fin 512) (k : Fin 1024) : (dats m 0 c).after 5 t (ix2 x k) = (args m c).dx (tokAt t x) k := by
  obtain ⟨b, r, rfl⟩ : ∃ b r, x = col b r :=
    ⟨⟨x.val / 128, by have := x.isLt; omega⟩, ⟨x.val % 128, by omega⟩, Fin.ext (Nat.div_add_mod _ _).symm⟩
  rw [after0_5]
  unfold outsAt0
  rw [left]
  refine (sum_at _ _ _ _ _ _ _ _).trans ?_
  refine congrArg₂ (· + ·) (congrArg₂ (· + ·) (congrArg _ ((same_at _ _ _).trans (block3 m c t _ k))) ?_) ?_
  · exact Finset.sum_congr rfl fun q _ => congrArg₂ (· * ·) (block0 m c t q _) ((cell_first _ q k).trans (block4 m c t _ k))
  · exact Finset.sum_congr rfl fun d _ => congrArg₂ (· * ·) ((fill_at _ _ b d r).trans (part_at m c t d r b)) ((cell_rest _ d k).trans (block4 m c t _ k))

/-- The input's gradient, in the end. -/
theorem final_dx : (dats m 0 c).arrAt 5 cfg0.N = (fun j : S4096x1024.Idx => (args m c).dx (j 0) (j 1)) := by
  refine (dats m 0 c).arrAt_eq_of_covers 5 _ (by decide +kernel) fun t hf y => ?_
  have e0 : (((cfg0.win 5).blk t).view.emb y 0 : Fin 4096) = tokAt t (y 0) := Fin.ext (by blk_simp [idx t]; simp only [tokAt])
  have e1 : (((cfg0.win 5).blk t).view.emb y 1 : Fin 1024) = y 1 := Fin.ext (by blk_simp [idx t])
  have hv := dx_at m c t (y 0) (y 1)
  rw [← place_split (a := 512) (b := 1024) y] at hv
  refine Eq.trans hv ?_
  rw [← e0, ← e1]

end Cert.DxIdeal.Hand

namespace Cert.DxRefIdeal.Hand

open Cert.DxRefIdeal Cert.DxRefIdeal.Gen Cert.DxRefIdeal.Value
open Idealize.ShloMosaic Idealize.ShloMosaic.TcCoe Idealize.SL.Sem
open Cert.DxMath
open scoped BigOperators

/-- The arguments, by their places. -/
def args (m : (ℓ : Loc nD τ sig) → Buf (Elt Ideal) ℓ) (c : Dev nD) : Args where
  w k q := (m ((c : Thread nD τ).loc main_arg1) : Vec Ideal S1x1024x1792 .f32) (ix3 0 k q)
  dh i q := (m ((c : Thread nD τ).loc main_arg2) : Vec Ideal S1x4096x1536 .f32) (ix3 0 i q)
  own i d := (m ((c : Thread nD τ).loc main_arg3) : Vec Ideal S1x4096x256 .f32) (ix3 0 i d)
  next n r d := (m ((c : Thread nD τ).loc main_arg4) : Vec Ideal S1x16x128x256 .f32) (ix4 0 n r d)
  ct i k := (m ((c : Thread nD τ).loc main_arg5) : Vec Ideal S1x4096x1024 .f32) (ix3 0 i k)

/-- Own blocks, each second one with the next block added. -/
theorem blocks_at (o : FVec Ideal S1x4096x256 .f32) (n : FVec Ideal S1x16x128x256 .f32) (i : Fin 4096) (d : Fin 256) :
    (shapeCast S1x4096x256 (concatenate S1x16x2x128x256 2 [⟨S1x16x1x128x256, (broadcastInDim S1x16x1x128x256 ![0, 1, 3, 4] bcast_S1x16x128x256_S1x16x1x128x256_0_1_3_4
      (shapeCast S1x16x128x256 (extractStridedSlice S1x16x1x128x256 ![0, 0, 0, 0, 0] (shapeCast S1x16x2x128x256 o shapeCasts_S1x4096x256_S1x16x2x128x256)
        slices_S1x16x2x128x256_S1x16x1x128x256_0_0_0_0_0) shapeCasts_S1x16x1x128x256_S1x16x128x256))⟩,
      ⟨S1x16x1x128x256, (broadcastInDim S1x16x1x128x256 ![0, 1, 3, 4] bcast_S1x16x128x256_S1x16x1x128x256_0_1_3_4
        (addf (shapeCast S1x16x128x256 (extractStridedSlice S1x16x1x128x256 ![0, 0, 1, 0, 0] (shapeCast S1x16x2x128x256 o shapeCasts_S1x4096x256_S1x16x2x128x256)
          slices_S1x16x2x128x256_S1x16x1x128x256_0_0_1_0_0) shapeCasts_S1x16x1x128x256_S1x16x128x256) n))⟩]
      concatenates_S1x16x1x128x256_S1x16x1x128x256_S1x16x2x128x256_d2) shapeCasts_S1x16x2x128x256_S1x4096x256 : FVec Ideal S1x4096x256 .f32) (ix3 0 i d)
    = if i.val / 128 % 2 = 0 then o (ix3 0 i d)
      else o (ix3 0 i d) + n (ix4 0 ⟨i.val / 256, by have := i.isLt; omega⟩ ⟨i.val % 128, by omega⟩ d) := by
  pointwise
  by_cases e : i.val / 128 % 2 = 0
  · refine (dif_pos (by omega)).trans (Eq.trans ?_ (if_pos e).symm)
    exact congrArg (fun a => o (ix3 0 a d)) (Fin.ext (by show i.val / 256 * 256 + i.val % 128 = i.val; omega))
  · refine (dif_neg (by omega)).trans (Eq.trans ?_ (if_neg e).symm)
    exact congrArg (fun a => o (ix3 0 a d) + n _) (Fin.ext (by show i.val / 256 * 256 + 128 + i.val % 128 = i.val; omega))

/-- The first columns … -/
theorem joined_first (h : FVec Ideal S1x4096x1536 .f32) (D : FVec Ideal S1x4096x256 .f32) (i : Fin 4096) (q : Fin 1536) :
    (concatenate S1x4096x1792 2 [⟨S1x4096x1536, h⟩, ⟨S1x4096x256, D⟩] concatenates_S1x4096x1536_S1x4096x256_S1x4096x1792_d2 : FVec Ideal S1x4096x1792 .f32)
      (ix3 0 i ⟨q.val, by have := q.isLt; omega⟩) = h (ix3 0 i q) := by
  pointwise

/-- … and the keys' and values'. -/
theorem joined_rest (h : FVec Ideal S1x4096x1536 .f32) (D : FVec Ideal S1x4096x256 .f32) (i : Fin 4096) (d : Fin 256) :
    (concatenate S1x4096x1792 2 [⟨S1x4096x1536, h⟩, ⟨S1x4096x256, D⟩] concatenates_S1x4096x1536_S1x4096x256_S1x4096x1792_d2 : FVec Ideal S1x4096x1792 .f32)
      (ix3 0 i ⟨1536 + d.val, by have := d.isLt; omega⟩) = D (ix3 0 i d) := by
  pointwise

/-- A product with the projection's columns, on the residual's part. -/
theorem product_at (P : FVec Ideal S1x4096x1792 .f32) (w : FVec Ideal S1x1024x1792 .f32) (g : FVec Ideal S1x4096x1024 .f32) (i : Fin 4096) (k : Fin 1024) :
    (shapeCast S4096x1024 (addf (Host.dotGeneral dot_S1x4096x1792_S1024x1792_S1x4096x1024_2_1_01_0_n_n none P
      (shapeCast S1024x1792 w shapeCasts_S1x1024x1792_S1024x1792)) (mulf (broadcastInDim S1x4096x1024 ![] bcast_S_S1x4096x1024 (constant S_ .f32 0x3F9837F0#32)) g))
      shapeCasts_S1x4096x1024_S4096x1024 : FVec Ideal S4096x1024 .f32) (ix2 i k)
    = (∑ q : Fin 1792, P (ix3 0 i q) * w (ix3 0 k q)) + alpha * g (ix3 0 i k) := by
  pointwise
  rfl

/-- The input's gradient, at every place. -/
theorem results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = (fun j : S4096x1024.Idx => (args m c).dx (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans ?_, (h c).2⟩) (run m ρ)
  funext j
  obtain ⟨i, k, rfl⟩ : ∃ (i : Fin 4096) (k : Fin 1024), j = ix2 i k := ⟨j 0, j 1, ValueIdx.eq_ix2 j⟩
  refine (product_at _ _ _ i k).trans (Eq.trans ?_ (Eq.trans (add_comm _ _) (add_assoc _ _ _).symm))
  refine congrArg (· + _) ((Fin.sum_univ_add (a := 1536) (b := 256) _).trans (congrArg₂ (· + ·) ?_ ?_))
  · exact Finset.sum_congr rfl fun q _ => congrArg₂ (· * ·) (joined_first _ _ i q) rfl
  · exact Finset.sum_congr rfl fun d _ => congrArg₂ (· * ·) ((joined_rest _ _ i d).trans (blocks_at _ _ i d)) rfl

end Cert.DxRefIdeal.Hand
-- ==== Proof.TabValue.lean ====
module

public import proofs.«01_k».proof.Proof.FwdWord
public import proofs.«01_k».proof.Proof.OutMath
public import proofs.«01_k».proof.Proof.Gen.TabIdeal.Frame
public import Idealize.ShloMosaic.Lib.Pipeline.Value
public import Idealize.ShloMosaic.Lib.Pipeline.ValueKit
public import Idealize.ShloMosaic.Lib.StableHlo.RunRead

/-!
The rotation tables' two results, from the tokens' positions.
-/

@[expose] public section

set_option maxRecDepth 16384

noncomputable section

namespace Cert.TabIdeal.Hand

open Cert.TabIdeal Cert.TabIdeal.Gen
open Idealize.ShloMosaic Idealize.ShloMosaic.TcCoe Idealize.ShloMosaic.Tactic Idealize.SL.Sem
open Idealize.ShloMosaic.Pipeline (Dat)
open Cert.FwdMath
open Cert.OutMath (zeros2 place_split)

/-- The cosine table: both halves of a row's channels turn by the same angles. -/
def cosTab (p : Vec Ideal S1x4096 .i32) (d : Fin 64) (i : Fin 4096) : EReal := Ideal.cos (angle (p (ix2 0 i)) ⟨d.val % 32, by omega⟩)
/-- The sine table, the first half negated. -/
def sinTab (p : Vec Ideal S1x4096 .i32) (d : Fin 64) (i : Fin 4096) : EReal :=
  Ideal.sin (angle (p (ix2 0 i)) ⟨d.val % 32, by omega⟩) * (if d.val < 32 then -1 else 1)

variable (m : (ℓ : Loc nD τ sig) → Buf (Elt Ideal) ℓ) (ρ : Dev nD → PrngReg) (c : Dev nD)

/-- The inverse frequency of a channel. -/
def freq (d : Fin 64) : EReal := Ideal.pow (Ideal.ofBits FTy.f32 1176256512#32)
    (Ideal.div (-(Ideal.ofBits FTy.f32 1073741824#32 * FloatOps.sitofp (F := Ideal) FTy.f32 (BitVec.ofNat 32 (d.val % 32)))) (Ideal.ofBits FTy.f32 1115684864#32))

theorem freqs (d : Fin 64) : (V m c main_v13 : Vec Ideal S64x1 .f32) (ix2 d 0) = freq d := by
  show StableHlo.after _ _ _ _ = _
  after_reads_simp
  pointwise
  rfl

/-- The token in column `x` of point `t`'s blocks. -/
def tokAt (t : Fin cfg0.N) (x : Fin 512) : Fin 4096 :=
  ⟨t.val * 512 + x.val, by have := t.isLt; have : cfg0.N = 8 := N_0; have := x.isLt; omega⟩

theorem idx : ∀ t : Fin cfg0.N, win0_0.index t = ![0, t.val] ∧ win0_1.index t = ![0, 0] :=
  (by decide +kernel : ∀ t : Fin grid0.N, _)

theorem idxOut : ∀ t : Fin cfg0.N, win0_2.index t = ![0, t.val] ∧ win0_3.index t = ![0, t.val] :=
  (by decide +kernel : ∀ t : Fin grid0.N, _)

theorem block0 (t : Fin cfg0.N) (x : Fin 512) :
    (iblk m c 0 t : Vec Ideal S1x512 .i32) (ix2 0 x) = (V m c main_arg0 : Vec Ideal S1x4096 .i32) (ix2 0 (tokAt t x)) := by
  blk_ext [iblk, idx t, tokAt]

theorem block1 (t : Fin cfg0.N) (d : Fin 64) :
    (iblk m c 1 t : Vec Ideal S64x1 .f32) (ix2 d 0) = (V m c main_v13 : Vec Ideal S64x1 .f32) (ix2 d 0) := by
  blk_ext [iblk, idx t]

theorem angles_at (t : Fin cfg0.N) (d : Fin 64) (x : Fin 512) : k0_pay1 (iblk m c 0 t) (iblk m c 1 t) (ix2 d x)
    = angle ((m ((c : Thread nD τ).loc main_arg0) : Vec Ideal S1x4096 .i32) (ix2 0 (tokAt t x))) ⟨d.val % 32, by omega⟩ := by
  have h : ∀ (p : Vec Ideal S1x512 .i32) (f : Vec Ideal S64x1 .f32), k0_pay1 p f (ix2 d x) = FloatOps.sitofp (F := Ideal) FTy.f32 (p (ix2 0 x)) * f (ix2 d 0) := by
    intro p f
    pointwise [k0_pay1]
  rw [h, block0, block1, freqs, V_main_arg0]
  rfl

/-- The cosines a point writes. -/
theorem cos_at (t : Fin cfg0.N) (d : Fin 64) (x : Fin 512) :
    (dats m 0 c).after 2 t (ix2 d x) = cosTab (m ((c : Thread nD τ).loc main_arg0)) d (tokAt t x) := by
  rw [after0_2]
  unfold out0_2
  rw [View.canon_unit_zero zeros2, View.ld_unit_zero zeros2, View.ld_unit_zero zeros2]
  exact congrArg Ideal.cos (angles_at m c t d x)

/-- The sines a point writes. -/
theorem sin_at (t : Fin cfg0.N) (d : Fin 64) (x : Fin 512) :
    (dats m 0 c).after 3 t (ix2 d x) = sinTab (m ((c : Thread nD τ).loc main_arg0)) d (tokAt t x) := by
  rw [after0_3]
  unfold out0_3
  rw [View.canon_unit_zero zeros2, View.ld_unit_zero zeros2, View.ld_unit_zero zeros2]
  have h : ∀ (p : Vec Ideal S1x512 .i32) (f : Vec Ideal S64x1 .f32), k0_pay3 p f (ix2 d x) = Ideal.sin (k0_pay1 p f (ix2 d x)) * (if d.val < 32 then -1 else 1) := by
    intro p f
    unfold k0_pay3
    generalize k0_pay1 p f = a
    pointwise
    refine congrArg₂ (· * ·) rfl ?_
    have e2 : Ideal.ofBits FTy.f32 3212836864#32 = -1 := by
      simp [Ideal.ofBits, Ideal.ieee]
      rw [← EReal.coe_mul]
      norm_num
    rw [e2]
    exact half_word d.val d.isLt _ _
  rw [h, angles_at]
  rfl

/-- The cosines, in the end. -/
theorem final_cos : (dats m 0 c).arrAt 2 cfg0.N = (fun j : S64x4096.Idx => cosTab (m ((c : Thread nD τ).loc main_arg0)) (j 0) (j 1)) := by
  refine (dats m 0 c).arrAt_eq_of_covers 2 _ (by decide +kernel) fun t hf y => ?_
  have e0 : (((cfg0.win 2).blk t).view.emb y 0 : Fin 64) = y 0 := Fin.ext (by blk_simp [idxOut t])
  have e1 : (((cfg0.win 2).blk t).view.emb y 1 : Fin 4096) = tokAt t (y 1) := Fin.ext (by blk_simp [idxOut t]; simp only [tokAt])
  have hv := cos_at m c t (y 0) (y 1)
  rw [← place_split (a := 64) (b := 512) y] at hv
  refine Eq.trans hv ?_
  rw [← e0, ← e1]

/-- The sines, in the end. -/
theorem final_sin : (dats m 0 c).arrAt 3 cfg0.N = (fun j : S64x4096.Idx => sinTab (m ((c : Thread nD τ).loc main_arg0)) (j 0) (j 1)) := by
  refine (dats m 0 c).arrAt_eq_of_covers 3 _ (by decide +kernel) fun t hf y => ?_
  have e0 : (((cfg0.win 3).blk t).view.emb y 0 : Fin 64) = y 0 := Fin.ext (by blk_simp [idxOut t])
  have e1 : (((cfg0.win 3).blk t).view.emb y 1 : Fin 4096) = tokAt t (y 1) := Fin.ext (by blk_simp [idxOut t]; simp only [tokAt])
  have hv := sin_at m c t (y 0) (y 1)
  rw [← place_split (a := 64) (b := 512) y] at hv
  refine Eq.trans hv ?_
  rw [← e0, ← e1]

/-- Every run ends with the two tables, the positions kept. -/
theorem results : θ_run defs (onTc (τ := τ) (main (F := Ideal))) ⟨m, fun _ => 0, ρ⟩ fun r => ∀ c : Dev nD,
    r.2.mem ((c : Thread nD τ).loc main_v14_0) = (fun j : S64x4096.Idx => cosTab (m ((c : Thread nD τ).loc main_arg0)) (j 0) (j 1))
    ∧ r.2.mem ((c : Thread nD τ).loc main_v14_1) = (fun j : S64x4096.Idx => sinTab (m ((c : Thread nD τ).loc main_arg0)) (j 0) (j 1))
    ∧ r.2.mem ((c : Thread nD τ).loc main_arg0) = m ((c : Thread nD τ).loc main_arg0) :=
  (θ_run defs _ _).mono (fun r h c => ⟨((h.1 c).1 2).trans (final_cos m c), ((h.1 c).1 3).trans (final_sin m c), h.2.1 c⟩)
    (θ_run_and (run_main m ρ) (frame m ρ))

end Cert.TabIdeal.Hand
-- ==== Proof.TabRefValue.lean ====
module

public import proofs.«01_k».proof.Proof.TabValue
public import proofs.«01_k».proof.Proof.Gen.TabRefIdeal.Run

/-!
The reference rotation tables, from the tokens' positions.
-/

@[expose] public section

set_option maxRecDepth 16384

noncomputable section

namespace Cert.TabRefIdeal.Hand

open Cert.TabRefIdeal Cert.TabRefIdeal.Gen Cert.TabRefIdeal.Value
open Idealize.ShloMosaic Idealize.ShloMosaic.TcCoe Idealize.SL.Sem
open Cert.FwdMath
open Cert.TabIdeal.Hand (cosTab sinTab)

/-- A channel's angle from its number. -/
theorem angle_of (p : BitVec 32) (d : Fin 64) (n : ℕ) (hn : n = d.val % 32) :
    FloatOps.sitofp (F := Ideal) FTy.f32 p * Ideal.pow (Ideal.ofBits FTy.f32 1176256512#32)
      (Ideal.div (-(Ideal.ofBits FTy.f32 1073741824#32 * FloatOps.sitofp (F := Ideal) FTy.f32 (BitVec.ofNat 32 n))) (Ideal.ofBits FTy.f32 1115684864#32))
      = angle p ⟨d.val % 32, by omega⟩ := by
  subst hn
  rfl

/-- Every run ends with the two tables. -/
theorem results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = (fun j : S64x4096.Idx => cosTab (m ((c : Thread nD τ).loc main_arg0)) (j 0) (j 1))
      ∧ r.2.mem ((c.tc : Thread nD τ).loc main_v24) = (fun j : S64x4096.Idx => sinTab (m ((c : Thread nD τ).loc main_arg0)) (j 0) (j 1))
      ∧ r.2.mem ((c.tc : Thread nD τ).loc main_arg0) = m ((c.tc : Thread nD τ).loc main_arg0) := by
  refine (θ_run defs _ _).mono (fun r h c => ⟨(h c).1.trans ?_, (h c).2.1.trans ?_, (h c).2.2⟩) (run m ρ)
  · funext j
    obtain ⟨d, i, rfl⟩ : ∃ (d : Fin 64) (i : Fin 4096), j = ix2 d i := ⟨j 0, j 1, ValueIdx.eq_ix2 j⟩
    pointwise
    by_cases h : d.val < 32
    · rw [dif_pos h, angle_of _ d _ (Nat.mod_eq_of_lt h).symm]
      rfl
    · rw [dif_neg h, angle_of _ d _ (by have := d.isLt; omega)]
      rfl
  · funext j
    obtain ⟨d, i, rfl⟩ : ∃ (d : Fin 64) (i : Fin 4096), j = ix2 d i := ⟨j 0, j 1, ValueIdx.eq_ix2 j⟩
    pointwise
    by_cases h : d.val < 32
    · rw [dif_pos h, angle_of _ d _ (Nat.mod_eq_of_lt h).symm]
      show _ = sinTab _ d i
      unfold sinTab
      rw [if_pos h, mul_neg, mul_one]
    · rw [dif_neg h, angle_of _ d _ (by have := d.isLt; omega)]
      show _ = sinTab _ d i
      unfold sinTab
      rw [if_neg h, mul_one]

end Cert.TabRefIdeal.Hand
-- ==== Proof.lean ====
module

public import proofs.«01_k».proof.Defs
public import proofs.«01_k».proof.Proof.Gen.Ffn
public import proofs.«01_k».proof.Proof.Gen.FfnIdeal
public import proofs.«01_k».proof.Proof.Gen.FfnRefIdeal
public import proofs.«01_k».proof.Proof.Gen.FfnRefIdeal.Run
public import proofs.«01_k».proof.Proof.Gen.Pre_ffn_finite
public import proofs.«01_k».proof.Proof.Gen.Pre_forward_finite
public import proofs.«01_k».proof.Proof.Gen.Mix
public import proofs.«01_k».proof.Proof.Gen.MixIdeal
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.Fwd
public import proofs.«01_k».proof.Proof.Gen.FwdIdeal
public import proofs.«01_k».proof.Proof.Gen.FwdIdeal.Frame
public import proofs.«01_k».proof.Proof.Gen.FwdIdeal.Value
public import proofs.«01_k».proof.Proof.Gen.FwdRefIdeal
public import proofs.«01_k».proof.Proof.Gen.FwdRefIdeal.Run
public import proofs.«01_k».proof.Proof.Gen.Tab
public import proofs.«01_k».proof.Proof.Gen.TabIdeal
public import proofs.«01_k».proof.Proof.Gen.TabIdeal.Frame
public import proofs.«01_k».proof.Proof.Gen.TabRefIdeal
public import proofs.«01_k».proof.Proof.Gen.TabRefIdeal.Run
public import proofs.«01_k».proof.Proof.Gen.Out
public import proofs.«01_k».proof.Proof.Gen.OutIdeal
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.Dx
public import proofs.«01_k».proof.Proof.Gen.DxIdeal
public import proofs.«01_k».proof.Proof.Gen.DxIdeal.Frame
public import proofs.«01_k».proof.Proof.Gen.DxIdeal.Value
public import proofs.«01_k».proof.Proof.Gen.DxRefIdeal
public import proofs.«01_k».proof.Proof.Gen.DxRefIdeal.Run
public import proofs.«01_k».proof.Proof.Gen.Inp
public import proofs.«01_k».proof.Proof.Gen.InpIdeal
public import proofs.«01_k».proof.Proof.Gen.InpIdeal.Frame
public import proofs.«01_k».proof.Proof.Gen.InpIdeal.Value
public import proofs.«01_k».proof.Proof.Gen.InpRefIdeal
public import proofs.«01_k».proof.Proof.Gen.InpRefIdeal.Run
public import proofs.«01_k».proof.Proof.Gen.Att
public import proofs.«01_k».proof.Proof.Gen.AttIdeal
public import proofs.«01_k».proof.Proof.Gen.AttIdeal.Frame
public import proofs.«01_k».proof.Proof.Gen.AttRefIdeal
public import proofs.«01_k».proof.Proof.Gen.AttRefIdeal.Run
public import proofs.«01_k».proof.Proof.Gen.Back
public import proofs.«01_k».proof.Proof.Gen.BackIdeal
public import proofs.«01_k».proof.Proof.Gen.BackIdeal.Frame
public import proofs.«01_k».proof.Proof.Gen.BackIdeal.Value
public import proofs.«01_k».proof.Proof.Gen.BackRefIdeal
public import proofs.«01_k».proof.Proof.Gen.BackRefIdeal.Run
public import proofs.«01_k».proof.Proof.FfnFrame
public import proofs.«01_k».proof.Proof.FfnRefFinal
public import proofs.«01_k».proof.Proof.MixValue
public import proofs.«01_k».proof.Proof.FwdFinite
public import proofs.«01_k».proof.Proof.FwdRefResult
public import proofs.«01_k».proof.Proof.AttStep
public import proofs.«01_k».proof.Proof.AttRefValue
public import proofs.«01_k».proof.Proof.MixRefValue
public import proofs.«01_k».proof.Proof.OutValue
public import proofs.«01_k».proof.Proof.OutRefValue
public import proofs.«01_k».proof.Proof.InpValue
public import proofs.«01_k».proof.Proof.BackValue
public import proofs.«01_k».proof.Proof.DxValue
public import proofs.«01_k».proof.Proof.TabValue
public import proofs.«01_k».proof.Proof.TabRefValue
public import Idealize.ShloMosaic.Adequacy
public import Idealize.ShloMosaic.Init

@[expose] public section

noncomputable section

namespace Cert.Proof

open Idealize.ShloMosaic Idealize.SL.Sem Cert.Ffn

/-- The kernel's program and the one read over the extended reals are the same text, so the one run serves both. -/
theorem kept_ffn : quiescent_Ffn (hFfn := Cert.Ffn.Gen.facts) := by
  intro m ρ _
  have e : (θ_run (Cert.Ffn.defs (F := Bits)) (onTc (τ := Cert.Ffn.τ) (Cert.Ffn.main (F := Bits))) ⟨m, fun _ => 0, ρ⟩)
      = (θ_run (Cert.FfnIdeal.defs (F := Bits)) (onTc (τ := Cert.FfnIdeal.τ) (Cert.FfnIdeal.main (F := Bits))) ⟨m, fun _ => 0, ρ⟩) := by
    sl_kernel_rfl
  rw [e]
  exact Cert.FfnIdeal.Hand.kept (F := Bits) m ρ

theorem kept_ref : quiescent_FfnRefIdeal (hFfnRefIdeal := Cert.FfnRefIdeal.Gen.facts) := fun m ρ _ =>
  (θ_run Cert.FfnRefIdeal.defs _ _).mono (fun r h => ⟨fun c => (h c).2.2.2.2.2, Idealize.ShloMosaic.sem_eq_zero_of_no_sems (by decide) r.2⟩)
    (Cert.FfnRefIdeal.Value.run m ρ)

/-- Over the extended reals the kernel's results are the reference's whenever the arguments are real numbers. -/
theorem same_values : algebraic_FfnIdeal_FfnRefIdeal_pre_ffn_finite (hFfnIdeal := Cert.FfnIdeal.Gen.facts)
    (hFfnRefIdeal := Cert.FfnRefIdeal.Gen.facts) (hPre_ffn_finite := Cert.Pre_ffn_finite.Gen.facts) := by
  intro m ρ m' ρ' pre agree
  choose P Z T reads using fun c => Cert.FfnIdeal.Hand.argReads_of_pre m c pre
  have refReads := fun c => Cert.FfnRefIdeal.Hand.reads_of (m' := m') (reads c) (agree c)
  refine ⟨fun c => (fun j => (((P c).act (Z c (j 0)) (j 1) : ℝ) : EReal)), fun c => (fun j => (((P c).dpre (Z c (j 0)) (T c (j 0)) (j 1) : ℝ) : EReal)),
    fun c => (fun j => (((P c).dz2 (Z c (j 0)) (T c (j 0)) (j 1) : ℝ) : EReal)), fun c => (fun j => (((P c).dz1 (Z c (j 0)) (T c (j 0)) (j 1) : ℝ) : EReal)),
    fun c => (fun j => ((Cert.FfnIdeal.Hand.statRow (P c) (Z c) (T c) (j 0) (j 1) : ℝ) : EReal)), ?_, ?_⟩
  · refine (θ_run Cert.FfnIdeal.defs _ _).mono (fun r h c => ?_)
      (θ_run_and (Cert.FfnIdeal.Hand.run_arrays (F := Ideal) m ρ) (Cert.FfnIdeal.Hand.kept (F := Ideal) m ρ))
    exact ⟨((h.1 c).1 8).trans (Cert.FfnIdeal.Hand.final_act (reads c)), ((h.1 c).1 9).trans (Cert.FfnIdeal.Hand.final_dpre (reads c)),
      ((h.1 c).1 10).trans (Cert.FfnIdeal.Hand.final_dz2 (reads c)), ((h.1 c).1 11).trans (Cert.FfnIdeal.Hand.final_dz1 (reads c)),
      ((h.1 c).1 12).trans (Cert.FfnIdeal.Hand.final_stats (reads c)), h.2.1 c⟩
  · refine (θ_run Cert.FfnRefIdeal.defs _ _).mono (fun r h c => ?_) (Cert.FfnRefIdeal.Value.run m' ρ')
    exact ⟨(h c).1.trans (refReads c).final_act, (h c).2.1.trans (refReads c).final_dpre, (h c).2.2.1.trans (refReads c).final_dz2,
      (h c).2.2.2.1.trans (refReads c).final_dz1, (h c).2.2.2.2.1.trans (refReads c).final_stats, (h c).2.2.2.2.2⟩

theorem kept_mix : quiescent_Mix (hMix := Cert.Mix.Gen.facts) := by
  intro m ρ _
  have e : (θ_run (Cert.Mix.defs (F := Bits)) (onTc (τ := Cert.Mix.τ) (Cert.Mix.main (F := Bits))) ⟨m, fun _ => 0, ρ⟩)
      = (θ_run (Cert.MixIdeal.defs (F := Bits)) (onTc (τ := Cert.MixIdeal.τ) (Cert.MixIdeal.main (F := Bits))) ⟨m, fun _ => 0, ρ⟩) := by
    sl_kernel_rfl
  rw [e]
  exact Cert.MixIdeal.Gen.frame (F := Bits) m ρ

theorem kept_mix_ref : quiescent_MixRefIdeal (hMixRefIdeal := Cert.MixRefIdeal.Gen.facts) := fun m ρ _ =>
  (θ_run Cert.MixRefIdeal.defs _ _).mono (fun r h => ⟨fun c => (h c).2.2.2, Idealize.ShloMosaic.sem_eq_zero_of_no_sems (by decide) r.2⟩)
    (Cert.MixRefIdeal.Value.run m ρ)

/-- The two programs read the same arrays when their arguments agree. -/
theorem same_args {m : (ℓ : Loc Cert.MixIdeal.nD Cert.MixIdeal.τ Cert.MixIdeal.sig) → Buf (Elt Ideal) ℓ}
    {m' : (ℓ : Loc Cert.MixRefIdeal.nD Cert.MixRefIdeal.τ Cert.MixRefIdeal.sig) → Buf (Elt Ideal) ℓ} (c : Dev Cert.MixIdeal.nD)
    (h0 : m' ((c.tc : Thread Cert.MixRefIdeal.nD Cert.MixRefIdeal.τ).loc Cert.MixRefIdeal.main_arg0) = m ((c.tc : Thread Cert.MixIdeal.nD Cert.MixIdeal.τ).loc Cert.MixIdeal.main_arg0))
    (h2 : m' ((c.tc : Thread Cert.MixRefIdeal.nD Cert.MixRefIdeal.τ).loc Cert.MixRefIdeal.main_arg2) = m ((c.tc : Thread Cert.MixIdeal.nD Cert.MixIdeal.τ).loc Cert.MixIdeal.main_arg2))
    (h3 : m' ((c.tc : Thread Cert.MixRefIdeal.nD Cert.MixRefIdeal.τ).loc Cert.MixRefIdeal.main_arg3) = m ((c.tc : Thread Cert.MixIdeal.nD Cert.MixIdeal.τ).loc Cert.MixIdeal.main_arg3))
    (h4 : m' ((c.tc : Thread Cert.MixRefIdeal.nD Cert.MixRefIdeal.τ).loc Cert.MixRefIdeal.main_arg4) = m ((c.tc : Thread Cert.MixIdeal.nD Cert.MixIdeal.τ).loc Cert.MixIdeal.main_arg4))
    (h7 : m' ((c.tc : Thread Cert.MixRefIdeal.nD Cert.MixRefIdeal.τ).loc Cert.MixRefIdeal.main_arg7) = m ((c.tc : Thread Cert.MixIdeal.nD Cert.MixIdeal.τ).loc Cert.MixIdeal.main_arg7)) :
    Cert.MixRefIdeal.Hand.args m' c = Cert.MixIdeal.Hand.args m c := by
  unfold Cert.MixRefIdeal.Hand.args Cert.MixIdeal.Hand.args
  rw [h0, h2, h3, h4, h7]

/-- Over the extended reals the mixing unit's three gradients are the reference's, on every input. -/
theorem same_mix : algebraic_MixIdeal_MixRefIdeal (hMixIdeal := Cert.MixIdeal.Gen.facts) (hMixRefIdeal := Cert.MixRefIdeal.Gen.facts) := by
  intro m ρ m' ρ' _ agree
  have e := fun c => same_args c (agree c).1 (agree c).2.2.1 (agree c).2.2.2.1 (agree c).2.2.2.2.1 (agree c).2.2.2.2.2.2.2
  refine ⟨fun c => (fun j => (Cert.MixIdeal.Hand.args m c).dw (j 0) (j 1) (j 2)), fun c => (fun j => (Cert.MixIdeal.Hand.args m c).db (j 0) (j 1)),
    fun c => (fun j => (Cert.MixIdeal.Hand.args m c).dln (j 0) (j 1)), ?_, ?_⟩
  · refine (θ_run Cert.MixIdeal.defs _ _).mono (fun r h c => ?_) (Cert.MixIdeal.Value.run_blocks (F := Ideal) m ρ)
    obtain ⟨_, _, _, h20, h21, h22, _, kept⟩ := h c
    exact ⟨h20.trans (Cert.MixIdeal.Hand.final_dw m c), h21.trans (Cert.MixIdeal.Hand.final_db m c),
      h22.trans (Cert.MixIdeal.Hand.final_dln m c), kept⟩
  · refine (θ_run Cert.MixRefIdeal.defs _ _).mono (fun r h c => ?_)
      (θ_run_and (Cert.MixRefIdeal.Hand.results m' ρ') (Cert.MixRefIdeal.Value.run m' ρ'))
    obtain ⟨h97, h98, h100⟩ := h.1 c
    rw [e c] at h97 h98 h100
    exact ⟨h97, h98, h100, (h.2 c).2.2.2⟩

theorem kept_fwd : quiescent_Fwd (hFwd := Cert.Fwd.Gen.facts) := by
  intro m ρ _
  have e : (θ_run (Cert.Fwd.defs (F := Bits)) (onTc (τ := Cert.Fwd.τ) (Cert.Fwd.main (F := Bits))) ⟨m, fun _ => 0, ρ⟩)
      = (θ_run (Cert.FwdIdeal.defs (F := Bits)) (onTc (τ := Cert.FwdIdeal.τ) (Cert.FwdIdeal.main (F := Bits))) ⟨m, fun _ => 0, ρ⟩) := by
    sl_kernel_rfl
  rw [e]
  exact Cert.FwdIdeal.Gen.frame (F := Bits) m ρ

theorem kept_fwd_ref : quiescent_FwdRefIdeal (hFwdRefIdeal := Cert.FwdRefIdeal.Gen.facts) := fun m ρ _ =>
  (θ_run Cert.FwdRefIdeal.defs _ _).mono (fun r h => ⟨fun c => (h c).2.2, Idealize.ShloMosaic.sem_eq_zero_of_no_sems (by decide) r.2⟩)
    (Cert.FwdRefIdeal.Value.run m ρ)

/-- The two forward programs read the same arrays when their arguments agree. -/
theorem same_args_fwd {m : (ℓ : Loc Cert.FwdIdeal.nD Cert.FwdIdeal.τ Cert.FwdIdeal.sig) → Buf (Elt Ideal) ℓ}
    {m' : (ℓ : Loc Cert.FwdRefIdeal.nD Cert.FwdRefIdeal.τ Cert.FwdRefIdeal.sig) → Buf (Elt Ideal) ℓ} (c : Dev Cert.FwdIdeal.nD)
    (h0 : m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0))
    (h1 : m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1))
    (h2 : m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2))
    (h3 : m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3))
    (h4 : m' ((c.tc : Thread Cert.FwdRefIdeal.nD Cert.FwdRefIdeal.τ).loc Cert.FwdRefIdeal.main_arg4) = m ((c.tc : Thread Cert.FwdIdeal.nD Cert.FwdIdeal.τ).loc Cert.FwdIdeal.main_arg4))
    (h5 : m' ((c.tc : Thread Cert.FwdRefIdeal.nD Cert.FwdRefIdeal.τ).loc Cert.FwdRefIdeal.main_arg5) = m ((c.tc : Thread Cert.FwdIdeal.nD Cert.FwdIdeal.τ).loc Cert.FwdIdeal.main_arg5))
    (h6 : m' ((c.tc : Thread Cert.FwdRefIdeal.nD Cert.FwdRefIdeal.τ).loc Cert.FwdRefIdeal.main_arg6) = m ((c.tc : Thread Cert.FwdIdeal.nD Cert.FwdIdeal.τ).loc Cert.FwdIdeal.main_arg6)) :
    Cert.FwdRefIdeal.Hand.args (Idealize.ShloMosaic.StableHlo.launchContents m' c) = Cert.FwdIdeal.Hand.args m c := by
  rw [Cert.FwdRefIdeal.Hand.args_launch]
  unfold Cert.FwdIdeal.Hand.args
  rw [h0, h1, h2, h3, h4, h5, h6]

/-- Over the extended reals the forward pass's two results are the reference's, where the query and key columns and the
    sinks are real numbers. -/
theorem same_fwd : algebraic_FwdIdeal_FwdRefIdeal_pre_forward_finite (hFwdIdeal := Cert.FwdIdeal.Gen.facts)
    (hFwdRefIdeal := Cert.FwdRefIdeal.Gen.facts) (hPre_forward_finite := Cert.Pre_forward_finite.Gen.facts) := by
  intro m ρ m' ρ' pre agree
  have e := fun c => same_args_fwd c (agree c).1 (agree c).2.1 (agree c).2.2.1 (agree c).2.2.2.1 (agree c).2.2.2.2.1
    (agree c).2.2.2.2.2.1 (agree c).2.2.2.2.2.2
  have hden := fun c => Cert.FwdIdeal.Hand.den_of_pre m c pre
  refine ⟨fun c => (fun j => (Cert.FwdIdeal.Hand.args m c).cat (j 0) (j 1)), fun c => (fun j => (Cert.FwdIdeal.Hand.args m c).sums (j 0) (j 1)), ?_, ?_⟩
  · refine (θ_run Cert.FwdIdeal.defs _ _).mono (fun r h c => ?_) (Cert.FwdIdeal.Value.run_blocks (F := Ideal) m ρ)
    exact ⟨(h c).1.trans (Cert.FwdIdeal.Hand.final_cat m c), (h c).2.1.trans (Cert.FwdIdeal.Hand.final_sums m c), (h c).2.2⟩
  · refine (θ_run Cert.FwdRefIdeal.defs _ _).mono (fun r h c => ?_)
      (θ_run_and (Cert.FwdRefIdeal.Hand.results m' ρ' fun c => by rw [e c]; exact hden c) (Cert.FwdRefIdeal.Value.run m' ρ'))
    obtain ⟨hcat, hsums⟩ := h.1 c
    rw [e c] at hcat hsums
    exact ⟨hcat, hsums, (h.2 c).2.2⟩

theorem kept_out : quiescent_Out (hOut := Cert.Out.Gen.facts) := by
  intro m ρ _
  have e : (θ_run (Cert.Out.defs (F := Bits)) (onTc (τ := Cert.Out.τ) (Cert.Out.main (F := Bits))) ⟨m, fun _ => 0, ρ⟩)
      = (θ_run (Cert.OutIdeal.defs (F := Bits)) (onTc (τ := Cert.OutIdeal.τ) (Cert.OutIdeal.main (F := Bits))) ⟨m, fun _ => 0, ρ⟩) := by
    sl_kernel_rfl
  rw [e]
  exact Cert.OutIdeal.Gen.frame (F := Bits) m ρ

theorem kept_out_ref : quiescent_OutRefIdeal (hOutRefIdeal := Cert.OutRefIdeal.Gen.facts) := fun m ρ _ =>
  (θ_run Cert.OutRefIdeal.defs _ _).mono (fun r h => ⟨fun c => (h c).2.2.2, Idealize.ShloMosaic.sem_eq_zero_of_no_sems (by decide) r.2⟩)
    (Cert.OutRefIdeal.Value.run m ρ)

/-- The two output projections read the same arrays when their arguments agree. -/
theorem same_args_out {m : (ℓ : Loc Cert.OutIdeal.nD Cert.OutIdeal.τ Cert.OutIdeal.sig) → Buf (Elt Ideal) ℓ}
    {m' : (ℓ : Loc Cert.OutRefIdeal.nD Cert.OutRefIdeal.τ Cert.OutRefIdeal.sig) → Buf (Elt Ideal) ℓ} (c : Dev Cert.OutIdeal.nD)
    (h0 : m' ((c.tc : Thread Cert.OutRefIdeal.nD Cert.OutRefIdeal.τ).loc Cert.OutRefIdeal.main_arg0) = m ((c.tc : Thread Cert.OutIdeal.nD Cert.OutIdeal.τ).loc Cert.OutIdeal.main_arg0))
    (h1 : m' ((c.tc : Thread Cert.OutRefIdeal.nD Cert.OutRefIdeal.τ).loc Cert.OutRefIdeal.main_arg1) = m ((c.tc : Thread Cert.OutIdeal.nD Cert.OutIdeal.τ).loc Cert.OutIdeal.main_arg1))
    (h2 : m' ((c.tc : Thread Cert.OutRefIdeal.nD Cert.OutRefIdeal.τ).loc Cert.OutRefIdeal.main_arg2) = m ((c.tc : Thread Cert.OutIdeal.nD Cert.OutIdeal.τ).loc Cert.OutIdeal.main_arg2))
    (h3 : m' ((c.tc : Thread Cert.OutRefIdeal.nD Cert.OutRefIdeal.τ).loc Cert.OutRefIdeal.main_arg3) = m ((c.tc : Thread Cert.OutIdeal.nD Cert.OutIdeal.τ).loc Cert.OutIdeal.main_arg3))
    (h4 : m' ((c.tc : Thread Cert.OutRefIdeal.nD Cert.OutRefIdeal.τ).loc Cert.OutRefIdeal.main_arg4) = m ((c.tc : Thread Cert.OutIdeal.nD Cert.OutIdeal.τ).loc Cert.OutIdeal.main_arg4)) :
    Cert.OutRefIdeal.Hand.args m' c = Cert.OutIdeal.Hand.args m c := by
  unfold Cert.OutRefIdeal.Hand.args Cert.OutIdeal.Hand.args
  rw [h0, h1, h2, h3, h4]

/-- Over the extended reals the output projection's three results are the reference's. -/
theorem same_out : algebraic_OutIdeal_OutRefIdeal (hOutIdeal := Cert.OutIdeal.Gen.facts) (hOutRefIdeal := Cert.OutRefIdeal.Gen.facts) := by
  intro m ρ m' ρ' _ agree
  have e := fun c => same_args_out c (agree c).1 (agree c).2.1 (agree c).2.2.1 (agree c).2.2.2.1 (agree c).2.2.2.2
  refine ⟨fun c => (fun j => (Cert.OutIdeal.Hand.args m c).xhat (j 0) (j 1)), fun c => (fun j => (Cert.OutIdeal.Hand.args m c).rstd (j 0)),
    fun c => (fun j => (Cert.OutIdeal.Hand.args m c).out (j 0) (j 1)), ?_, ?_⟩
  · refine (θ_run Cert.OutIdeal.defs _ _).mono (fun r h c => ?_) (Cert.OutIdeal.Value.run_blocks (F := Ideal) m ρ)
    exact ⟨(h c).1.trans (Cert.OutIdeal.Hand.final_xhat m c), (h c).2.1.trans (Cert.OutIdeal.Hand.final_rstd m c),
      (h c).2.2.1.trans (Cert.OutIdeal.Hand.final_out m c), (h c).2.2.2⟩
  · refine (θ_run Cert.OutRefIdeal.defs _ _).mono (fun r h c => ?_)
      (θ_run_and (Cert.OutRefIdeal.Hand.results m' ρ') (Cert.OutRefIdeal.Value.run m' ρ'))
    obtain ⟨hx, hr, ho⟩ := h.1 c
    rw [e c] at hx hr ho
    exact ⟨hx, hr, ho, (h.2 c).2.2.2⟩

theorem kept_tab : quiescent_Tab (hTab := Cert.Tab.Gen.facts) := by
  intro m ρ _
  have e : (θ_run (Cert.Tab.defs (F := Bits)) (onTc (τ := Cert.Tab.τ) (Cert.Tab.main (F := Bits))) ⟨m, fun _ => 0, ρ⟩)
      = (θ_run (Cert.TabIdeal.defs (F := Bits)) (onTc (τ := Cert.TabIdeal.τ) (Cert.TabIdeal.main (F := Bits))) ⟨m, fun _ => 0, ρ⟩) := by
    sl_kernel_rfl
  rw [e]
  exact Cert.TabIdeal.Gen.frame (F := Bits) m ρ

theorem kept_tab_ref : quiescent_TabRefIdeal (hTabRefIdeal := Cert.TabRefIdeal.Gen.facts) := fun m ρ _ =>
  (θ_run Cert.TabRefIdeal.defs _ _).mono (fun r h => ⟨fun c => (h c).2.2, Idealize.ShloMosaic.sem_eq_zero_of_no_sems (by decide) r.2⟩)
    (Cert.TabRefIdeal.Value.run m ρ)

/-- Over the extended reals the rotation tables are the reference's. -/
theorem same_tab : algebraic_TabIdeal_TabRefIdeal (hTabIdeal := Cert.TabIdeal.Gen.facts) (hTabRefIdeal := Cert.TabRefIdeal.Gen.facts) := by
  intro m ρ m' ρ' _ agree
  refine ⟨_, _, Cert.TabIdeal.Hand.results m ρ, ?_⟩
  refine (θ_run Cert.TabRefIdeal.defs _ _).mono (fun r h c => ?_) (Cert.TabRefIdeal.Hand.results m' ρ')
  obtain ⟨hc, hs, hk⟩ := h c
  rw [agree c] at hc hs
  exact ⟨hc, hs, hk⟩

theorem kept_inp : quiescent_Inp (hInp := Cert.Inp.Gen.facts) := by
  intro m ρ _
  have e : (θ_run (Cert.Inp.defs (F := Bits)) (onTc (τ := Cert.Inp.τ) (Cert.Inp.main (F := Bits))) ⟨m, fun _ => 0, ρ⟩)
      = (θ_run (Cert.InpIdeal.defs (F := Bits)) (onTc (τ := Cert.InpIdeal.τ) (Cert.InpIdeal.main (F := Bits))) ⟨m, fun _ => 0, ρ⟩) := by
    sl_kernel_rfl
  rw [e]
  exact Cert.InpIdeal.Gen.frame (F := Bits) m ρ

theorem kept_inp_ref : quiescent_InpRefIdeal (hInpRefIdeal := Cert.InpRefIdeal.Gen.facts) := fun m ρ _ =>
  (θ_run Cert.InpRefIdeal.defs _ _).mono (fun r h => ⟨fun c => (h c).2.2, Idealize.ShloMosaic.sem_eq_zero_of_no_sems (by decide) r.2⟩)
    (Cert.InpRefIdeal.Value.run m ρ)

theorem same_args_inp {m : (ℓ : Loc Cert.InpIdeal.nD Cert.InpIdeal.τ Cert.InpIdeal.sig) → Buf (Elt Ideal) ℓ}
    {m' : (ℓ : Loc Cert.InpRefIdeal.nD Cert.InpRefIdeal.τ Cert.InpRefIdeal.sig) → Buf (Elt Ideal) ℓ} (c : Dev Cert.InpIdeal.nD)
    (h0 : m' ((c.tc : Thread Cert.InpRefIdeal.nD Cert.InpRefIdeal.τ).loc Cert.InpRefIdeal.main_arg0) = m ((c.tc : Thread Cert.InpIdeal.nD Cert.InpIdeal.τ).loc Cert.InpIdeal.main_arg0))
    (h1 : m' ((c.tc : Thread Cert.InpRefIdeal.nD Cert.InpRefIdeal.τ).loc Cert.InpRefIdeal.main_arg1) = m ((c.tc : Thread Cert.InpIdeal.nD Cert.InpIdeal.τ).loc Cert.InpIdeal.main_arg1)) :
    Cert.InpRefIdeal.Hand.args m' c = Cert.InpIdeal.Hand.args m c := by
  unfold Cert.InpRefIdeal.Hand.args Cert.InpIdeal.Hand.args
  rw [h0, h1]

/-- Over the extended reals the input projection and the narrowed rows are the reference's. -/
theorem same_inp : algebraic_InpIdeal_InpRefIdeal (hInpIdeal := Cert.InpIdeal.Gen.facts) (hInpRefIdeal := Cert.InpRefIdeal.Gen.facts) := by
  intro m ρ m' ρ' _ agree
  have e := fun c => same_args_inp c (agree c).1 (agree c).2
  refine ⟨fun c => (fun j => (Cert.InpIdeal.Hand.args m c).proj (j 0) (j 1)), fun c => (fun j => (Cert.InpIdeal.Hand.args m c).x (j 0) (j 1)), ?_, ?_⟩
  · refine (θ_run Cert.InpIdeal.defs _ _).mono (fun r h c => ?_) (Cert.InpIdeal.Value.run_blocks (F := Ideal) m ρ)
    exact ⟨(h c).1.trans (Cert.InpIdeal.Hand.final_proj m c), (h c).2.1.trans (Cert.InpIdeal.Hand.final_copy m c), (h c).2.2⟩
  · refine (θ_run Cert.InpRefIdeal.defs _ _).mono (fun r h c => ?_) (Cert.InpRefIdeal.Hand.results m' ρ')
    obtain ⟨hfst, hsnd, hkept⟩ := h c
    rw [e c] at hfst hsnd
    exact ⟨hfst, hsnd, hkept⟩

theorem kept_back : quiescent_Back (hBack := Cert.Back.Gen.facts) := by
  intro m ρ _
  have e : (θ_run (Cert.Back.defs (F := Bits)) (onTc (τ := Cert.Back.τ) (Cert.Back.main (F := Bits))) ⟨m, fun _ => 0, ρ⟩)
      = (θ_run (Cert.BackIdeal.defs (F := Bits)) (onTc (τ := Cert.BackIdeal.τ) (Cert.BackIdeal.main (F := Bits))) ⟨m, fun _ => 0, ρ⟩) := by
    sl_kernel_rfl
  rw [e]
  exact Cert.BackIdeal.Gen.frame (F := Bits) m ρ

theorem kept_back_ref : quiescent_BackRefIdeal (hBackRefIdeal := Cert.BackRefIdeal.Gen.facts) := fun m ρ _ =>
  (θ_run Cert.BackRefIdeal.defs _ _).mono (fun r h => ⟨fun c => (h c).2.2, Idealize.ShloMosaic.sem_eq_zero_of_no_sems (by decide) r.2⟩)
    (Cert.BackRefIdeal.Value.run m ρ)

theorem same_args_back {m : (ℓ : Loc Cert.BackIdeal.nD Cert.BackIdeal.τ Cert.BackIdeal.sig) → Buf (Elt Ideal) ℓ}
    {m' : (ℓ : Loc Cert.BackRefIdeal.nD Cert.BackRefIdeal.τ Cert.BackRefIdeal.sig) → Buf (Elt Ideal) ℓ} (c : Dev Cert.BackIdeal.nD)
    (h0 : m' ((c.tc : Thread Cert.BackRefIdeal.nD Cert.BackRefIdeal.τ).loc Cert.BackRefIdeal.main_arg0) = m ((c.tc : Thread Cert.BackIdeal.nD Cert.BackIdeal.τ).loc Cert.BackIdeal.main_arg0))
    (h1 : m' ((c.tc : Thread Cert.BackRefIdeal.nD Cert.BackRefIdeal.τ).loc Cert.BackRefIdeal.main_arg1) = m ((c.tc : Thread Cert.BackIdeal.nD Cert.BackIdeal.τ).loc Cert.BackIdeal.main_arg1))
    (h2 : m' ((c.tc : Thread Cert.BackRefIdeal.nD Cert.BackRefIdeal.τ).loc Cert.BackRefIdeal.main_arg2) = m ((c.tc : Thread Cert.BackIdeal.nD Cert.BackIdeal.τ).loc Cert.BackIdeal.main_arg2)) :
    Cert.BackRefIdeal.Hand.args m' c = Cert.BackIdeal.Hand.args m c := by
  unfold Cert.BackRefIdeal.Hand.args Cert.BackIdeal.Hand.args
  rw [h0, h1, h2]

/-- Over the extended reals the output projection's gradients are the reference's. -/
theorem same_back : algebraic_BackIdeal_BackRefIdeal (hBackIdeal := Cert.BackIdeal.Gen.facts) (hBackRefIdeal := Cert.BackRefIdeal.Gen.facts) := by
  intro m ρ m' ρ' _ agree
  have e := fun c => same_args_back c (agree c).1 (agree c).2.1 (agree c).2.2
  refine ⟨fun c => (fun j => (Cert.BackIdeal.Hand.args m c).dmixed (j 0) (j 1)), fun c => (fun j => (Cert.BackIdeal.Hand.args m c).dw (j 0) (j 1)), ?_, ?_⟩
  · refine (θ_run Cert.BackIdeal.defs _ _).mono (fun r h c => ?_) (Cert.BackIdeal.Value.run_blocks (F := Ideal) m ρ)
    exact ⟨(h c).1.trans (Cert.BackIdeal.Hand.final_dmixed m c), (h c).2.1.trans (Cert.BackIdeal.Hand.final_dw m c), (h c).2.2⟩
  · refine (θ_run Cert.BackRefIdeal.defs _ _).mono (fun r h c => ?_) (Cert.BackRefIdeal.Hand.results m' ρ')
    obtain ⟨hfst, hsnd, hkept⟩ := h c
    rw [e c] at hfst hsnd
    exact ⟨hfst, hsnd, hkept⟩

theorem kept_dx : quiescent_Dx (hDx := Cert.Dx.Gen.facts) := by
  intro m ρ _
  have e : (θ_run (Cert.Dx.defs (F := Bits)) (onTc (τ := Cert.Dx.τ) (Cert.Dx.main (F := Bits))) ⟨m, fun _ => 0, ρ⟩)
      = (θ_run (Cert.DxIdeal.defs (F := Bits)) (onTc (τ := Cert.DxIdeal.τ) (Cert.DxIdeal.main (F := Bits))) ⟨m, fun _ => 0, ρ⟩) := by
    sl_kernel_rfl
  rw [e]
  exact Cert.DxIdeal.Gen.frame (F := Bits) m ρ

theorem kept_dx_ref : quiescent_DxRefIdeal (hDxRefIdeal := Cert.DxRefIdeal.Gen.facts) := fun m ρ _ =>
  (θ_run Cert.DxRefIdeal.defs _ _).mono (fun r h => ⟨fun c => (h c).2, Idealize.ShloMosaic.sem_eq_zero_of_no_sems (by decide) r.2⟩)
    (Cert.DxRefIdeal.Value.run m ρ)

theorem same_args_dx {m : (ℓ : Loc Cert.DxIdeal.nD Cert.DxIdeal.τ Cert.DxIdeal.sig) → Buf (Elt Ideal) ℓ}
    {m' : (ℓ : Loc Cert.DxRefIdeal.nD Cert.DxRefIdeal.τ Cert.DxRefIdeal.sig) → Buf (Elt Ideal) ℓ} (c : Dev Cert.DxIdeal.nD)
    (h1 : m' ((c.tc : Thread Cert.DxRefIdeal.nD Cert.DxRefIdeal.τ).loc Cert.DxRefIdeal.main_arg1) = m ((c.tc : Thread Cert.DxIdeal.nD Cert.DxIdeal.τ).loc Cert.DxIdeal.main_arg1))
    (h2 : m' ((c.tc : Thread Cert.DxRefIdeal.nD Cert.DxRefIdeal.τ).loc Cert.DxRefIdeal.main_arg2) = m ((c.tc : Thread Cert.DxIdeal.nD Cert.DxIdeal.τ).loc Cert.DxIdeal.main_arg2))
    (h3 : m' ((c.tc : Thread Cert.DxRefIdeal.nD Cert.DxRefIdeal.τ).loc Cert.DxRefIdeal.main_arg3) = m ((c.tc : Thread Cert.DxIdeal.nD Cert.DxIdeal.τ).loc Cert.DxIdeal.main_arg3))
    (h4 : m' ((c.tc : Thread Cert.DxRefIdeal.nD Cert.DxRefIdeal.τ).loc Cert.DxRefIdeal.main_arg4) = m ((c.tc : Thread Cert.DxIdeal.nD Cert.DxIdeal.τ).loc Cert.DxIdeal.main_arg4))
    (h5 : m' ((c.tc : Thread Cert.DxRefIdeal.nD Cert.DxRefIdeal.τ).loc Cert.DxRefIdeal.main_arg5) = m ((c.tc : Thread Cert.DxIdeal.nD Cert.DxIdeal.τ).loc Cert.DxIdeal.main_arg5)) :
    Cert.DxRefIdeal.Hand.args m' c = Cert.DxIdeal.Hand.args m c := by
  unfold Cert.DxRefIdeal.Hand.args Cert.DxIdeal.Hand.args
  rw [h1, h2, h3, h4, h5]

/-- Over the extended reals the input's gradient is the reference's. -/
theorem same_dx : algebraic_DxIdeal_DxRefIdeal (hDxIdeal := Cert.DxIdeal.Gen.facts) (hDxRefIdeal := Cert.DxRefIdeal.Gen.facts) := by
  intro m ρ m' ρ' _ agree
  have e := fun c => same_args_dx c (agree c).2.1 (agree c).2.2.1 (agree c).2.2.2.1 (agree c).2.2.2.2.1 (agree c).2.2.2.2.2
  refine ⟨fun c => (fun j => (Cert.DxIdeal.Hand.args m c).dx (j 0) (j 1)), ?_, ?_⟩
  · refine (θ_run Cert.DxIdeal.defs _ _).mono (fun r h c => ?_) (Cert.DxIdeal.Value.run_blocks (F := Ideal) m ρ)
    exact ⟨(h c).1.trans (Cert.DxIdeal.Hand.final_dx m c), (h c).2⟩
  · refine (θ_run Cert.DxRefIdeal.defs _ _).mono (fun r h c => ?_) (Cert.DxRefIdeal.Hand.results m' ρ')
    obtain ⟨hfst, hkept⟩ := h c
    rw [e c] at hfst
    exact ⟨hfst, hkept⟩

theorem kept_att : quiescent_Att (hAtt := Cert.Att.Gen.facts) := by
  intro m ρ _
  have e : (θ_run (Cert.Att.defs (F := Bits)) (onTc (τ := Cert.Att.τ) (Cert.Att.main (F := Bits))) ⟨m, fun _ => 0, ρ⟩)
      = (θ_run (Cert.AttIdeal.defs (F := Bits)) (onTc (τ := Cert.AttIdeal.τ) (Cert.AttIdeal.main (F := Bits))) ⟨m, fun _ => 0, ρ⟩) := by
    sl_kernel_rfl
  rw [e]
  exact Cert.AttIdeal.Gen.frame (F := Bits) m ρ

theorem kept_att_ref : quiescent_AttRefIdeal (hAttRefIdeal := Cert.AttRefIdeal.Gen.facts) := fun m ρ _ =>
  (θ_run Cert.AttRefIdeal.defs _ _).mono (fun r h => ⟨fun c => (h c).2, Idealize.ShloMosaic.sem_eq_zero_of_no_sems (by decide) r.2⟩)
    (Cert.AttRefIdeal.Value.run m ρ)

theorem claim : Cert.Claim := ⟨Cert.Ffn.Gen.facts, Cert.FfnIdeal.Gen.facts, Cert.FfnRefIdeal.Gen.facts, Cert.Mix.Gen.facts, Cert.MixIdeal.Gen.facts,
  Cert.MixRefIdeal.Gen.facts, Cert.Fwd.Gen.facts, Cert.FwdIdeal.Gen.facts, Cert.FwdRefIdeal.Gen.facts, Cert.Out.Gen.facts, Cert.OutIdeal.Gen.facts,
  Cert.OutRefIdeal.Gen.facts, Cert.Tab.Gen.facts, Cert.TabIdeal.Gen.facts, Cert.TabRefIdeal.Gen.facts,
  Cert.Inp.Gen.facts, Cert.InpIdeal.Gen.facts, Cert.InpRefIdeal.Gen.facts, Cert.Back.Gen.facts, Cert.BackIdeal.Gen.facts, Cert.BackRefIdeal.Gen.facts,
  Cert.Dx.Gen.facts, Cert.DxIdeal.Gen.facts, Cert.DxRefIdeal.Gen.facts, Cert.Att.Gen.facts, Cert.AttIdeal.Gen.facts, Cert.AttRefIdeal.Gen.facts,
  Cert.Pre_ffn_finite.Gen.facts,
  Cert.Pre_forward_finite.Gen.facts,
  kept_ffn, fun m ρ _ => Cert.FfnIdeal.Hand.kept m ρ, fun m ρ _ => Cert.FfnIdeal.Hand.kept m ρ,
  kept_ref, fun m ρ _ => kept_ref m ρ trivial, kept_mix, fun m ρ _ => Cert.MixIdeal.Gen.frame m ρ, kept_mix_ref,
  kept_fwd, fun m ρ _ => Cert.FwdIdeal.Gen.frame m ρ, fun m ρ _ => Cert.FwdIdeal.Gen.frame m ρ,
  kept_fwd_ref, fun m ρ _ => kept_fwd_ref m ρ trivial,
  kept_out, fun m ρ _ => Cert.OutIdeal.Gen.frame m ρ, kept_out_ref, kept_tab, fun m ρ _ => Cert.TabIdeal.Gen.frame m ρ, kept_tab_ref,
  kept_inp, fun m ρ _ => Cert.InpIdeal.Gen.frame m ρ, kept_inp_ref, kept_back, fun m ρ _ => Cert.BackIdeal.Gen.frame m ρ, kept_back_ref,
  kept_dx, fun m ρ _ => Cert.DxIdeal.Gen.frame m ρ, kept_dx_ref,
  kept_att, fun m ρ _ => Cert.AttIdeal.Gen.frame m ρ, kept_att_ref,
  trivial, same_values, trivial, same_mix, trivial, same_fwd, trivial, same_out, trivial, same_tab, trivial, same_inp, trivial, same_back, trivial, same_dx, trivial⟩

end Cert.Proof

end
